-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_top [hPre_decays_below_top : Cert.Pre_decays_below_top.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_top [hPre_decays_below_top : Cert.Pre_decays_below_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs [hPre_finite_inputs : Cert.Pre_finite_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs [hPre_finite_inputs : Cert.Pre_finite_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_steps [hPre_finite_steps : Cert.Pre_finite_steps.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_steps.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_steps [hPre_finite_steps : Cert.Pre_finite_steps.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_steps.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_rows [hPre_finite_rows : Cert.Pre_finite_rows.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_rows [hPre_finite_rows : Cert.Pre_finite_rows.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_decays_below_top [hKernelIdeal : Cert.KernelIdeal.Facts] [hPre_decays_below_top : Cert.Pre_decays_below_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_decays_below_top [hReferenceIdeal : Cert.ReferenceIdeal.Facts] [hPre_decays_below_top : Cert.Pre_decays_below_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_inputs [hKernel4Ideal : Cert.Kernel4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_inputs [hReference4Ideal : Cert.Reference4Ideal.Facts] [hPre_finite_inputs : Cert.Pre_finite_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_steps [hKernel7Ideal : Cert.Kernel7Ideal.Facts] [hPre_finite_steps : Cert.Pre_finite_steps.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_steps m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_steps [hReference7Ideal : Cert.Reference7Ideal.Facts] [hPre_finite_steps : Cert.Pre_finite_steps.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_steps m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite_rows [hKernel8Ideal : Cert.Kernel8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_rows m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite_rows [hReference8Ideal : Cert.Reference8Ideal.Facts] [hPre_finite_rows : Cert.Pre_finite_rows.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_rows m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_decays_below_top [hKernelIdeal : Cert.KernelIdeal.Facts] [hReferenceIdeal : Cert.ReferenceIdeal.Facts] [hPre_decays_below_top : Cert.Pre_decays_below_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v6_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v108) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_inputs [hKernel4Ideal : Cert.Kernel4Ideal.Facts] [hReference4Ideal : Cert.Reference4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v81) = v2 c
          ∧ r.2.mem ((c.tc : Thread Cert.Reference4Ideal.nD Cert.Reference4Ideal.τ).loc Cert.Reference4Ideal.main_v79) = v3 c
          ∧ r.2.mem ((c.tc : Thread Cert.Reference4Ideal.nD Cert.Reference4Ideal.τ).loc Cert.Reference4Ideal.main_v82) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_v73) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_steps [hKernel7Ideal : Cert.Kernel7Ideal.Facts] [hReference7Ideal : Cert.Reference7Ideal.Facts] [hPre_finite_steps : Cert.Pre_finite_steps.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_steps m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v56) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite_rows [hKernel8Ideal : Cert.Kernel8Ideal.Facts] [hReference8Ideal : Cert.Reference8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_rows m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v116) = v0 c
          ∧ r.2.mem ((c.tc : Thread Cert.Reference8Ideal.nD Cert.Reference8Ideal.τ).loc Cert.Reference8Ideal.main_v56) = v1 c
          ∧ r.2.mem ((c.tc : Thread Cert.Reference8Ideal.nD Cert.Reference8Ideal.τ).loc Cert.Reference8Ideal.main_v118) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v64) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_decays_below_top : Cert.Pre_decays_below_top.Facts) (hPre_finite_inputs : Cert.Pre_finite_inputs.Facts) (hPre_finite_steps : Cert.Pre_finite_steps.Facts) (hPre_finite_rows : Cert.Pre_finite_rows.Facts),
    quiescent_Kernel (hKernel := hKernel)
    ∧ quiescent_KernelIdeal (hKernelIdeal := hKernelIdeal)
    ∧ quiescent_KernelIdeal_pre_decays_below_top (hKernelIdeal := hKernelIdeal) (hPre_decays_below_top := hPre_decays_below_top)
    ∧ quiescent_ReferenceIdeal (hReferenceIdeal := hReferenceIdeal)
    ∧ quiescent_ReferenceIdeal_pre_decays_below_top (hReferenceIdeal := hReferenceIdeal) (hPre_decays_below_top := hPre_decays_below_top)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs (hKernel4Ideal := hKernel4Ideal) (hPre_finite_inputs := hPre_finite_inputs)
    ∧ quiescent_Reference4Ideal (hReference4Ideal := hReference4Ideal)
    ∧ quiescent_Reference4Ideal_pre_finite_inputs (hReference4Ideal := hReference4Ideal) (hPre_finite_inputs := hPre_finite_inputs)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_steps (hKernel7Ideal := hKernel7Ideal) (hPre_finite_steps := hPre_finite_steps)
    ∧ quiescent_Reference7Ideal (hReference7Ideal := hReference7Ideal)
    ∧ quiescent_Reference7Ideal_pre_finite_steps (hReference7Ideal := hReference7Ideal) (hPre_finite_steps := hPre_finite_steps)
    ∧ quiescent_Kernel8 (hKernel8 := hKernel8)
    ∧ quiescent_Kernel8Ideal (hKernel8Ideal := hKernel8Ideal)
    ∧ quiescent_Kernel8Ideal_pre_finite_rows (hKernel8Ideal := hKernel8Ideal) (hPre_finite_rows := hPre_finite_rows)
    ∧ quiescent_Reference8Ideal (hReference8Ideal := hReference8Ideal)
    ∧ quiescent_Reference8Ideal_pre_finite_rows (hReference8Ideal := hReference8Ideal) (hPre_finite_rows := hPre_finite_rows)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_decays_below_top (hKernelIdeal := hKernelIdeal) (hReferenceIdeal := hReferenceIdeal) (hPre_decays_below_top := hPre_decays_below_top)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs (hKernel4Ideal := hKernel4Ideal) (hReference4Ideal := hReference4Ideal) (hPre_finite_inputs := hPre_finite_inputs)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_steps (hKernel7Ideal := hKernel7Ideal) (hReference7Ideal := hReference7Ideal) (hPre_finite_steps := hPre_finite_steps)
    ∧ preserves_Kernel8_Kernel8Ideal
    ∧ algebraic_Kernel8Ideal_Reference8Ideal_pre_finite_rows (hKernel8Ideal := hKernel8Ideal) (hReference8Ideal := hReference8Ideal) (hPre_finite_rows := hPre_finite_rows)
    ∧ preserves_Kernel9_Kernel9Ideal
    ∧ algebraic_Kernel9Ideal_Reference9Ideal (hKernel9Ideal := hKernel9Ideal) (hReference9Ideal := hReference9Ideal)
-- ==== Pre_decays_below_top.lean ====
abbrev S8x2048x2560 : Shape := ⟨3, ![8, 2048, 2560]⟩
abbrev S1x128 : Shape := ⟨2, ![1, 128]⟩
abbrev S8x2048x512 : Shape := ⟨3, ![8, 2048, 512]⟩
abbrev S_ : Shape := ⟨0, ![]⟩

class Facts : Prop where
  slices_S8x2048x2560_S8x2048x512_0_0_1024 : S8x2048x2560.Slices ![0, 0, 1024] S8x2048x512
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x2560 .f32) (main_arg1 : FVec F S1x128 .f32) : IVec S_ 1 :=
  let main_v0 : FVec F S8x2048x512 .f32 := (extractStridedSlice S8x2048x512 ![0, 0, 1024] · slices_S8x2048x2560_S8x2048x512_0_0_1024) main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Pre_finite_inputs.lean ====
abbrev S8x2048x1024 : Shape := ⟨3, ![8, 2048, 1024]⟩
abbrev S8x6144 : Shape := ⟨2, ![8, 6144]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x6144 : S_.BroadcastsInDim S8x6144 (![] : Fin 0 → Fin S8x6144.rank)
  reducesTo_S8x6144_S_d0_1 : S8x6144.ReducesTo [0, 1] S_
  bcast_S_S2x1024 : S_.BroadcastsInDim S2x1024 (![] : Fin 0 → Fin S2x1024.rank)
  reducesTo_S2x1024_S_d0_1 : S2x1024.ReducesTo [0, 1] S_
  bcast_S_S1x1024x5152 : S_.BroadcastsInDim S1x1024x5152 (![] : Fin 0 → Fin S1x1024x5152.rank)
  reducesTo_S1x1024x5152_S_d0_1_2 : S1x1024x5152.ReducesTo [0, 1, 2] S_

variable [Facts]

def fn_part1 {F : FTy → Type} [FloatOps F] (main_v13 : IVec S_ 1) (main_v16 : IVec S1x1024x5152 1) : IVec S_ 1 :=
  let main_c_5 : IVec S_ 1 := constantI S_ 1 1#1
  let main_v17 : IVec S_ 1 := (fun x v => Host.reduce IntOp.andi x v reducesTo_S1x1024x5152_S_d0_1_2 h_S_) main_v16 main_c_5
  let main_v18 : IVec S_ 1 := andi main_v13 main_v17
  main_v18

def fn {F : FTy → Type} [FloatOps F] (main_arg0 : FVec F S8x2048x1024 .f32) (main_arg1 : FVec F S8x6144 .f32) (main_arg2 : FVec F S2x1024 .f32) (main_arg3 : FVec F S1x1024x5152 .f32) (main_arg4 : FVec F S1x4x3072 .f32) (main_arg5 : FVec F S1x3072 .f32) (main_arg6 : FVec F S1x32 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x6144 .f32 := Host.absf main_arg1
  let main_cst_0 : FVec F S_ .f32 := constant S_ .f32 0x7F800000#32
  let main_v5 : FVec F S8x6144 .f32 := broadcastInDim S8x6144 ![] bcast_S_S8x6144 main_cst_0
  let main_v6 : IVec S8x6144 1 := cmpf .olt main_v4 main_v5
  let main_c_1 : IVec S_ 1 := constantI S_ 1 1#1
  let main_v7 : IVec S_ 1 := (fun x v => Host.reduce IntOp.andi x v reducesTo_S8x6144_S_d0_1 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1x1024x5152 .f32 := Host.absf main_arg3
  let main_cst_4 : FVec F S_ .f32 := constant S_ .f32 0x7F800000#32
  let main_v15 : FVec F S1x1024x5152 .f32 := broadcastInDim S1x1024x5152 ![] bcast_S_S1x1024x5152 main_cst_4
  let main_v16 : IVec S1x1024x5152 1 := cmpf .olt main_v14 main_v15
  fn_part1 (F := F) main_v13 main_v16
-- ==== Pre_finite_rows.lean ====
abbrev S128x3584 : Shape := ⟨2, ![128, 3584]⟩
abbrev S1x128x4x128x128 : Shape := ⟨5, ![1, 128, 4, 128, 128]⟩
abbrev S1x128x2x512 : Shape := ⟨4, ![1, 128, 2, 512]⟩
abbrev S2x512 : Shape := ⟨2, ![2, 512]⟩
abbrev S1x128 : Shape := ⟨2, ![1, 128]⟩
abbrev S1x3x512 : Shape := ⟨3, ![1, 3, 512]⟩
abbrev S128x512 : Shape := ⟨2, ![128, 512]⟩
abbrev S_ : Shape := ⟨0, ![]⟩

class Facts : Prop where
  slices_S128x3584_S128x512_0_0 : S128x3584.Slices ![0, 0] S128x512
  bcast_S_S128x512 : S_.BroadcastsInDim S128x512 (![] : Fin 0 → Fin S128x512.rank)
  reducesTo_S128x512_S_d0_1 : S128x512.ReducesTo [0, 1] S_
  h_S_ : 0 < S_.numel
  slices_S128x3584_S128x512_0_1024 : S128x3584.Slices ![0, 1024] S128x512
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S128x3584 .f32) (main_arg1 : FVec F S1x128x4x128x128 .f32) (main_arg2 : FVec F S1x128x2x512 .f32) (main_arg3 : FVec F S2x512 .f32) (main_arg4 : FVec F S1x128 .f32) (main_arg5 : FVec F S1x3x512 .f32) : IVec S_ 1 :=
  let main_v0 : FVec F S128x512 .f32 := (extractStridedSlice S128x512 ![0, 0] · slices_S128x3584_S128x512_0_0) main_arg0
  let main_v1 : FVec F S128x512 .f32 := Host.absf main_v0
  let main_cst : FVec F S_ .f32 := constant S_ .f32 0x7F800000#32
  let main_v2 : FVec F S128x512 .f32 := broadcastInDim S128x512 ![] bcast_S_S128x512 main_cst
  let main_v3 : IVec S128x512 1 := cmpf .olt main_v1 main_v2
  let main_c : IVec S_ 1 := constantI S_ 1 1#1
  let main_v4 : IVec S_ 1 := (fun x v => Host.reduce IntOp.andi x v reducesTo_S128x512_S_d0_1 h_S_) main_v3 main_c
  let main_v5 : FVec F S128x512 .f32 := (extractStridedSlice S128x512 ![0, 1024] · slices_S128x3584_S128x512_0_1024) main_arg0
  let main_v6 : FVec F S128x512 .f32 := Host.absf main_v5
  let main_cst_0 : FVec F S_ .f32 := constant S_ .f32 0x7F800000#32
  let main_v7 : FVec F S128x512 .f32 := broadcastInDim S128x512 ![] bcast_S_S128x512 main_cst_0
  let main_v8 : IVec S128x512 1 := cmpf .olt main_v6 main_v7
  let main_c_1 : IVec S_ 1 := constantI S_ 1 1#1
  let main_v9 : IVec S_ 1 := (fun x v => Host.reduce IntOp.andi x v reducesTo_S128x512_S_d0_1 h_S_) main_v8 main_c_1
  let main_v10 : IVec S_ 1 := andi main_v4 main_v9
  let main_v11 : FVec F S2x512 .f32 := Host.absf main_arg3
  let main_cst_2 : FVec F S_ .f32 := constant S_ .f32 0x7F800000#32
  let main_v12 : FVec F S2x512 .f32 := broadcastInDim S2x512 ![] bcast_S_S2x512 main_cst_2
  let main_v13 : IVec S2x512 1 := cmpf .olt main_v11 main_v12
  let main_c_3 : IVec S_ 1 := constantI S_ 1 1#1
  let main_v14 : IVec S_ 1 := (fun x v => Host.reduce IntOp.andi x v reducesTo_S2x512_S_d0_1 h_S_) main_v13 main_c_3
  let main_v15 : IVec S_ 1 := andi main_v10 main_v14
  main_v15
-- ==== Pre_finite_steps.lean ====
abbrev S128x3072 : Shape := ⟨2, ![128, 3072]⟩
abbrev S128x5120 : Shape := ⟨2, ![128, 5120]⟩
abbrev S128x2048 : Shape := ⟨2, ![128, 2048]⟩
abbrev S32x128x128 : Shape := ⟨3, ![32, 128, 128]⟩
abbrev S1x128x32x64x128 : Shape := ⟨5, ![1, 128, 32, 64, 128]⟩
abbrev S1x32 : Shape := ⟨2, ![1, 32]⟩
abbrev S1x2048 : Shape := ⟨2, ![1, 2048]⟩
abbrev S128x2560 : Shape := ⟨2, ![128, 2560]⟩
abbrev S_ : Shape := ⟨0, ![]⟩

class Facts : Prop where
  slices_S128x3072_S128x2560_0_0 : S128x3072.Slices ![0, 0] S128x2560
  bcast_S_S128x2560 : S_.BroadcastsInDim S128x2560 (![] : Fin 0 → Fin S128x2560.rank)
  reducesTo_S128x2560_S_d0_1 : S128x2560.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_

variable [Facts]

def fn {F : FTy → Type} [FloatOps F] (main_arg0 : FVec F S128x3072 .f32) (main_arg1 : FVec F S128x5120 .f32) (main_arg2 : FVec F S128x2048 .f32) (main_arg3 : FVec F S32x128x128 .f32) (main_arg4 : FVec F S1x128x32x64x128 .f32) (main_arg5 : FVec F S1x32 .f32) (main_arg6 : FVec F S1x2048 .f32) : IVec S_ 1 :=
  let main_v0 : FVec F S128x2560 .f32 := (extractStridedSlice S128x2560 ![0, 0] · slices_S128x3072_S128x2560_0_0) main_arg0
  let main_v1 : FVec F S128x2560 .f32 := Host.absf main_v0
  let main_cst : FVec F S_ .f32 := constant S_ .f32 0x7F800000#32
  let main_v2 : FVec F S128x2560 .f32 := broadcastInDim S128x2560 ![] bcast_S_S128x2560 main_cst
  let main_v3 : IVec S128x2560 1 := cmpf .olt main_v1 main_v2
  let main_c : IVec S_ 1 := constantI S_ 1 1#1
  let main_v4 : IVec S_ 1 := (fun x v => Host.reduce IntOp.andi x v reducesTo_S128x2560_S_d0_1 h_S_) main_v3 main_c
  let main_v5 : FVec F S128x2048 .f32 := Host.absf main_arg2
  let main_cst_0 : FVec F S_ .f32 := constant S_ .f32 0x7F800000#32
  let main_v6 : FVec F S128x2048 .f32 := broadcastInDim S128x2048 ![] bcast_S_S128x2048 main_cst_0
  let main_v7 : IVec S128x2048 1 := cmpf .olt main_v5 main_v6
  let main_c_1 : IVec S_ 1 := constantI S_ 1 1#1
  let main_v8 : IVec S_ 1 := (fun x v => Host.reduce IntOp.andi x v reducesTo_S128x2048_S_d0_1 h_S_) main_v7 main_c_1
  let main_v9 : IVec S_ 1 := andi main_v4 main_v8
  main_v9
-- ==== Kernel.lean ====
abbrev S8x2048x2560 : Shape := ⟨3, ![8, 2048, 2560]⟩
abbrev S1x128 : Shape := ⟨2, ![1, 128]⟩
abbrev S128 : Shape := ⟨1, ![128]⟩
abbrev S8x2048x512 : Shape := ⟨3, ![8, 2048, 512]⟩
abbrev S8x4x128x128 : Shape := ⟨4, ![8, 4, 128, 128]⟩
abbrev S1x1024x2560 : Shape := ⟨3, ![1, 1024, 2560]⟩
abbrev S1x1024x512 : Shape := ⟨3, ![1, 1024, 512]⟩
abbrev S1x4x128x128 : Shape := ⟨4, ![1, 4, 128, 128]⟩
abbrev S4x128x128 : Shape := ⟨3, ![4, 128, 128]⟩
abbrev S256x256 : Shape := ⟨2, ![256, 256]⟩
abbrev S1x256x512 : Shape := ⟨3, ![1, 256, 512]⟩
abbrev S256x512 : Shape := ⟨2, ![256, 512]⟩
abbrev S1x256x128 : Shape := ⟨3, ![1, 256, 128]⟩
abbrev S256x128 : Shape := ⟨2, ![256, 128]⟩
abbrev S32x128 : Shape := ⟨2, ![32, 128]⟩
abbrev S224x128 : Shape := ⟨2, ![224, 128]⟩
abbrev S192x128 : Shape := ⟨2, ![192, 128]⟩
abbrev S64x128 : Shape := ⟨2, ![64, 128]⟩
abbrev S160x128 : Shape := ⟨2, ![160, 128]⟩
abbrev S96x128 : Shape := ⟨2, ![96, 128]⟩
abbrev S128x128 : Shape := ⟨2, ![128, 128]⟩
abbrev S128x256 : Shape := ⟨2, ![128, 256]⟩
abbrev S256x1024 : Shape := ⟨2, ![256, 1024]⟩
abbrev S128x1024 : Shape := ⟨2, ![128, 1024]⟩
abbrev S1x128x128 : Shape := ⟨3, ![1, 128, 128]⟩
abbrev S256 : Shape := ⟨1, ![256]⟩
abbrev S256x1 : Shape := ⟨2, ![256, 1]⟩
abbrev S1x1x128x128 : Shape := ⟨4, ![1, 1, 128, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x2560, .f32⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S8x2048x512, .bf16⟩
  | .hbm, ⟨5, _⟩ => ⟨S8x4x128x128, .f32⟩
  | .local _ .vmem, ⟨0, _⟩ => ⟨S1x1024x2560, .f32⟩
  | .local _ .vmem, ⟨1, _⟩ => ⟨S1x1024x2560, .f32⟩
  | .local _ .vmem, ⟨2, _⟩ => ⟨S1x128, .f32⟩
  | .local _ .vmem, ⟨3, _⟩ => ⟨S1x1024x512, .bf16⟩
  | .local _ .vmem, ⟨4, _⟩ => ⟨S1x1024x512, .bf16⟩
  | .local _ .vmem, ⟨5, _⟩ => ⟨S1x4x128x128, .f32⟩
  | .local _ .vmem, ⟨6, _⟩ => ⟨S1x4x128x128, .f32⟩
  | .local _ .vmem, ⟨7, _⟩ => ⟨S4x128x128, .f32⟩
  | _, _ => ⟨S8x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v3418 : BitVec 1 := Scalar.cmpi .eq arg1 c1_i32
  let v3419 : BitVec 32 := Scalar.extui v3418
  let c0_i32_825 : BitVec 32 := 0#32
  let v3420 : BitVec 1 := Scalar.cmpi .ne v3419 c0_i32_825
  v3420

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8x2048x2560 : Shape := ⟨3, ![8, 2048, 2560]⟩
abbrev S1x128 : Shape := ⟨2, ![1, 128]⟩
abbrev S_ : Shape := ⟨0, ![]⟩
abbrev S32x32 : Shape := ⟨2, ![32, 32]⟩
abbrev S8x64x32x2560 : Shape := ⟨4, ![8, 64, 32, 2560]⟩
abbrev S64x8x32x2560 : Shape := ⟨4, ![64, 8, 32, 2560]⟩
abbrev S8x4x128x128 : Shape := ⟨4, ![8, 4, 128, 128]⟩
abbrev S64x8x32x4x128 : Shape := ⟨5, ![64, 8, 32, 4, 128]⟩
abbrev S1x8x32x2560 : Shape := ⟨4, ![1, 8, 32, 2560]⟩
abbrev S8x32x2560 : Shape := ⟨3, ![8, 32, 2560]⟩
abbrev S8x32x512 : Shape := ⟨3, ![8, 32, 512]⟩
abbrev S8x32x4x128 : Shape := ⟨4, ![8, 32, 4, 128]⟩
abbrev S8x1x4x128 : Shape := ⟨4, ![8, 1, 4, 128]⟩
abbrev S8x4x32x32 : Shape := ⟨4, ![8, 4, 32, 32]⟩
abbrev S8x4x128x32 : Shape := ⟨4, ![8, 4, 128, 32]⟩
abbrev S8x32x4 : Shape := ⟨3, ![8, 32, 4]⟩
abbrev S8x32x4x1 : Shape := ⟨4, ![8, 32, 4, 1]⟩
abbrev S128 : Shape := ⟨1, ![128]⟩
abbrev S1x1x1x128 : Shape := ⟨4, ![1, 1, 1, 128]⟩
abbrev S8x4x128 : Shape := ⟨3, ![8, 4, 128]⟩
abbrev S8x4x128x1 : Shape := ⟨4, ![8, 4, 128, 1]⟩
abbrev S1x8x32x4x128 : Shape := ⟨5, ![1, 8, 32, 4, 128]⟩
abbrev S8x64x32x4x128 : Shape := ⟨5, ![8, 64, 32, 4, 128]⟩
abbrev S8x2048x512 : Shape := ⟨3, ![8, 2048, 512]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x2560, .f32⟩
  | .hbm, ⟨1, _⟩ => ⟨S1x128, .f32⟩
  | .hbm, ⟨2, _⟩ => ⟨S_, .i1⟩
  | .hbm, ⟨3, _⟩ => ⟨S32x32, .i1⟩
  | .hbm, ⟨4, _⟩ => ⟨S32x32, .i32⟩
  | .hbm, ⟨5, _⟩ => ⟨S_, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S_, .i1⟩
  | .hbm, ⟨11, _⟩ => ⟨S32x32, .i1⟩
  | .hbm, ⟨12, _⟩ => ⟨S32x32, .i1⟩
  | .hbm, ⟨13, _⟩ => ⟨S8x64x32x2560, .f32⟩
  | .hbm, ⟨14, _⟩ => ⟨S64x8x32x2560, .f32⟩
  | .hbm, ⟨15, _⟩ => ⟨S_, .f32⟩
  | .hbm, ⟨16, _⟩ => ⟨S8x4x128x128, .f32⟩
  | .hbm, ⟨17, _⟩ => ⟨S_, .f32⟩
  | .hbm, ⟨18, _⟩ => ⟨S64x8x32x4x128, .f32⟩
  | .hbm, ⟨19, _⟩ => ⟨S_, .i32⟩
  | .hbm, ⟨20, _⟩ => ⟨S64x8x32x2560, .f32⟩
  | .hbm, ⟨21, _⟩ => ⟨S32x32, .i1⟩
  | .hbm, ⟨22, _⟩ => ⟨S1x128, .f32⟩
  | .hbm, ⟨23, _⟩ => ⟨S_, .i32⟩
  | .hbm, ⟨24, _⟩ => ⟨S8x4x128x128, .f32⟩
  | .hbm, ⟨25, _⟩ => ⟨S64x8x32x4x128, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x8x32x2560, .f32⟩
  | .hbm, ⟨32, _⟩ => ⟨S8x32x2560, .f32⟩
  | .hbm, ⟨33, _⟩ => ⟨S8x32x512, .f32⟩
  | .hbm, ⟨34, _⟩ => ⟨S8x32x4x128, .f32⟩
  | .hbm, ⟨35, _⟩ => ⟨S8x32x512, .f32⟩
  | .hbm, ⟨36, _⟩ => ⟨S8x32x4x128, .f32⟩
  | .hbm, ⟨37, _⟩ => ⟨S8x32x512, .f32⟩
  | .hbm, ⟨38, _⟩ => ⟨S8x32x4x128, .f32⟩
  | .hbm, ⟨39, _⟩ => ⟨S8x32x512, .f32⟩
  | .hbm, ⟨40, _⟩ => ⟨S8x32x4x128, .f32⟩
  | .hbm, ⟨41, _⟩ => ⟨S8x32x512, .f32⟩
  | .hbm, ⟨42, _⟩ => ⟨S8x32x4x128, .f32⟩
  | .hbm, ⟨43, _⟩ => ⟨S_, .f32⟩
  | .hbm, ⟨44, _⟩ => ⟨S_, .f32⟩
  | .hbm, ⟨45, _⟩ => ⟨S8x32x4x128, .f32⟩
  | .hbm, ⟨46, _⟩ => ⟨S8x1x4x128, .f32⟩
  | .hbm, ⟨47, _⟩ => ⟨S8x32x4x128, .f32⟩
  | .hbm, ⟨48, _⟩ => ⟨S8x32x4x128, .f32⟩
  | .hbm, ⟨49, _⟩ => ⟨S8x32x4x128, .f32⟩
  | .hbm, ⟨50, _⟩ => ⟨S8x32x4x128, .f32⟩
  | .hbm, ⟨51, _⟩ => ⟨S8x32x4x128, .f32⟩
  | .hbm, ⟨52, _⟩ => ⟨S8x4x32x32, .f32⟩
  | .hbm, ⟨53, _⟩ => ⟨S_, .f32⟩
  | .hbm, ⟨54, _⟩ => ⟨S_, .f32⟩
  | .hbm, ⟨55, _⟩ => ⟨S8x4x32x32, .i1⟩
  | .hbm, ⟨56, _⟩ => ⟨S8x4x32x32, .f32⟩
  | .hbm, ⟨57, _⟩ => ⟨S8x4x32x32, .f32⟩
  | .hbm, ⟨58, _⟩ => ⟨S8x4x128x32, .f32⟩
  | .hbm, ⟨59, _⟩ => ⟨S8x32x4x128, .f32⟩
  | .hbm, ⟨60, _⟩ => ⟨S8x4x128x32, .f32⟩
  | .hbm, ⟨61, _⟩ => ⟨S8x32x4x128, .f32⟩
  | .hbm, ⟨62, _⟩ => ⟨S8x32x4x128, .f32⟩
  | .hbm, ⟨63, _⟩ => ⟨S8x32x4x128, .f32⟩
  | .hbm, ⟨64, _⟩ => ⟨S_, .f32⟩
  | .hbm, ⟨65, _⟩ => ⟨S8x32x4, .f32⟩
  | .hbm, ⟨66, _⟩ => ⟨S8x32x4x1, .f32⟩
  | .hbm, ⟨67, _⟩ => ⟨S_, .f32⟩
  | .hbm, ⟨68, _⟩ => ⟨S8x32x4x1, .f32⟩
  | .hbm, ⟨69, _⟩ => ⟨S8x32x4x1, .f32⟩
  | .hbm, ⟨70, _⟩ => ⟨S_, .f32⟩
  | .hbm, ⟨71, _⟩ => ⟨S8x32x4x1, .f32⟩
  | .hbm, ⟨72, _⟩ => ⟨S8x32x4x1, .f32⟩
  | .hbm, ⟨73, _⟩ => ⟨S8x32x4x1, .f32⟩
  | .hbm, ⟨74, _⟩ => ⟨S8x32x4x128, .f32⟩
  | .hbm, ⟨75, _⟩ => ⟨S8x32x4x128, .f32⟩
  | .hbm, ⟨76, _⟩ => ⟨S128, .f32⟩
  | .hbm, ⟨77, _⟩ => ⟨S1x1x1x128, .f32⟩
  | .hbm, ⟨78, _⟩ => ⟨S8x32x4x128, .f32⟩
  | .hbm, ⟨79, _⟩ => ⟨S8x32x4x128, .f32⟩
  | .hbm, ⟨80, _⟩ => ⟨S8x32x4x128, .f32⟩
  | .hbm, ⟨81, _⟩ => ⟨S8x32x4x128, .f32⟩
  | .hbm, ⟨82, _⟩ => ⟨S8x32x4x128, .f32⟩
  | .hbm, ⟨83, _⟩ => ⟨S8x32x4x128, .f32⟩
  | .hbm, ⟨84, _⟩ => ⟨S8x32x4x128, .f32⟩
  | .hbm, ⟨85, _⟩ => ⟨S8x4x128x128, .f32⟩
  | .hbm, ⟨86, _⟩ => ⟨S8x4x128, .f32⟩
  | .hbm, ⟨87, _⟩ => ⟨S8x4x128, .f32⟩
  | .hbm, ⟨88, _⟩ => ⟨S8x4x128x1, .f32⟩
  | .hbm, ⟨89, _⟩ => ⟨S8x4x128x128, .f32⟩
  | .hbm, ⟨90, _⟩ => ⟨S8x4x128x128, .f32⟩
  | .hbm, ⟨91, _⟩ => ⟨S8x4x128x128, .f32⟩
  | .hbm, ⟨92, _⟩ => ⟨S1x8x32x4x128, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S64x8x32x4x128, .f32⟩
  | .hbm, ⟨98, _⟩ => ⟨S_, .i32⟩
  | .hbm, ⟨99, _⟩ => ⟨S_, .i32⟩
  | .hbm, ⟨100, _⟩ => ⟨S8x64x32x4x128, .f32⟩
  | .hbm, ⟨101, _⟩ => ⟨S8x2048x512, .f32⟩
  | .hbm, ⟨102, _⟩ => ⟨S8x2048x512, .bf16⟩
  | _, _ => ⟨S8x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_0 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c_1 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_v6_4 : Ref sig .tc := ⟨.hbm, 24, rfl⟩
abbrev main_v6_5 : Ref sig .tc := ⟨.hbm, 25, rfl⟩
abbrev main_while0c_c_7 : Ref sig .tc := ⟨.hbm, 26, rfl⟩
abbrev main_while0c_v10 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_c_1 : Ref sig .tc := ⟨.hbm, 30, rfl⟩
abbrev main_while0b_call1_v0 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_call2_call0_cst : Ref sig .tc := ⟨.hbm, 43, rfl⟩
abbrev main_while0b_call2_call0_v0 : Ref sig .tc := ⟨.hbm, 44, rfl⟩
abbrev main_while0b_v21 : Ref sig .tc := ⟨.hbm, 45, rfl⟩
abbrev main_while0b_v22 : Ref sig .tc := ⟨.hbm, 46, rfl⟩
abbrev main_while0b_v23 : Ref sig .tc := ⟨.hbm, 47, rfl⟩
abbrev main_while0b_v24 : Ref sig .tc := ⟨.hbm, 48, rfl⟩
abbrev main_while0b_v25 : Ref sig .tc := ⟨.hbm, 49, rfl⟩
abbrev main_while0b_v26 : Ref sig .tc := ⟨.hbm, 50, rfl⟩
abbrev main_while0b_v27 : Ref sig .tc := ⟨.hbm, 51, rfl⟩
abbrev main_while0b_v28 : Ref sig .tc := ⟨.hbm, 52, rfl⟩
abbrev main_while0b_cst_7 : Ref sig .tc := ⟨.hbm, 53, rfl⟩
abbrev main_while0b_call3_v0 : Ref sig .tc := ⟨.hbm, 54, rfl⟩
abbrev main_while0b_call3_v1 : Ref sig .tc := ⟨.hbm, 55, rfl⟩
abbrev main_while0b_call3_v2 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_cst_8 : Ref sig .tc := ⟨.hbm, 64, rfl⟩
abbrev main_while0b_v36 : Ref sig .tc := ⟨.hbm, 65, rfl⟩
abbrev main_while0b_v37 : Ref sig .tc := ⟨.hbm, 66, rfl⟩
abbrev main_while0b_cst_9 : Ref sig .tc := ⟨.hbm, 67, rfl⟩
abbrev main_while0b_v38 : Ref sig .tc := ⟨.hbm, 68, rfl⟩
abbrev main_while0b_v39 : Ref sig .tc := ⟨.hbm, 69, rfl⟩
abbrev main_while0b_cst_10 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_v56 : Ref sig .tc := ⟨.hbm, 87, rfl⟩
abbrev main_while0b_v57 : Ref sig .tc := ⟨.hbm, 88, rfl⟩
abbrev main_while0b_v58 : Ref sig .tc := ⟨.hbm, 89, rfl⟩
abbrev main_while0b_v59 : Ref sig .tc := ⟨.hbm, 90, rfl⟩
abbrev main_while0b_v60 : Ref sig .tc := ⟨.hbm, 91, rfl⟩
abbrev main_while0b_call4_v0 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_c_2 : Ref sig .tc := ⟨.hbm, 96, rfl⟩
abbrev main_while0b_v61 : Ref sig .tc := ⟨.hbm, 97, rfl⟩
abbrev main_while0b_c_11 : Ref sig .tc := ⟨.hbm, 98, rfl⟩
abbrev main_while0b_v62 : Ref sig .tc := ⟨.hbm, 99, rfl⟩
abbrev main_v7 : Ref sig .tc := ⟨.hbm, 100, rfl⟩
abbrev main_v8 : Ref sig .tc := ⟨.hbm, 101, rfl⟩
abbrev main_v9 : Ref sig .tc := ⟨.hbm, 102, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x2048x1024 : Shape := ⟨3, ![8, 2048, 1024]⟩
abbrev S8x2048x512 : Shape := ⟨3, ![8, 2048, 512]⟩
abbrev S8x6144 : Shape := ⟨2, ![8, 6144]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S8x1x6144 : Shape := ⟨3, ![8, 1, 6144]⟩
abbrev S1x1024 : Shape := ⟨2, ![1, 1024]⟩
abbrev S1024 : Shape := ⟨1, ![1024]⟩
abbrev S1024x1024 : Shape := ⟨2, ![1024, 1024]⟩
abbrev S1x1024x512 : Shape := ⟨3, ![1, 1024, 512]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 17
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x6144, .f32⟩
  | .hbm, ⟨4, _⟩ => ⟨S2x1024, .f32⟩
  | .hbm, ⟨5, _⟩ => ⟨S1x1024x1024, .f32⟩
  | .hbm, ⟨6, _⟩ => ⟨S2x1024x4096, .f32⟩
  | .hbm, ⟨7, _⟩ => ⟨S2x4096x1024, .f32⟩
  | .hbm, ⟨8, _⟩ => ⟨S8x1x6144, .f32⟩
  | .hbm, ⟨9, _⟩ => ⟨S1x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S2x1024x4096, .bf16⟩
  | .hbm, ⟨14, _⟩ => ⟨S2x4096x1024, .bf16⟩
  | .hbm, ⟨15, _⟩ => ⟨S1x1024, .f32⟩
  | .hbm, ⟨16, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x1024, .bf16⟩
  | .local _ .vmem, ⟨16, _⟩ => ⟨S1x1024x4096, .bf16⟩
  | .local _ .vmem, ⟨17, _⟩ => ⟨S1x4096x1024, .bf16⟩
  | .local _ .vmem, ⟨18, _⟩ => ⟨S1x1024x1024, .f32⟩
  | .local _ .vmem, ⟨19, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S8x2048x512 : Shape := ⟨3, ![8, 2048, 512]⟩
abbrev S8x6144 : Shape := ⟨2, ![8, 6144]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S8x1x6144 : Shape := ⟨3, ![8, 1, 6144]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x6144, .f32⟩
  | .hbm, ⟨4, _⟩ => ⟨S2x1024, .f32⟩
  | .hbm, ⟨5, _⟩ => ⟨S1x1024x1024, .f32⟩
  | .hbm, ⟨6, _⟩ => ⟨S2x1024x4096, .f32⟩
  | .hbm, ⟨7, _⟩ => ⟨S2x4096x1024, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x2048x512, .f32⟩
  | .hbm, ⟨16, _⟩ => ⟨S8x2048x512, .f32⟩
  | .hbm, ⟨17, _⟩ => ⟨S8x2048x1024, .f32⟩
  | .hbm, ⟨18, _⟩ => ⟨S1024x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S1x1024x4096, .f32⟩
  | .hbm, ⟨49, _⟩ => ⟨S1024x4096, .f32⟩
  | .hbm, ⟨50, _⟩ => ⟨S8x2048x4096, .f32⟩
  | .hbm, ⟨51, _⟩ => ⟨S_, .f32⟩
  | .hbm, ⟨52, _⟩ => ⟨S8x2048x4096, .f32⟩
  | .hbm, ⟨53, _⟩ => ⟨S8x2048x4096, .f32⟩
  | .hbm, ⟨54, _⟩ => ⟨S8x2048x4096, .f32⟩
  | .hbm, ⟨55, _⟩ => ⟨S1x4096x1024, .f32⟩
  | .hbm, ⟨56, _⟩ => ⟨S4096x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S2x1024 : Shape := ⟨2, ![2, 1024]⟩
abbrev S1x1024x3584 : Shape := ⟨3, ![1, 1024, 3584]⟩
abbrev S2x512 : Shape := ⟨2, ![2, 512]⟩
abbrev S1x3x512 : Shape := ⟨3, ![1, 3, 512]⟩
abbrev S8x1x6144 : Shape := ⟨3, ![8, 1, 6144]⟩
abbrev S1x1024 : Shape := ⟨2, ![1, 1024]⟩
abbrev S1024 : Shape := ⟨1, ![1024]⟩
abbrev S1024x3584 : Shape := ⟨2, ![1024, 3584]⟩
abbrev S3x512 : Shape := ⟨2, ![3, 512]⟩
abbrev S8x2048x2560 : Shape := ⟨3, ![8, 2048, 2560]⟩
abbrev S8x2048x512 : Shape := ⟨3, ![8, 2048, 512]⟩
abbrev S8x2x512 : Shape := ⟨3, ![8, 2, 512]⟩
abbrev S1x1024x1024 : Shape := ⟨3, ![1, 1024, 1024]⟩
abbrev S1x1x1024 : Shape := ⟨3, ![1, 1, 1024]⟩
abbrev S1x1024x2560 : Shape := ⟨3, ![1, 1024, 2560]⟩
abbrev S1x1024x512 : Shape := ⟨3, ![1, 1024, 512]⟩
abbrev S1x2x512 : Shape := ⟨3, ![1, 2, 512]⟩
abbrev S8x512 : Shape := ⟨2, ![8, 512]⟩
abbrev S1024x1024 : Shape := ⟨2, ![1024, 1024]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩
abbrev S1016x512 : Shape := ⟨2, ![1016, 512]⟩

abbrev nBuf : Space → Nat
  | .hbm => 16
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x1024, .f32⟩
  | .hbm, ⟨3, _⟩ => ⟨S1x1024x3584, .f32⟩
  | .hbm, ⟨4, _⟩ => ⟨S2x512, .f32⟩
  | .hbm, ⟨5, _⟩ => ⟨S1x3x512, .f32⟩
  | .hbm, ⟨6, _⟩ => ⟨S8x1x6144, .f32⟩
  | .hbm, ⟨7, _⟩ => ⟨S1x1024, .f32⟩
  | .hbm, ⟨8, _⟩ => ⟨S1024, .f32⟩
  | .hbm, ⟨9, _⟩ => ⟨S1024x3584, .f32⟩
  | .hbm, ⟨10, _⟩ => ⟨S1024x3584, .bf16⟩
  | .hbm, ⟨11, _⟩ => ⟨S3x512, .f32⟩
  | .hbm, ⟨12, _⟩ => ⟨S1x1024, .f32⟩
  | .hbm, ⟨13, _⟩ => ⟨S8x2048x2560, .f32⟩
  | .hbm, ⟨14, _⟩ => ⟨S8x2048x512, .bf16⟩
  | .hbm, ⟨15, _⟩ => ⟨S8x2x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S2x512, .f32⟩
  | .local _ .vmem, ⟨9, _⟩ => ⟨S3x512, .f32⟩
  | .local _ .vmem, ⟨10, _⟩ => ⟨S1x1024x2560, .f32⟩
  | .local _ .vmem, ⟨11, _⟩ => ⟨S1x1024x2560, .f32⟩
  | .local _ .vmem, ⟨12, _⟩ => ⟨S1x1024x512, .bf16⟩
  | .local _ .vmem, ⟨13, _⟩ => ⟨S1x1024x512, .bf16⟩
  | .local _ .vmem, ⟨14, _⟩ => ⟨S1x2x512, .f32⟩
  | .local _ .vmem, ⟨15, _⟩ => ⟨S1x2x512, .f32⟩
  | .local _ .vmem, ⟨16, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S8x2048x1024 : Shape := ⟨3, ![8, 2048, 1024]⟩
abbrev S8x6144 : Shape := ⟨2, ![8, 6144]⟩
abbrev S2x1024 : Shape := ⟨2, ![2, 1024]⟩
abbrev S1x1024x3584 : Shape := ⟨3, ![1, 1024, 3584]⟩
abbrev S2x512 : Shape := ⟨2, ![2, 512]⟩
abbrev S1x3x512 : Shape := ⟨3, ![1, 3, 512]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1024x3584 : Shape := ⟨2, ![1024, 3584]⟩
abbrev S8x2048x3584 : Shape := ⟨3, ![8, 2048, 3584]⟩
abbrev S8x2048x512 : Shape := ⟨3, ![8, 2048, 512]⟩
abbrev S512 : Shape := ⟨1, ![512]⟩
abbrev S1x512 : Shape := ⟨2, ![1, 512]⟩
abbrev S1x1x512 : Shape := ⟨3, ![1, 1, 512]⟩
abbrev S8x2x512 : Shape := ⟨3, ![8, 2, 512]⟩
abbrev S8x2050x512 : Shape := ⟨3, ![8, 2050, 512]⟩
abbrev S8x2048x2560 : Shape := ⟨3, ![8, 2048, 2560]⟩

abbrev nBuf : Space → Nat
  | .hbm => 132
  | .vmem => 0
  | .smem => 0
  | _ => 0

abbrev hbmTy0_0 (i : Nat) : BufTy := match i % 128 with
  | 0 => ⟨S8x2048x1024, .f32⟩
  | 1 => ⟨S8x6144, .f32⟩
  | 2 => ⟨S2x1024, .f32⟩
  | 3 => ⟨S1x1024x3584, .f32⟩
  | 4 => ⟨S2x512, .f32⟩
  | 5 => ⟨S1x3x512, .f32⟩
  | 6 => ⟨S8x1x6144, .f32⟩
  | 7 => ⟨S8x1x1024, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x2048x1024, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x1024, .f32⟩
  | 25 => ⟨S8x2048x1024, .f32⟩
  | 26 => ⟨S1x1024, .f32⟩
  | 27 => ⟨S1024, .f32⟩
  | 28 => ⟨S1x1x1024, .f32⟩
  | 29 => ⟨S8x2048x1024, .f32⟩
  | 30 => ⟨S8x2048x1024, .f32⟩
  | 31 => ⟨S_, .f32⟩
  | 32 => ⟨S8x1x1024, .f32⟩
  | 33 => ⟨S8x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S1024x3584, .f32⟩
  | 39 => ⟨S8x2048x3584, .f32⟩
  | 40 => ⟨S8x2048x512, .f32⟩
  | 41 => ⟨S8x2048x512, .f32⟩
  | 42 => ⟨S8x2048x512, .f32⟩
  | 43 => ⟨S8x2048x512, .f32⟩
  | 44 => ⟨S8x2048x512, .f32⟩
  | 45 => ⟨S8x2048x512, .f32⟩
  | 46 => ⟨S8x2048x512, .f32⟩
  | 47 => ⟨S_, .f32⟩
  | 48 => ⟨S512, .f32⟩
  | 49 => ⟨S_, .f32⟩
  | 50 => ⟨S512, .f32⟩
  | 51 => ⟨S512, .f32⟩
  | 52 => ⟨S1x512, .f32⟩
  | 53 => ⟨S2x512, .f32⟩
  | 54 => ⟨S2x512, .f32⟩
  | 55 => ⟨S2x512, .f32⟩
  | 56 => ⟨S_, .f32⟩
  | 57 => ⟨S512, .f32⟩
  | 58 => ⟨S1x512, .f32⟩
  | 59 => ⟨S2x512, .f32⟩
  | 60 => ⟨S2x512, .f32⟩
  | 61 => ⟨S_, .f32⟩
  | 62 => ⟨S_, .f32⟩
  | 63 => ⟨S2x512, .f32⟩
  | 64 => ⟨S1x512, .f32⟩
  | 65 => ⟨S512, .f32⟩
  | 66 => ⟨S1x512, .f32⟩
  | 67 => ⟨S2x512, .f32⟩
  | 68 => ⟨S2x512, .f32⟩
  | 69 => ⟨S1x512, .f32⟩
  | 70 => ⟨S512, .f32⟩
  | 71 => ⟨S_, .f32⟩
  | 72 => ⟨S512, .f32⟩
  | 73 => ⟨S512, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S_, .f32⟩
  | 80 => ⟨S8x2048x512, .f32⟩
  | 81 => ⟨S8x2048x512, .f32⟩
  | 82 => ⟨S1x1x512, .f32⟩
  | 83 => ⟨S8x2048x512, .f32⟩
  | 84 => ⟨S8x2048x512, .f32⟩
  | 85 => ⟨S1x1x512, .f32⟩
  | 86 => ⟨S8x2048x512, .f32⟩
  | 87 => ⟨S8x2048x512, .f32⟩
  | 88 => ⟨S8x2048x512, .f32⟩
  | 89 => ⟨S_, .f32⟩
  | 90 => ⟨S8x2x512, .f32⟩
  | 91 => ⟨S8x2050x512, .f32⟩
  | 92 => ⟨S8x2048x512, .f32⟩
  | 93 => ⟨S1x1x512, .f32⟩
  | 94 => ⟨S512, .f32⟩
  | 95 => ⟨S1x1x512, .f32⟩
  | 96 => ⟨S8x2048x512, .f32⟩
  | 97 => ⟨S8x2048x512, .f32⟩
  | 98 => ⟨S_, .f32⟩
  | 99 => ⟨S8x2048x512, .f32⟩
  | 100 => ⟨S8x2048x512, .f32⟩
  | 101 => ⟨S8x2048x512, .f32⟩
  | 102 => ⟨S1x1x512, .f32⟩
  | 103 => ⟨S512, .f32⟩
  | 104 => ⟨S1x1x512, .f32⟩
  | 105 => ⟨S8x2048x512, .f32⟩
  | 106 => ⟨S8x2048x512, .f32⟩
  | 107 => ⟨S8x2048x512, .f32⟩
  | 108 => ⟨S8x2048x512, .f32⟩
  | 109 => ⟨S1x1x512, .f32⟩
  | 110 => ⟨S512, .f32⟩
  | 111 => ⟨S1x1x512, .f32⟩
  | 112 => ⟨S8x2048x512, .f32⟩
  | 113 => ⟨S8x2048x512, .f32⟩
  | 114 => ⟨S8x2048x512, .f32⟩
  | 115 => ⟨S_, .f32⟩
  | 116 => ⟨S8x2048x512, .f32⟩
  | 117 => ⟨S8x2048x512, .f32⟩
  | 118 => ⟨S8x2048x512, .f32⟩
  | 119 => ⟨S8x2048x512, .f32⟩
  | 120 => ⟨S8x2048x512, .f32⟩
  | 121 => ⟨S_, .f32⟩
  | 122 => ⟨S8x2048x512, .f32⟩
  | 123 => ⟨S8x2048x512, .f32⟩
  | 124 => ⟨S_, .f32⟩
  | 125 => ⟨S8x2048x512, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S8x2048x2560, .f32⟩
  | 1 => ⟨S8x2048x512, .f32⟩
  | 2 => ⟨S8x2048x512, .bf16⟩
  | 3 => ⟨S8x2x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_call0_cst : Ref sig .tc := ⟨.hbm, 61, rfl⟩
abbrev main_call0_call0_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_12 : Ref sig .tc := ⟨.hbm, 121, rfl⟩
abbrev main_v100 : Ref sig .tc := ⟨.hbm, 122, rfl⟩
abbrev main_v101 : Ref sig .tc := ⟨.hbm, 123, rfl⟩
abbrev main_cst_13 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6144 : Shape := ⟨2, ![8, 6144]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S1024x5152 : Shape := ⟨2, ![1024, 5152]⟩
abbrev S1024x32 : Shape := ⟨2, ![1024, 32]⟩
abbrev S_ : Shape := ⟨0, ![]⟩
abbrev S1024x128 : Shape := ⟨2, ![1024, 128]⟩
abbrev S1024x256 : Shape := ⟨2, ![1024, 256]⟩
abbrev S8x1x6144 : Shape := ⟨3, ![8, 1, 6144]⟩
abbrev S1x1024 : Shape := ⟨2, ![1, 1024]⟩
abbrev S1024 : Shape := ⟨1, ![1024]⟩
abbrev S4x3072 : Shape := ⟨2, ![4, 3072]⟩
abbrev S3072 : Shape := ⟨1, ![3072]⟩
abbrev S32 : Shape := ⟨1, ![32]⟩
abbrev S1x128 : Shape := ⟨2, ![1, 128]⟩
abbrev S8x2048x2048 : Shape := ⟨3, ![8, 2048, 2048]⟩
abbrev S8x2048x128 : Shape := ⟨3, ![8, 2048, 128]⟩
abbrev S8x3x3072 : Shape := ⟨3, ![8, 3, 3072]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x128 : Shape := ⟨3, ![1, 512, 128]⟩
abbrev S1x3x3072 : Shape := ⟨3, ![1, 3, 3072]⟩
abbrev S8x3072 : Shape := ⟨2, ![8, 3072]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S8x256 : Shape := ⟨2, ![8, 256]⟩
abbrev S4x256 : Shape := ⟨2, ![4, 256]⟩
abbrev S256x256 : Shape := ⟨2, ![256, 256]⟩
abbrev S248x256 : Shape := ⟨2, ![248, 256]⟩
abbrev S1x256 : Shape := ⟨2, ![1, 256]⟩
abbrev S1x256x256 : Shape := ⟨3, ![1, 256, 256]⟩
abbrev S1x512x256 : Shape := ⟨3, ![1, 512, 256]⟩
abbrev S3x3072 : Shape := ⟨2, ![3, 3072]⟩

abbrev nBuf : Space → Nat
  | .hbm => 36
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x1024, .f32⟩
  | .hbm, ⟨3, _⟩ => ⟨S1x1024x5152, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1024x5152, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1024x256, .bf16⟩
  | .hbm, ⟨17, _⟩ => ⟨S8x1x6144, .f32⟩
  | .hbm, ⟨18, _⟩ => ⟨S1x1024, .f32⟩
  | .hbm, ⟨19, _⟩ => ⟨S1024, .f32⟩
  | .hbm, ⟨20, _⟩ => ⟨S1024x5152, .f32⟩
  | .hbm, ⟨21, _⟩ => ⟨S1024x5152, .bf16⟩
  | .hbm, ⟨22, _⟩ => ⟨S4x3072, .f32⟩
  | .hbm, ⟨23, _⟩ => ⟨S3072, .f32⟩
  | .hbm, ⟨24, _⟩ => ⟨S1x3072, .f32⟩
  | .hbm, ⟨25, _⟩ => ⟨S32, .f32⟩
  | .hbm, ⟨26, _⟩ => ⟨S1x32, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S1x1024, .f32⟩
  | .hbm, ⟨31, _⟩ => ⟨S8x2048x2048, .f32⟩
  | .hbm, ⟨32, _⟩ => ⟨S8x2048x2048, .f32⟩
  | .hbm, ⟨33, _⟩ => ⟨S8x2048x1024, .f32⟩
  | .hbm, ⟨34, _⟩ => ⟨S8x2048x128, .f32⟩
  | .hbm, ⟨35, _⟩ => ⟨S8x3x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5152, .bf16⟩
  | .local _ .vmem, ⟨8, _⟩ => ⟨S1024x256, .bf16⟩
  | .local _ .vmem, ⟨9, _⟩ => ⟨S4x3072, .f32⟩
  | .local _ .vmem, ⟨10, _⟩ => ⟨S1x3072, .f32⟩
  | .local _ .vmem, ⟨11, _⟩ => ⟨S1x128, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .f32⟩
  | .local _ .vmem, ⟨16, _⟩ => ⟨S1x512x1024, .f32⟩
  | .local _ .vmem, ⟨17, _⟩ => ⟨S1x512x1024, .f32⟩
  | .local _ .vmem, ⟨18, _⟩ => ⟨S1x512x128, .f32⟩
  | .local _ .vmem, ⟨19, _⟩ => ⟨S1x512x128, .f32⟩
  | .local _ .vmem, ⟨20, _⟩ => ⟨S1x3x3072, .f32⟩
  | .local _ .vmem, ⟨21, _⟩ => ⟨S1x3x3072, .f32⟩
  | .local _ .vmem, ⟨22, _⟩ => ⟨S8x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S8x2048x1024 : Shape := ⟨3, ![8, 2048, 1024]⟩
abbrev S8x6144 : Shape := ⟨2, ![8, 6144]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1024x5152 : Shape := ⟨2, ![1024, 5152]⟩
abbrev S8x2048x5152 : Shape := ⟨3, ![8, 2048, 5152]⟩
abbrev S8x2048x2048 : Shape := ⟨3, ![8, 2048, 2048]⟩
abbrev S8x2048x3072 : Shape := ⟨3, ![8, 2048, 3072]⟩
abbrev S8x2048x32 : Shape := ⟨3, ![8, 2048, 32]⟩
abbrev S8x3x3072 : Shape := ⟨3, ![8, 3, 3072]⟩
abbrev S8x2051x3072 : Shape := ⟨3, ![8, 2051, 3072]⟩
abbrev S1x1x3072 : Shape := ⟨3, ![1, 1, 3072]⟩
abbrev S3072 : Shape := ⟨1, ![3072]⟩
abbrev S32 : Shape := ⟨1, ![32]⟩
abbrev S1x1x32 : Shape := ⟨3, ![1, 1, 32]⟩
abbrev S8x2048x128 : Shape := ⟨3, ![8, 2048, 128]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x1024, .f32⟩
  | .hbm, ⟨3, _⟩ => ⟨S1x1024x5152, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1024x5152, .f32⟩
  | .hbm, ⟨40, _⟩ => ⟨S8x2048x5152, .f32⟩
  | .hbm, ⟨41, _⟩ => ⟨S8x2048x2048, .f32⟩
  | .hbm, ⟨42, _⟩ => ⟨S8x2048x3072, .f32⟩
  | .hbm, ⟨43, _⟩ => ⟨S8x2048x32, .f32⟩
  | .hbm, ⟨44, _⟩ => ⟨S_, .f32⟩
  | .hbm, ⟨45, _⟩ => ⟨S8x3x3072, .f32⟩
  | .hbm, ⟨46, _⟩ => ⟨S8x2051x3072, .f32⟩
  | .hbm, ⟨47, _⟩ => ⟨S8x2048x3072, .f32⟩
  | .hbm, ⟨48, _⟩ => ⟨S1x1x3072, .f32⟩
  | .hbm, ⟨49, _⟩ => ⟨S3072, .f32⟩
  | .hbm, ⟨50, _⟩ => ⟨S1x1x3072, .f32⟩
  | .hbm, ⟨51, _⟩ => ⟨S8x2048x3072, .f32⟩
  | .hbm, ⟨52, _⟩ => ⟨S8x2048x3072, .f32⟩
  | .hbm, ⟨53, _⟩ => ⟨S_, .f32⟩
  | .hbm, ⟨54, _⟩ => ⟨S8x2048x3072, .f32⟩
  | .hbm, ⟨55, _⟩ => ⟨S8x2048x3072, .f32⟩
  | .hbm, ⟨56, _⟩ => ⟨S8x2048x3072, .f32⟩
  | .hbm, ⟨57, _⟩ => ⟨S1x1x3072, .f32⟩
  | .hbm, ⟨58, _⟩ => ⟨S3072, .f32⟩
  | .hbm, ⟨59, _⟩ => ⟨S1x1x3072, .f32⟩
  | .hbm, ⟨60, _⟩ => ⟨S8x2048x3072, .f32⟩
  | .hbm, ⟨61, _⟩ => ⟨S8x2048x3072, .f32⟩
  | .hbm, ⟨62, _⟩ => ⟨S8x2048x3072, .f32⟩
  | .hbm, ⟨63, _⟩ => ⟨S8x2048x3072, .f32⟩
  | .hbm, ⟨64, _⟩ => ⟨S1x1x3072, .f32⟩
  | .hbm, ⟨65, _⟩ => ⟨S3072, .f32⟩
  | .hbm, ⟨66, _⟩ => ⟨S1x1x3072, .f32⟩
  | .hbm, ⟨67, _⟩ => ⟨S8x2048x3072, .f32⟩
  | .hbm, ⟨68, _⟩ => ⟨S8x2048x3072, .f32⟩
  | .hbm, ⟨69, _⟩ => ⟨S8x2048x3072, .f32⟩
  | .hbm, ⟨70, _⟩ => ⟨S8x2048x3072, .f32⟩
  | .hbm, ⟨71, _⟩ => ⟨S1x1x3072, .f32⟩
  | .hbm, ⟨72, _⟩ => ⟨S3072, .f32⟩
  | .hbm, ⟨73, _⟩ => ⟨S1x1x3072, .f32⟩
  | .hbm, ⟨74, _⟩ => ⟨S8x2048x3072, .f32⟩
  | .hbm, ⟨75, _⟩ => ⟨S8x2048x3072, .f32⟩
  | .hbm, ⟨76, _⟩ => ⟨S8x2048x3072, .f32⟩
  | .hbm, ⟨77, _⟩ => ⟨S3072, .f32⟩
  | .hbm, ⟨78, _⟩ => ⟨S1x1x3072, .f32⟩
  | .hbm, ⟨79, _⟩ => ⟨S8x2048x3072, .f32⟩
  | .hbm, ⟨80, _⟩ => ⟨S8x2048x3072, .f32⟩
  | .hbm, ⟨81, _⟩ => ⟨S32, .f32⟩
  | .hbm, ⟨82, _⟩ => ⟨S1x1x32, .f32⟩
  | .hbm, ⟨83, _⟩ => ⟨S8x2048x32, .f32⟩
  | .hbm, ⟨84, _⟩ => ⟨S8x2048x32, .f32⟩
  | .hbm, ⟨85, _⟩ => ⟨S_, .i32⟩
  | .hbm, ⟨86, _⟩ => ⟨S_, .f32⟩
  | .hbm, ⟨87, _⟩ => ⟨S8x2048x128, .f32⟩
  | .hbm, ⟨88, _⟩ => ⟨S_, .f32⟩
  | .hbm, ⟨89, _⟩ => ⟨S8x2048x128, .f32⟩
  | .hbm, ⟨90, _⟩ => ⟨S8x2048x128, .f32⟩
  | .hbm, ⟨91, _⟩ => ⟨S8x2048x128, .f32⟩
  | .hbm, ⟨92, _⟩ => ⟨S8x2048x128, .f32⟩
  | .hbm, ⟨93, _⟩ => ⟨S8x2048x128, .f32⟩
  | .hbm, ⟨94, _⟩ => ⟨S8x2048x128, .f32⟩
  | .hbm, ⟨95, _⟩ => ⟨S8x2048x128, .f32⟩
  | .hbm, ⟨96, _⟩ => ⟨S8x2048x2048, .f32⟩
  | .hbm, ⟨97, _⟩ => ⟨S8x2048x1024, .f32⟩
  | .hbm, ⟨98, _⟩ => ⟨S8x3x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_c : Ref sig .tc := ⟨.hbm, 85, rfl⟩
abbrev main_call0_v0 : Ref sig .tc := ⟨.hbm, 86, rfl⟩
abbrev main_v72 : Ref sig .tc := ⟨.hbm, 87, rfl⟩
abbrev main_cst_5 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Kernel5.lean ====
abbrev S128x1x1024 : Shape := ⟨3, ![128, 1, 1024]⟩
abbrev S128x1x2048 : Shape := ⟨3, ![128, 1, 2048]⟩
abbrev S128x6144 : Shape := ⟨2, ![128, 6144]⟩
abbrev S2x1024 : Shape := ⟨2, ![2, 1024]⟩
abbrev S1x2048x1024 : Shape := ⟨3, ![1, 2048, 1024]⟩
abbrev S2x1024x4096 : Shape := ⟨3, ![2, 1024, 4096]⟩
abbrev S2x4096x1024 : Shape := ⟨3, ![2, 4096, 1024]⟩
abbrev S1024 : Shape := ⟨1, ![1024]⟩
abbrev S1x128x1024 : Shape := ⟨3, ![1, 128, 1024]⟩
abbrev S1x128x2048 : Shape := ⟨3, ![1, 128, 2048]⟩
abbrev S1x128x6144 : Shape := ⟨3, ![1, 128, 6144]⟩
abbrev S1x1024 : Shape := ⟨2, ![1, 1024]⟩
abbrev S2048x1024 : Shape := ⟨2, ![2048, 1024]⟩
abbrev S1x1024x4096 : Shape := ⟨3, ![1, 1024, 4096]⟩
abbrev S1x4096x1024 : Shape := ⟨3, ![1, 4096, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S1x1024x1024 : Shape := ⟨3, ![1, 1024, 1024]⟩
abbrev S1024x1024 : Shape := ⟨2, ![1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S128x1x2048, .f32⟩
  | .hbm, ⟨2, _⟩ => ⟨S128x6144, .f32⟩
  | .hbm, ⟨3, _⟩ => ⟨S2x1024, .f32⟩
  | .hbm, ⟨4, _⟩ => ⟨S1x2048x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1x128x1024, .f32⟩
  | .hbm, ⟨9, _⟩ => ⟨S1x128x2048, .f32⟩
  | .hbm, ⟨10, _⟩ => ⟨S1x128x6144, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S2048x1024, .bf16⟩
  | .hbm, ⟨15, _⟩ => ⟨S2x1024x4096, .bf16⟩
  | .hbm, ⟨16, _⟩ => ⟨S2x4096x1024, .bf16⟩
  | .hbm, ⟨17, _⟩ => ⟨S1x1024, .f32⟩
  | .hbm, ⟨18, _⟩ => ⟨S1x1024, .f32⟩
  | .hbm, ⟨19, _⟩ => ⟨S1x128x1024, .f32⟩
  | .local _ .vmem, ⟨0, _⟩ => ⟨S1x128x1024, .f32⟩
  | .local _ .vmem, ⟨1, _⟩ => ⟨S1x128x2048, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1024, .f32⟩
  | .local _ .vmem, ⟨7, _⟩ => ⟨S2048x1024, .bf16⟩
  | .local _ .vmem, ⟨8, _⟩ => ⟨S1x1024x4096, .bf16⟩
  | .local _ .vmem, ⟨9, _⟩ => ⟨S1x4096x1024, .bf16⟩
  | .local _ .vmem, ⟨10, _⟩ => ⟨S1x1024, .f32⟩
  | .local _ .vmem, ⟨11, _⟩ => ⟨S1x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference5Ideal.lean ====
abbrev S128x1x1024 : Shape := ⟨3, ![128, 1, 1024]⟩
abbrev S128x1x2048 : Shape := ⟨3, ![128, 1, 2048]⟩
abbrev S128x6144 : Shape := ⟨2, ![128, 6144]⟩
abbrev S2x1024 : Shape := ⟨2, ![2, 1024]⟩
abbrev S1x2048x1024 : Shape := ⟨3, ![1, 2048, 1024]⟩
abbrev S2x1024x4096 : Shape := ⟨3, ![2, 1024, 4096]⟩
abbrev S2x4096x1024 : Shape := ⟨3, ![2, 4096, 1024]⟩
abbrev S1024 : Shape := ⟨1, ![1024]⟩
abbrev S128x1x6144 : Shape := ⟨3, ![128, 1, 6144]⟩
abbrev S2048x1024 : Shape := ⟨2, ![2048, 1024]⟩
abbrev S1x1024 : Shape := ⟨2, ![1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S128x1x4096 : Shape := ⟨3, ![128, 1, 4096]⟩
abbrev S1x4096x1024 : Shape := ⟨3, ![1, 4096, 1024]⟩
abbrev S4096x1024 : Shape := ⟨2, ![4096, 1024]⟩
abbrev S1x128x1024 : Shape := ⟨3, ![1, 128, 1024]⟩

abbrev nBuf : Space → Nat
  | .hbm => 71
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x2048, .f32⟩
  | .hbm, ⟨2, _⟩ => ⟨S128x6144, .f32⟩
  | .hbm, ⟨3, _⟩ => ⟨S2x1024, .f32⟩
  | .hbm, ⟨4, _⟩ => ⟨S1x2048x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S128x1x6144, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S2048x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S1x1024, .f32⟩
  | .hbm, ⟨20, _⟩ => ⟨S1024, .f32⟩
  | .hbm, ⟨21, _⟩ => ⟨S128x1x1024, .f32⟩
  | .hbm, ⟨22, _⟩ => ⟨S_, .f32⟩
  | .hbm, ⟨23, _⟩ => ⟨S128x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S_, .f32⟩
  | .hbm, ⟨29, _⟩ => ⟨S128x1x1, .f32⟩
  | .hbm, ⟨30, _⟩ => ⟨S128x1x1, .f32⟩
  | .hbm, ⟨31, _⟩ => ⟨S128x1x1, .f32⟩
  | .hbm, ⟨32, _⟩ => ⟨S128x1x1024, .f32⟩
  | .hbm, ⟨33, _⟩ => ⟨S128x1x1024, .f32⟩
  | .hbm, ⟨34, _⟩ => ⟨S1x1x1024, .f32⟩
  | .hbm, ⟨35, _⟩ => ⟨S128x1x1024, .f32⟩
  | .hbm, ⟨36, _⟩ => ⟨S128x1x1024, .f32⟩
  | .hbm, ⟨37, _⟩ => ⟨S_, .f32⟩
  | .hbm, ⟨38, _⟩ => ⟨S128x1x1024, .f32⟩
  | .hbm, ⟨39, _⟩ => ⟨S128x1x1024, .f32⟩
  | .hbm, ⟨40, _⟩ => ⟨S128x1x1024, .f32⟩
  | .hbm, ⟨41, _⟩ => ⟨S128x1x1024, .f32⟩
  | .hbm, ⟨42, _⟩ => ⟨S1x1024x4096, .f32⟩
  | .hbm, ⟨43, _⟩ => ⟨S1024x4096, .f32⟩
  | .hbm, ⟨44, _⟩ => ⟨S128x1x4096, .f32⟩
  | .hbm, ⟨45, _⟩ => ⟨S_, .f32⟩
  | .hbm, ⟨46, _⟩ => ⟨S128x1x4096, .f32⟩
  | .hbm, ⟨47, _⟩ => ⟨S128x1x4096, .f32⟩
  | .hbm, ⟨48, _⟩ => ⟨S128x1x4096, .f32⟩
  | .hbm, ⟨49, _⟩ => ⟨S1x4096x1024, .f32⟩
  | .hbm, ⟨50, _⟩ => ⟨S4096x1024, .f32⟩
  | .hbm, ⟨51, _⟩ => ⟨S128x1x1024, .f32⟩
  | .hbm, ⟨52, _⟩ => ⟨S128x1x1024, .f32⟩
  | .hbm, ⟨53, _⟩ => ⟨S128x1x1024, .f32⟩
  | .hbm, ⟨54, _⟩ => ⟨S128x1x1024, .f32⟩
  | .hbm, ⟨55, _⟩ => ⟨S_, .f32⟩
  | .hbm, ⟨56, _⟩ => ⟨S128x1, .f32⟩
  | .hbm, ⟨57, _⟩ => ⟨S128x1x1, .f32⟩
  | .hbm, ⟨58, _⟩ => ⟨S_, .f32⟩
  | .hbm, ⟨59, _⟩ => ⟨S128x1x1, .f32⟩
  | .hbm, ⟨60, _⟩ => ⟨S128x1x1, .f32⟩
  | .hbm, ⟨61, _⟩ => ⟨S_, .f32⟩
  | .hbm, ⟨62, _⟩ => ⟨S128x1x1, .f32⟩
  | .hbm, ⟨63, _⟩ => ⟨S128x1x1, .f32⟩
  | .hbm, ⟨64, _⟩ => ⟨S128x1x1, .f32⟩
  | .hbm, ⟨65, _⟩ => ⟨S128x1x1024, .f32⟩
  | .hbm, ⟨66, _⟩ => ⟨S128x1x1024, .f32⟩
  | .hbm, ⟨67, _⟩ => ⟨S1x1x1024, .f32⟩
  | .hbm, ⟨68, _⟩ => ⟨S128x1x1024, .f32⟩
  | .hbm, ⟨69, _⟩ => ⟨S128x1x1024, .f32⟩
  | .hbm, ⟨70, _⟩ => ⟨S1x128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel6.lean ====
abbrev S128x5120 : Shape := ⟨2, ![128, 5120]⟩
abbrev S128x128 : Shape := ⟨2, ![128, 128]⟩
abbrev S1x128x3x3072 : Shape := ⟨4, ![1, 128, 3, 3072]⟩
abbrev S1x4x3072 : Shape := ⟨3, ![1, 4, 3072]⟩
abbrev S1x3072 : Shape := ⟨2, ![1, 3072]⟩
abbrev S1x32 : Shape := ⟨2, ![1, 32]⟩
abbrev S128x3x3072 : Shape := ⟨3, ![128, 3, 3072]⟩
abbrev S4x3072 : Shape := ⟨2, ![4, 3072]⟩
abbrev S3072 : Shape := ⟨1, ![3072]⟩
abbrev S32 : Shape := ⟨1, ![32]⟩
abbrev S_ : Shape := ⟨0, ![]⟩
abbrev S1x128 : Shape := ⟨2, ![1, 128]⟩
abbrev S128x3072 : Shape := ⟨2, ![128, 3072]⟩
abbrev S128x2048 : Shape := ⟨2, ![128, 2048]⟩
abbrev S32x128x128 : Shape := ⟨3, ![32, 128, 128]⟩
abbrev S32x5120 : Shape := ⟨2, ![32, 5120]⟩
abbrev S32x128 : Shape := ⟨2, ![32, 128]⟩
abbrev S32x3x3072 : Shape := ⟨3, ![32, 3, 3072]⟩
abbrev S32x3072 : Shape := ⟨2, ![32, 3072]⟩
abbrev S32x2048 : Shape := ⟨2, ![32, 2048]⟩
abbrev S32x32x128 : Shape := ⟨3, ![32, 32, 128]⟩
abbrev S32x1x3072 : Shape := ⟨3, ![32, 1, 3072]⟩
abbrev S32x1 : Shape := ⟨2, ![32, 1]⟩
abbrev S1x32x128 : Shape := ⟨3, ![1, 32, 128]⟩

abbrev nBuf : Space → Nat
  | .hbm => 25
  | .vmem => 18
  | .smem => 0
  | _ => 0

abbrev bufTy : (tb : Table) → Fin (tcTables nBuf tb) → BufTy
  | .hbm, ⟨0, _⟩ => ⟨S128x5120, .f32⟩
  | .hbm, ⟨1, _⟩ => ⟨S128x128, .f32⟩
  | .hbm, ⟨2, _⟩ => ⟨S1x128x3x3072, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S128x3x3072, .f32⟩
  | .hbm, ⟨8, _⟩ => ⟨S4x3072, .f32⟩
  | .hbm, ⟨9, _⟩ => ⟨S3072, .f32⟩
  | .hbm, ⟨10, _⟩ => ⟨S1x3072, .f32⟩
  | .hbm, ⟨11, _⟩ => ⟨S32, .f32⟩
  | .hbm, ⟨12, _⟩ => ⟨S1x32, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S32, .f32⟩
  | .hbm, ⟨17, _⟩ => ⟨S1x32, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S128x3072, .f32⟩
  | .hbm, ⟨22, _⟩ => ⟨S128x3x3072, .f32⟩
  | .hbm, ⟨23, _⟩ => ⟨S128x2048, .f32⟩
  | .hbm, ⟨24, _⟩ => ⟨S32x128x128, .f32⟩
  | .local _ .vmem, ⟨0, _⟩ => ⟨S32x5120, .f32⟩
  | .local _ .vmem, ⟨1, _⟩ => ⟨S32x5120, .f32⟩
  | .local _ .vmem, ⟨2, _⟩ => ⟨S32x128, .f32⟩
  | .local _ .vmem, ⟨3, _⟩ => ⟨S32x128, .f32⟩
  | .local _ .vmem, ⟨4, _⟩ => ⟨S32x3x3072, .f32⟩
  | .local _ .vmem, ⟨5, _⟩ => ⟨S32x3x3072, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S32x3072, .f32⟩
  | .local _ .vmem, ⟨11, _⟩ => ⟨S32x3072, .f32⟩
  | .local _ .vmem, ⟨12, _⟩ => ⟨S32x3x3072, .f32⟩
  | .local _ .vmem, ⟨13, _⟩ => ⟨S32x3x3072, .f32⟩
  | .local _ .vmem, ⟨14, _⟩ => ⟨S32x2048, .f32⟩
  | .local _ .vmem, ⟨15, _⟩ => ⟨S32x2048, .f32⟩
  | .local _ .vmem, ⟨16, _⟩ => ⟨S32x32x128, .f32⟩
  | .local _ .vmem, ⟨17, _⟩ => ⟨S32x32x128, .f32⟩
  | _, _ => ⟨S128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x3x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S128x5120 : Shape := ⟨2, ![128, 5120]⟩
abbrev S128x128 : Shape := ⟨2, ![128, 128]⟩
abbrev S1x128x3x3072 : Shape := ⟨4, ![1, 128, 3, 3072]⟩
abbrev S1x4x3072 : Shape := ⟨3, ![1, 4, 3072]⟩
abbrev S1x3072 : Shape := ⟨2, ![1, 3072]⟩
abbrev S1x32 : Shape := ⟨2, ![1, 32]⟩
abbrev S128x3x3072 : Shape := ⟨3, ![128, 3, 3072]⟩
abbrev S128x3072 : Shape := ⟨2, ![128, 3072]⟩
abbrev S128x1x3072 : Shape := ⟨3, ![128, 1, 3072]⟩
abbrev S128x4x3072 : Shape := ⟨3, ![128, 4, 3072]⟩
abbrev S1x1x3072 : Shape := ⟨3, ![1, 1, 3072]⟩
abbrev S3072 : Shape := ⟨1, ![3072]⟩
abbrev S_ : Shape := ⟨0, ![]⟩
abbrev S128x32 : Shape := ⟨2, ![128, 32]⟩
abbrev S32 : Shape := ⟨1, ![32]⟩
abbrev S128x32x1 : Shape := ⟨3, ![128, 32, 1]⟩
abbrev S128x32x64 : Shape := ⟨3, ![128, 32, 64]⟩
abbrev S128x2048 : Shape := ⟨2, ![128, 2048]⟩
abbrev S32x128 : Shape := ⟨2, ![32, 128]⟩
abbrev S32x128x1 : Shape := ⟨3, ![32, 128, 1]⟩
abbrev S32x128x128 : Shape := ⟨3, ![32, 128, 128]⟩

abbrev nBuf : Space → Nat
  | .hbm => 85
  | .vmem => 0
  | .smem => 0
  | _ => 0

abbrev bufTy : (tb : Table) → Fin (tcTables nBuf tb) → BufTy
  | .hbm, ⟨0, _⟩ => ⟨S128x5120, .f32⟩
  | .hbm, ⟨1, _⟩ => ⟨S128x128, .f32⟩
  | .hbm, ⟨2, _⟩ => ⟨S1x128x3x3072, .f32⟩
  | .hbm, ⟨3, _⟩ => ⟨S1x4x3072, .f32⟩
  | .hbm, ⟨4, _⟩ => ⟨S1x3072, .f32⟩
  | .hbm, ⟨5, _⟩ => ⟨S1x32, .f32⟩
  | .hbm, ⟨6, _⟩ => ⟨S1x32, .f32⟩
  | .hbm, ⟨7, _⟩ => ⟨S128x3x3072, .f32⟩
  | .hbm, ⟨8, _⟩ => ⟨S128x3072, .f32⟩
  | .hbm, ⟨9, _⟩ => ⟨S128x1x3072, .f32⟩
  | .hbm, ⟨10, _⟩ => ⟨S128x4x3072, .f32⟩
  | .hbm, ⟨11, _⟩ => ⟨S128x1x3072, .f32⟩
  | .hbm, ⟨12, _⟩ => ⟨S128x3072, .f32⟩
  | .hbm, ⟨13, _⟩ => ⟨S1x1x3072, .f32⟩
  | .hbm, ⟨14, _⟩ => ⟨S3072, .f32⟩
  | .hbm, ⟨15, _⟩ => ⟨S1x3072, .f32⟩
  | .hbm, ⟨16, _⟩ => ⟨S128x3072, .f32⟩
  | .hbm, ⟨17, _⟩ => ⟨S128x3072, .f32⟩
  | .hbm, ⟨18, _⟩ => ⟨S_, .f32⟩
  | .hbm, ⟨19, _⟩ => ⟨S128x3072, .f32⟩
  | .hbm, ⟨20, _⟩ => ⟨S128x3072, .f32⟩
  | .hbm, ⟨21, _⟩ => ⟨S128x1x3072, .f32⟩
  | .hbm, ⟨22, _⟩ => ⟨S128x3072, .f32⟩
  | .hbm, ⟨23, _⟩ => ⟨S1x1x3072, .f32⟩
  | .hbm, ⟨24, _⟩ => ⟨S3072, .f32⟩
  | .hbm, ⟨25, _⟩ => ⟨S1x3072, .f32⟩
  | .hbm, ⟨26, _⟩ => ⟨S128x3072, .f32⟩
  | .hbm, ⟨27, _⟩ => ⟨S128x3072, .f32⟩
  | .hbm, ⟨28, _⟩ => ⟨S128x3072, .f32⟩
  | .hbm, ⟨29, _⟩ => ⟨S128x1x3072, .f32⟩
  | .hbm, ⟨30, _⟩ => ⟨S128x3072, .f32⟩
  | .hbm, ⟨31, _⟩ => ⟨S1x1x3072, .f32⟩
  | .hbm, ⟨32, _⟩ => ⟨S3072, .f32⟩
  | .hbm, ⟨33, _⟩ => ⟨S1x3072, .f32⟩
  | .hbm, ⟨34, _⟩ => ⟨S128x3072, .f32⟩
  | .hbm, ⟨35, _⟩ => ⟨S128x3072, .f32⟩
  | .hbm, ⟨36, _⟩ => ⟨S128x3072, .f32⟩
  | .hbm, ⟨37, _⟩ => ⟨S128x1x3072, .f32⟩
  | .hbm, ⟨38, _⟩ => ⟨S128x3072, .f32⟩
  | .hbm, ⟨39, _⟩ => ⟨S1x1x3072, .f32⟩
  | .hbm, ⟨40, _⟩ => ⟨S3072, .f32⟩
  | .hbm, ⟨41, _⟩ => ⟨S1x3072, .f32⟩
  | .hbm, ⟨42, _⟩ => ⟨S128x3072, .f32⟩
  | .hbm, ⟨43, _⟩ => ⟨S128x3072, .f32⟩
  | .hbm, ⟨44, _⟩ => ⟨S128x3072, .f32⟩
  | .hbm, ⟨45, _⟩ => ⟨S3072, .f32⟩
  | .hbm, ⟨46, _⟩ => ⟨S1x3072, .f32⟩
  | .hbm, ⟨47, _⟩ => ⟨S128x3072, .f32⟩
  | .hbm, ⟨48, _⟩ => ⟨S128x3072, .f32⟩
  | .hbm, ⟨49, _⟩ => ⟨S128x32, .f32⟩
  | .hbm, ⟨50, _⟩ => ⟨S32, .f32⟩
  | .hbm, ⟨51, _⟩ => ⟨S1x32, .f32⟩
  | .hbm, ⟨52, _⟩ => ⟨S128x32, .f32⟩
  | .hbm, ⟨53, _⟩ => ⟨S128x32, .f32⟩
  | .hbm, ⟨54, _⟩ => ⟨S_, .f32⟩
  | .hbm, ⟨55, _⟩ => ⟨S128x32, .f32⟩
  | .hbm, ⟨56, _⟩ => ⟨S128x32, .f32⟩
  | .hbm, ⟨57, _⟩ => ⟨S128x32, .f32⟩
  | .hbm, ⟨58, _⟩ => ⟨S128x32, .f32⟩
  | .hbm, ⟨59, _⟩ => ⟨S128x32, .f32⟩
  | .hbm, ⟨60, _⟩ => ⟨S128x32, .f32⟩
  | .hbm, ⟨61, _⟩ => ⟨S128x32, .f32⟩
  | .hbm, ⟨62, _⟩ => ⟨S32, .f32⟩
  | .hbm, ⟨63, _⟩ => ⟨S32, .f32⟩
  | .hbm, ⟨64, _⟩ => ⟨S32, .f32⟩
  | .hbm, ⟨65, _⟩ => ⟨S1x32, .f32⟩
  | .hbm, ⟨66, _⟩ => ⟨S128x32, .f32⟩
  | .hbm, ⟨67, _⟩ => ⟨S128x32, .f32⟩
  | .hbm, ⟨68, _⟩ => ⟨S128x32, .f32⟩
  | .hbm, ⟨69, _⟩ => ⟨S128x32x1, .f32⟩
  | .hbm, ⟨70, _⟩ => ⟨S128x32x64, .f32⟩
  | .hbm, ⟨71, _⟩ => ⟨S128x2048, .f32⟩
  | .hbm, ⟨72, _⟩ => ⟨S128x3072, .f32⟩
  | .hbm, ⟨73, _⟩ => ⟨S128x3072, .f32⟩
  | .hbm, ⟨74, _⟩ => ⟨S_, .f32⟩
  | .hbm, ⟨75, _⟩ => ⟨S128x3072, .f32⟩
  | .hbm, ⟨76, _⟩ => ⟨S128x3072, .f32⟩
  | .hbm, ⟨77, _⟩ => ⟨S_, .f32⟩
  | .hbm, ⟨78, _⟩ => ⟨S128x3072, .f32⟩
  | .hbm, ⟨79, _⟩ => ⟨S128x3072, .f32⟩
  | .hbm, ⟨80, _⟩ => ⟨S128x3072, .f32⟩
  | .hbm, ⟨81, _⟩ => ⟨S128x3x3072, .f32⟩
  | .hbm, ⟨82, _⟩ => ⟨S32x128, .f32⟩
  | .hbm, ⟨83, _⟩ => ⟨S32x128x1, .f32⟩
  | .hbm, ⟨84, _⟩ => ⟨S32x128x128, .f32⟩
  | _, _ => ⟨S128x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_0 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_1 : Ref sig .tc := ⟨.hbm, 74, rfl⟩
abbrev main_v65 : Ref sig .tc := ⟨.hbm, 75, rfl⟩
abbrev main_v66 : Ref sig .tc := ⟨.hbm, 76, rfl⟩
abbrev main_cst_2 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩

abbrev nD : Nat := 1
abbrev τ : Topo := Topo.v7x

variable {F : FTy → Type} [FloatOps F]
-- ==== Kernel7.lean ====
abbrev S128x3072 : Shape := ⟨2, ![128, 3072]⟩
abbrev S128x5120 : Shape := ⟨2, ![128, 5120]⟩
abbrev S128x2048 : Shape := ⟨2, ![128, 2048]⟩
abbrev S32x128x128 : Shape := ⟨3, ![32, 128, 128]⟩
abbrev S1x128x32x64x128 : Shape := ⟨5, ![1, 128, 32, 64, 128]⟩
abbrev S1x32 : Shape := ⟨2, ![1, 32]⟩
abbrev S1x2048 : Shape := ⟨2, ![1, 2048]⟩
abbrev S128x32x64x128 : Shape := ⟨4, ![128, 32, 64, 128]⟩
abbrev S32 : Shape := ⟨1, ![32]⟩
abbrev S32x64 : Shape := ⟨2, ![32, 64]⟩
abbrev S2048 : Shape := ⟨1, ![2048]⟩
abbrev S16x512 : Shape := ⟨2, ![16, 512]⟩
abbrev S16x128 : Shape := ⟨2, ![16, 128]⟩
abbrev S8x16x128 : Shape := ⟨3, ![8, 16, 128]⟩
abbrev S16x8x64x128 : Shape := ⟨4, ![16, 8, 64, 128]⟩
abbrev S1x512 : Shape := ⟨2, ![1, 512]⟩
abbrev S32x512 : Shape := ⟨2, ![32, 512]⟩
abbrev S128x512 : Shape := ⟨2, ![128, 512]⟩
abbrev S128x128 : Shape := ⟨2, ![128, 128]⟩
abbrev S512x128 : Shape := ⟨2, ![512, 128]⟩
abbrev S32x128 : Shape := ⟨2, ![32, 128]⟩
abbrev S1x1x128 : Shape := ⟨3, ![1, 1, 128]⟩
abbrev S1x128 : Shape := ⟨2, ![1, 128]⟩
abbrev S1x1x64x128 : Shape := ⟨4, ![1, 1, 64, 128]⟩
abbrev S64x128 : Shape := ⟨2, ![64, 128]⟩
abbrev S16 : Shape := ⟨1, ![16]⟩
abbrev S16x1 : Shape := ⟨2, ![16, 1]⟩

abbrev nBuf : Space → Nat
  | .hbm => 16
  | .vmem => 22
  | .smem => 0
  | _ => 0

abbrev bufTy : (tb : Table) → Fin (tcTables nBuf tb) → BufTy
  | .hbm, ⟨0, _⟩ => ⟨S128x3072, .f32⟩
  | .hbm, ⟨1, _⟩ => ⟨S128x5120, .f32⟩
  | .hbm, ⟨2, _⟩ => ⟨S128x2048, .f32⟩
  | .hbm, ⟨3, _⟩ => ⟨S32x128x128, .f32⟩
  | .hbm, ⟨4, _⟩ => ⟨S1x128x32x64x128, .f32⟩
  | .hbm, ⟨5, _⟩ => ⟨S1x32, .f32⟩
  | .hbm, ⟨6, _⟩ => ⟨S1x2048, .f32⟩
  | .hbm, ⟨7, _⟩ => ⟨S128x32x64x128, .f32⟩
  | .hbm, ⟨8, _⟩ => ⟨S32, .f32⟩
  | .hbm, ⟨9, _⟩ => ⟨S32x64, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S128x2048, .f32⟩
  | .hbm, ⟨15, _⟩ => ⟨S128x32x64x128, .f32⟩
  | .local _ .vmem, ⟨0, _⟩ => ⟨S16x512, .f32⟩
  | .local _ .vmem, ⟨1, _⟩ => ⟨S16x512, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S8x16x128, .f32⟩
  | .local _ .vmem, ⟨11, _⟩ => ⟨S8x16x128, .f32⟩
  | .local _ .vmem, ⟨12, _⟩ => ⟨S16x8x64x128, .f32⟩
  | .local _ .vmem, ⟨13, _⟩ => ⟨S16x8x64x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S16x512, .f32⟩
  | .local _ .vmem, ⟨19, _⟩ => ⟨S16x512, .f32⟩
  | .local _ .vmem, ⟨20, _⟩ => ⟨S16x8x64x128, .f32⟩
  | .local _ .vmem, ⟨21, _⟩ => ⟨S16x8x64x128, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S128x3072 : Shape := ⟨2, ![128, 3072]⟩
abbrev S128x5120 : Shape := ⟨2, ![128, 5120]⟩
abbrev S128x2048 : Shape := ⟨2, ![128, 2048]⟩
abbrev S32x128x128 : Shape := ⟨3, ![32, 128, 128]⟩
abbrev S1x128x32x64x128 : Shape := ⟨5, ![1, 128, 32, 64, 128]⟩
abbrev S1x32 : Shape := ⟨2, ![1, 32]⟩
abbrev S1x2048 : Shape := ⟨2, ![1, 2048]⟩
abbrev S128x512 : Shape := ⟨2, ![128, 512]⟩
abbrev S128x4x8x64 : Shape := ⟨4, ![128, 4, 8, 64]⟩
abbrev S128x32x128 : Shape := ⟨3, ![128, 32, 128]⟩
abbrev S128x4x8x1x128 : Shape := ⟨5, ![128, 4, 8, 1, 128]⟩
abbrev S128x32x64x128 : Shape := ⟨4, ![128, 32, 64, 128]⟩
abbrev S128x4x8x64x128 : Shape := ⟨5, ![128, 4, 8, 64, 128]⟩
abbrev S128x4x8x64x1 : Shape := ⟨5, ![128, 4, 8, 64, 1]⟩
abbrev S128x4x1x1x128 : Shape := ⟨5, ![128, 4, 1, 1, 128]⟩
abbrev S_ : Shape := ⟨0, ![]⟩
abbrev S32 : Shape := ⟨1, ![32]⟩
abbrev S4x8 : Shape := ⟨2, ![4, 8]⟩
abbrev S4x8x1 : Shape := ⟨3, ![4, 8, 1]⟩
abbrev S1x4x8x1 : Shape := ⟨4, ![1, 4, 8, 1]⟩
abbrev S128x4x512 : Shape := ⟨3, ![128, 4, 512]⟩
abbrev S128x4 : Shape := ⟨2, ![128, 4]⟩
abbrev S128x4x1 : Shape := ⟨3, ![128, 4, 1]⟩
abbrev S2048 : Shape := ⟨1, ![2048]⟩
abbrev S4x512 : Shape := ⟨2, ![4, 512]⟩
abbrev S1x4x512 : Shape := ⟨3, ![1, 4, 512]⟩

abbrev nBuf : Space → Nat
  | .hbm => 70
  | .vmem => 0
  | .smem => 0
  | _ => 0

abbrev bufTy : (tb : Table) → Fin (tcTables nBuf tb) → BufTy
  | .hbm, ⟨0, _⟩ => ⟨S128x3072, .f32⟩
  | .hbm, ⟨1, _⟩ => ⟨S128x5120, .f32⟩
  | .hbm, ⟨2, _⟩ => ⟨S128x2048, .f32⟩
  | .hbm, ⟨3, _⟩ => ⟨S32x128x128, .f32⟩
  | .hbm, ⟨4, _⟩ => ⟨S1x128x32x64x128, .f32⟩
  | .hbm, ⟨5, _⟩ => ⟨S1x32, .f32⟩
  | .hbm, ⟨6, _⟩ => ⟨S1x2048, .f32⟩
  | .hbm, ⟨7, _⟩ => ⟨S128x2048, .f32⟩
  | .hbm, ⟨8, _⟩ => ⟨S128x512, .f32⟩
  | .hbm, ⟨9, _⟩ => ⟨S128x512, .f32⟩
  | .hbm, ⟨10, _⟩ => ⟨S128x2048, .f32⟩
  | .hbm, ⟨11, _⟩ => ⟨S128x4x8x64, .f32⟩
  | .hbm, ⟨12, _⟩ => ⟨S128x32x128, .f32⟩
  | .hbm, ⟨13, _⟩ => ⟨S128x4x8x1x128, .f32⟩
  | .hbm, ⟨14, _⟩ => ⟨S128x32x64x128, .f32⟩
  | .hbm, ⟨15, _⟩ => ⟨S128x4x8x64x128, .f32⟩
  | .hbm, ⟨16, _⟩ => ⟨S128x4x8x64x128, .f32⟩
  | .hbm, ⟨17, _⟩ => ⟨S128x4x8x64x128, .f32⟩
  | .hbm, ⟨18, _⟩ => ⟨S128x4x8x64x1, .f32⟩
  | .hbm, ⟨19, _⟩ => ⟨S128x4x1x1x128, .f32⟩
  | .hbm, ⟨20, _⟩ => ⟨S128x4x8x64x128, .f32⟩
  | .hbm, ⟨21, _⟩ => ⟨S128x4x8x64x128, .f32⟩
  | .hbm, ⟨22, _⟩ => ⟨S128x4x8x64x128, .f32⟩
  | .hbm, ⟨23, _⟩ => ⟨S128x4x8x64x128, .f32⟩
  | .hbm, ⟨24, _⟩ => ⟨S128x4x1x1x128, .f32⟩
  | .hbm, ⟨25, _⟩ => ⟨S128x4x8x64x128, .f32⟩
  | .hbm, ⟨26, _⟩ => ⟨S128x4x8x64x128, .f32⟩
  | .hbm, ⟨27, _⟩ => ⟨S_, .f32⟩
  | .hbm, ⟨28, _⟩ => ⟨S128x4x8x64, .f32⟩
  | .hbm, ⟨29, _⟩ => ⟨S32, .f32⟩
  | .hbm, ⟨30, _⟩ => ⟨S4x8, .f32⟩
  | .hbm, ⟨31, _⟩ => ⟨S4x8x1, .f32⟩
  | .hbm, ⟨32, _⟩ => ⟨S128x4x8x64, .f32⟩
  | .hbm, ⟨33, _⟩ => ⟨S1x4x8x1, .f32⟩
  | .hbm, ⟨34, _⟩ => ⟨S128x4x8x64, .f32⟩
  | .hbm, ⟨35, _⟩ => ⟨S128x4x8x64, .f32⟩
  | .hbm, ⟨36, _⟩ => ⟨S128x4x8x64, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S_, .f32⟩
  | .hbm, ⟨42, _⟩ => ⟨S128x2048, .f32⟩
  | .hbm, ⟨43, _⟩ => ⟨S128x2048, .f32⟩
  | .hbm, ⟨44, _⟩ => ⟨S_, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S128x2048, .f32⟩
  | .hbm, ⟨49, _⟩ => ⟨S128x4x512, .f32⟩
  | .hbm, ⟨50, _⟩ => ⟨S128x4x512, .f32⟩
  | .hbm, ⟨51, _⟩ => ⟨S_, .f32⟩
  | .hbm, ⟨52, _⟩ => ⟨S128x4, .f32⟩
  | .hbm, ⟨53, _⟩ => ⟨S128x4x1, .f32⟩
  | .hbm, ⟨54, _⟩ => ⟨S_, .f32⟩
  | .hbm, ⟨55, _⟩ => ⟨S128x4x1, .f32⟩
  | .hbm, ⟨56, _⟩ => ⟨S128x4x1, .f32⟩
  | .hbm, ⟨57, _⟩ => ⟨S_, .f32⟩
  | .hbm, ⟨58, _⟩ => ⟨S128x4x1, .f32⟩
  | .hbm, ⟨59, _⟩ => ⟨S128x4x1, .f32⟩
  | .hbm, ⟨60, _⟩ => ⟨S128x4x1, .f32⟩
  | .hbm, ⟨61, _⟩ => ⟨S128x4x512, .f32⟩
  | .hbm, ⟨62, _⟩ => ⟨S128x4x512, .f32⟩
  | .hbm, ⟨63, _⟩ => ⟨S2048, .f32⟩
  | .hbm, ⟨64, _⟩ => ⟨S4x512, .f32⟩
  | .hbm, ⟨65, _⟩ => ⟨S1x4x512, .f32⟩
  | .hbm, ⟨66, _⟩ => ⟨S128x4x512, .f32⟩
  | .hbm, ⟨67, _⟩ => ⟨S128x4x512, .f32⟩
  | .hbm, ⟨68, _⟩ => ⟨S128x2048, .f32⟩
  | .hbm, ⟨69, _⟩ => ⟨S128x32x64x128, .f32⟩
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Kernel8.lean ====
abbrev S128x3584 : Shape := ⟨2, ![128, 3584]⟩
abbrev S1x128x4x128x128 : Shape := ⟨5, ![1, 128, 4, 128, 128]⟩
abbrev S1x128x2x512 : Shape := ⟨4, ![1, 128, 2, 512]⟩
abbrev S2x512 : Shape := ⟨2, ![2, 512]⟩
abbrev S1x128 : Shape := ⟨2, ![1, 128]⟩
abbrev S1x3x512 : Shape := ⟨3, ![1, 3, 512]⟩
abbrev S128x4x128x128 : Shape := ⟨4, ![128, 4, 128, 128]⟩
abbrev S128x2x512 : Shape := ⟨3, ![128, 2, 512]⟩
abbrev S128x1024 : Shape := ⟨2, ![128, 1024]⟩
abbrev S128 : Shape := ⟨1, ![128]⟩
abbrev S3x512 : Shape := ⟨2, ![3, 512]⟩
abbrev S8x3584 : Shape := ⟨2, ![8, 3584]⟩
abbrev S8x4x128x128 : Shape := ⟨4, ![8, 4, 128, 128]⟩
abbrev S8x1024 : Shape := ⟨2, ![8, 1024]⟩
abbrev S512 : Shape := ⟨1, ![512]⟩
abbrev S1x512 : Shape := ⟨2, ![1, 512]⟩
abbrev S8x128 : Shape := ⟨2, ![8, 128]⟩
abbrev S24x128 : Shape := ⟨2, ![24, 128]⟩
abbrev S32x128 : Shape := ⟨2, ![32, 128]⟩
abbrev S128x128 : Shape := ⟨2, ![128, 128]⟩
abbrev S104x128 : Shape := ⟨2, ![104, 128]⟩
abbrev S56x128 : Shape := ⟨2, ![56, 128]⟩
abbrev S72x128 : Shape := ⟨2, ![72, 128]⟩
abbrev S128x384 : Shape := ⟨2, ![128, 384]⟩
abbrev S1x1x128x128 : Shape := ⟨4, ![1, 1, 128, 128]⟩
abbrev S8 : Shape := ⟨1, ![8]⟩
abbrev S8x1 : Shape := ⟨2, ![8, 1]⟩
abbrev S8x512 : Shape := ⟨2, ![8, 512]⟩

abbrev nBuf : Space → Nat
  | .hbm => 15
  | .vmem => 15
  | .smem => 0
  | _ => 0

abbrev bufTy : (tb : Table) → Fin (tcTables nBuf tb) → BufTy
  | .hbm, ⟨0, _⟩ => ⟨S128x3584, .f32⟩
  | .hbm, ⟨1, _⟩ => ⟨S1x128x4x128x128, .f32⟩
  | .hbm, ⟨2, _⟩ => ⟨S1x128x2x512, .f32⟩
  | .hbm, ⟨3, _⟩ => ⟨S2x512, .f32⟩
  | .hbm, ⟨4, _⟩ => ⟨S1x128, .f32⟩
  | .hbm, ⟨5, _⟩ => ⟨S1x3x512, .f32⟩
  | .hbm, ⟨6, _⟩ => ⟨S128x4x128x128, .f32⟩
  | .hbm, ⟨7, _⟩ => ⟨S128x2x512, .f32⟩
  | .hbm, ⟨8, _⟩ => ⟨S128x1024, .f32⟩
  | .hbm, ⟨9, _⟩ => ⟨S128, .f32⟩
  | .hbm, ⟨10, _⟩ => ⟨S3x512, .f32⟩
  | .hbm, ⟨11, _⟩ => ⟨S1x128, .f32⟩
  | .hbm, ⟨12, _⟩ => ⟨S128x1024, .f32⟩
  | .hbm, ⟨13, _⟩ => ⟨S128x4x128x128, .f32⟩
  | .hbm, ⟨14, _⟩ => ⟨S128x1024, .f32⟩
  | .local _ .vmem, ⟨0, _⟩ => ⟨S8x3584, .f32⟩
  | .local _ .vmem, ⟨1, _⟩ => ⟨S8x3584, .f32⟩
  | .local _ .vmem, ⟨2, _⟩ => ⟨S8x4x128x128, .f32⟩
  | .local _ .vmem, ⟨3, _⟩ => ⟨S8x4x128x128, .f32⟩
  | .local _ .vmem, ⟨4, _⟩ => ⟨S8x1024, .f32⟩
  | .local _ .vmem, ⟨5, _⟩ => ⟨S8x1024, .f32⟩
  | .local _ .vmem, ⟨6, _⟩ => ⟨S2x512, .f32⟩
  | .local _ .vmem, ⟨7, _⟩ => ⟨S1x128, .f32⟩
  | .local _ .vmem, ⟨8, _⟩ => ⟨S3x512, .f32⟩
  | .local _ .vmem, ⟨9, _⟩ => ⟨S8x1024, .f32⟩
  | .local _ .vmem, ⟨10, _⟩ => ⟨S8x1024, .f32⟩
  | .local _ .vmem, ⟨11, _⟩ => ⟨S8x4x128x128, .f32⟩
  | .local _ .vmem, ⟨12, _⟩ => ⟨S8x4x128x128, .f32⟩
  | .local _ .vmem, ⟨13, _⟩ => ⟨S8x1024, .f32⟩
  | .local _ .vmem, ⟨14, _⟩ => ⟨S8x1024, .f32⟩
  | _, _ => ⟨S128x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S128x3584 : Shape := ⟨2, ![128, 3584]⟩
abbrev S1x128x4x128x128 : Shape := ⟨5, ![1, 128, 4, 128, 128]⟩
abbrev S1x128x2x512 : Shape := ⟨4, ![1, 128, 2, 512]⟩
abbrev S2x512 : Shape := ⟨2, ![2, 512]⟩
abbrev S1x128 : Shape := ⟨2, ![1, 128]⟩
abbrev S1x3x512 : Shape := ⟨3, ![1, 3, 512]⟩
abbrev S128x512 : Shape := ⟨2, ![128, 512]⟩
abbrev S_ : Shape := ⟨0, ![]⟩
abbrev S512 : Shape := ⟨1, ![512]⟩
abbrev S1x512 : Shape := ⟨2, ![1, 512]⟩
abbrev S128x4x128 : Shape := ⟨3, ![128, 4, 128]⟩
abbrev S128x4x128x1 : Shape := ⟨4, ![128, 4, 128, 1]⟩
abbrev S128x4x128x128 : Shape := ⟨4, ![128, 4, 128, 128]⟩
abbrev S128x4x1x128 : Shape := ⟨4, ![128, 4, 1, 128]⟩
abbrev S128x4 : Shape := ⟨2, ![128, 4]⟩
abbrev S128x4x1 : Shape := ⟨3, ![128, 4, 1]⟩
abbrev S128 : Shape := ⟨1, ![128]⟩
abbrev S1x1x128 : Shape := ⟨3, ![1, 1, 128]⟩
abbrev S128x2x512 : Shape := ⟨3, ![128, 2, 512]⟩
abbrev S128x1x512 : Shape := ⟨3, ![128, 1, 512]⟩
abbrev S128x3x512 : Shape := ⟨3, ![128, 3, 512]⟩
abbrev S1x1x512 : Shape := ⟨3, ![1, 1, 512]⟩
abbrev S128x1024 : Shape := ⟨2, ![128, 1024]⟩

abbrev nBuf : Space → Nat
  | .hbm => 141
  | .vmem => 0
  | .smem => 0
  | _ => 0

abbrev hbmTy0_0 (i : Nat) : BufTy := match i % 128 with
  | 0 => ⟨S128x3584, .f32⟩
  | 1 => ⟨S1x128x4x128x128, .f32⟩
  | 2 => ⟨S1x128x2x512, .f32⟩
  | 3 => ⟨S2x512, .f32⟩
  | 4 => ⟨S1x128, .f32⟩
  | 5 => ⟨S1x3x512, .f32⟩
  | 6 => ⟨S128x512, .f32⟩
  | 7 => ⟨S128x512, .f32⟩
  | 8 => ⟨S128x512, .f32⟩
  | 9 => ⟨S128x512, .f32⟩
  | 10 => ⟨S128x512, .f32⟩
  | 11 => ⟨S128x512, .f32⟩
  | 12 => ⟨S128x512, .f32⟩
  | 13 => ⟨S_, .f32⟩
  | 14 => ⟨S512, .f32⟩
  | 15 => ⟨S_, .f32⟩
  | 16 => ⟨S512, .f32⟩
  | 17 => ⟨S512, .f32⟩
  | 18 => ⟨S1x512, .f32⟩
  | 19 => ⟨S2x512, .f32⟩
  | 20 => ⟨S2x512, .f32⟩
  | 21 => ⟨S2x512, .f32⟩
  | 22 => ⟨S_, .f32⟩
  | 23 => ⟨S512, .f32⟩
  | 24 => ⟨S1x512, .f32⟩
  | 25 => ⟨S2x512, .f32⟩
  | 26 => ⟨S2x512, .f32⟩
  | 27 => ⟨S_, .f32⟩
  | 28 => ⟨S_, .f32⟩
  | 29 => ⟨S2x512, .f32⟩
  | 30 => ⟨S1x512, .f32⟩
  | 31 => ⟨S512, .f32⟩
  | 32 => ⟨S1x512, .f32⟩
  | 33 => ⟨S2x512, .f32⟩
  | 34 => ⟨S2x512, .f32⟩
  | 35 => ⟨S1x512, .f32⟩
  | 36 => ⟨S512, .f32⟩
  | 37 => ⟨S_, .f32⟩
  | 38 => ⟨S512, .f32⟩
  | 39 => ⟨S512, .f32⟩
  | 40 => ⟨S128x512, .f32⟩
  | 41 => ⟨S128x512, .f32⟩
  | 42 => ⟨S_, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S1x512, .f32⟩
  | 49 => ⟨S128x512, .f32⟩
  | 50 => ⟨S128x512, .f32⟩
  | 51 => ⟨S1x512, .f32⟩
  | 52 => ⟨S128x512, .f32⟩
  | 53 => ⟨S128x512, .f32⟩
  | 54 => ⟨S128x512, .f32⟩
  | 55 => ⟨S128x4x128, .f32⟩
  | 56 => ⟨S128x4x128, .f32⟩
  | 57 => ⟨S128x4x128x1, .f32⟩
  | 58 => ⟨S128x4x128x128, .f32⟩
  | 59 => ⟨S128x4x128x128, .f32⟩
  | 60 => ⟨S128x4x128x128, .f32⟩
  | 61 => ⟨S_, .f32⟩
  | 62 => ⟨S128x512, .f32⟩
  | 63 => ⟨S128x512, .f32⟩
  | 64 => ⟨S128x4x128, .f32⟩
  | 65 => ⟨S128x4x128x1, .f32⟩
  | 66 => ⟨S128x4x128, .f32⟩
  | 67 => ⟨S128x4x1x128, .f32⟩
  | 68 => ⟨S128x4x128x128, .f32⟩
  | 69 => ⟨S128x4x128x128, .f32⟩
  | 70 => ⟨S128x4x128x128, .f32⟩
  | 71 => ⟨S128x4x128x128, .f32⟩
  | 72 => ⟨S128x4x128, .f32⟩
  | 73 => ⟨S128x4x128x1, .f32⟩
  | 74 => ⟨S128x4x128x128, .f32⟩
  | 75 => ⟨S128x4x128x128, .f32⟩
  | 76 => ⟨S_, .f32⟩
  | 77 => ⟨S128x4x128, .f32⟩
  | 78 => ⟨S128x4x128, .f32⟩
  | 79 => ⟨S_, .f32⟩
  | 80 => ⟨S128x4, .f32⟩
  | 81 => ⟨S128x4x1, .f32⟩
  | 82 => ⟨S_, .f32⟩
  | 83 => ⟨S128x4x1, .f32⟩
  | 84 => ⟨S128x4x1, .f32⟩
  | 85 => ⟨S_, .f32⟩
  | 86 => ⟨S128x4x1, .f32⟩
  | 87 => ⟨S128x4x1, .f32⟩
  | 88 => ⟨S128x4x1, .f32⟩
  | 89 => ⟨S128x4x128, .f32⟩
  | 90 => ⟨S128x4x128, .f32⟩
  | 91 => ⟨S128, .f32⟩
  | 92 => ⟨S1x1x128, .f32⟩
  | 93 => ⟨S128x4x128, .f32⟩
  | 94 => ⟨S128x4x128, .f32⟩
  | 95 => ⟨S128x512, .f32⟩
  | 96 => ⟨S128x512, .f32⟩
  | 97 => ⟨S_, .f32⟩
  | 98 => ⟨S128x512, .f32⟩
  | 99 => ⟨S128x512, .f32⟩
  | 100 => ⟨S_, .f32⟩
  | 101 => ⟨S128x512, .f32⟩
  | 102 => ⟨S128x512, .f32⟩
  | 103 => ⟨S128x512, .f32⟩
  | 104 => ⟨S128x4x128, .f32⟩
  | 105 => ⟨S128x4x128, .f32⟩
  | 106 => ⟨S128x2x512, .f32⟩
  | 107 => ⟨S128x512, .f32⟩
  | 108 => ⟨S128x1x512, .f32⟩
  | 109 => ⟨S128x3x512, .f32⟩
  | 110 => ⟨S128x1x512, .f32⟩
  | 111 => ⟨S128x512, .f32⟩
  | 112 => ⟨S1x1x512, .f32⟩
  | 113 => ⟨S512, .f32⟩
  | 114 => ⟨S1x512, .f32⟩
  | 115 => ⟨S128x512, .f32⟩
  | 116 => ⟨S128x512, .f32⟩
  | 117 => ⟨S_, .f32⟩
  | 118 => ⟨S128x512, .f32⟩
  | 119 => ⟨S128x512, .f32⟩
  | 120 => ⟨S128x1x512, .f32⟩
  | 121 => ⟨S128x512, .f32⟩
  | 122 => ⟨S1x1x512, .f32⟩
  | 123 => ⟨S512, .f32⟩
  | 124 => ⟨S1x512, .f32⟩
  | 125 => ⟨S128x512, .f32⟩
  | 126 => ⟨S128x512, .f32⟩
  | 127 => ⟨S128x512, .f32⟩
  | _ => ⟨S128x3584, .f32⟩

abbrev hbmTy0_1 (i : Nat) : BufTy := match i % 128 with
  | 0 => ⟨S128x1x512, .f32⟩
  | 1 => ⟨S128x512, .f32⟩
  | 2 => ⟨S1x1x512, .f32⟩
  | 3 => ⟨S512, .f32⟩
  | 4 => ⟨S1x512, .f32⟩
  | 5 => ⟨S128x512, .f32⟩
  | 6 => ⟨S128x512, .f32⟩
  | 7 => ⟨S128x512, .f32⟩
  | 8 => ⟨S128x512, .f32⟩
  | 9 => ⟨S128x512, .f32⟩
  | 10 => ⟨S128x1024, .f32⟩
  | 11 => ⟨S128x2x512, .f32⟩
  | 12 => ⟨S128x1024, .f32⟩
  | _ => ⟨S128x3584, .f32⟩

abbrev hbmTy (i : Nat) : BufTy := match i / 128 with
  | 0 => hbmTy0_0 i
  | 1 => hbmTy0_1 i
  | _ => ⟨S128x3584, .f32⟩

abbrev bufTy : (tb : Table) → Fin (tcTables nBuf tb) → BufTy
  | .hbm, ⟨i, _⟩ => hbmTy i
  | _, _ => ⟨S128x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_call0_cst : Ref sig .tc := ⟨.hbm, 27, rfl⟩
abbrev main_call0_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩

abbrev nD : Nat := 1
abbrev τ : Topo := Topo.v7x

variable {F : FTy → Type} [FloatOps F]
-- ==== Kernel9.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x3072 : Shape := ⟨3, ![1, 1024, 3072]⟩
abbrev S1x1x3072 : Shape := ⟨3, ![1, 1, 3072]⟩
abbrev S1x136x3072 : Shape := ⟨3, ![1, 136, 3072]⟩
abbrev S1024x3072 : Shape := ⟨2, ![1024, 3072]⟩
abbrev S136x3072 : Shape := ⟨2, ![136, 3072]⟩
abbrev S1x3072 : Shape := ⟨2, ![1, 3072]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x136x3072, .f32⟩
  | .local _ .vmem, ⟨6, _⟩ => ⟨S1x136x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S128x6144 : Shape := ⟨2, ![128, 6144]⟩
abbrev S136x6144 : Shape := ⟨2, ![136, 6144]⟩
abbrev S1x136x6144 : Shape := ⟨3, ![1, 136, 6144]⟩
abbrev S2x136x6144 : Shape := ⟨3, ![2, 136, 6144]⟩

abbrev nBuf : Space → Nat
  | .hbm => 77
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x6144, .f32⟩
  | .hbm, ⟨14, _⟩ => ⟨S1024x6144, .f32⟩
  | .hbm, ⟨15, _⟩ => ⟨S8x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1x1024x6144, .f32⟩
  | .hbm, ⟨31, _⟩ => ⟨S1024x6144, .f32⟩
  | .hbm, ⟨32, _⟩ => ⟨S128x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S128x6144, .f32⟩
  | .hbm, ⟨37, _⟩ => ⟨S128x6144, .f32⟩
  | .hbm, ⟨38, _⟩ => ⟨S136x6144, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1x1024x6144, .f32⟩
  | .hbm, ⟨49, _⟩ => ⟨S1024x6144, .f32⟩
  | .hbm, ⟨50, _⟩ => ⟨S8x6144, .f32⟩
  | .hbm, ⟨51, _⟩ => ⟨S1x6144, .f32⟩
  | .hbm, ⟨52, _⟩ => ⟨S6144, .f32⟩
  | .hbm, ⟨53, _⟩ => ⟨S1x6144, .f32⟩
  | .hbm, ⟨54, _⟩ => ⟨S8x6144, .f32⟩
  | .hbm, ⟨55, _⟩ => ⟨S8x6144, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S1x1024x6144, .f32⟩
  | .hbm, ⟨66, _⟩ => ⟨S1024x6144, .f32⟩
  | .hbm, ⟨67, _⟩ => ⟨S128x6144, .f32⟩
  | .hbm, ⟨68, _⟩ => ⟨S1x6144, .f32⟩
  | .hbm, ⟨69, _⟩ => ⟨S6144, .f32⟩
  | .hbm, ⟨70, _⟩ => ⟨S1x6144, .f32⟩
  | .hbm, ⟨71, _⟩ => ⟨S128x6144, .f32⟩
  | .hbm, ⟨72, _⟩ => ⟨S128x6144, .f32⟩
  | .hbm, ⟨73, _⟩ => ⟨S136x6144, .f32⟩
  | .hbm, ⟨74, _⟩ => ⟨S1x136x6144, .f32⟩
  | .hbm, ⟨75, _⟩ => ⟨S1x136x6144, .f32⟩
  | .hbm, ⟨76, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Proof.RefRun.lean ====
/- The reference's run over the trips of its loop: what the loop's valuation holds before a trip is a state of `Step.step`
   iterated from `Step.init`, so the run's results are fields of the state after 64 trips. -/
module

public import proofs.«01_k».proof.Proof.Gen.ReferenceIdeal.Run
public import proofs.«01_k».proof.Proof.Gen.ReferenceIdeal.Step

@[expose] public section

set_option maxRecDepth 16384

noncomputable section

namespace Cert.Gla.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The loop's valuation before trip `j` holds the state `s`. -/
structure At (V : Valuation τ sig (Elt F)) (s : State F) (j : ℕ) : Prop where
  st : V (Proc.devRef .tc main_v6_4) = s.main_v6_4
  rows : V (Proc.devRef .tc main_v6_5) = s.main_v6_5
  xs : V (Proc.devRef .tc main_v6_0) = s.main_v6_0
  gain : V (Proc.devRef .tc main_v6_2) = s.main_v6_2
  trip : V (Proc.devRef .tc main_v6_3) = constantI S_ 32 (BitVec.ofNat 32 j)
  mask : V (Proc.devRef .tc main_v6_1) = K_main_v1 (F := F)

variable {V : Valuation τ sig (Elt F)} {s : State F} {j : ℕ}

theorem x_at (h : At V s j) : res_main_while0b_v10 V = b4 j s := by
  unfold res_main_while0b_v10 b4 b3; rw [h.xs, h.trip]; rfl
theorem k_at (h : At V s j) : res_main_while0b_v14 V = b8 j s := by
  unfold res_main_while0b_v14 b8 b7; rw [x_at h]
theorem v_at (h : At V s j) : res_main_while0b_v18 V = b12 j s := by
  unfold res_main_while0b_v18 b12 b11; rw [x_at h]
theorem b_at (h : At V s j) : res_main_while0b_v21 V = b17 j s := by
  unfold res_main_while0b_v21 b17 b10 b9; rw [x_at h]; rfl
theorem last_at (h : At V s j) : res_main_while0b_v22 V = b18 j s := by
  unfold res_main_while0b_v22 b18; rw [b_at h]
theorem qd_at (h : At V s j) : res_main_while0b_v24 V = b20 j s := by
  unfold res_main_while0b_v24 b20 b19 b6 b5; rw [x_at h, b_at h]
theorem o_at (h : At V s j) : res_main_while0b_v34 V = b34 j s := by
  unfold res_main_while0b_v34 b34 b33 b32 b31 b30 b29 b28 b27 b24 b23 b22 b21
  rw [b_at h, qd_at h, v_at h, k_at h, h.st, h.mask]; rfl

theorem st_at (h : At V s j) : step_main_v6_4 V = (step j s).main_v6_4 := by
  unfold Value.step_main_v6_4; rw [Step.step_main_v6_4, last_at h, b_at h, k_at h, v_at h, h.st]; rfl
theorem rows_at (h : At V s j) : step_main_v6_5 V = (step j s).main_v6_5 := by
  unfold Value.step_main_v6_5; rw [Step.step_main_v6_5, o_at h, x_at h, h.rows, h.gain, h.trip]; rfl
theorem trip_at (h : At V s j) : step_main_v6_3 V = constantI S_ 32 (BitVec.ofNat 32 (j + 1)) := by
  unfold step_main_v6_3; rw [h.trip]; funext i
  show BitVec.ofNat 32 j + 1#32 = BitVec.ofNat 32 (j + 1)
  simp only [BitVec.ofNat_add]

/-- One trip takes the state to the next. -/
theorem At.next (h : At V s j) : At (STEP V) (step j s) (j + 1) where
  st := (STEP_main_v6_4 V).trans (st_at h)
  rows := (STEP_main_v6_5 V).trans (rows_at h)
  xs := (STEP_main_v6_0 V).trans h.xs
  gain := (STEP_main_v6_2 V).trans h.gain
  trip := (STEP_main_v6_3 V).trans (trip_at h)
  mask := (STEP_main_v6_1 V).trans h.mask

theorem out_at (h : At V s j) : out_main_v9 V = R_main_v9 s := by
  unfold out_main_v9 R_main_v9; rw [h.rows]; rfl

/-- The state before trip `n`, from the two arguments. -/
def iter (gain : Vec F S1x128 .f32) (x : Vec F S8x2048x2560 .f32) : ℕ → State F
  | 0 => init gain x
  | n + 1 => step n (iter gain x n)

variable (m : (ℓ : Loc nD τ sig) → Buf (Elt F) ℓ) (c : Dev nD)

set_option maxRecDepth 65536 in
set_option maxHeartbeats 400000 in
theorem entry_at : At (entryContents preI m c)
    (init (m ((c.tc : Thread nD τ).loc main_arg1)) (m ((c.tc : Thread nD τ).loc main_arg0))) 0 := by
  constructor <;> (simp only [entryContents, afterL_cons, afterL_nil]; after_reads_simp) <;> rfl

theorem iter_at : ∀ n, At (STEP^[n] (entryContents preI m c))
    (iter (m ((c.tc : Thread nD τ).loc main_arg1)) (m ((c.tc : Thread nD τ).loc main_arg0)) n) n
  | 0 => entry_at m c
  | n + 1 => by rw [Function.iterate_succ_apply']; exact (iter_at n).next

/-- Every run ends with the two results read off the state after 64 trips, the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v9)
        = R_main_v9 (iter (m ((c.tc : Thread nD τ).loc main_arg1)) (m ((c.tc : Thread nD τ).loc main_arg0)) 64)
      ∧ r.2.mem ((c.tc : Thread nD τ).loc main_v6_4)
        = (iter (m ((c.tc : Thread nD τ).loc main_arg1)) (m ((c.tc : Thread nD τ).loc main_arg0)) 64).main_v6_4
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := iter_at m c 64
    ⟨(h c).1.trans (out_at hk), (h c).2.1.trans hk.st, (h c).2.2.1, (h c).2.2.2⟩) (Value.run m ρ)

end Cert.Gla.RefRun

end
-- ==== Proof.Tile.lean ====
/- One tile of the kernel: 256 rows of one head, eight chunks of 32 rows. The kernel's body runs sixteen of them per grid point;
   every value it stores is one of these terms at the rows it loaded and the state the tile before left. -/
module

public import proofs.«01_k».proof.Proof.Gen.KernelIdeal.Skeleton

@[expose] public section

set_option maxRecDepth 16384

noncomputable section

namespace Cert.Gla

open Idealize.ShloMosaic Cert.KernelIdeal Cert.KernelIdeal.Gen

variable {F : FTy → Type} [FloatOps F]

/-- Row `i` sees row `j` of its own chunk when `j ≤ i`. -/
def segMask : IVec S256x256 1 :=
  andi (cmpi .sle (iota .tc S256x256 32 [1] iota_S256x256_d1_w32) (iota .tc S256x256 32 [0] iota_S256x256_d0_w32))
    (cmpi .sge (iota .tc S256x256 32 [1] iota_S256x256_d1_w32)
      (shli (shrsi (iota .tc S256x256 32 [0] iota_S256x256_d0_w32) (broadcast S256x256 5#32)) (broadcast S256x256 5#32)))

/-- The mask as zeros and ones. -/
def segOnes : FVec F S256x256 .bf16 :=
  truncf .bf16 (select segMask (broadcast S256x256 (Scalar.ofBits .f32 0x3F800000#32 : F .f32))
    (broadcast S256x256 (Scalar.ofBits .f32 0x00000000#32 : F .f32))) bitsLt_bf16_f32

/-- The first part of the three the log decays are split in, and what is left of them. -/
def hi (x : FVec F S256x512 .f32) : FVec F S256x512 .bf16 := truncf .bf16 x bitsLt_bf16_f32
def rest (x : FVec F S256x512 .f32) : FVec F S256x512 .f32 := subf x (extf .f32 (hi x) bitsLt_bf16_f32)

/-- The masked sum of one part's rows. -/
def segDot (x : FVec F S256x512 .bf16) : FVec F S256x512 .f32 :=
  matmul dot_S256x256_S256x512_S256x512_1_0_0_1_n_n none segOnes x (constant S256x512 .f32 0x00000000#32)

/-- The log decays summed over the rows a row sees, all heads. -/
def bAll (x : FVec F S256x512 .f32) : FVec F S256x512 .f32 :=
  addf (addf (segDot (hi x)) (segDot (hi (rest x)))) (segDot (hi (rest (rest x))))

/-- The decayed queries. -/
def qd (q b : FVec F S256x128 .f32) : FVec F S256x128 .f32 := mulf q (exp b)

/-- The part of a row's output that comes from rows of its own chunk. -/
def oIntra (q k v b : FVec F S256x128 .f32) : FVec F S256x128 .f32 :=
  matmul dot_S256x256_S256x128_S256x128_1_0_0_1_n_n none
    (truncf .bf16 (select segMask
      (matmul dot_S256x128_S256x128_S256x256_1_1_0_0_n_n none (truncf .bf16 (qd q b) bitsLt_bf16_f32)
        (truncf .bf16 (mulf k (exp (subf (broadcast S256x128 (Scalar.ofBits .f32 0x00000000#32 : F .f32)) b))) bitsLt_bf16_f32)
        (constant S256x256 .f32 0x00000000#32))
      (broadcast S256x256 (Scalar.ofBits .f32 0x00000000#32 : F .f32))) bitsLt_bf16_f32)
    (truncf .bf16 v bitsLt_bf16_f32) (constant S256x128 .f32 0x00000000#32)

/-- Offset `32 n` takes 32 of the 256 rows; the last of them is row `32 n + 31`; block `n` of the eight states. -/
theorem sl32 (n : ℕ) (hn : n < 8) : S256x128.Slices ![32 * n, 0] S32x128 :=
  (by decide : ∀ n : Fin 8, S256x128.Slices ![32 * n.val, 0] S32x128) ⟨n, hn⟩
theorem slLast (n : ℕ) (hn : n < 8) : S256x128.Slices ![32 * n + 31, 0] S1x128 :=
  (by decide : ∀ n : Fin 8, S256x128.Slices ![32 * n.val + 31, 0] S1x128) ⟨n, hn⟩
theorem slState (n : ℕ) (hn : n < 8) : S128x1024.Slices ![0, 128 * n] S128x128 :=
  (by decide : ∀ n : Fin 8, S128x1024.Slices ![0, 128 * n.val] S128x128) ⟨n, hn⟩

/-- The summed log decay at the end of chunk `n`. -/
def bLast (b : FVec F S256x128 .f32) (n : ℕ) (hn : n < 8) : FVec F S1x128 .f32 :=
  extractStridedSlice S1x128 ![32 * n + 31, 0] b (slLast n hn)

/-- Chunk `n`'s keys, each decayed from its row to the chunk's end. -/
def kEnd (k b : FVec F S256x128 .f32) (n : ℕ) (hn : n < 8) : FVec F S32x128 .bf16 :=
  truncf .bf16 (mulf (extractStridedSlice S32x128 ![32 * n, 0] k (sl32 n hn))
    (exp (subf (broadcastTo S32x128 (bLast b n hn) broadcasts_S1x128_S32x128) (extractStridedSlice S32x128 ![32 * n, 0] b (sl32 n hn)))))
    bitsLt_bf16_f32

/-- A block of zero rows. -/
abbrev zr (S : Shape) : FVec F S .bf16 := broadcast S (Scalar.ofBits .bf16 0x0000#16 : F .bf16)

/-- The eight chunks' keys, each among zero rows, side by side. -/
def kCols (k b : FVec F S256x128 .f32) : FVec F S256x1024 .bf16 :=
  concatenate S256x1024 1 [
    ⟨S256x128, concatenate S256x128 0 [⟨S32x128, kEnd k b 0 (by decide)⟩, ⟨S224x128, zr S224x128⟩] concatenates_S32x128_S224x128_S256x128_d0⟩,
    ⟨S256x128, concatenate S256x128 0 [⟨S32x128, zr S32x128⟩, ⟨S32x128, kEnd k b 1 (by decide)⟩, ⟨S192x128, zr S192x128⟩] concatenates_S32x128_S32x128_S192x128_S256x128_d0⟩,
    ⟨S256x128, concatenate S256x128 0 [⟨S64x128, zr S64x128⟩, ⟨S32x128, kEnd k b 2 (by decide)⟩, ⟨S160x128, zr S160x128⟩] concatenates_S64x128_S32x128_S160x128_S256x128_d0⟩,
    ⟨S256x128, concatenate S256x128 0 [⟨S96x128, zr S96x128⟩, ⟨S32x128, kEnd k b 3 (by decide)⟩, ⟨S128x128, zr S128x128⟩] concatenates_S96x128_S32x128_S128x128_S256x128_d0⟩,
    ⟨S256x128, concatenate S256x128 0 [⟨S128x128, zr S128x128⟩, ⟨S32x128, kEnd k b 4 (by decide)⟩, ⟨S96x128, zr S96x128⟩] concatenates_S128x128_S32x128_S96x128_S256x128_d0⟩,
    ⟨S256x128, concatenate S256x128 0 [⟨S160x128, zr S160x128⟩, ⟨S32x128, kEnd k b 5 (by decide)⟩, ⟨S64x128, zr S64x128⟩] concatenates_S160x128_S32x128_S64x128_S256x128_d0⟩,
    ⟨S256x128, concatenate S256x128 0 [⟨S192x128, zr S192x128⟩, ⟨S32x128, kEnd k b 6 (by decide)⟩, ⟨S32x128, zr S32x128⟩] concatenates_S192x128_S32x128_S32x128_S256x128_d0⟩,
    ⟨S256x128, concatenate S256x128 0 [⟨S224x128, zr S224x128⟩, ⟨S32x128, kEnd k b 7 (by decide)⟩] concatenates_S224x128_S32x128_S256x128_d0⟩]
    concatenates_S256x128_S256x128_S256x128_S256x128_S256x128_S256x128_S256x128_S256x128_S256x1024_d1

/-- What each chunk adds to the state (values by keys), side by side. -/
def dState (k v b : FVec F S256x128 .f32) : FVec F S128x1024 .f32 :=
  matmul dot_S128x256_S256x1024_S128x1024_1_0_0_1_n_n none
    (truncf .bf16 (transpose S128x256 [1, 0] v transposes_S256x128_p1_0_S128x256) bitsLt_bf16_f32) (kCols k b)
    (constant S128x1024 .f32 0x00000000#32)

/-- The state after chunk `n`, from the state before it. -/
def stNext (d : FVec F S128x1024 .f32) (b : FVec F S256x128 .f32) (n : ℕ) (hn : n < 8) (s : FVec F S128x128 .f32) : FVec F S128x128 .f32 :=
  addf (mulf s (broadcastTo S128x128 (exp (bLast b n hn)) broadcasts_S1x128_S128x128))
    (extractStridedSlice S128x128 ![0, 128 * n] d (slState n hn))

/-- The state after the first `n` chunks. -/
def stAfter (d : FVec F S128x1024 .f32) (b : FVec F S256x128 .f32) (s : FVec F S128x128 .f32) : (n : ℕ) → n ≤ 8 → FVec F S128x128 .f32
  | 0, _ => s
  | n + 1, h => stNext d b n h (stAfter d b s n (Nat.le_of_succ_le h))

/-- Chunk `n`'s queries on a state. -/
def inter (qd : FVec F S256x128 .f32) (n : ℕ) (hn : n < 8) (s : FVec F S128x128 .f32) : FVec F S32x128 .f32 :=
  matmul dot_S32x128_S128x128_S32x128_1_1_0_0_n_n none
    (truncf .bf16 (extractStridedSlice S32x128 ![32 * n, 0] qd (sl32 n hn)) bitsLt_bf16_f32) (truncf .bf16 s bitsLt_bf16_f32)
    (constant S32x128 .f32 0x00000000#32)

/-- The eight chunks' outputs from the state each starts from. -/
def oInter (q : FVec F S256x128 .f32) (d : FVec F S128x1024 .f32) (b : FVec F S256x128 .f32) (s : FVec F S128x128 .f32) : FVec F S256x128 .f32 :=
  concatenate S256x128 0 [
    ⟨S32x128, inter (qd q b) 0 (by decide) (stAfter d b s 0 (by decide))⟩,
    ⟨S32x128, inter (qd q b) 1 (by decide) (stAfter d b s 1 (by decide))⟩,
    ⟨S32x128, inter (qd q b) 2 (by decide) (stAfter d b s 2 (by decide))⟩,
    ⟨S32x128, inter (qd q b) 3 (by decide) (stAfter d b s 3 (by decide))⟩,
    ⟨S32x128, inter (qd q b) 4 (by decide) (stAfter d b s 4 (by decide))⟩,
    ⟨S32x128, inter (qd q b) 5 (by decide) (stAfter d b s 5 (by decide))⟩,
    ⟨S32x128, inter (qd q b) 6 (by decide) (stAfter d b s 6 (by decide))⟩,
    ⟨S32x128, inter (qd q b) 7 (by decide) (stAfter d b s 7 (by decide))⟩]
    concatenates_S32x128_S32x128_S32x128_S32x128_S32x128_S32x128_S32x128_S32x128_S256x128_d0

/-- The rows' outputs before the norm. -/
def oRaw (q k v b : FVec F S256x128 .f32) (s : FVec F S128x128 .f32) : FVec F S256x128 .f32 :=
  addf (oIntra q k v b) (oInter q (dState k v b) b s)

/-- The norm over a head's columns, the gain and the gate. -/
def normed (o sg : FVec F S256x128 .f32) (gn : FVec F S1x128 .f32) : FVec F S256x128 .f32 :=
  mulf (mulf (mulf o (broadcastTo S256x128 (rsqrt (addf (divf
      (shapeCast S256x1 (multiReduction .add [1] S256 (mulf o o) 0x00000000#32 reduces_S256x128_S256 (.inl rfl) rfl) shapeCasts_S256_S256x1)
      (broadcast S256x1 (Scalar.ofBits .f32 0x43000000#32 : F .f32))) (broadcast S256x1 (Scalar.ofBits .f32 0x358637BD#32 : F .f32))))
      broadcasts_S256x1_S256x128)) (broadcastTo S256x128 gn broadcasts_S1x128_S256x128)) sg

/-! ## The loads: one head's columns of a block of rows, and what a tile stores -/

/-- The 256 rows of block `sub` in columns `c … c + 128` of a point's input block, and of all heads' log decays. -/
theorem inbCol (sub : ℕ) (hs : sub < 4) (c : ℕ) (hc : c ≤ 2432) :
    ∀ a, (![0, 256 * sub, c] : Fin 3 → ℕ) a + S1x256x128.size a ≤ S1x1024x2560.size a := fun a => by
  match a with
  | 0 => exact Nat.le_of_ble_eq_true rfl
  | 1 => show 256 * sub + 256 ≤ 1024; omega
  | 2 => show c + 128 ≤ 2560; omega
theorem inbLog (sub : ℕ) (hs : sub < 4) :
    ∀ a, (![0, 256 * sub, 1024] : Fin 3 → ℕ) a + S1x256x512.size a ≤ S1x1024x2560.size a := fun a => by
  match a with
  | 0 => exact Nat.le_of_ble_eq_true rfl
  | 1 => show 256 * sub + 256 ≤ 1024; omega
  | 2 => exact Nat.le_of_ble_eq_true rfl
theorem inbOut (sub : ℕ) (hs : sub < 4) (h : ℕ) (hh : h < 4) :
    ∀ a, (![0, 256 * sub, 128 * h] : Fin 3 → ℕ) a + S1x256x128.size a ≤ S1x1024x512.size a := fun a => by
  match a with
  | 0 => exact Nat.le_of_ble_eq_true rfl
  | 1 => show 256 * sub + 256 ≤ 1024; omega
  | 2 => show 128 * h + 128 ≤ 512; omega
theorem inbHead (h : ℕ) (hh : h < 4) :
    ∀ a, (![h, 0, 0] : Fin 3 → ℕ) a + S1x128x128.size a ≤ S4x128x128.size a := fun a => by
  match a with
  | 0 => show h + 1 ≤ 4; omega
  | 1 => exact Nat.le_of_ble_eq_true rfl
  | 2 => exact Nat.le_of_ble_eq_true rfl
theorem slHead (h : ℕ) (hh : h < 4) : S256x512.Slices ![0, 128 * h] S256x128 :=
  (by decide : ∀ h : Fin 4, S256x512.Slices ![0, 128 * h.val] S256x128) ⟨h, hh⟩

abbrev rCol (sub : ℕ) (hs : sub < 4) (c : ℕ) (hc : c ≤ 2432) : Rect S1x1024x2560 := Rect.unit ![0, 256 * sub, c] S1x256x128.size (inbCol sub hs c hc)
abbrev rLog (sub : ℕ) (hs : sub < 4) : Rect S1x1024x2560 := Rect.unit ![0, 256 * sub, 1024] S1x256x512.size (inbLog sub hs)
abbrev rOut (sub : ℕ) (hs : sub < 4) (h : ℕ) (hh : h < 4) : Rect S1x1024x512 := Rect.unit ![0, 256 * sub, 128 * h] S1x256x128.size (inbOut sub hs h hh)
abbrev rHead (h : ℕ) (hh : h < 4) : Rect S4x128x128 := Rect.unit ![h, 0, 0] S1x128x128.size (inbHead h hh)

/-- One of the five arrays' columns, as rows of a head; `rd` reads a rectangle of the point's input block. -/
abbrev Rd (F : FTy → Type) [FloatOps F] := (R : Rect S1x1024x2560) → FVec F R.shape .f32

def col (rd : Rd F) (sub : ℕ) (hs : sub < 4) (c : ℕ) (hc : c ≤ 2432) : FVec F S256x128 .f32 :=
  shapeCast S256x128 (rd (rCol sub hs c hc) : FVec F S1x256x128 .f32) shapeCasts_S1x256x128_S256x128

/-- A head's summed log decays. -/
def bHead (rd : Rd F) (sub : ℕ) (hs : sub < 4) (h : ℕ) (hh : h < 4) : FVec F S256x128 .f32 :=
  extractStridedSlice S256x128 ![0, 128 * h]
    (bAll (shapeCast S256x512 (rd (rLog sub hs) : FVec F S1x256x512 .f32) shapeCasts_S1x256x512_S256x512)) (slHead h hh)

/-- The state stored for head `h` after block `sub`. -/
def stTile (rd : Rd F) (sub : ℕ) (hs : sub < 4) (h : ℕ) (hh : h < 4) (s : FVec F S1x128x128 .f32) : FVec F S1x128x128 .f32 :=
  shapeCast S1x128x128 (stAfter (dState (col rd sub hs (512 + 128 * h) (by omega)) (col rd sub hs (1536 + 128 * h) (by omega)) (bHead rd sub hs h hh))
    (bHead rd sub hs h hh) (shapeCast S128x128 s shapeCasts_S1x128x128_S128x128) 8 (by decide)) shapeCasts_S128x128_S1x128x128

/-- The rows stored for head `h` of block `sub`. -/
def outTile (rd : Rd F) (gn : FVec F S1x128 .f32) (sub : ℕ) (hs : sub < 4) (h : ℕ) (hh : h < 4) (s : FVec F S1x128x128 .f32) : FVec F S1x256x128 .bf16 :=
  shapeCast S1x256x128 (truncf .bf16 (normed (oRaw (col rd sub hs (128 * h) (by omega)) (col rd sub hs (512 + 128 * h) (by omega))
    (col rd sub hs (1536 + 128 * h) (by omega)) (bHead rd sub hs h hh) (shapeCast S128x128 s shapeCasts_S1x128x128_S128x128))
    (col rd sub hs (2048 + 128 * h) (by omega)) gn) bitsLt_bf16_f32) shapeCasts_S256x128_S1x256x128

/-! ## What one point stores, newest first: tile `n` is head `n % 4` of block `n / 4`. `load n L` is the state tile `n` reads, `L` the stores so far. -/

abbrev Load (F : FTy → Type) [FloatOps F] := ℕ → List (View.Piece (Elt F) S4x128x128 .f32) → FVec F S1x128x128 .f32

def stList (rd : Rd F) (load : Load F) (L0 : List (View.Piece (Elt F) S4x128x128 .f32)) : (n : ℕ) → n ≤ 16 → List (View.Piece (Elt F) S4x128x128 .f32)
  | 0, _ => L0
  | n + 1, h => ⟨rHead (n % 4) (Nat.mod_lt _ (by decide)),
      stTile rd (n / 4) (by omega) (n % 4) (Nat.mod_lt _ (by decide)) (load n (stList rd load L0 n (Nat.le_of_succ_le h)))⟩ ::
        stList rd load L0 n (Nat.le_of_succ_le h)

def outList (rd : Rd F) (gn : FVec F S1x128 .f32) (load : Load F) (L0 : List (View.Piece (Elt F) S4x128x128 .f32)) :
    (n : ℕ) → n ≤ 16 → List (View.Piece (Elt F) S1x1024x512 .bf16)
  | 0, _ => []
  | n + 1, h => ⟨rOut (n / 4) (by omega) (n % 4) (Nat.mod_lt _ (by decide)),
      outTile rd gn (n / 4) (by omega) (n % 4) (Nat.mod_lt _ (by decide)) (load n (stList rd load L0 n (Nat.le_of_succ_le h)))⟩ ::
        outList rd gn load L0 n (Nat.le_of_succ_le h)

end Cert.Gla

end
-- ==== Proof.Body.lean ====
/- What a grid point's stores leave, as the tiles' lists: the run's pieces in its two cases. -/
module

public import proofs.«01_k».proof.Proof.Tile
public import proofs.«01_k».proof.Proof.Gen.KernelIdeal.Value
public import Idealize.ShloMosaic.Lib.Pipeline.ReadBack
public import Idealize.ShloMosaic.Lib.Pipeline.FrameBody

@[expose] public section

set_option maxRecDepth 16384

noncomputable section

namespace Cert.Gla

open Idealize.ShloMosaic Idealize.ShloMosaic.TcCoe Idealize.ShloMosaic.Tactic Idealize.SL.Sem Cert.KernelIdeal Cert.KernelIdeal.Gen

variable {F : FTy → Type} [FloatOps F]

variable (c : Dev nD) (i : grid0.Coords) (a2 : Memref sig .tc .vmem S1x1024x2560 .f32) (h2 : a2.IsWhole) (a3 : Memref sig .tc .vmem S1x128 .f32) (h3 : a3.IsWhole)
  (a4 : Memref sig .tc .vmem S1x1024x512 .bf16) (h4 : a4.IsWhole) (a5 : Memref sig .tc .vmem S1x4x128x128 .f32) (h5 : a5.IsWhole)
  (a6 : Memref sig .tc .vmem S4x128x128 .f32) (h6 : a6.IsWhole)
  (x0 : Vec F S1x1024x2560 .f32) (x1 : Vec F S1x128 .f32) (xs : Vec F S4x128x128 .f32)

/-- The point's reads of its input block and of the gain. -/
def rdAt : Rd F := fun R => View.readAt (Elt F) a2.view R.toLoadRect (h2.unread x0)
def gnAt : FVec F S1x128 .f32 :=
  shapeCast S1x128 (View.readAt (Elt F) a3.view (Rect.unit ![0, 0] S1x128.size inb_S1x128_S1x128_0_0).toLoadRect (h3.unread x1) : FVec F S1x128 .f32) shapeCasts_S1x128_S1x128

/-- A batch's first half starts from a fill of zeros; its second half from what the first left. -/
def fill : List (View.Piece (Elt F) S4x128x128 .f32) :=
  [⟨Rect.unit ![0, 0, 0] S4x128x128.size inb_S4x128x128_S4x128x128_0_0_0, k0_pay7⟩]
def loadA : Load F := fun n L => a6.view.readCov L (rHead (n % 4) (Nat.mod_lt _ (by decide))).toLoadRect
def loadB : Load F := fun n L =>
  if n < 4 then View.readAt (Elt F) a6.view (rHead (n % 4) (Nat.mod_lt _ (by decide))).toLoadRect (h6.unread xs) else loadA a6 n L

theorem stA (hc0 : cond0_0 i) (hc1 : ¬cond0_1 i) :
    (kernelRun0_A c i a2 h2 a3 h3 a4 h4 a5 h5 a6 h6 hc0 hc1 x0 x1).2.2.1 = stList (rdAt a2 h2 x0) (loadA a6) fill 16 (by decide) := by
  sl_kernel_rfl
theorem outA (hc0 : cond0_0 i) (hc1 : ¬cond0_1 i) :
    (kernelRun0_A c i a2 h2 a3 h3 a4 h4 a5 h5 a6 h6 hc0 hc1 x0 x1).1 = outList (rdAt a2 h2 x0) (gnAt a3 h3 x1) (loadA a6) fill 16 (by decide) := by
  sl_kernel_rfl
theorem stB (hc0 : ¬cond0_0 i) (hc1 : cond0_1 i) :
    (kernelRun0_B c i a2 h2 a3 h3 a4 h4 a5 h5 a6 h6 hc0 hc1 x0 x1 xs).2.2.1 = stList (rdAt a2 h2 x0) (loadB a6 h6 xs) [] 16 (by decide) := by
  sl_kernel_rfl
theorem outB (hc0 : ¬cond0_0 i) (hc1 : cond0_1 i) :
    (kernelRun0_B c i a2 h2 a3 h3 a4 h4 a5 h5 a6 h6 hc0 hc1 x0 x1 xs).1 = outList (rdAt a2 h2 x0) (gnAt a3 h3 x1) (loadB a6 h6 xs) [] 16 (by decide) := by
  sl_kernel_rfl

end Cert.Gla

end
-- ==== Proof.Chain.lean ====
/- The states a grid point's tiles read and leave, head by head: each head's chain over the point's four blocks. -/
module

public import proofs.«01_k».proof.Proof.Body
public import Idealize.ShloMosaic.Lib.Pointwise

@[expose] public section

set_option maxRecDepth 16384

noncomputable section

namespace Cert.Gla

open Idealize.ShloMosaic Idealize.ShloMosaic.TcCoe Idealize.ShloMosaic.Tactic Idealize.SL.Sem Cert.KernelIdeal Cert.KernelIdeal.Gen

variable {F : FTy → Type} [FloatOps F]

/-- Head `h`'s state before block `k` of a point, from the states the point starts from. -/
def stN (rd : Rd F) (s0 : ℕ → FVec F S1x128x128 .f32) (h : ℕ) (hh : h < 4) : (k : ℕ) → k ≤ 4 → FVec F S1x128x128 .f32
  | 0, _ => s0 h
  | k + 1, hk => stTile rd k hk h hh (stN rd s0 h hh k (Nat.le_of_succ_le hk))

theorem stN_congr (rd : Rd F) (s0 : ℕ → FVec F S1x128x128 .f32) (h h' : ℕ) (hh : h < 4) (hh' : h' < 4) (k k' : ℕ) (hk : k ≤ 4) (hk' : k' ≤ 4)
    (e : h = h') (e' : k = k') : stN rd s0 h hh k hk = stN rd s0 h' hh' k' hk' := by
  subst e; subst e'; rfl

theorem disjHead (a b : ℕ) (ha : a < 4) (hb : b < 4) (e : a ≠ b) : LoadRect.disj (rHead a ha) (rHead b hb).toLoadRect = true :=
  (by decide +kernel : ∀ a b : Fin 4, a.val ≠ b.val → LoadRect.disj (rHead a.1 a.2) (rHead b.1 b.2).toLoadRect = true) ⟨a, ha⟩ ⟨b, hb⟩ e
theorem disjOut (u a v b : ℕ) (hu : u < 4) (ha : a < 4) (hv : v < 4) (hb : b < 4) (e : ¬(u = v ∧ a = b)) :
    LoadRect.disj (rOut u hu a ha) (rOut v hv b hb).toLoadRect = true :=
  (by decide +kernel : ∀ u a v b : Fin 4, ¬(u.val = v.val ∧ a.val = b.val) → LoadRect.disj (rOut u.1 u.2 a.1 a.2) (rOut v.1 v.2 b.1 b.2).toLoadRect = true)
    ⟨u, hu⟩ ⟨a, ha⟩ ⟨v, hv⟩ ⟨b, hb⟩ e

section
variable (a6 : Memref sig .tc .vmem S4x128x128 .f32) (rd : Rd F) (load : Load F) (L0 : List (View.Piece (Elt F) S4x128x128 .f32))
  (s0 : ℕ → FVec F S1x128x128 .f32)

/-- Before a head's first tile its part of the scratch is untouched. -/
theorem readCov_before (h : ℕ) (hh : h < 4) : ∀ (n : ℕ) (hn : n ≤ 16), n ≤ h →
    a6.view.readCov (stList rd load L0 n hn) (rHead h hh).toLoadRect = a6.view.readCov L0 (rHead h hh).toLoadRect
  | 0, _, _ => rfl
  | n + 1, hn, hl => by
    unfold stList
    rw [View.readCov_skip _ _ _ _ _ (disjHead _ _ _ _ (by omega))]
    exact readCov_before h hh n _ (by omega)

variable (h0 : ∀ (n : ℕ) (hn : n < 4), load n (stList rd load L0 n (by omega)) = s0 n)
  (h1 : ∀ (n : ℕ) (L : List (View.Piece (Elt F) S4x128x128 .f32)), 4 ≤ n → load n L = a6.view.readCov L (rHead (n % 4) (Nat.mod_lt _ (by decide))).toLoadRect)

include h0 h1 in
theorem readCov_stList : ∀ (n : ℕ) (hn : n ≤ 16) (h : ℕ) (hh : h < 4), h < n →
    a6.view.readCov (stList rd load L0 n hn) (rHead h hh).toLoadRect = stN rd s0 h hh ((n + 3 - h) / 4) (by omega)
  | 0, _, _, _, hl => absurd hl (Nat.not_lt_zero _)
  | n + 1, hn, h, hh, hl => by
    unfold stList
    by_cases e : n % 4 = h
    · subst e
      rw [View.readCov_cons_toLoadRect]
      rw [stN_congr rd s0 (n % 4) (n % 4) hh hh ((n + 1 + 3 - n % 4) / 4) (n / 4 + 1) (by omega) (by omega) rfl (by omega)]
      show _ = stTile rd (n / 4) _ (n % 4) _ _
      congr 1
      by_cases h4 : n < 4
      · rw [h0 n h4, stN_congr rd s0 (n % 4) n hh h4 (n / 4) 0 (by omega) (by omega) (by omega) (by omega)]
        rfl
      · rw [h1 n _ (by omega), readCov_stList n _ _ _ (by omega)]
        exact stN_congr _ _ _ _ _ _ _ _ _ _ rfl (by omega)
    · rw [View.readCov_skip _ _ _ _ _ (disjHead _ _ _ _ e), readCov_stList n _ h hh (by omega)]
      exact stN_congr _ _ _ _ _ _ _ _ _ _ rfl (by omega)

include h0 h1 in
theorem load_eq (n : ℕ) (hn : n < 16) : load n (stList rd load L0 n (Nat.le_of_lt hn)) =
    stN rd s0 (n % 4) (Nat.mod_lt _ (by decide)) (n / 4) (by omega) := by
  by_cases h4 : n < 4
  · rw [h0 n h4, stN_congr rd s0 (n % 4) n (by omega) h4 (n / 4) 0 (by omega) (by omega) (by omega) (by omega)]
    rfl
  · rw [h1 n _ (by omega), readCov_stList a6 rd load L0 s0 h0 h1 n _ _ _ (by omega)]
    exact stN_congr _ _ _ _ _ _ _ _ _ _ rfl (by omega)

include h0 h1 in
theorem readCov_outList (a4 : Memref sig .tc .vmem S1x1024x512 .bf16) (gn : FVec F S1x128 .f32) : ∀ (n : ℕ) (hn : n ≤ 16) (sub : ℕ) (hs : sub < 4) (h : ℕ) (hh : h < 4),
    4 * sub + h < n → a4.view.readCov (outList rd gn load L0 n hn) (rOut sub hs h hh).toLoadRect = outTile rd gn sub hs h hh (stN rd s0 h hh sub (by omega))
  | 0, _, _, _, _, _, hl => absurd hl (Nat.not_lt_zero _)
  | n + 1, hn, sub, hs, h, hh, hl => by
    unfold outList
    by_cases e : n / 4 = sub ∧ n % 4 = h
    · obtain ⟨rfl, rfl⟩ := e
      rw [View.readCov_cons_toLoadRect, load_eq a6 rd load L0 s0 h0 h1 n (by omega)]
    · rw [View.readCov_skip _ _ _ _ _ (disjOut _ _ _ _ _ _ _ _ e)]
      exact readCov_outList a4 gn n _ sub hs h hh (by omega)

/-- The scratch after a point, index by index. -/
theorem canon_st (y : S4x128x128.Idx) : View.canon (stList rd load L0 16 (by decide)) y =
    a6.view.readCov (stList rd load L0 16 (by decide)) (rHead (y 0).val (y 0).isLt).toLoadRect (ix3 0 (y 1) (y 2) : S1x128x128.Idx) := by
  rw [View.readCov_eq_canon']
  congr 1
  funext a
  apply Fin.ext
  match a with
  | 0 => show (y 0).val = (y 0).val + 1 * 0; omega
  | 1 => show (y 1).val = 0 + 1 * (y 1).val; omega
  | 2 => show (y 2).val = 0 + 1 * (y 2).val; omega

/-- The output block after a point, row by row. -/
theorem canon_out (a4 : Memref sig .tc .vmem S1x1024x512 .bf16) (gn : FVec F S1x128 .f32) (sub : ℕ) (hs : sub < 4) (h : ℕ) (hh : h < 4) (r : Fin 256) (d : Fin 128) (y : S1x1024x512.Idx)
    (e0 : (y 0).val = 0) (e1 : (y 1).val = 256 * sub + r.val) (e2 : (y 2).val = 128 * h + d.val) :
    View.canon (outList rd gn load L0 16 (by decide)) y =
    a4.view.readCov (outList rd gn load L0 16 (by decide)) (rOut sub hs h hh).toLoadRect (ix3 0 r d : S1x256x128.Idx) := by
  rw [View.readCov_eq_canon']
  congr 1
  funext a
  apply Fin.ext
  match a with
  | 0 => show (y 0).val = 0 + 1 * 0; omega
  | 1 => show (y 1).val = 256 * sub + 1 * r.val; omega
  | 2 => show (y 2).val = 128 * h + 1 * d.val; omega
end

variable (c : Dev nD) (i : grid0.Coords) (a2 : Memref sig .tc .vmem S1x1024x2560 .f32) (h2 : a2.IsWhole) (a3 : Memref sig .tc .vmem S1x128 .f32) (h3 : a3.IsWhole)
  (a4 : Memref sig .tc .vmem S1x1024x512 .bf16) (h4 : a4.IsWhole) (a5 : Memref sig .tc .vmem S1x4x128x128 .f32) (h5 : a5.IsWhole)
  (a6 : Memref sig .tc .vmem S4x128x128 .f32) (h6 : a6.IsWhole)
  (x0 : Vec F S1x1024x2560 .f32) (x1 : Vec F S1x128 .f32) (xs : Vec F S4x128x128 .f32)

theorem rdAt_eq : rdAt a2 h2 x0 = fun R => View.ld x0 R := by
  funext R
  unfold rdAt
  rw [View.readAt_eq_ld, Memref.IsWhole.read_unread]

theorem gnAt_eq : gnAt a3 h3 x1 = x1 := by
  unfold gnAt
  have e : (![0, 0] : Fin 2 → ℕ) = fun _ => 0 := by funext a; match a with | 0 => rfl | 1 => rfl
  rw [View.readAt_eq_ld, Memref.IsWhole.read_unread, View.ld_unit_zero (h := e)]
  exact shapeCast_self _ _

/-- The states a point starts from: zeros, or what the point before left. -/
def zero0 : ℕ → FVec F S1x128x128 .f32 := fun _ => fun _ => FloatOps.ofBits .f32 0x0
def from0 (xs : Vec F S4x128x128 .f32) : ℕ → FVec F S1x128x128 .f32 := fun h => if hh : h < 4 then View.ld xs (rHead h hh) else zero0 h

theorem loadA0 (n : ℕ) (hn : n < 4) : loadA a6 n (stList (rdAt a2 h2 x0) (loadA a6) fill n (by omega)) = zero0 n := by
  unfold loadA
  rw [readCov_before a6 _ _ _ (n % 4) _ n _ (by omega)]
  unfold fill
  rw [View.readCov_fill _ _ _ _ _ (by decide)]
  funext j
  unfold zero0 k0_pay7 View.ld
  rfl
theorem loadA1 (n : ℕ) (L : List (View.Piece (Elt F) S4x128x128 .f32)) (h : 4 ≤ n) : loadA a6 n L = a6.view.readCov L (rHead (n % 4) (Nat.mod_lt _ (by decide))).toLoadRect := rfl
theorem loadB0 (n : ℕ) (hn : n < 4) : loadB a6 h6 xs n (stList (rdAt a2 h2 x0) (loadB a6 h6 xs) [] n (by omega)) = from0 xs n := by
  unfold loadB from0
  rw [if_pos hn, dif_pos hn, View.readAt_eq_ld, Memref.IsWhole.read_unread]
  have e : ∀ (k : ℕ) (hk : k < 4), k = n → View.ld xs (rHead k hk) = View.ld xs (rHead n hn) := by rintro k hk rfl; rfl
  exact e (n % 4) _ (Nat.mod_eq_of_lt hn)
theorem loadB1 (n : ℕ) (L : List (View.Piece (Elt F) S4x128x128 .f32)) (h : 4 ≤ n) : loadB a6 h6 xs n L = a6.view.readCov L (rHead (n % 4) (Nat.mod_lt _ (by decide))).toLoadRect := by
  unfold loadB; rw [if_neg (by omega)]; rfl

abbrev ldR (x0 : Vec F S1x1024x2560 .f32) : Rd F := fun R => View.ld x0 R

theorem soutA (hc0 : cond0_0 i) (hc1 : ¬cond0_1 i) (y : S4x128x128.Idx) :
    sout0_A_0 c i a2 h2 a3 h3 a4 h4 a5 h5 a6 h6 hc0 hc1 x0 x1 y = stN (ldR x0) zero0 (y 0).val (y 0).isLt 4 (by decide) (ix3 0 (y 1) (y 2)) := by
  unfold sout0_A_0
  have hy : (y 0).val < 4 := (y 0).isLt
  rw [View.read_writes_junk_eq_canon, stA, canon_st a6, readCov_stList a6 _ _ _ zero0 (loadA0 a2 h2 a6 x0) (loadA1 a6) 16 _ _ hy (by omega), rdAt_eq]
  exact congrFun (stN_congr _ _ _ _ _ _ _ _ _ _ rfl (by have : (y 0).val < 4 := (y 0).isLt; omega)) _

theorem soutB (hc0 : ¬cond0_0 i) (hc1 : cond0_1 i) (y : S4x128x128.Idx) :
    sout0_B_0 c i a2 h2 a3 h3 a4 h4 a5 h5 a6 h6 hc0 hc1 x0 x1 xs y = stN (ldR x0) (from0 xs) (y 0).val (y 0).isLt 4 (by decide) (ix3 0 (y 1) (y 2)) := by
  unfold sout0_B_0
  have hy : (y 0).val < 4 := (y 0).isLt
  rw [View.read_writes_junk_eq_canon, stB, canon_st a6, readCov_stList a6 _ _ _ (from0 xs) (loadB0 a2 h2 a6 h6 x0 xs) (loadB1 a6 h6 xs) 16 _ _ hy (by omega), rdAt_eq]
  exact congrFun (stN_congr _ _ _ _ _ _ _ _ _ _ rfl (by have : (y 0).val < 4 := (y 0).isLt; omega)) _

theorem outA2 (hc0 : cond0_0 i) (hc1 : ¬cond0_1 i) (sub : ℕ) (hs : sub < 4) (h : ℕ) (hh : h < 4) (r : Fin 256) (d : Fin 128) (y : S1x1024x512.Idx)
    (e0 : (y 0).val = 0) (e1 : (y 1).val = 256 * sub + r.val) (e2 : (y 2).val = 128 * h + d.val) :
    out0_A_2 c i a2 h2 a3 h3 a4 h4 a5 h5 a6 h6 hc0 hc1 x0 x1 y = outTile (ldR x0) x1 sub hs h hh (stN (ldR x0) zero0 h hh sub (by omega)) (ix3 0 r d) := by
  unfold out0_A_2
  rw [View.read_writes_junk_eq_canon, outA, canon_out _ _ _ a4 _ sub hs h hh r d y e0 e1 e2,
    readCov_outList a6 _ _ _ zero0 (loadA0 a2 h2 a6 x0) (loadA1 a6) a4 _ 16 _ sub hs h hh (by omega), rdAt_eq, gnAt_eq]

theorem outB2 (hc0 : ¬cond0_0 i) (hc1 : cond0_1 i) (sub : ℕ) (hs : sub < 4) (h : ℕ) (hh : h < 4) (r : Fin 256) (d : Fin 128) (y : S1x1024x512.Idx)
    (e0 : (y 0).val = 0) (e1 : (y 1).val = 256 * sub + r.val) (e2 : (y 2).val = 128 * h + d.val) :
    out0_B_2 c i a2 h2 a3 h3 a4 h4 a5 h5 a6 h6 hc0 hc1 x0 x1 xs y = outTile (ldR x0) x1 sub hs h hh (stN (ldR x0) (from0 xs) h hh sub (by omega)) (ix3 0 r d) := by
  unfold out0_B_2
  rw [View.read_writes_junk_eq_canon, outB, canon_out _ _ _ a4 _ sub hs h hh r d y e0 e1 e2,
    readCov_outList a6 _ _ _ (from0 xs) (loadB0 a2 h2 a6 h6 x0 xs) (loadB1 a6 h6 xs) a4 _ 16 _ sub hs h hh (by omega), rdAt_eq, gnAt_eq]

/-- The state block a batch's second half stores: each head's last state, transposed. -/
theorem inbOut3 (h : ℕ) (hh : h < 4) : ∀ a, (![0, h, 0, 0] : Fin 4 → ℕ) a + S1x1x128x128.size a ≤ S1x4x128x128.size a := fun a => by
  match a with
  | 0 => exact Nat.le_of_ble_eq_true rfl
  | 1 => show h + 1 ≤ 4; omega
  | 2 => exact Nat.le_of_ble_eq_true rfl
  | 3 => exact Nat.le_of_ble_eq_true rfl
def out3List (L : (h : ℕ) → h < 4 → FVec F S1x128x128 .f32) : (n : ℕ) → n ≤ 4 → List (View.Piece (Elt F) S1x4x128x128 .f32)
  | 0, _ => []
  | n + 1, hn => ⟨Rect.unit ![0, n, 0, 0] S1x1x128x128.size (inbOut3 n hn), k0_pay3 (L n hn)⟩ :: out3List L n (Nat.le_of_succ_le hn)

theorem out3B (hc0 : ¬cond0_0 i) (hc1 : cond0_1 i) :
    (kernelRun0_B c i a2 h2 a3 h3 a4 h4 a5 h5 a6 h6 hc0 hc1 x0 x1 xs).2.1 =
      out3List (fun h hh => a6.view.readCov (stList (rdAt a2 h2 x0) (loadB a6 h6 xs) [] 16 (by decide)) (rHead h hh).toLoadRect) 4 (by decide) := by
  sl_kernel_rfl

theorem canon_out3 (L : (h : ℕ) → h < 4 → FVec F S1x128x128 .f32) (h : ℕ) (hh : h < 4) (r d : Fin 128) : ∀ (n : ℕ) (hn : n ≤ 4), h < n →
    View.canon (out3List L n hn) (ix4 0 ⟨h, hh⟩ r d) = k0_pay3 (L h hh) (ix4 0 0 r d)
  | 0, _, hl => absurd hl (Nat.not_lt_zero _)
  | n + 1, hn, hl => by
    unfold out3List
    by_cases e : h = n
    · subst e
      have := View.canon_cons_emb (Val := Elt F) (Rect.unit (s := S1x4x128x128) ![0, h, 0, 0] S1x1x128x128.size (inbOut3 h hn)) (k0_pay3 (L h hn)) (out3List L h (Nat.le_of_succ_le hn)) (ix4 0 0 r d)
      rw [← this]
      congr 1
      funext a
      apply Fin.ext
      match a with
      | 0 => rfl
      | 1 => show h = h + 1 * 0; omega
      | 2 => show r.val = 0 + 1 * r.val; omega
      | 3 => show d.val = 0 + 1 * d.val; omega
    · rw [View.canon_cons_of_not_mem]
      · exact canon_out3 L h hh r d n _ (by omega)
      · rw [Rect.mem_set_unit]
        intro hm
        have h1 := hm 1
        have : n ≤ h ∧ h < n + 1 := h1
        omega

theorem outB3 (hc0 : ¬cond0_0 i) (hc1 : cond0_1 i) (h : ℕ) (hh : h < 4) (r d : Fin 128) :
    out0_B_3 c i a2 h2 a3 h3 a4 h4 a5 h5 a6 h6 hc0 hc1 x0 x1 xs (ix4 0 ⟨h, hh⟩ r d) = stN (ldR x0) (from0 xs) h hh 4 (by decide) (ix3 0 d r) := by
  unfold out0_B_3
  rw [View.read_writes_junk_eq_canon, out3B, canon_out3 _ h hh r d 4 _ hh,
    readCov_stList a6 _ _ _ (from0 xs) (loadB0 a2 h2 a6 h6 x0 xs) (loadB1 a6 h6 xs) 16 _ _ _ (by omega), rdAt_eq,
    stN_congr _ _ h h hh hh ((16 + 3 - h) / 4) 4 (by omega) (by omega) rfl (by omega)]
  unfold k0_pay3
  pointwise

end Cert.Gla

end
-- ==== Proof.Spec.lean ====
/- The recurrence over the extended reals, one head: what a chunk of 32 rows gives and leaves. -/
module

public import proofs.«01_k».proof.Proof.Chain

@[expose] public section

set_option maxRecDepth 16384

noncomputable section

namespace Cert.Gla

open Idealize.ShloMosaic

/-- A chunk's rows of one array; a head's state, keys by values. -/
abbrev Chunk : Type := Fin 32 → Fin 128 → EReal
abbrev St : Type := Fin 128 → Fin 128 → EReal

/-- The log decays summed up to a row. -/
def bC (l : Chunk) : Chunk := fun i d => ∑ j : Fin 32, if j ≤ i then l j d else 0
/-- The decayed queries; how much row `i` takes of row `j`. -/
def qC (q l : Chunk) : Chunk := fun i d => q i d * Ideal.exp (bC l i d)
def aC (q k l : Chunk) (i j : Fin 32) : EReal := if j ≤ i then ∑ d, qC q l i d * (k j d * Ideal.exp (-bC l j d)) else 0
/-- A row's output before the norm, from the chunk's rows and from the state the chunk starts from. -/
def oC (q k v l : Chunk) (s : St) : Chunk := fun i e => ∑ j, aC q k l i j * v j e + ∑ d, qC q l i d * s d e
/-- The keys decayed to the chunk's end, and the state the chunk leaves. -/
def kC (k l : Chunk) : Chunk := fun j d => k j d * Ideal.exp (bC l 31 d - bC l j d)
def stC (k v l : Chunk) (s : St) : St := fun d e => Ideal.exp (bC l 31 d) * s d e + ∑ j, kC k l j d * v j e
/-- The norm over a head's columns, the gain and the gate. -/
def nC (o g : Chunk) (w : Fin 128 → EReal) : Chunk := fun i e =>
  o i e * Ideal.rsqrt (Ideal.div (∑ e', o i e' * o i e') (Ideal.ofBits .f32 0x43000000#32) + Ideal.ofBits .f32 0x358637BD#32) * w e * g i e

/-- The state before chunk `n`, from the state before chunk 0. -/
def chain (k v l : ℕ → Chunk) (s : St) : ℕ → St
  | 0 => s
  | n + 1 => stC (k n) (v n) (l n) (chain k v l s n)

theorem chain_add (k v l : ℕ → Chunk) (s : St) (a : ℕ) : ∀ n, chain (fun m => k (a + m)) (fun m => v (a + m)) (fun m => l (a + m)) (chain k v l s a) n = chain k v l s (a + n)
  | 0 => rfl
  | n + 1 => by
    show stC _ _ _ _ = stC _ _ _ _
    rw [chain_add k v l s a n]; rfl

theorem chain_congr (k v l k' v' l' : ℕ → Chunk) (s : St) : ∀ n, (∀ m < n, k m = k' m) → (∀ m < n, v m = v' m) → (∀ m < n, l m = l' m) →
    chain k v l s n = chain k' v' l' s n
  | 0, _, _, _ => rfl
  | n + 1, hk, hv, hl => by
    show stC _ _ _ _ = stC _ _ _ _
    rw [chain_congr k v l k' v' l' s n (fun m h => hk m (by omega)) (fun m h => hv m (by omega)) (fun m h => hl m (by omega)), hk n (by omega), hv n (by omega), hl n (by omega)]

/-- A sum over 256 rows of a function that is zero off chunk `m`. -/
theorem sum_chunk (f : Fin 256 → EReal) (m : ℕ) (hm : m < 8) (h : ∀ r : Fin 256, r.val / 32 ≠ m → f r = 0) :
    ∑ r, f r = ∑ i : Fin 32, f ⟨32 * m + i.val, by omega⟩ := by
  symm
  refine Fintype.sum_of_injective (fun i : Fin 32 => (⟨32 * m + i.val, by omega⟩ : Fin 256)) (fun a b e => ?_) _ _ (fun r hr => h r fun e => hr ?_) (fun i => rfl)
  · have := congrArg Fin.val e
    apply Fin.ext
    dsimp only at this
    omega
  · exact ⟨⟨r.val % 32, by omega⟩, Fin.ext (by dsimp only; omega)⟩

/-- Splitting a number that is not +∞ in three parts, each what is left of the ones before, and adding them gives it back. -/
theorem split3 (x : EReal) (h : x ≠ ⊤) : x + (x - x) + (x - x - (x - x)) = x := by
  induction x with
  | bot => rfl
  | top => exact absurd rfl h
  | coe r =>
    have e : (r : EReal) - r = 0 := EReal.sub_self (EReal.coe_ne_top r) (EReal.coe_ne_bot r)
    rw [e, sub_zero, add_zero, add_zero]

end Cert.Gla

end
-- ==== Proof.TileIdeal.lean ====
/- A tile over the extended reals: its eight chunks' outputs and states are the recurrence's. -/
module

public import proofs.«01_k».proof.Proof.Spec
public import Idealize.ShloMosaic.Lib.DynamicIndex

@[expose] public section

set_option maxRecDepth 16384

noncomputable section

namespace Cert.Gla

open Idealize.ShloMosaic Idealize.ShloMosaic.TcCoe Idealize.ShloMosaic.Tactic Idealize.SL.Sem Cert.KernelIdeal Cert.KernelIdeal.Gen

/-! ## The mask -/

theorem row32 : ∀ r : Fin 256, IntOp.shli ArithUnit.vector (IntOp.shrsi ArithUnit.vector (BitVec.ofNat 32 r.val) 5#32) 5#32 = BitVec.ofNat 32 (r.val / 32 * 32) := by
  decide +kernel

theorem mask_iff (r c : Fin 256) : segMask (ix2 r c) = 1#1 ↔ c.val ≤ r.val ∧ c.val / 32 = r.val / 32 := by
  unfold segMask
  pointwise
  rw [row32, IntOp.andi_eq_one, IntOp.cmpi_sle, IntOp.cmpi_sge, toInt_ofNat_of_lt (by omega), toInt_ofNat_of_lt (by omega), toInt_ofNat_of_lt (by omega)]
  omega

theorem select_mask (r c : Fin 256) (x y : EReal) : Scalar.select (segMask (ix2 r c)) x y = if c.val ≤ r.val ∧ c.val / 32 = r.val / 32 then x else y := by
  by_cases h : c.val ≤ r.val ∧ c.val / 32 = r.val / 32
  · rw [if_pos h, (mask_iff r c).2 h]; rfl
  · have e : segMask (ix2 r c) = 0#1 := by
      rcases BitVec.eq_zero_or_eq_one (segMask (ix2 r c)) with e | e
      · exact e
      · exact absurd ((mask_iff r c).1 e) h
    rw [if_neg h, e]; rfl

/-! ## The summed log decays -/

theorem segDot_at (x : FVec Ideal S256x512 .bf16) (r : Fin 256) (c : Fin 512) : segDot x (ix2 r c) =
    ∑ j : Fin 256, if j.val ≤ r.val ∧ j.val / 32 = r.val / 32 then (x (ix2 j c) : EReal) else 0 := by
  unfold segDot segOnes
  pointwise
  simp only [select_mask]

theorem bAll_at (x : FVec Ideal S256x512 .f32) (hx : ∀ j, x j ≠ (⊤ : EReal)) (m : ℕ) (hm : m < 8) (i : Fin 32) (c : Fin 512) :
    bAll x (ix2 ⟨32 * m + i.val, by omega⟩ c) = ∑ j : Fin 32, if j ≤ i then (x (ix2 ⟨32 * m + j.val, by omega⟩ c) : EReal) else 0 := by
  unfold bAll
  rw [addf_apply, addf_apply, segDot_at, segDot_at, segDot_at]
  simp only [Ideal.addf_def]
  rw [← Finset.sum_add_distrib, ← Finset.sum_add_distrib, sum_chunk _ m hm]
  · refine Finset.sum_congr rfl fun j _ => ?_
    by_cases h : j ≤ i
    · have h' : j.val ≤ i.val := h
      have h2 : 32 * m + j.val ≤ 32 * m + i.val ∧ (32 * m + j.val) / 32 = (32 * m + i.val) / 32 := ⟨by omega, by omega⟩
      rw [if_pos h, if_pos h2, if_pos h2, if_pos h2]
      exact split3 _ (hx _)
    · have h' : ¬ j.val ≤ i.val := h
      have h2 : ¬(32 * m + j.val ≤ 32 * m + i.val ∧ (32 * m + j.val) / 32 = (32 * m + i.val) / 32) := by omega
      rw [if_neg h, if_neg h2, if_neg h2, if_neg h2, add_zero, add_zero]
  · intro r hr
    have h2 : ¬(r.val ≤ 32 * m + i.val ∧ r.val / 32 = (32 * m + i.val) / 32) := by omega
    rw [if_neg h2, if_neg h2, if_neg h2, add_zero, add_zero]

/-! ## One head of a tile, its rows named chunk by chunk -/

/-- Chunk `m` of a tile's rows. -/
abbrev rw32 (m : ℕ) (hm : m < 8) (i : Fin 32) : Fin 256 := ⟨32 * m + i.val, by omega⟩
def Rows (x : FVec Ideal S256x128 .f32) (c : ℕ → Chunk) : Prop := ∀ (m : ℕ) (hm : m < 8) (i : Fin 32) (d : Fin 128), x (ix2 (rw32 m hm i) d) = c m i d

theorem kEnd_at (k b : FVec Ideal S256x128 .f32) (kk ll : ℕ → Chunk) (hk : Rows k kk) (hb : Rows b fun m => bC (ll m)) (m : ℕ) (hm : m < 8) (i : Fin 32) (d : Fin 128) :
    kEnd k b m hm (ix2 i d) = kC (kk m) (ll m) i d := by
  unfold kEnd bLast
  pointwise
  have e1 := hk m hm i d
  have e2 : b (ix2 (rw32 m hm i) d) = bC (ll m) i d := hb m hm i d
  have e3 : b (ix2 (rw32 m hm 31) d) = bC (ll m) 31 d := hb m hm 31 d
  unfold kC
  rw [← e1, ← e2, ← e3]
  rfl

/-- The eight pieces of the side-by-side keys. -/
def kPad (k b : FVec Ideal S256x128 .f32) : Fin 8 → FVec Ideal S256x128 .bf16 := ![
    concatenate S256x128 0 [⟨S32x128, kEnd k b 0 (by decide)⟩, ⟨S224x128, zr S224x128⟩] concatenates_S32x128_S224x128_S256x128_d0,
    concatenate S256x128 0 [⟨S32x128, zr S32x128⟩, ⟨S32x128, kEnd k b 1 (by decide)⟩, ⟨S192x128, zr S192x128⟩] concatenates_S32x128_S32x128_S192x128_S256x128_d0,
    concatenate S256x128 0 [⟨S64x128, zr S64x128⟩, ⟨S32x128, kEnd k b 2 (by decide)⟩, ⟨S160x128, zr S160x128⟩] concatenates_S64x128_S32x128_S160x128_S256x128_d0,
    concatenate S256x128 0 [⟨S96x128, zr S96x128⟩, ⟨S32x128, kEnd k b 3 (by decide)⟩, ⟨S128x128, zr S128x128⟩] concatenates_S96x128_S32x128_S128x128_S256x128_d0,
    concatenate S256x128 0 [⟨S128x128, zr S128x128⟩, ⟨S32x128, kEnd k b 4 (by decide)⟩, ⟨S96x128, zr S96x128⟩] concatenates_S128x128_S32x128_S96x128_S256x128_d0,
    concatenate S256x128 0 [⟨S160x128, zr S160x128⟩, ⟨S32x128, kEnd k b 5 (by decide)⟩, ⟨S64x128, zr S64x128⟩] concatenates_S160x128_S32x128_S64x128_S256x128_d0,
    concatenate S256x128 0 [⟨S192x128, zr S192x128⟩, ⟨S32x128, kEnd k b 6 (by decide)⟩, ⟨S32x128, zr S32x128⟩] concatenates_S192x128_S32x128_S32x128_S256x128_d0,
    concatenate S256x128 0 [⟨S224x128, zr S224x128⟩, ⟨S32x128, kEnd k b 7 (by decide)⟩] concatenates_S224x128_S32x128_S256x128_d0]

theorem kPad_at (k b : FVec Ideal S256x128 .f32) (m : Fin 8) (r : Fin 256) (d : Fin 128) :
    kPad k b m (ix2 r d) = if r.val / 32 = m.val then (kEnd k b m.val m.isLt (ix2 ⟨r.val % 32, Nat.mod_lt _ (by decide)⟩ d) : EReal) else 0 := by
  obtain ⟨m, hm⟩ := m
  have hl := r.isLt
  unfold kPad
  by_cases hr : r.val / 32 = m
  · have e : (⟨r.val % 32, Nat.mod_lt _ (by decide)⟩ : Fin 32) = ⟨r.val - 32 * m, by omega⟩ := Fin.ext (by show r.val % 32 = r.val - 32 * m; omega)
    rw [if_pos hr, e]
    interval_cases m
    all_goals
      dsimp only
      pointwise
      split_ifs <;> first | rfl | (exfalso; omega)
  · rw [if_neg hr]
    interval_cases m
    all_goals
      pointwise
      split_ifs <;> first | rfl | (exfalso; omega)

theorem kCols_at (k b : FVec Ideal S256x128 .f32) (m : ℕ) (hm : m < 8) (r : Fin 256) (d : Fin 128) :
    kCols k b (ix2 r ⟨128 * m + d.val, by omega⟩) = if r.val / 32 = m then (kEnd k b m hm (ix2 ⟨r.val % 32, Nat.mod_lt _ (by decide)⟩ d) : EReal) else 0 := by
  have e := concatenate_ofFn_apply (t := S256x1024) (s₁ := S256x128) 1 (kPad k b) concatenates_S256x128_S256x128_S256x128_S256x128_S256x128_S256x128_S256x128_S256x128_S256x1024_d1
    rfl 128 rfl (ix2 r ⟨128 * m + d.val, by omega⟩) ⟨m, hm⟩ (by show (128 * m + d.val) / 128 = m; omega) (ix2 r d) (by show d.val = (128 * m + d.val) % 128; omega)
    (fun a ha => by
      match a with
      | 0 => rfl
      | 1 => exact absurd rfl ha)
  rw [← kPad_at k b ⟨m, hm⟩ r d, ← e]
  rfl

theorem dState_at (k v b : FVec Ideal S256x128 .f32) (kk vv ll : ℕ → Chunk) (hk : Rows k kk) (hv : Rows v vv) (hb : Rows b fun m => bC (ll m)) (m : ℕ) (hm : m < 8) (e d : Fin 128) :
    dState k v b (ix2 e ⟨128 * m + d.val, by omega⟩) = ∑ j, kC (kk m) (ll m) j d * vv m j e := by
  unfold dState
  pointwise
  simp only [kCols_at k b m hm]
  rw [sum_chunk _ m hm]
  · refine Finset.sum_congr rfl fun j _ => ?_
    rw [if_pos (by dsimp only; omega), ← kEnd_at k b kk ll hk hb m hm j d, ← hv m hm j e, mul_comm]
    congr 2
    congr 1
    apply Fin.ext
    dsimp only
    omega
  · intro r hr
    rw [if_neg hr, mul_zero]

theorem stAfter_at (k v b : FVec Ideal S256x128 .f32) (kk vv ll : ℕ → Chunk) (hk : Rows k kk) (hv : Rows v vv) (hb : Rows b fun m => bC (ll m)) (s : FVec Ideal S128x128 .f32) (s0 : St)
    (hs : ∀ e d, s (ix2 e d) = s0 d e) : ∀ (n : ℕ) (hn : n ≤ 8) (e d : Fin 128), stAfter (dState k v b) b s n hn (ix2 e d) = chain kk vv ll s0 n d e
  | 0, _, e, d => hs e d
  | n + 1, hn, e, d => by
    unfold stAfter stNext bLast
    pointwise
    rw [dState_at k v b kk vv ll hk hv hb n hn, stAfter_at k v b kk vv ll hk hv hb s s0 hs n _ e d, mul_comm]
    have e3 : b (ix2 (rw32 n hn 31) d) = bC (ll n) 31 d := hb n hn 31 d
    show Ideal.exp (b (ix2 (rw32 n hn 31) d)) * _ + _ = Ideal.exp (bC (ll n) 31 d) * _ + _
    rw [e3]

theorem oIntra_at (q k v b : FVec Ideal S256x128 .f32) (qq kk vv ll : ℕ → Chunk) (hq : Rows q qq) (hk : Rows k kk) (hv : Rows v vv) (hb : Rows b fun m => bC (ll m))
    (m : ℕ) (hm : m < 8) (i : Fin 32) (e : Fin 128) : oIntra q k v b (ix2 (rw32 m hm i) e) = ∑ j, aC (qq m) (kk m) (ll m) i j * vv m j e := by
  unfold oIntra qd
  pointwise
  simp only [select_mask]
  rw [sum_chunk _ m hm]
  · refine Finset.sum_congr rfl fun j _ => ?_
    unfold aC qC
    by_cases h : j ≤ i
    · have h' : j.val ≤ i.val := h
      rw [if_pos ⟨by dsimp only; omega, by dsimp only; omega⟩, if_pos h]
      have e1 := hv m hm j e
      rw [← e1]
      congr 1
      refine Finset.sum_congr rfl fun d _ => ?_
      have e2 := hq m hm i d
      have e3 : b (ix2 (rw32 m hm i) d) = bC (ll m) i d := hb m hm i d
      have e4 := hk m hm j d
      have e5 : b (ix2 (rw32 m hm j) d) = bC (ll m) j d := hb m hm j d
      rw [← e2, ← e3, ← e4, ← e5, zero_sub]
    · have h' : ¬ j.val ≤ i.val := h
      rw [if_neg (by dsimp only; omega), if_neg h, zero_mul]
  · intro r hr
    rw [if_neg (fun h => hr (by have := h.2; omega))]

theorem inter_at (q b : FVec Ideal S256x128 .f32) (qq ll : ℕ → Chunk) (hq : Rows q qq) (hb : Rows b fun m => bC (ll m)) (m : ℕ) (hm : m < 8) (s : FVec Ideal S128x128 .f32) (s0 : St)
    (hs : ∀ e d, s (ix2 e d) = s0 d e) (i : Fin 32) (e : Fin 128) : inter (qd q b) m hm s (ix2 i e) = ∑ d, qC (qq m) (ll m) i d * s0 d e := by
  unfold inter qd
  pointwise
  refine Finset.sum_congr rfl fun d _ => ?_
  have e2 := hq m hm i d
  have e3 : b (ix2 (rw32 m hm i) d) = bC (ll m) i d := hb m hm i d
  unfold qC
  rw [← e2, ← e3, ← hs]

theorem oInter_at (q k v b : FVec Ideal S256x128 .f32) (qq kk vv ll : ℕ → Chunk) (hq : Rows q qq) (hk : Rows k kk) (hv : Rows v vv) (hb : Rows b fun m => bC (ll m))
    (s : FVec Ideal S128x128 .f32) (s0 : St) (hs : ∀ e d, s (ix2 e d) = s0 d e) (m : ℕ) (hm : m < 8) (i : Fin 32) (e : Fin 128) :
    oInter q (dState k v b) b s (ix2 (rw32 m hm i) e) = ∑ d, qC (qq m) (ll m) i d * chain kk vv ll s0 m d e := by
  have e0 := concatenate_ofFn_apply (t := S256x128) (s₁ := S32x128) 0 (fun n : Fin 8 => inter (qd q b) n.val n.isLt (stAfter (dState k v b) b s n.val (Nat.le_of_lt n.isLt)))
    concatenates_S32x128_S32x128_S32x128_S32x128_S32x128_S32x128_S32x128_S32x128_S256x128_d0
    rfl 32 rfl (ix2 (rw32 m hm i) e) ⟨m, hm⟩ (by show (32 * m + i.val) / 32 = m; omega) (ix2 i e) (by show i.val = (32 * m + i.val) % 32; omega)
    (fun a ha => by
      match a with
      | 0 => exact absurd rfl ha
      | 1 => rfl)
  rw [← inter_at q b qq ll hq hb m hm _ _ (stAfter_at k v b kk vv ll hk hv hb s s0 hs m (Nat.le_of_lt hm)) i e, ← e0]
  rfl

theorem oRaw_at (q k v b : FVec Ideal S256x128 .f32) (qq kk vv ll : ℕ → Chunk) (hq : Rows q qq) (hk : Rows k kk) (hv : Rows v vv) (hb : Rows b fun m => bC (ll m))
    (s : FVec Ideal S128x128 .f32) (s0 : St) (hs : ∀ e d, s (ix2 e d) = s0 d e) : Rows (oRaw q k v b s) fun m => oC (qq m) (kk m) (vv m) (ll m) (chain kk vv ll s0 m) := by
  intro m hm i e
  unfold oRaw oC
  rw [addf_apply, oIntra_at q k v b qq kk vv ll hq hk hv hb m hm i e, oInter_at q k v b qq kk vv ll hq hk hv hb s s0 hs m hm i e]
  rfl

theorem normed_at (o g : FVec Ideal S256x128 .f32) (w : FVec Ideal S1x128 .f32) (oo gg : ℕ → Chunk) (ho : Rows o oo) (hg : Rows g gg) :
    Rows (normed o g w) fun m => nC (oo m) (gg m) fun e => w (ix2 0 e) := by
  intro m hm i e
  unfold normed
  pointwise
  unfold nC
  simp only [← ho m hm i, ← hg m hm i]

end Cert.Gla

end
-- ==== Proof.KernelValue.lean ====
/- The kernel's two results over the extended reals: the recurrence, batch by batch and head by head. -/
module

public import proofs.«01_k».proof.Proof.TileIdeal
public import Idealize.ShloMosaic.Lib.StableHlo.Run

@[expose] public section

set_option maxRecDepth 16384

noncomputable section

namespace Cert.Gla

open Idealize.ShloMosaic Idealize.ShloMosaic.TcCoe Idealize.ShloMosaic.Tactic Idealize.SL.Sem Cert.KernelIdeal Cert.KernelIdeal.Gen

/-- The argument's rows of chunk `c` of batch `n`, in the 128 columns from `o`. -/
def gcol (x : FVec Ideal S8x2048x2560 .f32) (n : Fin 8) (o c : ℕ) : Chunk := fun i d =>
  x (ix3 n ⟨(32 * c + i.val) % 2048, Nat.mod_lt _ (by decide)⟩ ⟨(o + d.val) % 2560, Nat.mod_lt _ (by decide)⟩)

/-- Head `h`'s state before chunk `c`, and its output rows of chunk `c`. -/
def gS (x : FVec Ideal S8x2048x2560 .f32) (n : Fin 8) (h c : ℕ) : St :=
  chain (gcol x n (512 + 128 * h)) (gcol x n (1536 + 128 * h)) (gcol x n (1024 + 128 * h)) (fun _ _ => 0) c
def gO (x : FVec Ideal S8x2048x2560 .f32) (w : FVec Ideal S1x128 .f32) (n : Fin 8) (h c : ℕ) : Chunk :=
  nC (oC (gcol x n (128 * h) c) (gcol x n (512 + 128 * h) c) (gcol x n (1536 + 128 * h) c) (gcol x n (1024 + 128 * h) c) (gS x n h c))
    (gcol x n (2048 + 128 * h) c) fun e => w (ix2 0 e)

/-- No log decay is +∞. -/
def Below (x : FVec Ideal S8x2048x2560 .f32) : Prop := ∀ (n : Fin 8) (r : Fin 2048) (d : Fin 2560), 1024 ≤ d.val → d.val < 1536 → x (ix3 n r d) ≠ (⊤ : EReal)

theorem cast_ld (v : FVec Ideal S1x256x128 .f32) (r : Fin 256) (d : Fin 128) :
    (shapeCast S256x128 v shapeCasts_S1x256x128_S256x128 (ix2 r d) : EReal) = v (ix3 0 r d) := by
  pointwise

theorem col_ld (rd : Rd Ideal) (sub : ℕ) (hs : sub < 4) (c : ℕ) (hc : c ≤ 2432) (r : Fin 256) (d : Fin 128) :
    (col rd sub hs c hc (ix2 r d) : EReal) = rd (rCol sub hs c hc) (ix3 0 r d) := by
  exact cast_ld (rd (rCol sub hs c hc)) r d

theorem log_ld (v : FVec Ideal S1x256x512 .f32) (r : Fin 256) (d : Fin 512) :
    (shapeCast S256x512 v shapeCasts_S1x256x512_S256x512 (ix2 r d) : EReal) = v (ix3 0 r d) := by
  pointwise

theorem rCol_at (x0 : Vec Ideal S1x1024x2560 .f32) (sub : ℕ) (hs : sub < 4) (c : ℕ) (hc : c ≤ 2432) (r : Fin 256) (d : Fin 128) :
    ldR x0 (rCol sub hs c hc) (ix3 0 r d) = x0 (ix3 0 ⟨256 * sub + r.val, by omega⟩ ⟨c + d.val, by omega⟩) := by
  refine congrArg x0 ?_
  funext a
  apply Fin.ext
  match a with
  | 0 => show 0 + 1 * 0 = 0; rfl
  | 1 => show 256 * sub + 1 * r.val = 256 * sub + r.val; omega
  | 2 => show c + 1 * d.val = c + d.val; omega

theorem rLog_at (x0 : Vec Ideal S1x1024x2560 .f32) (sub : ℕ) (hs : sub < 4) (r : Fin 256) (d : Fin 512) :
    ldR x0 (rLog sub hs) (ix3 0 r d) = x0 (ix3 0 ⟨256 * sub + r.val, by omega⟩ ⟨1024 + d.val, by omega⟩) := by
  refine congrArg x0 ?_
  funext a
  apply Fin.ext
  match a with
  | 0 => show 0 + 1 * 0 = 0; rfl
  | 1 => show 256 * sub + 1 * r.val = 256 * sub + r.val; omega
  | 2 => show 1024 + 1 * d.val = 1024 + d.val; omega

theorem gcol_eq (x : FVec Ideal S8x2048x2560 .f32) (n : Fin 8) (o c : ℕ) (i : Fin 32) (d : Fin 128) (r : Fin 2048) (e : Fin 2560) (hr : r.val = 32 * c + i.val) (he : e.val = o + d.val) :
    x (ix3 n r e) = gcol x n o c i d := by
  unfold gcol
  exact congrArg₂ (fun a b => x (ix3 n a b)) (Fin.ext (by rw [hr]; exact (Nat.mod_eq_of_lt (by omega)).symm)) (Fin.ext (by rw [he]; exact (Nat.mod_eq_of_lt (by omega)).symm))

section
variable (x : FVec Ideal S8x2048x2560 .f32) (w : FVec Ideal S1x128 .f32) (n : Fin 8) (half : ℕ) (hf : half < 2) (x0 : Vec Ideal S1x1024x2560 .f32)
  (hx0 : ∀ (r : Fin 1024) (d : Fin 2560), x0 (ix3 0 r d) = x (ix3 n ⟨1024 * half + r.val, by omega⟩ d))

include hx0 in
theorem col_at (sub : ℕ) (hs : sub < 4) (c : ℕ) (hc : c ≤ 2432) : Rows (col (ldR x0) sub hs c hc) fun m => gcol x n c (32 * half + 8 * sub + m) := by
  intro m hm i d
  rw [col_ld, rCol_at, hx0]
  exact gcol_eq x n _ _ _ _ _ _ (by dsimp only [rw32]; omega) rfl

include hx0 in
theorem bHead_at (hx : Below x) (sub : ℕ) (hs : sub < 4) (h : ℕ) (hh : h < 4) :
    Rows (bHead (ldR x0) sub hs h hh) fun m => bC (gcol x n (1024 + 128 * h) (32 * half + 8 * sub + m)) := by
  have e : ∀ (r : Fin 256) (d : Fin 512), (shapeCast S256x512 (ldR x0 (rLog sub hs) : FVec Ideal S1x256x512 .f32) shapeCasts_S1x256x512_S256x512 (ix2 r d) : EReal) =
      x (ix3 n ⟨1024 * half + (256 * sub + r.val), by omega⟩ ⟨1024 + d.val, by omega⟩) := by
    intro r d
    rw [log_ld, rLog_at, hx0]
  intro m hm i d
  unfold bHead
  generalize hv : shapeCast S256x512 (ldR x0 (rLog sub hs) : FVec Ideal S1x256x512 .f32) shapeCasts_S1x256x512_S256x512 = v at e ⊢
  have hb := bAll_at v (fun j => by
    have e' : v j = x (ix3 n ⟨1024 * half + (256 * sub + (j 0).val), by have : (j 0).val < 256 := (j 0).isLt; omega⟩ ⟨1024 + (j 1).val, by have : (j 1).val < 512 := (j 1).isLt; omega⟩) :=
      (congrArg v (eq_ix2 j)).trans (e (j 0) (j 1))
    rw [e']
    exact hx _ _ _ (by dsimp only; omega) (by have : (j 1).val < 512 := (j 1).isLt; dsimp only; omega)) m hm i ⟨128 * h + d.val, by omega⟩
  refine Eq.trans ?_ (hb.trans ?_)
  · refine congrArg (bAll v) ?_
    funext a
    apply Fin.ext
    match a with
    | 0 => show 0 + (32 * m + i.val) = 32 * m + i.val; omega
    | 1 => rfl
  · unfold bC
    refine Finset.sum_congr rfl fun j _ => ?_
    rw [e, gcol_eq x n (1024 + 128 * h) (32 * half + 8 * sub + m) j d _ _ (by dsimp only; omega) (by dsimp only; omega)]

include hx0 in
theorem stTile_at (hx : Below x) (sub : ℕ) (hs : sub < 4) (h : ℕ) (hh : h < 4) (s : FVec Ideal S1x128x128 .f32)
    (e0 : ∀ e d, s (ix3 0 e d) = gS x n h (32 * half + 8 * sub) d e) (e d : Fin 128) :
    stTile (ldR x0) sub hs h hh s (ix3 0 e d) = gS x n h (32 * half + 8 * (sub + 1)) d e := by
  unfold stTile
  pointwise
  refine (stAfter_at _ _ _ _ _ _ (col_at x n half hf x0 hx0 sub hs (512 + 128 * h) (by omega)) (col_at x n half hf x0 hx0 sub hs (1536 + 128 * h) (by omega))
    (bHead_at x n half hf x0 hx0 hx sub hs h hh) (shapeCast S128x128 s shapeCasts_S1x128x128_S128x128) (gS x n h (32 * half + 8 * sub)) (fun e d => by pointwise; exact e0 e d) 8 (by decide) e d).trans ?_
  · unfold gS
    rw [chain_add]
    rfl

include hx0 in
theorem outTile_at (hx : Below x) (sub : ℕ) (hs : sub < 4) (h : ℕ) (hh : h < 4) (s : FVec Ideal S1x128x128 .f32)
    (e0 : ∀ e d, s (ix3 0 e d) = gS x n h (32 * half + 8 * sub) d e) (m : ℕ) (hm : m < 8) (i : Fin 32) (e : Fin 128) :
    outTile (ldR x0) w sub hs h hh s (ix3 0 (rw32 m hm i) e) = gO x w n h (32 * half + 8 * sub + m) i e := by
  unfold outTile
  pointwise
  have ho := oRaw_at _ _ _ _ _ _ _ _ (col_at x n half hf x0 hx0 sub hs (128 * h) (by omega)) (col_at x n half hf x0 hx0 sub hs (512 + 128 * h) (by omega))
    (col_at x n half hf x0 hx0 sub hs (1536 + 128 * h) (by omega)) (bHead_at x n half hf x0 hx0 hx sub hs h hh)
    (shapeCast S128x128 s shapeCasts_S1x128x128_S128x128) (gS x n h (32 * half + 8 * sub)) (fun e d => by pointwise; exact e0 e d)
  refine (normed_at _ _ w _ _ ho (col_at x n half hf x0 hx0 sub hs (2048 + 128 * h) (by omega)) m hm i e).trans ?_
  unfold gO gS
  dsimp only
  rw [chain_add]

include hx0 in
theorem stN_at (hx : Below x) (s0 : ℕ → FVec Ideal S1x128x128 .f32) (h : ℕ) (hh : h < 4) (e0 : ∀ e d, s0 h (ix3 0 e d) = gS x n h (32 * half) d e) :
    ∀ (k : ℕ) (hk : k ≤ 4) (e d : Fin 128), stN (ldR x0) s0 h hh k hk (ix3 0 e d) = gS x n h (32 * half + 8 * k) d e
  | 0, _, e, d => e0 e d
  | k + 1, hk, e, d => stTile_at x n half hf x0 hx0 hx k hk h hh _ (fun e d => stN_at hx s0 h hh e0 k _ e d) e d
end

/-! ## The points -/

variable (m : (ℓ : Loc nD τ sig) → Buf (Elt Ideal) ℓ) (c : Dev nD)

abbrev X : FVec Ideal S8x2048x2560 .f32 := m ((c : Thread nD τ).loc main_arg0)
abbrev W : FVec Ideal S1x128 .f32 := m ((c : Thread nD τ).loc main_arg1)

theorem iblk0_at (t : Fin cfg0.N) (n : Fin 8) (half : ℕ) (hf : half < 2) (ht : t.val = 2 * n.val + half) (r : Fin 1024) (d : Fin 2560) :
    (iblk m c 0 t : Vec Ideal S1x1024x2560 .f32) (ix3 0 r d) = X m c (ix3 n ⟨1024 * half + r.val, by omega⟩ d) := by
  have hi : ∀ t : Fin cfg0.N, win0_0.index t (0 : Fin 3) = t.val / 2 ∧ win0_0.index t (1 : Fin 3) = t.val % 2 ∧ win0_0.index t (2 : Fin 3) = 0 :=
    (by decide +kernel : ∀ t : Fin grid0.N, _)
  obtain ⟨h0, h1, h2⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 3) * 1 + 1 * 0 = n.val; rw [h0]; omega
  | ⟨1, _⟩ => show win0_0.index t (1 : Fin 3) * 1024 + 1 * r.val = 1024 * half + r.val; rw [h1]; omega
  | ⟨2, _⟩ => show win0_0.index t (2 : Fin 3) * 2560 + 1 * d.val = d.val; rw [h2]; omega

theorem V_main_v1 : V m c main_v1 = W m c := by
  show StableHlo.after hostOps0 _ (Proc.devRef .tc main_v1) = _
  after_results
  exact (shapeCast_comp _ _ _).trans (shapeCast_self _ _)

theorem iblk1_at (t : Fin cfg0.N) : (iblk m c 1 t : Vec Ideal S1x128 .f32) = W m c := by
  have hi : ∀ t : Fin cfg0.N, win0_1.index t (0 : Fin 2) = 0 ∧ win0_1.index t (1 : Fin 2) = 0 :=
    (by decide +kernel : ∀ t : Fin grid0.N, _)
  obtain ⟨h0, h1⟩ := hi t
  funext j
  unfold iblk
  rw [View.read_apply]
  show V m c main_v1 _ = _
  rw [V_main_v1]
  refine congrArg (m ((c : Thread nD τ).loc main_arg1)) ?_
  funext a
  apply Fin.ext
  match a with
  | ⟨0, _⟩ => show win0_1.index t (0 : Fin 2) * 1 + 1 * (j 0).val = (j 0).val; rw [h0]; omega
  | ⟨1, _⟩ => show win0_1.index t (1 : Fin 2) * 128 + 1 * (j 1).val = (j 1).val; rw [h1]; omega

variable (hx : Below (X m c))

theorem zero0_at (n : Fin 8) (h : ℕ) (e d : Fin 128) : zero0 (F := Ideal) h (ix3 0 e d) = gS (X m c) n h (32 * 0) d e := by
  unfold zero0
  exact Ideal.ofBits_zero_f32

include hx in
/-- What the scratch holds after a batch's first half. -/
theorem scratch_at (t : Fin cfg0.N) (n : Fin 8) (ht : t.val = 2 * n.val) (y : S4x128x128.Idx) :
    (outsAt0 m c t.val t.isLt).2.2 y = gS (X m c) n (y 0).val 32 (y 2) (y 1) := by
  rw [outsAt0_A m c t (by omega) (by omega)]
  dsimp only
  rw [soutA]
  exact stN_at (X m c) n 0 (by decide) _ (iblk0_at m c t n 0 (by decide) ht) hx zero0 _ _ (zero0_at m c n _) 4 _ _ _

include hx in
theorem from0_at (t : Fin cfg0.N) (n : Fin 8) (ht : t.val = 2 * n.val + 1) (h : ℕ) (hh : h < 4) (e d : Fin 128) :
    from0 (outsAt0 m c (t.val - 1) (Nat.lt_of_le_of_lt (Nat.sub_le _ _) t.isLt)).2.2 h (ix3 0 e d) = gS (X m c) n h (32 * 1) d e := by
  unfold from0
  rw [dif_pos hh]
  have := scratch_at m c hx ⟨t.val - 1, Nat.lt_of_le_of_lt (Nat.sub_le _ _) t.isLt⟩ n (by dsimp only; omega) (ix3 ⟨h, hh⟩ e d)
  refine Eq.trans ?_ this
  refine congrArg (outsAt0 m c (t.val - 1) (Nat.lt_of_le_of_lt (Nat.sub_le _ _) t.isLt)).2.2 ?_
  funext a
  apply Fin.ext
  match a with
  | 0 => show h + 1 * 0 = h; omega
  | 1 => show 0 + 1 * e.val = e.val; omega
  | 2 => show 0 + 1 * d.val = d.val; omega

include hx in
/-- What a point's output block holds. -/
theorem out_at (t : Fin cfg0.N) (n : Fin 8) (half : ℕ) (hf : half < 2) (ht : t.val = 2 * n.val + half) (k : ℕ) (hk : k < 32) (i : Fin 32) (h : ℕ) (hh : h < 4) (e : Fin 128)
    (y : S1x1024x512.Idx) (e0 : (y 0).val = 0) (e1 : (y 1).val = 32 * k + i.val) (e2 : (y 2).val = 128 * h + e.val) :
    (outsAt0 m c t.val t.isLt).1 y = gO (X m c) (W m c) n h (32 * half + k) i e := by
  have ek : 32 * half + k = 32 * half + 8 * (k / 8) + k % 8 := by omega
  by_cases hz : half = 0
  · subst hz
    rw [outsAt0_A m c t (by omega) (by omega)]
    dsimp only
    rw [outA2 c _ _ _ _ _ _ _ _ _ _ _ _ _ _ _ (k / 8) (by omega) h hh (rw32 (k % 8) (by omega) i) e y e0 (by rw [e1]; dsimp only; omega) e2, iblk1_at, ek]
    exact outTile_at (X m c) (W m c) n 0 (by decide) _ (iblk0_at m c t n 0 (by decide) ht) hx (k / 8) (by omega) h hh _
      (stN_at (X m c) n 0 (by decide) _ (iblk0_at m c t n 0 (by decide) ht) hx zero0 h hh (zero0_at m c n h) (k / 8) _) _ _ i e
  · obtain rfl : half = 1 := by omega
    rw [outsAt0_B m c t (by omega) (by omega)]
    dsimp only
    rw [outB2 c _ _ _ _ _ _ _ _ _ _ _ _ _ _ _ _ (k / 8) (by omega) h hh (rw32 (k % 8) (by omega) i) e y e0 (by rw [e1]; dsimp only; omega) e2, iblk1_at, ek]
    exact outTile_at (X m c) (W m c) n 1 (by decide) _ (iblk0_at m c t n 1 (by decide) ht) hx (k / 8) (by omega) h hh _
      (stN_at (X m c) n 1 (by decide) _ (iblk0_at m c t n 1 (by decide) ht) hx _ h hh (from0_at m c hx t n ht h hh) (k / 8) _) _ _ i e

include hx in
/-- What the state block holds after a batch's second half. -/
theorem state_at (t : Fin cfg0.N) (n : Fin 8) (ht : t.val = 2 * n.val + 1) (h : Fin 4) (d e : Fin 128) :
    (outsAt0 m c t.val t.isLt).2.1 (ix4 0 h d e) = gS (X m c) n h.val 64 d e := by
  rw [outsAt0_B m c t (by omega) (by omega)]
  dsimp only
  refine (outB3 c _ _ _ _ _ _ _ _ _ _ _ _ _ _ _ _ h.val h.isLt d e).trans ?_
  exact stN_at (X m c) n 1 (by decide) _ (iblk0_at m c t n 1 (by decide) ht) hx _ h.val h.isLt (from0_at m c hx t n ht h.val h.isLt) 4 _ e d

/-! ## The results -/

include hx in
theorem G2_at (n : Fin 8) (k : Fin 64) (i : Fin 32) (h : Fin 4) (e : Fin 128) (j : S8x2048x512.Idx) (e0 : (j 0).val = n.val) (e1 : (j 1).val = 32 * k.val + i.val) (e2 : (j 2).val = 128 * h.val + e.val) :
    Value.G2 m c j = gO (X m c) (W m c) n h.val k.val i e := by
  have hp : Value.pt2Of j = 2 * n.val + k.val / 32 := by
    show 2 * ((j 0).val / 1 - 0) + 1 * ((j 1).val / 1024 - 0) + 1 * ((j 2).val / 512 - 0) = _
    rw [e0, e1, e2]; omega
  have hN : Value.pt2Of j < cfg0.N := by rw [hp]; exact lt_of_lt_of_eq (by omega) (show cfg0.N = 16 from N_0).symm
  unfold Value.G2
  rw [dif_pos hN]
  have hs := Value.outsAt0_sweep m c (Value.pt2Of j) hN
  rw [← hs]
  have := out_at m c hx ⟨Value.pt2Of j, hN⟩ n (k.val / 32) (by omega) hp (k.val % 32) (by omega) i h.val h.isLt e (Value.loc2Of j) (by show (j 0).val % 1 = 0; omega)
    (by show (j 1).val % 1024 = _; rw [e1]; omega) (by show (j 2).val % 512 = _; rw [e2]; omega)
  rw [this]
  congr 1
  omega

include hx in
theorem G3_at (n : Fin 8) (h : Fin 4) (d e : Fin 128) : Value.G3 m c (ix4 n h d e) = gS (X m c) n h.val 64 d e := by
  have hp : Value.pt3Of (ix4 n h d e) = 2 * n.val + 1 := by
    show 2 * (1 * (n.val / 1 - 0) + 1 * (h.val / 4 - 0) + 1 * (d.val / 128 - 0) + 1 * (e.val / 128 - 0)) + 1 = _
    omega
  have hN : Value.pt3Of (ix4 n h d e) < cfg0.N := by rw [hp]; exact lt_of_lt_of_eq (by omega) (show cfg0.N = 16 from N_0).symm
  unfold Value.G3
  rw [dif_pos hN]
  have hs := Value.outsAt0_sweep m c (Value.pt3Of (ix4 n h d e)) hN
  rw [← hs]
  refine Eq.trans (congrArg (outsAt0 m c (Value.pt3Of (ix4 n h d e)) hN).2.1 ?_) (state_at m c hx ⟨Value.pt3Of (ix4 n h d e), hN⟩ n hp h d e)
  funext a
  apply Fin.ext
  match a with
  | ⟨0, _⟩ => show n.val % 1 = 0; omega
  | ⟨1, _⟩ => show h.val % 4 = h.val; omega
  | ⟨2, _⟩ => show d.val % 128 = d.val; omega
  | ⟨3, _⟩ => show e.val % 128 = e.val; omega

end Cert.Gla

end
-- ==== Proof.RefValue.lean ====
/- The reference's two results over the extended reals: the same recurrence. -/
module

public import proofs.«01_k».proof.Proof.RefRun
public import proofs.«01_k».proof.Proof.KernelValue
public import Idealize.ShloMosaic.Lib.DynamicIndex

@[expose] public section

set_option maxRecDepth 16384

noncomputable section

namespace Cert.Gla.Ref

open Idealize.ShloMosaic Idealize.ShloMosaic.TcCoe Idealize.ShloMosaic.Tactic Idealize.SL.Sem
open Cert.ReferenceIdeal Cert.ReferenceIdeal.Gen Cert.ReferenceIdeal.Step

/-- Adding up a list's values from zero is their sum. -/
theorem foldl_sum (n : ℕ) (g : Fin n → EReal) : (List.finRange n).foldl (fun r k => r + g k) 0 = ∑ k, g k := by
  rw [Fin.sum_univ_def, List.sum_eq_foldl, List.foldl_map]

/-- Where a window's `k`-th place lies along an axis. -/
def winC (k : Fin 32) (a : Fin 4) : ℕ := ((⟨4, ![1, 32, 1, 1]⟩ : Shape).rowMajor.symm k a).val

theorem win_at : ∀ k : Fin 32, winC k 0 = 0 ∧ winC k 1 = k.val ∧ winC k 2 = 0 ∧ winC k 3 = 0 := by
  decide +kernel

/-- A window of 32 padded 31 low sums the rows up to a row. -/
theorem cumsum_at (x : FVec Ideal S8x32x4x128 .f32) (z : FVec Ideal S_ .f32) (hz : z (Shape.Idx.first h_S_) = (0 : EReal)) (n : Fin 8) (i : Fin 32) (h : Fin 4) (d : Fin 128) :
    (Host.reduceWindowAdd ![1, 32, 1, 1] ![1, 1, 1, 1] ![0, 31, 0, 0] ![0, 0, 0, 0] x z reduceWindows_S8x32x4x128_S8x32x4x128_w1s1p0_0_w32s1p31_0_w1s1p0_0_w1s1p0_0 h_S_ (ix4 n i h d) : EReal)
      = ∑ j : Fin 32, if j ≤ i then x (ix4 n j h d) else 0 := by
  show Ideal.hostReduceWindowAdd ![1, 32, 1, 1] ![1, 1, 1, 1] ![0, 31, 0, 0] ![0, 0, 0, 0] reduceWindows_S8x32x4x128_S8x32x4x128_w1s1p0_0_w32s1p31_0_w1s1p0_0_w1s1p0_0 x (z (Shape.Idx.first h_S_)) (ix4 n i h d) = _
  rw [hz]
  unfold Ideal.hostReduceWindowAdd Host.reduceWindow
  refine (foldl_sum 32 _).trans ?_
  refine Fintype.sum_equiv (Equiv.addRight (i + 1)) _ _ fun k => ?_
  obtain ⟨w0, w1, w2, w3⟩ := win_at k
  have hj : (Equiv.addRight (i + 1) k : Fin 32).val = (k.val + (i.val + 1)) % 32 := by
    show (k + (i + 1)).val = _
    rw [Fin.val_add, Fin.val_add]
    show (k.val + (i.val + 1) % 32) % 32 = _
    omega
  by_cases hc : 31 ≤ i.val + k.val
  · rw [dif_pos (by
      intro a
      match a with
      | ⟨0, _⟩ => show 0 ≤ n.val * 1 + winC k 0 ∧ n.val * 1 + winC k 0 - 0 < 8; rw [w0]; omega
      | ⟨1, _⟩ => show 31 ≤ i.val * 1 + winC k 1 ∧ i.val * 1 + winC k 1 - 31 < 32; rw [w1]; omega
      | ⟨2, _⟩ => show 0 ≤ h.val * 1 + winC k 2 ∧ h.val * 1 + winC k 2 - 0 < 4; rw [w2]; omega
      | ⟨3, _⟩ => show 0 ≤ d.val * 1 + winC k 3 ∧ d.val * 1 + winC k 3 - 0 < 128; rw [w3]; omega),
      if_pos (Fin.le_def.2 (by rw [hj]; omega))]
    refine congrArg x ?_
    funext a
    apply Fin.ext
    match a with
    | ⟨0, _⟩ => show n.val * 1 + winC k 0 - 0 = n.val; rw [w0]; omega
    | ⟨1, _⟩ => show i.val * 1 + winC k 1 - 31 = (Equiv.addRight (i + 1) k : Fin 32).val; rw [w1, hj]; omega
    | ⟨2, _⟩ => show h.val * 1 + winC k 2 - 0 = h.val; rw [w2]; omega
    | ⟨3, _⟩ => show d.val * 1 + winC k 3 - 0 = d.val; rw [w3]; omega
  · rw [dif_neg (by
      intro hall
      have := hall ⟨1, by decide⟩
      have h1 : 31 ≤ i.val * 1 + winC k 1 := this.1
      rw [w1] at h1
      omega), if_neg (fun hle => by
        have := Fin.le_def.1 hle
        rw [hj] at this
        omega)]

variable (x : FVec Ideal S8x2048x2560 .f32) (w : FVec Ideal S1x128 .f32) (j : ℕ) (hj : j < 64) (s : State Ideal) (hxs : s.main_v6_0 = A_main_v3 (F := Ideal) x) (hw : s.main_v6_2 = w)

theorem xs_at (k : Fin 64) (n : Fin 8) (i : Fin 32) (d : Fin 2560) : A_main_v3 (F := Ideal) x (ix4 k n i d) = x (ix3 n ⟨32 * k.val + i.val, by omega⟩ d) := by
  unfold A_main_v3 A_main_v2
  pointwise
  exact congrArg (fun a => x (ix3 n a d)) (Fin.ext (by dsimp only; omega))

include hj hxs in
theorem b4_at (n : Fin 8) (i : Fin 32) (d : Fin 2560) : b4 j s (ix3 n i d) = x (ix3 n ⟨32 * j + i.val, by omega⟩ d) := by
  have e : b3 j s = extractStridedSlice S1x8x32x2560 ![j, 0, 0, 0] s.main_v6_0 (by
      refine ⟨rfl, fun a => ?_⟩
      match a with
      | ⟨0, _⟩ => show j + 1 ≤ 64; omega
      | ⟨1, _⟩ => show 0 + 8 ≤ 8; omega
      | ⟨2, _⟩ => show 0 + 32 ≤ 32; omega
      | ⟨3, _⟩ => show 0 + 2560 ≤ 2560; omega) := by
    unfold b3
    refine Host.dynamicSlice_eq_extractStridedSlice _ _ _ _ _ _ fun a => ?_
    match a with
    | ⟨0, _⟩ => exact toInt_ofNat_of_lt (by omega)
    | ⟨1, _⟩ => rfl
    | ⟨2, _⟩ => rfl
    | ⟨3, _⟩ => rfl
  unfold b4
  rw [e, hxs]
  generalize hX : A_main_v3 (F := Ideal) x = xs
  pointwise
  subst hX
  exact xs_at x j ⟨j, hj⟩ n i d

/-- Columns of the chunk's rows, as heads. -/
theorem heads_at (v : FVec Ideal S8x32x2560 .f32) (ev : ∀ (n : Fin 8) (i : Fin 32) (d : Fin 2560), (v (ix3 n i d) : EReal) = x (ix3 n ⟨32 * j + i.val, by omega⟩ d))
    (o : ℕ) (ho : o ≤ 2048) (hs : S8x32x2560.Slices ![0, 0, o] S8x32x512) (n : Fin 8) (i : Fin 32) (h : Fin 4) (d : Fin 128) :
    (shapeCast S8x32x4x128 (extractStridedSlice S8x32x512 ![0, 0, o] v hs) shapeCasts_S8x32x512_S8x32x4x128 (ix4 n i h d) : EReal) = gcol x n (o + 128 * h.val) j i d := by
  pointwise
  exact (ev n i ⟨o + (h.val * 128 + d.val), by omega⟩).trans (gcol_eq x n _ _ _ _ _ _ rfl (by dsimp only; omega))

include hj hxs in
theorem b6_at (n : Fin 8) (i : Fin 32) (h : Fin 4) (d : Fin 128) : b6 j s (ix4 n i h d) = gcol x n (128 * h.val) j i d :=
  (heads_at x j hj _ (b4_at x j hj s hxs) 0 (by decide) _ n i h d).trans (by rw [Nat.zero_add])
include hj hxs in
theorem b8_at (n : Fin 8) (i : Fin 32) (h : Fin 4) (d : Fin 128) : b8 j s (ix4 n i h d) = gcol x n (512 + 128 * h.val) j i d :=
  heads_at x j hj _ (b4_at x j hj s hxs) 512 (by decide) _ n i h d
include hj hxs in
theorem b10_at (n : Fin 8) (i : Fin 32) (h : Fin 4) (d : Fin 128) : b10 j s (ix4 n i h d) = gcol x n (1024 + 128 * h.val) j i d :=
  heads_at x j hj _ (b4_at x j hj s hxs) 1024 (by decide) _ n i h d
include hj hxs in
theorem b12_at (n : Fin 8) (i : Fin 32) (h : Fin 4) (d : Fin 128) : b12 j s (ix4 n i h d) = gcol x n (1536 + 128 * h.val) j i d :=
  heads_at x j hj _ (b4_at x j hj s hxs) 1536 (by decide) _ n i h d
include hj hxs in
theorem b14_at (n : Fin 8) (i : Fin 32) (h : Fin 4) (d : Fin 128) : b14 j s (ix4 n i h d) = gcol x n (2048 + 128 * h.val) j i d :=
  heads_at x j hj _ (b4_at x j hj s hxs) 2048 (by decide) _ n i h d

include hj hxs in
theorem b17_at (n : Fin 8) (i : Fin 32) (h : Fin 4) (d : Fin 128) : b17 j s (ix4 n i h d) = bC (gcol x n (1024 + 128 * h.val) j) i d := by
  unfold b17 bC
  refine (cumsum_at _ _ (by unfold b16 b15; exact Ideal.ofBits_zero_f32) n i h d).trans ?_
  simp only [b10_at x j hj s hxs]

include hj hxs in
theorem b18_at (n : Fin 8) (i : Fin 1) (h : Fin 4) (d : Fin 128) : b18 j s (ix4 n i h d) = bC (gcol x n (1024 + 128 * h.val) j) 31 d := by
  have e := b17_at x j hj s hxs n 31 h d
  unfold b18
  generalize b17 j s = v at e ⊢
  refine Eq.trans (congrArg v ?_) e
  funext a
  apply Fin.ext
  match a with
  | ⟨0, _⟩ => show 0 + n.val = n.val; omega
  | ⟨1, _⟩ => show 31 + i.val = 31; omega
  | ⟨2, _⟩ => show 0 + h.val = h.val; omega
  | ⟨3, _⟩ => show 0 + d.val = d.val; omega

include hj hxs in
theorem b20_at (n : Fin 8) (i : Fin 32) (h : Fin 4) (d : Fin 128) : b20 j s (ix4 n i h d) = qC (gcol x n (128 * h.val) j) (gcol x n (1024 + 128 * h.val) j) i d := by
  unfold b20 b19 qC
  pointwise
  rw [b6_at x j hj s hxs, b17_at x j hj s hxs]

include hj hxs in
theorem b23_at (n : Fin 8) (i : Fin 32) (h : Fin 4) (d : Fin 128) : b23 j s (ix4 n i h d) = gcol x n (512 + 128 * h.val) j i d * Ideal.exp (-bC (gcol x n (1024 + 128 * h.val) j) i d) := by
  unfold b23 b22 b21
  pointwise
  rw [b8_at x j hj s hxs, b17_at x j hj s hxs]

include hj hxs in
theorem b24_at (n : Fin 8) (h : Fin 4) (i k : Fin 32) : b24 j s (ix4 n h i k) = ∑ d, qC (gcol x n (128 * h.val) j) (gcol x n (1024 + 128 * h.val) j) i d *
    (gcol x n (512 + 128 * h.val) j k d * Ideal.exp (-bC (gcol x n (1024 + 128 * h.val) j) k d)) := by
  unfold b24
  pointwise
  refine Finset.sum_congr rfl fun d _ => ?_
  rw [b20_at x j hj s hxs, b23_at x j hj s hxs]

theorem mask_at (i k : Fin 32) : K_main_v1 (F := Ideal) (ix2 i k) = if k ≤ i then 1#1 else 0#1 := by
  revert i k
  decide +kernel

include hj hxs in
theorem b29_at (n : Fin 8) (h : Fin 4) (i k : Fin 32) : b29 j s (ix4 n h i k) = aC (gcol x n (128 * h.val) j) (gcol x n (512 + 128 * h.val) j) (gcol x n (1024 + 128 * h.val) j) i k := by
  unfold b29 b28 b27 b26 b25 aC
  have e := b24_at x j hj s hxs n h i k
  have em := mask_at i k
  generalize K_main_v1 (F := Ideal) = mk at em ⊢
  generalize b24 j s = v at e ⊢
  pointwise
  rw [em]
  by_cases hc : k ≤ i
  · rw [if_pos hc, if_pos hc]; exact e
  · rw [if_neg hc, if_neg hc]; rfl

include hj hxs in
theorem b34_at (st : St) (n : Fin 8) (h : Fin 4) (hst : ∀ d e, s.main_v6_4 (ix4 n h d e) = st d e) (i : Fin 32) (e : Fin 128) :
    b34 j s (ix4 n i h e) = oC (gcol x n (128 * h.val) j) (gcol x n (512 + 128 * h.val) j) (gcol x n (1536 + 128 * h.val) j) (gcol x n (1024 + 128 * h.val) j) st i e := by
  unfold b34 b33 b32 b31 b30 oC
  pointwise
  refine congrArg₂ (· + ·) (Finset.sum_congr rfl fun k _ => ?_) (Finset.sum_congr rfl fun d _ => ?_)
  · rw [b12_at x j hj s hxs, b29_at x j hj s hxs, mul_comm]
  · rw [b20_at x j hj s hxs, hst, mul_comm]

include hj hxs hw in
theorem b52_at (st : St) (n : Fin 8) (h : Fin 4) (hst : ∀ d e, s.main_v6_4 (ix4 n h d e) = st d e) (i : Fin 32) (e : Fin 128) :
    b52 j s (ix4 n i h e) = nC (oC (gcol x n (128 * h.val) j) (gcol x n (512 + 128 * h.val) j) (gcol x n (1536 + 128 * h.val) j) (gcol x n (1024 + 128 * h.val) j) st)
      (gcol x n (2048 + 128 * h.val) j) (fun e => w (ix2 0 e)) i e := by
  have eo := b34_at x j hj s hxs st n h hst
  have eg := b14_at x j hj s hxs n i h e
  unfold b52 b51 b50 b49 b48 b47 b46 b45 b44 b43 b42 b41 b40 b39 b38 b37 b36 b35 nC
  rw [hw]
  generalize b34 j s = o at eo ⊢
  generalize b14 j s = g at eg ⊢
  pointwise
  simp only [eo, eg]

include hj hxs in
theorem b56_at (n : Fin 8) (i : Fin 32) (h : Fin 4) (d : Fin 128) : b56 j s (ix4 n i h d) = kC (gcol x n (512 + 128 * h.val) j) (gcol x n (1024 + 128 * h.val) j) i d := by
  unfold b56 b55 b54 b53 kC
  pointwise
  rw [b8_at x j hj s hxs, b17_at x j hj s hxs, b18_at x j hj s hxs]

include hj hxs in
theorem b63_at (st : St) (n : Fin 8) (h : Fin 4) (hst : ∀ d e, s.main_v6_4 (ix4 n h d e) = st d e) (d e : Fin 128) :
    b63 j s (ix4 n h d e) = stC (gcol x n (512 + 128 * h.val) j) (gcol x n (1536 + 128 * h.val) j) (gcol x n (1024 + 128 * h.val) j) st d e := by
  unfold b63 b62 b61 b60 b59 b58 b57 stC
  pointwise
  rw [b18_at x j hj s hxs, hst]
  refine congrArg₂ (· + ·) rfl (Finset.sum_congr rfl fun k _ => ?_)
  rw [b56_at x j hj s hxs, b12_at x j hj s hxs]

include hj in
/-- The rows after a trip: the trip's chunk written, the others as before. -/
theorem b69_at (k : Fin 64) (n : Fin 8) (i : Fin 32) (h : Fin 4) (e : Fin 128) :
    b69 j s (ix5 k n i h e) = if k.val = j then b52 j s (ix4 n i h e) else s.main_v6_5 (ix5 k n i h e) := by
  have hf : S64x8x32x4x128.Slices ![j, 0, 0, 0, 0] S1x8x32x4x128 := by
    refine ⟨rfl, fun a => ?_⟩
    match a with
    | ⟨0, _⟩ => show j + 1 ≤ 64; omega
    | ⟨1, _⟩ => show 0 + 8 ≤ 8; omega
    | ⟨2, _⟩ => show 0 + 32 ≤ 32; omega
    | ⟨3, _⟩ => show 0 + 4 ≤ 4; omega
    | ⟨4, _⟩ => show 0 + 128 ≤ 128; omega
  have eu : b69 j s = updateSlice s.main_v6_5 (b64 j s) ![j, 0, 0, 0, 0] hf := by
    unfold b69
    refine Host.dynamicUpdateSlice_eq_updateSlice _ _ _ _ _ (fun a => ?_) _
    match a with
    | ⟨0, _⟩ =>
      show (min (max (BitVec.ofNat 32 j).toInt 0) ((64 - 1 : Nat) : Int)).toNat = j
      rw [toInt_ofNat_of_lt (by omega)]; omega
    | ⟨1, _⟩ => rfl
    | ⟨2, _⟩ => rfl
    | ⟨3, _⟩ => rfl
    | ⟨4, _⟩ => rfl
  rw [eu]
  unfold b64 updateSlice
  by_cases hk : k.val = j
  · rw [if_pos hk, dif_pos (by
      intro a
      match a with
      | ⟨0, _⟩ => show j ≤ k.val ∧ k.val < j + 1; omega
      | ⟨1, _⟩ => show 0 ≤ n.val ∧ n.val < 0 + 8; omega
      | ⟨2, _⟩ => show 0 ≤ i.val ∧ i.val < 0 + 32; omega
      | ⟨3, _⟩ => show 0 ≤ h.val ∧ h.val < 0 + 4; omega
      | ⟨4, _⟩ => show 0 ≤ e.val ∧ e.val < 0 + 128; omega)]
    generalize b52 j s = v
    refine congrArg v ?_
    funext a
    apply Fin.ext
    match a with
    | ⟨0, _⟩ => rfl
    | ⟨1, _⟩ => rfl
    | ⟨2, _⟩ => rfl
    | ⟨3, _⟩ => rfl
  · rw [if_neg hk, dif_neg (by
      intro hall
      have : j ≤ k.val ∧ k.val < j + 1 := hall (0 : Fin 5)
      omega)]

/-! ## The trips -/

open Cert.Gla.RefRun

theorem iter_xs : ∀ n, (iter (F := Ideal) w x n).main_v6_0 = A_main_v3 (F := Ideal) x
  | 0 => rfl
  | n + 1 => iter_xs n
theorem iter_gain : ∀ n, (iter (F := Ideal) w x n).main_v6_2 = w
  | 0 => rfl
  | n + 1 => iter_gain n

theorem iter_state (n : Fin 8) (h : Fin 4) : ∀ (k : ℕ), k ≤ 64 → ∀ (d e : Fin 128), (iter (F := Ideal) w x k).main_v6_4 (ix4 n h d e) = gS x n h.val k d e
  | 0, _, d, e => Ideal.ofBits_zero_f32
  | k + 1, hk, d, e => (congrFun (step_main_v6_4 k (iter (F := Ideal) w x k)) (ix4 n h d e)).trans
    (b63_at x k (by omega) _ (iter_xs x w k) (gS x n h.val k) n h (iter_state n h k (by omega)) d e)

theorem iter_rows : ∀ (t : ℕ), t ≤ 64 → ∀ (k : Fin 64), k.val < t → ∀ (n : Fin 8) (i : Fin 32) (h : Fin 4) (e : Fin 128),
    (iter (F := Ideal) w x t).main_v6_5 (ix5 k n i h e) = gO x w n h.val k.val i e
  | 0, _, _, h0, _, _, _, _ => absurd h0 (by omega)
  | t + 1, ht, k, hk, n, i, h, e => by
    refine (congrFun (step_main_v6_5 t (iter (F := Ideal) w x t)) (ix5 k n i h e)).trans ((b69_at t (by omega) _ k n i h e).trans ?_)
    by_cases hkt : k.val = t
    · rw [if_pos hkt, hkt]
      exact b52_at x w t (by omega) _ (iter_xs x w t) (iter_gain x w t) (gS x n h.val t) n h (iter_state x w n h t (by omega)) i e
    · rw [if_neg hkt]
      exact iter_rows t (by omega) k (by omega) n i h e

/-- The first result's rows. -/
theorem R9_at (n : Fin 8) (k : Fin 64) (i : Fin 32) (h : Fin 4) (e : Fin 128) (y : S8x2048x512.Idx) (e0 : (y 0).val = n.val) (e1 : (y 1).val = 32 * k.val + i.val) (e2 : (y 2).val = 128 * h.val + e.val) :
    R_main_v9 (iter (F := Ideal) w x 64) y = gO x w n h.val k.val i e := by
  have hr := iter_rows x w 64 le_rfl k k.isLt n i h e
  unfold R_main_v9
  generalize (iter (F := Ideal) w x 64).main_v6_5 = rows at hr ⊢
  have ey : y = ix3 n ⟨32 * k.val + i.val, by omega⟩ ⟨128 * h.val + e.val, by omega⟩ := by
    funext a
    apply Fin.ext
    match a with
    | ⟨0, _⟩ => exact e0
    | ⟨1, _⟩ => exact e1
    | ⟨2, _⟩ => exact e2
  rw [ey]
  pointwise
  exact hr

end Cert.Gla.Ref

end
-- ==== Proof.Claims.lean ====
/- The claims: both programs run, and end with equal results over the extended reals. -/
module

public import proofs.«01_k».proof.Defs
public import proofs.«01_k».proof.Proof.RefValue
public import Idealize.ShloMosaic.Lib.Quiescent
public import Idealize.ShloMosaic.Lib.ReduceAll

@[expose] public section

set_option maxRecDepth 16384

noncomputable section

namespace Cert.Gla

open Idealize.ShloMosaic Idealize.ShloMosaic.TcCoe Idealize.ShloMosaic.Tactic Idealize.SL.Sem

/-- The precondition's side conditions. -/
instance preFacts : Cert.Pre_decays_below_top.Facts where
  slices_S8x2048x2560_S8x2048x512_0_0_1024 := by decide
  bcast_S_S8x2048x512 := by decide
  reducesTo_S8x2048x512_S_d0_1_2 := by decide
  h_S_ := by decide

instance : Subsingleton Cert.Pre_decays_below_top.S_.Idx := ⟨fun _ _ => funext fun a => a.elim0⟩

/-- What the precondition says of the log decays. -/
theorem below_of_pre [Cert.Pre_decays_below_top.Facts] (x : FVec Ideal Cert.KernelIdeal.S8x2048x2560 .f32) (w : FVec Ideal Cert.KernelIdeal.S1x128 .f32)
    (h : Cert.Pre_decays_below_top.fn (F := Ideal) x w = fun _ => 1#1) : Below x := by
  intro n r d h1 h2
  have h0 := congrFun h (Shape.Idx.first Cert.Pre_decays_below_top.Facts.h_S_)
  dsimp only [Cert.Pre_decays_below_top.fn] at h0
  have hi := Host.reduce_andi_all _ _ _ _ _ h0 (ix3 n r ⟨d.val - 1024, by omega⟩)
  have hd : x (ix3 n r d) = extractStridedSlice Cert.Pre_decays_below_top.S8x2048x512 ![0, 0, 1024] x Cert.Pre_decays_below_top.Facts.slices_S8x2048x2560_S8x2048x512_0_0_1024
      (ix3 n r ⟨d.val - 1024, by omega⟩) := by
    refine congrArg x ?_
    funext a
    apply Fin.ext
    match a with
    | ⟨0, _⟩ => show n.val = 0 + n.val; omega
    | ⟨1, _⟩ => show r.val = 0 + r.val; omega
    | ⟨2, _⟩ => show d.val = 1024 + (d.val - 1024); omega
  intro htop
  rw [hd] at htop
  generalize extractStridedSlice Cert.Pre_decays_below_top.S8x2048x512 ![0, 0, 1024] x Cert.Pre_decays_below_top.Facts.slices_S8x2048x2560_S8x2048x512_0_0_1024 = v at hi htop
  simp only [pointwise] at hi
  rw [htop] at hi
  simp at hi

theorem run_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2, sem_eq_zero_of_no_sems (by decide) r.2⟩) (RefRun.run m g)

/-- Equal results: the recurrence read off both runs. -/
theorem algebraic : Cert.algebraic_KernelIdeal_ReferenceIdeal_pre_decays_below_top (hKernelIdeal := Cert.KernelIdeal.Gen.facts) (hReferenceIdeal := Cert.ReferenceIdeal.Gen.facts)
    (hPre_decays_below_top := preFacts) := by
  intro m g m' g' hpre hagree
  have hb : ∀ c : Dev Cert.KernelIdeal.nD, Below (X m c) := fun c => below_of_pre (X m c) (W m c) (hpre c)
  refine ⟨fun c => Cert.KernelIdeal.Value.G2 m c, fun c => Cert.KernelIdeal.Value.G3 m c, Cert.KernelIdeal.Value.run (F := Ideal) m g, ?_⟩
  refine (θ_run _ _ _).mono (fun r h c => ⟨(h c).1.trans ?_, (h c).2.1.trans ?_, (h c).2.2⟩) (RefRun.run m' g')
  · rw [(hagree c).1, (hagree c).2]
    funext y
    have h0 : (y 0).val < 8 := (y 0).isLt
    have h1 : (y 1).val < 2048 := (y 1).isLt
    have h2 : (y 2).val < 512 := (y 2).isLt
    refine (Ref.R9_at (X m c) (W m c) ⟨(y 0).val, h0⟩ ⟨(y 1).val / 32, by omega⟩ ⟨(y 1).val % 32, by omega⟩ ⟨(y 2).val / 128, by omega⟩ ⟨(y 2).val % 128, by omega⟩ y rfl
      (by dsimp only; omega) (by dsimp only; omega)).trans ?_
    exact (G2_at m c (hb c) ⟨(y 0).val, h0⟩ ⟨(y 1).val / 32, by omega⟩ ⟨(y 1).val % 32, by omega⟩ ⟨(y 2).val / 128, by omega⟩ ⟨(y 2).val % 128, by omega⟩ y rfl
      (by dsimp only; omega) (by dsimp only; omega)).symm
  · rw [(hagree c).1, (hagree c).2]
    funext y
    have ey : y = ix4 (y 0) (y 1) (y 2) (y 3) := eq_ix4 y
    rw [ey]
    exact (Ref.iter_state (X m c) (W m c) (y 0) (y 1) 64 le_rfl (y 2) (y 3)).trans (G3_at m c (hb c) (y 0) (y 1) (y 2) (y 3)).symm

end Cert.Gla

end
-- ==== Proof.Layer.lean ====
/- The layer's own pieces, row by row, over the extended reals: the norm, the MLP, the sums split into blocks. -/
module

public import Idealize.ShloMosaic.PureOps.Ideal
public import Idealize.ShloMosaic.Lib.Pointwise

@[expose] public section

noncomputable section

namespace Cert.Layer

open Idealize.ShloMosaic

/-- A row's inverse root mean square. -/
def irms (x : Fin 1024 → EReal) : EReal :=
  Ideal.rsqrt (Ideal.div (∑ k, x k * x k) (Ideal.ofBits .f32 0x44800000#32) + Ideal.ofBits .f32 0x358637BD#32)

/-- One slice of the squared-ReLU MLP on a row: `n` hidden units. -/
def mlp {n : ℕ} (h : Fin 1024 → EReal) (w1 : Fin 1024 → Fin n → EReal) (w2 : Fin n → EReal) : EReal :=
  ∑ j, max (∑ k, h k * w1 k j) 0 * max (∑ k, h k * w1 k j) 0 * w2 j

/-- A row normed, scaled by the weights `g`, and modulated by scale `s` and shift `b`. -/
def hid (x g s b : Fin 1024 → EReal) (k : Fin 1024) : EReal := x k * irms x * g k * (1 + s k) + b k

/-- A sum of 1024 terms as its two halves. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

/-- A sum of 4096 terms as its four quarters. -/
theorem sum_quarters (f : Fin 4096 → EReal) :
    ∑ k, f k = (∑ k : Fin 1024, f ⟨k.val, by omega⟩) + (∑ k : Fin 1024, f ⟨1024 + k.val, by omega⟩) + (∑ k : Fin 1024, f ⟨2048 + k.val, by omega⟩)
      + ∑ k : Fin 1024, f ⟨3072 + k.val, by omega⟩ := by
  refine (Fin.sum_univ_add (a := 3072) (b := 1024) f).trans (congrArg (· + _) ?_)
  refine (Fin.sum_univ_add (a := 2048) (b := 1024) _).trans (congrArg (· + _) ?_)
  exact Fin.sum_univ_add (a := 1024) (b := 1024) _

/-- Rows shifted down by `s`, the last rows of the tail before them in front. -/
def shf {N : ℕ} (u : Fin N → EReal) (t : Fin 8 → EReal) (s : ℕ) (hs : s ≤ 8) (r : Fin N) : EReal :=
  if h : r.val < s then t ⟨8 - s + r.val, by omega⟩ else u ⟨r.val - s, by omega⟩

/-- A rotation of the rows whose first eight are mended from the rotated tail is that shift. -/
theorem shift_at {N : ℕ} (hN : 8 < N) (u : Fin N → EReal) (t : Fin 8 → EReal) (s : ℕ) (hs : s ≤ 8) (r : Fin N) (b : BitVec 1)
    (hb : r.val < 8 → (b = 1#1 ↔ r.val < s)) (h1 : r.val < 8 → (r.val + 8 - s) % 8 < 8) (h2 : r.val < 8 → (r.val + N - s) % N < N) (h3 : ¬r.val < 8 → (8 + (r.val - 8) + N - s) % N < N) :
    (if h : r.val < 8 then Scalar.select b (t ⟨(r.val + 8 - s) % 8, h1 h⟩) (u ⟨(r.val + N - s) % N, h2 h⟩) else u ⟨(8 + (r.val - 8) + N - s) % N, h3 h⟩) = shf u t s hs r := by
  have hr := r.isLt
  unfold shf
  have hm : ∀ a, s ≤ a → a < N → (a + N - s) % N = a - s := fun a ha ha' => by
    rw [show a + N - s = a - s + N by omega, Nat.add_mod_right]
    exact Nat.mod_eq_of_lt (by omega)
  by_cases h : r.val < 8
  · rw [dif_pos h]
    by_cases h' : r.val < s
    · rw [dif_pos h', (hb h).2 h']
      exact congrArg t (Fin.ext (by dsimp only; omega))
    · rw [dif_neg h']
      have hz : b = 0#1 := (by decide : ∀ b : BitVec 1, ¬b = 1#1 → b = 0#1) b (mt (hb h).1 h')
      rw [hz]
      exact congrArg u (Fin.ext (hm _ (by omega) hr))
  · rw [dif_neg h, dif_neg (by omega)]
    refine congrArg u (Fin.ext ?_)
    dsimp only
    rw [show 8 + (r.val - 8) = r.val by omega]
    exact hm _ (by omega) hr

/-- The mask of the first `s` of eight rows. -/
theorem slt1 (r : ℕ) (h : r < 8) : IntOp.cmpi CmpIPredicate.slt (BitVec.ofNat 32 r) 1#32 = 1#1 ↔ r < 1 :=
  (by decide : ∀ r : Fin 8, IntOp.cmpi CmpIPredicate.slt (BitVec.ofNat 32 r.val) 1#32 = 1#1 ↔ r.val < 1) ⟨r, h⟩
theorem slt2 (r : ℕ) (h : r < 8) : IntOp.cmpi CmpIPredicate.slt (BitVec.ofNat 32 r) 2#32 = 1#1 ↔ r < 2 :=
  (by decide : ∀ r : Fin 8, IntOp.cmpi CmpIPredicate.slt (BitVec.ofNat 32 r.val) 2#32 = 1#1 ↔ r.val < 2) ⟨r, h⟩
theorem slt3 (r : ℕ) (h : r < 8) : IntOp.cmpi CmpIPredicate.slt (BitVec.ofNat 32 r) 3#32 = 1#1 ↔ r < 3 :=
  (by decide : ∀ r : Fin 8, IntOp.cmpi CmpIPredicate.slt (BitVec.ofNat 32 r.val) 3#32 = 1#1 ↔ r.val < 3) ⟨r, h⟩

theorem ofBits_bot : Ideal.ofBits .f32 0xFF800000#32 = ⊥ := by
  simp [Ideal.ofBits, Ideal.ieee]

/-- The greater of two numbers, as a reduction from minus infinity. -/
theorem fold_max2 (f : Fin 2 → EReal) : Finset.fold max (Ideal.ofBits .f32 0xFF800000#32) f Finset.univ = max (f 0) (f 1) := by
  rw [ofBits_bot, show (Finset.univ : Finset (Fin 2)) = {0, 1} from rfl, Finset.fold_insert (by decide), Finset.fold_singleton]
  rw [max_bot_right]

end Cert.Layer

end
-- ==== Proof.Post.lean ====
/- The layer after its mixers, block by block: what the body stores, entry by entry, over the extended reals. -/
module

public import proofs.«01_k».proof.Proof.Gen.Kernel2Ideal.Value
public import proofs.«01_k».proof.Proof.Layer
public import Idealize.ShloMosaic.Lib.Pipeline.ValueKit
public import Idealize.ShloMosaic.Lib.StableHlo.Run

@[expose] public section

set_option maxRecDepth 65536

noncomputable section

namespace Cert.Post

open Idealize.ShloMosaic Idealize.ShloMosaic.TcCoe Idealize.ShloMosaic.Tactic Idealize.SL.Sem Cert.Kernel2Ideal Cert.Kernel2Ideal.Gen Cert.Layer

theorem pay2_at (v0 : Vec Ideal S1x1024x512 .bf16) (v2 : Vec Ideal S512x1024 .bf16) (v5 : Vec Ideal S1x1024x512 .bf16) (v7 : Vec Ideal S512x1024 .bf16)
    (v11 : Vec Ideal S1x1024x1024 .f32) (v13 : Vec Ideal S1x1x1024 .f32) (r d : Fin 1024) :
    (k0_pay2 v0 v2 v5 v7 v11 v13 (ix2 r d) : EReal) =
      v11 (ix3 0 r d) + v13 (ix3 0 0 d) * ((∑ k : Fin 512, v0 (ix3 0 r k) * v2 (ix2 k d)) + ∑ k : Fin 512, v5 (ix3 0 r k) * v7 (ix2 k d)) := by
  unfold k0_pay2
  pointwise

theorem pay3_at (v0 : Vec Ideal S1x1024x512 .bf16) (v2 : Vec Ideal S512x1024 .bf16) (v5 : Vec Ideal S1x1024x512 .bf16) (v7 : Vec Ideal S512x1024 .bf16)
    (v11 : Vec Ideal S1x1024x1024 .f32) (v13 : Vec Ideal S1x1x1024 .f32) (v28 : Vec Ideal S1x1024 .f32) (r d : Fin 1024) :
    (k0_pay3 v0 v2 v5 v7 v11 v13 v28 (ix2 r d) : EReal) =
      k0_pay2 v0 v2 v5 v7 v11 v13 (ix2 r d) * irms (fun k => k0_pay2 v0 v2 v5 v7 v11 v13 (ix2 r k)) * v28 (ix2 0 d) := by
  unfold k0_pay3 irms
  generalize k0_pay2 v0 v2 v5 v7 v11 v13 = x
  pointwise

theorem pay4_at (v31 : FVec Ideal S1024x1024 .f32) (v32 v38 : Vec Ideal S1x1x1024 .f32) (r d : Fin 1024) :
    (k0_pay4 v31 v32 v38 (ix2 r d) : EReal) = v31 (ix2 r d) * (1 + v32 (ix3 0 0 d)) + v38 (ix3 0 0 d) := by
  unfold k0_pay4
  pointwise

/-- A slice of the MLP on row `r` of a tile. -/
def part (h : FVec Ideal S1024x1024 .bf16) (w1 w2 : Vec Ideal S1x1024x1024 .bf16) (r d : Fin 1024) : EReal :=
  mlp (fun k => h (ix2 r k)) (fun k j => w1 (ix3 0 k j)) fun j => w2 (ix3 0 j d)

theorem pay5_at (v31 : FVec Ideal S1024x1024 .f32) (v32 v38 : Vec Ideal S1x1x1024 .f32) (v44 v51 v55 v62 : Vec Ideal S1x1024x1024 .bf16) (r d : Fin 1024) :
    (k0_pay5 v31 v32 v38 v44 v51 v55 v62 (ix2 r d) : EReal) = part (k0_pay4 v31 v32 v38) v44 v51 r d + part (k0_pay4 v31 v32 v38) v55 v62 r d := by
  unfold k0_pay5 part mlp
  generalize k0_pay4 v31 v32 v38 = h
  pointwise

theorem pay1_at (v17 : FVec Ideal S1024x1024 .f32) (v42 : FVec Ideal S1024x1024 .bf16) (v65 : FVec Ideal S1024x1024 .f32) (v66 v73 v77 v84 : Vec Ideal S1x1024x1024 .bf16)
    (v88 : Vec Ideal S1x1x1024 .f32) (r d : Fin 1024) :
    (k0_pay1 v17 v42 v65 v66 v73 v77 v84 v88 (ix3 0 r d) : EReal) =
      v17 (ix2 r d) + v88 (ix3 0 0 d) * (v65 (ix2 r d) + part v42 v66 v73 r d + part v42 v77 v84 r d) := by
  unfold k0_pay1 part mlp
  pointwise

/-- The residual stream after the mixer, on one row. -/
def mid (x : Fin 1024 → EReal) (oa ob : Fin 512 → EReal) (g1 : Fin 1024 → EReal) (wo : Fin 1024 → Fin 1024 → EReal) (d : Fin 1024) : EReal :=
  x d + g1 d * ((∑ k : Fin 512, oa k * wo ⟨k.val, by omega⟩ d) + ∑ k : Fin 512, ob k * wo ⟨512 + k.val, by omega⟩ d)

/-- The layer's output, on one row. -/
def row (x : Fin 1024 → EReal) (oa ob : Fin 512 → EReal) (g1 b2 s2 g2 nm : Fin 1024 → EReal) (wo : Fin 1024 → Fin 1024 → EReal)
    (w1 : Fin 1024 → Fin 4096 → EReal) (w2 : Fin 4096 → Fin 1024 → EReal) (d : Fin 1024) : EReal :=
  mid x oa ob g1 wo d + g2 d * mlp (hid (mid x oa ob g1 wo) nm s2 b2) w1 fun j => w2 j d

section
variable (x0 : Vec Ideal S1x1024x1024 .f32) (x1 x2 : Vec Ideal S1x1024x512 .bf16) (x3 x4 x5 x6 : Vec Ideal S1x1x1024 .f32) (x7 : Vec Ideal S1x1024 .f32)
  (x8 : Vec Ideal S1024x1024 .bf16) (x9 : Vec Ideal S1x1024x4096 .bf16) (x10 : Vec Ideal S1x4096x1024 .bf16)

theorem ld_w1 (o : ℕ) (inb : ∀ a, (![0, 0, o] : Fin 3 → ℕ) a + S1x1024x1024.size a ≤ S1x1024x4096.size a) (ho : o ≤ 3072) (k j : Fin 1024) :
    View.ld x9 (Rect.unit (s := S1x1024x4096) ![0, 0, o] S1x1024x1024.size inb) (ix3 0 k j) = x9 (ix3 0 k ⟨o + j.val, by omega⟩) := by
  refine View.ld_unit_apply_of _ _ _ _ _ _ fun a => ?_
  match a with
  | ⟨0, _⟩ => rfl
  | ⟨1, _⟩ => exact (Nat.zero_add _).symm
  | ⟨2, _⟩ => rfl

theorem ld_w2 (o : ℕ) (inb : ∀ a, (![0, o, 0] : Fin 3 → ℕ) a + S1x1024x1024.size a ≤ S1x4096x1024.size a) (ho : o ≤ 3072) (j d : Fin 1024) :
    View.ld x10 (Rect.unit (s := S1x4096x1024) ![0, o, 0] S1x1024x1024.size inb) (ix3 0 j d) = x10 (ix3 0 ⟨o + j.val, by omega⟩ d) := by
  refine View.ld_unit_apply_of _ _ _ _ _ _ fun a => ?_
  match a with
  | ⟨0, _⟩ => rfl
  | ⟨1, _⟩ => rfl
  | ⟨2, _⟩ => exact (Nat.zero_add _).symm

theorem ld_wo (o : ℕ) (inb : ∀ a, (![o, 0] : Fin 2 → ℕ) a + S512x1024.size a ≤ S1024x1024.size a) (ho : o ≤ 512) (k : Fin 512) (d : Fin 1024) :
    View.ld x8 (Rect.unit (s := S1024x1024) ![o, 0] S512x1024.size inb) (ix2 k d) = x8 (ix2 ⟨o + k.val, by omega⟩ d) := by
  refine View.ld_unit_apply_of _ _ _ _ _ _ fun a => ?_
  match a with
  | ⟨0, _⟩ => rfl
  | ⟨1, _⟩ => exact (Nat.zero_add _).symm

/-- The residual stream after the mixer, as the body computes it on a tile. -/
theorem mid_at (r d : Fin 1024) :
    (k0_pay2 (View.ld x1 r0_0) (View.ld x8 r0_1) (View.ld x2 r0_0) (View.ld x8 r0_2) (View.ld x0 r0_3) (View.ld x3 r0_4) (ix2 r d) : EReal) =
      mid (fun k => x0 (ix3 0 r k)) (fun k => x1 (ix3 0 r k)) (fun k => x2 (ix3 0 r k)) (fun k => x3 (ix3 0 0 k)) (fun k j => x8 (ix2 k j)) d := by
  refine (pay2_at _ _ _ _ _ _ r d).trans ?_
  rw [View.ld_unit_lit inb_S1x1024x512_S1x1024x512_0_0_0 x1 (by decide), View.ld_unit_lit inb_S1x1024x512_S1x1024x512_0_0_0 x2 (by decide),
    View.ld_unit_lit inb_S1x1024x1024_S1x1024x1024_0_0_0 x0 (by decide), View.ld_unit_lit inb_S1x1x1024_S1x1x1024_0_0_0 x3 (by decide)]
  unfold mid
  simp only [ld_wo x8 0 _ (by decide), ld_wo x8 512 _ (by decide), Nat.zero_add]

/-- What the body stores, row by row. -/
theorem out_at (r d : Fin 1024) :
    out0_11 x0 x1 x2 x3 x4 x5 x6 x7 x8 x9 x10 (ix3 0 r d) =
      row (fun k => x0 (ix3 0 r k)) (fun k => x1 (ix3 0 r k)) (fun k => x2 (ix3 0 r k)) (fun k => x3 (ix3 0 0 k)) (fun k => x4 (ix3 0 0 k))
        (fun k => x5 (ix3 0 0 k)) (fun k => x6 (ix3 0 0 k)) (fun k => x7 (ix2 0 k)) (fun k j => x8 (ix2 k j)) (fun k j => x9 (ix3 0 k j)) (fun j k => x10 (ix3 0 j k)) d := by
  have hh : ∀ k : Fin 1024, (k0_pay4 (k0_pay6 x0 x1 x2 x3 x4 x5 x6 x7 x8 x9 x10) (View.ld x5 r0_4) (View.ld x4 r0_4) (ix2 r k) : EReal) =
      hid (mid (fun k => x0 (ix3 0 r k)) (fun k => x1 (ix3 0 r k)) (fun k => x2 (ix3 0 r k)) (fun k => x3 (ix3 0 0 k)) fun k j => x8 (ix2 k j))
        (fun k => x7 (ix2 0 k)) (fun k => x5 (ix3 0 0 k)) (fun k => x4 (ix3 0 0 k)) k := by
    intro k
    refine (pay4_at _ _ _ r k).trans ?_
    unfold k0_pay6
    rw [pay3_at]
    simp only [mid_at]
    rw [View.ld_unit_lit inb_S1x1x1024_S1x1x1024_0_0_0 x4 (by decide), View.ld_unit_lit inb_S1x1x1024_S1x1x1024_0_0_0 x5 (by decide),
      View.ld_unit_lit inb_S1x1024_S1x1024_0_0 x7 (by decide)]
    rfl
  unfold out0_11
  rw [View.canon_cons_unit_lit inb_S1x1024x1024_S1x1024x1024_0_0_0 _ _ (by decide)]
  refine (pay1_at _ _ _ _ _ _ _ _ r d).trans ?_
  rw [pay5_at, mid_at, View.ld_unit_lit inb_S1x1x1024_S1x1x1024_0_0_0 x6 (by decide)]
  unfold row part
  simp only [hh, ld_w1 x9 0 _ (by decide), ld_w1 x9 1024 _ (by decide), ld_w1 x9 2048 _ (by decide), ld_w1 x9 3072 _ (by decide),
    ld_w2 x10 0 _ (by decide), ld_w2 x10 1024 _ (by decide), ld_w2 x10 2048 _ (by decide), ld_w2 x10 3072 _ (by decide)]
  unfold mlp
  rw [sum_quarters]
  simp only [Nat.zero_add]
end

/-! ## The blocks of the points, and the final array -/

variable (m : (ℓ : Loc nD τ sig) → Buf (Elt Ideal) ℓ) (c : Dev nD)

theorem cast_mod (v : FVec Ideal S8x6144 .f32) (n : Fin 8) (k : Fin 6144) : (shapeCast S8x1x6144 v shapeCasts_S8x6144_S8x1x6144 (ix3 n 0 k) : EReal) = v (ix2 n k) := by
  pointwise

theorem cast_norm (v : FVec Ideal S2x1024 .f32) (k : Fin 1024) :
    (shapeCast S1x1024 (shapeCast S1024 (extractStridedSlice S1x1024 ![0, 0] v slices_S2x1024_S1x1024_0_0) shapeCasts_S1x1024_S1024) shapeCasts_S1024_S1x1024 (ix2 0 k) : EReal) = v (ix2 0 k) := by
  pointwise

theorem cast_wo (v : FVec Ideal S1x1024x1024 .f32) (k j : Fin 1024) :
    (truncf (F := Ideal) .bf16 (shapeCast S1024x1024 v shapeCasts_S1x1024x1024_S1024x1024 : FVec Ideal S1024x1024 .f32) bitsLt_bf16_f32 (ix2 k j) : EReal) = v (ix3 0 k j) := by
  pointwise

theorem V_v0 (n : Fin 8) (k : Fin 6144) : (V m c main_v0 : FVec Ideal S8x1x6144 .f32) (ix3 n 0 k) = (m ((c : Thread nD τ).loc main_arg3) : FVec Ideal S8x6144 .f32) (ix2 n k) := by
  have h : (V m c main_v0 : FVec Ideal S8x1x6144 .f32) = shapeCast S8x1x6144 (m ((c : Thread nD τ).loc main_arg3) : FVec Ideal S8x6144 .f32) shapeCasts_S8x6144_S8x1x6144 := by
    show StableHlo.after hostOps0 _ (Proc.devRef .tc main_v0) = _
    after_results
    rfl
  rw [h]
  exact cast_mod _ _ _

theorem V_v7 (k : Fin 1024) : (V m c main_v7 : FVec Ideal S1x1024 .f32) (ix2 0 k) = (m ((c : Thread nD τ).loc main_arg4) : FVec Ideal S2x1024 .f32) (ix2 0 k) := by
  have h : (V m c main_v7 : FVec Ideal S1x1024 .f32) = shapeCast S1x1024 (shapeCast S1024 (extractStridedSlice S1x1024 ![0, 0] (m ((c : Thread nD τ).loc main_arg4) : FVec Ideal S2x1024 .f32) slices_S2x1024_S1x1024_0_0) shapeCasts_S1x1024_S1024) shapeCasts_S1024_S1x1024 := by
    show StableHlo.after hostOps0 _ (Proc.devRef .tc main_v7) = _
    after_results
    rfl
  rw [h]
  exact cast_norm _ _

theorem V_v4 (k j : Fin 1024) : (V m c main_v4 : FVec Ideal S1024x1024 .bf16) (ix2 k j) = (m ((c : Thread nD τ).loc main_arg5) : FVec Ideal S1x1024x1024 .f32) (ix3 0 k j) := by
  have h : (V m c main_v4 : FVec Ideal S1024x1024 .bf16) = truncf (F := Ideal) .bf16 (shapeCast S1024x1024 (m ((c : Thread nD τ).loc main_arg5) : FVec Ideal S1x1024x1024 .f32) shapeCasts_S1x1024x1024_S1024x1024 : FVec Ideal S1024x1024 .f32) bitsLt_bf16_f32 := by
    show StableHlo.after hostOps0 _ (Proc.devRef .tc main_v4) = _
    after_results
    rfl
  rw [h]
  exact cast_wo _ _ _

theorem V_v5 : (V m c main_v5 : FVec Ideal S2x1024x4096 .bf16) = (m ((c : Thread nD τ).loc main_arg6) : FVec Ideal S2x1024x4096 .f32) := by
  show StableHlo.after hostOps0 _ (Proc.devRef .tc main_v5) = _
  after_results
  rfl

theorem V_v6 : (V m c main_v6 : FVec Ideal S2x4096x1024 .bf16) = (m ((c : Thread nD τ).loc main_arg7) : FVec Ideal S2x4096x1024 .f32) := by
  show StableHlo.after hostOps0 _ (Proc.devRef .tc main_v6) = _
  after_results
  rfl

theorem iblk0_at (t : Fin cfg0.N) (n : Fin 8) (half : ℕ) (hf : half < 2) (ht : t.val = 2 * n.val + half) (r d : Fin 1024) :
    (iblk m c 0 t : Vec Ideal S1x1024x1024 .f32) (ix3 0 r d) = (m ((c : Thread nD τ).loc main_arg0) : FVec Ideal S8x2048x1024 .f32) (ix3 n ⟨1024 * half + r.val, by omega⟩ d) := by
  have hi : ∀ t : Fin cfg0.N, win0_0.index t (0 : Fin 3) = t.val / 2 ∧ win0_0.index t (1 : Fin 3) = t.val % 2 ∧ win0_0.index t (2 : Fin 3) = 0 :=
    (by decide +kernel : ∀ t : Fin grid0.N, _)
  obtain ⟨h0, h1, h2⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 3) * 1 + 1 * 0 = n.val; rw [h0] <;> omega
  | ⟨1, _⟩ => show win0_0.index t (1 : Fin 3) * 1024 + 1 * r.val = 1024 * half + r.val; rw [h1] <;> omega
  | ⟨2, _⟩ => show win0_0.index t (2 : Fin 3) * 1024 + 1 * d.val = d.val; rw [h2] <;> omega

theorem iblk1_at (t : Fin cfg0.N) (n : Fin 8) (half : ℕ) (hf : half < 2) (ht : t.val = 2 * n.val + half) (r : Fin 1024) (d : Fin 512) :
    (iblk m c 1 t : Vec Ideal S1x1024x512 .bf16) (ix3 0 r d) = (m ((c : Thread nD τ).loc main_arg1) : FVec Ideal S8x2048x512 .bf16) (ix3 n ⟨1024 * half + r.val, by omega⟩ d) := by
  have hi : ∀ t : Fin cfg0.N, win0_1.index t (0 : Fin 3) = t.val / 2 ∧ win0_1.index t (1 : Fin 3) = t.val % 2 ∧ win0_1.index t (2 : Fin 3) = 0 :=
    (by decide +kernel : ∀ t : Fin grid0.N, _)
  obtain ⟨h0, h1, h2⟩ := hi t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t (0 : Fin 3) * 1 + 1 * 0 = n.val; rw [h0] <;> omega
  | ⟨1, _⟩ => show win0_1.index t (1 : Fin 3) * 1024 + 1 * r.val = 1024 * half + r.val; rw [h1] <;> omega
  | ⟨2, _⟩ => show win0_1.index t (2 : Fin 3) * 512 + 1 * d.val = d.val; rw [h2] <;> omega

theorem iblk2_at (t : Fin cfg0.N) (n : Fin 8) (half : ℕ) (hf : half < 2) (ht : t.val = 2 * n.val + half) (r : Fin 1024) (d : Fin 512) :
    (iblk m c 2 t : Vec Ideal S1x1024x512 .bf16) (ix3 0 r d) = (m ((c : Thread nD τ).loc main_arg2) : FVec Ideal S8x2048x512 .bf16) (ix3 n ⟨1024 * half + r.val, by omega⟩ d) := by
  have hi : ∀ t : Fin cfg0.N, win0_2.index t (0 : Fin 3) = t.val / 2 ∧ win0_2.index t (1 : Fin 3) = t.val % 2 ∧ win0_2.index t (2 : Fin 3) = 0 :=
    (by decide +kernel : ∀ t : Fin grid0.N, _)
  obtain ⟨h0, h1, h2⟩ := hi t
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t (0 : Fin 3) * 1 + 1 * 0 = n.val; rw [h0] <;> omega
  | ⟨1, _⟩ => show win0_2.index t (1 : Fin 3) * 1024 + 1 * r.val = 1024 * half + r.val; rw [h1] <;> omega
  | ⟨2, _⟩ => show win0_2.index t (2 : Fin 3) * 512 + 1 * d.val = d.val; rw [h2] <;> omega

theorem iblk3_at (t : Fin cfg0.N) (n : Fin 8) (half : ℕ) (hf : half < 2) (ht : t.val = 2 * n.val + half) (d : Fin 1024) :
    (iblk m c 3 t : Vec Ideal S1x1x1024 .f32) (ix3 0 0 d) = (m ((c : Thread nD τ).loc main_arg3) : FVec Ideal S8x6144 .f32) (ix2 n ⟨2048 + d.val, by omega⟩) := by
  have hi : ∀ t : Fin cfg0.N, win0_3.index t (0 : Fin 3) = t.val / 2 ∧ win0_3.index t (1 : Fin 3) = 0 ∧ win0_3.index t (2 : Fin 3) = 2 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n ⟨2048 + d.val, by omega⟩)
  funext a
  apply Fin.ext
  match a with
  | ⟨0, _⟩ => show win0_3.index t (0 : Fin 3) * 1 + 1 * 0 = n.val; rw [h0] <;> omega
  | ⟨1, _⟩ => show win0_3.index t (1 : Fin 3) * 1 + 1 * 0 = 0; rw [h1] <;> omega
  | ⟨2, _⟩ => show win0_3.index t (2 : Fin 3) * 1024 + 1 * d.val = 2048 + d.val; rw [h2] <;> omega

theorem iblk4_at (t : Fin cfg0.N) (n : Fin 8) (half : ℕ) (hf : half < 2) (ht : t.val = 2 * n.val + half) (d : Fin 1024) :
    (iblk m c 4 t : Vec Ideal S1x1x1024 .f32) (ix3 0 0 d) = (m ((c : Thread nD τ).loc main_arg3) : FVec Ideal S8x6144 .f32) (ix2 n ⟨3072 + d.val, by omega⟩) := by
  have hi : ∀ t : Fin cfg0.N, win0_4.index t (0 : Fin 3) = t.val / 2 ∧ win0_4.index t (1 : Fin 3) = 0 ∧ win0_4.index t (2 : Fin 3) = 3 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n ⟨3072 + d.val, by omega⟩)
  funext a
  apply Fin.ext
  match a with
  | ⟨0, _⟩ => show win0_4.index t (0 : Fin 3) * 1 + 1 * 0 = n.val; rw [h0] <;> omega
  | ⟨1, _⟩ => show win0_4.index t (1 : Fin 3) * 1 + 1 * 0 = 0; rw [h1] <;> omega
  | ⟨2, _⟩ => show win0_4.index t (2 : Fin 3) * 1024 + 1 * d.val = 3072 + d.val; rw [h2] <;> omega

theorem iblk5_at (t : Fin cfg0.N) (n : Fin 8) (half : ℕ) (hf : half < 2) (ht : t.val = 2 * n.val + half) (d : Fin 1024) :
    (iblk m c 5 t : Vec Ideal S1x1x1024 .f32) (ix3 0 0 d) = (m ((c : Thread nD τ).loc main_arg3) : FVec Ideal S8x6144 .f32) (ix2 n ⟨4096 + d.val, by omega⟩) := by
  have hi : ∀ t : Fin cfg0.N, win0_5.index t (0 : Fin 3) = t.val / 2 ∧ win0_5.index t (1 : Fin 3) = 0 ∧ win0_5.index t (2 : Fin 3) = 4 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n ⟨4096 + d.val, by omega⟩)
  funext a
  apply Fin.ext
  match a with
  | ⟨0, _⟩ => show win0_5.index t (0 : Fin 3) * 1 + 1 * 0 = n.val; rw [h0] <;> omega
  | ⟨1, _⟩ => show win0_5.index t (1 : Fin 3) * 1 + 1 * 0 = 0; rw [h1] <;> omega
  | ⟨2, _⟩ => show win0_5.index t (2 : Fin 3) * 1024 + 1 * d.val = 4096 + d.val; rw [h2] <;> omega

theorem iblk6_at (t : Fin cfg0.N) (n : Fin 8) (half : ℕ) (hf : half < 2) (ht : t.val = 2 * n.val + half) (d : Fin 1024) :
    (iblk m c 6 t : Vec Ideal S1x1x1024 .f32) (ix3 0 0 d) = (m ((c : Thread nD τ).loc main_arg3) : FVec Ideal S8x6144 .f32) (ix2 n ⟨5120 + d.val, by omega⟩) := by
  have hi : ∀ t : Fin cfg0.N, win0_6.index t (0 : Fin 3) = t.val / 2 ∧ win0_6.index t (1 : Fin 3) = 0 ∧ win0_6.index t (2 : Fin 3) = 5 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n ⟨5120 + d.val, by omega⟩)
  funext a
  apply Fin.ext
  match a with
  | ⟨0, _⟩ => show win0_6.index t (0 : Fin 3) * 1 + 1 * 0 = n.val; rw [h0] <;> omega
  | ⟨1, _⟩ => show win0_6.index t (1 : Fin 3) * 1 + 1 * 0 = 0; rw [h1] <;> omega
  | ⟨2, _⟩ => show win0_6.index t (2 : Fin 3) * 1024 + 1 * d.val = 5120 + d.val; rw [h2] <;> omega

theorem iblk7_at (t : Fin cfg0.N) (d : Fin 1024) :
    (iblk m c 7 t : Vec Ideal S1x1024 .f32) (ix2 0 d) = (m ((c : Thread nD τ).loc main_arg4) : FVec Ideal S2x1024 .f32) (ix2 0 d) := by
  have hi : ∀ t : Fin cfg0.N, win0_7.index t (0 : Fin 2) = 0 ∧ win0_7.index t (1 : Fin 2) = 0 :=
    (by decide +kernel : ∀ t : Fin grid0.N, _)
  obtain ⟨h0, h1⟩ := hi t
  unfold iblk
  rw [View.read_apply]
  show V m c main_v7 _ = _
  refine Eq.trans (congrArg (V m c main_v7) ?_) (V_v7 m c d)
  funext a
  apply Fin.ext
  match a with
  | ⟨0, _⟩ => show win0_7.index t (0 : Fin 2) * 1 + 1 * 0 = 0; rw [h0] <;> omega
  | ⟨1, _⟩ => show win0_7.index t (1 : Fin 2) * 1024 + 1 * d.val = d.val; rw [h1] <;> omega

theorem iblk8_at (t : Fin cfg0.N) (k d : Fin 1024) :
    (iblk m c 8 t : Vec Ideal S1024x1024 .bf16) (ix2 k d) = (m ((c : Thread nD τ).loc main_arg5) : FVec Ideal S1x1024x1024 .f32) (ix3 0 k d) := by
  have hi : ∀ t : Fin cfg0.N, win0_8.index t (0 : Fin 2) = 0 ∧ win0_8.index t (1 : Fin 2) = 0 :=
    (by decide +kernel : ∀ t : Fin grid0.N, _)
  obtain ⟨h0, h1⟩ := hi t
  unfold iblk
  rw [View.read_apply]
  show V m c main_v4 _ = _
  refine Eq.trans (congrArg (V m c main_v4) ?_) (V_v4 m c k d)
  funext a
  apply Fin.ext
  match a with
  | ⟨0, _⟩ => show win0_8.index t (0 : Fin 2) * 1024 + 1 * k.val = k.val; rw [h0] <;> omega
  | ⟨1, _⟩ => show win0_8.index t (1 : Fin 2) * 1024 + 1 * d.val = d.val; rw [h1] <;> omega

theorem iblk9_at (t : Fin cfg0.N) (k : Fin 1024) (d : Fin 4096) :
    (iblk m c 9 t : Vec Ideal S1x1024x4096 .bf16) (ix3 0 k d) = (m ((c : Thread nD τ).loc main_arg6) : FVec Ideal S2x1024x4096 .f32) (ix3 0 k d) := by
  have hi : ∀ t : Fin cfg0.N, win0_9.index t (0 : Fin 3) = 0 ∧ win0_9.index t (1 : Fin 3) = 0 ∧ win0_9.index t (2 : Fin 3) = 0 :=
    (by decide +kernel : ∀ t : Fin grid0.N, _)
  obtain ⟨h0, h1, h2⟩ := hi t
  unfold iblk
  rw [View.read_apply]
  show V m c main_v5 _ = _
  rw [V_v5]
  refine congrArg (m ((c : Thread nD τ).loc main_arg6)) ?_
  funext a
  apply Fin.ext
  match a with
  | ⟨0, _⟩ => show win0_9.index t (0 : Fin 3) * 1 + 1 * 0 = 0; rw [h0] <;> omega
  | ⟨1, _⟩ => show win0_9.index t (1 : Fin 3) * 1024 + 1 * k.val = k.val; rw [h1] <;> omega
  | ⟨2, _⟩ => show win0_9.index t (2 : Fin 3) * 4096 + 1 * d.val = d.val; rw [h2] <;> omega

theorem iblk10_at (t : Fin cfg0.N) (k : Fin 4096) (d : Fin 1024) :
    (iblk m c 10 t : Vec Ideal S1x4096x1024 .bf16) (ix3 0 k d) = (m ((c : Thread nD τ).loc main_arg7) : FVec Ideal S2x4096x1024 .f32) (ix3 0 k d) := by
  have hi : ∀ t : Fin cfg0.N, win0_10.index t (0 : Fin 3) = 0 ∧ win0_10.index t (1 : Fin 3) = 0 ∧ win0_10.index t (2 : Fin 3) = 0 :=
    (by decide +kernel : ∀ t : Fin grid0.N, _)
  obtain ⟨h0, h1, h2⟩ := hi t
  unfold iblk
  rw [View.read_apply]
  show V m c main_v6 _ = _
  rw [V_v6]
  refine congrArg (m ((c : Thread nD τ).loc main_arg7)) ?_
  funext a
  apply Fin.ext
  match a with
  | ⟨0, _⟩ => show win0_10.index t (0 : Fin 3) * 1 + 1 * 0 = 0; rw [h0] <;> omega
  | ⟨1, _⟩ => show win0_10.index t (1 : Fin 3) * 4096 + 1 * k.val = k.val; rw [h1] <;> omega
  | ⟨2, _⟩ => show win0_10.index t (2 : Fin 3) * 1024 + 1 * d.val = d.val; rw [h2] <;> omega

/-- The layer's output of the argument arrays, entry by entry. -/
def spec (x : FVec Ideal S8x2048x1024 .f32) (oa ob : FVec Ideal S8x2048x512 .bf16) (mo : FVec Ideal S8x6144 .f32) (nm : FVec Ideal S2x1024 .f32)
    (wo : FVec Ideal S1x1024x1024 .f32) (w1 : FVec Ideal S2x1024x4096 .f32) (w2 : FVec Ideal S2x4096x1024 .f32) (n : Fin 8) (r : Fin 2048) (d : Fin 1024) : EReal :=
  row (fun k => x (ix3 n r k)) (fun k => oa (ix3 n r k)) (fun k => ob (ix3 n r k)) (fun k => mo (ix2 n ⟨2048 + k.val, by omega⟩)) (fun k => mo (ix2 n ⟨3072 + k.val, by omega⟩))
    (fun k => mo (ix2 n ⟨4096 + k.val, by omega⟩)) (fun k => mo (ix2 n ⟨5120 + k.val, by omega⟩)) (fun k => nm (ix2 0 k)) (fun k j => wo (ix3 0 k j))
    (fun k j => w1 (ix3 0 k j)) (fun j k => w2 (ix3 0 j k)) d

/-- The final array, entry by entry. -/
theorem final_at (n : Fin 8) (half : ℕ) (hf : half < 2) (r d : Fin 1024) :
    ((dats m 0 c).arrAt 11 cfg0.N : FVec Ideal S8x2048x1024 .f32) (ix3 n ⟨1024 * half + r.val, by omega⟩ d) =
      spec (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        n ⟨1024 * half + r.val, by omega⟩ d := by
  have hN : 2 * n.val + half < cfg0.N := lt_of_lt_of_eq (by omega) (show cfg0.N = 16 from N_0).symm
  have hi : ∀ t : Fin cfg0.N, win0_11.index t (0 : Fin 3) = t.val / 2 ∧ win0_11.index t (1 : Fin 3) = t.val % 2 ∧ win0_11.index t (2 : Fin 3) = 0 ∧ (cfg0.win 11).flush t = true :=
    (by decide +kernel : ∀ t : Fin grid0.N, _)
  obtain ⟨h0, h1, h2, hfl⟩ := hi ⟨2 * n.val + half, hN⟩
  have hb := congrFun (Value.blocks11 m c ⟨2 * n.val + half, hN⟩ hfl) (ix3 0 r d)
  rw [View.read_apply, Value.flushed11, Pipeline.Window.cut_apply] at hb
  refine Eq.trans (congrArg ((dats m 0 c).arrAt 11 cfg0.N) ?_) (hb.trans ?_)
  · funext a
    apply Fin.ext
    match a with
    | ⟨0, _⟩ => show n.val = win0_11.index ⟨2 * n.val + half, hN⟩ (0 : Fin 3) * 1 + 1 * 0; rw [h0]; dsimp only; omega
    | ⟨1, _⟩ => show 1024 * half + r.val = win0_11.index ⟨2 * n.val + half, hN⟩ (1 : Fin 3) * 1024 + 1 * r.val; rw [h1]; dsimp only; omega
    | ⟨2, _⟩ => show d.val = win0_11.index ⟨2 * n.val + half, hN⟩ (2 : Fin 3) * 1024 + 1 * d.val; rw [h2] <;> omega
  · refine (out_at _ _ _ _ _ _ _ _ _ _ _ r d).trans ?_
    unfold spec
    simp only [iblk0_at m c ⟨2 * n.val + half, hN⟩ n half hf rfl, iblk1_at m c ⟨2 * n.val + half, hN⟩ n half hf rfl, iblk2_at m c ⟨2 * n.val + half, hN⟩ n half hf rfl, iblk3_at m c ⟨2 * n.val + half, hN⟩ n half hf rfl, iblk4_at m c ⟨2 * n.val + half, hN⟩ n half hf rfl,
      iblk5_at m c ⟨2 * n.val + half, hN⟩ n half hf rfl, iblk6_at m c ⟨2 * n.val + half, hN⟩ n half hf rfl, iblk7_at, iblk8_at, iblk9_at, iblk10_at]

end Cert.Post

end
-- ==== Proof.RefPost.lean ====
/- The reference of the layer after its mixers, entry by entry, over the extended reals. -/
module

public import proofs.«01_k».proof.Proof.Gen.Reference2Ideal.Run
public import proofs.«01_k».proof.Proof.Post

@[expose] public section

set_option maxRecDepth 16384

noncomputable section

namespace Cert.Post.Ref

open Idealize.ShloMosaic Idealize.ShloMosaic.TcCoe Idealize.ShloMosaic.Tactic Idealize.SL.Sem
open Cert.Reference2Ideal Cert.Reference2Ideal.Gen Cert.Layer

/-- The residual stream after the mixer. -/
def Mid (x : FVec Ideal S8x2048x1024 .f32) (oa ob : FVec Ideal S8x2048x512 .bf16) (mo : FVec Ideal S8x6144 .f32) (wo : FVec Ideal S1x1024x1024 .f32) : FVec Ideal S8x2048x1024 .f32 :=
  addf x (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 mo) slices_S8x1x6144_S8x1x1024_0_0_2048)) (Host.dotGeneral dot_S8x2048x1024_S1024x1024_S8x2048x1024_2_0_01_1_n_n none (concatenate S8x2048x1024 2 [⟨S8x2048x512, (extf .f32 oa bitsLt_bf16_f32)⟩, ⟨S8x2048x512, (extf .f32 ob bitsLt_bf16_f32)⟩] concatenates_S8x2048x512_S8x2048x512_S8x2048x1024_d2) (shapeCast _ wo shapeCasts_S1x1024x1024_S1024x1024)))

/-- The normed and modulated rows. -/
def Hid (y : FVec Ideal S8x2048x1024 .f32) (mo : FVec Ideal S8x6144 .f32) (nm : FVec Ideal S2x1024 .f32) : FVec Ideal S8x2048x1024 .f32 :=
  addf (mulf (mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] nm slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant (F := Ideal) S_ .f32 0x3F800000#32)) (extractStridedSlice S8x1x1024 ![0, 0, 4096] (broadcastInDim S8x1x6144 ![0, 2] bcast_S8x6144_S8x1x6144_0_2 mo) slices_S8x1x6144_S8x1x1024_0_0_4096)))) (broadcastInDim S8x2048x1024 ![0, 1, 2] bcast_S8x1x1024_S8x2048x1024_0_1_2 (extractStridedSlice S8x1x1024 ![0, 0, 3072] (broadcastInDim S8x1x6144 ![0, 2] bcast_S8x6144_S8x1x6144_0_2 mo) slices_S8x1x6144_S8x1x1024_0_0_3072))

/-- The hidden units before their activation. -/
def Act (h : FVec Ideal S8x2048x1024 .f32) (w1 : FVec Ideal S2x1024x4096 .f32) : FVec Ideal S8x2048x4096 .f32 :=
  Host.dotGeneral dot_S8x2048x1024_S1024x4096_S8x2048x4096_2_0_01_1_n_n none h (shapeCast _ (extractStridedSlice S1x1024x4096 ![0, 0, 0] w1 slices_S2x1024x4096_S1x1024x4096_0_0_0) shapeCasts_S1x1024x4096_S1024x4096)

/-- The layer's output. -/
def Out (y : FVec Ideal S8x2048x1024 .f32) (mo : FVec Ideal S8x6144 .f32) (a : FVec Ideal S8x2048x4096 .f32) (w2 : FVec Ideal S2x4096x1024 .f32) : FVec Ideal S8x2048x1024 .f32 :=
  addf y (mulf (broadcastInDim S8x2048x1024 ![0, 1, 2] bcast_S8x1x1024_S8x2048x1024_0_1_2 (extractStridedSlice S8x1x1024 ![0, 0, 5120] (broadcastInDim S8x1x6144 ![0, 2] bcast_S8x6144_S8x1x6144_0_2 mo) slices_S8x1x6144_S8x1x1024_0_0_5120)) (Host.dotGeneral dot_S8x2048x4096_S4096x1024_S8x2048x1024_2_0_01_1_n_n none (mulf (maximumf a (broadcastInDim S8x2048x4096 ![] bcast_S_S8x2048x4096 (constant (F := Ideal) S_ .f32 0x00000000#32))) (maximumf a (broadcastInDim S8x2048x4096 ![] bcast_S_S8x2048x4096 (constant (F := Ideal) S_ .f32 0x00000000#32)))) (shapeCast _ (extractStridedSlice S1x4096x1024 ![0, 0, 0] w2 slices_S2x4096x1024_S1x4096x1024_0_0_0) shapeCasts_S1x4096x1024_S4096x1024)))

theorem res_eq (m : (ℓ : Loc nD τ sig) → Buf (Elt Ideal) ℓ) (c : Dev nD) (x : FVec Ideal S8x2048x1024 .f32) (oa ob : FVec Ideal S8x2048x512 .bf16)
    (mo : FVec Ideal S8x6144 .f32) (nm : FVec Ideal S2x1024 .f32) (wo : FVec Ideal S1x1024x1024 .f32) (w1 : FVec Ideal S2x1024x4096 .f32) (w2 : FVec Ideal S2x4096x1024 .f32)
    (e0 : m ((c.tc : Thread nD τ).loc main_arg0) = x) (e1 : m ((c.tc : Thread nD τ).loc main_arg1) = oa) (e2 : m ((c.tc : Thread nD τ).loc main_arg2) = ob)
    (e3 : m ((c.tc : Thread nD τ).loc main_arg3) = mo) (e4 : m ((c.tc : Thread nD τ).loc main_arg4) = nm) (e5 : m ((c.tc : Thread nD τ).loc main_arg5) = wo)
    (e6 : m ((c.tc : Thread nD τ).loc main_arg6) = w1) (e7 : m ((c.tc : Thread nD τ).loc main_arg7) = w2) :
    Value.res_main_v47 (F := Ideal) m c = Out (Mid x oa ob mo wo) mo (Act (Hid (Mid x oa ob mo wo) mo nm) w1) w2 := by
  unfold Value.res_main_v47
  rw [e0, e1, e2, e3, e4, e5, e6, e7]
  rfl

theorem mid_at (x : FVec Ideal S8x2048x1024 .f32) (oa ob : FVec Ideal S8x2048x512 .bf16) (mo : FVec Ideal S8x6144 .f32) (wo : FVec Ideal S1x1024x1024 .f32) (n : Fin 8) (r : Fin 2048) (d : Fin 1024) :
    (Mid x oa ob mo wo (ix3 n r d) : EReal) =
      mid (fun k => x (ix3 n r k)) (fun k => oa (ix3 n r k)) (fun k => ob (ix3 n r k)) (fun k => mo (ix2 n ⟨2048 + k.val, by omega⟩)) (fun k j => wo (ix3 0 k j)) d := by
  unfold Mid mid
  pointwise

theorem hid_at (y : FVec Ideal S8x2048x1024 .f32) (mo : FVec Ideal S8x6144 .f32) (nm : FVec Ideal S2x1024 .f32) (n : Fin 8) (r : Fin 2048) (d : Fin 1024) :
    (Hid y mo nm (ix3 n r d) : EReal) =
      hid (fun k => y (ix3 n r k)) (fun k => nm (ix2 0 k)) (fun k => mo (ix2 n ⟨4096 + k.val, by omega⟩)) (fun k => mo (ix2 n ⟨3072 + k.val, by omega⟩)) d := by
  unfold Hid hid irms
  pointwise

theorem act_at (h : FVec Ideal S8x2048x1024 .f32) (w1 : FVec Ideal S2x1024x4096 .f32) (n : Fin 8) (r : Fin 2048) (j : Fin 4096) :
    (Act h w1 (ix3 n r j) : EReal) = ∑ k, h (ix3 n r k) * w1 (ix3 0 k j) := by
  unfold Act
  pointwise

theorem out_at (y : FVec Ideal S8x2048x1024 .f32) (mo : FVec Ideal S8x6144 .f32) (a : FVec Ideal S8x2048x4096 .f32) (w2 : FVec Ideal S2x4096x1024 .f32) (n : Fin 8) (r : Fin 2048) (d : Fin 1024) :
    (Out y mo a w2 (ix3 n r d) : EReal) = y (ix3 n r d) + mo (ix2 n ⟨5120 + d.val, by omega⟩) * ∑ j, max (a (ix3 n r j)) 0 * max (a (ix3 n r j)) 0 * w2 (ix3 0 j d) := by
  unfold Out
  pointwise

/-- The reference's result, entry by entry. -/
theorem res_at (x : FVec Ideal S8x2048x1024 .f32) (oa ob : FVec Ideal S8x2048x512 .bf16) (mo : FVec Ideal S8x6144 .f32) (nm : FVec Ideal S2x1024 .f32) (wo : FVec Ideal S1x1024x1024 .f32) (w1 : FVec Ideal S2x1024x4096 .f32) (w2 : FVec Ideal S2x4096x1024 .f32) (n : Fin 8) (r : Fin 2048) (d : Fin 1024) :
    (Out (Mid x oa ob mo wo) mo (Act (Hid (Mid x oa ob mo wo) mo nm) w1) w2 (ix3 n r d) : EReal) = spec x oa ob mo nm wo w1 w2 n r d := by
  rw [out_at]
  simp only [act_at, hid_at, mid_at]
  rfl

end Cert.Post.Ref

end
-- ==== Proof.ClaimsPost.lean ====
/- The layer after its mixers: the reference's run, and equal results over the extended reals. -/
module

public import proofs.«01_k».proof.Defs
public import proofs.«01_k».proof.Proof.RefPost
public import Idealize.ShloMosaic.Lib.Quiescent

@[expose] public section

set_option maxRecDepth 16384

noncomputable section

namespace Cert.Post

open Idealize.ShloMosaic Idealize.ShloMosaic.TcCoe Idealize.SL.Sem

theorem run_ref : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run m g)

theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => (Cert.Kernel2Ideal.Gen.dats m 0 c).arrAt 11 Cert.Kernel2Ideal.cfg0.N, Cert.Kernel2Ideal.Value.run_blocks (F := Ideal) m g, ?_⟩
  refine (θ_run _ _ _).mono (fun r h c => ⟨(h c).1.trans ?_, (h c).2⟩) (Cert.Reference2Ideal.Value.run m' g')
  obtain ⟨e0, e1, e2, e3, e4, e5, e6, e7⟩ := hagree c
  rw [Ref.res_eq m' c _ _ _ _ _ _ _ _ e0 e1 e2 e3 e4 e5 e6 e7]
  funext y
  have h1 : (y 1).val < 2048 := (y 1).isLt
  have ey : y = ix3 (y 0) ⟨1024 * ((y 1).val / 1024) + (⟨(y 1).val % 1024, by omega⟩ : Fin 1024).val, by dsimp only; omega⟩ (y 2) := by
    refine (eq_ix3 y).trans ?_
    congr 1
    exact Fin.ext (by dsimp only; omega)
  rw [ey]
  exact (Ref.res_at _ _ _ _ _ _ _ _ _ _ _).trans (final_at m c (y 0) ((y 1).val / 1024) (by omega) ⟨(y 1).val % 1024, by omega⟩ (y 2)).symm

end Cert.Post

end
-- ==== Proof.EvenBody.lean ====
/- The even layer's input call, one grid point: what its body stores, as the pieces of its blocks. -/
module

public import proofs.«01_k».proof.Proof.Gen.Kernel3Ideal.Value
public import Idealize.ShloMosaic.Lib.Pipeline.ValueKit
public import Idealize.ShloMosaic.Lib.Pointwise

@[expose] public section

set_option maxRecDepth 65536

noncomputable section

namespace Cert.InEven

open Idealize.ShloMosaic Idealize.ShloMosaic.TcCoe Idealize.ShloMosaic.Tactic Idealize.SL.Sem Cert.Kernel3Ideal Cert.Kernel3Ideal.Gen

variable {F : FTy → Type} [FloatOps F]

section
variable (v29 : FVec F S1024x1024 .bf16) (v35 : FVec F S2x512 .f32) (w : Fin 7 → FVec F S1024x512 .bf16) (k : FVec F S3x512 .f32) (t8 : FVec F S8x512 .f32)

/-- The five column tiles of the packed array. -/
def tiles : ℕ → FVec F S1x1024x512 .f32
  | 0 => k0_pay7 v29 (w 0)
  | 1 => k0_pay9 v29 v35 (w 1)
  | 2 => k0_pay10 v29 v35 (w 1)
  | 3 => k0_pay12 (k0_pay11 v29 (w 2))
  | _ => k0_pay13 v29 (w 3)
/-- The convolution's input, its output times the gate, and its last rows. -/
def uT : FVec F S1024x512 .f32 := k0_pay15 v29 (w 5) (w 6)
def obT : FVec F S1x1024x512 .bf16 :=
  k0_pay1 (k0_pay14 v29 (w 4)) (k0_pay15 v29 (w 5) (w 6)) (k0_pay16 k) t8 (k0_pay17 v29 (w 5) (w 6) t8) (k0_pay18 k)

theorem inbTile (n : ℕ) (hn : n < 5) : ∀ a, (![0, 0, 512 * n] : Fin 3 → ℕ) a + S1x1024x512.size a ≤ S1x1024x2560.size a := fun a => by
  match a with
  | 0 => exact Nat.le_of_ble_eq_true rfl
  | 1 => exact Nat.le_of_ble_eq_true rfl
  | 2 => show 512 * n + 512 ≤ 2560; omega
def tileList (T : ℕ → FVec F S1x1024x512 .f32) : (n : ℕ) → n ≤ 5 → List (View.Piece (Elt F) S1x1024x2560 .f32)
  | 0, _ => []
  | n + 1, hn => ⟨Rect.unit ![0, 0, 512 * n] S1x1024x512.size (inbTile n hn), T n⟩ :: tileList T n (Nat.le_of_succ_le hn)
end

theorem canon_tiles (T : ℕ → FVec F S1x1024x512 .f32) (j : ℕ) (hj : j < 5) (r : Fin 1024) (d : Fin 512) : ∀ (n : ℕ) (hn : n ≤ 5), j < n →
    View.canon (tileList T n hn) (ix3 0 r ⟨512 * j + d.val, by omega⟩) = T j (ix3 0 r d)
  | 0, _, hl => absurd hl (Nat.not_lt_zero _)
  | n + 1, hn, hl => by
    unfold tileList
    by_cases e : j = n
    · subst e
      have := View.canon_cons_emb (Val := Elt F) (Rect.unit (s := S1x1024x2560) ![0, 0, 512 * j] S1x1024x512.size (inbTile j hn)) (T j) (tileList T j (Nat.le_of_succ_le hn)) (ix3 0 r d)
      refine Eq.trans (congrArg (View.canon _) ?_) this
      funext a
      apply Fin.ext
      match a with
      | 0 => rfl
      | 1 => show r.val = 0 + 1 * r.val; omega
      | 2 => show 512 * j + d.val = 512 * j + 1 * d.val; omega
    · rw [View.canon_cons_of_not_mem]
      · exact canon_tiles T j hj r d n _ (by omega)
      · rw [Rect.mem_set_unit]
        intro hm
        have h1 := hm 2
        have : 512 * n ≤ 512 * j + d.val ∧ 512 * j + d.val < 512 * n + 512 := h1
        omega

variable (c : Dev nD) (i : grid0.Coords) (a2 : Memref sig .tc .vmem S1x1024x1024 .f32) (h2 : a2.IsWhole) (a3 : Memref sig .tc .vmem S1x1x1024 .f32) (h3 : a3.IsWhole)
  (a4 : Memref sig .tc .vmem S1x1x1024 .f32) (h4 : a4.IsWhole) (a5 : Memref sig .tc .vmem S1x1024 .f32) (h5 : a5.IsWhole) (a6 : Memref sig .tc .vmem S1024x3584 .bf16) (h6 : a6.IsWhole)
  (a7 : Memref sig .tc .vmem S2x512 .f32) (h7 : a7.IsWhole) (a8 : Memref sig .tc .vmem S3x512 .f32) (h8 : a8.IsWhole) (a9 : Memref sig .tc .vmem S1x1024x2560 .f32) (h9 : a9.IsWhole)
  (a10 : Memref sig .tc .vmem S1x1024x512 .bf16) (h10 : a10.IsWhole) (a11 : Memref sig .tc .vmem S1x2x512 .f32) (h11 : a11.IsWhole) (a12 : Memref sig .tc .vmem S8x512 .f32) (h12 : a12.IsWhole)
  (x0 : Vec F S1x1024x1024 .f32) (x1 : Vec F S1x1x1024 .f32) (x2 : Vec F S1x1x1024 .f32) (x3 : Vec F S1x1024 .f32) (x4 : Vec F S1024x3584 .bf16) (x5 : Vec F S2x512 .f32)
  (x6 : Vec F S3x512 .f32) (xs : Vec F S8x512 .f32)

/-- The point's reads. -/
def r29 : FVec F S1024x1024 .bf16 :=
  k0_pay5 (View.readAt (Elt F) a2.view (Rect.unit ![0, 0, 0] S1x1024x1024.size inb_S1x1024x1024_S1x1024x1024_0_0_0).toLoadRect (h2.unread x0))
    (View.readAt (Elt F) a5.view (Rect.unit ![0, 0] S1x1024.size inb_S1x1024_S1x1024_0_0).toLoadRect (h5.unread x3))
    (View.readAt (Elt F) a4.view (Rect.unit ![0, 0, 0] S1x1x1024.size inb_S1x1x1024_S1x1x1024_0_0_0).toLoadRect (h4.unread x2))
    (View.readAt (Elt F) a3.view (Rect.unit ![0, 0, 0] S1x1x1024.size inb_S1x1x1024_S1x1x1024_0_0_0).toLoadRect (h3.unread x1))
def r35 : FVec F S2x512 .f32 := k0_pay6 (View.readAt (Elt F) a7.view (Rect.unit ![0, 0] S2x512.size inb_S2x512_S2x512_0_0).toLoadRect (h7.unread x5))
theorem inbW (j : Fin 7) : ∀ a, (![0, 512 * j.val] : Fin 2 → ℕ) a + S1024x512.size a ≤ S1024x3584.size a := fun a => by
  match a with
  | 0 => exact Nat.le_of_ble_eq_true rfl
  | 1 => show 512 * j.val + 512 ≤ 3584; omega
def rW : Fin 7 → FVec F S1024x512 .bf16 := fun j => View.readAt (Elt F) a6.view (Rect.unit (s := S1024x3584) ![0, 512 * j.val] S1024x512.size (inbW j)).toLoadRect (h6.unread x4)
def rK : FVec F S3x512 .f32 := View.readAt (Elt F) a8.view (Rect.unit ![0, 0] S3x512.size inb_S3x512_S3x512_0_0).toLoadRect (h8.unread x6)
abbrev whole8 : Rect S8x512 := Rect.unit ![0, 0] S8x512.size inb_S8x512_S8x512_0_0
def rT : FVec F S8x512 .f32 := View.readAt (Elt F) a12.view whole8.toLoadRect (h12.unread xs)
def rZ : FVec F S8x512 .f32 := a12.view.readCov (Val := Elt F) [⟨whole8, k0_pay4⟩] whole8.toLoadRect

theorem listA7 (hc0 : cond0_0 i) :
    (kernelRun0_A c i a2 h2 a3 h3 a4 h4 a5 h5 a6 h6 a7 h7 a8 h8 a9 h9 a10 h10 a11 h11 a12 h12 hc0 x0 x1 x2 x3 x4 x5 x6).1 =
      tileList (tiles (r29 a2 h2 a3 h3 a4 h4 a5 h5 x0 x1 x2 x3) (r35 a7 h7 x5) (rW a6 h6 x4)) 5 (by decide) := by
  sl_kernel_rfl
theorem listB7 (hc0 : ¬cond0_0 i) :
    (kernelRun0_B c i a2 h2 a3 h3 a4 h4 a5 h5 a6 h6 a7 h7 a8 h8 a9 h9 a10 h10 a11 h11 a12 h12 hc0 x0 x1 x2 x3 x4 x5 x6 xs).1 =
      tileList (tiles (r29 a2 h2 a3 h3 a4 h4 a5 h5 x0 x1 x2 x3) (r35 a7 h7 x5) (rW a6 h6 x4)) 5 (by decide) := by
  sl_kernel_rfl
theorem listA8 (hc0 : cond0_0 i) :
    (kernelRun0_A c i a2 h2 a3 h3 a4 h4 a5 h5 a6 h6 a7 h7 a8 h8 a9 h9 a10 h10 a11 h11 a12 h12 hc0 x0 x1 x2 x3 x4 x5 x6).2.1 =
      [⟨Rect.unit ![0, 0, 0] S1x1024x512.size inb_S1x1024x512_S1x1024x512_0_0_0,
        obT (r29 a2 h2 a3 h3 a4 h4 a5 h5 x0 x1 x2 x3) (rW a6 h6 x4) (rK a8 h8 x6) (rZ a12)⟩] := by
  sl_kernel_rfl
theorem listB8 (hc0 : ¬cond0_0 i) :
    (kernelRun0_B c i a2 h2 a3 h3 a4 h4 a5 h5 a6 h6 a7 h7 a8 h8 a9 h9 a10 h10 a11 h11 a12 h12 hc0 x0 x1 x2 x3 x4 x5 x6 xs).2.1 =
      [⟨Rect.unit ![0, 0, 0] S1x1024x512.size inb_S1x1024x512_S1x1024x512_0_0_0,
        obT (r29 a2 h2 a3 h3 a4 h4 a5 h5 x0 x1 x2 x3) (rW a6 h6 x4) (rK a8 h8 x6) (rT a12 h12 xs)⟩] := by
  sl_kernel_rfl
theorem listB9 (hc0 : ¬cond0_0 i) :
    (kernelRun0_B c i a2 h2 a3 h3 a4 h4 a5 h5 a6 h6 a7 h7 a8 h8 a9 h9 a10 h10 a11 h11 a12 h12 hc0 x0 x1 x2 x3 x4 x5 x6 xs).2.2.1 =
      [⟨Rect.unit ![0, 0, 0] S1x2x512.size inb_S1x2x512_S1x2x512_0_0_0, k0_pay3 (uT (r29 a2 h2 a3 h3 a4 h4 a5 h5 x0 x1 x2 x3) (rW a6 h6 x4))⟩] := by
  sl_kernel_rfl
theorem listAS (hc0 : cond0_0 i) :
    (kernelRun0_A c i a2 h2 a3 h3 a4 h4 a5 h5 a6 h6 a7 h7 a8 h8 a9 h9 a10 h10 a11 h11 a12 h12 hc0 x0 x1 x2 x3 x4 x5 x6).2.2.2.1 =
      [⟨whole8, k0_pay2 (uT (r29 a2 h2 a3 h3 a4 h4 a5 h5 x0 x1 x2 x3) (rW a6 h6 x4))⟩, ⟨whole8, k0_pay4⟩] := by
  sl_kernel_rfl

/-! The reads as the blocks themselves. -/

/-- The normed and modulated rows; the columns of the weights. -/
abbrev b29 : FVec F S1024x1024 .bf16 := k0_pay5 x0 x3 x2 x1
abbrev bW : Fin 7 → FVec F S1024x512 .bf16 := fun j => View.ld x4 (Rect.unit (s := S1024x3584) ![0, 512 * j.val] S1024x512.size (inbW j))

theorem r29_eq : r29 a2 h2 a3 h3 a4 h4 a5 h5 x0 x1 x2 x3 = b29 x0 x1 x2 x3 := by
  unfold r29
  simp only [View.readAt_eq_ld, Memref.IsWhole.read_unread]
  rw [View.ld_unit_lit inb_S1x1024x1024_S1x1024x1024_0_0_0 x0 (by decide), View.ld_unit_lit inb_S1x1x1024_S1x1x1024_0_0_0 x1 (by decide),
    View.ld_unit_lit inb_S1x1x1024_S1x1x1024_0_0_0 x2 (by decide), View.ld_unit_lit inb_S1x1024_S1x1024_0_0 x3 (by decide)]
theorem r35_eq : r35 a7 h7 x5 = k0_pay6 x5 := by
  unfold r35
  rw [View.readAt_eq_ld, Memref.IsWhole.read_unread, View.ld_unit_lit inb_S2x512_S2x512_0_0 x5 (by decide)]
theorem rW_eq : rW a6 h6 x4 = bW x4 := by
  funext j
  unfold rW
  rw [View.readAt_eq_ld, Memref.IsWhole.read_unread]
theorem rK_eq : rK a8 h8 x6 = x6 := by
  unfold rK
  rw [View.readAt_eq_ld, Memref.IsWhole.read_unread, View.ld_unit_lit inb_S3x512_S3x512_0_0 x6 (by decide)]
theorem rT_eq : rT a12 h12 xs = xs := by
  unfold rT
  rw [View.readAt_eq_ld, Memref.IsWhole.read_unread, View.ld_unit_lit inb_S8x512_S8x512_0_0 xs (by decide)]
theorem rZ_eq : rZ a12 = (k0_pay4 : FVec F S8x512 .f32) := by
  unfold rZ
  rw [View.readCov_cons_toLoadRect]

/-! What a point leaves, case by case. -/

theorem outA7 (hc0 : cond0_0 i) (j : ℕ) (hj : j < 5) (r : Fin 1024) (d : Fin 512) :
    out0_A_7 c i a2 h2 a3 h3 a4 h4 a5 h5 a6 h6 a7 h7 a8 h8 a9 h9 a10 h10 a11 h11 a12 h12 hc0 x0 x1 x2 x3 x4 x5 x6 (ix3 0 r ⟨512 * j + d.val, by omega⟩) =
      tiles (b29 x0 x1 x2 x3) (k0_pay6 x5) (bW x4) j (ix3 0 r d) := by
  unfold out0_A_7
  rw [View.read_writes_junk_eq_canon, listA7, canon_tiles _ j hj r d 5 _ hj, r29_eq, r35_eq, rW_eq]
theorem outB7 (hc0 : ¬cond0_0 i) (j : ℕ) (hj : j < 5) (r : Fin 1024) (d : Fin 512) :
    out0_B_7 c i a2 h2 a3 h3 a4 h4 a5 h5 a6 h6 a7 h7 a8 h8 a9 h9 a10 h10 a11 h11 a12 h12 hc0 x0 x1 x2 x3 x4 x5 x6 xs (ix3 0 r ⟨512 * j + d.val, by omega⟩) =
      tiles (b29 x0 x1 x2 x3) (k0_pay6 x5) (bW x4) j (ix3 0 r d) := by
  unfold out0_B_7
  rw [View.read_writes_junk_eq_canon, listB7, canon_tiles _ j hj r d 5 _ hj, r29_eq, r35_eq, rW_eq]
theorem outA8 (hc0 : cond0_0 i) :
    out0_A_8 c i a2 h2 a3 h3 a4 h4 a5 h5 a6 h6 a7 h7 a8 h8 a9 h9 a10 h10 a11 h11 a12 h12 hc0 x0 x1 x2 x3 x4 x5 x6 = obT (b29 x0 x1 x2 x3) (bW x4) x6 k0_pay4 := by
  unfold out0_A_8
  rw [View.read_writes_junk_eq_canon, listA8, View.canon_cons_unit_lit inb_S1x1024x512_S1x1024x512_0_0_0 _ _ (by decide), r29_eq, rW_eq, rK_eq, rZ_eq]
theorem outB8 (hc0 : ¬cond0_0 i) :
    out0_B_8 c i a2 h2 a3 h3 a4 h4 a5 h5 a6 h6 a7 h7 a8 h8 a9 h9 a10 h10 a11 h11 a12 h12 hc0 x0 x1 x2 x3 x4 x5 x6 xs = obT (b29 x0 x1 x2 x3) (bW x4) x6 xs := by
  unfold out0_B_8
  rw [View.read_writes_junk_eq_canon, listB8, View.canon_cons_unit_lit inb_S1x1024x512_S1x1024x512_0_0_0 _ _ (by decide), r29_eq, rW_eq, rK_eq, rT_eq]
theorem outB9 (hc0 : ¬cond0_0 i) :
    out0_B_9 c i a2 h2 a3 h3 a4 h4 a5 h5 a6 h6 a7 h7 a8 h8 a9 h9 a10 h10 a11 h11 a12 h12 hc0 x0 x1 x2 x3 x4 x5 x6 xs = k0_pay3 (uT (b29 x0 x1 x2 x3) (bW x4)) := by
  unfold out0_B_9
  rw [View.read_writes_junk_eq_canon, listB9, View.canon_cons_unit_lit inb_S1x2x512_S1x2x512_0_0_0 _ _ (by decide), r29_eq, rW_eq]
theorem soutA (hc0 : cond0_0 i) :
    sout0_A_0 c i a2 h2 a3 h3 a4 h4 a5 h5 a6 h6 a7 h7 a8 h8 a9 h9 a10 h10 a11 h11 a12 h12 hc0 x0 x1 x2 x3 x4 x5 x6 = k0_pay2 (uT (b29 x0 x1 x2 x3) (bW x4)) := by
  unfold sout0_A_0
  rw [View.read_writes_junk_eq_canon, listAS, View.canon_cons_unit_lit inb_S8x512_S8x512_0_0 _ _ (by decide), r29_eq, rW_eq]

end Cert.InEven

end
-- ==== Proof.EvenIdeal.lean ====
/- The even layer's input call, one grid point over the extended reals, entry by entry. -/
module

public import proofs.«01_k».proof.Proof.EvenBody
public import proofs.«01_k».proof.Proof.Layer

@[expose] public section

set_option maxRecDepth 65536

noncomputable section

namespace Cert.InEven

open Idealize.ShloMosaic Idealize.ShloMosaic.TcCoe Idealize.ShloMosaic.Tactic Idealize.SL.Sem Cert.Kernel3Ideal Cert.Kernel3Ideal.Gen Cert.Layer

/-- A column's lower bound of the forget gate: the second share of its softmax over the two slots. -/
def lbd (a b : EReal) : EReal := Ideal.div (Ideal.exp (b - max a b)) (Ideal.exp (a - max a b) + Ideal.exp (b - max a b))
/-- The forget gate from its lower bound. -/
def fgt (l z : EReal) : EReal := l + (1 - l) * Ideal.logistic z

theorem pay5_at (x : FVec Ideal S1x1024x1024 .f32) (g : FVec Ideal S1x1024 .f32) (s b : FVec Ideal S1x1x1024 .f32) (r k : Fin 1024) :
    (k0_pay5 (F := Ideal) x g s b (ix2 r k) : EReal) = hid (fun k => x (ix3 0 r k)) (fun k => g (ix2 0 k)) (fun k => s (ix3 0 0 k)) (fun k => b (ix3 0 0 k)) k := by
  unfold k0_pay5 hid irms
  pointwise

theorem pay7_at (h : FVec Ideal S1024x1024 .bf16) (w : FVec Ideal S1024x512 .bf16) (r : Fin 1024) (d : Fin 512) :
    (k0_pay7 h w (ix3 0 r d) : EReal) = ∑ k, h (ix2 r k) * w (ix2 k d) := by
  unfold k0_pay7
  pointwise

theorem pay6_at (l : FVec Ideal S2x512 .f32) (a : Fin 2) (d : Fin 512) :
    (k0_pay6 (F := Ideal) l (ix2 a d) : EReal) = Ideal.exp (l (ix2 a d) - max (l (ix2 0 d)) (l (ix2 1 d))) := by
  unfold k0_pay6
  pointwise
  rw [fold_max2]

theorem pay8_at (h : FVec Ideal S1024x1024 .bf16) (e : FVec Ideal S2x512 .f32) (w : FVec Ideal S1024x512 .bf16) (r : Fin 1024) (d : Fin 512) :
    (k0_pay8 h e w (ix2 r d) : EReal) = fgt (Ideal.div (e (ix2 1 d)) (e (ix2 0 d) + e (ix2 1 d))) (∑ k, h (ix2 r k) * w (ix2 k d)) := by
  unfold k0_pay8 fgt
  pointwise
  rw [Fin.sum_univ_two, Fin.sum_univ_one]

theorem pay9_at (h : FVec Ideal S1024x1024 .bf16) (e : FVec Ideal S2x512 .f32) (w : FVec Ideal S1024x512 .bf16) (r : Fin 1024) (d : Fin 512) :
    (k0_pay9 h e w (ix3 0 r d) : EReal) = 1 - k0_pay8 h e w (ix2 r d) := by
  unfold k0_pay9
  pointwise

theorem pay10_at (h : FVec Ideal S1024x1024 .bf16) (e : FVec Ideal S2x512 .f32) (w : FVec Ideal S1024x512 .bf16) (r : Fin 1024) (d : Fin 512) :
    (k0_pay10 h e w (ix3 0 r d) : EReal) = Ideal.log (k0_pay8 h e w (ix2 r d)) := by
  unfold k0_pay10
  pointwise

theorem pay12_at (h : FVec Ideal S1024x1024 .bf16) (w : FVec Ideal S1024x512 .bf16) (r : Fin 1024) (d : Fin 512) :
    (k0_pay12 (k0_pay11 h w) (ix3 0 r d) : EReal) = ∑ k, h (ix2 r k) * w (ix2 k d) := by
  unfold k0_pay12 k0_pay11
  pointwise

theorem pay13_at (h : FVec Ideal S1024x1024 .bf16) (w : FVec Ideal S1024x512 .bf16) (r : Fin 1024) (d : Fin 512) :
    (k0_pay13 h w (ix3 0 r d) : EReal) = (∑ k, h (ix2 r k) * w (ix2 k d)) * Ideal.logistic (∑ k, h (ix2 r k) * w (ix2 k d)) := by
  unfold k0_pay13
  pointwise

theorem pay14_at (h : FVec Ideal S1024x1024 .bf16) (w : FVec Ideal S1024x512 .bf16) (r : Fin 1024) (d : Fin 512) :
    (k0_pay14 h w (ix2 r d) : EReal) = ∑ k, h (ix2 r k) * w (ix2 k d) := by
  unfold k0_pay14
  pointwise

theorem pay15_at (h : FVec Ideal S1024x1024 .bf16) (w v : FVec Ideal S1024x512 .bf16) (r : Fin 1024) (d : Fin 512) :
    (k0_pay15 h w v (ix2 r d) : EReal) = (∑ k, h (ix2 r k) * w (ix2 k d)) * ∑ k, h (ix2 r k) * v (ix2 k d) := by
  unfold k0_pay15
  pointwise

theorem pay2_at (u : FVec Ideal S1024x512 .f32) (a : Fin 8) (d : Fin 512) : (k0_pay2 u (ix2 a d) : EReal) = u (ix2 ⟨1016 + a.val, by omega⟩ d) := by
  unfold k0_pay2
  pointwise

theorem pay3_at (u : FVec Ideal S1024x512 .f32) (a : Fin 2) (d : Fin 512) : (k0_pay3 u (ix3 0 a d) : EReal) = u (ix2 ⟨1022 + a.val, by omega⟩ d) := by
  unfold k0_pay3
  pointwise

theorem pay4_at (a : Fin 8) (d : Fin 512) : ((k0_pay4 : FVec Ideal S8x512 .f32) (ix2 a d) : EReal) = 0 := by
  unfold k0_pay4
  pointwise

theorem pay17_at (h : FVec Ideal S1024x1024 .bf16) (w v : FVec Ideal S1024x512 .bf16) (t : FVec Ideal S8x512 .f32) (r : Fin 1024) (d : Fin 512) :
    (k0_pay17 h w v t (ix2 r d) : EReal) = shf (fun r => k0_pay15 h w v (ix2 r d)) (fun a => t (ix2 a d)) 2 (by decide) r := by
  unfold k0_pay17
  generalize k0_pay15 h w v = u
  pointwise
  exact shift_at (by decide) (fun r => u (ix2 r d)) (fun a => t (ix2 a d)) 2 (by decide) r _ (slt2 _) _ _ _

theorem pay1_at (bg u : FVec Ideal S1024x512 .f32) (k : FVec Ideal S3x512 .f32) (t : FVec Ideal S8x512 .f32) (s2 : FVec Ideal S1024x512 .f32) (k0 : FVec Ideal S1x512 .f32) (r : Fin 1024) (d : Fin 512) :
    (k0_pay1 bg u k t s2 k0 (ix3 0 r d) : EReal) = bg (ix2 r d) * (s2 (ix2 r d) * k0 (ix2 0 d) + shf (fun r => u (ix2 r d)) (fun a => t (ix2 a d)) 1 (by decide) r * k (ix2 1 d) + u (ix2 r d) * k (ix2 2 d)) := by
  unfold k0_pay1
  pointwise
  rw [← shift_at (by decide) (fun r => u (ix2 r d)) (fun a => t (ix2 a d)) 1 (by decide) r _ (slt1 r.val) (fun _ => Nat.mod_lt _ (by decide)) (fun _ => Nat.mod_lt _ (by decide)) (fun _ => Nat.mod_lt _ (by decide))]

theorem k_at (k : FVec Ideal S3x512 .f32) (a : Fin 3) (d : Fin 512) : (k0_pay16 (F := Ideal) k (ix2 a d) : EReal) = k (ix2 a d) := by
  unfold k0_pay16
  pointwise
theorem k0_at (k : FVec Ideal S3x512 .f32) (d : Fin 512) : (k0_pay18 (F := Ideal) k (ix2 0 d) : EReal) = k (ix2 0 d) := by
  unfold k0_pay18 k0_pay16
  pointwise

end Cert.InEven

end
-- ==== Proof.EvenValue.lean ====
/- The even layer's input call over the extended reals: its three results of the argument arrays. -/
module

public import proofs.«01_k».proof.Proof.EvenIdeal
public import Idealize.ShloMosaic.Lib.StableHlo.Run

@[expose] public section

set_option maxRecDepth 16384

noncomputable section

namespace Cert.InEven

open Idealize.ShloMosaic Idealize.ShloMosaic.TcCoe Idealize.ShloMosaic.Tactic Idealize.SL.Sem Cert.Kernel3Ideal Cert.Kernel3Ideal.Gen Cert.Layer

/-! ## The results, entry by entry -/

section
variable (x : FVec Ideal S8x2048x1024 .f32) (mo : FVec Ideal S8x6144 .f32) (nm : FVec Ideal S2x1024 .f32) (w : FVec Ideal S1x1024x3584 .f32) (lb : FVec Ideal S2x512 .f32) (sw : FVec Ideal S1x3x512 .f32)

/-- The normed and modulated rows, and the seven projections of them. -/
def hE (n : Fin 8) (t : Fin 2048) (k : Fin 1024) : EReal :=
  hid (fun k => x (ix3 n t k)) (fun k => nm (ix2 0 k)) (fun k => mo (ix2 n ⟨1024 + k.val, by omega⟩)) (fun k => mo (ix2 n ⟨k.val, by omega⟩)) k
def pE (j : Fin 7) (n : Fin 8) (t : Fin 2048) (d : Fin 512) : EReal :=
  ∑ k, hE x mo nm n t k * w (ix3 0 k ⟨512 * j.val + d.val, by omega⟩)
/-- The convolution's input, two rows of zeros in front. -/
def uE (n : Fin 8) (p : ℕ) (d : Fin 512) : EReal :=
  if h : 2 ≤ p ∧ p < 2050 then pE x mo nm w 5 n ⟨p - 2, by omega⟩ d * pE x mo nm w 6 n ⟨p - 2, by omega⟩ d else 0
def fE (n : Fin 8) (t : Fin 2048) (d : Fin 512) : EReal := fgt (lbd (lb (ix2 0 d)) (lb (ix2 1 d))) (pE x mo nm w 1 n t d)
/-- The packed array's five columns. -/
def glaE (j : ℕ) (n : Fin 8) (t : Fin 2048) (d : Fin 512) : EReal :=
  match j with
  | 0 => pE x mo nm w 0 n t d
  | 1 => 1 - fE x mo nm w lb n t d
  | 2 => Ideal.log (fE x mo nm w lb n t d)
  | 3 => pE x mo nm w 2 n t d
  | _ => pE x mo nm w 3 n t d * Ideal.logistic (pE x mo nm w 3 n t d)
/-- The gated convolution. -/
def obE (n : Fin 8) (t : Fin 2048) (d : Fin 512) : EReal :=
  pE x mo nm w 4 n t d * (uE x mo nm w n t.val d * sw (ix3 0 0 d) + uE x mo nm w n (t.val + 1) d * sw (ix3 0 1 d) + uE x mo nm w n (t.val + 2) d * sw (ix3 0 2 d))
end

/-! ## A point's tiles -/

section
variable (x : FVec Ideal S8x2048x1024 .f32) (mo : FVec Ideal S8x6144 .f32) (nm : FVec Ideal S2x1024 .f32) (w : FVec Ideal S1x1024x3584 .f32) (lb : FVec Ideal S2x512 .f32) (sw : FVec Ideal S1x3x512 .f32)
  (n : Fin 8) (half : ℕ) (hf : half < 2) (h : FVec Ideal S1024x1024 .bf16) (v : Fin 7 → FVec Ideal S1024x512 .bf16)
  (hh : ∀ (r k : Fin 1024), h (ix2 r k) = hE x mo nm n ⟨1024 * half + r.val, by omega⟩ k)
  (hv : ∀ (j : Fin 7) (k : Fin 1024) (d : Fin 512), v j (ix2 k d) = w (ix3 0 k ⟨512 * j.val + d.val, by omega⟩))

include hh hv in
theorem dot_at (j : Fin 7) (r : Fin 1024) (d : Fin 512) : (∑ k, h (ix2 r k) * v j (ix2 k d) : EReal) = pE x mo nm w j n ⟨1024 * half + r.val, by omega⟩ d := by
  unfold pE
  exact Finset.sum_congr rfl fun k _ => by rw [hh, hv]

include hh hv in
theorem tiles_at (j : ℕ) (hj : j < 5) (r : Fin 1024) (d : Fin 512) : tiles h (k0_pay6 (F := Ideal) lb) v j (ix3 0 r d) = glaE x mo nm w lb j n ⟨1024 * half + r.val, by omega⟩ d := by
  have hd := dot_at x mo nm w n half hf h v hh hv
  have h8 : (k0_pay8 h (k0_pay6 (F := Ideal) lb) (v 1) (ix2 r d) : EReal) = fE x mo nm w lb n ⟨1024 * half + r.val, by omega⟩ d := by
    rw [pay8_at, pay6_at, pay6_at, hd]
    rfl
  match j, hj with
  | 0, _ => exact (pay7_at h (v 0) r d).trans (hd 0 r d)
  | 1, _ => exact (pay9_at h _ (v 1) r d).trans (congrArg (1 - ·) h8)
  | 2, _ => exact (pay10_at h _ (v 1) r d).trans (congrArg Ideal.log h8)
  | 3, _ => exact (pay12_at h (v 2) r d).trans (hd 2 r d)
  | 4, _ => exact (pay13_at h (v 3) r d).trans (congrArg₂ (fun a b => a * Ideal.logistic b) (hd 3 r d) (hd 3 r d))

include hh hv in
theorem u_at (r : Fin 1024) (d : Fin 512) : uT h v (ix2 r d) = uE x mo nm w n (1024 * half + r.val + 2) d := by
  have hd := dot_at x mo nm w n half hf h v hh hv
  unfold uT uE
  rw [dif_pos (by omega)]
  exact (pay15_at h (v 5) (v 6) r d).trans (congrArg₂ (· * ·) (hd 5 r d) (hd 6 r d))

include hh hv in
theorem shf_u (t8 : FVec Ideal S8x512 .f32) (ht : ∀ (a : Fin 8) (d : Fin 512), 6 ≤ a.val → t8 (ix2 a d) = uE x mo nm w n (1024 * half + (a.val - 6)) d)
    (s : ℕ) (hs : s ≤ 2) (r : Fin 1024) (d : Fin 512) :
    shf (fun r => uT h v (ix2 r d)) (fun a => t8 (ix2 a d)) s (by omega) r = uE x mo nm w n (1024 * half + r.val + (2 - s)) d := by
  unfold shf
  split
  · exact (ht _ _ (by dsimp only; omega)).trans (congrArg (fun p => uE x mo nm w n p d) (by dsimp only; omega))
  · exact (u_at x mo nm w n half hf h v hh hv _ d).trans (congrArg (fun p => uE x mo nm w n p d) (by dsimp only; omega))

include hh hv in
theorem ob_at (k : FVec Ideal S3x512 .f32) (hk : ∀ (a : Fin 3) (d : Fin 512), k (ix2 a d) = sw (ix3 0 a d)) (t8 : FVec Ideal S8x512 .f32)
    (ht : ∀ (a : Fin 8) (d : Fin 512), 6 ≤ a.val → t8 (ix2 a d) = uE x mo nm w n (1024 * half + (a.val - 6)) d) (r : Fin 1024) (d : Fin 512) :
    obT h v k t8 (ix3 0 r d) = obE x mo nm w sw n ⟨1024 * half + r.val, by omega⟩ d := by
  have hs := shf_u x mo nm w n half hf h v hh hv t8 ht
  have hu := u_at x mo nm w n half hf h v hh hv r d
  unfold obT
  refine (pay1_at _ _ _ _ _ _ r d).trans ?_
  rw [pay17_at, k0_at, k_at, k_at, hk, hk, hk, pay14_at, dot_at x mo nm w n half hf h v hh hv 4 r d]
  unfold uT at hs hu
  rw [hs 2 (by decide), hs 1 (by decide), hu]
  rfl
end

/-! ## The points' blocks -/

variable (m : (ℓ : Loc nD τ sig) → Buf (Elt Ideal) ℓ) (c : Dev nD)

abbrev X : FVec Ideal S8x2048x1024 .f32 := m ((c : Thread nD τ).loc main_arg0)
abbrev MO : FVec Ideal S8x6144 .f32 := m ((c : Thread nD τ).loc main_arg1)
abbrev NM : FVec Ideal S2x1024 .f32 := m ((c : Thread nD τ).loc main_arg2)
abbrev WE : FVec Ideal S1x1024x3584 .f32 := m ((c : Thread nD τ).loc main_arg3)
abbrev LB : FVec Ideal S2x512 .f32 := m ((c : Thread nD τ).loc main_arg4)
abbrev SW : FVec Ideal S1x3x512 .f32 := m ((c : Thread nD τ).loc main_arg5)

theorem cast_mod (v : FVec Ideal S8x6144 .f32) (n : Fin 8) (k : Fin 6144) : (shapeCast S8x1x6144 v shapeCasts_S8x6144_S8x1x6144 (ix3 n 0 k) : EReal) = v (ix2 n k) := by
  pointwise
theorem cast_norm (v : FVec Ideal S2x1024 .f32) (k : Fin 1024) :
    (shapeCast S1x1024 (shapeCast S1024 (extractStridedSlice S1x1024 ![0, 0] v slices_S2x1024_S1x1024_0_0) shapeCasts_S1x1024_S1024) shapeCasts_S1024_S1x1024 (ix2 0 k) : EReal) = v (ix2 0 k) := by
  pointwise
theorem cast_w (v : FVec Ideal S1x1024x3584 .f32) (k : Fin 1024) (j : Fin 3584) :
    (truncf (F := Ideal) .bf16 (shapeCast S1024x3584 v shapeCasts_S1x1024x3584_S1024x3584 : FVec Ideal S1024x3584 .f32) bitsLt_bf16_f32 (ix2 k j) : EReal) = v (ix3 0 k j) := by
  pointwise
theorem cast_sw (v : FVec Ideal S1x3x512 .f32) (a : Fin 3) (d : Fin 512) : (shapeCast S3x512 v shapeCasts_S1x3x512_S3x512 (ix2 a d) : EReal) = v (ix3 0 a d) := by
  pointwise

theorem V_v0 (n : Fin 8) (k : Fin 6144) : (V m c main_v0 : FVec Ideal S8x1x6144 .f32) (ix3 n 0 k) = MO m c (ix2 n k) := by
  have h : (V m c main_v0 : FVec Ideal S8x1x6144 .f32) = shapeCast S8x1x6144 (MO m c) shapeCasts_S8x6144_S8x1x6144 := by
    show StableHlo.after hostOps0 _ (Proc.devRef .tc main_v0) = _
    after_results
    rfl
  rw [h]
  exact cast_mod _ _ _
theorem V_v6 (k : Fin 1024) : (V m c main_v6 : FVec Ideal S1x1024 .f32) (ix2 0 k) = NM m c (ix2 0 k) := by
  have h : (V m c main_v6 : FVec Ideal S1x1024 .f32) = shapeCast S1x1024 (shapeCast S1024 (extractStridedSlice S1x1024 ![0, 0] (NM m c) slices_S2x1024_S1x1024_0_0) shapeCasts_S1x1024_S1024) shapeCasts_S1024_S1x1024 := by
    show StableHlo.after hostOps0 _ (Proc.devRef .tc main_v6) = _
    after_results
    rfl
  rw [h]
  exact cast_norm _ _
theorem V_v4 (k : Fin 1024) (j : Fin 3584) : (V m c main_v4 : FVec Ideal S1024x3584 .bf16) (ix2 k j) = WE m c (ix3 0 k j) := by
  have h : (V m c main_v4 : FVec Ideal S1024x3584 .bf16) = truncf (F := Ideal) .bf16 (shapeCast S1024x3584 (WE m c) shapeCasts_S1x1024x3584_S1024x3584 : FVec Ideal S1024x3584 .f32) bitsLt_bf16_f32 := by
    show StableHlo.after hostOps0 _ (Proc.devRef .tc main_v4) = _
    after_results
    rfl
  rw [h]
  exact cast_w _ _ _
theorem V_v5 (a : Fin 3) (d : Fin 512) : (V m c main_v5 : FVec Ideal S3x512 .f32) (ix2 a d) = SW m c (ix3 0 a d) := by
  have h : (V m c main_v5 : FVec Ideal S3x512 .f32) = shapeCast S3x512 (SW m c) shapeCasts_S1x3x512_S3x512 := by
    show StableHlo.after hostOps0 _ (Proc.devRef .tc main_v5) = _
    after_results
    rfl
  rw [h]
  exact cast_sw _ _ _

theorem iblk0_at (t : Fin cfg0.N) (n : Fin 8) (half : ℕ) (hf : half < 2) (ht : t.val = 2 * n.val + half) (r d : Fin 1024) :
    (iblk m c 0 t : Vec Ideal S1x1024x1024 .f32) (ix3 0 r d) = X m c (ix3 n ⟨1024 * half + r.val, by omega⟩ d) := by
  have hi : ∀ t : Fin cfg0.N, win0_0.index t (0 : Fin 3) = t.val / 2 ∧ win0_0.index t (1 : Fin 3) = t.val % 2 ∧ win0_0.index t (2 : Fin 3) = 0 :=
    (by decide +kernel : ∀ t : Fin grid0.N, _)
  obtain ⟨h0, h1, h2⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 3) * 1 + 1 * 0 = n.val; rw [h0] <;> omega
  | ⟨1, _⟩ => show win0_0.index t (1 : Fin 3) * 1024 + 1 * r.val = 1024 * half + r.val; rw [h1] <;> omega
  | ⟨2, _⟩ => show win0_0.index t (2 : Fin 3) * 1024 + 1 * d.val = d.val; rw [h2] <;> omega

theorem iblk1_at (t : Fin cfg0.N) (n : Fin 8) (half : ℕ) (hf : half < 2) (ht : t.val = 2 * n.val + half) (d : Fin 1024) :
    (iblk m c 1 t : Vec Ideal S1x1x1024 .f32) (ix3 0 0 d) = MO m c (ix2 n ⟨d.val, by omega⟩) := by
  have hi : ∀ t : Fin cfg0.N, win0_1.index t (0 : Fin 3) = t.val / 2 ∧ win0_1.index t (1 : Fin 3) = 0 ∧ win0_1.index t (2 : Fin 3) = 0 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n ⟨d.val, by omega⟩)
  funext a
  apply Fin.ext
  match a with
  | ⟨0, _⟩ => show win0_1.index t (0 : Fin 3) * 1 + 1 * 0 = n.val; rw [h0] <;> omega
  | ⟨1, _⟩ => show win0_1.index t (1 : Fin 3) * 1 + 1 * 0 = 0; rw [h1] <;> omega
  | ⟨2, _⟩ => show win0_1.index t (2 : Fin 3) * 1024 + 1 * d.val = d.val; rw [h2] <;> omega

theorem iblk2_at (t : Fin cfg0.N) (n : Fin 8) (half : ℕ) (hf : half < 2) (ht : t.val = 2 * n.val + half) (d : Fin 1024) :
    (iblk m c 2 t : Vec Ideal S1x1x1024 .f32) (ix3 0 0 d) = MO m c (ix2 n ⟨1024 + d.val, by omega⟩) := by
  have hi : ∀ t : Fin cfg0.N, win0_2.index t (0 : Fin 3) = t.val / 2 ∧ win0_2.index t (1 : Fin 3) = 0 ∧ win0_2.index t (2 : Fin 3) = 1 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n ⟨1024 + d.val, by omega⟩)
  funext a
  apply Fin.ext
  match a with
  | ⟨0, _⟩ => show win0_2.index t (0 : Fin 3) * 1 + 1 * 0 = n.val; rw [h0] <;> omega
  | ⟨1, _⟩ => show win0_2.index t (1 : Fin 3) * 1 + 1 * 0 = 0; rw [h1] <;> omega
  | ⟨2, _⟩ => show win0_2.index t (2 : Fin 3) * 1024 + 1 * d.val = 1024 + d.val; rw [h2] <;> omega

theorem iblk3_at (t : Fin cfg0.N) (d : Fin 1024) : (iblk m c 3 t : Vec Ideal S1x1024 .f32) (ix2 0 d) = NM m c (ix2 0 d) := by
  have hi : ∀ t : Fin cfg0.N, win0_3.index t (0 : Fin 2) = 0 ∧ win0_3.index t (1 : Fin 2) = 0 :=
    (by decide +kernel : ∀ t : Fin grid0.N, _)
  obtain ⟨h0, h1⟩ := hi t
  unfold iblk
  rw [View.read_apply]
  show V m c main_v6 _ = _
  refine Eq.trans (congrArg (V m c main_v6) ?_) (V_v6 m c d)
  funext a
  apply Fin.ext
  match a with
  | ⟨0, _⟩ => show win0_3.index t (0 : Fin 2) * 1 + 1 * 0 = 0; rw [h0] <;> omega
  | ⟨1, _⟩ => show win0_3.index t (1 : Fin 2) * 1024 + 1 * d.val = d.val; rw [h1] <;> omega

theorem iblk4_at (t : Fin cfg0.N) (k : Fin 1024) (d : Fin 3584) : (iblk m c 4 t : Vec Ideal S1024x3584 .bf16) (ix2 k d) = WE m c (ix3 0 k d) := by
  have hi : ∀ t : Fin cfg0.N, win0_4.index t (0 : Fin 2) = 0 ∧ win0_4.index t (1 : Fin 2) = 0 :=
    (by decide +kernel : ∀ t : Fin grid0.N, _)
  obtain ⟨h0, h1⟩ := hi t
  unfold iblk
  rw [View.read_apply]
  show V m c main_v4 _ = _
  refine Eq.trans (congrArg (V m c main_v4) ?_) (V_v4 m c k d)
  funext a
  apply Fin.ext
  match a with
  | ⟨0, _⟩ => show win0_4.index t (0 : Fin 2) * 1024 + 1 * k.val = k.val; rw [h0] <;> omega
  | ⟨1, _⟩ => show win0_4.index t (1 : Fin 2) * 3584 + 1 * d.val = d.val; rw [h1] <;> omega

theorem iblk5_eq (t : Fin cfg0.N) : (iblk m c 5 t : Vec Ideal S2x512 .f32) = LB m c := by
  have hi : ∀ t : Fin cfg0.N, win0_5.index t (0 : Fin 2) = 0 ∧ win0_5.index t (1 : Fin 2) = 0 :=
    (by decide +kernel : ∀ t : Fin grid0.N, _)
  obtain ⟨h0, h1⟩ := hi t
  funext j
  unfold iblk
  rw [View.read_apply]
  show V m c main_arg4 _ = _
  rw [V_main_arg4]
  refine congrArg (m ((c : Thread nD τ).loc main_arg4)) ?_
  funext a
  apply Fin.ext
  match a with
  | ⟨0, _⟩ => show win0_5.index t (0 : Fin 2) * 2 + 1 * (j 0).val = (j 0).val; rw [h0] <;> omega
  | ⟨1, _⟩ => show win0_5.index t (1 : Fin 2) * 512 + 1 * (j 1).val = (j 1).val; rw [h1] <;> omega

theorem iblk6_at (t : Fin cfg0.N) (k : Fin 3) (d : Fin 512) : (iblk m c 6 t : Vec Ideal S3x512 .f32) (ix2 k d) = SW m c (ix3 0 k d) := by
  have hi : ∀ t : Fin cfg0.N, win0_6.index t (0 : Fin 2) = 0 ∧ win0_6.index t (1 : Fin 2) = 0 :=
    (by decide +kernel : ∀ t : Fin grid0.N, _)
  obtain ⟨h0, h1⟩ := hi t
  unfold iblk
  rw [View.read_apply]
  show V m c main_v5 _ = _
  refine Eq.trans (congrArg (V m c main_v5) ?_) (V_v5 m c k d)
  funext a
  apply Fin.ext
  match a with
  | ⟨0, _⟩ => show win0_6.index t (0 : Fin 2) * 3 + 1 * k.val = k.val; rw [h0] <;> omega
  | ⟨1, _⟩ => show win0_6.index t (1 : Fin 2) * 512 + 1 * d.val = d.val; rw [h1] <;> omega

theorem b29_at (t : Fin cfg0.N) (n : Fin 8) (half : ℕ) (hf : half < 2) (ht : t.val = 2 * n.val + half) (r k : Fin 1024) :
    (b29 (F := Ideal) (iblk m c 0 t) (iblk m c 1 t) (iblk m c 2 t) (iblk m c 3 t) (ix2 r k) : EReal) = hE (X m c) (MO m c) (NM m c) n ⟨1024 * half + r.val, by omega⟩ k := by
  refine (pay5_at _ _ _ _ r k).trans ?_
  unfold hE
  simp only [iblk0_at m c t n half hf ht, iblk1_at m c t n half hf ht, iblk2_at m c t n half hf ht, iblk3_at]

theorem bW_at (t : Fin cfg0.N) (j : Fin 7) (k : Fin 1024) (d : Fin 512) :
    (bW (F := Ideal) (iblk m c 4 t) j (ix2 k d) : EReal) = WE m c (ix3 0 k ⟨512 * j.val + d.val, by omega⟩) := by
  refine Eq.trans ?_ (iblk4_at m c t k ⟨512 * j.val + d.val, by omega⟩)
  refine View.ld_unit_apply_of _ _ _ _ _ _ fun a => ?_
  match a with
  | ⟨0, _⟩ => exact (Nat.zero_add _).symm
  | ⟨1, _⟩ => rfl

/-! ## What the points leave -/

theorem gla_pt (t : Fin cfg0.N) (n : Fin 8) (half : ℕ) (hf : half < 2) (ht : t.val = 2 * n.val + half) (j : ℕ) (hj : j < 5) (r : Fin 1024) (d : Fin 512) :
    (outsAt0 m c t.val t.isLt).1 (ix3 0 r ⟨512 * j + d.val, by omega⟩) = glaE (X m c) (MO m c) (NM m c) (WE m c) (LB m c) j n ⟨1024 * half + r.val, by omega⟩ d := by
  have hT := tiles_at (X m c) (MO m c) (NM m c) (WE m c) (LB m c) n half hf _ _ (b29_at m c t n half hf ht) (bW_at m c t) j hj r d
  by_cases hz : t.val % 2 = 0
  · rw [outsAt0_A m c t hz]
    dsimp only
    rw [outA7 _ _ _ _ _ _ _ _ _ _ _ _ _ _ _ _ _ _ _ _ _ _ _ _ _ _ _ _ _ _ _ _ j hj r d, iblk5_eq]
    exact hT
  · rw [outsAt0_B m c t hz]
    dsimp only
    rw [outB7 _ _ _ _ _ _ _ _ _ _ _ _ _ _ _ _ _ _ _ _ _ _ _ _ _ _ _ _ _ _ _ _ _ j hj r d, iblk5_eq]
    exact hT

/-- The rows a batch's first half leaves for its second. -/
theorem tail_pt (t : Fin cfg0.N) (n : Fin 8) (ht : t.val = 2 * n.val) (a : Fin 8) (d : Fin 512) :
    (outsAt0 m c t.val t.isLt).2.2.2 (ix2 a d) = uE (X m c) (MO m c) (NM m c) (WE m c) n (1018 + a.val) d := by
  rw [outsAt0_A m c t (by omega)]
  dsimp only
  rw [soutA]
  refine (pay2_at _ a d).trans ((u_at (X m c) (MO m c) (NM m c) (WE m c) n 0 (by decide) _ _ (b29_at m c t n 0 (by decide) ht) (bW_at m c t) _ d).trans ?_)
  exact congrArg (fun p => uE (X m c) (MO m c) (NM m c) (WE m c) n p d) (by dsimp only; omega)

theorem ob_pt (t : Fin cfg0.N) (n : Fin 8) (half : ℕ) (hf : half < 2) (ht : t.val = 2 * n.val + half) (r : Fin 1024) (d : Fin 512) :
    (outsAt0 m c t.val t.isLt).2.1 (ix3 0 r d) = obE (X m c) (MO m c) (NM m c) (WE m c) (SW m c) n ⟨1024 * half + r.val, by omega⟩ d := by
  have hO := ob_at (X m c) (MO m c) (NM m c) (WE m c) (SW m c) n half hf _ _ (b29_at m c t n half hf ht) (bW_at m c t) _ (iblk6_at m c t)
  by_cases hz : t.val % 2 = 0
  · rw [outsAt0_A m c t hz]
    dsimp only
    rw [outA8]
    refine hO _ (fun a d ha => (pay4_at a d).trans ?_) r d
    unfold uE
    rw [dif_neg (by omega)]
  · rw [outsAt0_B m c t hz]
    dsimp only
    rw [outB8]
    refine hO _ (fun a d ha => ?_) r d
    refine (tail_pt m c ⟨t.val - 1, Nat.lt_of_le_of_lt (Nat.sub_le _ _) t.isLt⟩ n (by dsimp only; omega) a d).trans ?_
    exact congrArg (fun p => uE (X m c) (MO m c) (NM m c) (WE m c) n p d) (by omega)

theorem sct_pt (t : Fin cfg0.N) (n : Fin 8) (ht : t.val = 2 * n.val + 1) (a : Fin 2) (d : Fin 512) :
    (outsAt0 m c t.val t.isLt).2.2.1 (ix3 0 a d) = uE (X m c) (MO m c) (NM m c) (WE m c) n (2048 + a.val) d := by
  rw [outsAt0_B m c t (by omega)]
  dsimp only
  rw [outB9]
  refine (pay3_at _ a d).trans ((u_at (X m c) (MO m c) (NM m c) (WE m c) n 1 (by decide) _ _ (b29_at m c t n 1 (by decide) ht) (bW_at m c t) _ d).trans ?_)
  exact congrArg (fun p => uE (X m c) (MO m c) (NM m c) (WE m c) n p d) (by dsimp only; omega)

/-! ## The results -/

theorem G7_aux (n : Fin 8) (half : ℕ) (hf : half < 2) (r : Fin 1024) (j : ℕ) (hj : j < 5) (d : Fin 512) :
    Value.G7 m c (ix3 n ⟨1024 * half + r.val, by omega⟩ ⟨512 * j + d.val, by omega⟩) = glaE (X m c) (MO m c) (NM m c) (WE m c) (LB m c) j n ⟨1024 * half + r.val, by omega⟩ d := by
  have hp : Value.pt7Of (ix3 n ⟨1024 * half + r.val, by omega⟩ ⟨512 * j + d.val, by omega⟩) = 2 * n.val + half := by
    show 2 * (n.val / 1 - 0) + 1 * ((1024 * half + r.val) / 1024 - 0) + 1 * ((512 * j + d.val) / 2560 - 0) = _
    omega
  have hN : Value.pt7Of (ix3 n ⟨1024 * half + r.val, by omega⟩ ⟨512 * j + d.val, by omega⟩) < cfg0.N := by rw [hp]; exact lt_of_lt_of_eq (by omega) (show cfg0.N = 16 from N_0).symm
  unfold Value.G7
  rw [dif_pos hN]
  have hs := Value.outsAt0_sweep m c _ hN
  rw [← hs]
  refine Eq.trans (congrArg (outsAt0 m c _ hN).1 ?_) (gla_pt m c ⟨_, hN⟩ n half hf hp j hj r d)
  funext a
  apply Fin.ext
  match a with
  | ⟨0, _⟩ => show n.val % 1 = 0; omega
  | ⟨1, _⟩ => show (1024 * half + r.val) % 1024 = r.val; omega
  | ⟨2, _⟩ => show (512 * j + d.val) % 2560 = 512 * j + d.val; omega

theorem G8_aux (n : Fin 8) (half : ℕ) (hf : half < 2) (r : Fin 1024) (d : Fin 512) :
    Value.G8 m c (ix3 n ⟨1024 * half + r.val, by omega⟩ d) = obE (X m c) (MO m c) (NM m c) (WE m c) (SW m c) n ⟨1024 * half + r.val, by omega⟩ d := by
  have hp : Value.pt8Of (ix3 n ⟨1024 * half + r.val, by omega⟩ d) = 2 * n.val + half := by
    show 2 * (n.val / 1 - 0) + 1 * ((1024 * half + r.val) / 1024 - 0) + 1 * (d.val / 512 - 0) = _
    omega
  have hN : Value.pt8Of (ix3 n ⟨1024 * half + r.val, by omega⟩ d) < cfg0.N := by rw [hp]; exact lt_of_lt_of_eq (by omega) (show cfg0.N = 16 from N_0).symm
  unfold Value.G8
  rw [dif_pos hN]
  have hs := Value.outsAt0_sweep m c _ hN
  rw [← hs]
  refine Eq.trans (congrArg (outsAt0 m c _ hN).2.1 ?_) (ob_pt m c ⟨_, hN⟩ n half hf hp r d)
  funext a
  apply Fin.ext
  match a with
  | ⟨0, _⟩ => show n.val % 1 = 0; omega
  | ⟨1, _⟩ => show (1024 * half + r.val) % 1024 = r.val; omega
  | ⟨2, _⟩ => show d.val % 512 = d.val; omega

theorem G9_at (n : Fin 8) (a : Fin 2) (d : Fin 512) : Value.G9 m c (ix3 n a d) = uE (X m c) (MO m c) (NM m c) (WE m c) n (2048 + a.val) d := by
  have hp : Value.pt9Of (ix3 n a d) = 2 * n.val + 1 := by
    show 2 * (1 * (n.val / 1 - 0) + 1 * (a.val / 2 - 0) + 1 * (d.val / 512 - 0)) + 1 = _
    omega
  have hN : Value.pt9Of (ix3 n a d) < cfg0.N := by rw [hp]; exact lt_of_lt_of_eq (by omega) (show cfg0.N = 16 from N_0).symm
  unfold Value.G9
  rw [dif_pos hN]
  have hs := Value.outsAt0_sweep m c _ hN
  rw [← hs]
  refine Eq.trans (congrArg (outsAt0 m c _ hN).2.2.1 ?_) (sct_pt m c ⟨_, hN⟩ n hp a d)
  funext b
  apply Fin.ext
  match b with
  | ⟨0, _⟩ => show n.val % 1 = 0; omega
  | ⟨1, _⟩ => show a.val % 2 = a.val; omega
  | ⟨2, _⟩ => show d.val % 512 = d.val; omega

/-- The results at a row and a column as the reference numbers them. -/
theorem G7_at (n : Fin 8) (t : Fin 2048) (j : ℕ) (hj : j < 5) (d : Fin 512) (k : Fin 2560) (hk : k.val = 512 * j + d.val) : Value.G7 m c (ix3 n t k) = glaE (X m c) (MO m c) (NM m c) (WE m c) (LB m c) j n t d := by
  have hb : 512 * j + d.val < 2560 := by clear hk k; omega
  obtain rfl : k = ⟨512 * j + d.val, hb⟩ := Fin.ext hk
  have ht : t = ⟨1024 * (t.val / 1024) + (⟨t.val % 1024, by omega⟩ : Fin 1024).val, by dsimp only; omega⟩ := Fin.ext (by dsimp only; omega)
  have h := G7_aux m c n (t.val / 1024) (by omega) ⟨t.val % 1024, by omega⟩ j hj d
  rw [← ht] at h
  exact h

theorem G8_at (n : Fin 8) (t : Fin 2048) (d : Fin 512) : Value.G8 m c (ix3 n t d) = obE (X m c) (MO m c) (NM m c) (WE m c) (SW m c) n t d := by
  have ht : t = ⟨1024 * (t.val / 1024) + (⟨t.val % 1024, by omega⟩ : Fin 1024).val, by dsimp only; omega⟩ := Fin.ext (by dsimp only; omega)
  have h := G8_aux m c n (t.val / 1024) (by omega) ⟨t.val % 1024, by omega⟩ d
  rw [← ht] at h
  exact h

end Cert.InEven

end
-- ==== Proof.RefEven.lean ====
/- The reference of the even layer's input call, entry by entry, over the extended reals. -/
module

public import proofs.«01_k».proof.Proof.Gen.Reference3Ideal.Run
public import proofs.«01_k».proof.Proof.EvenValue

@[expose] public section

set_option maxRecDepth 16384

noncomputable section

namespace Cert.InEven.Ref

open Idealize.ShloMosaic Idealize.ShloMosaic.TcCoe Idealize.ShloMosaic.Tactic Idealize.SL.Sem
open Cert.Reference3Ideal Cert.Reference3Ideal.Gen Cert.Layer

/-! ## The lower bound of the gate -/

/-- The exponential of a number below a bound, less the bound, is a real number. -/
theorem exp_real (a m : EReal) (h : a ≤ m) : ∃ r : ℝ, 0 ≤ r ∧ Ideal.exp (a - m) = r := by
  have ht : a - m ≠ ⊤ := by
    induction a <;> induction m <;> simp_all [sub_eq_add_neg, ← EReal.coe_neg, ← EReal.coe_add]
  generalize a - m = y at ht
  induction y with
  | bot => exact ⟨0, le_refl _, rfl⟩
  | coe r => exact ⟨Real.exp r, (Real.exp_pos r).le, rfl⟩
  | top => exact absurd rfl ht

/-- A running sum of the two weights less the first is the second. -/
theorem low_eq (a b : EReal) : (0 + Ideal.div (Ideal.exp (a - max a b)) (Ideal.exp (a - max a b) + Ideal.exp (b - max a b)) + lbd a b) - Ideal.div (Ideal.exp (a - max a b)) (Ideal.exp (a - max a b) + Ideal.exp (b - max a b)) = lbd a b := by
  obtain ⟨p, hp, ep⟩ := exp_real a (max a b) (le_max_left _ _)
  obtain ⟨q, hq, eq⟩ := exp_real b (max a b) (le_max_right _ _)
  unfold lbd
  rw [ep, eq, zero_add]
  by_cases h : p + q = 0
  · have h1 : p = 0 := by linarith
    have h2 : q = 0 := by linarith
    subst h1 h2
    simp [Ideal.div, sub_eq_add_neg]
  · have hs : ((p : EReal) + (q : EReal)) ≠ 0 := by rw [← EReal.coe_add]; exact_mod_cast h
    unfold Ideal.div
    rw [if_neg hs, if_neg hs, ← EReal.coe_add, ← EReal.coe_inv, ← EReal.coe_mul, ← EReal.coe_mul, ← EReal.coe_add, ← EReal.coe_sub]
    congr 1
    ring

/-- The running sum along two rows, at its second row. -/
theorem cumsum_at (x : FVec Ideal S2x512 .f32) (v : FVec Ideal S_ .f32) (d : Fin 512) (h : S2x512.ReduceWindows (![2, 1] : Fin 2 → Nat) ![1, 1] ![1, 0] ![0, 0] S2x512) (hu : 0 < S_.numel) :
    (Host.reduceWindowAdd ![2, 1] ![1, 1] ![1, 0] ![0, 0] x v h hu (ix2 1 d) : EReal) = v (Shape.Idx.first hu) + x (ix2 0 d) + x (ix2 1 d) := by
  show Host.reduceWindow (· + ·) _ _ _ _ x (fun _ : (⟨0, ![]⟩ : Shape).Idx => v (Shape.Idx.first hu)) h (by decide) (ix2 1 d) = _
  unfold Host.reduceWindow
  have hl : List.finRange (Shape.numel ⟨2, ![2, 1]⟩) = [⟨0, by decide⟩, ⟨1, by decide⟩] := by decide
  have s0 : ∀ a, ((⟨2, ![2, 1]⟩ : Shape).rowMajor.symm ⟨0, by decide⟩ a).val = 0 := by decide
  have s1 : ((⟨2, ![2, 1]⟩ : Shape).rowMajor.symm ⟨1, by decide⟩ (0 : Fin 2)).val = 1 := by decide
  have s2 : ((⟨2, ![2, 1]⟩ : Shape).rowMajor.symm ⟨1, by decide⟩ (1 : Fin 2)).val = 0 := by decide
  dsimp only
  refine Eq.trans (congrArg (List.foldl _ _) hl) ?_
  simp only [List.foldl_cons, List.foldl_nil]
  rw [dif_pos, dif_pos]
  · congr 1
    · congr 1
      refine congrArg x (funext fun a => Fin.ext ?_)
      match a with
      | ⟨0, _⟩ => show 1 * 1 + ((⟨2, ![2, 1]⟩ : Shape).rowMajor.symm ⟨0, _⟩ (0 : Fin 2)).val - 1 = 0; rw [s0]
      | ⟨1, _⟩ => show d.val * 1 + ((⟨2, ![2, 1]⟩ : Shape).rowMajor.symm ⟨0, _⟩ (1 : Fin 2)).val - 0 = d.val; rw [s0]; omega
    · refine congrArg x (funext fun a => Fin.ext ?_)
      match a with
      | ⟨0, _⟩ => show 1 * 1 + ((⟨2, ![2, 1]⟩ : Shape).rowMajor.symm ⟨1, _⟩ (0 : Fin 2)).val - 1 = 1; rw [s1]
      | ⟨1, _⟩ => show d.val * 1 + ((⟨2, ![2, 1]⟩ : Shape).rowMajor.symm ⟨1, _⟩ (1 : Fin 2)).val - 0 = d.val; rw [s2]; omega
  · intro a
    match a with
    | ⟨0, _⟩ => show 1 ≤ 1 * 1 + ((⟨2, ![2, 1]⟩ : Shape).rowMajor.symm ⟨1, _⟩ (0 : Fin 2)).val ∧ 1 * 1 + ((⟨2, ![2, 1]⟩ : Shape).rowMajor.symm ⟨1, _⟩ (0 : Fin 2)).val - 1 < 2; rw [s1]; omega
    | ⟨1, _⟩ => show 0 ≤ d.val * 1 + ((⟨2, ![2, 1]⟩ : Shape).rowMajor.symm ⟨1, _⟩ (1 : Fin 2)).val ∧ d.val * 1 + ((⟨2, ![2, 1]⟩ : Shape).rowMajor.symm ⟨1, _⟩ (1 : Fin 2)).val - 0 < 512; rw [s2]; omega
  · intro a
    match a with
    | ⟨0, _⟩ => show 1 ≤ 1 * 1 + ((⟨2, ![2, 1]⟩ : Shape).rowMajor.symm ⟨0, _⟩ (0 : Fin 2)).val ∧ 1 * 1 + ((⟨2, ![2, 1]⟩ : Shape).rowMajor.symm ⟨0, _⟩ (0 : Fin 2)).val - 1 < 2; rw [s0]; omega
    | ⟨1, _⟩ => show 0 ≤ d.val * 1 + ((⟨2, ![2, 1]⟩ : Shape).rowMajor.symm ⟨0, _⟩ (1 : Fin 2)).val ∧ d.val * 1 + ((⟨2, ![2, 1]⟩ : Shape).rowMajor.symm ⟨0, _⟩ (1 : Fin 2)).val - 0 < 512; rw [s0]; omega

/-! ## The reference's arrays -/

/-- The normed and modulated rows. -/
def Hid (x : FVec Ideal S8x2048x1024 .f32) (mo : FVec Ideal S8x6144 .f32) (nm : FVec Ideal S2x1024 .f32) : FVec Ideal S8x2048x1024 .f32 :=
  addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] nm slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant (F := Ideal) S_ .f32 0x3F800000#32)) (extractStridedSlice S8x1x1024 ![0, 0, 1024] (broadcastInDim S8x1x6144 ![0, 2] bcast_S8x6144_S8x1x6144_0_2 mo) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 mo) slices_S8x1x6144_S8x1x1024_0_0_0))

/-- The projections of the rows, one of the seven each. -/
def Prj (h : FVec Ideal S8x2048x1024 .f32) (w : FVec Ideal S1x1024x3584 .f32) : FVec Ideal S8x2048x3584 .f32 :=
  Host.dotGeneral dot_S8x2048x1024_S1024x3584_S8x2048x3584_2_0_01_1_n_n none h (shapeCast _ w shapeCasts_S1x1024x3584_S1024x3584)

abbrev P0 (p : FVec Ideal S8x2048x3584 .f32) : FVec Ideal S8x2048x512 .f32 := extractStridedSlice S8x2048x512 ![0, 0, 0] p slices_S8x2048x3584_S8x2048x512_0_0_0
abbrev P1 (p : FVec Ideal S8x2048x3584 .f32) : FVec Ideal S8x2048x512 .f32 := extractStridedSlice S8x2048x512 ![0, 0, 512] p slices_S8x2048x3584_S8x2048x512_0_0_512
abbrev P2 (p : FVec Ideal S8x2048x3584 .f32) : FVec Ideal S8x2048x512 .f32 := extractStridedSlice S8x2048x512 ![0, 0, 1024] p slices_S8x2048x3584_S8x2048x512_0_0_1024
abbrev P3 (p : FVec Ideal S8x2048x3584 .f32) : FVec Ideal S8x2048x512 .f32 := extractStridedSlice S8x2048x512 ![0, 0, 1536] p slices_S8x2048x3584_S8x2048x512_0_0_1536
abbrev P4 (p : FVec Ideal S8x2048x3584 .f32) : FVec Ideal S8x2048x512 .f32 := extractStridedSlice S8x2048x512 ![0, 0, 2048] p slices_S8x2048x3584_S8x2048x512_0_0_2048
abbrev P5 (p : FVec Ideal S8x2048x3584 .f32) : FVec Ideal S8x2048x512 .f32 := extractStridedSlice S8x2048x512 ![0, 0, 2560] p slices_S8x2048x3584_S8x2048x512_0_0_2560
abbrev P6 (p : FVec Ideal S8x2048x3584 .f32) : FVec Ideal S8x2048x512 .f32 := extractStridedSlice S8x2048x512 ![0, 0, 3072] p slices_S8x2048x3584_S8x2048x512_0_0_3072

/-- The exponentials of the lower bounds, less the greater. -/
def Ex (lb : FVec Ideal S2x512 .f32) : FVec Ideal S2x512 .f32 :=
  Host.exp (subf lb (broadcastInDim S2x512 ![0, 1] bcast_S1x512_S2x512_0_1 (broadcastInDim S1x512 ![1] bcast_S512_S1x512_1 (maximumf (broadcastInDim S512 ![] bcast_S_S512 (constant (F := Ideal) S_ .f32 0xFF800000#32)) (Host.reduce FloatOps.maximumf lb (constant (F := Ideal) S_ .f32 0xFF800000#32) reducesTo_S2x512_S512_d0 h_S_)))))

/-- Their shares. -/
def Sm (lb : FVec Ideal S2x512 .f32) : FVec Ideal S2x512 .f32 :=
  Host.divf (Ex lb) (broadcastInDim S2x512 ![0, 1] bcast_S1x512_S2x512_0_1 (broadcastInDim S1x512 ![1] bcast_S512_S1x512_1 (Host.reduceAdd (Ex lb) (constant (F := Ideal) S_ .f32 0x00000000#32) reducesTo_S2x512_S512_d0 h_S_)))

/-- The running sum of the shares less the first. -/
def Low (p : FVec Ideal S2x512 .f32) : FVec Ideal S2x512 .f32 :=
  subf (Host.reduceWindowAdd ![2, 1] ![1, 1] ![1, 0] ![0, 0] p (broadcastInDim S_ ![] bcast_S_S_ (constant (F := Ideal) S_ .f32 0x00000000#32)) reduceWindows_S2x512_S2x512_w2s1p1_0_w1s1p0_0 h_S_) (broadcastInDim S2x512 ![0, 1] bcast_S1x512_S2x512_0_1 (broadcastInDim S1x512 ![1] bcast_S512_S1x512_1 (shapeCast _ (extractStridedSlice S1x512 ![0, 0] p slices_S2x512_S1x512_0_0) shapeCasts_S1x512_S512)))

/-- Its second row. -/
def Row (v : FVec Ideal S2x512 .f32) : FVec Ideal S512 .f32 :=
  shapeCast _ (extractStridedSlice S1x512 ![1, 0] v slices_S2x512_S1x512_1_0) shapeCasts_S1x512_S512

/-- The logistic function. -/
def Sg (z : FVec Ideal S8x2048x512 .f32) : FVec Ideal S8x2048x512 .f32 :=
  Host.divf (broadcastInDim S8x2048x512 ![] bcast_S_S8x2048x512 (constant (F := Ideal) S_ .f32 0x3F800000#32)) (addf (broadcastInDim S8x2048x512 ![] bcast_S_S8x2048x512 (constant (F := Ideal) S_ .f32 0x3F800000#32)) (Host.exp (Host.negf z)))

/-- The forget gate. -/
def Fg (l : FVec Ideal S512 .f32) (z : FVec Ideal S8x2048x512 .f32) : FVec Ideal S8x2048x512 .f32 :=
  addf (broadcastInDim S8x2048x512 ![0, 1, 2] bcast_S1x1x512_S8x2048x512_0_1_2 (broadcastInDim S1x1x512 ![2] bcast_S512_S1x1x512_2 l)) (mulf (broadcastInDim S8x2048x512 ![0, 1, 2] bcast_S1x1x512_S8x2048x512_0_1_2 (broadcastInDim S1x1x512 ![2] bcast_S512_S1x1x512_2 (subf (broadcastInDim S512 ![] bcast_S_S512 (constant (F := Ideal) S_ .f32 0x3F800000#32)) l))) (Sg z))

/-- The five arrays side by side. -/
def Gla (z0 f z2 z3 : FVec Ideal S8x2048x512 .f32) : FVec Ideal S8x2048x2560 .f32 :=
  (concatenate S8x2048x2560 2 [⟨S8x2048x512, (z0)⟩, ⟨S8x2048x512, ((subf (broadcastInDim S8x2048x512 ![] bcast_S_S8x2048x512 (constant (F := Ideal) S_ .f32 0x3F800000#32)) f))⟩, ⟨S8x2048x512, ((Host.log f))⟩, ⟨S8x2048x512, (z2)⟩, ⟨S8x2048x512, ((mulf z3 (Sg z3)))⟩] concatenates_S8x2048x512_S8x2048x512_S8x2048x512_S8x2048x512_S8x2048x512_S8x2048x2560_d2)

/-- The convolution's input, two rows of zeros in front. -/
def Full (u : FVec Ideal S8x2048x512 .f32) : FVec Ideal S8x2050x512 .f32 :=
  concatenate S8x2050x512 1 [⟨S8x2x512, (broadcastInDim S8x2x512 ![] bcast_S_S8x2x512 (constant (F := Ideal) S_ .f32 0x00000000#32))⟩, ⟨S8x2048x512, u⟩] concatenates_S8x2x512_S8x2048x512_S8x2050x512_d1

/-- The gated convolution. -/
def Conv (z4 : FVec Ideal S8x2048x512 .f32) (u : FVec Ideal S8x2050x512 .f32) (sw : FVec Ideal S1x3x512 .f32) : FVec Ideal S8x2048x512 .bf16 :=
  truncf .bf16 (mulf z4 (addf (addf (addf (broadcastInDim S8x2048x512 ![] bcast_S_S8x2048x512 (constant (F := Ideal) S_ .f32 0x00000000#32)) (mulf (extractStridedSlice S8x2048x512 ![0, 0, 0] u slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x1x512 ![0, 0, 0] sw slices_S1x3x512_S1x1x512_0_0_0) shapeCasts_S1x1x512_S512))))) (mulf (extractStridedSlice S8x2048x512 ![0, 1, 0] u slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x1x512 ![0, 1, 0] sw slices_S1x3x512_S1x1x512_0_1_0) shapeCasts_S1x1x512_S512))))) (mulf (extractStridedSlice S8x2048x512 ![0, 2, 0] u slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x1x512 ![0, 2, 0] sw slices_S1x3x512_S1x1x512_0_2_0) shapeCasts_S1x1x512_S512)))))) bitsLt_bf16_f32

/-- The convolution's last two rows. -/
def Last (u : FVec Ideal S8x2050x512 .f32) : FVec Ideal S8x2x512 .f32 :=
  extractStridedSlice S8x2x512 ![0, 2048, 0] u slices_S8x2050x512_S8x2x512_0_2048_0

section
variable (x : FVec Ideal S8x2048x1024 .f32) (mo : FVec Ideal S8x6144 .f32) (nm : FVec Ideal S2x1024 .f32) (w : FVec Ideal S1x1024x3584 .f32) (lb : FVec Ideal S2x512 .f32) (sw : FVec Ideal S1x3x512 .f32)

def rP : FVec Ideal S8x2048x3584 .f32 := Prj (Hid x mo nm) w
def rU : FVec Ideal S8x2050x512 .f32 := Full (mulf (P5 (rP x mo nm w)) (P6 (rP x mo nm w)))
def rGla : FVec Ideal S8x2048x2560 .f32 := Gla (P0 (rP x mo nm w)) (Fg (Row (Low (Sm lb))) (P1 (rP x mo nm w))) (P2 (rP x mo nm w)) (P3 (rP x mo nm w))
def rOb : FVec Ideal S8x2048x512 .bf16 := Conv (P4 (rP x mo nm w)) (rU x mo nm w) sw

theorem hid_at (n : Fin 8) (t : Fin 2048) (k : Fin 1024) : (Hid x mo nm (ix3 n t k) : EReal) = hE x mo nm n t k := by
  unfold Hid hE hid irms
  pointwise

theorem prj_at (h : FVec Ideal S8x2048x1024 .f32) (n : Fin 8) (t : Fin 2048) (d : Fin 3584) : (Prj h w (ix3 n t d) : EReal) = ∑ k, h (ix3 n t k) * w (ix3 0 k d) := by
  unfold Prj
  pointwise

theorem rP_at (j : Fin 7) (n : Fin 8) (t : Fin 2048) (d : Fin 512) : (rP x mo nm w (ix3 n t ⟨512 * j.val + d.val, by omega⟩) : EReal) = pE x mo nm w j n t d := by
  unfold rP pE
  rw [prj_at]
  exact Finset.sum_congr rfl fun k _ => by rw [hid_at]

theorem ex_at (a : Fin 2) (d : Fin 512) : (Ex lb (ix2 a d) : EReal) = Ideal.exp (lb (ix2 a d) - max (lb (ix2 0 d)) (lb (ix2 1 d))) := by
  unfold Ex
  pointwise
  rw [fold_max2, ofBits_bot, max_bot_left]

theorem sm_at (a : Fin 2) (d : Fin 512) : (Sm lb (ix2 a d) : EReal) = Ideal.div (Ex lb (ix2 a d)) (Ex lb (ix2 0 d) + Ex lb (ix2 1 d)) := by
  unfold Sm
  pointwise
  rw [Fin.sum_univ_two]

theorem lowdef_at (p : FVec Ideal S2x512 .f32) (d : Fin 512) : (Low p (ix2 1 d) : EReal) = (0 + p (ix2 0 d) + p (ix2 1 d)) - p (ix2 0 d) := by
  have h1 : (broadcastInDim S2x512 ![0, 1] bcast_S1x512_S2x512_0_1 (broadcastInDim S1x512 ![1] bcast_S512_S1x512_1 (shapeCast _ (extractStridedSlice S1x512 ![0, 0] p slices_S2x512_S1x512_0_0) shapeCasts_S1x512_S512)) (ix2 1 d) : EReal) = p (ix2 0 d) := by
    pointwise
  have h0 : (broadcastInDim S_ ![] bcast_S_S_ (constant (F := Ideal) S_ .f32 0x00000000#32) (Shape.Idx.first h_S_) : EReal) = 0 := by
    pointwise
  show (Host.reduceWindowAdd ![2, 1] ![1, 1] ![1, 0] ![0, 0] p _ _ _ (ix2 1 d) : EReal) - _ = _
  rw [cumsum_at, h0, h1]

theorem row_at (v : FVec Ideal S2x512 .f32) (d : Fin 512) : (Row v (ix1 d) : EReal) = v (ix2 1 d) := by
  unfold Row
  pointwise

theorem bound_at (d : Fin 512) : (Row (Low (Sm lb)) (ix1 d) : EReal) = lbd (lb (ix2 0 d)) (lb (ix2 1 d)) := by
  rw [row_at, lowdef_at, sm_at, sm_at, ex_at, ex_at]
  exact low_eq _ _

theorem fg_at (l : FVec Ideal S512 .f32) (z : FVec Ideal S8x2048x512 .f32) (n : Fin 8) (t : Fin 2048) (d : Fin 512) : (Fg l z (ix3 n t d) : EReal) = fgt (l (ix1 d)) (z (ix3 n t d)) := by
  unfold Fg Sg fgt Ideal.logistic
  pointwise

theorem gla0_at (z0 f z2 z3 : FVec Ideal S8x2048x512 .f32) (n : Fin 8) (t : Fin 2048) (d : Fin 512) : (Gla z0 f z2 z3 (ix3 n t ⟨512 * 0 + d.val, by omega⟩) : EReal) = z0 (ix3 n t d) := by
  unfold Gla
  pointwise

theorem gla1_at (z0 f z2 z3 : FVec Ideal S8x2048x512 .f32) (n : Fin 8) (t : Fin 2048) (d : Fin 512) : (Gla z0 f z2 z3 (ix3 n t ⟨512 * 1 + d.val, by omega⟩) : EReal) = 1 - f (ix3 n t d) := by
  unfold Gla
  pointwise

theorem gla2_at (z0 f z2 z3 : FVec Ideal S8x2048x512 .f32) (n : Fin 8) (t : Fin 2048) (d : Fin 512) : (Gla z0 f z2 z3 (ix3 n t ⟨512 * 2 + d.val, by omega⟩) : EReal) = Ideal.log (f (ix3 n t d)) := by
  unfold Gla
  pointwise
  rw [dif_neg (by omega), dif_neg (by omega), dif_pos (by omega)]
  refine congrArg (fun q => Ideal.log (f (ix3 n t q))) (Fin.ext (by dsimp only; omega))

theorem gla3_at (z0 f z2 z3 : FVec Ideal S8x2048x512 .f32) (n : Fin 8) (t : Fin 2048) (d : Fin 512) : (Gla z0 f z2 z3 (ix3 n t ⟨512 * 3 + d.val, by omega⟩) : EReal) = z2 (ix3 n t d) := by
  unfold Gla
  pointwise
  rw [dif_neg (by omega), dif_neg (by omega), dif_neg (by omega), dif_pos (by omega)]
  refine congrArg (fun q => z2 (ix3 n t q)) (Fin.ext (by dsimp only; omega))

theorem gla4_at (z0 f z2 z3 : FVec Ideal S8x2048x512 .f32) (n : Fin 8) (t : Fin 2048) (d : Fin 512) : (Gla z0 f z2 z3 (ix3 n t ⟨512 * 4 + d.val, by omega⟩) : EReal) = z3 (ix3 n t d) * Ideal.logistic (z3 (ix3 n t d)) := by
  unfold Gla Sg Ideal.logistic
  pointwise
  rw [dif_neg (by omega), dif_neg (by omega), dif_neg (by omega), dif_neg (by omega)]
  refine congrArg (fun q => z3 (ix3 n t q) * Ideal.div 1 (1 + Ideal.exp (-z3 (ix3 n t q)))) (Fin.ext (by dsimp only; omega))

theorem P0_at (p : FVec Ideal S8x2048x3584 .f32) (n : Fin 8) (t : Fin 2048) (d : Fin 512) : (P0 p (ix3 n t d) : EReal) = p (ix3 n t ⟨512 * (0 : Fin 7).val + d.val, by omega⟩) := by
  unfold P0
  pointwise
theorem P1_at (p : FVec Ideal S8x2048x3584 .f32) (n : Fin 8) (t : Fin 2048) (d : Fin 512) : (P1 p (ix3 n t d) : EReal) = p (ix3 n t ⟨512 * (1 : Fin 7).val + d.val, by omega⟩) := by
  unfold P1
  pointwise
theorem P2_at (p : FVec Ideal S8x2048x3584 .f32) (n : Fin 8) (t : Fin 2048) (d : Fin 512) : (P2 p (ix3 n t d) : EReal) = p (ix3 n t ⟨512 * (2 : Fin 7).val + d.val, by omega⟩) := by
  unfold P2
  pointwise
theorem P3_at (p : FVec Ideal S8x2048x3584 .f32) (n : Fin 8) (t : Fin 2048) (d : Fin 512) : (P3 p (ix3 n t d) : EReal) = p (ix3 n t ⟨512 * (3 : Fin 7).val + d.val, by omega⟩) := by
  unfold P3
  pointwise
theorem P4_at (p : FVec Ideal S8x2048x3584 .f32) (n : Fin 8) (t : Fin 2048) (d : Fin 512) : (P4 p (ix3 n t d) : EReal) = p (ix3 n t ⟨512 * (4 : Fin 7).val + d.val, by omega⟩) := by
  unfold P4
  pointwise
theorem P5_at (p : FVec Ideal S8x2048x3584 .f32) (n : Fin 8) (t : Fin 2048) (d : Fin 512) : (P5 p (ix3 n t d) : EReal) = p (ix3 n t ⟨512 * (5 : Fin 7).val + d.val, by omega⟩) := by
  unfold P5
  pointwise
theorem P6_at (p : FVec Ideal S8x2048x3584 .f32) (n : Fin 8) (t : Fin 2048) (d : Fin 512) : (P6 p (ix3 n t d) : EReal) = p (ix3 n t ⟨512 * (6 : Fin 7).val + d.val, by omega⟩) := by
  unfold P6
  pointwise

theorem rGla_at (j : ℕ) (hj : j < 5) (n : Fin 8) (t : Fin 2048) (d : Fin 512) (k : Fin 2560) (hk : k.val = 512 * j + d.val) : (rGla x mo nm w lb (ix3 n t k) : EReal) = glaE x mo nm w lb j n t d := by
  have hb : 512 * j + d.val < 2560 := by clear hk k; omega
  obtain rfl : k = ⟨512 * j + d.val, hb⟩ := Fin.ext hk
  have hf : (Fg (Row (Low (Sm lb))) (P1 (rP x mo nm w)) (ix3 n t d) : EReal) = fE x mo nm w lb n t d := by
    rw [fg_at, bound_at, P1_at, rP_at]
    rfl
  unfold rGla
  match j, hj with
  | 0, _ => rw [gla0_at, P0_at, rP_at]; rfl
  | 1, _ => rw [gla1_at, hf]; rfl
  | 2, _ => rw [gla2_at, hf]; rfl
  | 3, _ => rw [gla3_at, P2_at, rP_at]; rfl
  | 4, _ => rw [gla4_at, P3_at, rP_at]; rfl

theorem full_lo (u : FVec Ideal S8x2048x512 .f32) (n : Fin 8) (p : Fin 2050) (d : Fin 512) (hp : p.val < 2) : (Full u (ix3 n p d) : EReal) = 0 := by
  unfold Full
  pointwise
  exact dif_pos hp
theorem full_hi (u : FVec Ideal S8x2048x512 .f32) (n : Fin 8) (p : Fin 2050) (d : Fin 512) (hp : 2 ≤ p.val) : (Full u (ix3 n p d) : EReal) = u (ix3 n ⟨p.val - 2, by omega⟩ d) := by
  unfold Full
  pointwise
  exact dif_neg (by omega)

theorem rU_at (n : Fin 8) (p : Fin 2050) (d : Fin 512) : (rU x mo nm w (ix3 n p d) : EReal) = uE x mo nm w n p.val d := by
  unfold rU uE
  by_cases hp : 2 ≤ p.val
  · rw [full_hi _ _ _ _ hp, dif_pos ⟨hp, p.isLt⟩]
    show (P5 (rP x mo nm w) _ * P6 (rP x mo nm w) _ : EReal) = _
    rw [P5_at, P6_at, rP_at, rP_at]
  · rw [full_lo _ _ _ _ (by omega), dif_neg (by omega)]

theorem conv_at (z4 : FVec Ideal S8x2048x512 .f32) (u : FVec Ideal S8x2050x512 .f32) (n : Fin 8) (t : Fin 2048) (d : Fin 512) :
    (Conv z4 u sw (ix3 n t d) : EReal) = z4 (ix3 n t d) * (u (ix3 n ⟨t.val, by omega⟩ d) * sw (ix3 0 0 d) + u (ix3 n ⟨1 + t.val, by omega⟩ d) * sw (ix3 0 1 d) + u (ix3 n ⟨2 + t.val, by omega⟩ d) * sw (ix3 0 2 d)) := by
  unfold Conv
  pointwise

theorem rOb_at (n : Fin 8) (t : Fin 2048) (d : Fin 512) : (rOb x mo nm w sw (ix3 n t d) : EReal) = obE x mo nm w sw n t d := by
  unfold rOb
  rw [conv_at, P4_at, rP_at, rU_at, rU_at, rU_at]
  unfold obE
  rw [Nat.add_comm t.val 1, Nat.add_comm t.val 2]

theorem last_at (u : FVec Ideal S8x2050x512 .f32) (n : Fin 8) (a : Fin 2) (d : Fin 512) : (Last u (ix3 n a d) : EReal) = u (ix3 n ⟨2048 + a.val, by omega⟩ d) := by
  unfold Last
  pointwise
end

section
variable (m : (ℓ : Loc nD τ sig) → Buf (Elt Ideal) ℓ) (c : Dev nD) (x : FVec Ideal S8x2048x1024 .f32) (mo : FVec Ideal S8x6144 .f32) (nm : FVec Ideal S2x1024 .f32) (w : FVec Ideal S1x1024x3584 .f32) (lb : FVec Ideal S2x512 .f32) (sw : FVec Ideal S1x3x512 .f32)
  (e0 : m ((c.tc : Thread nD τ).loc main_arg0) = x) (e1 : m ((c.tc : Thread nD τ).loc main_arg1) = mo) (e2 : m ((c.tc : Thread nD τ).loc main_arg2) = nm)
  (e3 : m ((c.tc : Thread nD τ).loc main_arg3) = w)

include e0 e1 e2 e3 in
theorem gla_eq (e4 : m ((c.tc : Thread nD τ).loc main_arg4) = lb) : Value.res_main_v105 (F := Ideal) m c = rGla x mo nm w lb := by
  unfold Value.res_main_v105
  rw [e0, e1, e2, e3, e4]
  rfl

include e0 e1 e2 e3 in
theorem ob_eq (e5 : m ((c.tc : Thread nD τ).loc main_arg5) = sw) : Value.res_main_v107 (F := Ideal) m c = rOb x mo nm w sw := by
  unfold Value.res_main_v107
  rw [e0, e1, e2, e3, e5]
  rfl
end

end Cert.InEven.Ref

end
-- ==== Proof.ClaimsEven.lean ====
/- The even layer's input call: the reference's run, and equal results over the extended reals. -/
module

public import proofs.«01_k».proof.Defs
public import proofs.«01_k».proof.Proof.RefEven
public import Idealize.ShloMosaic.Lib.Quiescent

@[expose] public section

set_option maxRecDepth 16384

noncomputable section

namespace Cert.InEven

open Idealize.ShloMosaic Idealize.ShloMosaic.TcCoe Idealize.SL.Sem

theorem run_ref : Cert.quiescent_Reference3Ideal (hReference3Ideal := Cert.Reference3Ideal.Gen.facts) := fun m g _ =>
  (θ_run Cert.Reference3Ideal.defs _ _).mono (fun r h => ⟨fun c => (h c).2.2.2, sem_eq_zero_of_no_sems (by decide) r.2⟩) (Cert.Reference3Ideal.Value.run m g)

theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.Value.G7 m c, fun c => Cert.Kernel3Ideal.Value.G8 m c, fun c => Cert.Kernel3Ideal.Value.G9 m c, Cert.Kernel3Ideal.Value.run (F := Ideal) m g, ?_⟩
  refine (θ_run _ _ _).mono (fun r h c => ⟨(h c).1.trans ?_, (h c).2.1.trans ?_, (h c).2.2.1.trans ?_, (h c).2.2.2⟩) (Cert.Reference3Ideal.Value.run m' g')
  all_goals obtain ⟨e0, e1, e2, e3, e4, e5⟩ := hagree c
  · rw [Ref.gla_eq m' c _ _ _ _ _ e0 e1 e2 e3 e4]
    funext y
    rw [eq_ix3 y]
    have hc : (y 2).val < 2560 := (y 2).isLt
    have hk : (y 2).val = 512 * ((y 2).val / 512) + (⟨(y 2).val % 512, Nat.mod_lt _ (by decide)⟩ : Fin 512).val := by dsimp only; omega
    exact (Ref.rGla_at _ _ _ _ _ _ (by omega) _ _ _ (y 2) hk).trans (G7_at m c (y 0) (y 1) _ (by omega) _ (y 2) hk).symm
  · rw [Ref.ob_eq m' c _ _ _ _ _ e0 e1 e2 e3 e5]
    funext y
    rw [eq_ix3 y]
    exact (Ref.rOb_at _ _ _ _ _ _ _ _).trans (G8_at m c (y 0) (y 1) (y 2)).symm
  · rw [e0, e1, e2, e3]
    funext y
    rw [eq_ix3 y]
    exact (Ref.last_at _ _ _ _).trans ((Ref.rU_at _ _ _ _ _ _ _).trans (G9_at m c (y 0) (y 1) (y 2)).symm)

end Cert.InEven

end
-- ==== Proof.OddTile.lean ====
/- The odd layer's input call, one grid point: what its body stores, as the pieces of its blocks. -/
module

public import proofs.«01_k».proof.Proof.Gen.Kernel4Ideal.Value
public import Idealize.ShloMosaic.Lib.Pipeline.ValueKit
public import Idealize.ShloMosaic.Lib.Pointwise

@[expose] public section

set_option maxRecDepth 65536

noncomputable section

namespace Cert.InOdd

open Idealize.ShloMosaic Idealize.ShloMosaic.TcCoe Idealize.ShloMosaic.Tactic Idealize.SL.Sem Cert.Kernel4Ideal Cert.Kernel4Ideal.Gen

variable {F : FTy → Type} [FloatOps F]

/-- A block's rows shifted down, the first of them from the eight rows before. -/
def rot (u : FVec F S256x256 .f32) (t : FVec F S8x256 .f32) (s : BitVec 32) : FVec F S256x256 .f32 :=
  concatenate S256x256 0
    [⟨S8x256, select (cmpi .slt (iota .tc S8x256 32 [0] iota_S8x256_d0_w32) (broadcast S8x256 s)) (dynamicRotate 0 s none t rotates_S8x256_d0)
        (extractStridedSlice S8x256 ![0, 0] (dynamicRotate 0 s none u rotates_S256x256_d0) slices_S256x256_o0_0_S8x256)⟩,
      ⟨S248x256, extractStridedSlice S248x256 ![8, 0] (dynamicRotate 0 s none u rotates_S256x256_d0) slices_S256x256_o8_0_S248x256⟩]
    concatenates_S8x256_S248x256_S256x256_d0
/-- One tap of the convolution. -/
def tap (k : FVec F S1x256 .f32) : FVec F S256x256 .f32 := broadcastTo S256x256 k broadcasts_S1x256_S256x256
/-- The four-tap convolution of a block with its bias. -/
def conv (u : FVec F S256x256 .f32) (t : FVec F S8x256 .f32) (k : FVec F S4x256 .f32) (b : FVec F S1x256 .f32) : FVec F S1x256x256 .f32 :=
  shapeCast S1x256x256
    (addf (addf (addf (addf (mulf (rot u t 3#32) (tap (extractStridedSlice S1x256 ![0, 0] (k0_pay15 k) slices_S4x256_o0_0_S1x256)))
      (mulf (rot u t 2#32) (tap (extractStridedSlice S1x256 ![1, 0] (k0_pay15 k) slices_S4x256_o1_0_S1x256))))
      (mulf (rot u t 1#32) (tap (extractStridedSlice S1x256 ![2, 0] (k0_pay15 k) slices_S4x256_o2_0_S1x256))))
      (mulf u (tap (extractStridedSlice S1x256 ![3, 0] (k0_pay15 k) slices_S4x256_o3_0_S1x256))))
      (tap (shapeCast S1x256 b shapeCasts_S1x256_S1x256)))
    shapeCasts_S256x256_S1x256x256

theorem lt20 (j : Fin 12) : 8 + j.val < 20 := Nat.add_lt_add_left j.isLt 8
theorem lt20z (j : Fin 8) : j.val < 20 := Nat.lt_trans j.isLt (Nat.le_of_ble_eq_true rfl)
theorem lt12 (j : Fin 8) : j.val < 12 := Nat.lt_trans j.isLt (Nat.le_of_ble_eq_true rfl)
theorem lt12b (j : Fin 4) : 8 + j.val < 12 := Nat.add_lt_add_left j.isLt 8
theorem slT (j : Fin 12) : S8x3072.Slices ![0, 256 * j.val] S8x256 := by
  revert j; decide

section
variable (h : FVec F S512x1024 .bf16) (w : Fin 20 → FVec F S1024x256 .bf16) (k : Fin 12 → FVec F S4x256 .f32) (b : Fin 12 → FVec F S1x256 .f32) (t : FVec F S8x3072 .f32)

/-- A block of the projection, its two convolved halves, its last eight rows; a block of the gate. -/
def xr (j : Fin 12) : FVec F S512x256 .f32 := k0_pay12 h (w ⟨8 + j.val, lt20 j⟩)
def lo (j : Fin 12) : FVec F S1x256x256 .f32 :=
  conv (extractStridedSlice S256x256 ![0, 0] (xr h w j) slices_S512x256_o0_0_S256x256) (extractStridedSlice S8x256 ![0, 256 * j.val] t (slT j)) (k j) (b j)
def hi (j : Fin 12) : FVec F S1x256x256 .f32 :=
  conv (extractStridedSlice S256x256 ![256, 0] (xr h w j) slices_S512x256_o256_0_S256x256) (extractStridedSlice S8x256 ![248, 0] (xr h w j) slices_S512x256_o248_0_S8x256) (k j) (b j)
def zt (j : Fin 8) : FVec F S1x512x256 .f32 := k0_pay20 h (w ⟨j.val, lt20z j⟩)
def la (j : Fin 12) : FVec F S8x256 .f32 := k0_pay28 (xr h w j)
/-- The last eight rows of the whole projection: what the next point reads, and its last three rows. -/
def nxt : FVec F S8x3072 .f32 :=
  k0_pay3 (la h w 0) (la h w 1) (la h w 2) (la h w 3) (la h w 4) (la h w 5) (la h w 6) (la h w 7) (la h w 8) (la h w 9) (xr h w 11) (la h w 10)
def mct : FVec F S1x3x3072 .f32 :=
  k0_pay4 (la h w 0) (la h w 1) (la h w 2) (la h w 3) (la h w 4) (la h w 5) (la h w 6) (la h w 7) (la h w 8) (la h w 9) (xr h w 11) (la h w 10)
end

theorem inbZ (n : ℕ) (hn : n < 8) : ∀ a, (![0, 0, 256 * n] : Fin 3 → ℕ) a + S1x512x256.size a ≤ S1x512x2048.size a := fun a => by
  match a with
  | 0 => exact Nat.le_of_ble_eq_true rfl
  | 1 => exact Nat.le_of_ble_eq_true rfl
  | 2 => show 256 * n + 256 ≤ 2048; omega
def zList (T : Fin 8 → FVec F S1x512x256 .f32) : (n : ℕ) → n ≤ 8 → List (View.Piece (Elt F) S1x512x2048 .f32)
  | 0, _ => []
  | n + 1, hn => ⟨Rect.unit ![0, 0, 256 * n] S1x512x256.size (inbZ n hn), T ⟨n, hn⟩⟩ :: zList T n (Nat.le_of_succ_le hn)

theorem canon_z (T : Fin 8 → FVec F S1x512x256 .f32) (j : Fin 8) (r : Fin 512) (d : Fin 256) (q : Fin 2048) (hq : q.val = 256 * j.val + d.val) : ∀ (n : ℕ) (hn : n ≤ 8), j.val < n →
    View.canon (zList T n hn) (ix3 0 r q) = T j (ix3 0 r d)
  | 0, _, hl => absurd hl (Nat.not_lt_zero _)
  | n + 1, hn, hl => by
    unfold zList
    by_cases e : j.val = n
    · subst e
      have := View.canon_cons_emb (Val := Elt F) (Rect.unit (s := S1x512x2048) ![0, 0, 256 * j.val] S1x512x256.size (inbZ j.val hn)) (T j) (zList T j.val (Nat.le_of_succ_le hn)) (ix3 0 r d)
      refine Eq.trans (congrArg (View.canon _) ?_) this
      funext a
      apply Fin.ext
      match a with
      | 0 => rfl
      | 1 => show r.val = 0 + 1 * r.val; omega
      | 2 => show q.val = 256 * j.val + 1 * d.val; omega
    · rw [View.canon_cons_of_not_mem]
      · exact canon_z T j r d q hq n _ (by omega)
      · rw [Rect.mem_set_unit]
        intro hm
        have h1 := hm 2
        have : 256 * n ≤ q.val ∧ q.val < 256 * n + 256 := h1
        omega

theorem inbX (p n : ℕ) (hp : p < 2) (hn : n < 8) : ∀ a, (![0, 256 * p, 256 * n] : Fin 3 → ℕ) a + S1x256x256.size a ≤ S1x512x2048.size a := fun a => by
  match a with
  | 0 => exact Nat.le_of_ble_eq_true rfl
  | 1 => show 256 * p + 256 ≤ 512; omega
  | 2 => show 256 * n + 256 ≤ 2048; omega
def listX (T U : Fin 8 → FVec F S1x256x256 .f32) : (n : ℕ) → n ≤ 8 → List (View.Piece (Elt F) S1x512x2048 .f32)
  | 0, _ => []
  | n + 1, hn => ⟨Rect.unit ![0, 256 * 1, 256 * n] S1x256x256.size (inbX 1 n (Nat.le_refl 2) hn), U ⟨n, hn⟩⟩
      :: ⟨Rect.unit ![0, 256 * 0, 256 * n] S1x256x256.size (inbX 0 n (Nat.zero_lt_succ 1) hn), T ⟨n, hn⟩⟩ :: listX T U n (Nat.le_of_succ_le hn)

theorem embX (p n : ℕ) (hp : p < 2) (hn : n < 8) (r d : Fin 256) (a : Fin 512) (ha : a.val = 256 * p + r.val) (q : Fin 2048) (hq : q.val = 256 * n + d.val) :
    (ix3 0 a q : S1x512x2048.Idx) = (Rect.unit (s := S1x512x2048) ![0, 256 * p, 256 * n] S1x256x256.size (inbX p n hp hn)).emb (ix3 0 r d) := by
  funext x
  apply Fin.ext
  match x with
  | 0 => rfl
  | 1 => show a.val = 256 * p + 1 * r.val; omega
  | 2 => show q.val = 256 * n + 1 * d.val; omega
theorem outX (p n : ℕ) (hp : p < 2) (hn : n < 8) (a : Fin 512) (q : Fin 2048) (h : ¬((256 * p ≤ a.val ∧ a.val < 256 * p + 256) ∧ 256 * n ≤ q.val ∧ q.val < 256 * n + 256)) :
    (ix3 0 a q : S1x512x2048.Idx) ∉ (Rect.unit (s := S1x512x2048) ![0, 256 * p, 256 * n] S1x256x256.size (inbX p n hp hn)).set := by
  rw [Rect.mem_set_unit]
  intro hm
  exact h ⟨hm 1, hm 2⟩
theorem skipX (p n : ℕ) (hp : p < 2) (hn : n < 8) (a : Fin 512) (q : Fin 2048) (h : ¬((256 * p ≤ a.val ∧ a.val < 256 * p + 256) ∧ 256 * n ≤ q.val ∧ q.val < 256 * n + 256))
    (v : FVec F S1x256x256 .f32) (L : List (View.Piece (Elt F) S1x512x2048 .f32)) :
    View.canon ((⟨Rect.unit ![0, 256 * p, 256 * n] S1x256x256.size (inbX p n hp hn), v⟩ : View.Piece (Elt F) S1x512x2048 .f32) :: L) (ix3 0 a q) = View.canon L (ix3 0 a q) := by
  rw [View.canon_cons_of_not_mem]
  exact outX p n hp hn a q h
theorem hereX (p n : ℕ) (hp : p < 2) (hn : n < 8) (r d : Fin 256) (a : Fin 512) (ha : a.val = 256 * p + r.val) (q : Fin 2048) (hq : q.val = 256 * n + d.val)
    (v : FVec F S1x256x256 .f32) (L : List (View.Piece (Elt F) S1x512x2048 .f32)) :
    View.canon ((⟨Rect.unit ![0, 256 * p, 256 * n] S1x256x256.size (inbX p n hp hn), v⟩ : View.Piece (Elt F) S1x512x2048 .f32) :: L) (ix3 0 a q) = v (ix3 0 r d) := by
  rw [embX p n hp hn r d a ha q hq]
  exact View.canon_cons_emb (Val := Elt F) (Rect.unit (s := S1x512x2048) ![0, 256 * p, 256 * n] S1x256x256.size (inbX p n hp hn)) v L (ix3 0 r d)

theorem canonX (T U : Fin 8 → FVec F S1x256x256 .f32) (j : Fin 8) (r d : Fin 256) (a : Fin 512) (q : Fin 2048) (hq : q.val = 256 * j.val + d.val) : ∀ (n : ℕ) (hn : n ≤ 8), j.val < n →
    (a.val = r.val → View.canon (listX T U n hn) (ix3 0 a q) = T j (ix3 0 r d)) ∧ (a.val = 256 + r.val → View.canon (listX T U n hn) (ix3 0 a q) = U j (ix3 0 r d))
  | 0, _, hl => absurd hl (Nat.not_lt_zero _)
  | n + 1, hn, hl => by
    unfold listX
    by_cases e : j.val = n
    · subst e
      constructor
      · intro ha
        rw [skipX 1 j.val (Nat.le_refl 2) hn a q (by omega)]
        exact hereX 0 j.val (Nat.zero_lt_succ 1) hn r d a (by omega) q hq _ _
      · intro ha
        exact hereX 1 j.val (Nat.le_refl 2) hn r d a (by omega) q hq _ _
    · have ih := canonX T U j r d a q hq n (Nat.le_of_succ_le hn) (by omega)
      rw [skipX 1 n (Nat.le_refl 2) hn a q (by omega), skipX 0 n (Nat.zero_lt_succ 1) hn a q (by omega)]
      exact ih

theorem inbC (p n : ℕ) (hp : p < 2) (hn : n < 4) : ∀ a, (![0, 256 * p, 256 * n] : Fin 3 → ℕ) a + S1x256x256.size a ≤ S1x512x1024.size a := fun a => by
  match a with
  | 0 => exact Nat.le_of_ble_eq_true rfl
  | 1 => show 256 * p + 256 ≤ 512; omega
  | 2 => show 256 * n + 256 ≤ 1024; omega
def listC (T U : Fin 4 → FVec F S1x256x256 .f32) : (n : ℕ) → n ≤ 4 → List (View.Piece (Elt F) S1x512x1024 .f32)
  | 0, _ => []
  | n + 1, hn => ⟨Rect.unit ![0, 256 * 1, 256 * n] S1x256x256.size (inbC 1 n (Nat.le_refl 2) hn), U ⟨n, hn⟩⟩
      :: ⟨Rect.unit ![0, 256 * 0, 256 * n] S1x256x256.size (inbC 0 n (Nat.zero_lt_succ 1) hn), T ⟨n, hn⟩⟩ :: listC T U n (Nat.le_of_succ_le hn)

theorem embC (p n : ℕ) (hp : p < 2) (hn : n < 4) (r d : Fin 256) (a : Fin 512) (ha : a.val = 256 * p + r.val) (q : Fin 1024) (hq : q.val = 256 * n + d.val) :
    (ix3 0 a q : S1x512x1024.Idx) = (Rect.unit (s := S1x512x1024) ![0, 256 * p, 256 * n] S1x256x256.size (inbC p n hp hn)).emb (ix3 0 r d) := by
  funext x
  apply Fin.ext
  match x with
  | 0 => rfl
  | 1 => show a.val = 256 * p + 1 * r.val; omega
  | 2 => show q.val = 256 * n + 1 * d.val; omega
theorem outC (p n : ℕ) (hp : p < 2) (hn : n < 4) (a : Fin 512) (q : Fin 1024) (h : ¬((256 * p ≤ a.val ∧ a.val < 256 * p + 256) ∧ 256 * n ≤ q.val ∧ q.val < 256 * n + 256)) :
    (ix3 0 a q : S1x512x1024.Idx) ∉ (Rect.unit (s := S1x512x1024) ![0, 256 * p, 256 * n] S1x256x256.size (inbC p n hp hn)).set := by
  rw [Rect.mem_set_unit]
  intro hm
  exact h ⟨hm 1, hm 2⟩
theorem skipC (p n : ℕ) (hp : p < 2) (hn : n < 4) (a : Fin 512) (q : Fin 1024) (h : ¬((256 * p ≤ a.val ∧ a.val < 256 * p + 256) ∧ 256 * n ≤ q.val ∧ q.val < 256 * n + 256))
    (v : FVec F S1x256x256 .f32) (L : List (View.Piece (Elt F) S1x512x1024 .f32)) :
    View.canon ((⟨Rect.unit ![0, 256 * p, 256 * n] S1x256x256.size (inbC p n hp hn), v⟩ : View.Piece (Elt F) S1x512x1024 .f32) :: L) (ix3 0 a q) = View.canon L (ix3 0 a q) := by
  rw [View.canon_cons_of_not_mem]
  exact outC p n hp hn a q h
theorem hereC (p n : ℕ) (hp : p < 2) (hn : n < 4) (r d : Fin 256) (a : Fin 512) (ha : a.val = 256 * p + r.val) (q : Fin 1024) (hq : q.val = 256 * n + d.val)
    (v : FVec F S1x256x256 .f32) (L : List (View.Piece (Elt F) S1x512x1024 .f32)) :
    View.canon ((⟨Rect.unit ![0, 256 * p, 256 * n] S1x256x256.size (inbC p n hp hn), v⟩ : View.Piece (Elt F) S1x512x1024 .f32) :: L) (ix3 0 a q) = v (ix3 0 r d) := by
  rw [embC p n hp hn r d a ha q hq]
  exact View.canon_cons_emb (Val := Elt F) (Rect.unit (s := S1x512x1024) ![0, 256 * p, 256 * n] S1x256x256.size (inbC p n hp hn)) v L (ix3 0 r d)

theorem canonC (T U : Fin 4 → FVec F S1x256x256 .f32) (j : Fin 4) (r d : Fin 256) (a : Fin 512) (q : Fin 1024) (hq : q.val = 256 * j.val + d.val) : ∀ (n : ℕ) (hn : n ≤ 4), j.val < n →
    (a.val = r.val → View.canon (listC T U n hn) (ix3 0 a q) = T j (ix3 0 r d)) ∧ (a.val = 256 + r.val → View.canon (listC T U n hn) (ix3 0 a q) = U j (ix3 0 r d))
  | 0, _, hl => absurd hl (Nat.not_lt_zero _)
  | n + 1, hn, hl => by
    unfold listC
    by_cases e : j.val = n
    · subst e
      constructor
      · intro ha
        rw [skipC 1 j.val (Nat.le_refl 2) hn a q (by omega)]
        exact hereC 0 j.val (Nat.zero_lt_succ 1) hn r d a (by omega) q hq _ _
      · intro ha
        exact hereC 1 j.val (Nat.le_refl 2) hn r d a (by omega) q hq _ _
    · have ih := canonC T U j r d a q hq n (Nat.le_of_succ_le hn) (by omega)
      rw [skipC 1 n (Nat.le_refl 2) hn a q (by omega), skipC 0 n (Nat.zero_lt_succ 1) hn a q (by omega)]
      exact ih

end Cert.InOdd

end
-- ==== Proof.OddBody.lean ====
/- The odd layer's input call, one grid point: what each case leaves in each block. -/
module

public import proofs.«01_k».proof.Proof.OddTile

@[expose] public section

set_option maxRecDepth 65536

noncomputable section

namespace Cert.InOdd

open Idealize.ShloMosaic Idealize.ShloMosaic.TcCoe Idealize.ShloMosaic.Tactic Idealize.SL.Sem Cert.Kernel4Ideal Cert.Kernel4Ideal.Gen

variable {F : FTy → Type} [FloatOps F]

variable (c : Dev nD) (i : grid0.Coords) (a2 : Memref sig .tc .vmem S1x512x1024 .f32) (h2 : a2.IsWhole) (a3 : Memref sig .tc .vmem S1x1x1024 .f32) (h3 : a3.IsWhole) (a4 : Memref sig .tc .vmem S1x1x1024 .f32) (h4 : a4.IsWhole)
  (a5 : Memref sig .tc .vmem S1x1024 .f32) (h5 : a5.IsWhole) (a6 : Memref sig .tc .vmem S1024x5152 .bf16) (h6 : a6.IsWhole) (a7 : Memref sig .tc .vmem S1024x256 .bf16) (h7 : a7.IsWhole)
  (a8 : Memref sig .tc .vmem S4x3072 .f32) (h8 : a8.IsWhole) (a9 : Memref sig .tc .vmem S1x3072 .f32) (h9 : a9.IsWhole) (a10 : Memref sig .tc .vmem S1x128 .f32) (h10 : a10.IsWhole)
  (a11 : Memref sig .tc .vmem S1x512x2048 .f32) (h11 : a11.IsWhole) (a12 : Memref sig .tc .vmem S1x512x2048 .f32) (h12 : a12.IsWhole) (a13 : Memref sig .tc .vmem S1x512x1024 .f32) (h13 : a13.IsWhole)
  (a14 : Memref sig .tc .vmem S1x512x128 .f32) (h14 : a14.IsWhole) (a15 : Memref sig .tc .vmem S1x3x3072 .f32) (h15 : a15.IsWhole) (a16 : Memref sig .tc .vmem S8x3072 .f32) (h16 : a16.IsWhole)

  (x0 : Vec F S1x512x1024 .f32) (x1 : Vec F S1x1x1024 .f32) (x2 : Vec F S1x1x1024 .f32) (x3 : Vec F S1x1024 .f32) (x4 : Vec F S1024x5152 .bf16) (x5 : Vec F S1024x256 .bf16) (x6 : Vec F S4x3072 .f32) (x7 : Vec F S1x3072 .f32) (x8 : Vec F S1x128 .f32) (xs : Vec F S8x3072 .f32)

/-- The point's reads. -/
def r0 : FVec F S1x512x1024 .f32 := (View.readAt (Elt F) a2.view (Rect.unit (s := S1x512x1024) ![0, 0, 0] S1x512x1024.size inb_S1x512x1024_S1x512x1024_0_0_0).toLoadRect (h2.unread x0))
def r1 : FVec F S1x1x1024 .f32 := (View.readAt (Elt F) a3.view (Rect.unit (s := S1x1x1024) ![0, 0, 0] S1x1x1024.size inb_S1x1x1024_S1x1x1024_0_0_0).toLoadRect (h3.unread x1))
def r2 : FVec F S1x1x1024 .f32 := (View.readAt (Elt F) a4.view (Rect.unit (s := S1x1x1024) ![0, 0, 0] S1x1x1024.size inb_S1x1x1024_S1x1x1024_0_0_0).toLoadRect (h4.unread x2))
def r3 : FVec F S1x1024 .f32 := (View.readAt (Elt F) a5.view (Rect.unit (s := S1x1024) ![0, 0] S1x1024.size inb_S1x1024_S1x1024_0_0).toLoadRect (h5.unread x3))
def r5 : FVec F S1024x256 .bf16 := (View.readAt (Elt F) a7.view (Rect.unit (s := S1024x256) ![0, 0] S1024x256.size inb_S1024x256_S1024x256_0_0).toLoadRect (h7.unread x5))
def r5h : FVec F S1024x128 .bf16 := View.readAt (Elt F) a7.view (Rect.unit (s := S1024x256) ![0, 0] S1024x128.size inb_S1024x256_S1024x128_0_0).toLoadRect (h7.unread x5)
def r8 : FVec F S1x128 .f32 := (View.readAt (Elt F) a10.view (Rect.unit (s := S1x128) ![0, 0] S1x128.size inb_S1x128_S1x128_0_0).toLoadRect (h10.unread x8))
theorem inbW (j : Fin 20) : ∀ a, (![0, 256 * j.val] : Fin 2 → ℕ) a + S1024x256.size a ≤ S1024x5152.size a := fun a => by
  match a with
  | 0 => exact Nat.le_of_ble_eq_true rfl
  | 1 => show 256 * j.val + 256 ≤ 5152; omega
theorem inbK (j : Fin 12) : ∀ a, (![0, 256 * j.val] : Fin 2 → ℕ) a + S4x256.size a ≤ S4x3072.size a := fun a => by
  match a with
  | 0 => exact Nat.le_of_ble_eq_true rfl
  | 1 => show 256 * j.val + 256 ≤ 3072; omega
theorem inbB (j : Fin 12) : ∀ a, (![0, 256 * j.val] : Fin 2 → ℕ) a + S1x256.size a ≤ S1x3072.size a := fun a => by
  match a with
  | 0 => exact Nat.le_of_ble_eq_true rfl
  | 1 => show 256 * j.val + 256 ≤ 3072; omega
def rW : Fin 20 → FVec F S1024x256 .bf16 := fun j => View.readAt (Elt F) a6.view (Rect.unit (s := S1024x5152) ![0, 256 * j.val] S1024x256.size (inbW j)).toLoadRect (h6.unread x4)
def rK : Fin 12 → FVec F S4x256 .f32 := fun j => View.readAt (Elt F) a8.view (Rect.unit (s := S4x3072) ![0, 256 * j.val] S4x256.size (inbK j)).toLoadRect (h8.unread x6)
def rB : Fin 12 → FVec F S1x256 .f32 := fun j => View.readAt (Elt F) a9.view (Rect.unit (s := S1x3072) ![0, 256 * j.val] S1x256.size (inbB j)).toLoadRect (h9.unread x7)
abbrev whole8 : Rect S8x3072 := Rect.unit ![0, 0] S8x3072.size inb_S8x3072_S8x3072_0_0
def rT : FVec F S8x3072 .f32 := View.readAt (Elt F) a16.view whole8.toLoadRect (h16.unread xs)
def rZ : FVec F S8x3072 .f32 := a16.view.readCov (Val := Elt F) [⟨whole8, k0_pay5⟩] whole8.toLoadRect
/-- The normed and modulated rows, and the padded step sizes. -/
def rH : FVec F S512x1024 .bf16 := k0_pay7 (r0 a2 h2 x0) (r3 a5 h5 x3) (r2 a4 h4 x2) (r1 a3 h3 x1)
def dtOf (y0 : FVec F S1x512x1024 .f32) (y3 : FVec F S1x1024 .f32) (y2 y1 : FVec F S1x1x1024 .f32) (y5 : FVec F S1024x256 .bf16) (y5h : FVec F S1024x128 .bf16) (y8 : FVec F S1x128 .f32) : FVec F S1x512x128 .f32 :=
  k0_pay11 (k0_pay8 y0 y3 y2 y1) (k0_pay9 y0 y3 y2 y1 y5) (k0_pay10 y0 y3 y2 y1 y5) y5h y8
def hOf (y0 : FVec F S1x512x1024 .f32) (y3 : FVec F S1x1024 .f32) (y2 y1 : FVec F S1x1x1024 .f32) : FVec F S512x1024 .bf16 := k0_pay7 y0 y3 y2 y1
abbrev bW : Fin 20 → FVec F S1024x256 .bf16 := fun j => View.ld x4 (Rect.unit (s := S1024x5152) ![0, 256 * j.val] S1024x256.size (inbW j))
abbrev bK : Fin 12 → FVec F S4x256 .f32 := fun j => View.ld x6 (Rect.unit (s := S4x3072) ![0, 256 * j.val] S4x256.size (inbK j))
abbrev bB : Fin 12 → FVec F S1x256 .f32 := fun j => View.ld x7 (Rect.unit (s := S1x3072) ![0, 256 * j.val] S1x256.size (inbB j))
abbrev b5h : FVec F S1024x128 .bf16 := View.ld x5 (Rect.unit (s := S1024x256) ![0, 0] S1024x128.size inb_S1024x256_S1024x128_0_0)

theorem listA9 (hc0 : cond0_0 i) :
    (kernelRun0_A c i a2 h2 a3 h3 a4 h4 a5 h5 a6 h6 a7 h7 a8 h8 a9 h9 a10 h10 a11 h11 a12 h12 a13 h13 a14 h14 a15 h15 a16 h16 hc0 x0 x1 x2 x3 x4 x5 x6 x7 x8).1 =
      zList (zt (rH a2 h2 a3 h3 a4 h4 a5 h5 x0 x1 x2 x3) (rW a6 h6 x4)) 8 (Nat.le_refl 8) := by
  sl_kernel_rfl

theorem listA10 (hc0 : cond0_0 i) :
    (kernelRun0_A c i a2 h2 a3 h3 a4 h4 a5 h5 a6 h6 a7 h7 a8 h8 a9 h9 a10 h10 a11 h11 a12 h12 a13 h13 a14 h14 a15 h15 a16 h16 hc0 x0 x1 x2 x3 x4 x5 x6 x7 x8).2.1 =
      listX (fun j => lo (rH a2 h2 a3 h3 a4 h4 a5 h5 x0 x1 x2 x3) (rW a6 h6 x4) (rK a8 h8 x6) (rB a9 h9 x7) (rZ a16) ⟨j.val, lt12 j⟩) (fun j => hi (rH a2 h2 a3 h3 a4 h4 a5 h5 x0 x1 x2 x3) (rW a6 h6 x4) (rK a8 h8 x6) (rB a9 h9 x7) ⟨j.val, lt12 j⟩) 8 (Nat.le_refl 8) := by
  sl_kernel_rfl

theorem listA11 (hc0 : cond0_0 i) :
    (kernelRun0_A c i a2 h2 a3 h3 a4 h4 a5 h5 a6 h6 a7 h7 a8 h8 a9 h9 a10 h10 a11 h11 a12 h12 a13 h13 a14 h14 a15 h15 a16 h16 hc0 x0 x1 x2 x3 x4 x5 x6 x7 x8).2.2.1 =
      listC (fun j => lo (rH a2 h2 a3 h3 a4 h4 a5 h5 x0 x1 x2 x3) (rW a6 h6 x4) (rK a8 h8 x6) (rB a9 h9 x7) (rZ a16) ⟨8 + j.val, lt12b j⟩) (fun j => hi (rH a2 h2 a3 h3 a4 h4 a5 h5 x0 x1 x2 x3) (rW a6 h6 x4) (rK a8 h8 x6) (rB a9 h9 x7) ⟨8 + j.val, lt12b j⟩) 4 (Nat.le_refl 4) := by
  sl_kernel_rfl

theorem listA12 (hc0 : cond0_0 i) :
    (kernelRun0_A c i a2 h2 a3 h3 a4 h4 a5 h5 a6 h6 a7 h7 a8 h8 a9 h9 a10 h10 a11 h11 a12 h12 a13 h13 a14 h14 a15 h15 a16 h16 hc0 x0 x1 x2 x3 x4 x5 x6 x7 x8).2.2.2.1 =
      [⟨Rect.unit ![0, 0, 0] S1x512x128.size inb_S1x512x128_S1x512x128_0_0_0, dtOf (r0 a2 h2 x0) (r3 a5 h5 x3) (r2 a4 h4 x2) (r1 a3 h3 x1) (r5 a7 h7 x5) (r5h a7 h7 x5) (r8 a10 h10 x8)⟩] := by
  sl_kernel_rfl

theorem listAS (hc0 : cond0_0 i) :
    (kernelRun0_A c i a2 h2 a3 h3 a4 h4 a5 h5 a6 h6 a7 h7 a8 h8 a9 h9 a10 h10 a11 h11 a12 h12 a13 h13 a14 h14 a15 h15 a16 h16 hc0 x0 x1 x2 x3 x4 x5 x6 x7 x8).2.2.2.2.2.1 =
      [⟨whole8, nxt (rH a2 h2 a3 h3 a4 h4 a5 h5 x0 x1 x2 x3) (rW a6 h6 x4)⟩, ⟨whole8, k0_pay5⟩] := by
  sl_kernel_rfl

theorem listB9 (hc0 : ¬cond0_0 i) :
    (kernelRun0_B c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs).1 =
      zList (zt (rH a2 h2 a3 h3 a4 h4 a5 h5 x0 x1 x2 x3) (rW a6 h6 x4)) 8 (Nat.le_refl 8) := by
  sl_kernel_rfl

theorem listB10 (hc0 : ¬cond0_0 i) :
    (kernelRun0_B c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs).2.1 =
      listX (fun j => lo (rH a2 h2 a3 h3 a4 h4 a5 h5 x0 x1 x2 x3) (rW a6 h6 x4) (rK a8 h8 x6) (rB a9 h9 x7) (rT a16 h16 xs) ⟨j.val, lt12 j⟩) (fun j => hi (rH a2 h2 a3 h3 a4 h4 a5 h5 x0 x1 x2 x3) (rW a6 h6 x4) (rK a8 h8 x6) (rB a9 h9 x7) ⟨j.val, lt12 j⟩) 8 (Nat.le_refl 8) := by
  sl_kernel_rfl

theorem listB11 (hc0 : ¬cond0_0 i) :
    (kernelRun0_B c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs).2.2.1 =
      listC (fun j => lo (rH a2 h2 a3 h3 a4 h4 a5 h5 x0 x1 x2 x3) (rW a6 h6 x4) (rK a8 h8 x6) (rB a9 h9 x7) (rT a16 h16 xs) ⟨8 + j.val, lt12b j⟩) (fun j => hi (rH a2 h2 a3 h3 a4 h4 a5 h5 x0 x1 x2 x3) (rW a6 h6 x4) (rK a8 h8 x6) (rB a9 h9 x7) ⟨8 + j.val, lt12b j⟩) 4 (Nat.le_refl 4) := by
  sl_kernel_rfl

theorem listB12 (hc0 : ¬cond0_0 i) :
    (kernelRun0_B c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs).2.2.2.1 =
      [⟨Rect.unit ![0, 0, 0] S1x512x128.size inb_S1x512x128_S1x512x128_0_0_0, dtOf (r0 a2 h2 x0) (r3 a5 h5 x3) (r2 a4 h4 x2) (r1 a3 h3 x1) (r5 a7 h7 x5) (r5h a7 h7 x5) (r8 a10 h10 x8)⟩] := by
  sl_kernel_rfl

theorem listB13 (hc0 : ¬cond0_0 i) :
    (kernelRun0_B c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs).2.2.2.2.1 =
      [⟨Rect.unit ![0, 0, 0] S1x3x3072.size inb_S1x3x3072_S1x3x3072_0_0_0, mct (rH a2 h2 a3 h3 a4 h4 a5 h5 x0 x1 x2 x3) (rW a6 h6 x4)⟩] := by
  sl_kernel_rfl

theorem listBS (hc0 : ¬cond0_0 i) :
    (kernelRun0_B c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs).2.2.2.2.2.1 =
      [⟨whole8, nxt (rH a2 h2 a3 h3 a4 h4 a5 h5 x0 x1 x2 x3) (rW a6 h6 x4)⟩] := by
  sl_kernel_rfl

/-! The reads as the blocks themselves. -/

theorem r0_eq : r0 a2 h2 x0 = x0 := by
  unfold r0
  rw [View.readAt_eq_ld, Memref.IsWhole.read_unread, View.ld_unit_lit inb_S1x512x1024_S1x512x1024_0_0_0 x0 (by decide)]
theorem r1_eq : r1 a3 h3 x1 = x1 := by
  unfold r1
  rw [View.readAt_eq_ld, Memref.IsWhole.read_unread, View.ld_unit_lit inb_S1x1x1024_S1x1x1024_0_0_0 x1 (by decide)]
theorem r2_eq : r2 a4 h4 x2 = x2 := by
  unfold r2
  rw [View.readAt_eq_ld, Memref.IsWhole.read_unread, View.ld_unit_lit inb_S1x1x1024_S1x1x1024_0_0_0 x2 (by decide)]
theorem r3_eq : r3 a5 h5 x3 = x3 := by
  unfold r3
  rw [View.readAt_eq_ld, Memref.IsWhole.read_unread, View.ld_unit_lit inb_S1x1024_S1x1024_0_0 x3 (by decide)]
theorem r5_eq : r5 a7 h7 x5 = x5 := by
  unfold r5
  rw [View.readAt_eq_ld, Memref.IsWhole.read_unread, View.ld_unit_lit inb_S1024x256_S1024x256_0_0 x5 (by decide)]
theorem r8_eq : r8 a10 h10 x8 = x8 := by
  unfold r8
  rw [View.readAt_eq_ld, Memref.IsWhole.read_unread, View.ld_unit_lit inb_S1x128_S1x128_0_0 x8 (by decide)]
theorem rT_eq : rT a16 h16 xs = xs := by
  unfold rT
  rw [View.readAt_eq_ld, Memref.IsWhole.read_unread, View.ld_unit_lit inb_S8x3072_S8x3072_0_0 xs (by decide)]
theorem rW_eq : rW a6 h6 x4 = bW x4 := by
  funext j
  unfold rW
  rw [View.readAt_eq_ld, Memref.IsWhole.read_unread]
theorem rK_eq : rK a8 h8 x6 = bK x6 := by
  funext j
  unfold rK
  rw [View.readAt_eq_ld, Memref.IsWhole.read_unread]
theorem rB_eq : rB a9 h9 x7 = bB x7 := by
  funext j
  unfold rB
  rw [View.readAt_eq_ld, Memref.IsWhole.read_unread]
theorem r5h_eq : r5h a7 h7 x5 = b5h x5 := by
  unfold r5h
  rw [View.readAt_eq_ld, Memref.IsWhole.read_unread]
theorem rZ_eq : rZ a16 = (k0_pay5 : FVec F S8x3072 .f32) := by
  unfold rZ
  rw [View.readCov_cons_toLoadRect]
theorem rH_eq : rH a2 h2 a3 h3 a4 h4 a5 h5 x0 x1 x2 x3 = hOf x0 x3 x2 x1 := by
  unfold rH hOf
  rw [r0_eq, r1_eq, r2_eq, r3_eq]

/-! What a point leaves, case by case. -/
theorem outA9 (hc0 : cond0_0 i) (j : Fin 8) (r : Fin 512) (d : Fin 256) (q : Fin 2048) (hq : q.val = 256 * j.val + d.val) :
    out0_A_9 c i a2 h2 a3 h3 a4 h4 a5 h5 a6 h6 a7 h7 a8 h8 a9 h9 a10 h10 a11 h11 a12 h12 a13 h13 a14 h14 a15 h15 a16 h16 hc0 x0 x1 x2 x3 x4 x5 x6 x7 x8 (ix3 0 r q) = zt (hOf x0 x3 x2 x1) (bW x4) j (ix3 0 r d) := by
  unfold out0_A_9
  rw [View.read_writes_junk_eq_canon, listA9, canon_z _ j r d q hq 8 _ j.isLt, rH_eq, rW_eq]
theorem outA10lo (hc0 : cond0_0 i) (j : Fin 8) (r d : Fin 256) (a : Fin 512) (ha : a.val = r.val) (q : Fin 2048) (hq : q.val = 256 * j.val + d.val) :
    out0_A_10 c i a2 h2 a3 h3 a4 h4 a5 h5 a6 h6 a7 h7 a8 h8 a9 h9 a10 h10 a11 h11 a12 h12 a13 h13 a14 h14 a15 h15 a16 h16 hc0 x0 x1 x2 x3 x4 x5 x6 x7 x8 (ix3 0 a q) = lo (hOf x0 x3 x2 x1) (bW x4) (bK x6) (bB x7) k0_pay5 ⟨j.val, lt12 j⟩ (ix3 0 r d) := by
  unfold out0_A_10
  rw [View.read_writes_junk_eq_canon, listA10, (canonX _ _ j r d a q hq 8 _ j.isLt).1 ha, rH_eq, rW_eq, rK_eq, rB_eq, rZ_eq]
theorem outA10hi (hc0 : cond0_0 i) (j : Fin 8) (r d : Fin 256) (a : Fin 512) (ha : a.val = 256 + r.val) (q : Fin 2048) (hq : q.val = 256 * j.val + d.val) :
    out0_A_10 c i a2 h2 a3 h3 a4 h4 a5 h5 a6 h6 a7 h7 a8 h8 a9 h9 a10 h10 a11 h11 a12 h12 a13 h13 a14 h14 a15 h15 a16 h16 hc0 x0 x1 x2 x3 x4 x5 x6 x7 x8 (ix3 0 a q) = hi (hOf x0 x3 x2 x1) (bW x4) (bK x6) (bB x7) ⟨j.val, lt12 j⟩ (ix3 0 r d) := by
  unfold out0_A_10
  rw [View.read_writes_junk_eq_canon, listA10, (canonX _ _ j r d a q hq 8 _ j.isLt).2 ha, rH_eq, rW_eq, rK_eq, rB_eq]
theorem outA11lo (hc0 : cond0_0 i) (j : Fin 4) (r d : Fin 256) (a : Fin 512) (ha : a.val = r.val) (q : Fin 1024) (hq : q.val = 256 * j.val + d.val) :
    out0_A_11 c i a2 h2 a3 h3 a4 h4 a5 h5 a6 h6 a7 h7 a8 h8 a9 h9 a10 h10 a11 h11 a12 h12 a13 h13 a14 h14 a15 h15 a16 h16 hc0 x0 x1 x2 x3 x4 x5 x6 x7 x8 (ix3 0 a q) = lo (hOf x0 x3 x2 x1) (bW x4) (bK x6) (bB x7) k0_pay5 ⟨8 + j.val, lt12b j⟩ (ix3 0 r d) := by
  unfold out0_A_11
  rw [View.read_writes_junk_eq_canon, listA11, (canonC _ _ j r d a q hq 4 _ j.isLt).1 ha, rH_eq, rW_eq, rK_eq, rB_eq, rZ_eq]
theorem outA11hi (hc0 : cond0_0 i) (j : Fin 4) (r d : Fin 256) (a : Fin 512) (ha : a.val = 256 + r.val) (q : Fin 1024) (hq : q.val = 256 * j.val + d.val) :
    out0_A_11 c i a2 h2 a3 h3 a4 h4 a5 h5 a6 h6 a7 h7 a8 h8 a9 h9 a10 h10 a11 h11 a12 h12 a13 h13 a14 h14 a15 h15 a16 h16 hc0 x0 x1 x2 x3 x4 x5 x6 x7 x8 (ix3 0 a q) = hi (hOf x0 x3 x2 x1) (bW x4) (bK x6) (bB x7) ⟨8 + j.val, lt12b j⟩ (ix3 0 r d) := by
  unfold out0_A_11
  rw [View.read_writes_junk_eq_canon, listA11, (canonC _ _ j r d a q hq 4 _ j.isLt).2 ha, rH_eq, rW_eq, rK_eq, rB_eq]
theorem outA12 (hc0 : cond0_0 i) :
    out0_A_12 c i a2 h2 a3 h3 a4 h4 a5 h5 a6 h6 a7 h7 a8 h8 a9 h9 a10 h10 a11 h11 a12 h12 a13 h13 a14 h14 a15 h15 a16 h16 hc0 x0 x1 x2 x3 x4 x5 x6 x7 x8 = dtOf x0 x3 x2 x1 x5 (b5h x5) x8 := by
  unfold out0_A_12
  rw [View.read_writes_junk_eq_canon, listA12, View.canon_cons_unit_lit inb_S1x512x128_S1x512x128_0_0_0 _ _ (by decide), r0_eq, r1_eq, r2_eq, r3_eq, r5_eq, r5h_eq, r8_eq]
theorem soutA (hc0 : cond0_0 i) :
    sout0_A_0 c i a2 h2 a3 h3 a4 h4 a5 h5 a6 h6 a7 h7 a8 h8 a9 h9 a10 h10 a11 h11 a12 h12 a13 h13 a14 h14 a15 h15 a16 h16 hc0 x0 x1 x2 x3 x4 x5 x6 x7 x8 = nxt (hOf x0 x3 x2 x1) (bW x4) := by
  unfold sout0_A_0
  rw [View.read_writes_junk_eq_canon, listAS, View.canon_cons_unit_lit inb_S8x3072_S8x3072_0_0 _ _ (by decide), rH_eq, rW_eq]
theorem outB9 (hc0 : ¬cond0_0 i) (j : Fin 8) (r : Fin 512) (d : Fin 256) (q : Fin 2048) (hq : q.val = 256 * j.val + d.val) :
    out0_B_9 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs (ix3 0 r q) = zt (hOf x0 x3 x2 x1) (bW x4) j (ix3 0 r d) := by
  unfold out0_B_9
  rw [View.read_writes_junk_eq_canon, listB9, canon_z _ j r d q hq 8 _ j.isLt, rH_eq, rW_eq]
theorem outB10lo (hc0 : ¬cond0_0 i) (j : Fin 8) (r d : Fin 256) (a : Fin 512) (ha : a.val = r.val) (q : Fin 2048) (hq : q.val = 256 * j.val + d.val) :
    out0_B_10 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs (ix3 0 a q) = lo (hOf x0 x3 x2 x1) (bW x4) (bK x6) (bB x7) xs ⟨j.val, lt12 j⟩ (ix3 0 r d) := by
  unfold out0_B_10
  rw [View.read_writes_junk_eq_canon, listB10, (canonX _ _ j r d a q hq 8 _ j.isLt).1 ha, rH_eq, rW_eq, rK_eq, rB_eq, rT_eq]
theorem outB10hi (hc0 : ¬cond0_0 i) (j : Fin 8) (r d : Fin 256) (a : Fin 512) (ha : a.val = 256 + r.val) (q : Fin 2048) (hq : q.val = 256 * j.val + d.val) :
    out0_B_10 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs (ix3 0 a q) = hi (hOf x0 x3 x2 x1) (bW x4) (bK x6) (bB x7) ⟨j.val, lt12 j⟩ (ix3 0 r d) := by
  unfold out0_B_10
  rw [View.read_writes_junk_eq_canon, listB10, (canonX _ _ j r d a q hq 8 _ j.isLt).2 ha, rH_eq, rW_eq, rK_eq, rB_eq]
theorem outB11lo (hc0 : ¬cond0_0 i) (j : Fin 4) (r d : Fin 256) (a : Fin 512) (ha : a.val = r.val) (q : Fin 1024) (hq : q.val = 256 * j.val + d.val) :
    out0_B_11 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs (ix3 0 a q) = lo (hOf x0 x3 x2 x1) (bW x4) (bK x6) (bB x7) xs ⟨8 + j.val, lt12b j⟩ (ix3 0 r d) := by
  unfold out0_B_11
  rw [View.read_writes_junk_eq_canon, listB11, (canonC _ _ j r d a q hq 4 _ j.isLt).1 ha, rH_eq, rW_eq, rK_eq, rB_eq, rT_eq]
theorem outB11hi (hc0 : ¬cond0_0 i) (j : Fin 4) (r d : Fin 256) (a : Fin 512) (ha : a.val = 256 + r.val) (q : Fin 1024) (hq : q.val = 256 * j.val + d.val) :
    out0_B_11 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs (ix3 0 a q) = hi (hOf x0 x3 x2 x1) (bW x4) (bK x6) (bB x7) ⟨8 + j.val, lt12b j⟩ (ix3 0 r d) := by
  unfold out0_B_11
  rw [View.read_writes_junk_eq_canon, listB11, (canonC _ _ j r d a q hq 4 _ j.isLt).2 ha, rH_eq, rW_eq, rK_eq, rB_eq]
theorem outB12 (hc0 : ¬cond0_0 i) :
    out0_B_12 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs = dtOf x0 x3 x2 x1 x5 (b5h x5) x8 := by
  unfold out0_B_12
  rw [View.read_writes_junk_eq_canon, listB12, View.canon_cons_unit_lit inb_S1x512x128_S1x512x128_0_0_0 _ _ (by decide), r0_eq, r1_eq, r2_eq, r3_eq, r5_eq, r5h_eq, r8_eq]
theorem soutB (hc0 : ¬cond0_0 i) :
    sout0_B_0 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs = nxt (hOf x0 x3 x2 x1) (bW x4) := by
  unfold sout0_B_0
  rw [View.read_writes_junk_eq_canon, listBS, View.canon_cons_unit_lit inb_S8x3072_S8x3072_0_0 _ _ (by decide), rH_eq, rW_eq]
theorem outB13 (hc0 : ¬cond0_0 i) :
    out0_B_13 c i a2 h2 a3 h3 a4 h4 a5 h5 a6 h6 a7 h7 a8 h8 a9 h9 a10 h10 a11 h11 a12 h12 a13 h13 a14 h14 a15 h15 a16 h16 hc0 x0 x1 x2 x3 x4 x5 x6 x7 x8 xs = mct (hOf x0 x3 x2 x1) (bW x4) := by
  unfold out0_B_13
  rw [View.read_writes_junk_eq_canon, listB13, View.canon_cons_unit_lit inb_S1x3x3072_S1x3x3072_0_0_0 _ _ (by decide), rH_eq, rW_eq]

end Cert.InOdd

end
-- ==== Proof.OddIdeal.lean ====
/- The odd layer's input call: the tiles' entries over the extended reals. -/
module

public import proofs.«01_k».proof.Proof.OddTile
public import proofs.«01_k».proof.Proof.OddBody
public import proofs.«01_k».proof.Proof.Layer

@[expose] public section

set_option maxRecDepth 65536

noncomputable section

namespace Cert.InOdd

open Idealize.ShloMosaic Idealize.ShloMosaic.TcCoe Idealize.ShloMosaic.Tactic Idealize.SL.Sem Cert.Kernel4Ideal Cert.Kernel4Ideal.Gen Cert.Layer

theorem hOf_at (x : FVec Ideal S1x512x1024 .f32) (g : FVec Ideal S1x1024 .f32) (s b : FVec Ideal S1x1x1024 .f32) (r : Fin 512) (k : Fin 1024) :
    (hOf x g s b (ix2 r k) : EReal) = hid (fun k => x (ix3 0 r k)) (fun k => g (ix2 0 k)) (fun k => s (ix3 0 0 k)) (fun k => b (ix3 0 0 k)) k := by
  unfold hOf k0_pay7 k0_pay6
  pointwise
  rfl

theorem xr_at (h : FVec Ideal S512x1024 .bf16) (w : Fin 20 → FVec Ideal S1024x256 .bf16) (j : Fin 12) (r : Fin 512) (d : Fin 256) :
    (xr h w j (ix2 r d) : EReal) = ∑ k, h (ix2 r k) * w ⟨8 + j.val, lt20 j⟩ (ix2 k d) := by
  unfold xr k0_pay12
  pointwise
theorem zt_at (h : FVec Ideal S512x1024 .bf16) (w : Fin 20 → FVec Ideal S1024x256 .bf16) (j : Fin 8) (r : Fin 512) (d : Fin 256) :
    (zt h w j (ix3 0 r d) : EReal) = ∑ k, h (ix2 r k) * w ⟨j.val, lt20z j⟩ (ix2 k d) := by
  unfold zt k0_pay20
  pointwise

theorem rot3_at (u : FVec Ideal S256x256 .f32) (t : FVec Ideal S8x256 .f32) (r d : Fin 256) :
    (rot u t 3#32 (ix2 r d) : EReal) = shf (fun r => u (ix2 r d)) (fun a => t (ix2 a d)) 3 (by decide) r := by
  unfold rot
  pointwise
  exact shift_at (by decide) (fun r => u (ix2 r d)) (fun a => t (ix2 a d)) 3 (by decide) r _ (slt3 _) _ _ _
theorem rot2_at (u : FVec Ideal S256x256 .f32) (t : FVec Ideal S8x256 .f32) (r d : Fin 256) :
    (rot u t 2#32 (ix2 r d) : EReal) = shf (fun r => u (ix2 r d)) (fun a => t (ix2 a d)) 2 (by decide) r := by
  unfold rot
  pointwise
  exact shift_at (by decide) (fun r => u (ix2 r d)) (fun a => t (ix2 a d)) 2 (by decide) r _ (slt2 _) _ _ _
theorem rot1_at (u : FVec Ideal S256x256 .f32) (t : FVec Ideal S8x256 .f32) (r d : Fin 256) :
    (rot u t 1#32 (ix2 r d) : EReal) = shf (fun r => u (ix2 r d)) (fun a => t (ix2 a d)) 1 (by decide) r := by
  unfold rot
  pointwise
  exact shift_at (by decide) (fun r => u (ix2 r d)) (fun a => t (ix2 a d)) 1 (by decide) r _ (slt1 _) _ _ _

/-- Four taps and a bias at a row, the rows before a block's first from `t`. -/
def taps {N : ℕ} (u : Fin N → EReal) (t : Fin 8 → EReal) (k : Fin 4 → EReal) (b : EReal) (r : Fin N) : EReal :=
  shf u t 3 (by decide) r * k 0 + shf u t 2 (by decide) r * k 1 + shf u t 1 (by decide) r * k 2 + u r * k 3 + b

theorem conv_at (u : FVec Ideal S256x256 .f32) (t : FVec Ideal S8x256 .f32) (k : FVec Ideal S4x256 .f32) (b : FVec Ideal S1x256 .f32) (r d : Fin 256) :
    (conv u t k b (ix3 0 r d) : EReal) = taps (fun r => u (ix2 r d)) (fun a => t (ix2 a d)) (fun a => k (ix2 a d)) (b (ix2 0 d)) r := by
  unfold taps
  rw [← rot3_at, ← rot2_at, ← rot1_at]
  unfold conv tap k0_pay15
  generalize rot u t 3#32 = s3
  generalize rot u t 2#32 = s2
  generalize rot u t 1#32 = s1
  pointwise

/-- Taps read the block and the rows before it at their own entries. -/
theorem taps_congr {N M : ℕ} (u : Fin N → EReal) (u' : Fin M → EReal) (t t' : Fin 8 → EReal) (k : Fin 4 → EReal) (b : EReal) (r : Fin N) (r' : Fin M)
    (h : ∀ s ≤ 3, ∀ hs : s ≤ 8, shf u t s hs r = shf u' t' s hs r') (h0 : u r = u' r') : taps u t k b r = taps u' t' k b r' := by
  unfold taps
  rw [h 3 (by decide), h 2 (by decide), h 1 (by decide), h0]

theorem lo_at (h : FVec Ideal S512x1024 .bf16) (w : Fin 20 → FVec Ideal S1024x256 .bf16) (k : Fin 12 → FVec Ideal S4x256 .f32) (b : Fin 12 → FVec Ideal S1x256 .f32) (t : FVec Ideal S8x3072 .f32)
    (j : Fin 12) (r d : Fin 256) (r' : Fin 512) (hr : r'.val = r.val) (q : Fin 3072) (hq : q.val = 256 * j.val + d.val) :
    (lo h w k b t j (ix3 0 r d) : EReal) = taps (fun r => xr h w j (ix2 r d)) (fun a => t (ix2 a q)) (fun a => k j (ix2 a d)) (b j (ix2 0 d)) r' := by
  unfold lo
  rw [conv_at]
  generalize xr h w j = u
  have hu : ∀ (a : Fin 256) (a' : Fin 512), a'.val = a.val → (extractStridedSlice S256x256 ![0, 0] u slices_S512x256_o0_0_S256x256 (ix2 a d) : EReal) = u (ix2 a' d) := fun a a' ha => by
    have hb : a.val < 512 := by clear ha a'; omega
    obtain rfl : a' = ⟨a.val, hb⟩ := Fin.ext ha
    pointwise
  have ht : ∀ a : Fin 8, (extractStridedSlice S8x256 ![0, 256 * j.val] t (slT j) (ix2 a d) : EReal) = t (ix2 a q) := fun a => by
    have hb : 256 * j.val + d.val < 3072 := by clear hq q; omega
    obtain rfl : q = ⟨256 * j.val + d.val, hb⟩ := Fin.ext hq
    pointwise
  refine taps_congr _ _ _ _ _ _ _ _ (fun s hs3 hs => ?_) (hu r r' hr)
  unfold shf
  by_cases hl : r.val < s
  · rw [dif_pos hl, dif_pos (by omega)]
    refine (ht _).trans ?_
    exact congrArg (fun a => t (ix2 a q)) (Fin.ext (by dsimp only; omega))
  · rw [dif_neg hl, dif_neg (by omega)]
    exact hu _ _ (by dsimp only; omega)

theorem hi_at (h : FVec Ideal S512x1024 .bf16) (w : Fin 20 → FVec Ideal S1024x256 .bf16) (k : Fin 12 → FVec Ideal S4x256 .f32) (b : Fin 12 → FVec Ideal S1x256 .f32) (t : Fin 8 → EReal)
    (j : Fin 12) (r d : Fin 256) (r' : Fin 512) (hr : r'.val = 256 + r.val) :
    (hi h w k b j (ix3 0 r d) : EReal) = taps (fun r => xr h w j (ix2 r d)) t (fun a => k j (ix2 a d)) (b j (ix2 0 d)) r' := by
  unfold hi
  rw [conv_at]
  generalize xr h w j = u
  have hu : ∀ (a : Fin 256) (a' : Fin 512), a'.val = 256 + a.val → (extractStridedSlice S256x256 ![256, 0] u slices_S512x256_o256_0_S256x256 (ix2 a d) : EReal) = u (ix2 a' d) := fun a a' ha => by
    have hb : 256 + a.val < 512 := by clear ha a'; omega
    obtain rfl : a' = ⟨256 + a.val, hb⟩ := Fin.ext ha
    pointwise
  have ht : ∀ (a : Fin 8) (a' : Fin 512), a'.val = 248 + a.val → (extractStridedSlice S8x256 ![248, 0] u slices_S512x256_o248_0_S8x256 (ix2 a d) : EReal) = u (ix2 a' d) := fun a a' ha => by
    have hb : 248 + a.val < 512 := by clear ha a'; omega
    obtain rfl : a' = ⟨248 + a.val, hb⟩ := Fin.ext ha
    pointwise
  refine taps_congr _ _ _ _ _ _ _ _ (fun s hs3 hs => ?_) (hu r r' hr)
  unfold shf
  rw [dif_neg (show ¬r'.val < s by omega)]
  by_cases hl : r.val < s
  · rw [dif_pos hl]
    exact ht _ _ (by dsimp only; omega)
  · rw [dif_neg hl]
    exact hu _ _ (by dsimp only; omega)

theorem la_at (h : FVec Ideal S512x1024 .bf16) (w : Fin 20 → FVec Ideal S1024x256 .bf16) (j : Fin 12) (a : Fin 8) (d : Fin 256) (r : Fin 512) (hr : r.val = 504 + a.val) :
    (la h w j (ix2 a d) : EReal) = xr h w j (ix2 r d) := by
  unfold la k0_pay28
  generalize xr h w j = u
  have hb : 504 + a.val < 512 := by clear hr r; omega
  obtain rfl : r = ⟨504 + a.val, hb⟩ := Fin.ext hr
  pointwise

theorem pay5_at (a : Fin 8) (d : Fin 3072) : ((k0_pay5 : FVec Ideal S8x3072 .f32) (ix2 a d) : EReal) = 0 := by
  unfold k0_pay5
  pointwise

theorem cat_at (v : Fin 12 → FVec Ideal S8x256 .f32) (u : FVec Ideal S512x256 .f32) (hu : ∀ (a : Fin 8) (d : Fin 256) (r : Fin 512), r.val = 504 + a.val → (v 11 (ix2 a d) : EReal) = u (ix2 r d))
    (j : Fin 12) (a : Fin 8) (d : Fin 256) (q : Fin 3072) (hq : q.val = 256 * j.val + d.val) :
    (k0_pay2 (v 0) (v 1) (v 2) (v 3) (v 4) (v 5) (v 6) (v 7) (v 8) (v 9) u (v 10) (ix2 a q) : EReal) = v j (ix2 a d) := by
  unfold k0_pay2
  pointwise
  have hd := d.isLt
  rcases j with ⟨j, hj⟩
  dsimp only at hq
  interval_cases j
  all_goals repeat rw [dif_neg (by omega)]
  all_goals try rw [dif_pos (by omega)]
  all_goals first
    | exact congrArg (fun q => v _ (ix2 a q)) (Fin.ext (by dsimp only; omega))
    | exact (congrArg (fun q => u (ix2 _ q)) (Fin.ext (by dsimp only; omega))).trans (hu a d _ rfl).symm

theorem nxt_at (h : FVec Ideal S512x1024 .bf16) (w : Fin 20 → FVec Ideal S1024x256 .bf16) (j : Fin 12) (a : Fin 8) (d : Fin 256) (q : Fin 3072) (hq : q.val = 256 * j.val + d.val)
    (r : Fin 512) (hr : r.val = 504 + a.val) : (nxt h w (ix2 a q) : EReal) = xr h w j (ix2 r d) := by
  refine Eq.trans ?_ ((cat_at (la h w) (xr h w 11) (fun a d r hr => la_at h w 11 a d r hr) j a d q hq).trans (la_at h w j a d r hr))
  unfold nxt k0_pay3
  generalize k0_pay2 (la h w 0) (la h w 1) (la h w 2) (la h w 3) (la h w 4) (la h w 5) (la h w 6) (la h w 7) (la h w 8) (la h w 9) (xr h w 11) (la h w 10) = v
  pointwise

theorem mct_at (h : FVec Ideal S512x1024 .bf16) (w : Fin 20 → FVec Ideal S1024x256 .bf16) (j : Fin 12) (a : Fin 3) (d : Fin 256) (q : Fin 3072) (hq : q.val = 256 * j.val + d.val)
    (r : Fin 512) (hr : r.val = 509 + a.val) : (mct h w (ix3 0 a q) : EReal) = xr h w j (ix2 r d) := by
  have hb : 5 + a.val < 8 := by clear hr; omega
  refine Eq.trans ?_ ((cat_at (la h w) (xr h w 11) (fun a d r hr => la_at h w 11 a d r hr) j ⟨5 + a.val, hb⟩ d q hq).trans (la_at h w j ⟨5 + a.val, hb⟩ d r (by dsimp only; omega)))
  unfold mct k0_pay4
  generalize k0_pay2 (la h w 0) (la h w 1) (la h w 2) (la h w 3) (la h w 4) (la h w 5) (la h w 6) (la h w 7) (la h w 8) (la h w 9) (xr h w 11) (la h w 10) = v
  pointwise

theorem pay9_at (x : FVec Ideal S1x512x1024 .f32) (g : FVec Ideal S1x1024 .f32) (s b : FVec Ideal S1x1x1024 .f32) (w : FVec Ideal S1024x256 .bf16) (r : Fin 512) (q : Fin 256) :
    (k0_pay9 (F := Ideal) x g s b w (ix2 r q) : EReal) = ∑ k, hOf x g s b (ix2 r k) * w (ix2 k q) := by
  unfold k0_pay9
  show (_ : EReal) = ∑ k, k0_pay7 (F := Ideal) x g s b (ix2 r k) * w (ix2 k q)
  generalize k0_pay7 (F := Ideal) x g s b = h
  pointwise
theorem pay8_at (x : FVec Ideal S1x512x1024 .f32) (g : FVec Ideal S1x1024 .f32) (s b : FVec Ideal S1x1x1024 .f32) (r : Fin 512) (k : Fin 1024) :
    (k0_pay8 (F := Ideal) x g s b (ix2 r k) : EReal) = hOf x g s b (ix2 r k) - hOf x g s b (ix2 r k) := by
  unfold k0_pay8 hOf k0_pay7
  generalize k0_pay6 (F := Ideal) x g s b = h
  pointwise
theorem pay10_at (x : FVec Ideal S1x512x1024 .f32) (g : FVec Ideal S1x1024 .f32) (s b : FVec Ideal S1x1x1024 .f32) (w : FVec Ideal S1024x256 .bf16) (r : Fin 512) (d : Fin 128) (q : Fin 256) (hq : q.val = d.val) :
    (k0_pay10 (F := Ideal) x g s b w (ix2 r d) : EReal) = k0_pay9 (F := Ideal) x g s b w (ix2 r q) := by
  unfold k0_pay10
  generalize k0_pay9 (F := Ideal) x g s b w = h
  have hb : d.val < 256 := by clear hq q; omega
  obtain rfl : q = ⟨d.val, hb⟩ := Fin.ext hq
  pointwise
/-- The kernel's softplus: `log (1 + e^v)` away from overflow. -/
def spl (v : EReal) : EReal := max v 0 + Ideal.log1p (Ideal.exp (0 - @FloatOps.absf Ideal _ .f32 v))
theorem pay11_at (l : FVec Ideal S512x1024 .bf16) (p : FVec Ideal S512x256 .f32) (p0 : FVec Ideal S512x128 .f32) (w : FVec Ideal S1024x128 .bf16) (c : FVec Ideal S1x128 .f32)
    (r : Fin 512) (d : Fin 128) (q : Fin 256) (hq : q.val = 128 + d.val) :
    (k0_pay11 l p p0 w c (ix3 0 r d) : EReal) = spl (p0 (ix2 r d) + p (ix2 r q) + (∑ k, l (ix2 r k) * w (ix2 k d)) + c (ix2 0 d)) := by
  unfold k0_pay11 spl
  have hb : 128 + d.val < 256 := by clear hq q; omega
  obtain rfl : q = ⟨128 + d.val, hb⟩ := Fin.ext hq
  pointwise

end Cert.InOdd

end
-- ==== Proof.OddValue.lean ====
/- The odd layer's input call over the extended reals: its five results of the argument arrays. -/
module

public import proofs.«01_k».proof.Proof.OddIdeal
public import Idealize.ShloMosaic.Lib.StableHlo.Run

@[expose] public section

set_option maxRecDepth 65536

noncomputable section

namespace Cert.InOdd

open Idealize.ShloMosaic Idealize.ShloMosaic.TcCoe Idealize.ShloMosaic.Tactic Idealize.SL.Sem Cert.Kernel4Ideal Cert.Kernel4Ideal.Gen Cert.Layer

/-! ## The results, entry by entry -/

section
variable (x : FVec Ideal S8x2048x1024 .f32) (mo : FVec Ideal S8x6144 .f32) (nm : FVec Ideal S2x1024 .f32) (w : FVec Ideal S1x1024x5152 .f32) (cw : FVec Ideal S1x4x3072 .f32) (cb : FVec Ideal S1x3072 .f32) (db : FVec Ideal S1x32 .f32)

/-- The normed and modulated rows, and their projection. -/
def hO (n : Fin 8) (t : Fin 2048) (k : Fin 1024) : EReal :=
  hid (fun k => x (ix3 n t k)) (fun k => nm (ix2 1 k)) (fun k => mo (ix2 n ⟨1024 + k.val, by omega⟩)) (fun k => mo (ix2 n ⟨k.val, by omega⟩)) k
def pO (n : Fin 8) (t : Fin 2048) (q : Fin 5152) : EReal := ∑ k, hO x mo nm n t k * w (ix3 0 k q)
/-- The convolution's input, three rows of zeros in front. -/
def uO (n : Fin 8) (p : ℕ) (q : Fin 3072) : EReal :=
  if h : 3 ≤ p ∧ p < 2051 then pO x mo nm w n ⟨p - 3, by omega⟩ ⟨2048 + q.val, by omega⟩ else 0
/-- The four taps and the bias. -/
def cO (n : Fin 8) (t : Fin 2048) (q : Fin 3072) : EReal :=
  uO x mo nm w n t.val q * cw (ix3 0 0 q) + uO x mo nm w n (t.val + 1) q * cw (ix3 0 1 q) + uO x mo nm w n (t.val + 2) q * cw (ix3 0 2 q) + uO x mo nm w n (t.val + 3) q * cw (ix3 0 3 q) + cb (ix2 0 q)
/-- The step sizes: 32 columns of them, the rest the softplus of nothing. -/
def dO (n : Fin 8) (t : Fin 2048) (d : Fin 128) : EReal :=
  spl (if h : d.val < 32 then pO x mo nm w n t ⟨5120 + d.val, by omega⟩ + db (ix2 0 ⟨d.val, h⟩) else 0)
/-- The step sizes' weights, padded to 128 columns. -/
def wp (k : Fin 1024) (d : Fin 128) : EReal := if h : d.val < 32 then w (ix3 0 k ⟨5120 + d.val, by omega⟩) else 0
end

/-! ## A point's tiles -/

section
variable (x : FVec Ideal S8x2048x1024 .f32) (mo : FVec Ideal S8x6144 .f32) (nm : FVec Ideal S2x1024 .f32) (w : FVec Ideal S1x1024x5152 .f32) (cw : FVec Ideal S1x4x3072 .f32) (cb : FVec Ideal S1x3072 .f32) (db : FVec Ideal S1x32 .f32)
  (n : Fin 8) (u : ℕ) (hu : u < 4) (h : FVec Ideal S512x1024 .bf16) (v : Fin 20 → FVec Ideal S1024x256 .bf16)
  (hh : ∀ (r : Fin 512) (k : Fin 1024) (T : Fin 2048), T.val = 512 * u + r.val → h (ix2 r k) = hO x mo nm n T k)
  (hv : ∀ (j : Fin 20) (k : Fin 1024) (d : Fin 256) (q : Fin 5152), q.val = 256 * j.val + d.val → v j (ix2 k d) = w (ix3 0 k q))

include hh hv in
theorem zt_pt (j : Fin 8) (r : Fin 512) (d : Fin 256) (T : Fin 2048) (hT : T.val = 512 * u + r.val) (q : Fin 5152) (hq : q.val = 256 * j.val + d.val) :
    zt h v j (ix3 0 r d) = pO x mo nm w n T q := by
  refine (zt_at h v j r d).trans ?_
  unfold pO
  exact Finset.sum_congr rfl fun k _ => congrArg₂ (· * ·) (hh r k T hT) (hv _ k d q hq)

include hu hh hv in
theorem xr_pt (j : Fin 12) (r : Fin 512) (d : Fin 256) (p : ℕ) (hp : p = 512 * u + r.val + 3) (q : Fin 3072) (hq : q.val = 256 * j.val + d.val) :
    xr h v j (ix2 r d) = uO x mo nm w n p q := by
  refine (xr_at h v j r d).trans ?_
  unfold uO
  rw [dif_pos (by omega)]
  unfold pO
  exact Finset.sum_congr rfl fun k _ => congrArg₂ (· * ·) (hh r k _ (by dsimp only; omega)) (hv _ k d _ (by dsimp only; omega))

include hu hh hv in
theorem taps_pt (t8 : Fin 8 → EReal) (kk : Fin 4 → EReal) (b : EReal) (j : Fin 12) (d : Fin 256) (q : Fin 3072) (hq : q.val = 256 * j.val + d.val)
    (ht : ∀ a : Fin 8, 5 ≤ a.val → t8 a = uO x mo nm w n (512 * u + (a.val - 5)) q) (hk : ∀ a, kk a = cw (ix3 0 a q)) (hb : b = cb (ix2 0 q))
    (r : Fin 512) (T : Fin 2048) (hT : T.val = 512 * u + r.val) :
    taps (fun r => xr h v j (ix2 r d)) t8 kk b r = cO x mo nm w cw cb n T q := by
  have hs : ∀ (s : ℕ) (h8 : s ≤ 8), s ≤ 3 → shf (fun r => xr h v j (ix2 r d)) t8 s h8 r = uO x mo nm w n (T.val + (3 - s)) q := fun s h8 h3 => by
    unfold shf
    split
    · exact (ht _ (by dsimp only; omega)).trans (congrArg (fun p => uO x mo nm w n p q) (by dsimp only; omega))
    · exact xr_pt x mo nm w n u hu h v hh hv j _ d _ (by dsimp only; omega) q hq
  unfold taps cO
  rw [hs 3 _ (by decide), hs 2 _ (by decide), hs 1 _ (by decide), hk, hk, hk, hk, hb]
  exact congrArg (fun e => uO x mo nm w n (T.val + 0) q * _ + uO x mo nm w n (T.val + 1) q * _ + uO x mo nm w n (T.val + 2) q * _ + e * _ + _)
    (xr_pt x mo nm w n u hu h v hh hv j r d (T.val + 3) (by omega) q hq)
end

/-! ## The points' blocks -/

variable (m : (ℓ : Loc nD τ sig) → Buf (Elt Ideal) ℓ) (c : Dev nD)

abbrev X : FVec Ideal S8x2048x1024 .f32 := m ((c : Thread nD τ).loc main_arg0)
abbrev MO : FVec Ideal S8x6144 .f32 := m ((c : Thread nD τ).loc main_arg1)
abbrev NM : FVec Ideal S2x1024 .f32 := m ((c : Thread nD τ).loc main_arg2)
abbrev WO : FVec Ideal S1x1024x5152 .f32 := m ((c : Thread nD τ).loc main_arg3)
abbrev CW : FVec Ideal S1x4x3072 .f32 := m ((c : Thread nD τ).loc main_arg4)
abbrev CB : FVec Ideal S1x3072 .f32 := m ((c : Thread nD τ).loc main_arg5)
abbrev DB : FVec Ideal S1x32 .f32 := m ((c : Thread nD τ).loc main_arg6)

/-- The zero the padding puts beside an array. -/
abbrev pz : FVec Ideal S_ .f32 := sitofp (F := Ideal) .f32 (constantI S_ 32 0#32)
theorem pz_at (i : S_.Idx) : (pz i : EReal) = 0 := by
  show (((0#32 : BitVec 32).toInt : ℝ) : EReal) = 0
  rw [show (0#32 : BitVec 32).toInt = 0 from rfl]
  norm_num

abbrev wpad (v : FVec Ideal S1x1024x5152 .f32) : FVec Ideal S1024x128 .f32 :=
  pad S1024x128 ![0, 0] ![0, 96] ![0, 0] (extractStridedSlice S1024x32 ![0, 5120] (shapeCast S1024x5152 v shapeCasts_S1x1024x5152_S1024x5152 : FVec Ideal S1024x5152 .f32) slices_S1024x5152_S1024x32_0_5120) pz pads_S1024x32_S1024x128_000_0960 h_S_
theorem pad_w (v : FVec Ideal S1024x32 .f32) (z : FVec Ideal S_ .f32) (hz : ∀ i, z i = (0 : EReal)) (k : Fin 1024) (d : Fin 128) :
    (pad S1024x128 ![0, 0] ![0, 96] ![0, 0] v z pads_S1024x32_S1024x128_000_0960 h_S_ (ix2 k d) : EReal) = if h : d.val < 32 then v (ix2 k ⟨d.val, h⟩) else 0 := by
  pointwise
  simp only [hz]
theorem wpad_at (v : FVec Ideal S1x1024x5152 .f32) (k : Fin 1024) (d : Fin 128) : (wpad v (ix2 k d) : EReal) = wp v k d := by
  refine (pad_w _ _ pz_at k d).trans ?_
  unfold wp
  split
  · pointwise
  · rfl
/-- The rounded weights beside what the rounding loses. -/
abbrev wsp (p : FVec Ideal S1024x128 .f32) : FVec Ideal S1024x256 .bf16 :=
  concatenate S1024x256 1 [⟨S1024x128, truncf (F := Ideal) .bf16 p bitsLt_bf16_f32⟩, ⟨S1024x128, truncf (F := Ideal) .bf16 (subf p (extf .f32 (truncf (F := Ideal) .bf16 p bitsLt_bf16_f32) bitsLt_bf16_f32)) bitsLt_bf16_f32⟩] concatenates_S1024x128_S1024x128_S1024x256_d1
theorem wsp_hi (p : FVec Ideal S1024x128 .f32) (k : Fin 1024) (d : Fin 128) (q : Fin 256) (hq : q.val = d.val) : (wsp p (ix2 k q) : EReal) = p (ix2 k d) := by
  have hb : d.val < 256 := by clear hq q; omega
  obtain rfl : q = ⟨d.val, hb⟩ := Fin.ext hq
  unfold wsp
  pointwise
theorem wsp_lo (p : FVec Ideal S1024x128 .f32) (k : Fin 1024) (d : Fin 128) (q : Fin 256) (hq : q.val = 128 + d.val) : (wsp p (ix2 k q) : EReal) = p (ix2 k d) - p (ix2 k d) := by
  have hb : 128 + d.val < 256 := by clear hq q; omega
  obtain rfl : q = ⟨128 + d.val, hb⟩ := Fin.ext hq
  unfold wsp
  pointwise
theorem pad_db (v : FVec Ideal S1x32 .f32) (z : FVec Ideal S_ .f32) (hz : ∀ i, z i = (0 : EReal)) (d : Fin 128) :
    (pad S1x128 ![0, 0] ![0, 96] ![0, 0] (shapeCast S1x32 (shapeCast S32 v shapeCasts_S1x32_S32 : FVec Ideal S32 .f32) shapeCasts_S32_S1x32 : FVec Ideal S1x32 .f32) z pads_S1x32_S1x128_000_0960 h_S_ (ix2 0 d) : EReal) = if h : d.val < 32 then v (ix2 0 ⟨d.val, h⟩) else 0 := by
  pointwise
  simp only [hz]
theorem cast_mod (v : FVec Ideal S8x6144 .f32) (n : Fin 8) (k : Fin 6144) : (shapeCast S8x1x6144 v shapeCasts_S8x6144_S8x1x6144 (ix3 n 0 k) : EReal) = v (ix2 n k) := by
  pointwise
theorem cast_norm (v : FVec Ideal S2x1024 .f32) (k : Fin 1024) :
    (shapeCast S1x1024 (shapeCast S1024 (extractStridedSlice S1x1024 ![1, 0] v slices_S2x1024_S1x1024_1_0) shapeCasts_S1x1024_S1024) shapeCasts_S1024_S1x1024 (ix2 0 k) : EReal) = v (ix2 1 k) := by
  pointwise
theorem cast_w (v : FVec Ideal S1x1024x5152 .f32) (k : Fin 1024) (j : Fin 5152) :
    (truncf (F := Ideal) .bf16 (shapeCast S1024x5152 v shapeCasts_S1x1024x5152_S1024x5152 : FVec Ideal S1024x5152 .f32) bitsLt_bf16_f32 (ix2 k j) : EReal) = v (ix3 0 k j) := by
  pointwise
theorem cast_cw (v : FVec Ideal S1x4x3072 .f32) (a : Fin 4) (q : Fin 3072) : (shapeCast S4x3072 v shapeCasts_S1x4x3072_S4x3072 (ix2 a q) : EReal) = v (ix3 0 a q) := by
  pointwise
theorem cast_cb (v : FVec Ideal S1x3072 .f32) (q : Fin 3072) :
    (shapeCast S1x3072 (shapeCast S3072 v shapeCasts_S1x3072_S3072 : FVec Ideal S3072 .f32) shapeCasts_S3072_S1x3072 (ix2 0 q) : EReal) = v (ix2 0 q) := by
  pointwise

theorem V_v8 (n : Fin 8) (k : Fin 6144) : (V m c main_v8 : FVec Ideal S8x1x6144 .f32) (ix3 n 0 k) = MO m c (ix2 n k) := by
  have h : (V m c main_v8 : FVec Ideal S8x1x6144 .f32) = shapeCast S8x1x6144 (MO m c) shapeCasts_S8x6144_S8x1x6144 := by
    show StableHlo.after (List.flatten [hostOps0, hostOps0_1, hostOps0_2, hostOps0_3, hostOps0_4]) _ (Proc.devRef .tc main_v8) = _
    simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_mod _ _ _
theorem V_v19 (k : Fin 1024) : (V m c main_v19 : FVec Ideal S1x1024 .f32) (ix2 0 k) = NM m c (ix2 1 k) := by
  have h : (V m c main_v19 : FVec Ideal S1x1024 .f32) = shapeCast S1x1024 (shapeCast S1024 (extractStridedSlice S1x1024 ![1, 0] (NM m c) slices_S2x1024_S1x1024_1_0) shapeCasts_S1x1024_S1024) shapeCasts_S1024_S1x1024 := by
    show StableHlo.after (List.flatten [hostOps0, hostOps0_1, hostOps0_2, hostOps0_3, hostOps0_4]) _ (Proc.devRef .tc main_v19) = _
    simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_norm _ _
theorem V_v12 (k : Fin 1024) (j : Fin 5152) : (V m c main_v12 : FVec Ideal S1024x5152 .bf16) (ix2 k j) = WO m c (ix3 0 k j) := by
  have h : (V m c main_v12 : FVec Ideal S1024x5152 .bf16) = truncf (F := Ideal) .bf16 (shapeCast S1024x5152 (WO m c) shapeCasts_S1x1024x5152_S1024x5152 : FVec Ideal S1024x5152 .f32) bitsLt_bf16_f32 := by
    show StableHlo.after (List.flatten [hostOps0, hostOps0_1, hostOps0_2, hostOps0_3, hostOps0_4]) _ (Proc.devRef .tc main_v12) = _
    simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_w _ _ _
theorem V_v13 (a : Fin 4) (q : Fin 3072) : (V m c main_v13 : FVec Ideal S4x3072 .f32) (ix2 a q) = CW m c (ix3 0 a q) := by
  have h : (V m c main_v13 : FVec Ideal S4x3072 .f32) = shapeCast S4x3072 (CW m c) shapeCasts_S1x4x3072_S4x3072 := by
    show StableHlo.after (List.flatten [hostOps0, hostOps0_1, hostOps0_2, hostOps0_3, hostOps0_4]) _ (Proc.devRef .tc main_v13) = _
    simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_cw _ _ _
theorem V_v15 (q : Fin 3072) : (V m c main_v15 : FVec Ideal S1x3072 .f32) (ix2 0 q) = CB m c (ix2 0 q) := by
  have h : (V m c main_v15 : FVec Ideal S1x3072 .f32) = shapeCast S1x3072 (shapeCast S3072 (CB m c) shapeCasts_S1x3072_S3072 : FVec Ideal S3072 .f32) shapeCasts_S3072_S1x3072 := by
    show StableHlo.after (List.flatten [hostOps0, hostOps0_1, hostOps0_2, hostOps0_3, hostOps0_4]) _ (Proc.devRef .tc main_v15) = _
    simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_cb _ _
theorem V_v18 (d : Fin 128) : (V m c main_v18 : FVec Ideal S1x128 .f32) (ix2 0 d) = if h : d.val < 32 then DB m c (ix2 0 ⟨d.val, h⟩) else 0 := by
  have h : (V m c main_v18 : FVec Ideal S1x128 .f32) = pad S1x128 ![0, 0] ![0, 96] ![0, 0] (shapeCast S1x32 (shapeCast S32 (DB m c) shapeCasts_S1x32_S32 : FVec Ideal S32 .f32) shapeCasts_S32_S1x32 : FVec Ideal S1x32 .f32) pz pads_S1x32_S1x128_000_0960 h_S_ := by
    show StableHlo.after (List.flatten [hostOps0, hostOps0_1, hostOps0_2, hostOps0_3, hostOps0_4]) _ (Proc.devRef .tc main_v18) = _
    simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
    after_results
    rfl
  rw [h]
  exact pad_db _ _ pz_at _
theorem V_v7 : (V m c main_v7 : FVec Ideal S1024x256 .bf16) = wsp (wpad (WO m c)) := by
  show StableHlo.after (List.flatten [hostOps0, hostOps0_1, hostOps0_2, hostOps0_3, hostOps0_4]) _ (Proc.devRef .tc main_v7) = _
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results
  rfl

theorem iblk0_at (t : Fin cfg0.N) (n : Fin 8) (u : ℕ) (hu : u < 4) (ht : t.val = 4 * n.val + u) (r : Fin 512) (d : Fin 1024) (T : Fin 2048) (hT : T.val = 512 * u + r.val) :
    (iblk m c 0 t : Vec Ideal S1x512x1024 .f32) (ix3 0 r d) = X m c (ix3 n T d) := by
  have hi : ∀ t : Fin cfg0.N, win0_0.index t (0 : Fin 3) = t.val / 4 ∧ win0_0.index t (1 : Fin 3) = t.val % 4 ∧ win0_0.index t (2 : Fin 3) = 0 :=
    (by decide +kernel : ∀ t : Fin grid0.N, _)
  obtain ⟨h0, h1, h2⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 3) * 1 + 1 * 0 = n.val; rw [h0] <;> omega
  | ⟨1, _⟩ => show win0_0.index t (1 : Fin 3) * 512 + 1 * r.val = T.val; rw [h1] <;> omega
  | ⟨2, _⟩ => show win0_0.index t (2 : Fin 3) * 1024 + 1 * d.val = d.val; rw [h2] <;> omega

theorem iblk1_at (t : Fin cfg0.N) (n : Fin 8) (u : ℕ) (hu : u < 4) (ht : t.val = 4 * n.val + u) (d : Fin 1024) :
    (iblk m c 1 t : Vec Ideal S1x1x1024 .f32) (ix3 0 0 d) = MO m c (ix2 n ⟨d.val, by omega⟩) := by
  have hi : ∀ t : Fin cfg0.N, win0_1.index t (0 : Fin 3) = t.val / 4 ∧ win0_1.index t (1 : Fin 3) = 0 ∧ win0_1.index t (2 : Fin 3) = 0 :=
    (by decide +kernel : ∀ t : Fin grid0.N, _)
  obtain ⟨h0, h1, h2⟩ := hi t
  unfold iblk
  rw [View.read_apply]
  show V m c main_v8 _ = _
  refine Eq.trans (congrArg (V m c main_v8) ?_) (V_v8 m c n ⟨d.val, by omega⟩)
  funext a
  apply Fin.ext
  match a with
  | ⟨0, _⟩ => show win0_1.index t (0 : Fin 3) * 1 + 1 * 0 = n.val; rw [h0] <;> omega
  | ⟨1, _⟩ => show win0_1.index t (1 : Fin 3) * 1 + 1 * 0 = 0; rw [h1] <;> omega
  | ⟨2, _⟩ => show win0_1.index t (2 : Fin 3) * 1024 + 1 * d.val = d.val; rw [h2] <;> omega

theorem iblk2_at (t : Fin cfg0.N) (n : Fin 8) (u : ℕ) (hu : u < 4) (ht : t.val = 4 * n.val + u) (d : Fin 1024) :
    (iblk m c 2 t : Vec Ideal S1x1x1024 .f32) (ix3 0 0 d) = MO m c (ix2 n ⟨1024 + d.val, by omega⟩) := by
  have hi : ∀ t : Fin cfg0.N, win0_2.index t (0 : Fin 3) = t.val / 4 ∧ win0_2.index t (1 : Fin 3) = 0 ∧ win0_2.index t (2 : Fin 3) = 1 :=
    (by decide +kernel : ∀ t : Fin grid0.N, _)
  obtain ⟨h0, h1, h2⟩ := hi t
  unfold iblk
  rw [View.read_apply]
  show V m c main_v8 _ = _
  refine Eq.trans (congrArg (V m c main_v8) ?_) (V_v8 m c n ⟨1024 + d.val, by omega⟩)
  funext a
  apply Fin.ext
  match a with
  | ⟨0, _⟩ => show win0_2.index t (0 : Fin 3) * 1 + 1 * 0 = n.val; rw [h0] <;> omega
  | ⟨1, _⟩ => show win0_2.index t (1 : Fin 3) * 1 + 1 * 0 = 0; rw [h1] <;> omega
  | ⟨2, _⟩ => show win0_2.index t (2 : Fin 3) * 1024 + 1 * d.val = 1024 + d.val; rw [h2] <;> omega

theorem iblk3_at (t : Fin cfg0.N) (d : Fin 1024) :
    (iblk m c 3 t : Vec Ideal S1x1024 .f32) (ix2 0 d) = NM m c (ix2 1 d) := by
  have hi : ∀ t : Fin cfg0.N, win0_3.index t (0 : Fin 2) = 0 ∧ win0_3.index t (1 : Fin 2) = 0 :=
    (by decide +kernel : ∀ t : Fin grid0.N, _)
  obtain ⟨h0, h1⟩ := hi t
  unfold iblk
  rw [View.read_apply]
  show V m c main_v19 _ = _
  refine Eq.trans (congrArg (V m c main_v19) ?_) (V_v19 m c d)
  funext a
  apply Fin.ext
  match a with
  | ⟨0, _⟩ => show win0_3.index t (0 : Fin 2) * 1 + 1 * 0 = 0; rw [h0] <;> omega
  | ⟨1, _⟩ => show win0_3.index t (1 : Fin 2) * 1024 + 1 * d.val = d.val; rw [h1] <;> omega

theorem iblk4_at (t : Fin cfg0.N) (k : Fin 1024) (d : Fin 5152) :
    (iblk m c 4 t : Vec Ideal S1024x5152 .bf16) (ix2 k d) = WO m c (ix3 0 k d) := by
  have hi : ∀ t : Fin cfg0.N, win0_4.index t (0 : Fin 2) = 0 ∧ win0_4.index t (1 : Fin 2) = 0 :=
    (by decide +kernel : ∀ t : Fin grid0.N, _)
  obtain ⟨h0, h1⟩ := hi t
  unfold iblk
  rw [View.read_apply]
  show V m c main_v12 _ = _
  refine Eq.trans (congrArg (V m c main_v12) ?_) (V_v12 m c k d)
  funext a
  apply Fin.ext
  match a with
  | ⟨0, _⟩ => show win0_4.index t (0 : Fin 2) * 1024 + 1 * k.val = k.val; rw [h0] <;> omega
  | ⟨1, _⟩ => show win0_4.index t (1 : Fin 2) * 5152 + 1 * d.val = d.val; rw [h1] <;> omega

theorem iblk5_at (t : Fin cfg0.N) (k : Fin 1024) (q : Fin 256) :
    (iblk m c 5 t : Vec Ideal S1024x256 .bf16) (ix2 k q) = wsp (wpad (WO m c)) (ix2 k q) := by
  have hi : ∀ t : Fin cfg0.N, win0_5.index t (0 : Fin 2) = 0 ∧ win0_5.index t (1 : Fin 2) = 0 :=
    (by decide +kernel : ∀ t : Fin grid0.N, _)
  obtain ⟨h0, h1⟩ := hi t
  unfold iblk
  rw [View.read_apply]
  show V m c main_v7 _ = _
  refine Eq.trans (congrArg (V m c main_v7) ?_) (congrFun (V_v7 m c) (ix2 k q))
  funext a
  apply Fin.ext
  match a with
  | ⟨0, _⟩ => show win0_5.index t (0 : Fin 2) * 1024 + 1 * k.val = k.val; rw [h0] <;> omega
  | ⟨1, _⟩ => show win0_5.index t (1 : Fin 2) * 256 + 1 * q.val = q.val; rw [h1] <;> omega

theorem iblk6_at (t : Fin cfg0.N) (a : Fin 4) (q : Fin 3072) :
    (iblk m c 6 t : Vec Ideal S4x3072 .f32) (ix2 a q) = CW m c (ix3 0 a q) := by
  have hi : ∀ t : Fin cfg0.N, win0_6.index t (0 : Fin 2) = 0 ∧ win0_6.index t (1 : Fin 2) = 0 :=
    (by decide +kernel : ∀ t : Fin grid0.N, _)
  obtain ⟨h0, h1⟩ := hi t
  unfold iblk
  rw [View.read_apply]
  show V m c main_v13 _ = _
  refine Eq.trans (congrArg (V m c main_v13) ?_) (V_v13 m c a q)
  funext b
  apply Fin.ext
  match b with
  | ⟨0, _⟩ => show win0_6.index t (0 : Fin 2) * 4 + 1 * a.val = a.val; rw [h0] <;> omega
  | ⟨1, _⟩ => show win0_6.index t (1 : Fin 2) * 3072 + 1 * q.val = q.val; rw [h1] <;> omega

theorem iblk7_at (t : Fin cfg0.N) (q : Fin 3072) :
    (iblk m c 7 t : Vec Ideal S1x3072 .f32) (ix2 0 q) = CB m c (ix2 0 q) := by
  have hi : ∀ t : Fin cfg0.N, win0_7.index t (0 : Fin 2) = 0 ∧ win0_7.index t (1 : Fin 2) = 0 :=
    (by decide +kernel : ∀ t : Fin grid0.N, _)
  obtain ⟨h0, h1⟩ := hi t
  unfold iblk
  rw [View.read_apply]
  show V m c main_v15 _ = _
  refine Eq.trans (congrArg (V m c main_v15) ?_) (V_v15 m c q)
  funext a
  apply Fin.ext
  match a with
  | ⟨0, _⟩ => show win0_7.index t (0 : Fin 2) * 1 + 1 * 0 = 0; rw [h0] <;> omega
  | ⟨1, _⟩ => show win0_7.index t (1 : Fin 2) * 3072 + 1 * q.val = q.val; rw [h1] <;> omega

theorem iblk8_at (t : Fin cfg0.N) (d : Fin 128) :
    (iblk m c 8 t : Vec Ideal S1x128 .f32) (ix2 0 d) = if h : d.val < 32 then DB m c (ix2 0 ⟨d.val, h⟩) else 0 := by
  have hi : ∀ t : Fin cfg0.N, win0_8.index t (0 : Fin 2) = 0 ∧ win0_8.index t (1 : Fin 2) = 0 :=
    (by decide +kernel : ∀ t : Fin grid0.N, _)
  obtain ⟨h0, h1⟩ := hi t
  unfold iblk
  rw [View.read_apply]
  show V m c main_v18 _ = _
  refine Eq.trans (congrArg (V m c main_v18) ?_) (V_v18 m c d)
  funext a
  apply Fin.ext
  match a with
  | ⟨0, _⟩ => show win0_8.index t (0 : Fin 2) * 1 + 1 * 0 = 0; rw [h0] <;> omega
  | ⟨1, _⟩ => show win0_8.index t (1 : Fin 2) * 128 + 1 * d.val = d.val; rw [h1] <;> omega

/-- The point's hidden tile. -/
abbrev hB (t : Fin cfg0.N) : FVec Ideal S512x1024 .bf16 := hOf (F := Ideal) (iblk m c 0 t) (iblk m c 3 t) (iblk m c 2 t) (iblk m c 1 t)

theorem hB_at (t : Fin cfg0.N) (n : Fin 8) (u : ℕ) (hu : u < 4) (ht : t.val = 4 * n.val + u) (r : Fin 512) (k : Fin 1024) (T : Fin 2048) (hT : T.val = 512 * u + r.val) :
    (hB m c t (ix2 r k) : EReal) = hO (X m c) (MO m c) (NM m c) n T k := by
  refine (hOf_at _ _ _ _ r k).trans ?_
  unfold hO
  simp only [iblk0_at m c t n u hu ht r _ T hT, iblk1_at m c t n u hu ht, iblk2_at m c t n u hu ht, iblk3_at]

theorem bW_at (t : Fin cfg0.N) (j : Fin 20) (k : Fin 1024) (d : Fin 256) (q : Fin 5152) (hq : q.val = 256 * j.val + d.val) :
    (bW (F := Ideal) (iblk m c 4 t) j (ix2 k d) : EReal) = WO m c (ix3 0 k q) := by
  refine Eq.trans ?_ (iblk4_at m c t k q)
  refine View.ld_unit_apply_of _ _ _ _ _ _ fun a => ?_
  match a with
  | ⟨0, _⟩ => exact (Nat.zero_add _).symm
  | ⟨1, _⟩ => exact hq
theorem bK_at (t : Fin cfg0.N) (j : Fin 12) (a : Fin 4) (d : Fin 256) (q : Fin 3072) (hq : q.val = 256 * j.val + d.val) :
    (bK (F := Ideal) (iblk m c 6 t) j (ix2 a d) : EReal) = CW m c (ix3 0 a q) := by
  refine Eq.trans ?_ (iblk6_at m c t a q)
  refine View.ld_unit_apply_of _ _ _ _ _ _ fun a => ?_
  match a with
  | ⟨0, _⟩ => exact (Nat.zero_add _).symm
  | ⟨1, _⟩ => exact hq
theorem bB_at (t : Fin cfg0.N) (j : Fin 12) (d : Fin 256) (q : Fin 3072) (hq : q.val = 256 * j.val + d.val) :
    (bB (F := Ideal) (iblk m c 7 t) j (ix2 0 d) : EReal) = CB m c (ix2 0 q) := by
  refine Eq.trans ?_ (iblk7_at m c t q)
  refine View.ld_unit_apply_of _ _ _ _ _ _ fun a => ?_
  match a with
  | ⟨0, _⟩ => exact (Nat.zero_add _).symm
  | ⟨1, _⟩ => exact hq
theorem b5h_at (t : Fin cfg0.N) (k : Fin 1024) (d : Fin 128) :
    (b5h (F := Ideal) (iblk m c 5 t) (ix2 k d) : EReal) = wp (WO m c) k d := by
  refine Eq.trans ?_ ((iblk5_at m c t k ⟨d.val, by omega⟩).trans ((wsp_hi _ k d _ rfl).trans (wpad_at _ k d)))
  refine View.ld_unit_apply_of _ _ _ _ _ _ fun a => ?_
  match a with
  | ⟨0, _⟩ => exact (Nat.zero_add _).symm
  | ⟨1, _⟩ => exact (Nat.zero_add _).symm

end Cert.InOdd

end
-- ==== Proof.OddOut.lean ====
/- The odd layer's input call over the extended reals: what its points leave, and its five results. -/
module

public import proofs.«01_k».proof.Proof.OddValue

@[expose] public section

set_option maxRecDepth 65536

noncomputable section

namespace Cert.InOdd

open Idealize.ShloMosaic Idealize.ShloMosaic.TcCoe Idealize.ShloMosaic.Tactic Idealize.SL.Sem Cert.Kernel4Ideal Cert.Kernel4Ideal.Gen Cert.Layer

/-! ## Real rows have real hidden rows -/

theorem irms_real (x : Fin 1024 → ℝ) : ∃ r : ℝ, irms (fun k => (x k : EReal)) = r := by
  obtain ⟨S, h0, hs⟩ : ∃ S : ℝ, 0 ≤ S ∧ (∑ k, (x k : EReal) * x k) = S :=
    Finset.sum_induction (fun k => (x k : EReal) * x k) (fun e => ∃ S : ℝ, 0 ≤ S ∧ e = S)
      (fun a b ⟨p, hp, ha⟩ ⟨q, hq, hb⟩ => ⟨p + q, add_nonneg hp hq, by rw [ha, hb, EReal.coe_add]⟩) ⟨0, le_refl _, rfl⟩
      (fun k _ => ⟨x k * x k, mul_self_nonneg _, (EReal.coe_mul _ _).symm⟩)
  have e1 : Ideal.ofBits .f32 0x44800000#32 = ((1024 : ℝ) : EReal) := by
    simp [Ideal.ofBits, Ideal.ieee, -EReal.coe_mul]
    norm_num
  have e2 : Ideal.ofBits .f32 0x358637BD#32 = ((8796093 * (2 : ℝ) ^ (-43 : ℤ) : ℝ) : EReal) := by
    simp [Ideal.ofBits, Ideal.ieee, -EReal.coe_mul]
  unfold irms
  rw [hs, e1, e2]
  unfold Ideal.div
  rw [if_neg (by norm_num), ← EReal.coe_inv, ← EReal.coe_mul, ← EReal.coe_add]
  have hp : 0 < S * (1024 : ℝ)⁻¹ + 8796093 * (2 : ℝ) ^ (-43 : ℤ) := by positivity
  refine ⟨_, (if_neg (not_lt.mpr hp.le)).trans (if_neg hp.ne')⟩

theorem hid_real (x g s b : Fin 1024 → EReal) (hx : ∀ k, ∃ r : ℝ, x k = r) (hg : ∀ k, ∃ r : ℝ, g k = r) (hs : ∀ k, ∃ r : ℝ, s k = r) (hb : ∀ k, ∃ r : ℝ, b k = r)
    (k : Fin 1024) : ∃ r : ℝ, hid x g s b k = r := by
  choose x' hx using hx
  obtain rfl : x = fun k => (x' k : EReal) := funext hx
  obtain ⟨i, hi⟩ := irms_real x'
  obtain ⟨g', hg⟩ := hg k
  obtain ⟨s', hs⟩ := hs k
  obtain ⟨b', hb⟩ := hb k
  unfold hid
  rw [hi, hg, hs, hb]
  refine ⟨x' k * i * g' * (1 + s') + b', ?_⟩
  simp only [EReal.coe_add, EReal.coe_mul, EReal.coe_one]

theorem sub_real (a : EReal) (h : ∃ r : ℝ, a = r) : a - a = 0 := by
  obtain ⟨r, rfl⟩ := h
  rw [← EReal.coe_sub, sub_self, EReal.coe_zero]

/-! ## What the points leave -/

variable (m : (ℓ : Loc nD τ sig) → Buf (Elt Ideal) ℓ) (c : Dev nD)

abbrev PO := pO (X m c) (MO m c) (NM m c) (WO m c)
abbrev UO := uO (X m c) (MO m c) (NM m c) (WO m c)
abbrev CO := cO (X m c) (MO m c) (NM m c) (WO m c) (CW m c) (CB m c)
abbrev DO := dO (X m c) (MO m c) (NM m c) (WO m c) (DB m c)

theorem z_pt (t : Fin cfg0.N) (n : Fin 8) (u : ℕ) (hu : u < 4) (ht : t.val = 4 * n.val + u) (r : Fin 512) (q : Fin 2048) (T : Fin 2048) (hT : T.val = 512 * u + r.val)
    (Q : Fin 5152) (hQ : Q.val = q.val) : (outsAt0 m c t.val t.isLt).1 (ix3 0 r q) = PO m c n T Q := by
  have hj : q.val / 256 < 8 := by omega
  have hd : q.val % 256 < 256 := by omega
  have hq : q.val = 256 * (⟨q.val / 256, hj⟩ : Fin 8).val + (⟨q.val % 256, hd⟩ : Fin 256).val := by dsimp only; omega
  have hZ := zt_pt (X m c) (MO m c) (NM m c) (WO m c) n u _ _ (hB_at m c t n u hu ht) (bW_at m c t) ⟨q.val / 256, hj⟩ r ⟨q.val % 256, hd⟩ T hT Q (hQ.trans hq)
  by_cases hz : t.val % 4 = 0
  · rw [outsAt0_A m c t hz]
    dsimp only
    rw [outA9 (j := ⟨q.val / 256, hj⟩) (r := r) (d := ⟨q.val % 256, hd⟩) (q := q) (hq := hq)]
    exact hZ
  · rw [outsAt0_B m c t hz]
    dsimp only
    rw [outB9 (j := ⟨q.val / 256, hj⟩) (r := r) (d := ⟨q.val % 256, hd⟩) (q := q) (hq := hq)]
    exact hZ

/-- The rows a quarter leaves for the next. -/
theorem tail_pt (t : Fin cfg0.N) (n : Fin 8) (u : ℕ) (hu : u < 4) (ht : t.val = 4 * n.val + u) (a : Fin 8) (q : Fin 3072) :
    (outsAt0 m c t.val t.isLt).2.2.2.2.2 (ix2 a q) = UO m c n (512 * u + 507 + a.val) q := by
  have hj : q.val / 256 < 12 := by omega
  have hd : q.val % 256 < 256 := by omega
  have hr : 504 + a.val < 512 := by omega
  have hq : q.val = 256 * (⟨q.val / 256, hj⟩ : Fin 12).val + (⟨q.val % 256, hd⟩ : Fin 256).val := by dsimp only; omega
  have hX := xr_pt (X m c) (MO m c) (NM m c) (WO m c) n u hu _ _ (hB_at m c t n u hu ht) (bW_at m c t) ⟨q.val / 256, hj⟩ ⟨504 + a.val, hr⟩ ⟨q.val % 256, hd⟩
    (512 * u + 507 + a.val) (by dsimp only; omega) q hq
  by_cases hz : t.val % 4 = 0
  · rw [outsAt0_A m c t hz]
    dsimp only
    rw [soutA]
    exact (nxt_at _ _ _ a _ q hq _ rfl).trans hX
  · rw [outsAt0_B m c t hz]
    dsimp only
    rw [soutB]
    exact (nxt_at _ _ _ a _ q hq _ rfl).trans hX

theorem mct_pt (t : Fin cfg0.N) (n : Fin 8) (ht : t.val = 4 * n.val + 3) (a : Fin 3) (q : Fin 3072) :
    (outsAt0 m c t.val t.isLt).2.2.2.2.1 (ix3 0 a q) = UO m c n (2048 + a.val) q := by
  have hj : q.val / 256 < 12 := by omega
  have hd : q.val % 256 < 256 := by omega
  have hr : 509 + a.val < 512 := by omega
  have hq : q.val = 256 * (⟨q.val / 256, hj⟩ : Fin 12).val + (⟨q.val % 256, hd⟩ : Fin 256).val := by dsimp only; omega
  have hX := xr_pt (X m c) (MO m c) (NM m c) (WO m c) n 3 (by decide) _ _ (hB_at m c t n 3 (by decide) ht) (bW_at m c t) ⟨q.val / 256, hj⟩ ⟨509 + a.val, hr⟩ ⟨q.val % 256, hd⟩
    (2048 + a.val) (by dsimp only; omega) q hq
  rw [outsAt0_B m c t (by omega)]
  dsimp only
  rw [outB13]
  exact (mct_at _ _ _ a _ q hq _ rfl).trans hX

/-- A quarter's taps: the rows before its first are the last quarter's, or zeros. -/
theorem taps_at (t : Fin cfg0.N) (n : Fin 8) (u : ℕ) (hu : u < 4) (ht : t.val = 4 * n.val + u) (t8 : Fin 8 → EReal) (j : Fin 12) (d : Fin 256) (q : Fin 3072) (hq : q.val = 256 * j.val + d.val)
    (h8 : ∀ a : Fin 8, 5 ≤ a.val → t8 a = UO m c n (512 * u + (a.val - 5)) q) (r : Fin 512) (T : Fin 2048) (hT : T.val = 512 * u + r.val) :
    taps (fun r => xr (hB m c t) (bW (F := Ideal) (iblk m c 4 t)) j (ix2 r d)) t8 (fun a => bK (F := Ideal) (iblk m c 6 t) j (ix2 a d)) (bB (F := Ideal) (iblk m c 7 t) j (ix2 0 d)) r = CO m c n T q :=
  taps_pt (X m c) (MO m c) (NM m c) (WO m c) (CW m c) (CB m c) n u hu _ _ (hB_at m c t n u hu ht) (bW_at m c t) t8 _ _ j d q hq h8 (fun a => bK_at m c t j a d q hq) (bB_at m c t j d q hq) r T hT

theorem lo_pt (t : Fin cfg0.N) (n : Fin 8) (u : ℕ) (hu : u < 4) (ht : t.val = 4 * n.val + u) (t8 : FVec Ideal S8x3072 .f32) (j : Fin 12) (d : Fin 256) (q : Fin 3072) (hq : q.val = 256 * j.val + d.val)
    (h8 : ∀ a : Fin 8, 5 ≤ a.val → t8 (ix2 a q) = UO m c n (512 * u + (a.val - 5)) q) (r : Fin 256) (T : Fin 2048) (hT : T.val = 512 * u + r.val) :
    (lo (hB m c t) (bW (F := Ideal) (iblk m c 4 t)) (bK (F := Ideal) (iblk m c 6 t)) (bB (F := Ideal) (iblk m c 7 t)) t8 j (ix3 0 r d) : EReal) = CO m c n T q :=
  (lo_at _ _ _ _ t8 j r d ⟨r.val, by omega⟩ rfl q hq).trans (taps_at m c t n u hu ht _ j d q hq h8 ⟨r.val, by omega⟩ T hT)

theorem hi_pt (t : Fin cfg0.N) (n : Fin 8) (u : ℕ) (hu : u < 4) (ht : t.val = 4 * n.val + u) (j : Fin 12) (d : Fin 256) (q : Fin 3072) (hq : q.val = 256 * j.val + d.val)
    (r : Fin 256) (T : Fin 2048) (hT : T.val = 512 * u + (256 + r.val)) :
    (hi (hB m c t) (bW (F := Ideal) (iblk m c 4 t)) (bK (F := Ideal) (iblk m c 6 t)) (bB (F := Ideal) (iblk m c 7 t)) j (ix3 0 r d) : EReal) = CO m c n T q :=
  (hi_at _ _ _ _ (fun a => UO m c n (512 * u + (a.val - 5)) q) j r d ⟨256 + r.val, by omega⟩ rfl).trans (taps_at m c t n u hu ht _ j d q hq (fun _ _ => rfl) ⟨256 + r.val, by omega⟩ T hT)

theorem first_tail (n : Fin 8) (u : ℕ) (hu : u = 0) (q : Fin 3072) (a : Fin 8) (ha : 5 ≤ a.val) : (k0_pay5 (F := Ideal) (ix2 a q) : EReal) = UO m c n (512 * u + (a.val - 5)) q := by
  refine (pay5_at a q).trans ?_
  unfold UO uO
  rw [dif_neg (by omega)]
theorem next_tail (t : Fin cfg0.N) (n : Fin 8) (u : ℕ) (hu : u < 4) (ht : t.val = 4 * n.val + u) (h0 : u ≠ 0) (q : Fin 3072) (a : Fin 8) (ha : 5 ≤ a.val) :
    (outsAt0 m c (t.val - 1) (Nat.lt_of_le_of_lt (Nat.sub_le _ _) t.isLt)).2.2.2.2.2 (ix2 a q) = UO m c n (512 * u + (a.val - 5)) q := by
  refine (tail_pt m c ⟨t.val - 1, Nat.lt_of_le_of_lt (Nat.sub_le _ _) t.isLt⟩ n (u - 1) (by omega) (by dsimp only; omega) a q).trans ?_
  exact congrArg (fun p => UO m c n p q) (by omega)

theorem xs_pt (t : Fin cfg0.N) (n : Fin 8) (u : ℕ) (hu : u < 4) (ht : t.val = 4 * n.val + u) (r : Fin 512) (q : Fin 2048) (T : Fin 2048) (hT : T.val = 512 * u + r.val)
    (Q : Fin 3072) (hQ : Q.val = q.val) : (outsAt0 m c t.val t.isLt).2.1 (ix3 0 r q) = CO m c n T Q := by
  have hj : q.val / 256 < 8 := by omega
  have hd : q.val % 256 < 256 := by omega
  have hq : q.val = 256 * (⟨q.val / 256, hj⟩ : Fin 8).val + (⟨q.val % 256, hd⟩ : Fin 256).val := by dsimp only; omega
  by_cases hz : t.val % 4 = 0
  · rw [outsAt0_A m c t hz]
    dsimp only
    by_cases hr : r.val < 256
    · rw [outA10lo (j := ⟨q.val / 256, hj⟩) (r := ⟨r.val, hr⟩) (d := ⟨q.val % 256, hd⟩) (a := r) (ha := rfl) (q := q) (hq := hq)]
      exact lo_pt m c t n u hu ht _ _ _ Q (hQ.trans hq) (first_tail m c n u (by omega) Q) _ T hT
    · rw [outA10hi (j := ⟨q.val / 256, hj⟩) (r := ⟨r.val - 256, by omega⟩) (d := ⟨q.val % 256, hd⟩) (a := r) (ha := by dsimp only; omega) (q := q) (hq := hq)]
      exact hi_pt m c t n u hu ht _ _ Q (hQ.trans hq) _ T (by dsimp only; omega)
  · rw [outsAt0_B m c t hz]
    dsimp only
    by_cases hr : r.val < 256
    · rw [outB10lo (j := ⟨q.val / 256, hj⟩) (r := ⟨r.val, hr⟩) (d := ⟨q.val % 256, hd⟩) (a := r) (ha := rfl) (q := q) (hq := hq)]
      exact lo_pt m c t n u hu ht _ _ _ Q (hQ.trans hq) (next_tail m c t n u hu ht (by omega) Q) _ T hT
    · rw [outB10hi (j := ⟨q.val / 256, hj⟩) (r := ⟨r.val - 256, by omega⟩) (d := ⟨q.val % 256, hd⟩) (a := r) (ha := by dsimp only; omega) (q := q) (hq := hq)]
      exact hi_pt m c t n u hu ht _ _ Q (hQ.trans hq) _ T (by dsimp only; omega)

theorem bc_pt (t : Fin cfg0.N) (n : Fin 8) (u : ℕ) (hu : u < 4) (ht : t.val = 4 * n.val + u) (r : Fin 512) (q : Fin 1024) (T : Fin 2048) (hT : T.val = 512 * u + r.val)
    (Q : Fin 3072) (hQ : Q.val = 2048 + q.val) : (outsAt0 m c t.val t.isLt).2.2.1 (ix3 0 r q) = CO m c n T Q := by
  have hj : q.val / 256 < 4 := by omega
  have hd : q.val % 256 < 256 := by omega
  have hq : q.val = 256 * (⟨q.val / 256, hj⟩ : Fin 4).val + (⟨q.val % 256, hd⟩ : Fin 256).val := by dsimp only; omega
  by_cases hz : t.val % 4 = 0
  · rw [outsAt0_A m c t hz]
    dsimp only
    by_cases hr : r.val < 256
    · rw [outA11lo (j := ⟨q.val / 256, hj⟩) (r := ⟨r.val, hr⟩) (d := ⟨q.val % 256, hd⟩) (a := r) (ha := rfl) (q := q) (hq := hq)]
      exact lo_pt m c t n u hu ht _ _ _ Q (by dsimp only; omega) (first_tail m c n u (by omega) Q) _ T hT
    · rw [outA11hi (j := ⟨q.val / 256, hj⟩) (r := ⟨r.val - 256, by omega⟩) (d := ⟨q.val % 256, hd⟩) (a := r) (ha := by dsimp only; omega) (q := q) (hq := hq)]
      exact hi_pt m c t n u hu ht _ _ Q (by dsimp only; omega) _ T (by dsimp only; omega)
  · rw [outsAt0_B m c t hz]
    dsimp only
    by_cases hr : r.val < 256
    · rw [outB11lo (j := ⟨q.val / 256, hj⟩) (r := ⟨r.val, hr⟩) (d := ⟨q.val % 256, hd⟩) (a := r) (ha := rfl) (q := q) (hq := hq)]
      exact lo_pt m c t n u hu ht _ _ _ Q (by dsimp only; omega) (next_tail m c t n u hu ht (by omega) Q) _ T hT
    · rw [outB11hi (j := ⟨q.val / 256, hj⟩) (r := ⟨r.val - 256, by omega⟩) (d := ⟨q.val % 256, hd⟩) (a := r) (ha := by dsimp only; omega) (q := q) (hq := hq)]
      exact hi_pt m c t n u hu ht _ _ Q (by dsimp only; omega) _ T (by dsimp only; omega)

/-! ## The step sizes: the halves of the split add up, the arrays being real numbers -/

/-- Every entry of the arrays the step sizes read is a real number. -/
structure Real : Prop where
  x : ∀ i, ∃ r : ℝ, X m c i = r
  mo : ∀ i, ∃ r : ℝ, MO m c i = r
  nm : ∀ i, ∃ r : ℝ, NM m c i = r
  w : ∀ i, ∃ r : ℝ, WO m c i = r

variable {m c} in
theorem Real.hid (H : Real m c) (n : Fin 8) (t : Fin 2048) (k : Fin 1024) : hO (X m c) (MO m c) (NM m c) n t k - hO (X m c) (MO m c) (NM m c) n t k = 0 :=
  sub_real _ (hid_real _ _ _ _ (fun _ => H.x _) (fun _ => H.nm _) (fun _ => H.mo _) (fun _ => H.mo _) k)
variable {m c} in
theorem Real.pad (H : Real m c) (k : Fin 1024) (d : Fin 128) : wp (WO m c) k d - wp (WO m c) k d = 0 := by
  unfold wp
  split
  · exact sub_real _ (H.w _)
  · exact sub_zero _

theorem dt_at (H : Real m c) (t : Fin cfg0.N) (n : Fin 8) (u : ℕ) (hu : u < 4) (ht : t.val = 4 * n.val + u) (r : Fin 512) (d : Fin 128) (T : Fin 2048) (hT : T.val = 512 * u + r.val) :
    (dtOf (F := Ideal) (iblk m c 0 t) (iblk m c 3 t) (iblk m c 2 t) (iblk m c 1 t) (iblk m c 5 t) (b5h (F := Ideal) (iblk m c 5 t)) (iblk m c 8 t) (ix3 0 r d) : EReal) = DO m c n T d := by
  have hb := hB_at m c t n u hu ht r
  unfold dtOf
  refine (pay11_at _ _ _ _ _ r d ⟨128 + d.val, by omega⟩ rfl).trans ?_
  rw [pay10_at _ _ _ _ _ r d ⟨d.val, by omega⟩ rfl, pay9_at, pay9_at, iblk8_at]
  have h1 : (∑ k, hB m c t (ix2 r k) * (iblk m c 5 t : Vec Ideal S1024x256 .bf16) (ix2 k ⟨d.val, by omega⟩) : EReal) = ∑ k, hO (X m c) (MO m c) (NM m c) n T k * wp (WO m c) k d :=
    Finset.sum_congr rfl fun k _ => congrArg₂ (· * ·) (hb k T hT) ((iblk5_at m c t k _).trans ((wsp_hi _ k d _ rfl).trans (wpad_at _ k d)))
  have h2 : (∑ k, hB m c t (ix2 r k) * (iblk m c 5 t : Vec Ideal S1024x256 .bf16) (ix2 k ⟨128 + d.val, by omega⟩) : EReal) = 0 :=
    Finset.sum_eq_zero fun k _ => by
      rw [iblk5_at, wsp_lo _ k d _ rfl, wpad_at, H.pad, mul_zero]
  have h3 : (∑ k, k0_pay8 (F := Ideal) (iblk m c 0 t) (iblk m c 3 t) (iblk m c 2 t) (iblk m c 1 t) (ix2 r k) * b5h (F := Ideal) (iblk m c 5 t) (ix2 k d) : EReal) = 0 :=
    Finset.sum_eq_zero fun k _ => by
      rw [pay8_at, show hOf (F := Ideal) (iblk m c 0 t) (iblk m c 3 t) (iblk m c 2 t) (iblk m c 1 t) (ix2 r k) = _ from hb k T hT, H.hid, zero_mul]
  rw [h1, h2, h3, add_zero, add_zero]
  unfold DO dO
  refine congrArg spl ?_
  split
  · rename_i hd
    unfold pO
    refine congrArg₂ (· + ·) (Finset.sum_congr rfl fun k _ => ?_) rfl
    unfold wp
    rw [dif_pos hd]
  · rename_i hd
    refine (add_zero _).trans (Finset.sum_eq_zero fun k _ => ?_)
    unfold wp
    rw [dif_neg hd, mul_zero]

theorem dt_pt (H : Real m c) (t : Fin cfg0.N) (n : Fin 8) (u : ℕ) (hu : u < 4) (ht : t.val = 4 * n.val + u) (r : Fin 512) (d : Fin 128) (T : Fin 2048) (hT : T.val = 512 * u + r.val) :
    (outsAt0 m c t.val t.isLt).2.2.2.1 (ix3 0 r d) = DO m c n T d := by
  by_cases hz : t.val % 4 = 0
  · rw [outsAt0_A m c t hz]
    dsimp only
    rw [outA12]
    exact dt_at m c H t n u hu ht r d T hT
  · rw [outsAt0_B m c t hz]
    dsimp only
    rw [outB12]
    exact dt_at m c H t n u hu ht r d T hT

/-! ## The results -/

theorem G9_at (n : Fin 8) (T : Fin 2048) (q : Fin 2048) (Q : Fin 5152) (hQ : Q.val = q.val) : Value.G9 m c (ix3 n T q) = PO m c n T Q := by
  have hp : Value.pt9Of (ix3 n T q) = 4 * n.val + T.val / 512 := by
    show 4 * (n.val / 1 - 0) + 1 * (T.val / 512 - 0) + 1 * (q.val / 2048 - 0) = _
    omega
  have hN : Value.pt9Of (ix3 n T q) < cfg0.N := by rw [hp]; exact lt_of_lt_of_eq (by omega) (show cfg0.N = 32 from N_0).symm
  unfold Value.G9
  rw [dif_pos hN]
  have hs := Value.outsAt0_sweep m c _ hN
  rw [← hs]
  refine Eq.trans (congrArg (outsAt0 m c _ hN).1 ?_) (z_pt m c ⟨_, hN⟩ n (T.val / 512) (by omega) hp ⟨T.val % 512, by omega⟩ q T (by dsimp only; omega) Q hQ)
  funext a
  apply Fin.ext
  match a with
  | ⟨0, _⟩ => show n.val % 1 = 0; omega
  | ⟨1, _⟩ => show T.val % 512 = T.val % 512; rfl
  | ⟨2, _⟩ => show q.val % 2048 = q.val; omega

theorem G10_at (n : Fin 8) (T : Fin 2048) (q : Fin 2048) (Q : Fin 3072) (hQ : Q.val = q.val) : Value.G10 m c (ix3 n T q) = CO m c n T Q := by
  have hp : Value.pt10Of (ix3 n T q) = 4 * n.val + T.val / 512 := by
    show 4 * (n.val / 1 - 0) + 1 * (T.val / 512 - 0) + 1 * (q.val / 2048 - 0) = _
    omega
  have hN : Value.pt10Of (ix3 n T q) < cfg0.N := by rw [hp]; exact lt_of_lt_of_eq (by omega) (show cfg0.N = 32 from N_0).symm
  unfold Value.G10
  rw [dif_pos hN]
  have hs := Value.outsAt0_sweep m c _ hN
  rw [← hs]
  refine Eq.trans (congrArg (outsAt0 m c _ hN).2.1 ?_) (xs_pt m c ⟨_, hN⟩ n (T.val / 512) (by omega) hp ⟨T.val % 512, by omega⟩ q T (by dsimp only; omega) Q hQ)
  funext a
  apply Fin.ext
  match a with
  | ⟨0, _⟩ => show n.val % 1 = 0; omega
  | ⟨1, _⟩ => show T.val % 512 = T.val % 512; rfl
  | ⟨2, _⟩ => show q.val % 2048 = q.val; omega

theorem G11_at (n : Fin 8) (T : Fin 2048) (q : Fin 1024) (Q : Fin 3072) (hQ : Q.val = 2048 + q.val) : Value.G11 m c (ix3 n T q) = CO m c n T Q := by
  have hp : Value.pt11Of (ix3 n T q) = 4 * n.val + T.val / 512 := by
    show 4 * (n.val / 1 - 0) + 1 * (T.val / 512 - 0) + 1 * (q.val / 1024 - 0) = _
    omega
  have hN : Value.pt11Of (ix3 n T q) < cfg0.N := by rw [hp]; exact lt_of_lt_of_eq (by omega) (show cfg0.N = 32 from N_0).symm
  unfold Value.G11
  rw [dif_pos hN]
  have hs := Value.outsAt0_sweep m c _ hN
  rw [← hs]
  refine Eq.trans (congrArg (outsAt0 m c _ hN).2.2.1 ?_) (bc_pt m c ⟨_, hN⟩ n (T.val / 512) (by omega) hp ⟨T.val % 512, by omega⟩ q T (by dsimp only; omega) Q hQ)
  funext a
  apply Fin.ext
  match a with
  | ⟨0, _⟩ => show n.val % 1 = 0; omega
  | ⟨1, _⟩ => show T.val % 512 = T.val % 512; rfl
  | ⟨2, _⟩ => show q.val % 1024 = q.val; omega

theorem G12_at (H : Real m c) (n : Fin 8) (T : Fin 2048) (d : Fin 128) : Value.G12 m c (ix3 n T d) = DO m c n T d := by
  have hp : Value.pt12Of (ix3 n T d) = 4 * n.val + T.val / 512 := by
    show 4 * (n.val / 1 - 0) + 1 * (T.val / 512 - 0) + 1 * (d.val / 128 - 0) = _
    omega
  have hN : Value.pt12Of (ix3 n T d) < cfg0.N := by rw [hp]; exact lt_of_lt_of_eq (by omega) (show cfg0.N = 32 from N_0).symm
  unfold Value.G12
  rw [dif_pos hN]
  have hs := Value.outsAt0_sweep m c _ hN
  rw [← hs]
  refine Eq.trans (congrArg (outsAt0 m c _ hN).2.2.2.1 ?_) (dt_pt m c H ⟨_, hN⟩ n (T.val / 512) (by omega) hp ⟨T.val % 512, by omega⟩ d T (by dsimp only; omega))
  funext a
  apply Fin.ext
  match a with
  | ⟨0, _⟩ => show n.val % 1 = 0; omega
  | ⟨1, _⟩ => show T.val % 512 = T.val % 512; rfl
  | ⟨2, _⟩ => show d.val % 128 = d.val; omega

theorem G13_at (n : Fin 8) (a : Fin 3) (q : Fin 3072) : Value.G13 m c (ix3 n a q) = UO m c n (2048 + a.val) q := by
  have hp : Value.pt13Of (ix3 n a q) = 4 * n.val + 3 := by
    show 4 * (1 * (n.val / 1 - 0) + 1 * (a.val / 3 - 0) + 1 * (q.val / 3072 - 0)) + 3 = _
    omega
  have hN : Value.pt13Of (ix3 n a q) < cfg0.N := by rw [hp]; exact lt_of_lt_of_eq (by omega) (show cfg0.N = 32 from N_0).symm
  unfold Value.G13
  rw [dif_pos hN]
  have hs := Value.outsAt0_sweep m c _ hN
  rw [← hs]
  refine Eq.trans (congrArg (outsAt0 m c _ hN).2.2.2.2.1 ?_) (mct_pt m c ⟨_, hN⟩ n hp a q)
  funext b
  apply Fin.ext
  match b with
  | ⟨0, _⟩ => show n.val % 1 = 0; omega
  | ⟨1, _⟩ => show a.val % 3 = a.val; omega
  | ⟨2, _⟩ => show q.val % 3072 = q.val; omega

end Cert.InOdd

end
-- ==== Proof.RefOdd.lean ====
/- The reference of the odd layer's input call, entry by entry, over the extended reals. -/
module

public import proofs.«01_k».proof.Proof.Gen.Reference4Ideal.Run
public import proofs.«01_k».proof.Proof.OddOut

@[expose] public section

set_option maxRecDepth 65536

noncomputable section

namespace Cert.InOdd.Ref

open Idealize.ShloMosaic Idealize.ShloMosaic.TcCoe Idealize.ShloMosaic.Tactic Idealize.SL.Sem
open Cert.Reference4Ideal Cert.Reference4Ideal.Gen Cert.Layer

/-! ## The reference's arrays -/

/-- The normed and modulated rows. -/
def Hid (x : FVec Ideal S8x2048x1024 .f32) (mo : FVec Ideal S8x6144 .f32) (nm : FVec Ideal S2x1024 .f32) : FVec Ideal S8x2048x1024 .f32 :=
  addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] nm slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant (F := Ideal) S_ .f32 0x3F800000#32)) (extractStridedSlice S8x1x1024 ![0, 0, 1024] (broadcastInDim S8x1x6144 ![0, 2] bcast_S8x6144_S8x1x6144_0_2 mo) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 mo) slices_S8x1x6144_S8x1x1024_0_0_0))

/-- Their projection. -/
def Prj (h : FVec Ideal S8x2048x1024 .f32) (w : FVec Ideal S1x1024x5152 .f32) : FVec Ideal S8x2048x5152 .f32 :=
  Host.dotGeneral dot_S8x2048x1024_S1024x5152_S8x2048x5152_2_0_01_1_n_n none h (shapeCast _ w shapeCasts_S1x1024x5152_S1024x5152)

/-- The columns of the step sizes with their bias, padded. -/
def Pad (p : FVec Ideal S8x2048x5152 .f32) (db : FVec Ideal S1x32 .f32) : FVec Ideal S8x2048x128 .f32 :=
  pad S8x2048x128 ![0, 0, 0] ![0, 0, 96] ![0, 0, 0] (addf (extractStridedSlice S8x2048x32 ![0, 0, 5120] p slices_S8x2048x5152_S8x2048x32_0_0_5120) (broadcastInDim S8x2048x32 ![0, 1, 2] bcast_S1x1x32_S8x2048x32_0_1_2 (broadcastInDim S1x1x32 ![2] bcast_S32_S1x1x32_2 (shapeCast _ db shapeCasts_S1x32_S32)))) (sitofp (F := Ideal) .f32 (constantI S_ 32 0#32)) pads_S8x2048x32_S8x2048x128_000_000_0960 h_S_

/-- The softplus. -/
def Spl (t : FVec Ideal S8x2048x128 .f32) : FVec Ideal S8x2048x128 .f32 :=
  addf (maximumf t (broadcastInDim S8x2048x128 ![] bcast_S_S8x2048x128 (constant (F := Ideal) S_ .f32 0x00000000#32))) (Host.log1p (Host.exp (Host.negf (Host.absf t))))

/-- The convolution's input, three rows of zeros in front. -/
def Full (p : FVec Ideal S8x2048x5152 .f32) : FVec Ideal S8x2051x3072 .f32 :=
  concatenate S8x2051x3072 1 [⟨S8x3x3072, (broadcastInDim S8x3x3072 ![] bcast_S_S8x3x3072 (constant (F := Ideal) S_ .f32 0x00000000#32))⟩, ⟨S8x2048x3072, (extractStridedSlice S8x2048x3072 ![0, 0, 2048] p slices_S8x2048x5152_S8x2048x3072_0_0_2048)⟩] concatenates_S8x3x3072_S8x2048x3072_S8x2051x3072_d1

/-- The convolution. -/
def Conv (u : FVec Ideal S8x2051x3072 .f32) (cw : FVec Ideal S1x4x3072 .f32) (cb : FVec Ideal S1x3072 .f32) : FVec Ideal S8x2048x3072 .f32 :=
  addf (addf (addf (addf (addf (broadcastInDim S8x2048x3072 ![] bcast_S_S8x2048x3072 (constant (F := Ideal) S_ .f32 0x00000000#32)) (mulf (extractStridedSlice S8x2048x3072 ![0, 0, 0] u slices_S8x2051x3072_S8x2048x3072_0_0_0) (broadcastInDim S8x2048x3072 ![0, 1, 2] bcast_S1x1x3072_S8x2048x3072_0_1_2 (broadcastInDim S1x1x3072 ![2] bcast_S3072_S1x1x3072_2 (shapeCast _ (extractStridedSlice S1x1x3072 ![0, 0, 0] cw slices_S1x4x3072_S1x1x3072_0_0_0) shapeCasts_S1x1x3072_S3072))))) (mulf (extractStridedSlice S8x2048x3072 ![0, 1, 0] u slices_S8x2051x3072_S8x2048x3072_0_1_0) (broadcastInDim S8x2048x3072 ![0, 1, 2] bcast_S1x1x3072_S8x2048x3072_0_1_2 (broadcastInDim S1x1x3072 ![2] bcast_S3072_S1x1x3072_2 (shapeCast _ (extractStridedSlice S1x1x3072 ![0, 1, 0] cw slices_S1x4x3072_S1x1x3072_0_1_0) shapeCasts_S1x1x3072_S3072))))) (mulf (extractStridedSlice S8x2048x3072 ![0, 2, 0] u slices_S8x2051x3072_S8x2048x3072_0_2_0) (broadcastInDim S8x2048x3072 ![0, 1, 2] bcast_S1x1x3072_S8x2048x3072_0_1_2 (broadcastInDim S1x1x3072 ![2] bcast_S3072_S1x1x3072_2 (shapeCast _ (extractStridedSlice S1x1x3072 ![0, 2, 0] cw slices_S1x4x3072_S1x1x3072_0_2_0) shapeCasts_S1x1x3072_S3072))))) (mulf (extractStridedSlice S8x2048x3072 ![0, 3, 0] u slices_S8x2051x3072_S8x2048x3072_0_3_0) (broadcastInDim S8x2048x3072 ![0, 1, 2] bcast_S1x1x3072_S8x2048x3072_0_1_2 (broadcastInDim S1x1x3072 ![2] bcast_S3072_S1x1x3072_2 (shapeCast _ (extractStridedSlice S1x1x3072 ![0, 3, 0] cw slices_S1x4x3072_S1x1x3072_0_3_0) shapeCasts_S1x1x3072_S3072))))) (broadcastInDim S8x2048x3072 ![0, 1, 2] bcast_S1x1x3072_S8x2048x3072_0_1_2 (broadcastInDim S1x1x3072 ![2] bcast_S3072_S1x1x3072_2 (shapeCast _ cb shapeCasts_S1x3072_S3072)))

section
variable (x : FVec Ideal S8x2048x1024 .f32) (mo : FVec Ideal S8x6144 .f32) (nm : FVec Ideal S2x1024 .f32) (w : FVec Ideal S1x1024x5152 .f32) (cw : FVec Ideal S1x4x3072 .f32) (cb : FVec Ideal S1x3072 .f32) (db : FVec Ideal S1x32 .f32)

def rP : FVec Ideal S8x2048x5152 .f32 := Prj (Hid x mo nm) w
def rC : FVec Ideal S8x2048x3072 .f32 := Conv (Full (rP x mo nm w)) cw cb
def rZ : FVec Ideal S8x2048x2048 .f32 := extractStridedSlice S8x2048x2048 ![0, 0, 0] (rP x mo nm w) slices_S8x2048x5152_S8x2048x2048_0_0_0
def rXs : FVec Ideal S8x2048x2048 .f32 := extractStridedSlice S8x2048x2048 ![0, 0, 0] (rC x mo nm w cw cb) slices_S8x2048x3072_S8x2048x2048_0_0_0
def rBc : FVec Ideal S8x2048x1024 .f32 := extractStridedSlice S8x2048x1024 ![0, 0, 2048] (rC x mo nm w cw cb) slices_S8x2048x3072_S8x2048x1024_0_0_2048
def rDt : FVec Ideal S8x2048x128 .f32 := Spl (Pad (rP x mo nm w) db)
def rMc : FVec Ideal S8x3x3072 .f32 := extractStridedSlice S8x3x3072 ![0, 2048, 0] (Full (rP x mo nm w)) slices_S8x2051x3072_S8x3x3072_0_2048_0

theorem hid_at (n : Fin 8) (t : Fin 2048) (k : Fin 1024) : (Hid x mo nm (ix3 n t k) : EReal) = hO x mo nm n t k := by
  unfold Hid hO hid irms
  pointwise

theorem prj_at (h : FVec Ideal S8x2048x1024 .f32) (n : Fin 8) (t : Fin 2048) (d : Fin 5152) : (Prj h w (ix3 n t d) : EReal) = ∑ k, h (ix3 n t k) * w (ix3 0 k d) := by
  unfold Prj
  pointwise

theorem rP_at (n : Fin 8) (t : Fin 2048) (q : Fin 5152) : (rP x mo nm w (ix3 n t q) : EReal) = pO x mo nm w n t q := by
  unfold rP pO
  rw [prj_at]
  exact Finset.sum_congr rfl fun k _ => by rw [hid_at]

theorem pad_at (v : FVec Ideal S8x2048x32 .f32) (z : FVec Ideal S_ .f32) (hz : ∀ i, z i = (0 : EReal)) (n : Fin 8) (t : Fin 2048) (d : Fin 128) :
    (pad S8x2048x128 ![0, 0, 0] ![0, 0, 96] ![0, 0, 0] v z pads_S8x2048x32_S8x2048x128_000_000_0960 h_S_ (ix3 n t d) : EReal) = if h : d.val < 32 then v (ix3 n t ⟨d.val, h⟩) else 0 := by
  pointwise
  simp only [hz]

theorem spl_at (v : FVec Ideal S8x2048x128 .f32) (i : S8x2048x128.Idx) : (Spl v i : EReal) = spl (v i) := by
  unfold Spl spl
  rw [zero_sub]
  pointwise

theorem rDt_at (n : Fin 8) (t : Fin 2048) (d : Fin 128) : (rDt x mo nm w db (ix3 n t d) : EReal) = dO x mo nm w db n t d := by
  unfold rDt dO
  rw [spl_at]
  refine congrArg spl ?_
  unfold Pad
  refine (pad_at _ _ pz_at n t d).trans ?_
  split
  · rename_i hd
    rw [← rP_at]
    generalize rP x mo nm w = p
    pointwise
  · rfl

theorem full_lo (p : FVec Ideal S8x2048x5152 .f32) (n : Fin 8) (a : Fin 2051) (q : Fin 3072) (ha : a.val < 3) : (Full p (ix3 n a q) : EReal) = 0 := by
  unfold Full
  pointwise
  exact dif_pos ha
theorem full_hi (p : FVec Ideal S8x2048x5152 .f32) (n : Fin 8) (a : Fin 2051) (q : Fin 3072) (ha : 3 ≤ a.val) :
    (Full p (ix3 n a q) : EReal) = p (ix3 n ⟨a.val - 3, by omega⟩ ⟨2048 + q.val, by omega⟩) := by
  unfold Full
  pointwise
  exact dif_neg (by omega)
theorem rU_at (n : Fin 8) (a : Fin 2051) (q : Fin 3072) : (Full (rP x mo nm w) (ix3 n a q) : EReal) = uO x mo nm w n a.val q := by
  unfold uO
  by_cases ha : 3 ≤ a.val
  · rw [full_hi _ _ _ _ ha, dif_pos ⟨ha, a.isLt⟩, rP_at]
  · rw [full_lo _ _ _ _ (by omega), dif_neg (by omega)]

theorem conv_at (u : FVec Ideal S8x2051x3072 .f32) (n : Fin 8) (t : Fin 2048) (q : Fin 3072) :
    (Conv u cw cb (ix3 n t q) : EReal) = u (ix3 n ⟨t.val, by omega⟩ q) * cw (ix3 0 0 q) + u (ix3 n ⟨1 + t.val, by omega⟩ q) * cw (ix3 0 1 q) + u (ix3 n ⟨2 + t.val, by omega⟩ q) * cw (ix3 0 2 q) + u (ix3 n ⟨3 + t.val, by omega⟩ q) * cw (ix3 0 3 q) + cb (ix2 0 q) := by
  unfold Conv
  pointwise

theorem rC_at (n : Fin 8) (t : Fin 2048) (q : Fin 3072) : (rC x mo nm w cw cb (ix3 n t q) : EReal) = cO x mo nm w cw cb n t q := by
  unfold rC
  rw [conv_at, rU_at, rU_at, rU_at, rU_at]
  unfold cO
  rw [Nat.add_comm t.val 1, Nat.add_comm t.val 2, Nat.add_comm t.val 3]

theorem rZ_at (n : Fin 8) (t : Fin 2048) (q : Fin 2048) (Q : Fin 5152) (hQ : Q.val = q.val) : (rZ x mo nm w (ix3 n t q) : EReal) = pO x mo nm w n t Q := by
  have hb : q.val < 5152 := by clear hQ; omega
  obtain rfl : Q = ⟨q.val, hb⟩ := Fin.ext hQ
  rw [← rP_at]
  unfold rZ
  generalize rP x mo nm w = p
  pointwise
theorem rXs_at (n : Fin 8) (t : Fin 2048) (q : Fin 2048) (Q : Fin 3072) (hQ : Q.val = q.val) : (rXs x mo nm w cw cb (ix3 n t q) : EReal) = cO x mo nm w cw cb n t Q := by
  have hb : q.val < 3072 := by clear hQ; omega
  obtain rfl : Q = ⟨q.val, hb⟩ := Fin.ext hQ
  rw [← rC_at]
  unfold rXs
  generalize rC x mo nm w cw cb = p
  pointwise
theorem rBc_at (n : Fin 8) (t : Fin 2048) (q : Fin 1024) (Q : Fin 3072) (hQ : Q.val = 2048 + q.val) : (rBc x mo nm w cw cb (ix3 n t q) : EReal) = cO x mo nm w cw cb n t Q := by
  have hb : 2048 + q.val < 3072 := by clear hQ; omega
  obtain rfl : Q = ⟨2048 + q.val, hb⟩ := Fin.ext hQ
  rw [← rC_at]
  unfold rBc
  generalize rC x mo nm w cw cb = p
  pointwise
theorem rMc_at (n : Fin 8) (a : Fin 3) (q : Fin 3072) : (rMc x mo nm w (ix3 n a q) : EReal) = uO x mo nm w n (2048 + a.val) q := by
  refine Eq.trans ?_ (rU_at x mo nm w n ⟨2048 + a.val, by omega⟩ q)
  unfold rMc
  generalize Full (rP x mo nm w) = p
  pointwise
end

section
variable (m : (ℓ : Loc nD τ sig) → Buf (Elt Ideal) ℓ) (c : Dev nD) (x : FVec Ideal S8x2048x1024 .f32) (mo : FVec Ideal S8x6144 .f32) (nm : FVec Ideal S2x1024 .f32) (w : FVec Ideal S1x1024x5152 .f32) (cw : FVec Ideal S1x4x3072 .f32) (cb : FVec Ideal S1x3072 .f32) (db : FVec Ideal S1x32 .f32)
  (e0 : m ((c.tc : Thread nD τ).loc main_arg0) = x) (e1 : m ((c.tc : Thread nD τ).loc main_arg1) = mo) (e2 : m ((c.tc : Thread nD τ).loc main_arg2) = nm)
  (e3 : m ((c.tc : Thread nD τ).loc main_arg3) = w)

include e0 e1 e2 e3 in
theorem dt_eq (e6 : m ((c.tc : Thread nD τ).loc main_arg6) = db) : Value.res_main_v79 (F := Ideal) m c = rDt x mo nm w db := by
  unfold Value.res_main_v79
  rw [e0, e1, e2, e3, e6]
  rfl

include e0 e1 e2 e3 in
theorem xs_eq (e4 : m ((c.tc : Thread nD τ).loc main_arg4) = cw) (e5 : m ((c.tc : Thread nD τ).loc main_arg5) = cb) : Value.res_main_v80 (F := Ideal) m c = rXs x mo nm w cw cb := by
  unfold Value.res_main_v80
  rw [e0, e1, e2, e3, e4, e5]
  rfl

include e0 e1 e2 e3 in
theorem bc_eq (e4 : m ((c.tc : Thread nD τ).loc main_arg4) = cw) (e5 : m ((c.tc : Thread nD τ).loc main_arg5) = cb) : Value.res_main_v81 (F := Ideal) m c = rBc x mo nm w cw cb := by
  unfold Value.res_main_v81
  rw [e0, e1, e2, e3, e4, e5]
  rfl
end

end Cert.InOdd.Ref

end
-- ==== Proof.ClaimsOdd.lean ====
/- The odd layer's input call: the precondition read, the reference's run, and equal results over the extended reals. -/
module

public import proofs.«01_k».proof.Defs
public import proofs.«01_k».proof.Proof.RefOdd
public import Idealize.ShloMosaic.Lib.Quiescent
public import Idealize.ShloMosaic.Lib.ReduceAll

@[expose] public section

set_option maxRecDepth 16384

noncomputable section

namespace Cert.InOdd

open Idealize.ShloMosaic Idealize.ShloMosaic.TcCoe Idealize.SL.Sem

instance preFacts : Cert.Pre_finite_inputs.Facts where
  bcast_S_S8x2048x1024 := by decide
  reducesTo_S8x2048x1024_S_d0_1_2 := by decide
  h_S_ := by decide
  bcast_S_S8x6144 := by decide
  reducesTo_S8x6144_S_d0_1 := by decide
  bcast_S_S2x1024 := by decide
  reducesTo_S2x1024_S_d0_1 := by decide
  bcast_S_S1x1024x5152 := by decide
  reducesTo_S1x1024x5152_S_d0_1_2 := by decide

instance : Subsingleton Cert.Pre_finite_inputs.S_.Idx := ⟨fun _ _ => funext fun a => a.elim0⟩

/-- A number whose size is below plus infinity is real. -/
theorem real_of_abs (a : EReal) (h : FloatOps.cmpf (F := Ideal) (φ := .f32) .olt (@FloatOps.absf Ideal _ .f32 a) (Ideal.ofBits .f32 0x7F800000#32) = 1#1) : ∃ r : ℝ, a = r := by
  have htop : Ideal.ofBits .f32 0x7F800000#32 = ⊤ := by simp [Ideal.ofBits, Ideal.ieee]
  rw [htop, show @FloatOps.absf Ideal _ .f32 a = max a (-a) from rfl] at h
  induction a with
  | bot => simp [pointwise] at h
  | coe r => exact ⟨r, rfl⟩
  | top => simp [pointwise] at h

theorem and1 : ∀ a b : BitVec 1, IntOp.andi a b = 1#1 → a = 1#1 ∧ b = 1#1 := by decide

/-- What the precondition says: the four arrays' entries are real. -/
theorem real_of_pre [Cert.Pre_finite_inputs.Facts] (x : FVec Ideal Cert.Kernel4Ideal.S8x2048x1024 .f32) (mo : FVec Ideal Cert.Kernel4Ideal.S8x6144 .f32) (nm : FVec Ideal Cert.Kernel4Ideal.S2x1024 .f32)
    (w : FVec Ideal Cert.Kernel4Ideal.S1x1024x5152 .f32) (cw : FVec Ideal Cert.Kernel4Ideal.S1x4x3072 .f32) (cb : FVec Ideal Cert.Kernel4Ideal.S1x3072 .f32) (db : FVec Ideal Cert.Kernel4Ideal.S1x32 .f32)
    (h : Cert.Pre_finite_inputs.fn (F := Ideal) x mo nm w cw cb db = fun _ => 1#1) :
    (∀ i, ∃ r : ℝ, x i = r) ∧ (∀ i, ∃ r : ℝ, mo i = r) ∧ (∀ i, ∃ r : ℝ, nm i = r) ∧ (∀ i, ∃ r : ℝ, w i = r) := by
  have h0 := congrFun h (Shape.Idx.first Cert.Pre_finite_inputs.Facts.h_S_)
  dsimp only [Cert.Pre_finite_inputs.fn, Cert.Pre_finite_inputs.fn_part1] at h0
  obtain ⟨h0, hw⟩ := and1 _ _ h0
  obtain ⟨h0, hn⟩ := and1 _ _ h0
  obtain ⟨hx, hm⟩ := and1 _ _ h0
  exact ⟨fun i => real_of_abs _ (Host.reduce_andi_all _ _ _ _ _ hx i), fun i => real_of_abs _ (Host.reduce_andi_all _ _ _ _ _ hm i),
    fun i => real_of_abs _ (Host.reduce_andi_all _ _ _ _ _ hn i), fun i => real_of_abs _ (Host.reduce_andi_all _ _ _ _ _ hw i)⟩

theorem run_ref : Cert.quiescent_Reference4Ideal (hReference4Ideal := Cert.Reference4Ideal.Gen.facts) := fun m g _ =>
  (θ_run Cert.Reference4Ideal.defs _ _).mono (fun r h => ⟨fun c => (h c).2.2.2.2.2, sem_eq_zero_of_no_sems (by decide) r.2⟩) (Cert.Reference4Ideal.Value.run m g)

theorem algebraic : Cert.algebraic_Kernel4Ideal_Reference4Ideal_pre_finite_inputs (hKernel4Ideal := Cert.Kernel4Ideal.Gen.facts) (hReference4Ideal := Cert.Reference4Ideal.Gen.facts)
    (hPre_finite_inputs := preFacts) := by
  intro m g m' g' hpre hagree
  have H : ∀ c : Dev Cert.Kernel4Ideal.nD, Real m c := fun c =>
    have h := real_of_pre (X m c) (MO m c) (NM m c) (WO m c) (CW m c) (CB m c) (DB m c) (hpre c)
    ⟨h.1, h.2.1, h.2.2.1, h.2.2.2⟩
  refine ⟨fun c => Cert.Kernel4Ideal.Value.G9 m c, fun c => Cert.Kernel4Ideal.Value.G10 m c, fun c => Cert.Kernel4Ideal.Value.G11 m c, fun c => Cert.Kernel4Ideal.Value.G12 m c,
    fun c => Cert.Kernel4Ideal.Value.G13 m c, Cert.Kernel4Ideal.Value.run (F := Ideal) m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.Reference4Ideal.Value.run m' g')
  all_goals obtain ⟨e0, e1, e2, e3, e4, e5, e6⟩ := hagree c
  · rw [e0, e1, e2, e3]
    funext y
    rw [eq_ix3 y]
    have hy : (y 2).val < 2048 := (y 2).isLt
    exact (Ref.rZ_at _ _ _ _ _ _ (y 2) ⟨(y 2).val, by omega⟩ rfl).trans (G9_at m c (y 0) (y 1) (y 2) _ rfl).symm
  · rw [Ref.xs_eq m' c _ _ _ _ _ _ e0 e1 e2 e3 e4 e5]
    funext y
    rw [eq_ix3 y]
    have hy : (y 2).val < 2048 := (y 2).isLt
    exact (Ref.rXs_at _ _ _ _ _ _ _ _ (y 2) ⟨(y 2).val, by omega⟩ rfl).trans (G10_at m c (y 0) (y 1) (y 2) _ rfl).symm
  · rw [Ref.bc_eq m' c _ _ _ _ _ _ e0 e1 e2 e3 e4 e5]
    funext y
    rw [eq_ix3 y]
    have hy : (y 2).val < 1024 := (y 2).isLt
    exact (Ref.rBc_at _ _ _ _ _ _ _ _ (y 2) ⟨2048 + (y 2).val, by omega⟩ rfl).trans (G11_at m c (y 0) (y 1) (y 2) _ rfl).symm
  · rw [Ref.dt_eq m' c _ _ _ _ _ e0 e1 e2 e3 e6]
    funext y
    rw [eq_ix3 y]
    exact (Ref.rDt_at _ _ _ _ _ _ _ _).trans (G12_at m c (H c) (y 0) (y 1) (y 2)).symm
  · rw [e0, e1, e2, e3]
    funext y
    rw [eq_ix3 y]
    exact (Ref.rMc_at _ _ _ _ _ _ _).trans (G13_at m c (y 0) (y 1) (y 2)).symm

end Cert.InOdd

end
-- ==== Proof.FinalPost.lean ====
/- The second layer after its mixer and the final norm, for the sample batch: what the body stores, and the final array, entry by entry. -/
module

public import proofs.«01_k».proof.Proof.Gen.Kernel5Ideal.Value
public import proofs.«01_k».proof.Proof.Layer
public import Idealize.ShloMosaic.Lib.Pipeline.ValueKit
public import Idealize.ShloMosaic.Lib.StableHlo.Run

@[expose] public section

set_option maxRecDepth 65536

noncomputable section

namespace Cert.Fin

open Idealize.ShloMosaic Idealize.ShloMosaic.TcCoe Idealize.ShloMosaic.Tactic Idealize.SL.Sem Cert.Kernel5Ideal Cert.Kernel5Ideal.Gen Cert.Layer

/-- The residual stream after the mixer, on one row. -/
def mid (x : Fin 1024 → EReal) (y : Fin 2048 → EReal) (g1 : Fin 1024 → EReal) (wo : Fin 2048 → Fin 1024 → EReal) (d : Fin 1024) : EReal :=
  x d + g1 d * ∑ k, y k * wo k d

/-- The layer's output before the final norm, on one row. -/
def row (x : Fin 1024 → EReal) (y : Fin 2048 → EReal) (g1 b2 s2 g2 nm : Fin 1024 → EReal) (wo : Fin 2048 → Fin 1024 → EReal)
    (w1 : Fin 1024 → Fin 4096 → EReal) (w2 : Fin 4096 → Fin 1024 → EReal) (d : Fin 1024) : EReal :=
  mid x y g1 wo d + g2 d * mlp (hid (mid x y g1 wo) nm s2 b2) w1 fun j => w2 j d

/-- A row normed. -/
def nrm (v nf : Fin 1024 → EReal) (d : Fin 1024) : EReal := v d * irms v * nf d

theorem pay2_at (v0 : Vec Ideal S1x128x2048 .f32) (v3 : Vec Ideal S2048x1024 .bf16) (v6 v8 : Vec Ideal S1x128x1024 .f32) (r : Fin 128) (d : Fin 1024) :
    (k0_pay2 v0 v3 v6 v8 (ix2 r d) : EReal) = mid (fun k => v6 (ix3 0 r k)) (fun k => v0 (ix3 0 r k)) (fun k => v8 (ix3 0 r k)) (fun k j => v3 (ix2 k j)) d := by
  unfold k0_pay2 mid
  pointwise

theorem pay3_at (v0 : Vec Ideal S1x128x2048 .f32) (v3 : Vec Ideal S2048x1024 .bf16) (v6 v8 : Vec Ideal S1x128x1024 .f32) (v22 : Vec Ideal S1x1024 .f32) (v26 v31 : Vec Ideal S1x128x1024 .f32) (r : Fin 128) (d : Fin 1024) :
    (k0_pay3 v0 v3 v6 v8 v22 v26 v31 (ix2 r d) : EReal) =
      hid (fun k => k0_pay2 v0 v3 v6 v8 (ix2 r k)) (fun k => v22 (ix2 0 k)) (fun k => v26 (ix3 0 r k)) (fun k => v31 (ix3 0 r k)) d := by
  unfold k0_pay3 hid irms
  generalize k0_pay2 v0 v3 v6 v8 = x
  pointwise

/-- A slice of the MLP on row `r` of a tile. -/
def part (h : FVec Ideal S128x1024 .bf16) (w1 w2 : Vec Ideal S1x1024x1024 .bf16) (r : Fin 128) (d : Fin 1024) : EReal :=
  mlp (fun k => h (ix2 r k)) (fun k j => w1 (ix3 0 k j)) fun j => w2 (ix3 0 j d)

theorem pay5_at (v33 : FVec Ideal S128x1024 .f32) (v36 v43 v47 v54 : Vec Ideal S1x1024x1024 .bf16) (r : Fin 128) (d : Fin 1024) :
    (k0_pay5 v33 v36 v43 v47 v54 (ix2 r d) : EReal) = part (k0_pay4 v33) v36 v43 r d + part (k0_pay4 v33) v47 v54 r d := by
  unfold k0_pay5 part mlp
  generalize k0_pay4 v33 = h
  pointwise

/-- What is normed at the end, row by row. -/
def last (v11 : FVec Ideal S128x1024 .f32) (v34 : FVec Ideal S128x1024 .bf16) (v57 : FVec Ideal S128x1024 .f32) (v64 : FVec Ideal S128x1024 .bf16) (v66 : FVec Ideal S1024x1024 .bf16) (v69 v76 : Vec Ideal S1x1024x1024 .bf16)
    (v80 : Vec Ideal S1x128x1024 .f32) (r : Fin 128) (d : Fin 1024) : EReal :=
  v11 (ix2 r d) + v80 (ix3 0 r d) * (v57 (ix2 r d) + (∑ k, v64 (ix2 r k) * v66 (ix2 k d)) + part v34 v69 v76 r d)

theorem pay1_at (v11 : FVec Ideal S128x1024 .f32) (v34 : FVec Ideal S128x1024 .bf16) (v57 : FVec Ideal S128x1024 .f32) (v64 : FVec Ideal S128x1024 .bf16) (v66 : FVec Ideal S1024x1024 .bf16) (v69 v76 : Vec Ideal S1x1024x1024 .bf16)
    (v80 : Vec Ideal S1x128x1024 .f32) (v94 : Vec Ideal S1x1024 .f32) (r : Fin 128) (d : Fin 1024) :
    (k0_pay1 v11 v34 v57 v64 v66 v69 v76 v80 v94 (ix3 0 r d) : EReal) = nrm (last v11 v34 v57 v64 v66 v69 v76 v80 r) (fun k => v94 (ix2 0 k)) d := by
  unfold k0_pay1 nrm irms last part mlp
  pointwise

theorem pay67_at (v33 : FVec Ideal S128x1024 .f32) (v58 v65 : Vec Ideal S1x1024x1024 .bf16) (r : Fin 128) (d : Fin 1024) :
    (∑ k, (k0_pay6 v33 v58 (ix2 r k) : EReal) * k0_pay7 v65 (ix2 k d)) = part (k0_pay4 v33) v58 v65 r d := by
  have h6 : ∀ k : Fin 1024, (k0_pay6 v33 v58 (ix2 r k) : EReal) = max (∑ i, k0_pay4 v33 (ix2 r i) * v58 (ix3 0 i k)) 0 * max (∑ i, k0_pay4 v33 (ix2 r i) * v58 (ix3 0 i k)) 0 := by
    intro k
    unfold k0_pay6
    generalize k0_pay4 v33 = h
    pointwise
  have h7 : ∀ k : Fin 1024, (k0_pay7 v65 (ix2 k d) : EReal) = v65 (ix3 0 k d) := by
    intro k
    unfold k0_pay7
    pointwise
  simp only [h6, h7]
  rfl

section
variable (x0 : Vec Ideal S1x128x1024 .f32) (x1 : Vec Ideal S1x128x2048 .f32) (x2 x3 x4 x5 : Vec Ideal S1x128x1024 .f32) (x6 : Vec Ideal S1x1024 .f32)
  (x7 : Vec Ideal S2048x1024 .bf16) (x8 : Vec Ideal S1x1024x4096 .bf16) (x9 : Vec Ideal S1x4096x1024 .bf16) (x10 : Vec Ideal S1x1024 .f32)

theorem ld_w1 (o : ℕ) (inb : ∀ a, (![0, 0, o] : Fin 3 → ℕ) a + S1x1024x1024.size a ≤ S1x1024x4096.size a) (ho : o ≤ 3072) (k j : Fin 1024) :
    View.ld x8 (Rect.unit (s := S1x1024x4096) ![0, 0, o] S1x1024x1024.size inb) (ix3 0 k j) = x8 (ix3 0 k ⟨o + j.val, by omega⟩) := by
  refine View.ld_unit_apply_of _ _ _ _ _ _ fun a => ?_
  match a with
  | ⟨0, _⟩ => rfl
  | ⟨1, _⟩ => exact (Nat.zero_add _).symm
  | ⟨2, _⟩ => rfl

theorem ld_w2 (o : ℕ) (inb : ∀ a, (![0, o, 0] : Fin 3 → ℕ) a + S1x1024x1024.size a ≤ S1x4096x1024.size a) (ho : o ≤ 3072) (j d : Fin 1024) :
    View.ld x9 (Rect.unit (s := S1x4096x1024) ![0, o, 0] S1x1024x1024.size inb) (ix3 0 j d) = x9 (ix3 0 ⟨o + j.val, by omega⟩ d) := by
  refine View.ld_unit_apply_of _ _ _ _ _ _ fun a => ?_
  match a with
  | ⟨0, _⟩ => rfl
  | ⟨1, _⟩ => rfl
  | ⟨2, _⟩ => exact (Nat.zero_add _).symm

theorem mid_at (r : Fin 128) (d : Fin 1024) :
    (k0_pay2 (View.ld x1 r0_0) (View.ld x7 r0_1) (View.ld x0 r0_2) (View.ld x2 r0_2) (ix2 r d) : EReal) =
      mid (fun k => x0 (ix3 0 r k)) (fun k => x1 (ix3 0 r k)) (fun k => x2 (ix3 0 r k)) (fun k j => x7 (ix2 k j)) d := by
  refine (pay2_at _ _ _ _ r d).trans ?_
  rw [View.ld_unit_lit inb_S1x128x2048_S1x128x2048_0_0_0 x1 (by decide), View.ld_unit_lit inb_S2048x1024_S2048x1024_0_0 x7 (by decide),
    View.ld_unit_lit inb_S1x128x1024_S1x128x1024_0_0_0 x0 (by decide), View.ld_unit_lit inb_S1x128x1024_S1x128x1024_0_0_0 x2 (by decide)]

/-- What the body stores, row by row. -/
theorem out_at (r : Fin 128) (d : Fin 1024) :
    out0_11 x0 x1 x2 x3 x4 x5 x6 x7 x8 x9 x10 (ix3 0 r d) =
      nrm (row (fun k => x0 (ix3 0 r k)) (fun k => x1 (ix3 0 r k)) (fun k => x2 (ix3 0 r k)) (fun k => x3 (ix3 0 r k)) (fun k => x4 (ix3 0 r k))
        (fun k => x5 (ix3 0 r k)) (fun k => x6 (ix2 0 k)) (fun k j => x7 (ix2 k j)) (fun k j => x8 (ix3 0 k j)) (fun j k => x9 (ix3 0 j k))) (fun k => x10 (ix2 0 k)) d := by
  have hh : ∀ k : Fin 1024, (k0_pay4 (k0_pay8 x0 x1 x2 x3 x4 x5 x6 x7 x8 x9 x10) (ix2 r k) : EReal) =
      hid (mid (fun k => x0 (ix3 0 r k)) (fun k => x1 (ix3 0 r k)) (fun k => x2 (ix3 0 r k)) fun k j => x7 (ix2 k j))
        (fun k => x6 (ix2 0 k)) (fun k => x4 (ix3 0 r k)) (fun k => x3 (ix3 0 r k)) k := by
    intro k
    show (k0_pay8 x0 x1 x2 x3 x4 x5 x6 x7 x8 x9 x10 (ix2 r k) : EReal) = _
    unfold k0_pay8
    rw [pay3_at]
    simp only [mid_at]
    rw [View.ld_unit_lit inb_S1x128x1024_S1x128x1024_0_0_0 x4 (by decide), View.ld_unit_lit inb_S1x128x1024_S1x128x1024_0_0_0 x3 (by decide),
      View.ld_unit_lit inb_S1x1024_S1x1024_0_0 x6 (by decide)]
  unfold out0_11
  rw [View.canon_cons_unit_lit inb_S1x128x1024_S1x128x1024_0_0_0 _ _ (by decide)]
  refine (pay1_at _ _ _ _ _ _ _ _ _ r d).trans ?_
  rw [View.ld_unit_lit inb_S1x1024_S1x1024_0_0 x10 (by decide)]
  refine congrFun (congrArg (fun v => nrm v fun k => x10 (ix2 0 k)) ?_) d
  funext e
  unfold last row
  rw [pay5_at, pay67_at, mid_at, View.ld_unit_lit inb_S1x128x1024_S1x128x1024_0_0_0 x5 (by decide)]
  unfold part
  simp only [hh, ld_w1 x8 0 _ (by decide), ld_w1 x8 1024 _ (by decide), ld_w1 x8 2048 _ (by decide), ld_w1 x8 3072 _ (by decide),
    ld_w2 x9 0 _ (by decide), ld_w2 x9 1024 _ (by decide), ld_w2 x9 2048 _ (by decide), ld_w2 x9 3072 _ (by decide)]
  unfold mlp
  rw [sum_quarters]
  simp only [Nat.zero_add]
end

/-! ## The blocks, and the final array -/

variable (m : (ℓ : Loc nD τ sig) → Buf (Elt Ideal) ℓ) (c : Dev nD)

theorem cast_x (v : FVec Ideal S128x1x1024 .f32) (r : Fin 128) (k : Fin 1024) : (shapeCast S1x128x1024 v shapeCasts_S128x1x1024_S1x128x1024 (ix3 0 r k) : EReal) = v (ix3 r 0 k) := by
  pointwise

theorem cast_y (v : FVec Ideal S128x1x2048 .f32) (r : Fin 128) (k : Fin 2048) : (shapeCast S1x128x2048 v shapeCasts_S128x1x2048_S1x128x2048 (ix3 0 r k) : EReal) = v (ix3 r 0 k) := by
  pointwise

theorem cast_mod (v : FVec Ideal S128x6144 .f32) (r : Fin 128) (k : Fin 6144) : (shapeCast S1x128x6144 v shapeCasts_S128x6144_S1x128x6144 (ix3 0 r k) : EReal) = v (ix2 r k) := by
  pointwise

theorem cast_norm (v : FVec Ideal S2x1024 .f32) (k : Fin 1024) :
    (shapeCast S1x1024 (shapeCast S1024 (extractStridedSlice S1x1024 ![1, 0] v slices_S2x1024_S1x1024_1_0) shapeCasts_S1x1024_S1024) shapeCasts_S1024_S1x1024 (ix2 0 k) : EReal) = v (ix2 1 k) := by
  pointwise

theorem cast_nf (v : FVec Ideal S1024 .f32) (k : Fin 1024) : (shapeCast S1x1024 v shapeCasts_S1024_S1x1024 (ix2 0 k) : EReal) = v (ix1 k) := by
  pointwise

theorem cast_wo (v : FVec Ideal S1x2048x1024 .f32) (k : Fin 2048) (j : Fin 1024) :
    (truncf (F := Ideal) .bf16 (shapeCast S2048x1024 v shapeCasts_S1x2048x1024_S2048x1024 : FVec Ideal S2048x1024 .f32) bitsLt_bf16_f32 (ix2 k j) : EReal) = v (ix3 0 k j) := by
  pointwise

theorem V_v0 (r : Fin 128) (k : Fin 1024) : (V m c main_v0 : FVec Ideal S1x128x1024 .f32) (ix3 0 r k) = (m ((c : Thread nD τ).loc main_arg0) : FVec Ideal S128x1x1024 .f32) (ix3 r 0 k) := by
  have h : (V m c main_v0 : FVec Ideal S1x128x1024 .f32) = shapeCast S1x128x1024 (m ((c : Thread nD τ).loc main_arg0) : FVec Ideal S128x1x1024 .f32) shapeCasts_S128x1x1024_S1x128x1024 := by
    show StableHlo.after hostOps0 _ (Proc.devRef .tc main_v0) = _
    after_results
    rfl
  rw [h]
  exact cast_x _ _ _

theorem V_v1 (r : Fin 128) (k : Fin 2048) : (V m c main_v1 : FVec Ideal S1x128x2048 .f32) (ix3 0 r k) = (m ((c : Thread nD τ).loc main_arg1) : FVec Ideal S128x1x2048 .f32) (ix3 r 0 k) := by
  have h : (V m c main_v1 : FVec Ideal S1x128x2048 .f32) = shapeCast S1x128x2048 (m ((c : Thread nD τ).loc main_arg1) : FVec Ideal S128x1x2048 .f32) shapeCasts_S128x1x2048_S1x128x2048 := by
    show StableHlo.after hostOps0 _ (Proc.devRef .tc main_v1) = _
    after_results
    rfl
  rw [h]
  exact cast_y _ _ _

theorem V_v2 (r : Fin 128) (k : Fin 6144) : (V m c main_v2 : FVec Ideal S1x128x6144 .f32) (ix3 0 r k) = (m ((c : Thread nD τ).loc main_arg2) : FVec Ideal S128x6144 .f32) (ix2 r k) := by
  have h : (V m c main_v2 : FVec Ideal S1x128x6144 .f32) = shapeCast S1x128x6144 (m ((c : Thread nD τ).loc main_arg2) : FVec Ideal S128x6144 .f32) shapeCasts_S128x6144_S1x128x6144 := by
    show StableHlo.after hostOps0 _ (Proc.devRef .tc main_v2) = _
    after_results
    rfl
  rw [h]
  exact cast_mod _ _ _

theorem V_v9 (k : Fin 1024) : (V m c main_v9 : FVec Ideal S1x1024 .f32) (ix2 0 k) = (m ((c : Thread nD τ).loc main_arg3) : FVec Ideal S2x1024 .f32) (ix2 1 k) := by
  have h : (V m c main_v9 : FVec Ideal S1x1024 .f32) = shapeCast S1x1024 (shapeCast S1024 (extractStridedSlice S1x1024 ![1, 0] (m ((c : Thread nD τ).loc main_arg3) : FVec Ideal S2x1024 .f32) slices_S2x1024_S1x1024_1_0) shapeCasts_S1x1024_S1024) shapeCasts_S1024_S1x1024 := by
    show StableHlo.after hostOps0 _ (Proc.devRef .tc main_v9) = _
    after_results
    rfl
  rw [h]
  exact cast_norm _ _

theorem V_v10 (k : Fin 1024) : (V m c main_v10 : FVec Ideal S1x1024 .f32) (ix2 0 k) = (m ((c : Thread nD τ).loc main_arg7) : FVec Ideal S1024 .f32) (ix1 k) := by
  have h : (V m c main_v10 : FVec Ideal S1x1024 .f32) = shapeCast S1x1024 (m ((c : Thread nD τ).loc main_arg7) : FVec Ideal S1024 .f32) shapeCasts_S1024_S1x1024 := by
    show StableHlo.after hostOps0 _ (Proc.devRef .tc main_v10) = _
    after_results
    rfl
  rw [h]
  exact cast_nf _ _

theorem V_v6 (k : Fin 2048) (j : Fin 1024) : (V m c main_v6 : FVec Ideal S2048x1024 .bf16) (ix2 k j) = (m ((c : Thread nD τ).loc main_arg4) : FVec Ideal S1x2048x1024 .f32) (ix3 0 k j) := by
  have h : (V m c main_v6 : FVec Ideal S2048x1024 .bf16) = truncf (F := Ideal) .bf16 (shapeCast S2048x1024 (m ((c : Thread nD τ).loc main_arg4) : FVec Ideal S1x2048x1024 .f32) shapeCasts_S1x2048x1024_S2048x1024 : FVec Ideal S2048x1024 .f32) bitsLt_bf16_f32 := by
    show StableHlo.after hostOps0 _ (Proc.devRef .tc main_v6) = _
    after_results
    rfl
  rw [h]
  exact cast_wo _ _ _

theorem V_v7 : (V m c main_v7 : FVec Ideal S2x1024x4096 .bf16) = (m ((c : Thread nD τ).loc main_arg5) : FVec Ideal S2x1024x4096 .f32) := by
  show StableHlo.after hostOps0 _ (Proc.devRef .tc main_v7) = _
  after_results
  rfl

theorem V_v8 : (V m c main_v8 : FVec Ideal S2x4096x1024 .bf16) = (m ((c : Thread nD τ).loc main_arg6) : FVec Ideal S2x4096x1024 .f32) := by
  show StableHlo.after hostOps0 _ (Proc.devRef .tc main_v8) = _
  after_results
  rfl

theorem iblk0_at (t : Fin cfg0.N) (r : Fin 128) (k : Fin 1024) :
    (iblk m c 0 t : Vec Ideal S1x128x1024 .f32) (ix3 0 r k) = (m ((c : Thread nD τ).loc main_arg0) : FVec Ideal S128x1x1024 .f32) (ix3 r 0 k) := by
  have hi : ∀ t : Fin cfg0.N, win0_0.index t (0 : Fin 3) = 0 ∧ win0_0.index t (1 : Fin 3) = 0 ∧ win0_0.index t (2 : Fin 3) = 0 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c r k)
  funext a
  apply Fin.ext
  match a with
  | ⟨0, _⟩ => show win0_0.index t (0 : Fin 3) * 1 + 1 * 0 = 0; rw [h0] <;> omega
  | ⟨1, _⟩ => show win0_0.index t (1 : Fin 3) * 128 + 1 * r.val = r.val; rw [h1] <;> omega
  | ⟨2, _⟩ => show win0_0.index t (2 : Fin 3) * 1024 + 1 * k.val = k.val; rw [h2] <;> omega

theorem iblk1_at (t : Fin cfg0.N) (r : Fin 128) (k : Fin 2048) :
    (iblk m c 1 t : Vec Ideal S1x128x2048 .f32) (ix3 0 r k) = (m ((c : Thread nD τ).loc main_arg1) : FVec Ideal S128x1x2048 .f32) (ix3 r 0 k) := by
  have hi : ∀ t : Fin cfg0.N, win0_1.index t (0 : Fin 3) = 0 ∧ win0_1.index t (1 : Fin 3) = 0 ∧ win0_1.index t (2 : Fin 3) = 0 :=
    (by decide +kernel : ∀ t : Fin grid0.N, _)
  obtain ⟨h0, h1, h2⟩ := hi t
  unfold iblk
  rw [View.read_apply]
  show V m c main_v1 _ = _
  refine Eq.trans (congrArg (V m c main_v1) ?_) (V_v1 m c r k)
  funext a
  apply Fin.ext
  match a with
  | ⟨0, _⟩ => show win0_1.index t (0 : Fin 3) * 1 + 1 * 0 = 0; rw [h0] <;> omega
  | ⟨1, _⟩ => show win0_1.index t (1 : Fin 3) * 128 + 1 * r.val = r.val; rw [h1] <;> omega
  | ⟨2, _⟩ => show win0_1.index t (2 : Fin 3) * 2048 + 1 * k.val = k.val; rw [h2] <;> omega

theorem iblk2_at (t : Fin cfg0.N) (r : Fin 128) (k : Fin 1024) :
    (iblk m c 2 t : Vec Ideal S1x128x1024 .f32) (ix3 0 r k) = (m ((c : Thread nD τ).loc main_arg2) : FVec Ideal S128x6144 .f32) (ix2 r ⟨2048 + k.val, by omega⟩) := by
  have hi : ∀ t : Fin cfg0.N, win0_2.index t (0 : Fin 3) = 0 ∧ win0_2.index t (1 : Fin 3) = 0 ∧ win0_2.index t (2 : Fin 3) = 2 :=
    (by decide +kernel : ∀ t : Fin grid0.N, _)
  obtain ⟨h0, h1, h2⟩ := hi t
  unfold iblk
  rw [View.read_apply]
  show V m c main_v2 _ = _
  refine Eq.trans (congrArg (V m c main_v2) ?_) (V_v2 m c r ⟨2048 + k.val, by omega⟩)
  funext a
  apply Fin.ext
  match a with
  | ⟨0, _⟩ => show win0_2.index t (0 : Fin 3) * 1 + 1 * 0 = 0; rw [h0] <;> omega
  | ⟨1, _⟩ => show win0_2.index t (1 : Fin 3) * 128 + 1 * r.val = r.val; rw [h1] <;> omega
  | ⟨2, _⟩ => show win0_2.index t (2 : Fin 3) * 1024 + 1 * k.val = 2048 + k.val; rw [h2] <;> omega

theorem iblk3_at (t : Fin cfg0.N) (r : Fin 128) (k : Fin 1024) :
    (iblk m c 3 t : Vec Ideal S1x128x1024 .f32) (ix3 0 r k) = (m ((c : Thread nD τ).loc main_arg2) : FVec Ideal S128x6144 .f32) (ix2 r ⟨3072 + k.val, by omega⟩) := by
  have hi : ∀ t : Fin cfg0.N, win0_3.index t (0 : Fin 3) = 0 ∧ win0_3.index t (1 : Fin 3) = 0 ∧ win0_3.index t (2 : Fin 3) = 3 :=
    (by decide +kernel : ∀ t : Fin grid0.N, _)
  obtain ⟨h0, h1, h2⟩ := hi t
  unfold iblk
  rw [View.read_apply]
  show V m c main_v2 _ = _
  refine Eq.trans (congrArg (V m c main_v2) ?_) (V_v2 m c r ⟨3072 + k.val, by omega⟩)
  funext a
  apply Fin.ext
  match a with
  | ⟨0, _⟩ => show win0_3.index t (0 : Fin 3) * 1 + 1 * 0 = 0; rw [h0] <;> omega
  | ⟨1, _⟩ => show win0_3.index t (1 : Fin 3) * 128 + 1 * r.val = r.val; rw [h1] <;> omega
  | ⟨2, _⟩ => show win0_3.index t (2 : Fin 3) * 1024 + 1 * k.val = 3072 + k.val; rw [h2] <;> omega

theorem iblk4_at (t : Fin cfg0.N) (r : Fin 128) (k : Fin 1024) :
    (iblk m c 4 t : Vec Ideal S1x128x1024 .f32) (ix3 0 r k) = (m ((c : Thread nD τ).loc main_arg2) : FVec Ideal S128x6144 .f32) (ix2 r ⟨4096 + k.val, by omega⟩) := by
  have hi : ∀ t : Fin cfg0.N, win0_4.index t (0 : Fin 3) = 0 ∧ win0_4.index t (1 : Fin 3) = 0 ∧ win0_4.index t (2 : Fin 3) = 4 :=
    (by decide +kernel : ∀ t : Fin grid0.N, _)
  obtain ⟨h0, h1, h2⟩ := hi t
  unfold iblk
  rw [View.read_apply]
  show V m c main_v2 _ = _
  refine Eq.trans (congrArg (V m c main_v2) ?_) (V_v2 m c r ⟨4096 + k.val, by omega⟩)
  funext a
  apply Fin.ext
  match a with
  | ⟨0, _⟩ => show win0_4.index t (0 : Fin 3) * 1 + 1 * 0 = 0; rw [h0] <;> omega
  | ⟨1, _⟩ => show win0_4.index t (1 : Fin 3) * 128 + 1 * r.val = r.val; rw [h1] <;> omega
  | ⟨2, _⟩ => show win0_4.index t (2 : Fin 3) * 1024 + 1 * k.val = 4096 + k.val; rw [h2] <;> omega

theorem iblk5_at (t : Fin cfg0.N) (r : Fin 128) (k : Fin 1024) :
    (iblk m c 5 t : Vec Ideal S1x128x1024 .f32) (ix3 0 r k) = (m ((c : Thread nD τ).loc main_arg2) : FVec Ideal S128x6144 .f32) (ix2 r ⟨5120 + k.val, by omega⟩) := by
  have hi : ∀ t : Fin cfg0.N, win0_5.index t (0 : Fin 3) = 0 ∧ win0_5.index t (1 : Fin 3) = 0 ∧ win0_5.index t (2 : Fin 3) = 5 :=
    (by decide +kernel : ∀ t : Fin grid0.N, _)
  obtain ⟨h0, h1, h2⟩ := hi t
  unfold iblk
  rw [View.read_apply]
  show V m c main_v2 _ = _
  refine Eq.trans (congrArg (V m c main_v2) ?_) (V_v2 m c r ⟨5120 + k.val, by omega⟩)
  funext a
  apply Fin.ext
  match a with
  | ⟨0, _⟩ => show win0_5.index t (0 : Fin 3) * 1 + 1 * 0 = 0; rw [h0] <;> omega
  | ⟨1, _⟩ => show win0_5.index t (1 : Fin 3) * 128 + 1 * r.val = r.val; rw [h1] <;> omega
  | ⟨2, _⟩ => show win0_5.index t (2 : Fin 3) * 1024 + 1 * k.val = 5120 + k.val; rw [h2] <;> omega

theorem iblk6_at (t : Fin cfg0.N) (k : Fin 1024) :
    (iblk m c 6 t : Vec Ideal S1x1024 .f32) (ix2 0 k) = (m ((c : Thread nD τ).loc main_arg3) : FVec Ideal S2x1024 .f32) (ix2 1 k) := by
  have hi : ∀ t : Fin cfg0.N, win0_6.index t (0 : Fin 2) = 0 ∧ win0_6.index t (1 : Fin 2) = 0 :=
    (by decide +kernel : ∀ t : Fin grid0.N, _)
  obtain ⟨h0, h1⟩ := hi t
  unfold iblk
  rw [View.read_apply]
  show V m c main_v9 _ = _
  refine Eq.trans (congrArg (V m c main_v9) ?_) (V_v9 m c k)
  funext a
  apply Fin.ext
  match a with
  | ⟨0, _⟩ => show win0_6.index t (0 : Fin 2) * 1 + 1 * 0 = 0; rw [h0] <;> omega
  | ⟨1, _⟩ => show win0_6.index t (1 : Fin 2) * 1024 + 1 * k.val = k.val; rw [h1] <;> omega

theorem iblk7_at (t : Fin cfg0.N) (k : Fin 2048) (j : Fin 1024) :
    (iblk m c 7 t : Vec Ideal S2048x1024 .bf16) (ix2 k j) = (m ((c : Thread nD τ).loc main_arg4) : FVec Ideal S1x2048x1024 .f32) (ix3 0 k j) := by
  have hi : ∀ t : Fin cfg0.N, win0_7.index t (0 : Fin 2) = 0 ∧ win0_7.index t (1 : Fin 2) = 0 :=
    (by decide +kernel : ∀ t : Fin grid0.N, _)
  obtain ⟨h0, h1⟩ := hi t
  unfold iblk
  rw [View.read_apply]
  show V m c main_v6 _ = _
  refine Eq.trans (congrArg (V m c main_v6) ?_) (V_v6 m c k j)
  funext a
  apply Fin.ext
  match a with
  | ⟨0, _⟩ => show win0_7.index t (0 : Fin 2) * 2048 + 1 * k.val = k.val; rw [h0] <;> omega
  | ⟨1, _⟩ => show win0_7.index t (1 : Fin 2) * 1024 + 1 * j.val = j.val; rw [h1] <;> omega

theorem iblk8_at (t : Fin cfg0.N) (k : Fin 1024) (j : Fin 4096) :
    (iblk m c 8 t : Vec Ideal S1x1024x4096 .bf16) (ix3 0 k j) = (m ((c : Thread nD τ).loc main_arg5) : FVec Ideal S2x1024x4096 .f32) (ix3 1 k j) := by
  have hi : ∀ t : Fin cfg0.N, win0_8.index t (0 : Fin 3) = 1 ∧ win0_8.index t (1 : Fin 3) = 0 ∧ win0_8.index t (2 : Fin 3) = 0 :=
    (by decide +kernel : ∀ t : Fin grid0.N, _)
  obtain ⟨h0, h1, h2⟩ := hi t
  unfold iblk
  rw [View.read_apply]
  show V m c main_v7 _ = _
  refine Eq.trans (congrArg (V m c main_v7) ?_) (congrFun (V_v7 m c) (ix3 1 k j))
  funext a
  apply Fin.ext
  match a with
  | ⟨0, _⟩ => show win0_8.index t (0 : Fin 3) * 1 + 1 * 0 = 1; rw [h0] <;> omega
  | ⟨1, _⟩ => show win0_8.index t (1 : Fin 3) * 1024 + 1 * k.val = k.val; rw [h1] <;> omega
  | ⟨2, _⟩ => show win0_8.index t (2 : Fin 3) * 4096 + 1 * j.val = j.val; rw [h2] <;> omega

theorem iblk9_at (t : Fin cfg0.N) (j : Fin 4096) (k : Fin 1024) :
    (iblk m c 9 t : Vec Ideal S1x4096x1024 .bf16) (ix3 0 j k) = (m ((c : Thread nD τ).loc main_arg6) : FVec Ideal S2x4096x1024 .f32) (ix3 1 j k) := by
  have hi : ∀ t : Fin cfg0.N, win0_9.index t (0 : Fin 3) = 1 ∧ win0_9.index t (1 : Fin 3) = 0 ∧ win0_9.index t (2 : Fin 3) = 0 :=
    (by decide +kernel : ∀ t : Fin grid0.N, _)
  obtain ⟨h0, h1, h2⟩ := hi t
  unfold iblk
  rw [View.read_apply]
  show V m c main_v8 _ = _
  refine Eq.trans (congrArg (V m c main_v8) ?_) (congrFun (V_v8 m c) (ix3 1 j k))
  funext a
  apply Fin.ext
  match a with
  | ⟨0, _⟩ => show win0_9.index t (0 : Fin 3) * 1 + 1 * 0 = 1; rw [h0] <;> omega
  | ⟨1, _⟩ => show win0_9.index t (1 : Fin 3) * 4096 + 1 * j.val = j.val; rw [h1] <;> omega
  | ⟨2, _⟩ => show win0_9.index t (2 : Fin 3) * 1024 + 1 * k.val = k.val; rw [h2] <;> omega

theorem iblk10_at (t : Fin cfg0.N) (k : Fin 1024) :
    (iblk m c 10 t : Vec Ideal S1x1024 .f32) (ix2 0 k) = (m ((c : Thread nD τ).loc main_arg7) : FVec Ideal S1024 .f32) (ix1 k) := by
  have hi : ∀ t : Fin cfg0.N, win0_10.index t (0 : Fin 2) = 0 ∧ win0_10.index t (1 : Fin 2) = 0 :=
    (by decide +kernel : ∀ t : Fin grid0.N, _)
  obtain ⟨h0, h1⟩ := hi t
  unfold iblk
  rw [View.read_apply]
  show V m c main_v10 _ = _
  refine Eq.trans (congrArg (V m c main_v10) ?_) (V_v10 m c k)
  funext a
  apply Fin.ext
  match a with
  | ⟨0, _⟩ => show win0_10.index t (0 : Fin 2) * 1 + 1 * 0 = 0; rw [h0] <;> omega
  | ⟨1, _⟩ => show win0_10.index t (1 : Fin 2) * 1024 + 1 * k.val = k.val; rw [h1] <;> omega

/-- The result of the argument arrays, entry by entry. -/
def spec (x : FVec Ideal S128x1x1024 .f32) (y : FVec Ideal S128x1x2048 .f32) (mo : FVec Ideal S128x6144 .f32) (nm : FVec Ideal S2x1024 .f32) (wo : FVec Ideal S1x2048x1024 .f32) (w1 : FVec Ideal S2x1024x4096 .f32) (w2 : FVec Ideal S2x4096x1024 .f32) (nf : FVec Ideal S1024 .f32) (r : Fin 128) (d : Fin 1024) : EReal :=
  nrm (row (fun k => x (ix3 r 0 k)) (fun k => y (ix3 r 0 k)) (fun k => mo (ix2 r ⟨2048 + k.val, by omega⟩)) (fun k => mo (ix2 r ⟨3072 + k.val, by omega⟩))
    (fun k => mo (ix2 r ⟨4096 + k.val, by omega⟩)) (fun k => mo (ix2 r ⟨5120 + k.val, by omega⟩)) (fun k => nm (ix2 1 k)) (fun k j => wo (ix3 0 k j))
    (fun k j => w1 (ix3 1 k j)) (fun j k => w2 (ix3 1 j k))) (fun k => nf (ix1 k)) d

/-- The final array, entry by entry. -/
theorem final_at (r : Fin 128) (d : Fin 1024) :
    ((dats m 0 c).arrAt 11 cfg0.N : FVec Ideal S1x128x1024 .f32) (ix3 0 r d) =
      spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r d := by
  have hN : 0 < cfg0.N := lt_of_lt_of_eq (by omega) (show cfg0.N = 1 from N_0).symm
  have hi : ∀ t : Fin cfg0.N, win0_11.index t (0 : Fin 3) = 0 ∧ win0_11.index t (1 : Fin 3) = 0 ∧ win0_11.index t (2 : Fin 3) = 0 ∧ (cfg0.win 11).flush t = true :=
    (by decide +kernel : ∀ t : Fin grid0.N, _)
  obtain ⟨h0, h1, h2, hfl⟩ := hi ⟨0, hN⟩
  have hb := congrFun (Value.blocks11 m c ⟨0, hN⟩ hfl) (ix3 0 r d)
  rw [View.read_apply, Value.flushed11, Pipeline.Window.cut_apply] at hb
  refine Eq.trans (congrArg ((dats m 0 c).arrAt 11 cfg0.N) ?_) (hb.trans ?_)
  · funext a
    apply Fin.ext
    match a with
    | ⟨0, _⟩ => show 0 = win0_11.index ⟨0, hN⟩ (0 : Fin 3) * 1 + 1 * 0; rw [h0]
    | ⟨1, _⟩ => show r.val = win0_11.index ⟨0, hN⟩ (1 : Fin 3) * 128 + 1 * r.val; rw [h1]; omega
    | ⟨2, _⟩ => show d.val = win0_11.index ⟨0, hN⟩ (2 : Fin 3) * 1024 + 1 * d.val; rw [h2]; omega
  · refine (out_at _ _ _ _ _ _ _ _ _ _ _ r d).trans ?_
    unfold spec
    simp only [iblk0_at, iblk1_at, iblk2_at, iblk3_at, iblk4_at, iblk5_at, iblk6_at, iblk7_at, iblk8_at, iblk9_at, iblk10_at]

end Cert.Fin

end
-- ==== Proof.ClaimsFinal.lean ====
/- The second layer after its mixer and the final norm, for the sample batch: the reference, and equal results over the extended reals. -/
module

public import proofs.«01_k».proof.Defs
public import proofs.«01_k».proof.Proof.Gen.Reference5Ideal.Run
public import proofs.«01_k».proof.Proof.FinalPost
public import Idealize.ShloMosaic.Lib.Quiescent

@[expose] public section

set_option maxRecDepth 16384

noncomputable section

namespace Cert.Fin

open Idealize.ShloMosaic Idealize.ShloMosaic.TcCoe Idealize.ShloMosaic.Tactic Idealize.SL.Sem Cert.Layer

section Reference
open Cert.Reference5Ideal Cert.Reference5Ideal.Gen

/-- One of the modulations of each sample. -/
def Mo (o : ℕ) (h : S128x1x6144.Slices ![0, 0, o] S128x1x1024) (mo : FVec Ideal S128x6144 .f32) : FVec Ideal S128x1x1024 .f32 :=
  extractStridedSlice S128x1x1024 ![0, 0, o] (broadcastInDim S128x1x6144 ![0, 2] bcast_S128x6144_S128x1x6144_0_2 mo) h

/-- The residual stream after the mixer. -/
def Mid (x : FVec Ideal S128x1x1024 .f32) (y : FVec Ideal S128x1x2048 .f32) (mo : FVec Ideal S128x6144 .f32) (wo : FVec Ideal S1x2048x1024 .f32) : FVec Ideal S128x1x1024 .f32 :=
  addf x (mulf (Mo 2048 slices_S128x1x6144_S128x1x1024_0_0_2048 mo) (Host.dotGeneral dot_S128x1x2048_S2048x1024_S128x1x1024_2_0_01_1_n_n none y (shapeCast _ wo shapeCasts_S1x2048x1024_S2048x1024)))

/-- A normed array. -/
def Nrm (v : FVec Ideal S128x1x1024 .f32) (g : FVec Ideal S1024 .f32) : FVec Ideal S128x1x1024 .f32 :=
  mulf (mulf v (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf v v) (constant (F := Ideal) S_ .f32 0x00000000#32) reducesTo_S128x1x1024_S128x1_d2 h_S_)) (broadcastInDim S128x1x1 ![] bcast_S_S128x1x1 (constant (F := Ideal) S_ .f32 0x44800000#32))) (broadcastInDim S128x1x1 ![] bcast_S_S128x1x1 (constant (F := Ideal) S_ .f32 0x358637BD#32)))))) (broadcastInDim S128x1x1024 ![0, 1, 2] bcast_S1x1x1024_S128x1x1024_0_1_2 (broadcastInDim S1x1x1024 ![2] bcast_S1024_S1x1x1024_2 g))

/-- The normed and modulated rows. -/
def Hid (v : FVec Ideal S128x1x1024 .f32) (mo : FVec Ideal S128x6144 .f32) (nm : FVec Ideal S2x1024 .f32) : FVec Ideal S128x1x1024 .f32 :=
  addf (mulf (Nrm v (shapeCast _ (extractStridedSlice S1x1024 ![1, 0] nm slices_S2x1024_S1x1024_1_0) shapeCasts_S1x1024_S1024)) (addf (broadcastInDim S128x1x1024 ![] bcast_S_S128x1x1024 (constant (F := Ideal) S_ .f32 0x3F800000#32)) (Mo 4096 slices_S128x1x6144_S128x1x1024_0_0_4096 mo))) (Mo 3072 slices_S128x1x6144_S128x1x1024_0_0_3072 mo)

/-- The hidden units before their activation. -/
def Act (h : FVec Ideal S128x1x1024 .f32) (w1 : FVec Ideal S2x1024x4096 .f32) : FVec Ideal S128x1x4096 .f32 :=
  Host.dotGeneral dot_S128x1x1024_S1024x4096_S128x1x4096_2_0_01_1_n_n none h (shapeCast _ (extractStridedSlice S1x1024x4096 ![1, 0, 0] w1 slices_S2x1024x4096_S1x1024x4096_1_0_0) shapeCasts_S1x1024x4096_S1024x4096)

/-- The layer's output. -/
def Out (v : FVec Ideal S128x1x1024 .f32) (mo : FVec Ideal S128x6144 .f32) (a : FVec Ideal S128x1x4096 .f32) (w2 : FVec Ideal S2x4096x1024 .f32) : FVec Ideal S128x1x1024 .f32 :=
  addf v (mulf (Mo 5120 slices_S128x1x6144_S128x1x1024_0_0_5120 mo) (Host.dotGeneral dot_S128x1x4096_S4096x1024_S128x1x1024_2_0_01_1_n_n none (mulf (maximumf a (broadcastInDim S128x1x4096 ![] bcast_S_S128x1x4096 (constant (F := Ideal) S_ .f32 0x00000000#32))) (maximumf a (broadcastInDim S128x1x4096 ![] bcast_S_S128x1x4096 (constant (F := Ideal) S_ .f32 0x00000000#32)))) (shapeCast _ (extractStridedSlice S1x4096x1024 ![1, 0, 0] w2 slices_S2x4096x1024_S1x4096x1024_1_0_0) shapeCasts_S1x4096x1024_S4096x1024)))

/-- The reference's result. -/
def Res (x : FVec Ideal S128x1x1024 .f32) (y : FVec Ideal S128x1x2048 .f32) (mo : FVec Ideal S128x6144 .f32) (nm : FVec Ideal S2x1024 .f32) (wo : FVec Ideal S1x2048x1024 .f32) (w1 : FVec Ideal S2x1024x4096 .f32) (w2 : FVec Ideal S2x4096x1024 .f32) (nf : FVec Ideal S1024 .f32) : FVec Ideal S1x128x1024 .f32 :=
  shapeCast _ (Nrm (Out (Mid x y mo wo) mo (Act (Hid (Mid x y mo wo) mo nm) w1) w2) nf) shapeCasts_S128x1x1024_S1x128x1024

theorem res_eq (m : (ℓ : Loc nD τ sig) → Buf (Elt Ideal) ℓ) (c : Dev nD) (x : FVec Ideal S128x1x1024 .f32) (y : FVec Ideal S128x1x2048 .f32) (mo : FVec Ideal S128x6144 .f32) (nm : FVec Ideal S2x1024 .f32) (wo : FVec Ideal S1x2048x1024 .f32) (w1 : FVec Ideal S2x1024x4096 .f32) (w2 : FVec Ideal S2x4096x1024 .f32) (nf : FVec Ideal S1024 .f32)
    (e0 : m ((c.tc : Thread nD τ).loc main_arg0) = x) (e1 : m ((c.tc : Thread nD τ).loc main_arg1) = y) (e2 : m ((c.tc : Thread nD τ).loc main_arg2) = mo) (e3 : m ((c.tc : Thread nD τ).loc main_arg3) = nm) (e4 : m ((c.tc : Thread nD τ).loc main_arg4) = wo) (e5 : m ((c.tc : Thread nD τ).loc main_arg5) = w1) (e6 : m ((c.tc : Thread nD τ).loc main_arg6) = w2) (e7 : m ((c.tc : Thread nD τ).loc main_arg7) = nf) :
    Value.res_main_v54 (F := Ideal) m c = Res x y mo nm wo w1 w2 nf := by
  unfold Value.res_main_v54
  rw [e0, e1, e2, e3, e4, e5, e6, e7]
  rfl

theorem Mo_at (o : ℕ) (h : S128x1x6144.Slices ![0, 0, o] S128x1x1024) (ho : o ≤ 5120) (mo : FVec Ideal S128x6144 .f32) (r : Fin 128) (d : Fin 1024) :
    (Mo o h mo (ix3 r 0 d) : EReal) = mo (ix2 r ⟨o + d.val, by omega⟩) := by
  unfold Mo
  pointwise

theorem Mid_at (x : FVec Ideal S128x1x1024 .f32) (y : FVec Ideal S128x1x2048 .f32) (mo : FVec Ideal S128x6144 .f32) (wo : FVec Ideal S1x2048x1024 .f32) (r : Fin 128) (d : Fin 1024) :
    (Mid x y mo wo (ix3 r 0 d) : EReal) = mid (fun k => x (ix3 r 0 k)) (fun k => y (ix3 r 0 k)) (fun k => mo (ix2 r ⟨2048 + k.val, by omega⟩)) (fun k j => wo (ix3 0 k j)) d := by
  unfold Mid mid
  beta_reduce
  rw [← Mo_at 2048 slices_S128x1x6144_S128x1x1024_0_0_2048 (by decide) mo r d]
  generalize Mo 2048 _ mo = g
  pointwise

theorem Nrm_at (v : FVec Ideal S128x1x1024 .f32) (g : FVec Ideal S1024 .f32) (r : Fin 128) (d : Fin 1024) :
    (Nrm v g (ix3 r 0 d) : EReal) = nrm (fun k => v (ix3 r 0 k)) (fun k => g (ix1 k)) d := by
  unfold Nrm nrm irms
  pointwise

theorem Hid_at (v : FVec Ideal S128x1x1024 .f32) (mo : FVec Ideal S128x6144 .f32) (nm : FVec Ideal S2x1024 .f32) (r : Fin 128) (d : Fin 1024) :
    (Hid v mo nm (ix3 r 0 d) : EReal) =
      hid (fun k => v (ix3 r 0 k)) (fun k => nm (ix2 1 k)) (fun k => mo (ix2 r ⟨4096 + k.val, by omega⟩)) (fun k => mo (ix2 r ⟨3072 + k.val, by omega⟩)) d := by
  have hn : ∀ k : Fin 1024, (shapeCast S1024 (extractStridedSlice S1x1024 ![1, 0] nm slices_S2x1024_S1x1024_1_0) shapeCasts_S1x1024_S1024 (ix1 k) : EReal) = nm (ix2 1 k) := by
    intro k
    pointwise
  have hN := Nrm_at v (shapeCast S1024 (extractStridedSlice S1x1024 ![1, 0] nm slices_S2x1024_S1x1024_1_0) shapeCasts_S1x1024_S1024) r d
  simp only [hn] at hN
  unfold Hid hid
  beta_reduce
  rw [← Mo_at 4096 slices_S128x1x6144_S128x1x1024_0_0_4096 (by decide) mo r d, ← Mo_at 3072 slices_S128x1x6144_S128x1x1024_0_0_3072 (by decide) mo r d]
  unfold nrm at hN
  beta_reduce at hN
  rw [← hN]
  generalize Mo 4096 _ mo = a
  generalize Mo 3072 _ mo = b
  generalize Nrm v _ = n
  pointwise

theorem Act_at (h : FVec Ideal S128x1x1024 .f32) (w1 : FVec Ideal S2x1024x4096 .f32) (r : Fin 128) (j : Fin 4096) :
    (Act h w1 (ix3 r 0 j) : EReal) = ∑ k, h (ix3 r 0 k) * w1 (ix3 1 k j) := by
  unfold Act
  pointwise

theorem Out_at (v : FVec Ideal S128x1x1024 .f32) (mo : FVec Ideal S128x6144 .f32) (a : FVec Ideal S128x1x4096 .f32) (w2 : FVec Ideal S2x4096x1024 .f32) (r : Fin 128) (d : Fin 1024) :
    (Out v mo a w2 (ix3 r 0 d) : EReal) = v (ix3 r 0 d) + mo (ix2 r ⟨5120 + d.val, by omega⟩) * ∑ j, max (a (ix3 r 0 j)) 0 * max (a (ix3 r 0 j)) 0 * w2 (ix3 1 j d) := by
  unfold Out
  rw [← Mo_at 5120 slices_S128x1x6144_S128x1x1024_0_0_5120 (by decide) mo r d]
  generalize Mo 5120 _ mo = g
  pointwise

theorem cast_res (v : FVec Ideal S128x1x1024 .f32) (r : Fin 128) (d : Fin 1024) : (shapeCast S1x128x1024 v shapeCasts_S128x1x1024_S1x128x1024 (ix3 0 r d) : EReal) = v (ix3 r 0 d) := by
  pointwise

/-- The reference's result, entry by entry. -/
theorem res_at (x : FVec Ideal S128x1x1024 .f32) (y : FVec Ideal S128x1x2048 .f32) (mo : FVec Ideal S128x6144 .f32) (nm : FVec Ideal S2x1024 .f32) (wo : FVec Ideal S1x2048x1024 .f32) (w1 : FVec Ideal S2x1024x4096 .f32) (w2 : FVec Ideal S2x4096x1024 .f32) (nf : FVec Ideal S1024 .f32) (r : Fin 128) (d : Fin 1024) : (Res x y mo nm wo w1 w2 nf (ix3 0 r d) : EReal) = spec x y mo nm wo w1 w2 nf r d := by
  unfold Res
  rw [cast_res, Nrm_at]
  simp only [Out_at, Act_at, Hid_at, Mid_at]
  rfl
end Reference

theorem run_ref : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩) (Cert.Reference5Ideal.Value.run m g)

theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => (Cert.Kernel5Ideal.Gen.dats m 0 c).arrAt 11 Cert.Kernel5Ideal.cfg0.N, Cert.Kernel5Ideal.Value.run_blocks (F := Ideal) m g, ?_⟩
  refine (θ_run _ _ _).mono (fun r h c => ⟨(h c).1.trans ?_, (h c).2⟩) (Cert.Reference5Ideal.Value.run m' g')
  obtain ⟨e0, e1, e2, e3, e4, e5, e6, e7⟩ := hagree c
  rw [res_eq m' c _ _ _ _ _ _ _ _ e0 e1 e2 e3 e4 e5 e6 e7]
  funext y
  have h0 : (y 0).val < 1 := (y 0).isLt
  have ey : y = ix3 0 (y 1) (y 2) := by
    refine (eq_ix3 y).trans ?_
    congr 1
    exact Fin.ext (by show (y 0).val = 0; omega)
  rw [ey]
  exact (res_at _ _ _ _ _ _ _ _ _ _).trans (final_at m c (y 1) (y 2)).symm

end Cert.Fin

end
-- ==== Proof.ConvStep.lean ====
/- One token of each sample through the second mixer's convolution: what the body stores, and the final arrays, entry by entry. -/
module

public import proofs.«01_k».proof.Proof.Gen.Kernel6Ideal.Value
public import Idealize.ShloMosaic.Lib.Pipeline.ValueKit
public import Idealize.ShloMosaic.Lib.StableHlo.Run

@[expose] public section

set_option maxRecDepth 65536

noncomputable section

namespace Cert.Conv1

open Idealize.ShloMosaic Idealize.ShloMosaic.TcCoe Idealize.ShloMosaic.Tactic Idealize.SL.Sem Cert.Kernel6Ideal Cert.Kernel6Ideal.Gen

/-- The convolution of four tokens, and its bias. -/
def conv (b : Fin 3 → EReal) (u : EReal) (w : Fin 4 → EReal) (d : EReal) : EReal := b 0 * w 0 + b 1 * w 1 + b 2 * w 2 + u * w 3 + d

/-- The SiLU. -/
def act (v : EReal) : EReal := v * Ideal.logistic v

/-- The softplus. -/
def spl (v : EReal) : EReal := max v 0 + Ideal.log1p (Ideal.exp (0 - @FloatOps.absf Ideal _ .f32 v))

/-- The decay of one step. -/
def dcy (v a : EReal) : EReal := Ideal.exp (spl v * (0 - Ideal.exp a))

theorem pay3_at (v0 : Vec Ideal S32x3072 .f32) (v1 : Vec Ideal S4x3072 .f32) (v3 v5 v7 : Vec Ideal S32x1x3072 .f32) (v24 : Vec Ideal S1x3072 .f32) (r : Fin 32) (j : Fin 3072) :
    (k0_pay3 v0 v1 v3 v5 v7 v24 (ix2 r j) : EReal) =
      act (v3 (ix3 r 0 j) * v1 (ix2 0 j) + v5 (ix3 r 0 j) * v1 (ix2 1 j) + v7 (ix3 r 0 j) * v1 (ix2 2 j) + v0 (ix2 r j) * v1 (ix2 3 j) + v24 (ix2 0 j)) := by
  unfold k0_pay3 act k0_pay1 k0_pay2
  pointwise

theorem pay7_at (v40 : Vec Ideal S32x128 .f32) (v41 : Vec Ideal S1x128 .f32) (r : Fin 32) (l : Fin 128) :
    (k0_pay7 v40 v41 (ix2 r l) : EReal) = spl (v40 (ix2 r l) + v41 (ix2 0 l)) := by
  unfold k0_pay7 spl
  pointwise

theorem pay46_at (v : Vec Ideal S32x1x3072 .f32) (x : S32x1x3072.Idx) : k0_pay4 v x = v x ∧ k0_pay5 (k0_pay2 v) x = v x := by
  rw [eq_ix3 x]
  constructor
  · unfold k0_pay4 k0_pay1
    pointwise
  · unfold k0_pay5 k0_pay2
    pointwise

theorem pay6_at (v : Vec Ideal S32x3072 .f32) (r : Fin 32) (a : Fin 1) (j : Fin 3072) : k0_pay6 v (ix3 r a j) = v (ix2 r j) := by
  unfold k0_pay6
  pointwise

theorem slt64 : ∀ l : Fin 128, IntOp.cmpi CmpIPredicate.slt (BitVec.ofNat 32 l.val) 64#32 = if l.val < 64 then 1#1 else 0#1 := by decide

theorem mask_at (r : Fin 32) (l : Fin 128) : k0_pay9 (ix2 r l) = if l.val < 64 then 1#1 else 0#1 := by
  rw [← slt64 l]
  unfold k0_pay9
  pointwise

theorem sel_at (M : IVec S32x128 1) (v : FVec Ideal S32x128 .f32) (a b : ℕ) (ha : S32x128.Slices ![0, a] S32x1) (hb : S32x128.Slices ![0, b] S32x1) (la : a < 128) (lb : b < 128) (r : Fin 32) (l : Fin 128) :
    (select M (broadcastTo S32x128 (shapeCast S32x1 (extractStridedSlice S32x1 ![0, a] v ha) shapeCasts_S32x1_S32x1) broadcasts_S32x1_S32x128)
      (broadcastTo S32x128 (shapeCast S32x1 (extractStridedSlice S32x1 ![0, b] v hb) shapeCasts_S32x1_S32x1) broadcasts_S32x1_S32x128) (ix2 r l) : EReal) =
      Scalar.select (M (ix2 r l)) (v (ix2 r ⟨a, la⟩)) (v (ix2 r ⟨b, lb⟩)) := by
  pointwise

/-- Two neighbouring columns, each spread over half the lanes. -/
theorem pair_at (v : FVec Ideal S32x128 .f32) (a b : ℕ) (hab : b = a + 1) (lb : b < 128) (ha : S32x128.Slices ![0, a] S32x1) (hb : S32x128.Slices ![0, b] S32x1) (x : S32x128.Idx)
    (p : Fin 32) (hp : p.val = (x 0).val) (q : Fin 128) (hq : q.val = (64 * a + 1 * (x 1).val) / 64) :
    (select k0_pay9 (broadcastTo S32x128 (shapeCast S32x1 (extractStridedSlice S32x1 ![0, a] v ha) shapeCasts_S32x1_S32x1) broadcasts_S32x1_S32x128)
      (broadcastTo S32x128 (shapeCast S32x1 (extractStridedSlice S32x1 ![0, b] v hb) shapeCasts_S32x1_S32x1) broadcasts_S32x1_S32x128) x : EReal) = v (ix2 p q) := by
  obtain ⟨r, l, rfl⟩ : ∃ (r : Fin 32) (l : Fin 128), x = ix2 r l := ⟨_, _, eq_ix2 x⟩
  have hp' : p.val = r.val := hp
  have hq' : q.val = (64 * a + 1 * l.val) / 64 := hq
  obtain rfl : p = r := Fin.ext hp'
  have h1 : l.val < 128 := l.isLt
  refine (sel_at k0_pay9 v a b ha hb (by omega) lb p l).trans ?_
  rw [mask_at]
  by_cases h : l.val < 64
  · rw [if_pos h]
    exact congrArg v (congrArg (ix2 p) (Fin.ext (by dsimp only; omega)))
  · rw [if_neg h]
    exact congrArg v (congrArg (ix2 p) (Fin.ext (by dsimp only; omega)))

section
variable (x0 : Vec Ideal S32x5120 .f32) (x1 : Vec Ideal S32x128 .f32) (x2 : Vec Ideal S32x3x3072 .f32) (x3 : Vec Ideal S4x3072 .f32) (x4 : Vec Ideal S1x3072 .f32) (x5 x6 : Vec Ideal S1x128 .f32)

theorem ld_u (r : Fin 32) (j : Fin 3072) : View.ld x0 r0_0 (ix2 r j) = x0 (ix2 r ⟨2048 + j.val, by omega⟩) := by
  refine View.ld_unit_apply_of _ _ _ _ _ _ fun a => ?_
  match a with
  | ⟨0, _⟩ => exact (Nat.zero_add _).symm
  | ⟨1, _⟩ => rfl

theorem ld_b (o : ℕ) (inb : ∀ a, (![0, o, 0] : Fin 3 → ℕ) a + S32x1x3072.size a ≤ S32x3x3072.size a) (ho : o < 3) (r : Fin 32) (b : Fin 1) (j : Fin 3072) :
    View.ld x2 (Rect.unit (s := S32x3x3072) ![0, o, 0] S32x1x3072.size inb) (ix3 r b j) = x2 (ix3 r ⟨o, ho⟩ j) := by
  refine View.ld_unit_apply_of _ _ _ _ _ _ fun a => ?_
  match a with
  | ⟨0, _⟩ => exact (Nat.zero_add _).symm
  | ⟨1, _⟩ => show o = o + b.val; omega
  | ⟨2, _⟩ => exact (Nat.zero_add _).symm

theorem out7_at (r : Fin 32) (j : Fin 3072) :
    out0_7 x0 x1 x2 x3 x4 x5 x6 (ix2 r j) = act (conv (fun a => x2 (ix3 r a j)) (x0 (ix2 r ⟨2048 + j.val, by omega⟩)) (fun a => x3 (ix2 a j)) (x4 (ix2 0 j))) := by
  unfold out0_7
  rw [View.canon_cons_unit_lit inb_S32x3072_S32x3072_0_0 _ _ (by decide)]
  refine (pay3_at _ _ _ _ _ _ r j).trans ?_
  rw [ld_u, ld_b x2 0 _ (by decide), ld_b x2 1 _ (by decide), ld_b x2 2 _ (by decide), View.ld_unit_lit inb_S4x3072_S4x3072_0_0 x3 (by decide), View.ld_unit_lit inb_S1x3072_S1x3072_0_0 x4 (by decide)]
  rfl

/-- The carried tokens. -/
def kept (r : Fin 32) (a : Fin 3) (j : Fin 3072) : EReal := if h : a.val < 2 then x2 (ix3 r ⟨a.val + 1, by omega⟩ j) else x0 (ix2 r ⟨2048 + j.val, by omega⟩)

/-- The same as one array. -/
def keptV : Vec Ideal S32x3x3072 .f32 := fun y => kept x0 x2 (y 0) (y 1) (y 2)

theorem out8_at (r : Fin 32) (a : Fin 3) (j : Fin 3072) : out0_8 x0 x1 x2 x3 x4 x5 x6 (ix3 r a j) = kept x0 x2 r a j := by
  unfold out0_8
  refine View.canon_apply_of_pieces (keptV x0 x2) _ ?_ (ix3 r a j) (cover0_8 _ _ _ _)
  intro pc hpc
  simp only [List.mem_cons, List.not_mem_nil, or_false] at hpc
  rcases hpc with rfl | rfl | rfl
  · intro x
    have hx : (x 1).val < 1 := (x 1).isLt
    obtain ⟨q0, q1, q2, rfl⟩ : ∃ (q0 : Fin 32) (q1 : Fin 1) (q2 : Fin 3072), x = ix3 q0 q1 q2 := ⟨_, _, _, eq_ix3 x⟩
    refine (pay6_at _ _ _ _).trans ((ld_u x0 _ _).trans ?_)
    have e1 : ¬((r0_4.emb (ix3 q0 q1 q2)) 1).val < 2 := by show ¬(2 + 1 * q1.val < 2); omega
    refine Eq.trans ?_ (dif_neg e1).symm
    refine congrArg x0 (congr (congrArg ix2 (Fin.ext ?_)) (Fin.ext ?_))
    · show q0.val = 0 + 1 * q0.val; omega
    · show 2048 + q2.val = 2048 + (0 + 1 * q2.val); omega
  · intro x
    obtain ⟨q0, q1, q2, rfl⟩ : ∃ (q0 : Fin 32) (q1 : Fin 1) (q2 : Fin 3072), x = ix3 q0 q1 q2 := ⟨_, _, _, eq_ix3 x⟩
    refine (pay46_at _ _).2.trans ((ld_b x2 2 _ (by decide) _ _ _).trans ?_)
    have e1 : ((r0_3.emb (ix3 q0 q1 q2)) 1).val < 2 := by show 1 + 1 * q1.val < 2; omega
    refine Eq.trans ?_ (dif_pos e1).symm
    refine congrArg x2 (congr (congr (congrArg ix3 (Fin.ext ?_)) (Fin.ext ?_)) (Fin.ext ?_))
    · show q0.val = 0 + 1 * q0.val; omega
    · show 2 = 1 + 1 * q1.val + 1; omega
    · show q2.val = 0 + 1 * q2.val; omega
  · intro x
    obtain ⟨q0, q1, q2, rfl⟩ : ∃ (q0 : Fin 32) (q1 : Fin 1) (q2 : Fin 3072), x = ix3 q0 q1 q2 := ⟨_, _, _, eq_ix3 x⟩
    refine (pay46_at _ _).1.trans ((ld_b x2 1 _ (by decide) _ _ _).trans ?_)
    have e1 : ((r0_2.emb (ix3 q0 q1 q2)) 1).val < 2 := by show 0 + 1 * q1.val < 2; omega
    refine Eq.trans ?_ (dif_pos e1).symm
    refine congrArg x2 (congr (congr (congrArg ix3 (Fin.ext ?_)) (Fin.ext ?_)) (Fin.ext ?_))
    · show q0.val = 0 + 1 * q0.val; omega
    · show 1 = 0 + 1 * q1.val + 1; omega
    · show q2.val = 0 + 1 * q2.val; omega

theorem out9_at (r : Fin 32) (q : Fin 2048) (h : Fin 128) (hh : h.val = q.val / 64) : out0_9 x0 x1 x2 x3 x4 x5 x6 (ix2 r q) = spl (x1 (ix2 r h) + x5 (ix2 0 h)) := by
  have hb : q.val / 64 < 128 := Nat.div_lt_of_lt_mul (lt_of_lt_of_le q.isLt (by decide))
  obtain rfl : h = ⟨q.val / 64, hb⟩ := Fin.ext hh
  unfold out0_9 k0_pay62 k0_pay64
  rw [View.ld_unit_lit inb_S32x128_S32x128_0_0 x1 (by decide), View.ld_unit_lit inb_S1x128_S1x128_0_0 x5 (by decide)]
  refine (View.canon_apply_of_pieces (fun y : S32x2048.Idx => k0_pay7 x1 x5 (ix2 (y 0) ⟨(y 1).val / 64, by have h : (y 1).val < 2048 := (y 1).isLt; omega⟩)) _ ?_ (ix2 r q) (cover0_9 _ _ _ _ _ _ _ _ _ _ _ _ _ _ _ _ _)).trans (pay7_at x1 x5 r _)
  generalize hv : k0_pay7 x1 x5 = v
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    dsimp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, hv]
    try rw [hv]
    exact pair_at v _ _ rfl (by decide) _ _ x _ (show 0 + 1 * (x 0).val = (x 0).val by omega) _ rfl

theorem out10_at (h : Fin 32) (r : Fin 32) (l : Fin 128) (g : Fin 128) (hg : g.val = h.val) : out0_10 x0 x1 x2 x3 x4 x5 x6 (ix3 h r l) = dcy (x1 (ix2 r g) + x5 (ix2 0 g)) (x6 (ix2 0 g)) := by
  have hb : h.val < 128 := lt_trans h.isLt (by decide)
  obtain rfl : g = ⟨h.val, hb⟩ := Fin.ext hg
  unfold out0_10 k0_pay63
  refine (Value.canon10_eq _ _ _ _).trans ?_
  rw [View.ld_unit_lit inb_S32x128_S32x128_0_0 x1 (by decide), View.ld_unit_lit inb_S1x128_S1x128_0_0 x5 (by decide), View.ld_unit_lit inb_S1x128_S1x128_0_0 x6 (by decide)]
  have i0 : Value.ix10_0 (ix3 h r l) = ix2 r ⟨h.val, by omega⟩ := by funext a; match a with | ⟨0, _⟩ => rfl | ⟨1, _⟩ => rfl
  have i1 : Value.ix10_1 (ix3 h r l) = ix2 0 ⟨h.val, by omega⟩ := by funext a; match a with | ⟨0, _⟩ => rfl | ⟨1, _⟩ => rfl
  have hz : (Scalar.ofBits (F := Ideal) .f32 0x00000000#32 : EReal) = 0 := by
    show Ideal.ofBits .f32 0x00000000#32 = 0
    simp [Ideal.ofBits, Ideal.ieee, -EReal.coe_mul]
  show (FloatOps.exp (F := Ideal) (φ := .f32) (FloatOps.mulf (FloatOps.addf (FloatOps.maximumf (FloatOps.addf (x1 (Value.ix10_0 (ix3 h r l))) (x5 (Value.ix10_1 (ix3 h r l)))) (Scalar.ofBits .f32 0x00000000#32)) (FloatOps.log1p (FloatOps.exp (FloatOps.subf (Scalar.ofBits .f32 0x00000000#32) (FloatOps.absf (FloatOps.addf (x1 (Value.ix10_0 (ix3 h r l))) (x5 (Value.ix10_1 (ix3 h r l))))))))) (FloatOps.subf (Scalar.ofBits .f32 0x00000000#32) (FloatOps.exp (x6 (Value.ix10_1 (ix3 h r l)))))) : EReal) = _
  rw [i0, i1, hz]
  rfl
end

/-! ## The blocks, and the final arrays -/

variable (m : (ℓ : Loc nD τ sig) → Buf (Elt Ideal) ℓ) (c : Dev nD)

/-- The zero the padding puts beside an array. -/
abbrev pz : FVec Ideal S_ .f32 := sitofp (F := Ideal) .f32 (constantI S_ 32 0#32)

theorem pad_at (v : FVec Ideal S1x32 .f32) (z : FVec Ideal S_ .f32) (d : Fin 32) (q : Fin 128) (hq : q.val = d.val) :
    (pad S1x128 ![0, 0] ![0, 96] ![0, 0] (shapeCast S1x32 (shapeCast S32 v shapeCasts_S1x32_S32 : FVec Ideal S32 .f32) shapeCasts_S32_S1x32 : FVec Ideal S1x32 .f32) z pads_S1x32_S1x128_000_0960 h_S_ (ix2 0 q) : EReal) = v (ix2 0 d) := by
  have hb : d.val < 128 := by omega
  obtain rfl : q = ⟨d.val, hb⟩ := Fin.ext hq
  have h32 : d.val < 32 := d.isLt
  have h : (pad S1x128 ![0, 0] ![0, 96] ![0, 0] (shapeCast S1x32 (shapeCast S32 v shapeCasts_S1x32_S32 : FVec Ideal S32 .f32) shapeCasts_S32_S1x32 : FVec Ideal S1x32 .f32) z pads_S1x32_S1x128_000_0960 h_S_ (ix2 0 ⟨d.val, hb⟩) : EReal) = if h : d.val < 32 then v (ix2 0 ⟨d.val, h⟩) else z ix0 := by
    pointwise
  rw [h, dif_pos h32]

theorem cast_b (v : FVec Ideal S1x128x3x3072 .f32) (n : Fin 128) (a : Fin 3) (j : Fin 3072) : (shapeCast S128x3x3072 v shapeCasts_S1x128x3x3072_S128x3x3072 (ix3 n a j) : EReal) = v (ix4 0 n a j) := by
  pointwise

theorem cast_w (v : FVec Ideal S1x4x3072 .f32) (a : Fin 4) (j : Fin 3072) : (shapeCast S4x3072 v shapeCasts_S1x4x3072_S4x3072 (ix2 a j) : EReal) = v (ix3 0 a j) := by
  pointwise

theorem cast_d (v : FVec Ideal S1x3072 .f32) (j : Fin 3072) : (shapeCast S1x3072 (shapeCast S3072 v shapeCasts_S1x3072_S3072 : FVec Ideal S3072 .f32) shapeCasts_S3072_S1x3072 (ix2 0 j) : EReal) = v (ix2 0 j) := by
  pointwise

theorem V_v0 (n : Fin 128) (a : Fin 3) (j : Fin 3072) : (V m c main_v0 : FVec Ideal S128x3x3072 .f32) (ix3 n a j) = (m ((c : Thread nD τ).loc main_arg2) : FVec Ideal S1x128x3x3072 .f32) (ix4 0 n a j) := by
  have h : (V m c main_v0 : FVec Ideal S128x3x3072 .f32) = shapeCast S128x3x3072 (m ((c : Thread nD τ).loc main_arg2) : FVec Ideal S1x128x3x3072 .f32) shapeCasts_S1x128x3x3072_S128x3x3072 := by
    show StableHlo.after (List.flatten [hostOps0, hostOps0_1, hostOps0_2, hostOps0_3]) _ (Proc.devRef .tc main_v0) = _
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_b _ _ _ _

theorem V_v1 (a : Fin 4) (j : Fin 3072) : (V m c main_v1 : FVec Ideal S4x3072 .f32) (ix2 a j) = (m ((c : Thread nD τ).loc main_arg3) : FVec Ideal S1x4x3072 .f32) (ix3 0 a j) := by
  have h : (V m c main_v1 : FVec Ideal S4x3072 .f32) = shapeCast S4x3072 (m ((c : Thread nD τ).loc main_arg3) : FVec Ideal S1x4x3072 .f32) shapeCasts_S1x4x3072_S4x3072 := by
    show StableHlo.after (List.flatten [hostOps0, hostOps0_1, hostOps0_2, hostOps0_3]) _ (Proc.devRef .tc main_v1) = _
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_w _ _ _

theorem V_v3 (j : Fin 3072) : (V m c main_v3 : FVec Ideal S1x3072 .f32) (ix2 0 j) = (m ((c : Thread nD τ).loc main_arg4) : FVec Ideal S1x3072 .f32) (ix2 0 j) := by
  have h : (V m c main_v3 : FVec Ideal S1x3072 .f32) = shapeCast S1x3072 (shapeCast S3072 (m ((c : Thread nD τ).loc main_arg4) : FVec Ideal S1x3072 .f32) shapeCasts_S1x3072_S3072 : FVec Ideal S3072 .f32) shapeCasts_S3072_S1x3072 := by
    show StableHlo.after (List.flatten [hostOps0, hostOps0_1, hostOps0_2, hostOps0_3]) _ (Proc.devRef .tc main_v3) = _
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl
  rw [h]
  exact cast_d _ _

theorem V_v6 (d : Fin 32) (q : Fin 128) (hq : q.val = d.val) : (V m c main_v6 : FVec Ideal S1x128 .f32) (ix2 0 q) = (m ((c : Thread nD τ).loc main_arg5) : FVec Ideal S1x32 .f32) (ix2 0 d) := by
  have h : (V m c main_v6 : FVec Ideal S1x128 .f32) = pad S1x128 ![0, 0] ![0, 96] ![0, 0] (shapeCast S1x32 (shapeCast S32 (m ((c : Thread nD τ).loc main_arg5) : FVec Ideal S1x32 .f32) shapeCasts_S1x32_S32 : FVec Ideal S32 .f32) shapeCasts_S32_S1x32 : FVec Ideal S1x32 .f32) pz pads_S1x32_S1x128_000_0960 h_S_ := by
    show StableHlo.after (List.flatten [hostOps0, hostOps0_1, hostOps0_2, hostOps0_3]) _ (Proc.devRef .tc main_v6) = _
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl
  rw [h]
  exact pad_at _ _ d q hq

theorem V_v9 (d : Fin 32) (q : Fin 128) (hq : q.val = d.val) : (V m c main_v9 : FVec Ideal S1x128 .f32) (ix2 0 q) = (m ((c : Thread nD τ).loc main_arg6) : FVec Ideal S1x32 .f32) (ix2 0 d) := by
  have h : (V m c main_v9 : FVec Ideal S1x128 .f32) = pad S1x128 ![0, 0] ![0, 96] ![0, 0] (shapeCast S1x32 (shapeCast S32 (m ((c : Thread nD τ).loc main_arg6) : FVec Ideal S1x32 .f32) shapeCasts_S1x32_S32 : FVec Ideal S32 .f32) shapeCasts_S32_S1x32 : FVec Ideal S1x32 .f32) pz pads_S1x32_S1x128_000_0960 h_S_ := by
    show StableHlo.after (List.flatten [hostOps0, hostOps0_1, hostOps0_2, hostOps0_3]) _ (Proc.devRef .tc main_v9) = _
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl
  rw [h]
  exact pad_at _ _ d q hq

theorem iblk0_at (t : Fin cfg0.N) (n : Fin 128) (r : Fin 32) (hn : n.val = 32 * t.val + r.val) (j : Fin 5120) :
    (iblk m c 0 t : Vec Ideal S32x5120 .f32) (ix2 r j) = (m ((c : Thread nD τ).loc main_arg0) : FVec Ideal S128x5120 .f32) (ix2 n j) := by
  have hi : ∀ t : Fin cfg0.N, win0_0.index t (0 : Fin 2) = t.val ∧ win0_0.index t (1 : Fin 2) = 0 :=
    (by decide +kernel : ∀ t : Fin grid0.N, _)
  obtain ⟨h0, h1⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 2) * 32 + 1 * r.val = n.val; rw [h0] <;> omega
  | ⟨1, _⟩ => show win0_0.index t (1 : Fin 2) * 5120 + 1 * j.val = j.val; rw [h1] <;> omega

theorem iblk1_at (t : Fin cfg0.N) (n : Fin 128) (r : Fin 32) (hn : n.val = 32 * t.val + r.val) (j : Fin 128) :
    (iblk m c 1 t : Vec Ideal S32x128 .f32) (ix2 r j) = (m ((c : Thread nD τ).loc main_arg1) : FVec Ideal S128x128 .f32) (ix2 n j) := by
  have hi : ∀ t : Fin cfg0.N, win0_1.index t (0 : Fin 2) = t.val ∧ win0_1.index t (1 : Fin 2) = 0 :=
    (by decide +kernel : ∀ t : Fin grid0.N, _)
  obtain ⟨h0, h1⟩ := hi t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t (0 : Fin 2) * 32 + 1 * r.val = n.val; rw [h0] <;> omega
  | ⟨1, _⟩ => show win0_1.index t (1 : Fin 2) * 128 + 1 * j.val = j.val; rw [h1] <;> omega

theorem iblk2_at (t : Fin cfg0.N) (n : Fin 128) (r : Fin 32) (hn : n.val = 32 * t.val + r.val) (k : Fin 3) (j : Fin 3072) :
    (iblk m c 2 t : Vec Ideal S32x3x3072 .f32) (ix3 r k j) = (m ((c : Thread nD τ).loc main_arg2) : FVec Ideal S1x128x3x3072 .f32) (ix4 0 n k j) := by
  have hi : ∀ t : Fin cfg0.N, win0_2.index t (0 : Fin 3) = t.val ∧ win0_2.index t (1 : Fin 3) = 0 ∧ win0_2.index t (2 : Fin 3) = 0 :=
    (by decide +kernel : ∀ t : Fin grid0.N, _)
  obtain ⟨h0, h1, h2⟩ := hi t
  unfold iblk
  rw [View.read_apply]
  show V m c main_v0 _ = _
  refine Eq.trans (congrArg (V m c main_v0) ?_) (V_v0 m c n k j)
  funext a
  apply Fin.ext
  match a with
  | ⟨0, _⟩ => show win0_2.index t (0 : Fin 3) * 32 + 1 * r.val = n.val; rw [h0] <;> omega
  | ⟨1, _⟩ => show win0_2.index t (1 : Fin 3) * 3 + 1 * k.val = k.val; rw [h1] <;> omega
  | ⟨2, _⟩ => show win0_2.index t (2 : Fin 3) * 3072 + 1 * j.val = j.val; rw [h2] <;> omega

theorem iblk3_at (t : Fin cfg0.N) (k : Fin 4) (j : Fin 3072) :
    (iblk m c 3 t : Vec Ideal S4x3072 .f32) (ix2 k j) = (m ((c : Thread nD τ).loc main_arg3) : FVec Ideal S1x4x3072 .f32) (ix3 0 k j) := by
  have hi : ∀ t : Fin cfg0.N, win0_3.index t (0 : Fin 2) = 0 ∧ win0_3.index t (1 : Fin 2) = 0 :=
    (by decide +kernel : ∀ t : Fin grid0.N, _)
  obtain ⟨h0, h1⟩ := hi t
  unfold iblk
  rw [View.read_apply]
  show V m c main_v1 _ = _
  refine Eq.trans (congrArg (V m c main_v1) ?_) (V_v1 m c k j)
  funext a
  apply Fin.ext
  match a with
  | ⟨0, _⟩ => show win0_3.index t (0 : Fin 2) * 4 + 1 * k.val = k.val; rw [h0] <;> omega
  | ⟨1, _⟩ => show win0_3.index t (1 : Fin 2) * 3072 + 1 * j.val = j.val; rw [h1] <;> omega

theorem iblk4_at (t : Fin cfg0.N) (j : Fin 3072) :
    (iblk m c 4 t : Vec Ideal S1x3072 .f32) (ix2 0 j) = (m ((c : Thread nD τ).loc main_arg4) : FVec Ideal S1x3072 .f32) (ix2 0 j) := by
  have hi : ∀ t : Fin cfg0.N, win0_4.index t (0 : Fin 2) = 0 ∧ win0_4.index t (1 : Fin 2) = 0 :=
    (by decide +kernel : ∀ t : Fin grid0.N, _)
  obtain ⟨h0, h1⟩ := hi t
  unfold iblk
  rw [View.read_apply]
  show V m c main_v3 _ = _
  refine Eq.trans (congrArg (V m c main_v3) ?_) (V_v3 m c j)
  funext a
  apply Fin.ext
  match a with
  | ⟨0, _⟩ => show win0_4.index t (0 : Fin 2) * 1 + 1 * 0 = 0; rw [h0] <;> omega
  | ⟨1, _⟩ => show win0_4.index t (1 : Fin 2) * 3072 + 1 * j.val = j.val; rw [h1] <;> omega

theorem iblk5_at (t : Fin cfg0.N) (d : Fin 32) (q : Fin 128) (hq : q.val = d.val) :
    (iblk m c 5 t : Vec Ideal S1x128 .f32) (ix2 0 q) = (m ((c : Thread nD τ).loc main_arg5) : FVec Ideal S1x32 .f32) (ix2 0 d) := by
  have hi : ∀ t : Fin cfg0.N, win0_5.index t (0 : Fin 2) = 0 ∧ win0_5.index t (1 : Fin 2) = 0 :=
    (by decide +kernel : ∀ t : Fin grid0.N, _)
  obtain ⟨h0, h1⟩ := hi t
  unfold iblk
  rw [View.read_apply]
  show V m c main_v6 _ = _
  refine Eq.trans (congrArg (V m c main_v6) ?_) (V_v6 m c d q hq)
  funext a
  apply Fin.ext
  match a with
  | ⟨0, _⟩ => show win0_5.index t (0 : Fin 2) * 1 + 1 * 0 = 0; rw [h0] <;> omega
  | ⟨1, _⟩ => show win0_5.index t (1 : Fin 2) * 128 + 1 * q.val = q.val; rw [h1] <;> omega

theorem iblk6_at (t : Fin cfg0.N) (d : Fin 32) (q : Fin 128) (hq : q.val = d.val) :
    (iblk m c 6 t : Vec Ideal S1x128 .f32) (ix2 0 q) = (m ((c : Thread nD τ).loc main_arg6) : FVec Ideal S1x32 .f32) (ix2 0 d) := by
  have hi : ∀ t : Fin cfg0.N, win0_6.index t (0 : Fin 2) = 0 ∧ win0_6.index t (1 : Fin 2) = 0 :=
    (by decide +kernel : ∀ t : Fin grid0.N, _)
  obtain ⟨h0, h1⟩ := hi t
  unfold iblk
  rw [View.read_apply]
  show V m c main_v9 _ = _
  refine Eq.trans (congrArg (V m c main_v9) ?_) (V_v9 m c d q hq)
  funext a
  apply Fin.ext
  match a with
  | ⟨0, _⟩ => show win0_6.index t (0 : Fin 2) * 1 + 1 * 0 = 0; rw [h0] <;> omega
  | ⟨1, _⟩ => show win0_6.index t (1 : Fin 2) * 128 + 1 * q.val = q.val; rw [h1] <;> omega

/-- The results of the argument arrays, entry by entry. -/
def xbc (z : FVec Ideal S128x5120 .f32) (b : FVec Ideal S1x128x3x3072 .f32) (w : FVec Ideal S1x4x3072 .f32) (d : FVec Ideal S1x3072 .f32) (n : Fin 128) (j : Fin 3072) : EReal :=
  act (conv (fun a => b (ix4 0 n a j)) (z (ix2 n ⟨2048 + j.val, by omega⟩)) (fun a => w (ix3 0 a j)) (d (ix2 0 j)))
def carry (z : FVec Ideal S128x5120 .f32) (b : FVec Ideal S1x128x3x3072 .f32) (n : Fin 128) (a : Fin 3) (j : Fin 3072) : EReal :=
  if h : a.val < 2 then b (ix4 0 n ⟨a.val + 1, by omega⟩ j) else z (ix2 n ⟨2048 + j.val, by omega⟩)
def step (t : FVec Ideal S128x128 .f32) (db : FVec Ideal S1x32 .f32) (n : Fin 128) (h : Fin 32) : EReal := spl (t (ix2 n ⟨h.val, by omega⟩) + db (ix2 0 h))
def decay (t : FVec Ideal S128x128 .f32) (db al : FVec Ideal S1x32 .f32) (n : Fin 128) (h : Fin 32) : EReal := dcy (t (ix2 n ⟨h.val, by omega⟩) + db (ix2 0 h)) (al (ix2 0 h))

theorem final7_at (n : Fin 128) (j : Fin 3072) : ((dats m 0 c).arrAt 7 cfg0.N : FVec Ideal S128x3072 .f32) (ix2 n j) = xbc (m ((c : Thread nD τ).loc main_arg0)) (m ((c : Thread nD τ).loc main_arg2)) (m ((c : Thread nD τ).loc main_arg3)) (m ((c : Thread nD τ).loc main_arg4)) n j := by
  have hN : n.val / 32 < cfg0.N := lt_of_lt_of_eq (by omega) (show cfg0.N = 4 from N_0).symm
  have hi : ∀ t : Fin cfg0.N, win0_7.index t (0 : Fin 2) = t.val ∧ win0_7.index t (1 : Fin 2) = 0 ∧ (cfg0.win 7).flush t = true :=
    (by decide +kernel : ∀ t : Fin grid0.N, _)
  obtain ⟨h0, h1, hfl⟩ := hi ⟨n.val / 32, hN⟩
  have hb := congrFun (Value.blocks7 m c ⟨n.val / 32, hN⟩ hfl) (ix2 ⟨n.val % 32, Nat.mod_lt _ (by decide)⟩ j)
  rw [View.read_apply, Value.flushed7, Pipeline.Window.cut_apply] at hb
  refine Eq.trans (congrArg ((dats m 0 c).arrAt 7 cfg0.N) ?_) (hb.trans ?_)
  · funext a
    apply Fin.ext
    match a with
    | ⟨0, _⟩ => show n.val = win0_7.index ⟨n.val / 32, hN⟩ (0 : Fin 2) * 32 + 1 * (n.val % 32); rw [h0]; dsimp only; omega
    | ⟨1, _⟩ => show j.val = win0_7.index ⟨n.val / 32, hN⟩ (1 : Fin 2) * 3072 + 1 * j.val; rw [h1]; omega
  · refine (out7_at _ _ _ _ _ _ _ ⟨n.val % 32, Nat.mod_lt _ (by decide)⟩ j).trans ?_
    unfold xbc
    simp only [iblk0_at m c ⟨n.val / 32, hN⟩ n ⟨n.val % 32, Nat.mod_lt _ (by decide)⟩ (by dsimp only; omega), iblk2_at m c ⟨n.val / 32, hN⟩ n ⟨n.val % 32, Nat.mod_lt _ (by decide)⟩ (by dsimp only; omega), iblk3_at, iblk4_at]

theorem final8_at (n : Fin 128) (a : Fin 3) (j : Fin 3072) : ((dats m 0 c).arrAt 8 cfg0.N : FVec Ideal S128x3x3072 .f32) (ix3 n a j) = carry (m ((c : Thread nD τ).loc main_arg0)) (m ((c : Thread nD τ).loc main_arg2)) n a j := by
  have hN : n.val / 32 < cfg0.N := lt_of_lt_of_eq (by omega) (show cfg0.N = 4 from N_0).symm
  have hi : ∀ t : Fin cfg0.N, win0_8.index t (0 : Fin 3) = t.val ∧ win0_8.index t (1 : Fin 3) = 0 ∧ win0_8.index t (2 : Fin 3) = 0 ∧ (cfg0.win 8).flush t = true :=
    (by decide +kernel : ∀ t : Fin grid0.N, _)
  obtain ⟨h0, h1, h2, hfl⟩ := hi ⟨n.val / 32, hN⟩
  have hb := congrFun (Value.blocks8 m c ⟨n.val / 32, hN⟩ hfl) (ix3 ⟨n.val % 32, Nat.mod_lt _ (by decide)⟩ a j)
  rw [View.read_apply, Value.flushed8, Pipeline.Window.cut_apply] at hb
  refine Eq.trans (congrArg ((dats m 0 c).arrAt 8 cfg0.N) ?_) (hb.trans ?_)
  · funext i
    apply Fin.ext
    match i with
    | ⟨0, _⟩ => show n.val = win0_8.index ⟨n.val / 32, hN⟩ (0 : Fin 3) * 32 + 1 * (n.val % 32); rw [h0]; dsimp only; omega
    | ⟨1, _⟩ => show a.val = win0_8.index ⟨n.val / 32, hN⟩ (1 : Fin 3) * 3 + 1 * a.val; rw [h1]; omega
    | ⟨2, _⟩ => show j.val = win0_8.index ⟨n.val / 32, hN⟩ (2 : Fin 3) * 3072 + 1 * j.val; rw [h2]; omega
  · refine (out8_at _ _ _ _ _ _ _ ⟨n.val % 32, Nat.mod_lt _ (by decide)⟩ a j).trans ?_
    unfold kept carry
    simp only [iblk0_at m c ⟨n.val / 32, hN⟩ n ⟨n.val % 32, Nat.mod_lt _ (by decide)⟩ (by dsimp only; omega), iblk2_at m c ⟨n.val / 32, hN⟩ n ⟨n.val % 32, Nat.mod_lt _ (by decide)⟩ (by dsimp only; omega)]

theorem final9_at (n : Fin 128) (q : Fin 2048) : ((dats m 0 c).arrAt 9 cfg0.N : FVec Ideal S128x2048 .f32) (ix2 n q) = step (m ((c : Thread nD τ).loc main_arg1)) (m ((c : Thread nD τ).loc main_arg5)) n ⟨q.val / 64, by omega⟩ := by
  have hN : n.val / 32 < cfg0.N := lt_of_lt_of_eq (by omega) (show cfg0.N = 4 from N_0).symm
  have hi : ∀ t : Fin cfg0.N, win0_9.index t (0 : Fin 2) = t.val ∧ win0_9.index t (1 : Fin 2) = 0 ∧ (cfg0.win 9).flush t = true :=
    (by decide +kernel : ∀ t : Fin grid0.N, _)
  obtain ⟨h0, h1, hfl⟩ := hi ⟨n.val / 32, hN⟩
  have hb := congrFun (Value.blocks9 m c ⟨n.val / 32, hN⟩ hfl) (ix2 ⟨n.val % 32, Nat.mod_lt _ (by decide)⟩ q)
  rw [View.read_apply, Value.flushed9, Pipeline.Window.cut_apply] at hb
  refine Eq.trans (congrArg ((dats m 0 c).arrAt 9 cfg0.N) ?_) (hb.trans ?_)
  · funext a
    apply Fin.ext
    match a with
    | ⟨0, _⟩ => show n.val = win0_9.index ⟨n.val / 32, hN⟩ (0 : Fin 2) * 32 + 1 * (n.val % 32); rw [h0]; dsimp only; omega
    | ⟨1, _⟩ => show q.val = win0_9.index ⟨n.val / 32, hN⟩ (1 : Fin 2) * 2048 + 1 * q.val; rw [h1]; omega
  · refine (out9_at _ _ _ _ _ _ _ ⟨n.val % 32, Nat.mod_lt _ (by decide)⟩ q ⟨q.val / 64, by omega⟩ rfl).trans ?_
    unfold step
    rw [iblk1_at m c ⟨n.val / 32, hN⟩ n ⟨n.val % 32, Nat.mod_lt _ (by decide)⟩ (by dsimp only; omega), iblk5_at m c _ ⟨q.val / 64, by omega⟩ _ rfl]

theorem final10_at (h : Fin 32) (n : Fin 128) (l : Fin 128) : ((dats m 0 c).arrAt 10 cfg0.N : FVec Ideal S32x128x128 .f32) (ix3 h n l) = decay (m ((c : Thread nD τ).loc main_arg1)) (m ((c : Thread nD τ).loc main_arg5)) (m ((c : Thread nD τ).loc main_arg6)) n h := by
  have hN : n.val / 32 < cfg0.N := lt_of_lt_of_eq (by omega) (show cfg0.N = 4 from N_0).symm
  have hi : ∀ t : Fin cfg0.N, win0_10.index t (0 : Fin 3) = 0 ∧ win0_10.index t (1 : Fin 3) = t.val ∧ win0_10.index t (2 : Fin 3) = 0 ∧ (cfg0.win 10).flush t = true :=
    (by decide +kernel : ∀ t : Fin grid0.N, _)
  obtain ⟨h0, h1, h2, hfl⟩ := hi ⟨n.val / 32, hN⟩
  have hb := congrFun (Value.blocks10 m c ⟨n.val / 32, hN⟩ hfl) (ix3 h ⟨n.val % 32, Nat.mod_lt _ (by decide)⟩ l)
  rw [View.read_apply, Value.flushed10, Pipeline.Window.cut_apply] at hb
  refine Eq.trans (congrArg ((dats m 0 c).arrAt 10 cfg0.N) ?_) (hb.trans ?_)
  · funext a
    apply Fin.ext
    match a with
    | ⟨0, _⟩ => show h.val = win0_10.index ⟨n.val / 32, hN⟩ (0 : Fin 3) * 32 + 1 * h.val; rw [h0]; omega
    | ⟨1, _⟩ => show n.val = win0_10.index ⟨n.val / 32, hN⟩ (1 : Fin 3) * 32 + 1 * (n.val % 32); rw [h1]; dsimp only; omega
    | ⟨2, _⟩ => show l.val = win0_10.index ⟨n.val / 32, hN⟩ (2 : Fin 3) * 128 + 1 * l.val; rw [h2]; omega
  · refine (out10_at _ _ _ _ _ _ _ h ⟨n.val % 32, Nat.mod_lt _ (by decide)⟩ l ⟨h.val, by omega⟩ rfl).trans ?_
    unfold decay
    rw [iblk1_at m c ⟨n.val / 32, hN⟩ n ⟨n.val % 32, Nat.mod_lt _ (by decide)⟩ (by dsimp only; omega), iblk5_at m c _ h _ rfl, iblk6_at m c _ h _ rfl]

end Cert.Conv1

end
-- ==== Proof.ClaimsConv.lean ====
/- One token of each sample through the second mixer's convolution: the reference, and equal results over the extended reals. -/
module

public import proofs.«01_k».proof.Defs
public import proofs.«01_k».proof.Proof.Gen.Reference6Ideal.Run
public import proofs.«01_k».proof.Proof.ConvStep
public import Idealize.ShloMosaic.Lib.Quiescent

@[expose] public section

set_option maxRecDepth 16384

noncomputable section

namespace Cert.Conv1

open Idealize.ShloMosaic Idealize.ShloMosaic.TcCoe Idealize.ShloMosaic.Tactic Idealize.SL.Sem

section Reference
open Cert.Reference6Ideal Cert.Reference6Ideal.Gen

/-- The carried tokens and the new one. -/
def Full (b : FVec Ideal S1x128x3x3072 .f32) (z : FVec Ideal S128x5120 .f32) : FVec Ideal S128x4x3072 .f32 :=
  concatenate S128x4x3072 1 [⟨S128x3x3072, (shapeCast _ b shapeCasts_S1x128x3x3072_S128x3x3072)⟩, ⟨S128x1x3072, (broadcastInDim S128x1x3072 ![0, 2] bcast_S128x3072_S128x1x3072_0_2 (extractStridedSlice S128x3072 ![0, 2048] z slices_S128x5120_S128x3072_0_2048))⟩] concatenates_S128x3x3072_S128x1x3072_S128x4x3072_d1

/-- The convolution and its bias. -/
def Cv (f : FVec Ideal S128x4x3072 .f32) (w : FVec Ideal S1x4x3072 .f32) (d : FVec Ideal S1x3072 .f32) : FVec Ideal S128x3072 .f32 :=
  addf (addf (addf (addf (addf (broadcastInDim S128x3072 ![] bcast_S_S128x3072 (constant (F := Ideal) S_ .f32 0x00000000#32)) (mulf (shapeCast _ (extractStridedSlice S128x1x3072 ![0, 0, 0] f slices_S128x4x3072_S128x1x3072_0_0_0) shapeCasts_S128x1x3072_S128x3072) (broadcastInDim S128x3072 ![0, 1] bcast_S1x3072_S128x3072_0_1 (broadcastInDim S1x3072 ![1] bcast_S3072_S1x3072_1 (shapeCast _ (extractStridedSlice S1x1x3072 ![0, 0, 0] w slices_S1x4x3072_S1x1x3072_0_0_0) shapeCasts_S1x1x3072_S3072))))) (mulf (shapeCast _ (extractStridedSlice S128x1x3072 ![0, 1, 0] f slices_S128x4x3072_S128x1x3072_0_1_0) shapeCasts_S128x1x3072_S128x3072) (broadcastInDim S128x3072 ![0, 1] bcast_S1x3072_S128x3072_0_1 (broadcastInDim S1x3072 ![1] bcast_S3072_S1x3072_1 (shapeCast _ (extractStridedSlice S1x1x3072 ![0, 1, 0] w slices_S1x4x3072_S1x1x3072_0_1_0) shapeCasts_S1x1x3072_S3072))))) (mulf (shapeCast _ (extractStridedSlice S128x1x3072 ![0, 2, 0] f slices_S128x4x3072_S128x1x3072_0_2_0) shapeCasts_S128x1x3072_S128x3072) (broadcastInDim S128x3072 ![0, 1] bcast_S1x3072_S128x3072_0_1 (broadcastInDim S1x3072 ![1] bcast_S3072_S1x3072_1 (shapeCast _ (extractStridedSlice S1x1x3072 ![0, 2, 0] w slices_S1x4x3072_S1x1x3072_0_2_0) shapeCasts_S1x1x3072_S3072))))) (mulf (shapeCast _ (extractStridedSlice S128x1x3072 ![0, 3, 0] f slices_S128x4x3072_S128x1x3072_0_3_0) shapeCasts_S128x1x3072_S128x3072) (broadcastInDim S128x3072 ![0, 1] bcast_S1x3072_S128x3072_0_1 (broadcastInDim S1x3072 ![1] bcast_S3072_S1x3072_1 (shapeCast _ (extractStridedSlice S1x1x3072 ![0, 3, 0] w slices_S1x4x3072_S1x1x3072_0_3_0) shapeCasts_S1x1x3072_S3072))))) (broadcastInDim S128x3072 ![0, 1] bcast_S1x3072_S128x3072_0_1 (broadcastInDim S1x3072 ![1] bcast_S3072_S1x3072_1 (shapeCast _ d shapeCasts_S1x3072_S3072)))

/-- The SiLU. -/
def Sil (v : FVec Ideal S128x3072 .f32) : FVec Ideal S128x3072 .f32 := mulf v (Host.divf (broadcastInDim S128x3072 ![] bcast_S_S128x3072 (constant (F := Ideal) S_ .f32 0x3F800000#32)) (addf (broadcastInDim S128x3072 ![] bcast_S_S128x3072 (constant (F := Ideal) S_ .f32 0x3F800000#32)) (Host.exp (Host.negf v))))

/-- The step sizes of each head. -/
def Tm (t : FVec Ideal S128x128 .f32) (db : FVec Ideal S1x32 .f32) : FVec Ideal S128x32 .f32 :=
  addf (extractStridedSlice S128x32 ![0, 0] t slices_S128x128_S128x32_0_0) (broadcastInDim S128x32 ![0, 1] bcast_S1x32_S128x32_0_1 (broadcastInDim S1x32 ![1] bcast_S32_S1x32_1 (shapeCast _ db shapeCasts_S1x32_S32)))
def Spl (t : FVec Ideal S128x32 .f32) : FVec Ideal S128x32 .f32 :=
  addf (maximumf t (broadcastInDim S128x32 ![] bcast_S_S128x32 (constant (F := Ideal) S_ .f32 0x00000000#32))) (Host.log1p (Host.exp (Host.negf (Host.absf t))))
def Spread (s : FVec Ideal S128x32 .f32) : FVec Ideal S128x2048 .f32 :=
  shapeCast _ (broadcastInDim S128x32x64 ![0, 1, 2] bcast_S128x32x1_S128x32x64_0_1_2 (broadcastInDim S128x32x1 ![0, 1] bcast_S128x32_S128x32x1_0_1 s)) shapeCasts_S128x32x64_S128x2048
def Dcy (s : FVec Ideal S128x32 .f32) (al : FVec Ideal S1x32 .f32) : FVec Ideal S32x128x128 .f32 :=
  broadcastInDim S32x128x128 ![0, 1, 2] bcast_S32x128x1_S32x128x128_0_1_2 (broadcastInDim S32x128x1 ![0, 1] bcast_S32x128_S32x128x1_0_1 (transpose S32x128 [1, 0] (Host.exp (mulf s (broadcastInDim S128x32 ![0, 1] bcast_S1x32_S128x32_0_1 (broadcastInDim S1x32 ![1] bcast_S32_S1x32_1 (Host.negf (Host.exp (shapeCast _ al shapeCasts_S1x32_S32))))))) transposes_S128x32_S32x128_1_0))

theorem full_at (b : FVec Ideal S1x128x3x3072 .f32) (z : FVec Ideal S128x5120 .f32) (n : Fin 128) (a : Fin 4) (j : Fin 3072) :
    (Full b z (ix3 n a j) : EReal) = if h : a.val < 3 then b (ix4 0 n ⟨a.val, h⟩ j) else z (ix2 n ⟨2048 + j.val, by omega⟩) := by
  unfold Full
  pointwise

theorem cv_at (f : FVec Ideal S128x4x3072 .f32) (w : FVec Ideal S1x4x3072 .f32) (d : FVec Ideal S1x3072 .f32) (n : Fin 128) (j : Fin 3072) :
    (Cv f w d (ix2 n j) : EReal) = f (ix3 n 0 j) * w (ix3 0 0 j) + f (ix3 n 1 j) * w (ix3 0 1 j) + f (ix3 n 2 j) * w (ix3 0 2 j) + f (ix3 n 3 j) * w (ix3 0 3 j) + d (ix2 0 j) := by
  unfold Cv
  pointwise

theorem sil_at (v : FVec Ideal S128x3072 .f32) (n : Fin 128) (j : Fin 3072) : (Sil v (ix2 n j) : EReal) = act (v (ix2 n j)) := by
  unfold Sil act Ideal.logistic
  pointwise

theorem cut_at (f : FVec Ideal S128x4x3072 .f32) (n : Fin 128) (a : Fin 3) (j : Fin 3072) :
    (extractStridedSlice S128x3x3072 ![0, 1, 0] f slices_S128x4x3072_S128x3x3072_0_1_0 (ix3 n a j) : EReal) = f (ix3 n ⟨1 + a.val, by omega⟩ j) := by
  pointwise

theorem tm_at (t : FVec Ideal S128x128 .f32) (db : FVec Ideal S1x32 .f32) (n : Fin 128) (h : Fin 32) : (Tm t db (ix2 n h) : EReal) = t (ix2 n ⟨h.val, by omega⟩) + db (ix2 0 h) := by
  unfold Tm
  pointwise

theorem spl_at (v : FVec Ideal S128x32 .f32) (i : S128x32.Idx) : (Spl v i : EReal) = spl (v i) := by
  unfold Spl spl
  rw [zero_sub]
  pointwise

theorem spread_at (s : FVec Ideal S128x32 .f32) (n : Fin 128) (q : Fin 2048) : (Spread s (ix2 n q) : EReal) = s (ix2 n ⟨q.val / 64, by omega⟩) := by
  unfold Spread
  pointwise

theorem dcy_at (s : FVec Ideal S128x32 .f32) (al : FVec Ideal S1x32 .f32) (h : Fin 32) (n l : Fin 128) : (Dcy s al (ix3 h n l) : EReal) = Ideal.exp (s (ix2 n h) * -Ideal.exp (al (ix2 0 h))) := by
  unfold Dcy
  pointwise

theorem xbc_ref (z : FVec Ideal S128x5120 .f32) (b : FVec Ideal S1x128x3x3072 .f32) (w : FVec Ideal S1x4x3072 .f32) (d : FVec Ideal S1x3072 .f32) (n : Fin 128) (j : Fin 3072) :
    (Sil (Cv (Full b z) w d) (ix2 n j) : EReal) = xbc z b w d n j := by
  rw [sil_at, cv_at]
  simp only [full_at]
  rfl

theorem carry_ref (z : FVec Ideal S128x5120 .f32) (b : FVec Ideal S1x128x3x3072 .f32) (n : Fin 128) (a : Fin 3) (j : Fin 3072) :
    (extractStridedSlice S128x3x3072 ![0, 1, 0] (Full b z) slices_S128x4x3072_S128x3x3072_0_1_0 (ix3 n a j) : EReal) = carry z b n a j := by
  rw [cut_at, full_at]
  unfold carry
  by_cases h : a.val < 2
  · rw [dif_pos h, dif_pos (by show 1 + a.val < 3; omega)]
    exact congrArg b (congrArg (fun q => ix4 0 n q j) (Fin.ext (Nat.add_comm 1 a.val)))
  · rw [dif_neg h, dif_neg (by show ¬(1 + a.val < 3); omega)]

theorem step_ref (t : FVec Ideal S128x128 .f32) (db : FVec Ideal S1x32 .f32) (n : Fin 128) (q : Fin 2048) : (Spread (Spl (Tm t db)) (ix2 n q) : EReal) = step t db n ⟨q.val / 64, by omega⟩ := by
  rw [spread_at, spl_at, tm_at]
  rfl

theorem decay_ref (t : FVec Ideal S128x128 .f32) (db al : FVec Ideal S1x32 .f32) (h : Fin 32) (n l : Fin 128) : (Dcy (Spl (Tm t db)) al (ix3 h n l) : EReal) = decay t db al n h := by
  rw [dcy_at, spl_at, tm_at]
  unfold decay dcy
  rw [zero_sub]
end Reference

theorem run_ref : Cert.quiescent_Reference6Ideal (hReference6Ideal := Cert.Reference6Ideal.Gen.facts) := fun m g _ =>
  (θ_run Cert.Reference6Ideal.defs _ _).mono (fun r h => ⟨fun c => (h c).2.2.2.2, sem_eq_zero_of_no_sems (by decide) r.2⟩) (Cert.Reference6Ideal.Value.run m g)

theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    fun c => (Cert.Kernel6Ideal.Gen.dats m 0 c).arrAt 9 Cert.Kernel6Ideal.cfg0.N, fun c => (Cert.Kernel6Ideal.Gen.dats m 0 c).arrAt 10 Cert.Kernel6Ideal.cfg0.N, Cert.Kernel6Ideal.Value.run_blocks (F := Ideal) m g, ?_⟩
  refine (θ_run _ _ _).mono (fun r h c => ⟨(h c).1.trans ?_, (h c).2.1.trans ?_, (h c).2.2.1.trans ?_, (h c).2.2.2.1.trans ?_, (h c).2.2.2.2⟩) (Cert.Reference6Ideal.Value.run m' g')
  all_goals obtain ⟨e0, e1, e2, e3, e4, e5, e6⟩ := hagree c
  · unfold Cert.Reference6Ideal.Value.res_main_v69
    rw [e0, e2, e3, e4]
    funext y
    rw [eq_ix2 y]
    exact (xbc_ref _ _ _ _ (y 0) (y 1)).trans (final7_at m c (y 0) (y 1)).symm
  · rw [e0, e2]
    funext y
    rw [eq_ix3 y]
    exact (carry_ref _ _ (y 0) (y 1) (y 2)).trans (final8_at m c (y 0) (y 1) (y 2)).symm
  · rw [e1, e5]
    funext y
    rw [eq_ix2 y]
    exact (step_ref _ _ (y 0) (y 1)).trans (final9_at m c (y 0) (y 1)).symm
  · rw [e1, e5, e6]
    funext y
    rw [eq_ix3 y]
    exact (decay_ref _ _ _ (y 0) (y 1) (y 2)).trans (final10_at m c (y 0) (y 1) (y 2)).symm

end Cert.Conv1

end
-- ==== Proof.Cond.lean ====
/- The conditioning's projection: the call block by block, the reference, and equal results over the extended reals. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.StableHlo.Run
public import Idealize.ShloMosaic.Lib.Quiescent

@[expose] public section

set_option maxRecDepth 65536

noncomputable section

namespace Cert.Cond

open Idealize.ShloMosaic Idealize.ShloMosaic.TcCoe Idealize.ShloMosaic.Tactic Idealize.SL.Sem

/-- One entry of the projection: the SiLU of a row of the conditioning times a column of the weights, and the bias. -/
def cond (x : Fin 1024 → EReal) (w : Fin 1024 → EReal) (b : EReal) : EReal := (∑ k, x k * Ideal.logistic (x k) * w k) + b

/-- The rows of both batches, one below the other. -/
def rows (p : FVec Ideal ⟨2, ![8, 1024]⟩ .f32) (s : FVec Ideal ⟨2, ![128, 1024]⟩ .f32) (r : Fin 136) (k : Fin 1024) : EReal :=
  if h : r.val < 8 then p (ix2 ⟨r.val, h⟩ k) else s (ix2 ⟨r.val - 8, by omega⟩ k)

section Kernel
open Cert.Kernel9Ideal Cert.Kernel9Ideal.Gen

theorem pay1_at (v0 : Vec Ideal S136x1024 .f32) (v5 : Vec Ideal S1x1024x3072 .f32) (v9 : Vec Ideal S1x1x3072 .f32) (r : Fin 136) (j : Fin 3072) :
    (k0_pay1 v0 v5 v9 (ix3 0 r j) : EReal) = cond (fun k => v0 (ix2 r k)) (fun k => v5 (ix3 0 k j)) (v9 (ix3 0 0 j)) := by
  unfold k0_pay1 cond
  pointwise

theorem out_at (x0 : Vec Ideal S136x1024 .f32) (x1 : Vec Ideal S1x1024x3072 .f32) (x2 : Vec Ideal S1x1x3072 .f32) (r : Fin 136) (j : Fin 3072) :
    out0_3 x0 x1 x2 (ix3 0 r j) = cond (fun k => x0 (ix2 r k)) (fun k => x1 (ix3 0 k j)) (x2 (ix3 0 0 j)) := by
  unfold out0_3
  rw [View.canon_cons_unit_lit inb_S1x136x3072_S1x136x3072_0_0_0 _ _ (by decide)]
  refine (pay1_at _ _ _ r j).trans ?_
  rw [View.ld_unit_lit inb_S136x1024_S136x1024_0_0 x0 (by decide), View.ld_unit_lit inb_S1x1024x3072_S1x1024x3072_0_0_0 x1 (by decide),
    View.ld_unit_lit inb_S1x1x3072_S1x1x3072_0_0_0 x2 (by decide)]

theorem rows_at (p : FVec Ideal S8x1024 .f32) (s : FVec Ideal S128x1024 .f32) (r : Fin 136) (k : Fin 1024) :
    (concatenate S136x1024 0 [⟨S8x1024, p⟩, ⟨S128x1024, s⟩] concatenates_S8x1024_S128x1024_S136x1024_d0 (ix2 r k) : EReal) = rows p s r k := by
  unfold rows
  pointwise

theorem cast_b (v : FVec Ideal S2x6144 .f32) (l : Fin 2) (k : Fin 6144) : (shapeCast S2x1x6144 v shapeCasts_S2x6144_S2x1x6144 (ix3 l 0 k) : EReal) = v (ix2 l k) := by
  pointwise

variable (m : (ℓ : Loc nD τ sig) → Buf (Elt Ideal) ℓ) (c : Dev nD)

theorem V_v0 (r : Fin 136) (k : Fin 1024) : (V m c main_v0 : FVec Ideal S136x1024 .f32) (ix2 r k) = rows (m ((c : Thread nD τ).loc main_arg0)) (m ((c : Thread nD τ).loc main_arg1)) r k := by
  have h : (V m c main_v0 : FVec Ideal S136x1024 .f32) = concatenate S136x1024 0 [⟨S8x1024, (m ((c : Thread nD τ).loc main_arg0) : FVec Ideal S8x1024 .f32)⟩, ⟨S128x1024, (m ((c : Thread nD τ).loc main_arg1) : FVec Ideal S128x1024 .f32)⟩] concatenates_S8x1024_S128x1024_S136x1024_d0 := by
    show StableHlo.after hostOps0 _ (Proc.devRef .tc main_v0) = _
    after_results
  rw [h]
  exact rows_at _ _ _ _

theorem V_v1 (l : Fin 2) (k : Fin 6144) : (V m c main_v1 : FVec Ideal S2x1x6144 .f32) (ix3 l 0 k) = (m ((c : Thread nD τ).loc main_arg3) : FVec Ideal S2x6144 .f32) (ix2 l k) := by
  have h : (V m c main_v1 : FVec Ideal S2x1x6144 .f32) = shapeCast S2x1x6144 (m ((c : Thread nD τ).loc main_arg3) : FVec Ideal S2x6144 .f32) shapeCasts_S2x6144_S2x1x6144 := by
    show StableHlo.after hostOps0 _ (Proc.devRef .tc main_v1) = _
    after_results
    rfl
  rw [h]
  exact cast_b _ _ _

theorem iblk0_at (t : Fin cfg0.N) (r : Fin 136) (k : Fin 1024) :
    (iblk m c 0 t : Vec Ideal S136x1024 .f32) (ix2 r k) = rows (m ((c : Thread nD τ).loc main_arg0)) (m ((c : Thread nD τ).loc main_arg1)) r k := by
  have hi : ∀ t : Fin cfg0.N, win0_0.index t (0 : Fin 2) = 0 ∧ win0_0.index t (1 : Fin 2) = 0 :=
    (by decide +kernel : ∀ t : Fin grid0.N, _)
  obtain ⟨h0, h1⟩ := hi t
  unfold iblk
  rw [View.read_apply]
  show V m c main_v0 _ = _
  refine Eq.trans (congrArg (V m c main_v0) ?_) (V_v0 m c r k)
  funext a
  apply Fin.ext
  match a with
  | ⟨0, _⟩ => show win0_0.index t (0 : Fin 2) * 136 + 1 * r.val = r.val; rw [h0] <;> omega
  | ⟨1, _⟩ => show win0_0.index t (1 : Fin 2) * 1024 + 1 * k.val = k.val; rw [h1] <;> omega

theorem iblk1_at (t : Fin cfg0.N) (l : Fin 2) (u : ℕ) (hu : u < 2) (ht : t.val = 2 * l.val + u) (k : Fin 1024) (j : Fin 3072) (q : Fin 6144) (hq : q.val = 3072 * u + j.val) :
    (iblk m c 1 t : Vec Ideal S1x1024x3072 .f32) (ix3 0 k j) = (m ((c : Thread nD τ).loc main_arg2) : FVec Ideal S2x1024x6144 .f32) (ix3 l k q) := by
  have hi : ∀ t : Fin cfg0.N, win0_1.index t (0 : Fin 3) = t.val / 2 ∧ win0_1.index t (1 : Fin 3) = 0 ∧ win0_1.index t (2 : Fin 3) = t.val % 2 :=
    (by decide +kernel : ∀ t : Fin grid0.N, _)
  obtain ⟨h0, h1, h2⟩ := hi t
  unfold iblk
  rw [View.read_apply]
  show V m c main_arg2 _ = _
  rw [V_main_arg2]
  refine congrArg (m ((c : Thread nD τ).loc main_arg2)) ?_
  funext a
  apply Fin.ext
  match a with
  | ⟨0, _⟩ => show win0_1.index t (0 : Fin 3) * 1 + 1 * 0 = l.val; rw [h0] <;> omega
  | ⟨1, _⟩ => show win0_1.index t (1 : Fin 3) * 1024 + 1 * k.val = k.val; rw [h1] <;> omega
  | ⟨2, _⟩ => show win0_1.index t (2 : Fin 3) * 3072 + 1 * j.val = q.val; rw [h2] <;> omega

theorem iblk2_at (t : Fin cfg0.N) (l : Fin 2) (u : ℕ) (hu : u < 2) (ht : t.val = 2 * l.val + u) (j : Fin 3072) (q : Fin 6144) (hq : q.val = 3072 * u + j.val) :
    (iblk m c 2 t : Vec Ideal S1x1x3072 .f32) (ix3 0 0 j) = (m ((c : Thread nD τ).loc main_arg3) : FVec Ideal S2x6144 .f32) (ix2 l q) := by
  have hi : ∀ t : Fin cfg0.N, win0_2.index t (0 : Fin 3) = t.val / 2 ∧ win0_2.index t (1 : Fin 3) = 0 ∧ win0_2.index t (2 : Fin 3) = t.val % 2 :=
    (by decide +kernel : ∀ t : Fin grid0.N, _)
  obtain ⟨h0, h1, h2⟩ := hi t
  unfold iblk
  rw [View.read_apply]
  show V m c main_v1 _ = _
  refine Eq.trans (congrArg (V m c main_v1) ?_) (V_v1 m c l q)
  funext a
  apply Fin.ext
  match a with
  | ⟨0, _⟩ => show win0_2.index t (0 : Fin 3) * 1 + 1 * 0 = l.val; rw [h0] <;> omega
  | ⟨1, _⟩ => show win0_2.index t (1 : Fin 3) * 1 + 1 * 0 = 0; rw [h1] <;> omega
  | ⟨2, _⟩ => show win0_2.index t (2 : Fin 3) * 3072 + 1 * j.val = q.val; rw [h2] <;> omega

/-- The final array, entry by entry. -/
theorem final_at (l : Fin 2) (u : ℕ) (hu : u < 2) (r : Fin 136) (j : Fin 3072) (q : Fin 6144) (hq : q.val = 3072 * u + j.val) :
    ((dats m 0 c).arrAt 3 cfg0.N : FVec Ideal S2x136x6144 .f32) (ix3 l r q) =
      cond (rows (m ((c : Thread nD τ).loc main_arg0)) (m ((c : Thread nD τ).loc main_arg1)) r) (fun k => (m ((c : Thread nD τ).loc main_arg2) : FVec Ideal S2x1024x6144 .f32) (ix3 l k q))
        ((m ((c : Thread nD τ).loc main_arg3) : FVec Ideal S2x6144 .f32) (ix2 l q)) := by
  have hN : 2 * l.val + u < cfg0.N := lt_of_lt_of_eq (by omega) (show cfg0.N = 4 from N_0).symm
  have hi : ∀ t : Fin cfg0.N, win0_3.index t (0 : Fin 3) = t.val / 2 ∧ win0_3.index t (1 : Fin 3) = 0 ∧ win0_3.index t (2 : Fin 3) = t.val % 2 ∧ (cfg0.win 3).flush t = true :=
    (by decide +kernel : ∀ t : Fin grid0.N, _)
  obtain ⟨h0, h1, h2, hfl⟩ := hi ⟨2 * l.val + u, hN⟩
  have hb := congrFun (Value.blocks3 m c ⟨2 * l.val + u, hN⟩ hfl) (ix3 0 r j)
  rw [View.read_apply, Value.flushed3, Pipeline.Window.cut_apply] at hb
  refine Eq.trans (congrArg ((dats m 0 c).arrAt 3 cfg0.N) ?_) (hb.trans ?_)
  · funext a
    apply Fin.ext
    match a with
    | ⟨0, _⟩ => show l.val = win0_3.index ⟨2 * l.val + u, hN⟩ (0 : Fin 3) * 1 + 1 * 0; rw [h0]; dsimp only; omega
    | ⟨1, _⟩ => show r.val = win0_3.index ⟨2 * l.val + u, hN⟩ (1 : Fin 3) * 136 + 1 * r.val; rw [h1]; omega
    | ⟨2, _⟩ => show q.val = win0_3.index ⟨2 * l.val + u, hN⟩ (2 : Fin 3) * 3072 + 1 * j.val; rw [h2]; dsimp only; omega
  · refine (out_at _ _ _ r j).trans ?_
    simp only [iblk0_at, iblk1_at m c ⟨2 * l.val + u, hN⟩ l u hu rfl _ j q hq, iblk2_at m c ⟨2 * l.val + u, hN⟩ l u hu rfl j q hq]
end Kernel

section Reference
open Cert.Reference9Ideal Cert.Reference9Ideal.Gen

/-- One layer's projection of the prompt's conditioning. -/
def LayP (o : ℕ) (h1 : S2x1024x6144.Slices ![o, 0, 0] S1x1024x6144) (h2 : S2x6144.Slices ![o, 0] S1x6144) (x : FVec Ideal S8x1024 .f32) (w : FVec Ideal S2x1024x6144 .f32) (b : FVec Ideal S2x6144 .f32) : FVec Ideal S8x6144 .f32 :=
  addf (Host.dotGeneral dot_S8x1024_S1024x6144_S8x6144_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) (shapeCast _ (extractStridedSlice S1x1024x6144 ![o, 0, 0] w h1) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![o, 0] b h2) shapeCasts_S1x6144_S6144)))

/-- One layer's projection of the samples' conditioning. -/
def LayS (o : ℕ) (h1 : S2x1024x6144.Slices ![o, 0, 0] S1x1024x6144) (h2 : S2x6144.Slices ![o, 0] S1x6144) (x : FVec Ideal S128x1024 .f32) (w : FVec Ideal S2x1024x6144 .f32) (b : FVec Ideal S2x6144 .f32) : FVec Ideal S128x6144 .f32 :=
  addf (Host.dotGeneral dot_S128x1024_S1024x6144_S128x6144_1_0_0_1_n_n none (mulf x (Host.divf (broadcastInDim S128x1024 ![] bcast_S_S128x1024 (constant S_ .f32 0x3F800000#32)) (addf (broadcastInDim S128x1024 ![] bcast_S_S128x1024 (constant S_ .f32 0x3F800000#32)) (Host.exp (Host.negf x))))) (shapeCast _ (extractStridedSlice S1x1024x6144 ![o, 0, 0] w h1) shapeCasts_S1x1024x6144_S1024x6144)) (broadcastInDim S128x6144 ![0, 1] bcast_S1x6144_S128x6144_0_1 (broadcastInDim S1x6144 ![1] bcast_S6144_S1x6144_1 (shapeCast _ (extractStridedSlice S1x6144 ![o, 0] b h2) shapeCasts_S1x6144_S6144)))

/-- One layer's rows. -/
def Lay (p : FVec Ideal S8x6144 .f32) (s : FVec Ideal S128x6144 .f32) : FVec Ideal S1x136x6144 .f32 :=
  broadcastInDim S1x136x6144 ![1, 2] bcast_S136x6144_S1x136x6144_1_2 (concatenate S136x6144 0 [⟨S8x6144, p⟩, ⟨S128x6144, s⟩] concatenates_S8x6144_S128x6144_S136x6144_d0)

theorem one_bits : Ideal.ofBits .f32 0x3F800000#32 = 1 := by
  simp [Ideal.ofBits, Ideal.ieee, -EReal.coe_mul]
  try norm_num

theorem layP_at (o : ℕ) (ho : o < 2) (h1 : S2x1024x6144.Slices ![o, 0, 0] S1x1024x6144) (h2 : S2x6144.Slices ![o, 0] S1x6144) (x : FVec Ideal S8x1024 .f32) (w : FVec Ideal S2x1024x6144 .f32) (b : FVec Ideal S2x6144 .f32) (r : Fin 8) (q : Fin 6144) :
    (LayP o h1 h2 x w b (ix2 r q) : EReal) = cond (fun k => x (ix2 r k)) (fun k => w (ix3 ⟨o, ho⟩ k q)) (b (ix2 ⟨o, ho⟩ q)) := by
  unfold LayP cond Ideal.logistic
  pointwise

theorem layS_at (o : ℕ) (ho : o < 2) (h1 : S2x1024x6144.Slices ![o, 0, 0] S1x1024x6144) (h2 : S2x6144.Slices ![o, 0] S1x6144) (x : FVec Ideal S128x1024 .f32) (w : FVec Ideal S2x1024x6144 .f32) (b : FVec Ideal S2x6144 .f32) (r : Fin 128) (q : Fin 6144) :
    (LayS o h1 h2 x w b (ix2 r q) : EReal) = cond (fun k => x (ix2 r k)) (fun k => w (ix3 ⟨o, ho⟩ k q)) (b (ix2 ⟨o, ho⟩ q)) := by
  unfold LayS cond Ideal.logistic
  pointwise

theorem lay_at (p : FVec Ideal S8x6144 .f32) (s : FVec Ideal S128x6144 .f32) (r : Fin 136) (q : Fin 6144) :
    (Lay p s (ix3 0 r q) : EReal) = if h : r.val < 8 then p (ix2 ⟨r.val, h⟩ q) else s (ix2 ⟨r.val - 8, by omega⟩ q) := by
  unfold Lay
  pointwise

theorem both_at (a b : FVec Ideal S1x136x6144 .f32) (l : Fin 2) (r : Fin 136) (q : Fin 6144) :
    (concatenate S2x136x6144 0 [⟨S1x136x6144, a⟩, ⟨S1x136x6144, b⟩] concatenates_S1x136x6144_S1x136x6144_S2x136x6144_d0 (ix3 l r q) : EReal) = if l.val < 1 then a (ix3 0 r q) else b (ix3 0 r q) := by
  match l with
  | 0 => pointwise
  | 1 => pointwise

theorem layer_at (o : ℕ) (ho : o < 2) (h1 : S2x1024x6144.Slices ![o, 0, 0] S1x1024x6144) (h2 : S2x6144.Slices ![o, 0] S1x6144) (p : FVec Ideal S8x1024 .f32) (s : FVec Ideal S128x1024 .f32) (w : FVec Ideal S2x1024x6144 .f32) (b : FVec Ideal S2x6144 .f32) (r : Fin 136) (q : Fin 6144) :
    (Lay (LayP o h1 h2 p w b) (LayS o h1 h2 s w b) (ix3 0 r q) : EReal) = cond (rows p s r) (fun k => w (ix3 ⟨o, ho⟩ k q)) (b (ix2 ⟨o, ho⟩ q)) := by
  rw [lay_at]
  unfold rows
  by_cases h : r.val < 8
  · simp only [dif_pos h, layP_at o ho]
  · simp only [dif_neg h, layS_at o ho]

/-- The reference's result. -/
def Res (p : FVec Ideal S8x1024 .f32) (s : FVec Ideal S128x1024 .f32) (w : FVec Ideal S2x1024x6144 .f32) (b : FVec Ideal S2x6144 .f32) : FVec Ideal S2x136x6144 .f32 :=
  concatenate S2x136x6144 0 [⟨S1x136x6144, Lay (LayP 0 slices_S2x1024x6144_S1x1024x6144_0_0_0 slices_S2x6144_S1x6144_0_0 p w b) (LayS 0 slices_S2x1024x6144_S1x1024x6144_0_0_0 slices_S2x6144_S1x6144_0_0 s w b)⟩,
    ⟨S1x136x6144, Lay (LayP 1 slices_S2x1024x6144_S1x1024x6144_1_0_0 slices_S2x6144_S1x6144_1_0 p w b) (LayS 1 slices_S2x1024x6144_S1x1024x6144_1_0_0 slices_S2x6144_S1x6144_1_0 s w b)⟩] concatenates_S1x136x6144_S1x136x6144_S2x136x6144_d0

theorem res_at (p : FVec Ideal S8x1024 .f32) (s : FVec Ideal S128x1024 .f32) (w : FVec Ideal S2x1024x6144 .f32) (b : FVec Ideal S2x6144 .f32) (l : Fin 2) (r : Fin 136) (q : Fin 6144) :
    (Res p s w b (ix3 l r q) : EReal) = cond (rows p s r) (fun k => w (ix3 l k q)) (b (ix2 l q)) := by
  unfold Res
  rw [both_at]
  match l with
  | 0 => exact layer_at 0 (by decide) _ _ p s w b r q
  | 1 => exact layer_at 1 (by decide) _ _ p s w b r q
end Reference

theorem run_ref : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩) (Cert.Reference9Ideal.Value.run m g)

theorem algebraic : Cert.algebraic_Kernel9Ideal_Reference9Ideal (hKernel9Ideal := Cert.Kernel9Ideal.Gen.facts) (hReference9Ideal := Cert.Reference9Ideal.Gen.facts) := by
  intro m g m' g' _ hagree
  refine ⟨fun c => (Cert.Kernel9Ideal.Gen.dats m 0 c).arrAt 3 Cert.Kernel9Ideal.cfg0.N, Cert.Kernel9Ideal.Value.run_blocks (F := Ideal) m g, ?_⟩
  refine (θ_run _ _ _).mono (fun r h c => ⟨(h c).1.trans ?_, (h c).2⟩) (Cert.Reference9Ideal.Value.run m' g')
  obtain ⟨e0, e1, e2, e3⟩ := hagree c
  rw [e0, e1, e2, e3]
  funext y
  rw [eq_ix3 y]
  have h2 : (y 2).val < 6144 := (y 2).isLt
  exact (res_at _ _ _ _ (y 0) (y 1) (y 2)).trans (final_at m c (y 0) ((y 2).val / 3072) (by omega) (y 1) ⟨(y 2).val % 3072, Nat.mod_lt _ (by decide)⟩ (y 2) (by dsimp only; omega)).symm

end Cert.Cond

end
-- ==== Proof.StepBody.lean ====
/- One step of the HGRN2 recurrence for each sample: the body's stages for a head and a token, and what a point leaves in each output. -/
module

public import proofs.«01_k».proof.Proof.Gen.Kernel8Ideal.Value
public import Idealize.ShloMosaic.Lib.Pipeline.ValueKit
public import Idealize.ShloMosaic.Lib.StableHlo.Run

@[expose] public section

set_option maxRecDepth 65536

noncomputable section

namespace Cert.EvenStep

open Idealize.ShloMosaic Idealize.ShloMosaic.TcCoe Idealize.ShloMosaic.Tactic Idealize.SL.Sem Cert.Kernel8Ideal Cert.Kernel8Ideal.Gen

variable {F : FTy → Type} [FloatOps F]

/-! ## The stages -/

/-- A number rounded. -/
def hi (x : FVec F S8x128 .f32) : FVec F S8x128 .f32 := extf .f32 (truncf .bf16 x bitsLt_bf16_f32) bitsLt_bf16_f32
/-- What the rounding left. -/
def rest (x : FVec F S8x128 .f32) : FVec F S8x128 .f32 := subf x (hi x)

theorem hsl (h : Fin 4) : S1x512.Slices ![0, 128 * h.val] S1x128 := by revert h; decide

/-- The forget gate of a head. -/
def fOf (L : FVec F S1x512 .f32) (h : Fin 4) (z : FVec F S8x128 .f32) : FVec F S8x128 .f32 :=
  addf (broadcastTo S8x128 (extractStridedSlice S1x128 ![0, 128 * h.val] L (hsl h)) broadcasts_S1x128_S8x128)
    (mulf (broadcastTo S8x128 (subf (broadcast S1x128 (Scalar.ofBits .f32 0x3F800000#32)) (extractStridedSlice S1x128 ![0, 128 * h.val] L (hsl h))) broadcasts_S1x128_S8x128) (logistic z))

/-- What the forget gate leaves of one. -/
def kOf (f : FVec F S8x128 .f32) : FVec F S8x128 .f32 := subf (broadcast S8x128 (Scalar.ofBits .f32 0x3F800000#32)) f

/-- The parts of the gate, its rest and the queries side by side. -/
def lhs (q f : FVec F S8x128 .f32) : FVec F S128x128 .bf16 :=
  k0_pay13 q (hi f) (hi (rest f)) (hi (rest (rest f))) (hi (kOf f)) (rest (kOf f)) (hi (rest (kOf f)))

/-- One token's columns of the product. -/
def upd (A : FVec F S128x128 .bf16) (B : FVec F S128x384 .bf16) (i : Fin 8) : FVec F S128x384 .f32 :=
  matmul dot_S128x128_S128x384_S128x384_1_0_0_1_n_n none (select (cmpi .eq k0_pay15 (broadcast S128x128 (BitVec.ofNat 32 i.val))) A (broadcast S128x128 (Scalar.ofBits .bf16 0x0000#16))) B (constant S128x384 .f32 0x00000000#32)

/-- The new state, and its product with the queries. -/
def new (U : FVec F S128x384 .f32) (s : FVec F S1x1x128x128 .f32) : FVec F S128x128 .f32 :=
  addf (mulf (extractStridedSlice S128x128 ![0, 0] U slices_S128x384_o0_0_S128x128) (shapeCast S128x128 s shapeCasts_S1x1x128x128_S128x128)) (extractStridedSlice S128x128 ![0, 128] U slices_S128x384_o0_128_S128x128)
def row (U : FVec F S128x384 .f32) (N : FVec F S128x128 .f32) : FVec F S1x128 .f32 :=
  shapeCast S1x128 (multiReduction .add [0] S128 (mulf (extractStridedSlice S128x128 ![0, 256] U slices_S128x384_o0_256_S128x128) N) 0x00000000#32 reduces_S128x128_S128 (.inl rfl) rfl) shapeCasts_S128_S1x128

/-- The norm and the gate of a head's eight rows. -/
def stack (r : Fin 8 → FVec F S1x128 .f32) : FVec F S8x128 .f32 :=
  concatenate S8x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩] concatenates_S1x128_S1x128_S1x128_S1x128_S1x128_S1x128_S1x128_S1x128_S8x128_d0
def outH (o : FVec F S8x128 .f32) (g : FVec F S1x128 .f32) (z : FVec F S8x128 .f32) : FVec F S8x128 .f32 :=
  mulf (mulf (mulf o (broadcastTo S8x128 (rsqrt (addf (divf (shapeCast S8x1 (multiReduction .add [1] S8 (mulf o o) 0x00000000#32 reduces_S8x128_S8 (.inl rfl) rfl) shapeCasts_S8_S8x1) (broadcast S8x1 (Scalar.ofBits .f32 0x43000000#32))) (broadcast S8x1 (Scalar.ofBits .f32 0x358637BD#32)))) broadcasts_S8x1_S8x128)) (broadcastTo S8x128 (k0_pay3 g) broadcasts_S1x128_S8x128)) (mulf z (logistic z))

section
variable (R : Fin 4 → Fin 4 → FVec F S8x128 .f32) (S : Fin 4 → Fin 8 → FVec F S1x1x128x128 .f32) (L : FVec F S2x512 .f32) (g : FVec F S1x128 .f32)
def U (h : Fin 4) (i : Fin 8) : FVec F S128x384 .f32 := upd (lhs (R 0 h) (fOf (k0_pay2 L) h (R 1 h))) (k0_pay14 (R 2 h)) i
def N (h : Fin 4) (i : Fin 8) : FVec F S128x128 .f32 := new (U R L h i) (S h i)
def O (h : Fin 4) : FVec F S8x128 .f32 := outH (stack fun i => row (U R L h i) (N R S L h i)) g (R 3 h)

theorem inbS (h : Fin 4) (i : Fin 8) : ∀ a, (![i.val, h.val, 0, 0] : Fin 4 → ℕ) a + S1x1x128x128.size a ≤ S8x4x128x128.size a := fun a => by
  match a with
  | 0 => show i.val + 1 ≤ 8; omega
  | 1 => show h.val + 1 ≤ 4; omega
  | 2 => exact Nat.le_of_ble_eq_true rfl
  | 3 => exact Nat.le_of_ble_eq_true rfl
theorem inbO (h : Fin 4) : ∀ a, (![0, 128 * h.val] : Fin 2 → ℕ) a + S8x128.size a ≤ S8x1024.size a := fun a => by
  match a with
  | 0 => exact Nat.le_of_ble_eq_true rfl
  | 1 => show 128 * h.val + 128 ≤ 1024; omega
theorem inbR (p h : Fin 4) : ∀ a, (![0, 512 * p.val + 128 * h.val] : Fin 2 → ℕ) a + S8x128.size a ≤ S8x3584.size a := fun a => by
  match a with
  | 0 => exact Nat.le_of_ble_eq_true rfl
  | 1 => show 512 * p.val + 128 * h.val + 128 ≤ 3584; omega

/-- The states' stores. -/
def cell (h : Fin 4) (i : Fin 8) : View.Piece (Elt F) S8x4x128x128 .f32 := ⟨Rect.unit ![i.val, h.val, 0, 0] S1x1x128x128.size (inbS h i), shapeCast S1x1x128x128 (N R S L h i) shapeCasts_S128x128_S1x1x128x128⟩
def cells : (n : ℕ) → n ≤ 32 → List (View.Piece (Elt F) S8x4x128x128 .f32)
  | 0, _ => []
  | n + 1, hn => cell R S L ⟨n / 8, by omega⟩ ⟨n % 8, Nat.mod_lt _ (by decide)⟩ :: cells n (Nat.le_of_succ_le hn)
theorem mem_cells : ∀ (n : ℕ) (hn : n ≤ 32), ∀ p ∈ cells R S L n hn, ∃ h i, p = cell R S L h i
  | 0, _, _, hp => absurd hp List.not_mem_nil
  | n + 1, hn, p, hp => by
    rcases List.mem_cons.mp hp with e | e
    · exact ⟨_, _, e⟩
    · exact mem_cells n _ p e
/-- The heads' stores. -/
def head (h : Fin 4) : View.Piece (Elt F) S8x1024 .f32 := ⟨Rect.unit ![0, 128 * h.val] S8x128.size (inbO h), O R S L g h⟩
def heads : List (View.Piece (Elt F) S8x1024 .f32) := [head R S L g 3, head R S L g 2, head R S L g 1, head R S L g 0]
end

/-! ## What a point leaves -/

variable (c : Dev nD) (i : grid0.Coords) (a1 : Memref sig .tc .vmem S8x3584 .f32) (h1 : a1.IsWhole) (a2 : Memref sig .tc .vmem S8x4x128x128 .f32) (h2 : a2.IsWhole) (a3 : Memref sig .tc .vmem S8x1024 .f32) (h3 : a3.IsWhole) (a4 : Memref sig .tc .vmem S2x512 .f32) (h4 : a4.IsWhole) (a5 : Memref sig .tc .vmem S1x128 .f32) (h5 : a5.IsWhole) (a6 : Memref sig .tc .vmem S3x512 .f32) (h6 : a6.IsWhole) (a7 : Memref sig .tc .vmem S8x1024 .f32) (h7 : a7.IsWhole) (a8 : Memref sig .tc .vmem S8x4x128x128 .f32) (h8 : a8.IsWhole) (a9 : Memref sig .tc .vmem S8x1024 .f32) (h9 : a9.IsWhole)
  (x0 : Vec F S8x3584 .f32) (x1 : Vec F S8x4x128x128 .f32) (x2 : Vec F S8x1024 .f32) (x3 : Vec F S2x512 .f32) (x4 : Vec F S1x128 .f32) (x5 : Vec F S3x512 .f32)

/-- The point's reads. -/
def rR (p h : Fin 4) : FVec F S8x128 .f32 := View.readAt (Elt F) a1.view (Rect.unit (s := S8x3584) ![0, 512 * p.val + 128 * h.val] S8x128.size (inbR p h)).toLoadRect (h1.unread x0)
def rS (h : Fin 4) (i : Fin 8) : FVec F S1x1x128x128 .f32 := View.readAt (Elt F) a2.view (Rect.unit (s := S8x4x128x128) ![i.val, h.val, 0, 0] S1x1x128x128.size (inbS h i)).toLoadRect (h2.unread x1)
def rL : FVec F S2x512 .f32 := View.readAt (Elt F) a4.view (Rect.unit (s := S2x512) ![0, 0] S2x512.size inb_S2x512_S2x512_0_0).toLoadRect (h4.unread x3)
def rG : FVec F S1x128 .f32 := View.readAt (Elt F) a5.view (Rect.unit (s := S1x128) ![0, 0] S1x128.size inb_S1x128_S1x128_0_0).toLoadRect (h5.unread x4)
def rW : FVec F S3x512 .f32 := View.readAt (Elt F) a6.view (Rect.unit (s := S3x512) ![0, 0] S3x512.size inb_S3x512_S3x512_0_0).toLoadRect (h6.unread x5)
def rB : FVec F S8x512 .f32 := View.readAt (Elt F) a1.view (Rect.unit (s := S8x3584) ![0, 2048] S8x512.size inb_S8x3584_S8x512_0_2048).toLoadRect (h1.unread x0)
def rC : FVec F S8x512 .f32 := View.readAt (Elt F) a1.view (Rect.unit (s := S8x3584) ![0, 2560] S8x512.size inb_S8x3584_S8x512_0_2560).toLoadRect (h1.unread x0)
def rV : FVec F S8x512 .f32 := View.readAt (Elt F) a1.view (Rect.unit (s := S8x3584) ![0, 3072] S8x512.size inb_S8x3584_S8x512_0_3072).toLoadRect (h1.unread x0)
def rT : FVec F S8x512 .f32 := View.readAt (Elt F) a3.view (Rect.unit (s := S8x1024) ![0, 0] S8x512.size inb_S8x1024_S8x512_0_0).toLoadRect (h3.unread x2)
def rT' : FVec F S8x512 .f32 := View.readAt (Elt F) a3.view (Rect.unit (s := S8x1024) ![0, 512] S8x512.size inb_S8x1024_S8x512_0_512).toLoadRect (h3.unread x2)

theorem list7 :
    (kernelRun0_A c i a1 h1 a2 h2 a3 h3 a4 h4 a5 h5 a6 h6 a7 h7 a8 h8 a9 h9 x0 x1 x2 x3 x4 x5).2.1 = cells (rR a1 h1 x0) (rS a2 h2 x1) (rL a4 h4 x3) 32 (Nat.le_refl 32) := by
  sl_kernel_rfl

theorem list6 :
    (kernelRun0_A c i a1 h1 a2 h2 a3 h3 a4 h4 a5 h5 a6 h6 a7 h7 a8 h8 a9 h9 x0 x1 x2 x3 x4 x5).1 =
      ⟨Rect.unit ![0, 512] S8x512.size inb_S8x1024_S8x512_0_512, k0_pay214 (rB a1 h1 x0) (rC a1 h1 x0) (rV a1 h1 x0) (rW a6 h6 x5) (rT a3 h3 x2) (rT' a3 h3 x2)⟩ ::
        heads (rR a1 h1 x0) (rS a2 h2 x1) (rL a4 h4 x3) (rG a5 h5 x4) := by
  sl_kernel_rfl

theorem list8 :
    (kernelRun0_A c i a1 h1 a2 h2 a3 h3 a4 h4 a5 h5 a6 h6 a7 h7 a8 h8 a9 h9 x0 x1 x2 x3 x4 x5).2.2.1 =
      [⟨Rect.unit ![0, 512] S8x512.size inb_S8x1024_S8x512_0_512, k0_pay213 (rC a1 h1 x0) (rV a1 h1 x0)⟩, ⟨Rect.unit ![0, 0] S8x512.size inb_S8x1024_S8x512_0_0, k0_pay1 (rT' a3 h3 x2)⟩] := by
  sl_kernel_rfl

end Cert.EvenStep

end
-- ==== Proof.StepIdeal.lean ====
/- One step of the HGRN2 recurrence for each sample: the body's stages over the extended reals, entry by entry. -/
module

public import proofs.«01_k».proof.Proof.StepBody
public import proofs.«01_k».proof.Proof.OddOut
public import proofs.«01_k».proof.Proof.RefEven

@[expose] public section

set_option maxRecDepth 65536

noncomputable section

namespace Cert.EvenStep

open Idealize.ShloMosaic Idealize.ShloMosaic.TcCoe Idealize.ShloMosaic.Tactic Idealize.SL.Sem Cert.Kernel8Ideal Cert.Kernel8Ideal.Gen

theorem pay2_at (l : FVec Ideal S2x512 .f32) (j : Fin 512) : (k0_pay2 (F := Ideal) l (ix2 0 j) : EReal) = Cert.InEven.lbd (l (ix2 0 j)) (l (ix2 1 j)) := by
  unfold k0_pay2 Cert.InEven.lbd
  pointwise
  simp only [Fin.sum_univ_two, Fin.sum_univ_one, Cert.Layer.fold_max2]

theorem fOf_at (l : FVec Ideal S1x512 .f32) (h : Fin 4) (z : FVec Ideal S8x128 .f32) (i : Fin 8) (d : Fin 128) (j : Fin 512) (hj : j.val = 128 * h.val + d.val) :
    (fOf l h z (ix2 i d) : EReal) = Cert.InEven.fgt (l (ix2 0 j)) (z (ix2 i d)) := by
  have hb : 128 * h.val + d.val < 512 := by omega
  obtain rfl : j = ⟨128 * h.val + d.val, hb⟩ := Fin.ext hj
  unfold fOf Cert.InEven.fgt
  pointwise

theorem mask_iff : ∀ (c : Fin 128) (i : Fin 8), IntOp.cmpi CmpIPredicate.eq (IntOp.andi (BitVec.ofNat 32 c.val) 7#32) (BitVec.ofNat 32 i.val) = if c.val % 8 = i.val then 1#1 else 0#1 := by decide +kernel

theorem upd_at (A : FVec Ideal S128x128 .bf16) (B : FVec Ideal S128x384 .bf16) (i : Fin 8) (d : Fin 128) (e : Fin 384) :
    (upd A B i (ix2 d e) : EReal) = ∑ c : Fin 128, Scalar.select (IntOp.cmpi CmpIPredicate.eq (IntOp.andi (BitVec.ofNat 32 c.val) 7#32) (BitVec.ofNat 32 i.val)) (A (ix2 d c)) 0 * B (ix2 c e) := by
  unfold upd k0_pay15
  pointwise

theorem new_at (U : FVec Ideal S128x384 .f32) (s : FVec Ideal S1x1x128x128 .f32) (d e : Fin 128) :
    (new U s (ix2 d e) : EReal) = U (ix2 d ⟨e.val, by omega⟩) * s (ix4 0 0 d e) + U (ix2 d ⟨128 + e.val, by omega⟩) := by
  unfold new
  pointwise

theorem row_at (U : FVec Ideal S128x384 .f32) (N : FVec Ideal S128x128 .f32) (e : Fin 128) :
    (row U N (ix2 0 e) : EReal) = ∑ d : Fin 128, U (ix2 d ⟨256 + e.val, by omega⟩) * N (ix2 d e) := by
  unfold row
  pointwise

theorem stack_at (r : Fin 8 → FVec Ideal S1x128 .f32) (i : Fin 8) (e : Fin 128) : (stack r (ix2 i e) : EReal) = r i (ix2 0 e) := by
  unfold stack
  pointwise
  fin_cases i <;> rfl

/-- A head's output: the norm of its row, its weight and its gate. -/
def out (o : Fin 128 → EReal) (g z : EReal) (e : Fin 128) : EReal :=
  o e * Ideal.rsqrt (Ideal.div (∑ k, o k * o k) (Ideal.ofBits .f32 0x43000000#32) + Ideal.ofBits .f32 0x358637BD#32) * g * (z * Ideal.logistic z)

theorem outH_at (o : FVec Ideal S8x128 .f32) (g : FVec Ideal S1x128 .f32) (z : FVec Ideal S8x128 .f32) (i : Fin 8) (e : Fin 128) :
    (outH o g z (ix2 i e) : EReal) = out (fun k => o (ix2 i k)) (g (ix2 0 e)) (z (ix2 i e)) e := by
  unfold outH out k0_pay3
  pointwise

/-- Nothing. -/
def Z : FVec Ideal S8x128 .f32 := fun _ => (0 : EReal)

/-- The pieces of the left operand, and of the three parts of the right one. -/
def lv (f k q : EReal) : Fin 16 → EReal := ![f, 0, 0, k, k, 0, k, 0, 0, q, 0, 0, 0, 0, 0, 0]
def rvA (_v : EReal) : Fin 16 → EReal := ![1, 1, 1, 0, 0, 0, 0, 0, 0, 0, 0, 0, 0, 0, 0, 0]
def rvB (v : EReal) : Fin 16 → EReal := ![0, 0, 0, v, 0, v, 0, 0, v, 0, 0, 0, 0, 0, 0, 0]
def rvC (_v : EReal) : Fin 16 → EReal := ![0, 0, 0, 0, 0, 0, 0, 0, 0, 1, 1, 1, 0, 0, 0, 0]

theorem pay13_at (q f k : FVec Ideal S8x128 .f32) (hq : ∀ x, ∃ r : ℝ, q x = r) (p : Fin 16) (i : Fin 8) (c : Fin 128) (hc : c.val = 8 * p.val + i.val) (d : Fin 128) :
    (k0_pay13 q f Z Z k Z Z (ix2 d c) : EReal) = lv (f (ix2 i d)) (k (ix2 i d)) (q (ix2 i d)) p := by
  unfold k0_pay13 lv
  pointwise
  have hi := i.isLt
  obtain ⟨p, hp⟩ := p
  dsimp only at hc
  interval_cases p
  all_goals
    repeat first | rw [dif_pos (by omega)] | rw [dif_neg (by omega)]
    first
    | rfl
    | exact sub_zero _
    | exact congrArg (fun a => f (ix2 a d)) (Fin.ext (by dsimp only; omega))
    | exact congrArg (fun a => k (ix2 a d)) (Fin.ext (by dsimp only; omega))
    | exact congrArg (fun a => q (ix2 a d)) (Fin.ext (by dsimp only; omega))
    | exact Cert.InOdd.sub_real _ (hq _)
    | exact (congrArg₂ (· - ·) (Cert.InOdd.sub_real _ (hq _)) (Cert.InOdd.sub_real _ (hq _))).trans (sub_zero _)

theorem pay14A_at (v : FVec Ideal S8x128 .f32) (hv : ∀ x, ∃ r : ℝ, v x = r) (p : Fin 16) (i : Fin 8) (c : Fin 128) (hc : c.val = 8 * p.val + i.val) (e : Fin 128) :
    (k0_pay14 (F := Ideal) v (ix2 c ⟨e.val, by omega⟩) : EReal) = rvA (v (ix2 i e)) p := by
  unfold k0_pay14 rvA
  pointwise
  have hi := i.isLt
  obtain ⟨p, hp⟩ := p
  dsimp only at hc
  interval_cases p
  all_goals
    repeat first | rw [dif_pos (by omega)] | rw [dif_neg (by omega)]
    first
    | rfl
    | exact sub_zero _
    | exact congrArg (fun a => v (ix2 a e)) (Fin.ext (by dsimp only; omega))
    | exact Cert.InOdd.sub_real _ (hv _)
    | exact (congrArg₂ (· - ·) (Cert.InOdd.sub_real _ (hv _)) (Cert.InOdd.sub_real _ (hv _))).trans (sub_zero _)

theorem pay14B_at (v : FVec Ideal S8x128 .f32) (hv : ∀ x, ∃ r : ℝ, v x = r) (p : Fin 16) (i : Fin 8) (c : Fin 128) (hc : c.val = 8 * p.val + i.val) (e : Fin 128) :
    (k0_pay14 (F := Ideal) v (ix2 c ⟨128 + e.val, by omega⟩) : EReal) = rvB (v (ix2 i e)) p := by
  unfold k0_pay14 rvB
  pointwise
  have hi := i.isLt
  obtain ⟨p, hp⟩ := p
  dsimp only at hc
  interval_cases p
  all_goals
    repeat first | rw [dif_pos (by omega)] | rw [dif_neg (by omega)]
    first
    | rfl
    | exact sub_zero _
    | exact congrArg (fun a => v (ix2 a e)) (Fin.ext (by dsimp only; omega))
    | exact Cert.InOdd.sub_real _ (hv _)
    | exact (congrArg₂ (· - ·) (Cert.InOdd.sub_real _ (hv _)) (Cert.InOdd.sub_real _ (hv _))).trans (sub_zero _)

theorem pay14C_at (v : FVec Ideal S8x128 .f32) (hv : ∀ x, ∃ r : ℝ, v x = r) (p : Fin 16) (i : Fin 8) (c : Fin 128) (hc : c.val = 8 * p.val + i.val) (e : Fin 128) :
    (k0_pay14 (F := Ideal) v (ix2 c ⟨256 + e.val, by omega⟩) : EReal) = rvC (v (ix2 i e)) p := by
  unfold k0_pay14 rvC
  pointwise
  have hi := i.isLt
  obtain ⟨p, hp⟩ := p
  dsimp only at hc
  interval_cases p
  all_goals
    repeat first | rw [dif_pos (by omega)] | rw [dif_neg (by omega)]
    first
    | rfl
    | exact sub_zero _
    | exact congrArg (fun a => v (ix2 a e)) (Fin.ext (by dsimp only; omega))
    | exact Cert.InOdd.sub_real _ (hv _)
    | exact (congrArg₂ (· - ·) (Cert.InOdd.sub_real _ (hv _)) (Cert.InOdd.sub_real _ (hv _))).trans (sub_zero _)

/-- A sum over the columns of one token. -/
theorem pick (A B : Fin 128 → EReal) (i : Fin 8) :
    ∑ c : Fin 128, Scalar.select (IntOp.cmpi CmpIPredicate.eq (IntOp.andi (BitVec.ofNat 32 c.val) 7#32) (BitVec.ofNat 32 i.val)) (A c) 0 * B c =
      ∑ p : Fin 16, A ⟨8 * p.val + i.val, by omega⟩ * B ⟨8 * p.val + i.val, by omega⟩ := by
  have h : ∀ c : Fin 128, Scalar.select (IntOp.cmpi CmpIPredicate.eq (IntOp.andi (BitVec.ofNat 32 c.val) 7#32) (BitVec.ofNat 32 i.val)) (A c) 0 * B c = if c.val % 8 = i.val then A c * B c else 0 := fun c => by
    rw [mask_iff c i]
    by_cases e : c.val % 8 = i.val
    · rw [if_pos e, if_pos e]
      rfl
    · rw [if_neg e, if_neg e]
      exact zero_mul _
  rw [Finset.sum_congr rfl fun c _ => h c]
  rw [← (finProdFinEquiv (m := 16) (n := 8)).sum_comp, Fintype.sum_prod_type]
  refine Finset.sum_congr rfl fun p _ => ?_
  have hm : ∀ j : Fin 8, ((finProdFinEquiv (p, j) : Fin (16 * 8)).val % 8 = i.val ↔ j = i) := fun j => by
    show (j.val + 8 * p.val) % 8 = i.val ↔ _
    rw [Fin.ext_iff]
    omega
  rw [Finset.sum_eq_single i]
  · rw [if_pos ((hm i).2 rfl)]
    have e : (finProdFinEquiv (p, i) : Fin (16 * 8)) = (⟨8 * p.val + i.val, by omega⟩ : Fin 128) := Fin.ext (Nat.add_comm _ _)
    rw [e]
  · exact fun j _ hj => if_neg (mt (hm j).1 hj)
  · exact fun hi => absurd (Finset.mem_univ i) hi

theorem upd_pick (A : FVec Ideal S128x128 .bf16) (B : FVec Ideal S128x384 .bf16) (i : Fin 8) (d : Fin 128) (e : Fin 384) :
    (upd A B i (ix2 d e) : EReal) = ∑ p : Fin 16, A (ix2 d ⟨8 * p.val + i.val, by omega⟩) * B (ix2 ⟨8 * p.val + i.val, by omega⟩ e) :=
  (upd_at A B i d e).trans (pick (fun c => A (ix2 d c)) (fun c => B (ix2 c e)) i)

theorem sumA (f k q v : EReal) : ∑ p, lv f k q p * rvA v p = f := by
  simp [Fin.sum_univ_succ, lv, rvA]
theorem sumB (f k q v : EReal) : ∑ p, lv f k q p * rvB v p = k * v := by
  simp [Fin.sum_univ_succ, lv, rvB]
theorem sumC (f k q v : EReal) : ∑ p, lv f k q p * rvC v p = q := by
  simp [Fin.sum_univ_succ, lv, rvC]

theorem rest_zero (x : FVec Ideal S8x128 .f32) (h : ∀ y, ∃ r : ℝ, x y = r) : rest x = Z :=
  funext fun y => Cert.InOdd.sub_real (x y) (h y)
theorem rest_Z : rest (F := Ideal) Z = Z := rest_zero Z fun _ => ⟨0, rfl⟩

theorem lhs_eq (q f : FVec Ideal S8x128 .f32) (hf : ∀ x, ∃ r : ℝ, f x = r) : lhs q f = k0_pay13 q f Z Z (kOf f) Z Z := by
  have hk : ∀ x, ∃ r : ℝ, kOf f x = r := fun x => by
    obtain ⟨r, hr⟩ := hf x
    refine ⟨1 - r, ?_⟩
    have e : (kOf f x : EReal) = 1 - f x := by
      unfold kOf
      rw [eq_ix2 x]
      pointwise
    rw [e, hr, EReal.coe_sub, EReal.coe_one]
  unfold lhs
  rw [rest_zero f hf, rest_zero (kOf f) hk, rest_Z]
  rfl

section
variable (q f v : FVec Ideal S8x128 .f32) (hq : ∀ x, ∃ r : ℝ, q x = r) (hf : ∀ x, ∃ r : ℝ, f x = r) (hv : ∀ x, ∃ r : ℝ, v x = r) (i : Fin 8) (d e : Fin 128)
include hq hf hv

theorem updA : (upd (lhs q f) (k0_pay14 v) i (ix2 d ⟨e.val, by omega⟩) : EReal) = f (ix2 i d) := by
  rw [lhs_eq q f hf, upd_pick]
  refine (Finset.sum_congr rfl fun p _ => by rw [pay13_at q f (kOf f) hq p i _ rfl d, pay14A_at v hv p i _ rfl e]).trans (sumA _ _ _ _)
theorem updB : (upd (lhs q f) (k0_pay14 v) i (ix2 d ⟨128 + e.val, by omega⟩) : EReal) = (1 - f (ix2 i d)) * v (ix2 i e) := by
  rw [lhs_eq q f hf, upd_pick]
  refine (Finset.sum_congr rfl fun p _ => by rw [pay13_at q f (kOf f) hq p i _ rfl d, pay14B_at v hv p i _ rfl e]).trans ((sumB _ _ _ _).trans (congrArg (· * _) ?_))
  unfold kOf
  pointwise
theorem updC : (upd (lhs q f) (k0_pay14 v) i (ix2 d ⟨256 + e.val, by omega⟩) : EReal) = q (ix2 i d) := by
  rw [lhs_eq q f hf, upd_pick]
  refine (Finset.sum_congr rfl fun p _ => by rw [pay13_at q f (kOf f) hq p i _ rfl d, pay14C_at v hv p i _ rfl e]).trans (sumC _ _ _ _)
end

/-! ## A real gate -/

theorem lbd_unit (a b : EReal) (ha : ∃ r : ℝ, a = r) (hb : ∃ r : ℝ, b = r) : ∃ r : ℝ, 0 ≤ r ∧ r ≤ 1 ∧ Cert.InEven.lbd a b = r := by
  obtain ⟨a, rfl⟩ := ha
  obtain ⟨b, rfl⟩ := hb
  unfold Cert.InEven.lbd
  rw [show max (a : EReal) b = ((max a b : ℝ) : EReal) from EReal.coe_strictMono.monotone.map_max.symm, ← EReal.coe_sub, ← EReal.coe_sub]
  show ∃ r : ℝ, 0 ≤ r ∧ r ≤ 1 ∧ Ideal.div ((Real.exp (b - max a b) : ℝ) : EReal) (((Real.exp (a - max a b) : ℝ) : EReal) + ((Real.exp (b - max a b) : ℝ) : EReal)) = r
  have hp := Real.exp_pos (a - max a b)
  have hq := Real.exp_pos (b - max a b)
  generalize Real.exp (a - max a b) = p at hp
  generalize Real.exp (b - max a b) = q at hq
  unfold Ideal.div
  rw [← EReal.coe_add, if_neg (by exact_mod_cast (add_pos hp hq).ne'), ← EReal.coe_inv, ← EReal.coe_mul]
  refine ⟨q * (p + q)⁻¹, by positivity, ?_, rfl⟩
  rw [← div_eq_mul_inv, div_le_one (by positivity)]
  linarith

theorem logistic_unit (z : EReal) : ∃ r : ℝ, 0 ≤ r ∧ r ≤ 1 ∧ Ideal.logistic z = r := by
  have h1 : (1 : EReal) = ((1 : ℝ) : EReal) := rfl
  induction z with
  | bot =>
    refine ⟨0, le_refl _, zero_le_one, ?_⟩
    show Ideal.div 1 (1 + ⊤) = _
    rw [show (1 : EReal) + ⊤ = ⊤ from rfl]
    simp [Ideal.div]
  | top =>
    refine ⟨1, zero_le_one, le_refl _, ?_⟩
    show Ideal.div 1 (1 + 0) = _
    rw [add_zero]
    simp [Ideal.div]
  | coe r =>
    have hp := Real.exp_pos (-r)
    refine ⟨(1 + Real.exp (-r))⁻¹, by positivity, inv_le_one_of_one_le₀ (by linarith), ?_⟩
    unfold Ideal.logistic
    rw [← EReal.coe_neg]
    show Ideal.div 1 (1 + ((Real.exp (-r) : ℝ) : EReal)) = _
    unfold Ideal.div
    rw [h1, ← EReal.coe_add, if_neg (by exact_mod_cast (by positivity : (1 + Real.exp (-r)) ≠ 0)), ← EReal.coe_inv, ← EReal.coe_mul, one_mul]

theorem fgt_unit (l z : EReal) (hl : ∃ r : ℝ, 0 ≤ r ∧ r ≤ 1 ∧ l = r) : ∃ r : ℝ, 0 ≤ r ∧ Cert.InEven.fgt l z = r := by
  obtain ⟨l, h0, h1, rfl⟩ := hl
  obtain ⟨s, s0, s1, hs⟩ := logistic_unit z
  unfold Cert.InEven.fgt
  refine ⟨l + (1 - l) * s, by nlinarith, ?_⟩
  rw [hs]
  simp only [EReal.coe_add, EReal.coe_mul, EReal.coe_sub, EReal.coe_one]

theorem exp_log (f : EReal) (hf : ∃ r : ℝ, 0 ≤ r ∧ f = r) : Ideal.exp (Ideal.log f) = f := by
  obtain ⟨r, h0, rfl⟩ := hf
  show Ideal.exp (if r ≤ 0 then ⊥ else ((Real.log r : ℝ) : EReal)) = r
  by_cases h : r ≤ 0
  · rw [if_pos h, le_antisymm h h0]
    rfl
  · rw [if_neg h]
    show ((Real.exp (Real.log r) : ℝ) : EReal) = r
    rw [Real.exp_log (not_le.mp h)]

/-! ## What a point's stages are -/

/-- One step of the recurrence. -/
def stp (f v s : EReal) : EReal := f * s + (1 - f) * v

section
variable (R : Fin 4 → Fin 4 → FVec Ideal S8x128 .f32) (S : Fin 4 → Fin 8 → FVec Ideal S1x1x128x128 .f32) (L : FVec Ideal S2x512 .f32) (g : FVec Ideal S1x128 .f32)
  (hq : ∀ h x, ∃ r : ℝ, R 0 h x = r) (hv : ∀ h x, ∃ r : ℝ, R 2 h x = r) (hL : ∀ x, ∃ r : ℝ, L x = r)

/-- The gate of a head's channel. -/
def gate (h : Fin 4) (i : Fin 8) (d : Fin 128) : EReal :=
  Cert.InEven.fgt (Cert.InEven.lbd (L (ix2 0 ⟨128 * h.val + d.val, by omega⟩)) (L (ix2 1 ⟨128 * h.val + d.val, by omega⟩))) (R 1 h (ix2 i d))

theorem gate_at (h : Fin 4) (i : Fin 8) (d : Fin 128) : (fOf (k0_pay2 L) h (R 1 h) (ix2 i d) : EReal) = gate R L h i d := by
  unfold gate
  rw [fOf_at _ h _ i d ⟨128 * h.val + d.val, by omega⟩ rfl, pay2_at]

include hL in
theorem gate_real (h : Fin 4) (x : S8x128.Idx) : ∃ r : ℝ, fOf (k0_pay2 L) h (R 1 h) x = r := by
  obtain ⟨i, d, rfl⟩ : ∃ (i : Fin 8) (d : Fin 128), x = ix2 i d := ⟨_, _, eq_ix2 x⟩
  obtain ⟨r, _, hr⟩ := fgt_unit _ (R 1 h (ix2 i d)) (lbd_unit _ _ (hL (ix2 0 ⟨128 * h.val + d.val, by omega⟩)) (hL (ix2 1 ⟨128 * h.val + d.val, by omega⟩)))
  exact ⟨r, (gate_at R L h i d).trans hr⟩

include hq hv hL in
theorem N_at (h : Fin 4) (i : Fin 8) (d e : Fin 128) :
    (N R S L h i (ix2 d e) : EReal) = stp (gate R L h i d) (R 2 h (ix2 i e)) (S h i (ix4 0 0 d e)) := by
  unfold N U stp
  rw [new_at, updA _ _ _ (hq h) (gate_real R L hL h) (hv h), updB _ _ _ (hq h) (gate_real R L hL h) (hv h), gate_at]

include hq hv hL in
theorem O_at (h : Fin 4) (i : Fin 8) (e : Fin 128) :
    (O R S L g h (ix2 i e) : EReal) = out (fun k => ∑ d : Fin 128, R 0 h (ix2 i d) * stp (gate R L h i d) (R 2 h (ix2 i k)) (S h i (ix4 0 0 d k))) (g (ix2 0 e)) (R 3 h (ix2 i e)) e := by
  unfold O
  rw [outH_at]
  refine congrArg (fun o => out o _ _ e) (funext fun k => ?_)
  rw [stack_at, row_at]
  refine Finset.sum_congr rfl fun d _ => ?_
  rw [N_at R S L hq hv hL, U, updC _ _ _ (hq h) (gate_real R L hL h) (hv h)]
end

end Cert.EvenStep

end
-- ==== Proof.EvenStep.lean ====
/- One step of the HGRN2 recurrence for each sample: what a point leaves, and the final arrays, entry by entry. -/
module

public import proofs.«01_k».proof.Proof.StepIdeal
public import Idealize.ShloMosaic.Lib.Pipeline.ValueKit
public import Idealize.ShloMosaic.Lib.StableHlo.Run

@[expose] public section

set_option maxRecDepth 65536

noncomputable section

namespace Cert.EvenStep

open Idealize.ShloMosaic Idealize.ShloMosaic.TcCoe Idealize.ShloMosaic.Tactic Idealize.SL.Sem Cert.Kernel8Ideal Cert.Kernel8Ideal.Gen

theorem cast4_at (v : FVec Ideal S128x128 .f32) (a b : Fin 1) (d e : Fin 128) : (shapeCast S1x1x128x128 v shapeCasts_S128x128_S1x1x128x128 (ix4 a b d e) : EReal) = v (ix2 d e) := by
  pointwise

/-! ## A point's blocks -/

section
variable (x0 : Vec Ideal S8x3584 .f32) (x1 : Vec Ideal S8x4x128x128 .f32) (x2 : Vec Ideal S8x1024 .f32) (x3 : Vec Ideal S2x512 .f32) (x4 : Vec Ideal S1x128 .f32) (x5 : Vec Ideal S3x512 .f32)

def gateB (i : Fin 8) (j : Fin 512) : EReal := Cert.InEven.fgt (Cert.InEven.lbd (x3 (ix2 0 j)) (x3 (ix2 1 j))) (x0 (ix2 i ⟨512 + j.val, by omega⟩))
def stB (i : Fin 8) (h : Fin 4) (d e : Fin 128) : EReal :=
  stp (gateB x0 x3 i ⟨128 * h.val + d.val, by omega⟩) (x0 (ix2 i ⟨1024 + (128 * h.val + e.val), by omega⟩)) (x1 (ix4 i h d e))
def oB (i : Fin 8) (h : Fin 4) (e : Fin 128) : EReal :=
  out (fun k => ∑ d : Fin 128, x0 (ix2 i ⟨128 * h.val + d.val, by omega⟩) * stB x0 x1 x3 i h d k) (x4 (ix2 0 e)) (x0 (ix2 i ⟨1536 + (128 * h.val + e.val), by omega⟩)) e
def cvB (i : Fin 8) (j : Fin 512) : EReal :=
  x0 (ix2 i ⟨2048 + j.val, by omega⟩) * (x2 (ix2 i ⟨j.val, by omega⟩) * x5 (ix2 0 j) + x2 (ix2 i ⟨512 + j.val, by omega⟩) * x5 (ix2 1 j)
    + x0 (ix2 i ⟨2560 + j.val, by omega⟩) * x0 (ix2 i ⟨3072 + j.val, by omega⟩) * x5 (ix2 2 j))
def resB (i : Fin 8) (q : Fin 1024) : EReal :=
  if h : q.val < 512 then oB x0 x1 x3 x4 i ⟨q.val / 128, by omega⟩ ⟨q.val % 128, Nat.mod_lt _ (by decide)⟩ else cvB x0 x2 x5 i ⟨q.val - 512, by omega⟩
def carB (i : Fin 8) (q : Fin 1024) : EReal :=
  if h : q.val < 512 then x2 (ix2 i ⟨512 + q.val, by omega⟩) else x0 (ix2 i ⟨2560 + (q.val - 512), by omega⟩) * x0 (ix2 i ⟨3072 + (q.val - 512), by omega⟩)

/-- The same as arrays. -/
def stV : Vec Ideal S8x4x128x128 .f32 := fun y => stB x0 x1 x3 (y 0) (y 1) (y 2) (y 3)
def resV : Vec Ideal S8x1024 .f32 := fun y => resB x0 x1 x2 x3 x4 x5 (y 0) (y 1)
def carV : Vec Ideal S8x1024 .f32 := fun y => carB x0 x2 (y 0) (y 1)
end

section
variable (c : Dev nD) (i : grid0.Coords) (a1 : Memref sig .tc .vmem S8x3584 .f32) (h1 : a1.IsWhole) (a2 : Memref sig .tc .vmem S8x4x128x128 .f32) (h2 : a2.IsWhole) (a3 : Memref sig .tc .vmem S8x1024 .f32) (h3 : a3.IsWhole) (a4 : Memref sig .tc .vmem S2x512 .f32) (h4 : a4.IsWhole) (a5 : Memref sig .tc .vmem S1x128 .f32) (h5 : a5.IsWhole) (a6 : Memref sig .tc .vmem S3x512 .f32) (h6 : a6.IsWhole) (a7 : Memref sig .tc .vmem S8x1024 .f32) (h7 : a7.IsWhole) (a8 : Memref sig .tc .vmem S8x4x128x128 .f32) (h8 : a8.IsWhole) (a9 : Memref sig .tc .vmem S8x1024 .f32) (h9 : a9.IsWhole)
  (x0 : Vec Ideal S8x3584 .f32) (x1 : Vec Ideal S8x4x128x128 .f32) (x2 : Vec Ideal S8x1024 .f32) (x3 : Vec Ideal S2x512 .f32) (x4 : Vec Ideal S1x128 .f32) (x5 : Vec Ideal S3x512 .f32)

theorem rR_at (p h : Fin 4) (r : Fin 8) (d : Fin 128) (q : Fin 3584) (hq : q.val = 512 * p.val + 128 * h.val + d.val) : rR a1 h1 x0 p h (ix2 r d) = x0 (ix2 r q) := by
  unfold rR
  rw [View.readAt_eq_ld, Memref.IsWhole.read_unread]
  refine View.ld_unit_apply_of _ _ _ _ _ _ fun a => ?_
  match a with
  | ⟨0, _⟩ => exact (Nat.zero_add _).symm
  | ⟨1, _⟩ => exact hq
theorem rS_at (h : Fin 4) (r : Fin 8) (a b : Fin 1) (d e : Fin 128) : rS a2 h2 x1 h r (ix4 a b d e) = x1 (ix4 r h d e) := by
  unfold rS
  rw [View.readAt_eq_ld, Memref.IsWhole.read_unread]
  refine View.ld_unit_apply_of _ _ _ _ _ _ fun k => ?_
  match k with
  | ⟨0, _⟩ => show r.val = r.val + a.val; omega
  | ⟨1, _⟩ => show h.val = h.val + b.val; omega
  | ⟨2, _⟩ => exact (Nat.zero_add _).symm
  | ⟨3, _⟩ => exact (Nat.zero_add _).symm
theorem rL_eq : rL a4 h4 x3 = x3 := by
  unfold rL
  rw [View.readAt_eq_ld, Memref.IsWhole.read_unread, View.ld_unit_lit inb_S2x512_S2x512_0_0 x3 (by decide)]
theorem rG_eq : rG a5 h5 x4 = x4 := by
  unfold rG
  rw [View.readAt_eq_ld, Memref.IsWhole.read_unread, View.ld_unit_lit inb_S1x128_S1x128_0_0 x4 (by decide)]
theorem rW_eq : rW a6 h6 x5 = x5 := by
  unfold rW
  rw [View.readAt_eq_ld, Memref.IsWhole.read_unread, View.ld_unit_lit inb_S3x512_S3x512_0_0 x5 (by decide)]
theorem rB_at (r : Fin 8) (j : Fin 512) : rB a1 h1 x0 (ix2 r j) = x0 (ix2 r ⟨2048 + j.val, by omega⟩) := by
  unfold rB
  rw [View.readAt_eq_ld, Memref.IsWhole.read_unread]
  refine View.ld_unit_apply_of _ _ _ _ _ _ fun a => ?_
  match a with
  | ⟨0, _⟩ => exact (Nat.zero_add _).symm
  | ⟨1, _⟩ => rfl
theorem rC_at (r : Fin 8) (j : Fin 512) : rC a1 h1 x0 (ix2 r j) = x0 (ix2 r ⟨2560 + j.val, by omega⟩) := by
  unfold rC
  rw [View.readAt_eq_ld, Memref.IsWhole.read_unread]
  refine View.ld_unit_apply_of _ _ _ _ _ _ fun a => ?_
  match a with
  | ⟨0, _⟩ => exact (Nat.zero_add _).symm
  | ⟨1, _⟩ => rfl
theorem rV_at (r : Fin 8) (j : Fin 512) : rV a1 h1 x0 (ix2 r j) = x0 (ix2 r ⟨3072 + j.val, by omega⟩) := by
  unfold rV
  rw [View.readAt_eq_ld, Memref.IsWhole.read_unread]
  refine View.ld_unit_apply_of _ _ _ _ _ _ fun a => ?_
  match a with
  | ⟨0, _⟩ => exact (Nat.zero_add _).symm
  | ⟨1, _⟩ => rfl
theorem rT_at (r : Fin 8) (j : Fin 512) : rT a3 h3 x2 (ix2 r j) = x2 (ix2 r ⟨0 + j.val, by omega⟩) := by
  unfold rT
  rw [View.readAt_eq_ld, Memref.IsWhole.read_unread]
  refine View.ld_unit_apply_of _ _ _ _ _ _ fun a => ?_
  match a with
  | ⟨0, _⟩ => exact (Nat.zero_add _).symm
  | ⟨1, _⟩ => rfl
theorem rT'_at (r : Fin 8) (j : Fin 512) : rT' a3 h3 x2 (ix2 r j) = x2 (ix2 r ⟨512 + j.val, by omega⟩) := by
  unfold rT'
  rw [View.readAt_eq_ld, Memref.IsWhole.read_unread]
  refine View.ld_unit_apply_of _ _ _ _ _ _ fun a => ?_
  match a with
  | ⟨0, _⟩ => exact (Nat.zero_add _).symm
  | ⟨1, _⟩ => rfl

theorem pay214_at (b k v : FVec Ideal S8x512 .f32) (w : FVec Ideal S3x512 .f32) (t t' : FVec Ideal S8x512 .f32) (r : Fin 8) (j : Fin 512) :
    (k0_pay214 (F := Ideal) b k v w t t' (ix2 r j) : EReal) = b (ix2 r j) * (t (ix2 r j) * w (ix2 0 j) + t' (ix2 r j) * w (ix2 1 j) + k (ix2 r j) * v (ix2 r j) * w (ix2 2 j)) := by
  unfold k0_pay214 k0_pay213
  pointwise
theorem pay213_at (k v : FVec Ideal S8x512 .f32) (r : Fin 8) (j : Fin 512) : (k0_pay213 (F := Ideal) k v (ix2 r j) : EReal) = k (ix2 r j) * v (ix2 r j) := by
  unfold k0_pay213
  pointwise
theorem pay1_at (t : FVec Ideal S8x512 .f32) (r : Fin 8) (j : Fin 512) : (k0_pay1 (F := Ideal) t (ix2 r j) : EReal) = t (ix2 r j) := by
  unfold k0_pay1
  pointwise

/-- The real entries a point needs. -/
def RealB (x0 : Vec Ideal S8x3584 .f32) (x3 : Vec Ideal S2x512 .f32) : Prop :=
  (∀ (r : Fin 8) (j : Fin 512), ∃ y : ℝ, x0 (ix2 r ⟨j.val, by omega⟩) = (y : EReal)) ∧ (∀ (r : Fin 8) (j : Fin 512), ∃ y : ℝ, x0 (ix2 r ⟨1024 + j.val, by omega⟩) = (y : EReal))
    ∧ ∀ x, ∃ y : ℝ, x3 x = (y : EReal)

variable (H : RealB x0 x3)

include H in
theorem real0 (h : Fin 4) (x : S8x128.Idx) : ∃ y : ℝ, rR a1 h1 x0 0 h x = (y : EReal) := by
  obtain ⟨r, d, rfl⟩ : ∃ (r : Fin 8) (d : Fin 128), x = ix2 r d := ⟨_, _, eq_ix2 x⟩
  rw [rR_at a1 h1 x0 0 h r d ⟨128 * h.val + d.val, by omega⟩ (by show 128 * h.val + d.val = 512 * 0 + 128 * h.val + d.val; omega)]
  exact H.1 r ⟨128 * h.val + d.val, by omega⟩
include H in
theorem real2 (h : Fin 4) (x : S8x128.Idx) : ∃ y : ℝ, rR a1 h1 x0 2 h x = (y : EReal) := by
  obtain ⟨r, d, rfl⟩ : ∃ (r : Fin 8) (d : Fin 128), x = ix2 r d := ⟨_, _, eq_ix2 x⟩
  rw [rR_at a1 h1 x0 2 h r d ⟨1024 + (128 * h.val + d.val), by omega⟩ (by show 1024 + (128 * h.val + d.val) = 512 * 2 + 128 * h.val + d.val; omega)]
  exact H.2.1 r ⟨128 * h.val + d.val, by omega⟩

theorem gateR (h : Fin 4) (r : Fin 8) (d : Fin 128) : gate (rR a1 h1 x0) x3 h r d = gateB x0 x3 r ⟨128 * h.val + d.val, by omega⟩ := by
  unfold gate gateB
  rw [rR_at a1 h1 x0 1 h r d ⟨512 + (128 * h.val + d.val), by omega⟩ (by show 512 + (128 * h.val + d.val) = 512 * 1 + 128 * h.val + d.val; omega)]

theorem stR (h : Fin 4) (r : Fin 8) (d e : Fin 128) :
    stp (gate (rR a1 h1 x0) x3 h r d) (rR a1 h1 x0 2 h (ix2 r e)) (rS a2 h2 x1 h r (ix4 0 0 d e)) = stB x0 x1 x3 r h d e := by
  unfold stB
  rw [gateR, rS_at, rR_at a1 h1 x0 2 h r e ⟨1024 + (128 * h.val + e.val), by omega⟩ (by show 1024 + (128 * h.val + e.val) = 512 * 2 + 128 * h.val + e.val; omega)]

include H in
theorem out7_at (y : S8x4x128x128.Idx) : out0_A_7 c i a1 h1 a2 h2 a3 h3 a4 h4 a5 h5 a6 h6 a7 h7 a8 h8 a9 h9 x0 x1 x2 x3 x4 x5 y = stV x0 x1 x3 y := by
  unfold out0_A_7
  have cv := cover0_A_7 c i a1 h1 a2 h2 a3 h3 a4 h4 a5 h5 a6 h6 a7 h7 a8 h8 a9 h9 x0 x1 x2 x3 x4 x5 y
  rw [list7, rL_eq] at cv
  rw [View.read_writes_junk_eq_canon, list7, rL_eq]
  refine View.canon_apply_of_pieces (stV x0 x1 x3) _ (fun p hp => ?_) y cv
  obtain ⟨h, r, rfl⟩ := mem_cells _ _ _ _ _ p hp
  intro x
  obtain ⟨a, b, d, e, rfl⟩ : ∃ (a b : Fin 1) (d e : Fin 128), x = ix4 a b d e := ⟨_, _, _, _, eq_ix4 x⟩
  have he : (cell (rR a1 h1 x0) (rS a2 h2 x1) x3 h r).1.emb (ix4 a b d e) = ix4 r h d e := by
    funext k
    apply Fin.ext
    match k with
    | ⟨0, _⟩ => show r.val + 1 * a.val = r.val; omega
    | ⟨1, _⟩ => show h.val + 1 * b.val = h.val; omega
    | ⟨2, _⟩ => show 0 + 1 * d.val = d.val; omega
    | ⟨3, _⟩ => show 0 + 1 * e.val = e.val; omega
  refine Eq.trans ?_ (congrArg (stV x0 x1 x3) he).symm
  show (shapeCast S1x1x128x128 (N (rR a1 h1 x0) (rS a2 h2 x1) x3 h r) shapeCasts_S128x128_S1x1x128x128 (ix4 a b d e) : EReal) = stV x0 x1 x3 (ix4 r h d e)
  rw [cast4_at, N_at _ _ _ (real0 a1 h1 x0 x3 H) (real2 a1 h1 x0 x3 H) H.2.2, stR]
  rfl

include H in
theorem O_eq (h : Fin 4) (r : Fin 8) (e : Fin 128) : (O (rR a1 h1 x0) (rS a2 h2 x1) x3 x4 h (ix2 r e) : EReal) = oB x0 x1 x3 x4 r h e := by
  rw [O_at _ _ _ _ (real0 a1 h1 x0 x3 H) (real2 a1 h1 x0 x3 H) H.2.2]
  unfold oB
  rw [rR_at a1 h1 x0 3 h r e ⟨1536 + (128 * h.val + e.val), by omega⟩ (by show 1536 + (128 * h.val + e.val) = 512 * 3 + 128 * h.val + e.val; omega)]
  refine congrArg (fun o => out o _ _ e) (funext fun k => Finset.sum_congr rfl fun d _ => ?_)
  rw [stR, rR_at a1 h1 x0 0 h r d ⟨128 * h.val + d.val, by omega⟩ (by show 128 * h.val + d.val = 512 * 0 + 128 * h.val + d.val; omega)]

include H in
theorem head_at (h : Fin 4) (x : S8x128.Idx) : (head (rR a1 h1 x0) (rS a2 h2 x1) x3 x4 h).2 x = resV x0 x1 x2 x3 x4 x5 ((head (rR a1 h1 x0) (rS a2 h2 x1) x3 x4 h).1.emb x) := by
  obtain ⟨r, e, rfl⟩ : ∃ (r : Fin 8) (e : Fin 128), x = ix2 r e := ⟨_, _, eq_ix2 x⟩
  have he : (head (rR a1 h1 x0) (rS a2 h2 x1) x3 x4 h).1.emb (ix2 r e) = ix2 r ⟨128 * h.val + e.val, by omega⟩ := by
    funext k
    apply Fin.ext
    match k with
    | ⟨0, _⟩ => show 0 + 1 * r.val = r.val; omega
    | ⟨1, _⟩ => show 128 * h.val + 1 * e.val = 128 * h.val + e.val; omega
  refine Eq.trans ?_ (congrArg (resV x0 x1 x2 x3 x4 x5) he).symm
  refine (O_eq a1 h1 a2 h2 x0 x1 x3 x4 H h r e).trans ?_
  have hl : 128 * h.val + e.val < 512 := by omega
  refine Eq.trans ?_ (dif_pos hl).symm
  have e1 : (⟨(128 * h.val + e.val) / 128, by omega⟩ : Fin 4) = h := Fin.ext (by dsimp only; omega)
  have e2 : (⟨(128 * h.val + e.val) % 128, Nat.mod_lt _ (by decide)⟩ : Fin 128) = e := Fin.ext (by dsimp only; omega)
  exact congrArg₂ (oB x0 x1 x3 x4 r) e1.symm e2.symm

include H in
theorem out6_at (y : S8x1024.Idx) : out0_A_6 c i a1 h1 a2 h2 a3 h3 a4 h4 a5 h5 a6 h6 a7 h7 a8 h8 a9 h9 x0 x1 x2 x3 x4 x5 y = resV x0 x1 x2 x3 x4 x5 y := by
  unfold out0_A_6
  have cv := cover0_A_6 c i a1 h1 a2 h2 a3 h3 a4 h4 a5 h5 a6 h6 a7 h7 a8 h8 a9 h9 x0 x1 x2 x3 x4 x5 y
  rw [list6, rL_eq, rG_eq] at cv
  rw [View.read_writes_junk_eq_canon, list6, rL_eq, rG_eq]
  refine View.canon_apply_of_pieces (resV x0 x1 x2 x3 x4 x5) _ (fun p hp => ?_) y cv
  simp only [heads, List.mem_cons, List.not_mem_nil, or_false] at hp
  rcases hp with rfl | rfl | rfl | rfl | rfl
  · intro x
    obtain ⟨r, j, rfl⟩ : ∃ (r : Fin 8) (j : Fin 512), x = ix2 r j := ⟨_, _, eq_ix2 x⟩
    have he : (Rect.unit (s := S8x1024) ![0, 512] S8x512.size inb_S8x1024_S8x512_0_512).emb (ix2 r j) = ix2 r ⟨512 + j.val, by omega⟩ := by
      funext k
      apply Fin.ext
      match k with
      | ⟨0, _⟩ => show 0 + 1 * r.val = r.val; omega
      | ⟨1, _⟩ => show 512 + 1 * j.val = 512 + j.val; omega
    refine Eq.trans ?_ (congrArg (resV x0 x1 x2 x3 x4 x5) he).symm
    show (k0_pay214 (F := Ideal) (rB a1 h1 x0) (rC a1 h1 x0) (rV a1 h1 x0) (rW a6 h6 x5) (rT a3 h3 x2) (rT' a3 h3 x2) (ix2 r j) : EReal) = resV x0 x1 x2 x3 x4 x5 (ix2 r ⟨512 + j.val, by omega⟩)
    rw [pay214_at]
    have hl : ¬512 + j.val < 512 := by omega
    have e1 : (⟨512 + j.val - 512, by omega⟩ : Fin 512) = j := Fin.ext (by dsimp only; omega)
    refine Eq.trans ?_ (show cvB x0 x2 x5 r j = resV x0 x1 x2 x3 x4 x5 (ix2 r ⟨512 + j.val, by omega⟩) from (congrArg (cvB x0 x2 x5 r) e1.symm).trans (show _ = resB x0 x1 x2 x3 x4 x5 r ⟨512 + j.val, by omega⟩ by unfold resB; rw [dif_neg (show ¬ (⟨512 + j.val, by omega⟩ : Fin 1024).val < 512 from hl)]))
    rw [rB_at, rC_at, rV_at, rT_at, rT'_at, rW_eq]
    unfold cvB
    have e2 : (⟨0 + j.val, by omega⟩ : Fin 1024) = ⟨j.val, by omega⟩ := Fin.ext (Nat.zero_add _)
    rw [e2]
  all_goals exact head_at a1 h1 a2 h2 x0 x1 x2 x3 x4 x5 H _

theorem out8_at (y : S8x1024.Idx) : out0_A_8 c i a1 h1 a2 h2 a3 h3 a4 h4 a5 h5 a6 h6 a7 h7 a8 h8 a9 h9 x0 x1 x2 x3 x4 x5 y = carV x0 x2 y := by
  unfold out0_A_8
  have cv := cover0_A_8 c i a1 h1 a2 h2 a3 h3 a4 h4 a5 h5 a6 h6 a7 h7 a8 h8 a9 h9 x0 x1 x2 x3 x4 x5 y
  rw [list8] at cv
  rw [View.read_writes_junk_eq_canon, list8]
  refine View.canon_apply_of_pieces (carV x0 x2) _ (fun p hp => ?_) y cv
  simp only [List.mem_cons, List.not_mem_nil, or_false] at hp
  rcases hp with rfl | rfl
  · intro x
    obtain ⟨r, j, rfl⟩ : ∃ (r : Fin 8) (j : Fin 512), x = ix2 r j := ⟨_, _, eq_ix2 x⟩
    have he : (Rect.unit (s := S8x1024) ![0, 512] S8x512.size inb_S8x1024_S8x512_0_512).emb (ix2 r j) = ix2 r ⟨512 + j.val, by omega⟩ := by
      funext k
      apply Fin.ext
      match k with
      | ⟨0, _⟩ => show 0 + 1 * r.val = r.val; omega
      | ⟨1, _⟩ => show 512 + 1 * j.val = 512 + j.val; omega
    refine Eq.trans ?_ (congrArg (carV x0 x2) he).symm
    show (k0_pay213 (F := Ideal) (rC a1 h1 x0) (rV a1 h1 x0) (ix2 r j) : EReal) = carV x0 x2 (ix2 r ⟨512 + j.val, by omega⟩)
    rw [pay213_at]
    have hl : ¬512 + j.val < 512 := by omega
    have e1 : 512 + j.val - 512 = j.val := by omega
    refine Eq.trans ?_ (show x0 (ix2 r ⟨2560 + (512 + j.val - 512), by omega⟩) * x0 (ix2 r ⟨3072 + (512 + j.val - 512), by omega⟩) = carB x0 x2 r ⟨512 + j.val, by omega⟩ by unfold carB; rw [dif_neg (show ¬ (⟨512 + j.val, by omega⟩ : Fin 1024).val < 512 from hl)])
    rw [rC_at, rV_at]
    simp only [e1]
  · intro x
    obtain ⟨r, j, rfl⟩ : ∃ (r : Fin 8) (j : Fin 512), x = ix2 r j := ⟨_, _, eq_ix2 x⟩
    have he : (Rect.unit (s := S8x1024) ![0, 0] S8x512.size inb_S8x1024_S8x512_0_0).emb (ix2 r j) = ix2 r ⟨j.val, by omega⟩ := by
      funext k
      apply Fin.ext
      match k with
      | ⟨0, _⟩ => show 0 + 1 * r.val = r.val; omega
      | ⟨1, _⟩ => show 0 + 1 * j.val = j.val; omega
    refine Eq.trans ?_ (congrArg (carV x0 x2) he).symm
    show (k0_pay1 (F := Ideal) (rT' a3 h3 x2) (ix2 r j) : EReal) = carV x0 x2 (ix2 r ⟨j.val, by omega⟩)
    rw [pay1_at]
    have hl : j.val < 512 := j.isLt
    exact (rT'_at a3 h3 x2 r j).trans (show x2 (ix2 r ⟨512 + j.val, by omega⟩) = carB x0 x2 r ⟨j.val, by omega⟩ by unfold carB; rw [dif_pos (show (⟨j.val, by omega⟩ : Fin 1024).val < 512 from hl)])
end

/-! ## The blocks, and the final arrays -/

section
variable (z : FVec Ideal S128x3584 .f32) (s : FVec Ideal S1x128x4x128x128 .f32) (b : FVec Ideal S1x128x2x512 .f32) (l : FVec Ideal S2x512 .f32) (g : FVec Ideal S1x128 .f32) (w : FVec Ideal S1x3x512 .f32)

/-- The results of the argument arrays, entry by entry. -/
def gateE (n : Fin 128) (j : Fin 512) : EReal := Cert.InEven.fgt (Cert.InEven.lbd (l (ix2 0 j)) (l (ix2 1 j))) (z (ix2 n ⟨512 + j.val, by omega⟩))
def stE (n : Fin 128) (h : Fin 4) (d e : Fin 128) : EReal :=
  stp (gateE z l n ⟨128 * h.val + d.val, by omega⟩) (z (ix2 n ⟨1024 + (128 * h.val + e.val), by omega⟩)) (s (ix5 0 n h d e))
def oE (n : Fin 128) (h : Fin 4) (e : Fin 128) : EReal :=
  out (fun k => ∑ d : Fin 128, z (ix2 n ⟨128 * h.val + d.val, by omega⟩) * stE z s l n h d k) (g (ix2 0 e)) (z (ix2 n ⟨1536 + (128 * h.val + e.val), by omega⟩)) e
def cvE (n : Fin 128) (j : Fin 512) : EReal :=
  z (ix2 n ⟨2048 + j.val, by omega⟩) * (b (ix4 0 n 0 j) * w (ix3 0 0 j) + b (ix4 0 n 1 j) * w (ix3 0 1 j)
    + z (ix2 n ⟨2560 + j.val, by omega⟩) * z (ix2 n ⟨3072 + j.val, by omega⟩) * w (ix3 0 2 j))
def resE (n : Fin 128) (q : Fin 1024) : EReal :=
  if h : q.val < 512 then oE z s l g n ⟨q.val / 128, by omega⟩ ⟨q.val % 128, Nat.mod_lt _ (by decide)⟩ else cvE z b w n ⟨q.val - 512, by omega⟩
def carE (n : Fin 128) (q : Fin 1024) : EReal :=
  if h : q.val < 512 then b (ix4 0 n 1 ⟨q.val, h⟩) else z (ix2 n ⟨2560 + (q.val - 512), by omega⟩) * z (ix2 n ⟨3072 + (q.val - 512), by omega⟩)
end

variable (m : (ℓ : Loc nD τ sig) → Buf (Elt Ideal) ℓ) (c : Dev nD)

theorem cast_s (v : FVec Ideal S1x128x4x128x128 .f32) (n : Fin 128) (h : Fin 4) (d e : Fin 128) : (shapeCast S128x4x128x128 v shapeCasts_S1x128x4x128x128_S128x4x128x128 (ix4 n h d e) : EReal) = v (ix5 0 n h d e) := by
  pointwise
theorem cast_b (v : FVec Ideal S1x128x2x512 .f32) (n : Fin 128) (k : Fin 2) (j : Fin 512) (q : Fin 1024) (hq : q.val = 512 * k.val + j.val) :
    (shapeCast S128x1024 (shapeCast S128x2x512 v shapeCasts_S1x128x2x512_S128x2x512 : FVec Ideal S128x2x512 .f32) shapeCasts_S128x2x512_S128x1024 (ix2 n q) : EReal) = v (ix4 0 n k j) := by
  have hb : 512 * k.val + j.val < 1024 := by omega
  obtain rfl : q = ⟨512 * k.val + j.val, hb⟩ := Fin.ext hq
  pointwise
theorem cast_g (v : FVec Ideal S1x128 .f32) (e : Fin 128) : (shapeCast S1x128 (shapeCast S128 v shapeCasts_S1x128_S128 : FVec Ideal S128 .f32) shapeCasts_S128_S1x128 (ix2 0 e) : EReal) = v (ix2 0 e) := by
  pointwise
theorem cast_w (v : FVec Ideal S1x3x512 .f32) (a : Fin 3) (j : Fin 512) : (shapeCast S3x512 v shapeCasts_S1x3x512_S3x512 (ix2 a j) : EReal) = v (ix3 0 a j) := by
  pointwise

theorem V_v0 (n : Fin 128) (h : Fin 4) (d e : Fin 128) : (V m c main_v0 : FVec Ideal S128x4x128x128 .f32) (ix4 n h d e) = (m ((c : Thread nD τ).loc main_arg1) : FVec Ideal S1x128x4x128x128 .f32) (ix5 0 n h d e) := by
  have h : (V m c main_v0 : FVec Ideal S128x4x128x128 .f32) = shapeCast S128x4x128x128 (m ((c : Thread nD τ).loc main_arg1) : FVec Ideal S1x128x4x128x128 .f32) shapeCasts_S1x128x4x128x128_S128x4x128x128 := by
    show StableHlo.after hostOps0 _ (Proc.devRef .tc main_v0) = _
    after_results
    rfl
  rw [h]
  exact cast_s _ _ _ _ _

theorem V_v2 (n : Fin 128) (k : Fin 2) (j : Fin 512) (q : Fin 1024) (hq : q.val = 512 * k.val + j.val) : (V m c main_v2 : FVec Ideal S128x1024 .f32) (ix2 n q) = (m ((c : Thread nD τ).loc main_arg2) : FVec Ideal S1x128x2x512 .f32) (ix4 0 n k j) := by
  have h : (V m c main_v2 : FVec Ideal S128x1024 .f32) = shapeCast S128x1024 (shapeCast S128x2x512 (m ((c : Thread nD τ).loc main_arg2) : FVec Ideal S1x128x2x512 .f32) shapeCasts_S1x128x2x512_S128x2x512 : FVec Ideal S128x2x512 .f32) shapeCasts_S128x2x512_S128x1024 := by
    show StableHlo.after hostOps0 _ (Proc.devRef .tc main_v2) = _
    after_results
    rfl
  rw [h]
  exact cast_b _ _ _ _ _ hq

theorem V_v5 (e : Fin 128) : (V m c main_v5 : FVec Ideal S1x128 .f32) (ix2 0 e) = (m ((c : Thread nD τ).loc main_arg4) : FVec Ideal S1x128 .f32) (ix2 0 e) := by
  have h : (V m c main_v5 : FVec Ideal S1x128 .f32) = shapeCast S1x128 (shapeCast S128 (m ((c : Thread nD τ).loc main_arg4) : FVec Ideal S1x128 .f32) shapeCasts_S1x128_S128 : FVec Ideal S128 .f32) shapeCasts_S128_S1x128 := by
    show StableHlo.after hostOps0 _ (Proc.devRef .tc main_v5) = _
    after_results
    rfl
  rw [h]
  exact cast_g _ _

theorem V_v4 (a : Fin 3) (j : Fin 512) : (V m c main_v4 : FVec Ideal S3x512 .f32) (ix2 a j) = (m ((c : Thread nD τ).loc main_arg5) : FVec Ideal S1x3x512 .f32) (ix3 0 a j) := by
  have h : (V m c main_v4 : FVec Ideal S3x512 .f32) = shapeCast S3x512 (m ((c : Thread nD τ).loc main_arg5) : FVec Ideal S1x3x512 .f32) shapeCasts_S1x3x512_S3x512 := by
    show StableHlo.after hostOps0 _ (Proc.devRef .tc main_v4) = _
    after_results
    rfl
  rw [h]
  exact cast_w _ _ _

theorem iblk0_at (t : Fin cfg0.N) (n : Fin 128) (r : Fin 8) (hn : n.val = 8 * t.val + r.val) (j : Fin 3584) :
    (iblk m c 0 t : Vec Ideal S8x3584 .f32) (ix2 r j) = (m ((c : Thread nD τ).loc main_arg0) : FVec Ideal S128x3584 .f32) (ix2 n j) := by
  have hi : ∀ t : Fin cfg0.N, win0_0.index t (0 : Fin 2) = t.val ∧ win0_0.index t (1 : Fin 2) = 0 :=
    (by decide +kernel : ∀ t : Fin grid0.N, _)
  obtain ⟨h0, h1⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 2) * 8 + 1 * r.val = n.val; rw [h0] <;> omega
  | ⟨1, _⟩ => show win0_0.index t (1 : Fin 2) * 3584 + 1 * j.val = j.val; rw [h1] <;> omega

theorem iblk1_at (t : Fin cfg0.N) (n : Fin 128) (r : Fin 8) (hn : n.val = 8 * t.val + r.val) (h : Fin 4) (d e : Fin 128) :
    (iblk m c 1 t : Vec Ideal S8x4x128x128 .f32) (ix4 r h d e) = (m ((c : Thread nD τ).loc main_arg1) : FVec Ideal S1x128x4x128x128 .f32) (ix5 0 n h d e) := by
  have hi : ∀ t : Fin cfg0.N, win0_1.index t (0 : Fin 4) = t.val ∧ win0_1.index t (1 : Fin 4) = 0 ∧ win0_1.index t (2 : Fin 4) = 0 ∧ win0_1.index t (3 : Fin 4) = 0 :=
    (by decide +kernel : ∀ t : Fin grid0.N, _)
  obtain ⟨h0, h1, h2, h3⟩ := hi t
  unfold iblk
  rw [View.read_apply]
  show V m c main_v0 _ = _
  refine Eq.trans (congrArg (V m c main_v0) ?_) (V_v0 m c n h d e)
  funext a
  apply Fin.ext
  match a with
  | ⟨0, _⟩ => show win0_1.index t (0 : Fin 4) * 8 + 1 * r.val = n.val; rw [h0] <;> omega
  | ⟨1, _⟩ => show win0_1.index t (1 : Fin 4) * 4 + 1 * h.val = h.val; rw [h1] <;> omega
  | ⟨2, _⟩ => show win0_1.index t (2 : Fin 4) * 128 + 1 * d.val = d.val; rw [h2] <;> omega
  | ⟨3, _⟩ => show win0_1.index t (3 : Fin 4) * 128 + 1 * e.val = e.val; rw [h3] <;> omega

theorem iblk2_at (t : Fin cfg0.N) (n : Fin 128) (r : Fin 8) (hn : n.val = 8 * t.val + r.val) (k : Fin 2) (j : Fin 512) (q : Fin 1024) (hq : q.val = 512 * k.val + j.val) :
    (iblk m c 2 t : Vec Ideal S8x1024 .f32) (ix2 r q) = (m ((c : Thread nD τ).loc main_arg2) : FVec Ideal S1x128x2x512 .f32) (ix4 0 n k j) := by
  have hi : ∀ t : Fin cfg0.N, win0_2.index t (0 : Fin 2) = t.val ∧ win0_2.index t (1 : Fin 2) = 0 :=
    (by decide +kernel : ∀ t : Fin grid0.N, _)
  obtain ⟨h0, h1⟩ := hi t
  unfold iblk
  rw [View.read_apply]
  show V m c main_v2 _ = _
  refine Eq.trans (congrArg (V m c main_v2) ?_) (V_v2 m c n k j q hq)
  funext a
  apply Fin.ext
  match a with
  | ⟨0, _⟩ => show win0_2.index t (0 : Fin 2) * 8 + 1 * r.val = n.val; rw [h0] <;> omega
  | ⟨1, _⟩ => show win0_2.index t (1 : Fin 2) * 1024 + 1 * q.val = q.val; rw [h1] <;> omega

theorem iblk3_at (t : Fin cfg0.N) (k : Fin 2) (j : Fin 512) :
    (iblk m c 3 t : Vec Ideal S2x512 .f32) (ix2 k j) = (m ((c : Thread nD τ).loc main_arg3) : FVec Ideal S2x512 .f32) (ix2 k j) := by
  have hi : ∀ t : Fin cfg0.N, win0_3.index t (0 : Fin 2) = 0 ∧ win0_3.index t (1 : Fin 2) = 0 :=
    (by decide +kernel : ∀ t : Fin grid0.N, _)
  obtain ⟨h0, h1⟩ := hi t
  unfold iblk
  rw [View.read_apply]
  show V m c main_arg3 _ = _
  rw [V_main_arg3]
  refine congrArg (m ((c : Thread nD τ).loc main_arg3)) ?_
  funext a
  apply Fin.ext
  match a with
  | ⟨0, _⟩ => show win0_3.index t (0 : Fin 2) * 2 + 1 * k.val = k.val; rw [h0] <;> omega
  | ⟨1, _⟩ => show win0_3.index t (1 : Fin 2) * 512 + 1 * j.val = j.val; rw [h1] <;> omega

theorem iblk4_at (t : Fin cfg0.N) (e : Fin 128) :
    (iblk m c 4 t : Vec Ideal S1x128 .f32) (ix2 0 e) = (m ((c : Thread nD τ).loc main_arg4) : FVec Ideal S1x128 .f32) (ix2 0 e) := by
  have hi : ∀ t : Fin cfg0.N, win0_4.index t (0 : Fin 2) = 0 ∧ win0_4.index t (1 : Fin 2) = 0 :=
    (by decide +kernel : ∀ t : Fin grid0.N, _)
  obtain ⟨h0, h1⟩ := hi t
  unfold iblk
  rw [View.read_apply]
  show V m c main_v5 _ = _
  refine Eq.trans (congrArg (V m c main_v5) ?_) (V_v5 m c e)
  funext a
  apply Fin.ext
  match a with
  | ⟨0, _⟩ => show win0_4.index t (0 : Fin 2) * 1 + 1 * 0 = 0; rw [h0] <;> omega
  | ⟨1, _⟩ => show win0_4.index t (1 : Fin 2) * 128 + 1 * e.val = e.val; rw [h1] <;> omega

theorem iblk5_at (t : Fin cfg0.N) (k : Fin 3) (j : Fin 512) :
    (iblk m c 5 t : Vec Ideal S3x512 .f32) (ix2 k j) = (m ((c : Thread nD τ).loc main_arg5) : FVec Ideal S1x3x512 .f32) (ix3 0 k j) := by
  have hi : ∀ t : Fin cfg0.N, win0_5.index t (0 : Fin 2) = 0 ∧ win0_5.index t (1 : Fin 2) = 0 :=
    (by decide +kernel : ∀ t : Fin grid0.N, _)
  obtain ⟨h0, h1⟩ := hi t
  unfold iblk
  rw [View.read_apply]
  show V m c main_v4 _ = _
  refine Eq.trans (congrArg (V m c main_v4) ?_) (V_v4 m c k j)
  funext a
  apply Fin.ext
  match a with
  | ⟨0, _⟩ => show win0_5.index t (0 : Fin 2) * 3 + 1 * k.val = k.val; rw [h0] <;> omega
  | ⟨1, _⟩ => show win0_5.index t (1 : Fin 2) * 512 + 1 * j.val = j.val; rw [h1] <;> omega

/-- The real entries the call needs. -/
def RealE (z : FVec Ideal S128x3584 .f32) (l : FVec Ideal S2x512 .f32) : Prop :=
  (∀ (n : Fin 128) (j : Fin 512), ∃ y : ℝ, z (ix2 n ⟨j.val, by omega⟩) = (y : EReal)) ∧ (∀ (n : Fin 128) (j : Fin 512), ∃ y : ℝ, z (ix2 n ⟨1024 + j.val, by omega⟩) = (y : EReal))
    ∧ ∀ x, ∃ y : ℝ, l x = (y : EReal)

theorem realB (H : RealE (m ((c : Thread nD τ).loc main_arg0)) (m ((c : Thread nD τ).loc main_arg3))) (t : Fin cfg0.N) : RealB (iblk m c 0 t) (iblk m c 3 t) := by
  have ht : t.val < 16 := lt_of_lt_of_eq t.isLt (show cfg0.N = 16 from N_0)
  refine ⟨fun r j => ?_, fun r j => ?_, fun x => ?_⟩
  · rw [iblk0_at m c t ⟨8 * t.val + r.val, by omega⟩ r rfl]
    exact H.1 _ j
  · rw [iblk0_at m c t ⟨8 * t.val + r.val, by omega⟩ r rfl]
    exact H.2.1 _ j
  · obtain ⟨k, j, rfl⟩ : ∃ (k : Fin 2) (j : Fin 512), x = ix2 k j := ⟨_, _, eq_ix2 x⟩
    rw [iblk3_at]
    exact H.2.2 _

section
variable (t : Fin cfg0.N) (n : Fin 128) (r : Fin 8) (hn : n.val = 8 * t.val + r.val)
include hn

theorem gate_blk (j : Fin 512) : gateB (iblk m c 0 t) (iblk m c 3 t) r j = gateE (m ((c : Thread nD τ).loc main_arg0)) (m ((c : Thread nD τ).loc main_arg3)) n j := by
  unfold gateB gateE
  rw [iblk3_at, iblk3_at, iblk0_at m c t n r hn]
theorem st_blk (h : Fin 4) (d e : Fin 128) : stB (iblk m c 0 t) (iblk m c 1 t) (iblk m c 3 t) r h d e = stE (m ((c : Thread nD τ).loc main_arg0)) (m ((c : Thread nD τ).loc main_arg1)) (m ((c : Thread nD τ).loc main_arg3)) n h d e := by
  unfold stB stE
  rw [gate_blk m c t n r hn, iblk1_at m c t n r hn, iblk0_at m c t n r hn]
theorem o_blk (h : Fin 4) (e : Fin 128) : oB (iblk m c 0 t) (iblk m c 1 t) (iblk m c 3 t) (iblk m c 4 t) r h e = oE (m ((c : Thread nD τ).loc main_arg0)) (m ((c : Thread nD τ).loc main_arg1)) (m ((c : Thread nD τ).loc main_arg3)) (m ((c : Thread nD τ).loc main_arg4)) n h e := by
  unfold oB oE
  rw [iblk4_at, iblk0_at m c t n r hn]
  refine congrArg (fun o => out o _ _ e) (funext fun k => Finset.sum_congr rfl fun d _ => ?_)
  rw [st_blk m c t n r hn, iblk0_at m c t n r hn]
theorem cv_blk (j : Fin 512) : cvB (iblk m c 0 t) (iblk m c 2 t) (iblk m c 5 t) r j = cvE (m ((c : Thread nD τ).loc main_arg0)) (m ((c : Thread nD τ).loc main_arg2)) (m ((c : Thread nD τ).loc main_arg5)) n j := by
  unfold cvB cvE
  rw [iblk5_at, iblk5_at, iblk5_at, iblk2_at m c t n r hn 0 j _ (by show j.val = 512 * 0 + j.val; omega), iblk2_at m c t n r hn 1 j _ (by show 512 + j.val = 512 * 1 + j.val; omega),
    iblk0_at m c t n r hn, iblk0_at m c t n r hn, iblk0_at m c t n r hn]
theorem res_blk (q : Fin 1024) : resB (iblk m c 0 t) (iblk m c 1 t) (iblk m c 2 t) (iblk m c 3 t) (iblk m c 4 t) (iblk m c 5 t) r q = resE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n q := by
  unfold resB resE
  split_ifs
  · exact o_blk m c t n r hn _ _
  · exact cv_blk m c t n r hn _
theorem car_blk (q : Fin 1024) : carB (iblk m c 0 t) (iblk m c 2 t) r q = carE (m ((c : Thread nD τ).loc main_arg0)) (m ((c : Thread nD τ).loc main_arg2)) n q := by
  unfold carB carE
  split_ifs with h
  · exact iblk2_at m c t n r hn 1 ⟨q.val, h⟩ _ (by show 512 + q.val = 512 * 1 + q.val; omega)
  · rw [iblk0_at m c t n r hn, iblk0_at m c t n r hn]
end

theorem final6_at (H : RealE (m ((c : Thread nD τ).loc main_arg0)) (m ((c : Thread nD τ).loc main_arg3))) (n : Fin 128) (q : Fin 1024) : ((dats m 0 c).arrAt 6 cfg0.N : FVec Ideal S128x1024 .f32) (ix2 n q) = resE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n q := by
  have hN : n.val / 8 < cfg0.N := lt_of_lt_of_eq (by omega) (show cfg0.N = 16 from N_0).symm
  have hi : ∀ t : Fin cfg0.N, win0_6.index t (0 : Fin 2) = t.val ∧ win0_6.index t (1 : Fin 2) = 0 ∧ (cfg0.win 6).flush t = true :=
    (by decide +kernel : ∀ t : Fin grid0.N, _)
  obtain ⟨h0, h1, hfl⟩ := hi ⟨n.val / 8, hN⟩
  have hb := congrFun (Value.blocks6 m c ⟨n.val / 8, hN⟩ hfl) (ix2 ⟨n.val % 8, Nat.mod_lt _ (by decide)⟩ q)
  rw [View.read_apply, Value.flushed6_A, Pipeline.Window.cut_apply] at hb
  refine Eq.trans (congrArg ((dats m 0 c).arrAt 6 cfg0.N) ?_) (hb.trans ?_)
  · funext a
    apply Fin.ext
    match a with
    | ⟨0, _⟩ => show n.val = win0_6.index ⟨n.val / 8, hN⟩ (0 : Fin 2) * 8 + 1 * (n.val % 8); rw [h0]; dsimp only; omega
    | ⟨1, _⟩ => show q.val = win0_6.index ⟨n.val / 8, hN⟩ (1 : Fin 2) * 1024 + 1 * q.val; rw [h1]; omega
  · exact (out6_at c _ _ _ _ _ _ _ _ _ _ _ _ _ _ _ _ _ _ _ _ _ _ _ _ _ (realB m c H _) (ix2 ⟨n.val % 8, Nat.mod_lt _ (by decide)⟩ q)).trans (res_blk m c ⟨n.val / 8, hN⟩ n ⟨n.val % 8, Nat.mod_lt _ (by decide)⟩ (by dsimp only; omega) q)

theorem final7_at (H : RealE (m ((c : Thread nD τ).loc main_arg0)) (m ((c : Thread nD τ).loc main_arg3))) (n : Fin 128) (h : Fin 4) (d e : Fin 128) : ((dats m 0 c).arrAt 7 cfg0.N : FVec Ideal S128x4x128x128 .f32) (ix4 n h d e) = stE (m ((c : Thread nD τ).loc main_arg0)) (m ((c : Thread nD τ).loc main_arg1)) (m ((c : Thread nD τ).loc main_arg3)) n h d e := by
  have hN : n.val / 8 < cfg0.N := lt_of_lt_of_eq (by omega) (show cfg0.N = 16 from N_0).symm
  have hi : ∀ t : Fin cfg0.N, win0_7.index t (0 : Fin 4) = t.val ∧ win0_7.index t (1 : Fin 4) = 0 ∧ win0_7.index t (2 : Fin 4) = 0 ∧ win0_7.index t (3 : Fin 4) = 0 ∧ (cfg0.win 7).flush t = true :=
    (by decide +kernel : ∀ t : Fin grid0.N, _)
  obtain ⟨h0, h1, h2, h3, hfl⟩ := hi ⟨n.val / 8, hN⟩
  have hb := congrFun (Value.blocks7 m c ⟨n.val / 8, hN⟩ hfl) (ix4 ⟨n.val % 8, Nat.mod_lt _ (by decide)⟩ h d e)
  rw [View.read_apply, Value.flushed7_A, Pipeline.Window.cut_apply] at hb
  refine Eq.trans (congrArg ((dats m 0 c).arrAt 7 cfg0.N) ?_) (hb.trans ?_)
  · funext a
    apply Fin.ext
    match a with
    | ⟨0, _⟩ => show n.val = win0_7.index ⟨n.val / 8, hN⟩ (0 : Fin 4) * 8 + 1 * (n.val % 8); rw [h0]; dsimp only; omega
    | ⟨1, _⟩ => show h.val = win0_7.index ⟨n.val / 8, hN⟩ (1 : Fin 4) * 4 + 1 * h.val; rw [h1]; omega
    | ⟨2, _⟩ => show d.val = win0_7.index ⟨n.val / 8, hN⟩ (2 : Fin 4) * 128 + 1 * d.val; rw [h2]; omega
    | ⟨3, _⟩ => show e.val = win0_7.index ⟨n.val / 8, hN⟩ (3 : Fin 4) * 128 + 1 * e.val; rw [h3]; omega
  · exact (out7_at c _ _ _ _ _ _ _ _ _ _ _ _ _ _ _ _ _ _ _ _ _ _ _ _ _ (realB m c H _) (ix4 ⟨n.val % 8, Nat.mod_lt _ (by decide)⟩ h d e)).trans (st_blk m c ⟨n.val / 8, hN⟩ n ⟨n.val % 8, Nat.mod_lt _ (by decide)⟩ (by dsimp only; omega) h d e)

theorem final8_at (n : Fin 128) (q : Fin 1024) : ((dats m 0 c).arrAt 8 cfg0.N : FVec Ideal S128x1024 .f32) (ix2 n q) = carE (m ((c : Thread nD τ).loc main_arg0)) (m ((c : Thread nD τ).loc main_arg2)) n q := by
  have hN : n.val / 8 < cfg0.N := lt_of_lt_of_eq (by omega) (show cfg0.N = 16 from N_0).symm
  have hi : ∀ t : Fin cfg0.N, win0_8.index t (0 : Fin 2) = t.val ∧ win0_8.index t (1 : Fin 2) = 0 ∧ (cfg0.win 8).flush t = true :=
    (by decide +kernel : ∀ t : Fin grid0.N, _)
  obtain ⟨h0, h1, hfl⟩ := hi ⟨n.val / 8, hN⟩
  have hb := congrFun (Value.blocks8 m c ⟨n.val / 8, hN⟩ hfl) (ix2 ⟨n.val % 8, Nat.mod_lt _ (by decide)⟩ q)
  rw [View.read_apply, Value.flushed8_A, Pipeline.Window.cut_apply] at hb
  refine Eq.trans (congrArg ((dats m 0 c).arrAt 8 cfg0.N) ?_) (hb.trans ?_)
  · funext a
    apply Fin.ext
    match a with
    | ⟨0, _⟩ => show n.val = win0_8.index ⟨n.val / 8, hN⟩ (0 : Fin 2) * 8 + 1 * (n.val % 8); rw [h0]; dsimp only; omega
    | ⟨1, _⟩ => show q.val = win0_8.index ⟨n.val / 8, hN⟩ (1 : Fin 2) * 1024 + 1 * q.val; rw [h1]; omega
  · exact (out8_at c _ _ _ _ _ _ _ _ _ _ _ _ _ _ _ _ _ _ _ _ _ _ _ _ _ (ix2 ⟨n.val % 8, Nat.mod_lt _ (by decide)⟩ q)).trans (car_blk m c ⟨n.val / 8, hN⟩ n ⟨n.val % 8, Nat.mod_lt _ (by decide)⟩ (by dsimp only; omega) q)

end Cert.EvenStep

end
-- ==== Proof.ClaimsEvenStep.lean ====
/- One step of the HGRN2 recurrence for each sample: the precondition read, the reference, and equal results over the extended reals. -/
module

public import proofs.«01_k».proof.Defs
public import proofs.«01_k».proof.Proof.Gen.Reference8Ideal.Run
public import proofs.«01_k».proof.Proof.EvenStep
public import proofs.«01_k».proof.Proof.ClaimsOdd
public import Idealize.ShloMosaic.Lib.Quiescent
public import Idealize.ShloMosaic.Lib.ReduceAll

@[expose] public section

set_option maxRecDepth 16384

noncomputable section

namespace Cert.EvenStep

open Idealize.ShloMosaic Idealize.ShloMosaic.TcCoe Idealize.ShloMosaic.Tactic Idealize.SL.Sem

instance preFacts : Cert.Pre_finite_rows.Facts where
  slices_S128x3584_S128x512_0_0 := by decide
  bcast_S_S128x512 := by decide
  reducesTo_S128x512_S_d0_1 := by decide
  h_S_ := by decide
  slices_S128x3584_S128x512_0_1024 := by decide
  bcast_S_S2x512 := by decide
  reducesTo_S2x512_S_d0_1 := by decide

instance : Subsingleton Cert.Pre_finite_rows.S_.Idx := ⟨fun _ _ => funext fun a => a.elim0⟩

/-- What the precondition says: the queries, the values and the lower bounds' parameters are real. -/
theorem real_of_pre [Cert.Pre_finite_rows.Facts] (z : FVec Ideal Cert.Kernel8Ideal.S128x3584 .f32) (s : FVec Ideal Cert.Kernel8Ideal.S1x128x4x128x128 .f32) (b : FVec Ideal Cert.Kernel8Ideal.S1x128x2x512 .f32)
    (l : FVec Ideal Cert.Kernel8Ideal.S2x512 .f32) (g : FVec Ideal Cert.Kernel8Ideal.S1x128 .f32) (w : FVec Ideal Cert.Kernel8Ideal.S1x3x512 .f32)
    (h : Cert.Pre_finite_rows.fn (F := Ideal) z s b l g w = fun _ => 1#1) : RealE z l := by
  have h0 := congrFun h (Shape.Idx.first Cert.Pre_finite_rows.Facts.h_S_)
  dsimp only [Cert.Pre_finite_rows.fn] at h0
  obtain ⟨h0, hl⟩ := Cert.InOdd.and1 _ _ h0
  obtain ⟨hq, hv⟩ := Cert.InOdd.and1 _ _ h0
  refine ⟨fun n j => ?_, fun n j => ?_, fun x => Cert.InOdd.real_of_abs _ (Host.reduce_andi_all _ _ _ _ _ hl x)⟩
  · obtain ⟨y, hy⟩ := Cert.InOdd.real_of_abs _ (Host.reduce_andi_all _ _ _ _ _ hq (ix2 n j))
    refine ⟨y, Eq.trans (congrArg z (funext fun a => Fin.ext ?_)) hy⟩
    match a with
    | ⟨0, _⟩ => exact (Nat.zero_add _).symm
    | ⟨1, _⟩ => exact (Nat.zero_add _).symm
  · obtain ⟨y, hy⟩ := Cert.InOdd.real_of_abs _ (Host.reduce_andi_all _ _ _ _ _ hv (ix2 n j))
    refine ⟨y, Eq.trans (congrArg z (funext fun a => Fin.ext ?_)) hy⟩
    match a with
    | ⟨0, _⟩ => exact (Nat.zero_add _).symm
    | ⟨1, _⟩ => rfl

section Reference
open Cert.Reference8Ideal Cert.Reference8Ideal.Gen

/-- The logistic function, and the forget gate. -/
def Sg (z : FVec Ideal S128x512 .f32) : FVec Ideal S128x512 .f32 := Host.divf (broadcastInDim S128x512 ![] bcast_S_S128x512 (constant (F := Ideal) S_ .f32 0x3F800000#32)) (addf (broadcastInDim S128x512 ![] bcast_S_S128x512 (constant (F := Ideal) S_ .f32 0x3F800000#32)) (Host.exp (Host.negf z)))
def Fg (l : FVec Ideal S512 .f32) (z : FVec Ideal S128x512 .f32) : FVec Ideal S128x512 .f32 :=
  addf (broadcastInDim S128x512 ![0, 1] bcast_S1x512_S128x512_0_1 (broadcastInDim S1x512 ![1] bcast_S512_S1x512_1 l)) (mulf (broadcastInDim S128x512 ![0, 1] bcast_S1x512_S128x512_0_1 (broadcastInDim S1x512 ![1] bcast_S512_S1x512_1 (subf (broadcastInDim S512 ![] bcast_S_S512 (constant (F := Ideal) S_ .f32 0x3F800000#32)) l))) (Sg z))

/-- The new state. -/
def St (f : FVec Ideal S128x512 .f32) (s : FVec Ideal S1x128x4x128x128 .f32) (v : FVec Ideal S128x512 .f32) : FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (shapeCast _ (Host.log f) shapeCasts_S128x512_S128x4x128)))) (shapeCast _ s shapeCasts_S1x128x4x128x128_S128x4x128x128)) (mulf (broadcastInDim S128x4x128x128 ![0, 1, 2, 3] bcast_S128x4x128x1_S128x4x128x128_0_1_2_3 (broadcastInDim S128x4x128x1 ![0, 1, 2] bcast_S128x4x128_S128x4x128x1_0_1_2 (shapeCast _ (subf (broadcastInDim S128x512 ![] bcast_S_S128x512 (constant (F := Ideal) S_ .f32 0x3F800000#32)) f) shapeCasts_S128x512_S128x4x128))) (broadcastInDim S128x4x128x128 ![0, 1, 2, 3] bcast_S128x4x1x128_S128x4x128x128_0_1_2_3 (broadcastInDim S128x4x1x128 ![0, 1, 3] bcast_S128x4x128_S128x4x1x128_0_1_3 (shapeCast _ v shapeCasts_S128x512_S128x4x128))))

/-- Its product with the queries, normed and gated. -/
def Pr (q : FVec Ideal S128x512 .f32) (S : FVec Ideal S128x4x128x128 .f32) : FVec Ideal S128x4x128 .f32 :=
  Host.reduceAdd (mulf (broadcastInDim S128x4x128x128 ![0, 1, 2, 3] bcast_S128x4x128x1_S128x4x128x128_0_1_2_3 (broadcastInDim S128x4x128x1 ![0, 1, 2] bcast_S128x4x128_S128x4x128x1_0_1_2 (shapeCast _ q shapeCasts_S128x512_S128x4x128))) S) (constant (F := Ideal) S_ .f32 0x00000000#32) reducesTo_S128x4x128x128_S128x4x128_d2 h_S_
def Nm (o : FVec Ideal S128x4x128 .f32) (g : FVec Ideal S1x128 .f32) (z : FVec Ideal S128x512 .f32) : FVec Ideal S128x512 .f32 :=
  shapeCast _ (mulf (mulf (mulf o (broadcastInDim S128x4x128 ![0, 1, 2] bcast_S128x4x1_S128x4x128_0_1_2 (Host.rsqrt (addf (Host.divf (broadcastInDim S128x4x1 ![0, 1] bcast_S128x4_S128x4x1_0_1 (Host.reduceAdd (mulf o o) (constant (F := Ideal) S_ .f32 0x00000000#32) reducesTo_S128x4x128_S128x4_d2 h_S_)) (broadcastInDim S128x4x1 ![] bcast_S_S128x4x1 (constant (F := Ideal) S_ .f32 0x43000000#32))) (broadcastInDim S128x4x1 ![] bcast_S_S128x4x1 (constant (F := Ideal) S_ .f32 0x358637BD#32)))))) (broadcastInDim S128x4x128 ![0, 1, 2] bcast_S1x1x128_S128x4x128_0_1_2 (broadcastInDim S1x1x128 ![2] bcast_S128_S1x1x128_2 (shapeCast _ g shapeCasts_S1x128_S128)))) (shapeCast _ (mulf z (Sg z)) shapeCasts_S128x512_S128x4x128)) shapeCasts_S128x4x128_S128x512

/-- The carried tokens and the new one, and the gated convolution. -/
def Full (b : FVec Ideal S1x128x2x512 .f32) (k v : FVec Ideal S128x512 .f32) : FVec Ideal S128x3x512 .f32 :=
  concatenate S128x3x512 1 [⟨S128x2x512, (shapeCast _ b shapeCasts_S1x128x2x512_S128x2x512)⟩, ⟨S128x1x512, (broadcastInDim S128x1x512 ![0, 2] bcast_S128x512_S128x1x512_0_2 (mulf k v))⟩] concatenates_S128x2x512_S128x1x512_S128x3x512_d1
def Cv (bg : FVec Ideal S128x512 .f32) (f : FVec Ideal S128x3x512 .f32) (w : FVec Ideal S1x3x512 .f32) : FVec Ideal S128x512 .f32 :=
  mulf bg (addf (addf (addf (broadcastInDim S128x512 ![] bcast_S_S128x512 (constant (F := Ideal) S_ .f32 0x00000000#32)) (mulf (shapeCast _ (extractStridedSlice S128x1x512 ![0, 0, 0] f slices_S128x3x512_S128x1x512_0_0_0) shapeCasts_S128x1x512_S128x512) (broadcastInDim S128x512 ![0, 1] bcast_S1x512_S128x512_0_1 (broadcastInDim S1x512 ![1] bcast_S512_S1x512_1 (shapeCast _ (extractStridedSlice S1x1x512 ![0, 0, 0] w slices_S1x3x512_S1x1x512_0_0_0) shapeCasts_S1x1x512_S512))))) (mulf (shapeCast _ (extractStridedSlice S128x1x512 ![0, 1, 0] f slices_S128x3x512_S128x1x512_0_1_0) shapeCasts_S128x1x512_S128x512) (broadcastInDim S128x512 ![0, 1] bcast_S1x512_S128x512_0_1 (broadcastInDim S1x512 ![1] bcast_S512_S1x512_1 (shapeCast _ (extractStridedSlice S1x1x512 ![0, 1, 0] w slices_S1x3x512_S1x1x512_0_1_0) shapeCasts_S1x1x512_S512))))) (mulf (shapeCast _ (extractStridedSlice S128x1x512 ![0, 2, 0] f slices_S128x3x512_S128x1x512_0_2_0) shapeCasts_S128x1x512_S128x512) (broadcastInDim S128x512 ![0, 1] bcast_S1x512_S128x512_0_1 (broadcastInDim S1x512 ![1] bcast_S512_S1x512_1 (shapeCast _ (extractStridedSlice S1x1x512 ![0, 2, 0] w slices_S1x3x512_S1x1x512_0_2_0) shapeCasts_S1x1x512_S512)))))
def Rs (a b : FVec Ideal S128x512 .f32) : FVec Ideal S128x1024 .f32 :=
  concatenate S128x1024 1 [⟨S128x512, a⟩, ⟨S128x512, b⟩] concatenates_S128x512_S128x512_S128x1024_d1
def Cr (f : FVec Ideal S128x3x512 .f32) : FVec Ideal S128x1024 .f32 :=
  shapeCast _ (extractStridedSlice S128x2x512 ![0, 1, 0] f slices_S128x3x512_S128x2x512_0_1_0) shapeCasts_S128x2x512_S128x1024

theorem fg_at (l : FVec Ideal S512 .f32) (z : FVec Ideal S128x512 .f32) (n : Fin 128) (j : Fin 512) : (Fg l z (ix2 n j) : EReal) = Cert.InEven.fgt (l (ix1 j)) (z (ix2 n j)) := by
  unfold Fg Sg Cert.InEven.fgt Ideal.logistic
  pointwise

theorem st_at (f : FVec Ideal S128x512 .f32) (s : FVec Ideal S1x128x4x128x128 .f32) (v : FVec Ideal S128x512 .f32) (n : Fin 128) (h : Fin 4) (d e : Fin 128) :
    (St f s v (ix4 n h d e) : EReal) = Ideal.exp (Ideal.log (f (ix2 n ⟨128 * h.val + d.val, by omega⟩))) * s (ix5 0 n h d e) + (1 - f (ix2 n ⟨128 * h.val + d.val, by omega⟩)) * v (ix2 n ⟨128 * h.val + e.val, by omega⟩) := by
  unfold St
  pointwise
  simp only [Nat.mul_comm h.val 128]

theorem pr_at (q : FVec Ideal S128x512 .f32) (S : FVec Ideal S128x4x128x128 .f32) (n : Fin 128) (h : Fin 4) (e : Fin 128) :
    (Pr q S (ix3 n h e) : EReal) = ∑ d : Fin 128, q (ix2 n ⟨128 * h.val + d.val, by omega⟩) * S (ix4 n h d e) := by
  unfold Pr
  pointwise
  simp only [Nat.mul_comm h.val 128]

theorem nm_at (o : FVec Ideal S128x4x128 .f32) (g : FVec Ideal S1x128 .f32) (z : FVec Ideal S128x512 .f32) (n : Fin 128) (q : Fin 512) :
    (Nm o g z (ix2 n q) : EReal) = out (fun k => o (ix3 n ⟨q.val / 128, by omega⟩ k)) (g (ix2 0 ⟨q.val % 128, Nat.mod_lt _ (by decide)⟩)) (z (ix2 n q)) ⟨q.val % 128, Nat.mod_lt _ (by decide)⟩ := by
  unfold Nm out Sg Ideal.logistic
  pointwise

theorem full_at (b : FVec Ideal S1x128x2x512 .f32) (k v : FVec Ideal S128x512 .f32) (n : Fin 128) (a : Fin 3) (j : Fin 512) :
    (Full b k v (ix3 n a j) : EReal) = if h : a.val < 2 then b (ix4 0 n ⟨a.val, h⟩ j) else k (ix2 n j) * v (ix2 n j) := by
  unfold Full
  pointwise

theorem cv_at (bg : FVec Ideal S128x512 .f32) (f : FVec Ideal S128x3x512 .f32) (w : FVec Ideal S1x3x512 .f32) (n : Fin 128) (j : Fin 512) :
    (Cv bg f w (ix2 n j) : EReal) = bg (ix2 n j) * (f (ix3 n 0 j) * w (ix3 0 0 j) + f (ix3 n 1 j) * w (ix3 0 1 j) + f (ix3 n 2 j) * w (ix3 0 2 j)) := by
  unfold Cv
  pointwise

theorem rs_at (a b : FVec Ideal S128x512 .f32) (n : Fin 128) (q : Fin 1024) : (Rs a b (ix2 n q) : EReal) = if h : q.val < 512 then a (ix2 n ⟨q.val, h⟩) else b (ix2 n ⟨q.val - 512, by omega⟩) := by
  unfold Rs
  pointwise

theorem cr_at (f : FVec Ideal S128x3x512 .f32) (n : Fin 128) (q : Fin 1024) : (Cr f (ix2 n q) : EReal) = f (ix3 n ⟨1 + q.val / 512, by omega⟩ ⟨q.val % 512, Nat.mod_lt _ (by decide)⟩) := by
  unfold Cr
  pointwise

theorem sl_at (z : FVec Ideal S128x3584 .f32) (o : ℕ) (ho : o + 512 ≤ 3584) (hs : S128x3584.Slices ![0, o] S128x512) (n : Fin 128) (j : Fin 512) :
    (extractStridedSlice S128x512 ![0, o] z hs (ix2 n j) : EReal) = z (ix2 n ⟨o + j.val, by omega⟩) := by
  pointwise

section
variable (z : FVec Ideal S128x3584 .f32) (s : FVec Ideal S1x128x4x128x128 .f32) (b : FVec Ideal S1x128x2x512 .f32) (l : FVec Ideal S2x512 .f32) (g : FVec Ideal S1x128 .f32) (w : FVec Ideal S1x3x512 .f32)

def rF : FVec Ideal S128x512 .f32 := Fg (Cert.InEven.Ref.Row (Cert.InEven.Ref.Low (Cert.InEven.Ref.Sm l))) (extractStridedSlice S128x512 ![0, 512] z slices_S128x3584_S128x512_0_512)
def rS' : FVec Ideal S128x4x128x128 .f32 := St (rF z l) s (extractStridedSlice S128x512 ![0, 1024] z slices_S128x3584_S128x512_0_1024)
def rU : FVec Ideal S128x3x512 .f32 := Full b (extractStridedSlice S128x512 ![0, 2560] z slices_S128x3584_S128x512_0_2560) (extractStridedSlice S128x512 ![0, 3072] z slices_S128x3584_S128x512_0_3072)
def rO : FVec Ideal S128x1024 .f32 := Rs (Nm (Pr (extractStridedSlice S128x512 ![0, 0] z slices_S128x3584_S128x512_0_0) (rS' z s l)) g (extractStridedSlice S128x512 ![0, 1536] z slices_S128x3584_S128x512_0_1536)) (Cv (extractStridedSlice S128x512 ![0, 2048] z slices_S128x3584_S128x512_0_2048) (rU z b) w)

theorem rF_at (n : Fin 128) (j : Fin 512) : (rF z l (ix2 n j) : EReal) = gateE z l n j := by
  unfold rF gateE
  rw [fg_at, Cert.InEven.Ref.bound_at, sl_at _ _ (by decide)]

theorem rS_ref (H : RealE z l) (n : Fin 128) (h : Fin 4) (d e : Fin 128) : (rS' z s l (ix4 n h d e) : EReal) = stE z s l n h d e := by
  unfold rS' stE stp
  rw [st_at, rF_at, sl_at _ _ (by decide), exp_log (gateE z l n ⟨128 * h.val + d.val, by omega⟩) (fgt_unit _ _ (lbd_unit _ _ (H.2.2 _) (H.2.2 _)))]

theorem rU_at (n : Fin 128) (a : Fin 3) (j : Fin 512) : (rU z b (ix3 n a j) : EReal) = if h : a.val < 2 then b (ix4 0 n ⟨a.val, h⟩ j) else z (ix2 n ⟨2560 + j.val, by omega⟩) * z (ix2 n ⟨3072 + j.val, by omega⟩) := by
  unfold rU
  rw [full_at, sl_at _ _ (by decide), sl_at _ _ (by decide)]

theorem rO_at (H : RealE z l) (n : Fin 128) (q : Fin 1024) : (rO z s b l g w (ix2 n q) : EReal) = resE z s b l g w n q := by
  unfold rO resE
  rw [rs_at]
  split_ifs with hq
  · rw [nm_at]
    unfold oE
    rw [sl_at _ _ (by decide)]
    have e : (⟨1536 + q.val, by omega⟩ : Fin 3584) = ⟨1536 + (128 * (q.val / 128) + q.val % 128), by omega⟩ := Fin.ext (by dsimp only; omega)
    dsimp only
    rw [e]
    refine congrArg (fun o => out o _ _ _) (funext fun k => ?_)
    rw [pr_at]
    refine Finset.sum_congr rfl fun d _ => ?_
    rw [rS_ref z s l H, sl_at _ _ (by decide)]
    exact congrArg (fun a => z (ix2 n a) * _) (Fin.ext (Nat.zero_add _))
  · rw [cv_at]
    unfold cvE
    rw [sl_at _ _ (by decide), rU_at, rU_at, rU_at]
    rfl

theorem cr_ref (n : Fin 128) (q : Fin 1024) : (Cr (rU z b) (ix2 n q) : EReal) = carE z b n q := by
  rw [cr_at, rU_at]
  unfold carE
  dsimp only
  by_cases h : q.val < 512
  · rw [dif_pos h, dif_pos (by omega)]
    have ea : (⟨1 + q.val / 512, by omega⟩ : Fin 2) = 1 := Fin.ext (by show 1 + q.val / 512 = 1; omega)
    have eb : (⟨q.val % 512, Nat.mod_lt _ (by decide)⟩ : Fin 512) = ⟨q.val, h⟩ := Fin.ext (by show q.val % 512 = q.val; omega)
    rw [ea, eb]
  · rw [dif_neg h, dif_neg (by omega)]
    have e : q.val % 512 = q.val - 512 := by omega
    simp only [e]
end

section
variable (m : (ℓ : Loc nD τ sig) → Buf (Elt Ideal) ℓ) (c : Dev nD)
variable (z : FVec Ideal S128x3584 .f32) (s : FVec Ideal S1x128x4x128x128 .f32) (b : FVec Ideal S1x128x2x512 .f32) (l : FVec Ideal S2x512 .f32) (g : FVec Ideal S1x128 .f32) (w : FVec Ideal S1x3x512 .f32)
  (e0 : m ((c : Thread nD τ).loc main_arg0) = z) (e1 : m ((c : Thread nD τ).loc main_arg1) = s) (e2 : m ((c : Thread nD τ).loc main_arg2) = b)
  (e3 : m ((c : Thread nD τ).loc main_arg3) = l) (e4 : m ((c : Thread nD τ).loc main_arg4) = g) (e5 : m ((c : Thread nD τ).loc main_arg5) = w)
include e0 e1 e3

theorem st_eq : Value.res_main_v56 m c = rS' z s l := by
  unfold Value.res_main_v56
  rw [e0, e1, e3]
  rfl

include e2 e4 e5
theorem o_eq : Value.res_main_v116 m c = rO z s b l g w := by
  unfold Value.res_main_v116
  rw [e0, e1, e2, e3, e4, e5]
  rfl
end
end Reference

theorem run_ref : Cert.quiescent_Reference8Ideal (hReference8Ideal := Cert.Reference8Ideal.Gen.facts) := fun m g _ =>
  (θ_run Cert.Reference8Ideal.defs _ _).mono (fun r h => ⟨fun c => (h c).2.2.2, sem_eq_zero_of_no_sems (by decide) r.2⟩) (Cert.Reference8Ideal.Value.run m g)

theorem algebraic : Cert.algebraic_Kernel8Ideal_Reference8Ideal_pre_finite_rows (hKernel8Ideal := Cert.Kernel8Ideal.Gen.facts) (hReference8Ideal := Cert.Reference8Ideal.Gen.facts)
    (hPre_finite_rows := preFacts) := by
  intro m g m' g' hpre hagree
  refine ⟨fun c => (Cert.Kernel8Ideal.Gen.dats m 0 c).arrAt 6 Cert.Kernel8Ideal.cfg0.N, fun c => (Cert.Kernel8Ideal.Gen.dats m 0 c).arrAt 7 Cert.Kernel8Ideal.cfg0.N,
    fun c => (Cert.Kernel8Ideal.Gen.dats m 0 c).arrAt 8 Cert.Kernel8Ideal.cfg0.N, Cert.Kernel8Ideal.Value.run_blocks (F := Ideal) m g, ?_⟩
  refine (θ_run _ _ _).mono (fun r h c => ⟨(h c).1.trans ?_, (h c).2.1.trans ?_, (h c).2.2.1.trans ?_, (h c).2.2.2⟩) (Cert.Reference8Ideal.Value.run m' g')
  all_goals
    obtain ⟨e0, e1, e2, e3, e4, e5⟩ := hagree c
    have H := real_of_pre _ _ _ _ _ _ (hpre c)
  · rw [o_eq m' c _ _ _ _ _ _ e0 e1 e2 e3 e4 e5]
    funext y
    rw [eq_ix2 y]
    exact (rO_at _ _ _ _ _ _ H (y 0) (y 1)).trans (final6_at m c H (y 0) (y 1)).symm
  · rw [st_eq m' c _ _ _ e0 e1 e3]
    funext y
    rw [eq_ix4 y]
    exact (rS_ref _ _ _ H (y 0) (y 1) (y 2) (y 3)).trans (final7_at m c H (y 0) (y 1) (y 2) (y 3)).symm
  · rw [e0, e2]
    funext y
    rw [eq_ix2 y]
    exact (cr_ref _ _ (y 0) (y 1)).trans (final8_at m c (y 0) (y 1)).symm

end Cert.EvenStep

end
-- ==== Proof.SsdBody.lean ====
/- One step of the Mamba2 recurrence for each sample: the body's stages for a head and a token, and what a point leaves in each output. -/
module

public import proofs.«01_k».proof.Proof.Gen.Kernel7Ideal.Value
public import Idealize.ShloMosaic.Lib.Pipeline.ValueKit
public import Idealize.ShloMosaic.Lib.StableHlo.Run

@[expose] public section

set_option maxRecDepth 65536

noncomputable section

namespace Cert.SsdStep

open Idealize.ShloMosaic Idealize.ShloMosaic.TcCoe Idealize.ShloMosaic.Tactic Idealize.SL.Sem Cert.Kernel7Ideal Cert.Kernel7Ideal.Gen

variable {F : FTy → Type} [FloatOps F]

/-! ## The stages -/

/-- A number rounded, and what the rounding left. -/
def hiX (x : FVec F S16x512 .f32) : FVec F S16x512 .f32 := extf .f32 (truncf .bf16 x bitsLt_bf16_f32) bitsLt_bf16_f32
def restX (x : FVec F S16x512 .f32) : FVec F S16x512 .f32 := subf x (hiX x)

/-- The parts of the inputs side by side, and turned. -/
def terms (p0 p1 p2 : FVec F S16x512 .f32) : FVec F S128x512 .f32 :=
  concatenate S128x512 0 [⟨S16x512, p0⟩, ⟨S16x512, p0⟩, ⟨S16x512, p1⟩, ⟨S16x512, p0⟩, ⟨S16x512, p1⟩, ⟨S16x512, p2⟩, ⟨S32x512, broadcast S32x512 (Scalar.ofBits .f32 0x00000000#32)⟩] concatenates_S16x512_S16x512_S16x512_S16x512_S16x512_S16x512_S32x512_S128x512_d0
def turn (T : FVec F S128x512 .f32) : FVec F S512x128 .f32 :=
  concatenate S512x128 0 [⟨S128x128, transpose S128x128 [1, 0] (extractStridedSlice S128x128 ![0, 0] T slices_S128x512_o0_0_S128x128) transposes_S128x128_p1_0_S128x128⟩,
    ⟨S128x128, transpose S128x128 [1, 0] (extractStridedSlice S128x128 ![0, 128] T slices_S128x512_o0_128_S128x128) transposes_S128x128_p1_0_S128x128⟩,
    ⟨S128x128, transpose S128x128 [1, 0] (extractStridedSlice S128x128 ![0, 256] T slices_S128x512_o0_256_S128x128) transposes_S128x128_p1_0_S128x128⟩,
    ⟨S128x128, transpose S128x128 [1, 0] (extractStridedSlice S128x128 ![0, 384] T slices_S128x512_o0_384_S128x128) transposes_S128x128_p1_0_S128x128⟩] concatenates_S128x128_S128x128_S128x128_S128x128_S512x128_d0
def lhs (x d : FVec F S16x512 .f32) : FVec F S512x128 .bf16 :=
  truncf .bf16 (turn (terms (hiX (mulf x d)) (hiX (restX (mulf x d))) (hiX (restX (restX (mulf x d)))))) bitsLt_bf16_f32

/-- One token's rows of the product. -/
def upd (A : FVec F S512x128 .bf16) (B : FVec F S128x128 .f32) (i : Fin 16) : FVec F S512x128 .f32 :=
  matmul dot_S512x128_S128x128_S512x128_1_0_0_1_n_n none A (truncf .bf16 (select (cmpi .eq k0_pay6 (broadcast S128x128 (BitVec.ofNat 32 i.val))) B (broadcast S128x128 (Scalar.ofBits .f32 0x00000000#32))) bitsLt_bf16_f32) (constant S512x128 .f32 0x00000000#32)

theorem hsl (h : Fin 8) : S512x128.Slices ![64 * h.val, 0] S64x128 := by revert h; decide

/-- The new state. -/
def new (U : FVec F S512x128 .f32) (h : Fin 8) (d : FVec F S1x1x128 .f32) (s : FVec F S1x1x64x128 .f32) : FVec F S64x128 .f32 :=
  addf (mulf (broadcastTo S64x128 (shapeCast S1x128 d shapeCasts_S1x1x128_S1x128) broadcasts_S1x128_S64x128) (shapeCast S64x128 s shapeCasts_S1x1x64x128_S64x128)) (extractStridedSlice S64x128 ![64 * h.val, 0] U (hsl h))

/-- Eight heads' states on top of one another, and their product with the output directions. -/
def tower (N : Fin 8 → FVec F S64x128 .bf16) : FVec F S512x128 .bf16 :=
  concatenate S512x128 0 [⟨S64x128, N 0⟩, ⟨S64x128, N 1⟩, ⟨S64x128, N 2⟩, ⟨S64x128, N 3⟩, ⟨S64x128, N 4⟩, ⟨S64x128, N 5⟩, ⟨S64x128, N 6⟩, ⟨S64x128, N 7⟩] concatenates_S64x128_S64x128_S64x128_S64x128_S64x128_S64x128_S64x128_S64x128_S512x128_d0
def prod (c : FVec F S16x128 .f32) (N : FVec F S512x128 .bf16) : FVec F S16x512 .f32 :=
  matmul dot_S16x128_S512x128_S16x512_1_1_0_0_n_n none (k0_pay7 c) N (constant S16x512 .f32 0x00000000#32)

/-- The tokens' rows picked. -/
def rows (Y : Fin 16 → FVec F S16x512 .f32) : (n : ℕ) → n ≤ 16 → FVec F S16x512 .f32
  | 0, _ => k0_pay8
  | n + 1, hn => select (cmpi .eq (iota .tc S16x512 32 [0] iota_S16x512_d0_w32) (broadcast S16x512 (BitVec.ofNat 32 n))) (Y ⟨n, hn⟩) (rows Y n (Nat.le_of_succ_le hn))

/-- The skip and the gate; the norm. -/
def gated (y x z : FVec F S16x512 .f32) (d : FVec F S1x512 .f32) : FVec F S16x512 .f32 :=
  mulf (addf y (mulf (broadcastTo S16x512 (shapeCast S1x512 d shapeCasts_S1x512_S1x512) broadcasts_S1x512_S16x512) x)) (mulf z (logistic z))
def normed (y : FVec F S16x512 .f32) (w : FVec F S1x512 .f32) : FVec F S16x512 .f32 :=
  mulf (mulf y (broadcastTo S16x512 (rsqrt (addf (divf (shapeCast S16x1 (multiReduction .add [1] S16 (mulf y y) 0x00000000#32 reduces_S16x512_S16 (.inl rfl) rfl) shapeCasts_S16_S16x1) (broadcast S16x1 (Scalar.ofBits .f32 0x44000000#32))) (broadcast S16x1 (Scalar.ofBits .f32 0x358637BD#32)))) broadcasts_S16x1_S16x512))
    (broadcastTo S16x512 (shapeCast S1x512 w shapeCasts_S1x512_S1x512) broadcasts_S1x512_S16x512)

/-! ## What a point leaves -/

theorem inbS (h : Fin 8) (i : Fin 16) : ∀ a, (![i.val, h.val, 0, 0] : Fin 4 → ℕ) a + S1x1x64x128.size a ≤ S16x8x64x128.size a := fun a => by
  match a with
  | 0 => show i.val + 1 ≤ 16; omega
  | 1 => show h.val + 1 ≤ 8; omega
  | 2 => exact Nat.le_of_ble_eq_true rfl
  | 3 => exact Nat.le_of_ble_eq_true rfl
theorem inbD (h : Fin 8) (i : Fin 16) : ∀ a, (![h.val, i.val, 0] : Fin 3 → ℕ) a + S1x1x128.size a ≤ S8x16x128.size a := fun a => by
  match a with
  | 0 => show h.val + 1 ≤ 8; omega
  | 1 => show i.val + 1 ≤ 16; omega
  | 2 => exact Nat.le_of_ble_eq_true rfl

section
variable (x0 : Vec F S16x512 .f32) (x1 : Vec F S16x128 .f32) (x2 : Vec F S16x128 .f32) (x3 : Vec F S16x512 .f32) (x4 : Vec F S16x512 .f32) (x5 : Vec F S8x16x128 .f32) (x6 : Vec F S16x8x64x128 .f32) (x7 : Vec F S1x512 .f32) (x8 : Vec F S1x512 .f32)

def N (h : Fin 8) (i : Fin 16) : FVec F S64x128 .f32 :=
  new (upd (lhs (View.ld x0 r0_0) (View.ld x4 r0_0)) (k0_pay5 (View.ld x1 r0_1)) i) h (View.ld x5 (Rect.unit (s := S8x16x128) ![h.val, i.val, 0] S1x1x128.size (inbD h i))) (View.ld x6 (Rect.unit (s := S16x8x64x128) ![i.val, h.val, 0, 0] S1x1x64x128.size (inbS h i)))
def Y (i : Fin 16) : FVec F S16x512 .f32 := prod (View.ld x2 r0_1) (tower fun h => truncf .bf16 (N x0 x1 x4 x5 x6 h i) bitsLt_bf16_f32)

/-- The states' stores. -/
def cell (h : Fin 8) (i : Fin 16) : View.Piece (Elt F) S16x8x64x128 .f32 :=
  ⟨Rect.unit ![i.val, h.val, 0, 0] S1x1x64x128.size (inbS h i), shapeCast S1x1x64x128 (N x0 x1 x4 x5 x6 h i) shapeCasts_S64x128_S1x1x64x128⟩
def cells : (n : ℕ) → n ≤ 128 → List (View.Piece (Elt F) S16x8x64x128 .f32)
  | 0, _ => []
  | n + 1, hn => cell x0 x1 x4 x5 x6 ⟨n % 8, Nat.mod_lt _ (by decide)⟩ ⟨n / 8, by omega⟩ :: cells n (Nat.le_of_succ_le hn)
theorem mem_cells : ∀ (n : ℕ) (hn : n ≤ 128), ∀ p ∈ cells x0 x1 x4 x5 x6 n hn, ∃ h i, p = cell x0 x1 x4 x5 x6 h i
  | 0, _, _, hp => absurd hp List.not_mem_nil
  | n + 1, hn, p, hp => by
    rcases List.mem_cons.mp hp with e | e
    · exact ⟨_, _, e⟩
    · exact mem_cells n _ p e

theorem list10 : out0_10 x0 x1 x2 x3 x4 x5 x6 x7 x8 = View.canon (cells x0 x1 x4 x5 x6 128 (Nat.le_refl 128)) := by
  sl_kernel_rfl

theorem list9 : out0_9 x0 x1 x2 x3 x4 x5 x6 x7 x8 = View.canon [⟨r0_0, normed (gated (rows (Y x0 x1 x2 x4 x5 x6) 16 (Nat.le_refl 16)) (View.ld x0 r0_0) (View.ld x3 r0_0) (View.ld x7 r0_258)) (View.ld x8 r0_258)⟩] := by
  sl_kernel_rfl

theorem cover10 (y : S16x8x64x128.Idx) : ∃ pc ∈ cells x0 x1 x4 x5 x6 128 (Nat.le_refl 128), y ∈ pc.1.set :=
  View.cover_of_tiled (cells x0 x1 x4 x5 x6 128 (Nat.le_refl 128)) S1x1x64x128.size (by rfl) y
end

end Cert.SsdStep

end
-- ==== Proof.SsdIdeal.lean ====
/- One step of the Mamba2 recurrence for each sample: the body's stages over the extended reals, entry by entry. -/
module

public import proofs.«01_k».proof.Proof.SsdBody
public import proofs.«01_k».proof.Proof.OddOut

@[expose] public section

set_option maxRecDepth 65536

noncomputable section

namespace Cert.SsdStep

open Idealize.ShloMosaic Idealize.ShloMosaic.TcCoe Idealize.ShloMosaic.Tactic Idealize.SL.Sem Cert.Kernel7Ideal Cert.Kernel7Ideal.Gen

theorem mask_iff : ∀ (c : Fin 128) (i : Fin 16), IntOp.cmpi CmpIPredicate.eq (IntOp.andi (BitVec.ofNat 32 c.val) 15#32) (BitVec.ofNat 32 i.val) = if c.val % 16 = i.val then 1#1 else 0#1 := by decide +kernel

theorem row_iff : ∀ r i : Fin 16, IntOp.cmpi CmpIPredicate.eq (BitVec.ofNat 32 r.val) (BitVec.ofNat 32 i.val) = if r.val = i.val then 1#1 else 0#1 := by decide +kernel

theorem upd_at (A : FVec Ideal S512x128 .bf16) (B : FVec Ideal S128x128 .f32) (i : Fin 16) (q : Fin 512) (e : Fin 128) :
    (upd A B i (ix2 q e) : EReal) = ∑ c : Fin 128, A (ix2 q c) * Scalar.select (IntOp.cmpi CmpIPredicate.eq (IntOp.andi (BitVec.ofNat 32 c.val) 15#32) (BitVec.ofNat 32 i.val)) (B (ix2 c e)) 0 := by
  unfold upd k0_pay6
  pointwise

theorem new_at (U : FVec Ideal S512x128 .f32) (h : Fin 8) (d : FVec Ideal S1x1x128 .f32) (s : FVec Ideal S1x1x64x128 .f32) (p : Fin 64) (e : Fin 128) :
    (new U h d s (ix2 p e) : EReal) = d (ix3 0 0 e) * s (ix4 0 0 p e) + U (ix2 ⟨64 * h.val + p.val, by omega⟩ e) := by
  unfold new
  pointwise

theorem turn_at (T : FVec Ideal S128x512 .f32) (p : Fin 4) (i : Fin 128) (q : Fin 512) (hc : q.val = 128 * p.val + i.val) (c : Fin 128) : (turn T (ix2 q c) : EReal) = T (ix2 c q) := by
  unfold turn
  pointwise
  have hi := i.isLt
  obtain ⟨p, hp⟩ := p
  dsimp only at hc
  interval_cases p
  all_goals
    repeat first | rw [dif_pos (by omega)] | rw [dif_neg (by omega)]
    first | done | exact congrArg (fun a => T (ix2 c a)) (Fin.ext (by dsimp only; omega))

/-- The pieces of the left operand, and of the right one. -/
def lv (u : EReal) : Fin 8 → EReal := ![u, u, 0, u, 0, 0, 0, 0]
def rv (b : EReal) : Fin 8 → EReal := ![b, 0, b, 0, 0, b, 0, 0]

/-- Nothing. -/
def Z : FVec Ideal S16x512 .f32 := fun _ => (0 : EReal)

theorem terms_at (u : FVec Ideal S16x512 .f32) (p : Fin 8) (i : Fin 16) (c : Fin 128) (hc : c.val = 16 * p.val + i.val) (q : Fin 512) :
    (terms u Z Z (ix2 c q) : EReal) = lv (u (ix2 i q)) p := by
  unfold terms lv
  pointwise
  have hi := i.isLt
  obtain ⟨p, hp⟩ := p
  dsimp only at hc
  interval_cases p
  all_goals
    repeat first | rw [dif_pos (by omega)] | rw [dif_neg (by omega)]
    first
    | rfl
    | exact congrArg (fun a => u (ix2 a q)) (Fin.ext (by dsimp only; omega))

theorem pay5_at (b : FVec Ideal S16x128 .f32) (hb : ∀ x, ∃ r : ℝ, b x = r) (p : Fin 8) (i : Fin 16) (c : Fin 128) (hc : c.val = 16 * p.val + i.val) (e : Fin 128) :
    (k0_pay5 (F := Ideal) b (ix2 c e) : EReal) = rv (b (ix2 i e)) p := by
  unfold k0_pay5 rv
  pointwise
  have hi := i.isLt
  obtain ⟨p, hp⟩ := p
  dsimp only at hc
  interval_cases p
  all_goals
    repeat first | rw [dif_pos (by omega)] | rw [dif_neg (by omega)]
    first
    | rfl
    | exact congrArg (fun a => b (ix2 a e)) (Fin.ext (by dsimp only; omega))
    | exact Cert.InOdd.sub_real _ (hb _)
    | exact (congrArg₂ (· - ·) (Cert.InOdd.sub_real _ (hb _)) (Cert.InOdd.sub_real _ (hb _))).trans (sub_zero _)

theorem restX_zero (x : FVec Ideal S16x512 .f32) (h : ∀ y, ∃ r : ℝ, x y = r) : restX x = Z :=
  funext fun y => Cert.InOdd.sub_real (x y) (h y)
theorem hiX_eq (x : FVec Ideal S16x512 .f32) : hiX x = x := rfl
theorem restX_Z : restX (F := Ideal) Z = Z := restX_zero Z fun _ => ⟨0, rfl⟩

theorem lhs_at (x d : FVec Ideal S16x512 .f32) (hx : ∀ y, ∃ r : ℝ, x y = r) (hd : ∀ y, ∃ r : ℝ, d y = r) (p : Fin 8) (i : Fin 16) (c : Fin 128) (hc : c.val = 16 * p.val + i.val) (q : Fin 512) :
    (lhs x d (ix2 q c) : EReal) = lv (x (ix2 i q) * d (ix2 i q)) p := by
  have hm : ∀ y, ∃ r : ℝ, mulf x d y = r := fun y => by
    obtain ⟨a, ha⟩ := hx y
    obtain ⟨b, hb⟩ := hd y
    refine ⟨a * b, ?_⟩
    show (x y * d y : EReal) = _
    rw [ha, hb, EReal.coe_mul]
  unfold lhs
  rw [restX_zero _ hm, restX_Z, hiX_eq, hiX_eq]
  show (turn (terms (mulf x d) Z Z) (ix2 q c) : EReal) = _
  rw [turn_at _ ⟨q.val / 128, by omega⟩ ⟨q.val % 128, Nat.mod_lt _ (by decide)⟩ q (by dsimp only; omega) c, terms_at _ p i c hc q]
  rfl

/-- A sum over the columns of one token. -/
theorem pick (A B : Fin 128 → EReal) (i : Fin 16) :
    ∑ c : Fin 128, A c * Scalar.select (IntOp.cmpi CmpIPredicate.eq (IntOp.andi (BitVec.ofNat 32 c.val) 15#32) (BitVec.ofNat 32 i.val)) (B c) 0 =
      ∑ p : Fin 8, A ⟨16 * p.val + i.val, by omega⟩ * B ⟨16 * p.val + i.val, by omega⟩ := by
  have h : ∀ c : Fin 128, A c * Scalar.select (IntOp.cmpi CmpIPredicate.eq (IntOp.andi (BitVec.ofNat 32 c.val) 15#32) (BitVec.ofNat 32 i.val)) (B c) 0 = if c.val % 16 = i.val then A c * B c else 0 := fun c => by
    rw [mask_iff c i]
    by_cases e : c.val % 16 = i.val
    · rw [if_pos e, if_pos e]
      rfl
    · rw [if_neg e, if_neg e]
      exact mul_zero _
  rw [Finset.sum_congr rfl fun c _ => h c]
  rw [← (finProdFinEquiv (m := 8) (n := 16)).sum_comp, Fintype.sum_prod_type]
  refine Finset.sum_congr rfl fun p _ => ?_
  have hm : ∀ j : Fin 16, ((finProdFinEquiv (p, j) : Fin (8 * 16)).val % 16 = i.val ↔ j = i) := fun j => by
    show (j.val + 16 * p.val) % 16 = i.val ↔ _
    rw [Fin.ext_iff]
    omega
  rw [Finset.sum_eq_single i]
  · rw [if_pos ((hm i).2 rfl)]
    have e : (finProdFinEquiv (p, i) : Fin (8 * 16)) = (⟨16 * p.val + i.val, by omega⟩ : Fin 128) := Fin.ext (Nat.add_comm _ _)
    rw [e]
  · exact fun j _ hj => if_neg (mt (hm j).1 hj)
  · exact fun hi => absurd (Finset.mem_univ i) hi

theorem sum_lr (u b : EReal) : ∑ p, lv u p * rv b p = u * b := by
  simp [Fin.sum_univ_succ, lv, rv]

theorem upd_pick (x d : FVec Ideal S16x512 .f32) (hx : ∀ y, ∃ r : ℝ, x y = r) (hd : ∀ y, ∃ r : ℝ, d y = r) (b : FVec Ideal S16x128 .f32) (hb : ∀ x, ∃ r : ℝ, b x = r) (i : Fin 16) (q : Fin 512) (e : Fin 128) :
    (upd (lhs x d) (k0_pay5 b) i (ix2 q e) : EReal) = x (ix2 i q) * d (ix2 i q) * b (ix2 i e) := by
  refine (upd_at _ _ i q e).trans ((pick (fun c => lhs x d (ix2 q c)) (fun c => k0_pay5 (F := Ideal) b (ix2 c e)) i).trans ?_)
  refine (Finset.sum_congr rfl fun p _ => ?_).trans (sum_lr _ _)
  rw [lhs_at x d hx hd p i _ rfl q, pay5_at b hb p i _ rfl e]

theorem tower_at (N : Fin 8 → FVec Ideal S64x128 .bf16) (p : Fin 8) (i : Fin 64) (q : Fin 512) (hc : q.val = 64 * p.val + i.val) (e : Fin 128) : (tower N (ix2 q e) : EReal) = N p (ix2 i e) := by
  unfold tower
  pointwise
  have hi := i.isLt
  obtain ⟨p, hp⟩ := p
  dsimp only at hc
  interval_cases p
  all_goals
    repeat first | rw [dif_pos (by omega)] | rw [dif_neg (by omega)]
    exact congrArg (fun a => N _ (ix2 a e)) (Fin.ext (by dsimp only; omega))

theorem prod_at (c : FVec Ideal S16x128 .f32) (N : FVec Ideal S512x128 .bf16) (r : Fin 16) (q : Fin 512) : (prod c N (ix2 r q) : EReal) = ∑ e : Fin 128, c (ix2 r e) * N (ix2 q e) := by
  unfold prod k0_pay7
  pointwise

theorem rows_at (Y : Fin 16 → FVec Ideal S16x512 .f32) (r : Fin 16) (q : Fin 512) : ∀ (n : ℕ) (hn : n ≤ 16), (rows Y n hn (ix2 r q) : EReal) = if r.val < n then Y r (ix2 r q) else 0
  | 0, _ => by
    rw [if_neg (by omega)]
    unfold rows k0_pay8
    pointwise
  | n + 1, hn => by
    have ih := rows_at Y r q n (Nat.le_of_succ_le hn)
    have e : (rows Y (n + 1) hn (ix2 r q) : EReal) = Scalar.select (IntOp.cmpi CmpIPredicate.eq (BitVec.ofNat 32 r.val) (BitVec.ofNat 32 (⟨n, hn⟩ : Fin 16).val)) (Y ⟨n, hn⟩ (ix2 r q)) (rows Y n (Nat.le_of_succ_le hn) (ix2 r q)) := by
      rw [rows]
      pointwise
    rw [e, row_iff, ih]
    by_cases h : r.val = n
    · rw [if_pos h, if_pos (show r.val < n + 1 by omega)]
      obtain rfl : r = ⟨n, hn⟩ := Fin.ext h
      rfl
    · rw [if_neg h]
      show (if r.val < n then _ else _) = _
      exact if_congr (by omega) rfl rfl

/-- The product with the output directions, the skip and the gate. -/
def gat (c N : Fin 128 → EReal) (d x z : EReal) : EReal := (∑ e, c e * N e + d * x) * (z * Ideal.logistic z)
/-- The norm of a group. -/
def nrm (y : Fin 512 → EReal) (w : EReal) (j : Fin 512) : EReal :=
  y j * Ideal.rsqrt (Ideal.div (∑ k, y k * y k) (Ideal.ofBits .f32 0x44000000#32) + Ideal.ofBits .f32 0x358637BD#32) * w

theorem gated_at (y x z : FVec Ideal S16x512 .f32) (d : FVec Ideal S1x512 .f32) (r : Fin 16) (q : Fin 512) :
    (gated y x z d (ix2 r q) : EReal) = (y (ix2 r q) + d (ix2 0 q) * x (ix2 r q)) * (z (ix2 r q) * Ideal.logistic (z (ix2 r q))) := by
  unfold gated
  pointwise
theorem normed_at (y : FVec Ideal S16x512 .f32) (w : FVec Ideal S1x512 .f32) (r : Fin 16) (q : Fin 512) : (normed y w (ix2 r q) : EReal) = nrm (fun k => y (ix2 r k)) (w (ix2 0 q)) q := by
  unfold normed nrm
  pointwise

end Cert.SsdStep

end
-- ==== Proof.SsdStep.lean ====
/- One step of the Mamba2 recurrence for each sample: what a point leaves, and the final arrays, entry by entry. -/
module

public import proofs.«01_k».proof.Proof.SsdIdeal
public import Idealize.ShloMosaic.Lib.Pipeline.ValueKit
public import Idealize.ShloMosaic.Lib.StableHlo.Run

@[expose] public section

set_option maxRecDepth 65536

noncomputable section

namespace Cert.SsdStep

open Idealize.ShloMosaic Idealize.ShloMosaic.TcCoe Idealize.ShloMosaic.Tactic Idealize.SL.Sem Cert.Kernel7Ideal Cert.Kernel7Ideal.Gen

theorem cast4_at (v : FVec Ideal S64x128 .f32) (a b : Fin 1) (p : Fin 64) (e : Fin 128) : (shapeCast S1x1x64x128 v shapeCasts_S64x128_S1x1x64x128 (ix4 a b p e) : EReal) = v (ix2 p e) := by
  pointwise

/-! ## A point's blocks -/

section
variable (x0 : Vec Ideal S16x512 .f32) (x1 : Vec Ideal S16x128 .f32) (x2 : Vec Ideal S16x128 .f32) (x3 : Vec Ideal S16x512 .f32) (x4 : Vec Ideal S16x512 .f32) (x5 : Vec Ideal S8x16x128 .f32) (x6 : Vec Ideal S16x8x64x128 .f32) (x7 : Vec Ideal S1x512 .f32) (x8 : Vec Ideal S1x512 .f32)

def stB (i : Fin 16) (h : Fin 8) (p : Fin 64) (e : Fin 128) : EReal :=
  x5 (ix3 h i e) * x6 (ix4 i h p e) + x0 (ix2 i ⟨64 * h.val + p.val, by omega⟩) * x4 (ix2 i ⟨64 * h.val + p.val, by omega⟩) * x1 (ix2 i e)
def yB (i : Fin 16) (q : Fin 512) : EReal :=
  gat (fun e => x2 (ix2 i e)) (fun e => stB x0 x1 x4 x5 x6 i ⟨q.val / 64, by omega⟩ ⟨q.val % 64, Nat.mod_lt _ (by decide)⟩ e) (x7 (ix2 0 q)) (x0 (ix2 i q)) (x3 (ix2 i q))
def resB (i : Fin 16) (q : Fin 512) : EReal := nrm (yB x0 x1 x2 x3 x4 x5 x6 x7 i) (x8 (ix2 0 q)) q

/-- The states as an array. -/
def stV : Vec Ideal S16x8x64x128 .f32 := fun y => stB x0 x1 x4 x5 x6 (y 0) (y 1) (y 2) (y 3)

/-- The real entries a point needs. -/
def RealB : Prop := (∀ x, ∃ y : ℝ, x0 x = (y : EReal)) ∧ (∀ x, ∃ y : ℝ, x1 x = (y : EReal)) ∧ ∀ x, ∃ y : ℝ, x4 x = (y : EReal)
variable (H : RealB x0 x1 x4)

theorem ld_d (h : Fin 8) (i : Fin 16) (a b : Fin 1) (e : Fin 128) : View.ld x5 (Rect.unit (s := S8x16x128) ![h.val, i.val, 0] S1x1x128.size (inbD h i)) (ix3 a b e) = x5 (ix3 h i e) := by
  refine View.ld_unit_apply_of _ _ _ _ _ _ fun k => ?_
  match k with
  | ⟨0, _⟩ => show h.val = h.val + a.val; omega
  | ⟨1, _⟩ => show i.val = i.val + b.val; omega
  | ⟨2, _⟩ => exact (Nat.zero_add _).symm
theorem ld_s (h : Fin 8) (i : Fin 16) (a b : Fin 1) (p : Fin 64) (e : Fin 128) : View.ld x6 (Rect.unit (s := S16x8x64x128) ![i.val, h.val, 0, 0] S1x1x64x128.size (inbS h i)) (ix4 a b p e) = x6 (ix4 i h p e) := by
  refine View.ld_unit_apply_of _ _ _ _ _ _ fun k => ?_
  match k with
  | ⟨0, _⟩ => show i.val = i.val + a.val; omega
  | ⟨1, _⟩ => show h.val = h.val + b.val; omega
  | ⟨2, _⟩ => exact (Nat.zero_add _).symm
  | ⟨3, _⟩ => exact (Nat.zero_add _).symm

include H in
theorem N_at (h : Fin 8) (i : Fin 16) (p : Fin 64) (e : Fin 128) : (N x0 x1 x4 x5 x6 h i (ix2 p e) : EReal) = stB x0 x1 x4 x5 x6 i h p e := by
  unfold N stB
  rw [View.ld_unit_lit inb_S16x512_S16x512_0_0 x0 (by decide), View.ld_unit_lit inb_S16x512_S16x512_0_0 x4 (by decide), View.ld_unit_lit inb_S16x128_S16x128_0_0 x1 (by decide)]
  rw [new_at, ld_d, ld_s, upd_pick x0 x4 H.1 H.2.2 x1 H.2.1]

include H in
theorem out10_at (y : S16x8x64x128.Idx) : out0_10 x0 x1 x2 x3 x4 x5 x6 x7 x8 y = stV x0 x1 x4 x5 x6 y := by
  rw [list10]
  refine View.canon_apply_of_pieces (stV x0 x1 x4 x5 x6) _ (fun p hp => ?_) y (cover10 x0 x1 x4 x5 x6 y)
  obtain ⟨h, i, rfl⟩ := mem_cells _ _ _ _ _ _ _ p hp
  intro x
  obtain ⟨a, b, d, e, rfl⟩ : ∃ (a b : Fin 1) (d : Fin 64) (e : Fin 128), x = ix4 a b d e := ⟨_, _, _, _, eq_ix4 x⟩
  have he : (cell x0 x1 x4 x5 x6 h i).1.emb (ix4 a b d e) = ix4 i h d e := by
    funext k
    apply Fin.ext
    match k with
    | ⟨0, _⟩ => show i.val + 1 * a.val = i.val; omega
    | ⟨1, _⟩ => show h.val + 1 * b.val = h.val; omega
    | ⟨2, _⟩ => show 0 + 1 * d.val = d.val; omega
    | ⟨3, _⟩ => show 0 + 1 * e.val = e.val; omega
  refine Eq.trans ?_ (congrArg (stV x0 x1 x4 x5 x6) he).symm
  show (shapeCast S1x1x64x128 (N x0 x1 x4 x5 x6 h i) shapeCasts_S64x128_S1x1x64x128 (ix4 a b d e) : EReal) = stV x0 x1 x4 x5 x6 (ix4 i h d e)
  rw [cast4_at, N_at x0 x1 x4 x5 x6 H]
  rfl

include H in
theorem Y_at (i : Fin 16) (q : Fin 512) : (Y x0 x1 x2 x4 x5 x6 i (ix2 i q) : EReal) = ∑ e : Fin 128, x2 (ix2 i e) * stB x0 x1 x4 x5 x6 i ⟨q.val / 64, by omega⟩ ⟨q.val % 64, Nat.mod_lt _ (by decide)⟩ e := by
  unfold Y
  rw [View.ld_unit_lit inb_S16x128_S16x128_0_0 x2 (by decide), prod_at]
  refine Finset.sum_congr rfl fun e _ => congrArg (x2 (ix2 i e) * ·) ?_
  rw [tower_at _ ⟨q.val / 64, by omega⟩ ⟨q.val % 64, Nat.mod_lt _ (by decide)⟩ q (by dsimp only; omega) e]
  exact N_at x0 x1 x4 x5 x6 H _ _ _ _

include H in
theorem out9_at (i : Fin 16) (q : Fin 512) : out0_9 x0 x1 x2 x3 x4 x5 x6 x7 x8 (ix2 i q) = resB x0 x1 x2 x3 x4 x5 x6 x7 x8 i q := by
  rw [list9, View.canon_cons_unit_lit inb_S16x512_S16x512_0_0 _ _ (by decide)]
  rw [normed_at, View.ld_unit_lit inb_S1x512_S1x512_0_0 x8 (by decide)]
  unfold resB
  refine congrArg (fun y => nrm y _ _) (funext fun k => ?_)
  rw [gated_at, rows_at, if_pos i.isLt, Y_at x0 x1 x2 x4 x5 x6 H, View.ld_unit_lit inb_S16x512_S16x512_0_0 x0 (by decide), View.ld_unit_lit inb_S16x512_S16x512_0_0 x3 (by decide), View.ld_unit_lit inb_S1x512_S1x512_0_0 x7 (by decide)]
  rfl
end

/-! ## The blocks, and the final arrays -/

section
variable (x : FVec Ideal S128x3072 .f32) (z : FVec Ideal S128x5120 .f32) (d : FVec Ideal S128x2048 .f32) (a : FVec Ideal S32x128x128 .f32) (s : FVec Ideal S1x128x32x64x128 .f32) (k : FVec Ideal S1x32 .f32) (w : FVec Ideal S1x2048 .f32)

/-- The results of the argument arrays, entry by entry. -/
def stE (n : Fin 128) (g : Fin 4) (h : Fin 8) (p : Fin 64) (e : Fin 128) : EReal :=
  a (ix3 ⟨8 * g.val + h.val, by omega⟩ n e) * s (ix5 0 n ⟨8 * g.val + h.val, by omega⟩ p e)
    + x (ix2 n ⟨512 * g.val + (64 * h.val + p.val), by omega⟩) * d (ix2 n ⟨512 * g.val + (64 * h.val + p.val), by omega⟩) * x (ix2 n ⟨2048 + 128 * g.val + e.val, by omega⟩)
def yE (n : Fin 128) (g : Fin 4) (q : Fin 512) : EReal :=
  gat (fun e => x (ix2 n ⟨2560 + 128 * g.val + e.val, by omega⟩)) (fun e => stE x d a s n g ⟨q.val / 64, by omega⟩ ⟨q.val % 64, Nat.mod_lt _ (by decide)⟩ e)
    (k (ix2 0 ⟨(512 * g.val + q.val) / 64, by omega⟩)) (x (ix2 n ⟨512 * g.val + q.val, by omega⟩)) (z (ix2 n ⟨512 * g.val + q.val, by omega⟩))
def resE (n : Fin 128) (g : Fin 4) (q : Fin 512) : EReal := nrm (yE x z d a s k n g) (w (ix2 0 ⟨512 * g.val + q.val, by omega⟩)) q

/-- The real entries the call needs. -/
def RealE : Prop := (∀ (n : Fin 128) (j : Fin 2560), ∃ y : ℝ, x (ix2 n ⟨j.val, by omega⟩) = (y : EReal)) ∧ ∀ i, ∃ y : ℝ, d i = (y : EReal)
end

variable (m : (ℓ : Loc nD τ sig) → Buf (Elt Ideal) ℓ) (c : Dev nD)

theorem cast_s (v : FVec Ideal S1x128x32x64x128 .f32) (n : Fin 128) (h : Fin 32) (p : Fin 64) (e : Fin 128) : (shapeCast S128x32x64x128 v shapeCasts_S1x128x32x64x128_S128x32x64x128 (ix4 n h p e) : EReal) = v (ix5 0 n h p e) := by
  pointwise
theorem cast_k (v : FVec Ideal S1x32 .f32) (q : Fin 2048) :
    (shapeCast S1x2048 (shapeCast S2048 (broadcastInDim S32x64 ![0] bcast_S32_S32x64_0 (shapeCast S32 v shapeCasts_S1x32_S32 : FVec Ideal S32 .f32) : FVec Ideal S32x64 .f32) shapeCasts_S32x64_S2048 : FVec Ideal S2048 .f32) shapeCasts_S2048_S1x2048 (ix2 0 q) : EReal) = v (ix2 0 ⟨q.val / 64, by omega⟩) := by
  pointwise
theorem cast_w (v : FVec Ideal S1x2048 .f32) (q : Fin 2048) : (shapeCast S1x2048 (shapeCast S2048 v shapeCasts_S1x2048_S2048 : FVec Ideal S2048 .f32) shapeCasts_S2048_S1x2048 (ix2 0 q) : EReal) = v (ix2 0 q) := by
  pointwise

theorem V_v0 (n : Fin 128) (h : Fin 32) (p : Fin 64) (e : Fin 128) : (V m c main_v0 : FVec Ideal S128x32x64x128 .f32) (ix4 n h p e) = (m ((c : Thread nD τ).loc main_arg4) : FVec Ideal S1x128x32x64x128 .f32) (ix5 0 n h p e) := by
  have h : (V m c main_v0 : FVec Ideal S128x32x64x128 .f32) = shapeCast S128x32x64x128 (m ((c : Thread nD τ).loc main_arg4) : FVec Ideal S1x128x32x64x128 .f32) shapeCasts_S1x128x32x64x128_S128x32x64x128 := by
    show StableHlo.after hostOps0 _ (Proc.devRef .tc main_v0) = _
    after_results
    rfl
  rw [h]
  exact cast_s _ _ _ _ _

theorem V_v4 (q : Fin 2048) : (V m c main_v4 : FVec Ideal S1x2048 .f32) (ix2 0 q) = (m ((c : Thread nD τ).loc main_arg5) : FVec Ideal S1x32 .f32) (ix2 0 ⟨q.val / 64, by omega⟩) := by
  have h : (V m c main_v4 : FVec Ideal S1x2048 .f32) = shapeCast S1x2048 (shapeCast S2048 (broadcastInDim S32x64 ![0] bcast_S32_S32x64_0 (shapeCast S32 (m ((c : Thread nD τ).loc main_arg5) : FVec Ideal S1x32 .f32) shapeCasts_S1x32_S32 : FVec Ideal S32 .f32) : FVec Ideal S32x64 .f32) shapeCasts_S32x64_S2048 : FVec Ideal S2048 .f32) shapeCasts_S2048_S1x2048 := by
    show StableHlo.after hostOps0 _ (Proc.devRef .tc main_v4) = _
    after_results
    rfl
  rw [h]
  exact cast_k _ _

theorem V_v6 (q : Fin 2048) : (V m c main_v6 : FVec Ideal S1x2048 .f32) (ix2 0 q) = (m ((c : Thread nD τ).loc main_arg6) : FVec Ideal S1x2048 .f32) (ix2 0 q) := by
  have h : (V m c main_v6 : FVec Ideal S1x2048 .f32) = shapeCast S1x2048 (shapeCast S2048 (m ((c : Thread nD τ).loc main_arg6) : FVec Ideal S1x2048 .f32) shapeCasts_S1x2048_S2048 : FVec Ideal S2048 .f32) shapeCasts_S2048_S1x2048 := by
    show StableHlo.after hostOps0 _ (Proc.devRef .tc main_v6) = _
    after_results
    rfl
  rw [h]
  exact cast_w _ _

theorem iblk0_at (t : Fin cfg0.N) (n : Fin 128) (r : Fin 16) (hn : n.val = 16 * (t.val / 4) + r.val) (g : Fin 4) (hg : g.val = t.val % 4) (q : Fin 512) :
    (iblk m c 0 t : Vec Ideal S16x512 .f32) (ix2 r q) = (m ((c : Thread nD τ).loc main_arg0) : FVec Ideal S128x3072 .f32) (ix2 n ⟨512 * g.val + q.val, by omega⟩) := by
  have hi : ∀ t : Fin cfg0.N, win0_0.index t (0 : Fin 2) = t.val / 4 ∧ win0_0.index t (1 : Fin 2) = t.val % 4 :=
    (by decide +kernel : ∀ t : Fin grid0.N, _)
  obtain ⟨h0, h1⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 2) * 16 + 1 * r.val = n.val; rw [h0] <;> omega
  | ⟨1, _⟩ => show win0_0.index t (1 : Fin 2) * 512 + 1 * q.val = 512 * g.val + q.val; rw [h1] <;> omega

theorem iblk1_at (t : Fin cfg0.N) (n : Fin 128) (r : Fin 16) (hn : n.val = 16 * (t.val / 4) + r.val) (g : Fin 4) (hg : g.val = t.val % 4) (e : Fin 128) :
    (iblk m c 1 t : Vec Ideal S16x128 .f32) (ix2 r e) = (m ((c : Thread nD τ).loc main_arg0) : FVec Ideal S128x3072 .f32) (ix2 n ⟨2048 + 128 * g.val + e.val, by omega⟩) := by
  have hi : ∀ t : Fin cfg0.N, win0_1.index t (0 : Fin 2) = t.val / 4 ∧ win0_1.index t (1 : Fin 2) = 16 + t.val % 4 :=
    (by decide +kernel : ∀ t : Fin grid0.N, _)
  obtain ⟨h0, h1⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_1.index t (0 : Fin 2) * 16 + 1 * r.val = n.val; rw [h0] <;> omega
  | ⟨1, _⟩ => show win0_1.index t (1 : Fin 2) * 128 + 1 * e.val = 2048 + 128 * g.val + e.val; rw [h1] <;> omega

theorem iblk2_at (t : Fin cfg0.N) (n : Fin 128) (r : Fin 16) (hn : n.val = 16 * (t.val / 4) + r.val) (g : Fin 4) (hg : g.val = t.val % 4) (e : Fin 128) :
    (iblk m c 2 t : Vec Ideal S16x128 .f32) (ix2 r e) = (m ((c : Thread nD τ).loc main_arg0) : FVec Ideal S128x3072 .f32) (ix2 n ⟨2560 + 128 * g.val + e.val, by omega⟩) := by
  have hi : ∀ t : Fin cfg0.N, win0_2.index t (0 : Fin 2) = t.val / 4 ∧ win0_2.index t (1 : Fin 2) = 20 + t.val % 4 :=
    (by decide +kernel : ∀ t : Fin grid0.N, _)
  obtain ⟨h0, h1⟩ := hi t
  unfold iblk
  rw [View.read_apply]
  show V m c main_arg0 _ = _
  rw [V_main_arg0]
  refine congrArg (m ((c : Thread nD τ).loc main_arg0)) ?_
  funext a
  apply Fin.ext
  match a with
  | ⟨0, _⟩ => show win0_2.index t (0 : Fin 2) * 16 + 1 * r.val = n.val; rw [h0] <;> omega
  | ⟨1, _⟩ => show win0_2.index t (1 : Fin 2) * 128 + 1 * e.val = 2560 + 128 * g.val + e.val; rw [h1] <;> omega

theorem iblk3_at (t : Fin cfg0.N) (n : Fin 128) (r : Fin 16) (hn : n.val = 16 * (t.val / 4) + r.val) (g : Fin 4) (hg : g.val = t.val % 4) (q : Fin 512) :
    (iblk m c 3 t : Vec Ideal S16x512 .f32) (ix2 r q) = (m ((c : Thread nD τ).loc main_arg1) : FVec Ideal S128x5120 .f32) (ix2 n ⟨512 * g.val + q.val, by omega⟩) := by
  have hi : ∀ t : Fin cfg0.N, win0_3.index t (0 : Fin 2) = t.val / 4 ∧ win0_3.index t (1 : Fin 2) = t.val % 4 :=
    (by decide +kernel : ∀ t : Fin grid0.N, _)
  obtain ⟨h0, h1⟩ := hi t
  unfold iblk
  rw [View.read_apply]
  show V m c main_arg1 _ = _
  rw [V_main_arg1]
  refine congrArg (m ((c : Thread nD τ).loc main_arg1)) ?_
  funext a
  apply Fin.ext
  match a with
  | ⟨0, _⟩ => show win0_3.index t (0 : Fin 2) * 16 + 1 * r.val = n.val; rw [h0] <;> omega
  | ⟨1, _⟩ => show win0_3.index t (1 : Fin 2) * 512 + 1 * q.val = 512 * g.val + q.val; rw [h1] <;> omega

theorem iblk4_at (t : Fin cfg0.N) (n : Fin 128) (r : Fin 16) (hn : n.val = 16 * (t.val / 4) + r.val) (g : Fin 4) (hg : g.val = t.val % 4) (q : Fin 512) :
    (iblk m c 4 t : Vec Ideal S16x512 .f32) (ix2 r q) = (m ((c : Thread nD τ).loc main_arg2) : FVec Ideal S128x2048 .f32) (ix2 n ⟨512 * g.val + q.val, by omega⟩) := by
  have hi : ∀ t : Fin cfg0.N, win0_4.index t (0 : Fin 2) = t.val / 4 ∧ win0_4.index t (1 : Fin 2) = t.val % 4 :=
    (by decide +kernel : ∀ t : Fin grid0.N, _)
  obtain ⟨h0, h1⟩ := hi t
  unfold iblk
  rw [View.read_apply]
  show V m c main_arg2 _ = _
  rw [V_main_arg2]
  refine congrArg (m ((c : Thread nD τ).loc main_arg2)) ?_
  funext a
  apply Fin.ext
  match a with
  | ⟨0, _⟩ => show win0_4.index t (0 : Fin 2) * 16 + 1 * r.val = n.val; rw [h0] <;> omega
  | ⟨1, _⟩ => show win0_4.index t (1 : Fin 2) * 512 + 1 * q.val = 512 * g.val + q.val; rw [h1] <;> omega

theorem iblk5_at (t : Fin cfg0.N) (n : Fin 128) (r : Fin 16) (hn : n.val = 16 * (t.val / 4) + r.val) (g : Fin 4) (hg : g.val = t.val % 4) (h : Fin 8) (e : Fin 128) :
    (iblk m c 5 t : Vec Ideal S8x16x128 .f32) (ix3 h r e) = (m ((c : Thread nD τ).loc main_arg3) : FVec Ideal S32x128x128 .f32) (ix3 ⟨8 * g.val + h.val, by omega⟩ n e) := by
  have hi : ∀ t : Fin cfg0.N, win0_5.index t (0 : Fin 3) = t.val % 4 ∧ win0_5.index t (1 : Fin 3) = t.val / 4 ∧ win0_5.index t (2 : Fin 3) = 0 :=
    (by decide +kernel : ∀ t : Fin grid0.N, _)
  obtain ⟨h0, h1, h2⟩ := hi t
  unfold iblk
  rw [View.read_apply]
  show V m c main_arg3 _ = _
  rw [V_main_arg3]
  refine congrArg (m ((c : Thread nD τ).loc main_arg3)) ?_
  funext a
  apply Fin.ext
  match a with
  | ⟨0, _⟩ => show win0_5.index t (0 : Fin 3) * 8 + 1 * h.val = 8 * g.val + h.val; rw [h0] <;> omega
  | ⟨1, _⟩ => show win0_5.index t (1 : Fin 3) * 16 + 1 * r.val = n.val; rw [h1] <;> omega
  | ⟨2, _⟩ => show win0_5.index t (2 : Fin 3) * 128 + 1 * e.val = e.val; rw [h2] <;> omega

theorem iblk6_at (t : Fin cfg0.N) (n : Fin 128) (r : Fin 16) (hn : n.val = 16 * (t.val / 4) + r.val) (g : Fin 4) (hg : g.val = t.val % 4) (h : Fin 8) (p : Fin 64) (e : Fin 128) :
    (iblk m c 6 t : Vec Ideal S16x8x64x128 .f32) (ix4 r h p e) = (m ((c : Thread nD τ).loc main_arg4) : FVec Ideal S1x128x32x64x128 .f32) (ix5 0 n ⟨8 * g.val + h.val, by omega⟩ p e) := by
  have hi : ∀ t : Fin cfg0.N, win0_6.index t (0 : Fin 4) = t.val / 4 ∧ win0_6.index t (1 : Fin 4) = t.val % 4 ∧ win0_6.index t (2 : Fin 4) = 0 ∧ win0_6.index t (3 : Fin 4) = 0 :=
    (by decide +kernel : ∀ t : Fin grid0.N, _)
  obtain ⟨h0, h1, h2, h3⟩ := hi t
  unfold iblk
  rw [View.read_apply]
  show V m c main_v0 _ = _
  refine Eq.trans (congrArg (V m c main_v0) ?_) (V_v0 m c n ⟨8 * g.val + h.val, by omega⟩ p e)
  funext a
  apply Fin.ext
  match a with
  | ⟨0, _⟩ => show win0_6.index t (0 : Fin 4) * 16 + 1 * r.val = n.val; rw [h0] <;> omega
  | ⟨1, _⟩ => show win0_6.index t (1 : Fin 4) * 8 + 1 * h.val = 8 * g.val + h.val; rw [h1] <;> omega
  | ⟨2, _⟩ => show win0_6.index t (2 : Fin 4) * 64 + 1 * p.val = p.val; rw [h2] <;> omega
  | ⟨3, _⟩ => show win0_6.index t (3 : Fin 4) * 128 + 1 * e.val = e.val; rw [h3] <;> omega

theorem iblk7_at (t : Fin cfg0.N) (g : Fin 4) (hg : g.val = t.val % 4) (q : Fin 512) :
    (iblk m c 7 t : Vec Ideal S1x512 .f32) (ix2 0 q) = (m ((c : Thread nD τ).loc main_arg5) : FVec Ideal S1x32 .f32) (ix2 0 ⟨(512 * g.val + q.val) / 64, by omega⟩) := by
  have hi : ∀ t : Fin cfg0.N, win0_7.index t (0 : Fin 2) = 0 ∧ win0_7.index t (1 : Fin 2) = t.val % 4 :=
    (by decide +kernel : ∀ t : Fin grid0.N, _)
  obtain ⟨h0, h1⟩ := hi t
  unfold iblk
  rw [View.read_apply]
  show V m c main_v4 _ = _
  refine Eq.trans (congrArg (V m c main_v4) ?_) (V_v4 m c ⟨512 * g.val + q.val, by omega⟩)
  funext a
  apply Fin.ext
  match a with
  | ⟨0, _⟩ => show win0_7.index t (0 : Fin 2) * 1 + 1 * 0 = 0; rw [h0] <;> omega
  | ⟨1, _⟩ => show win0_7.index t (1 : Fin 2) * 512 + 1 * q.val = 512 * g.val + q.val; rw [h1] <;> omega

theorem iblk8_at (t : Fin cfg0.N) (g : Fin 4) (hg : g.val = t.val % 4) (q : Fin 512) :
    (iblk m c 8 t : Vec Ideal S1x512 .f32) (ix2 0 q) = (m ((c : Thread nD τ).loc main_arg6) : FVec Ideal S1x2048 .f32) (ix2 0 ⟨512 * g.val + q.val, by omega⟩) := by
  have hi : ∀ t : Fin cfg0.N, win0_8.index t (0 : Fin 2) = 0 ∧ win0_8.index t (1 : Fin 2) = t.val % 4 :=
    (by decide +kernel : ∀ t : Fin grid0.N, _)
  obtain ⟨h0, h1⟩ := hi t
  unfold iblk
  rw [View.read_apply]
  show V m c main_v6 _ = _
  refine Eq.trans (congrArg (V m c main_v6) ?_) (V_v6 m c ⟨512 * g.val + q.val, by omega⟩)
  funext a
  apply Fin.ext
  match a with
  | ⟨0, _⟩ => show win0_8.index t (0 : Fin 2) * 1 + 1 * 0 = 0; rw [h0] <;> omega
  | ⟨1, _⟩ => show win0_8.index t (1 : Fin 2) * 512 + 1 * q.val = 512 * g.val + q.val; rw [h1] <;> omega

theorem realB (H : RealE (m ((c : Thread nD τ).loc main_arg0)) (m ((c : Thread nD τ).loc main_arg2))) (t : Fin cfg0.N) : RealB (iblk m c 0 t) (iblk m c 1 t) (iblk m c 4 t) := by
  have ht : t.val < 32 := lt_of_lt_of_eq t.isLt (show cfg0.N = 32 from N_0)
  refine ⟨fun x => ?_, fun x => ?_, fun x => ?_⟩
  · obtain ⟨r, q, rfl⟩ : ∃ (r : Fin 16) (q : Fin 512), x = ix2 r q := ⟨_, _, eq_ix2 x⟩
    rw [iblk0_at m c t ⟨16 * (t.val / 4) + r.val, by omega⟩ r rfl ⟨t.val % 4, Nat.mod_lt _ (by decide)⟩ rfl q]
    exact H.1 _ ⟨512 * (t.val % 4) + q.val, by omega⟩
  · obtain ⟨r, q, rfl⟩ : ∃ (r : Fin 16) (q : Fin 128), x = ix2 r q := ⟨_, _, eq_ix2 x⟩
    rw [iblk1_at m c t ⟨16 * (t.val / 4) + r.val, by omega⟩ r rfl ⟨t.val % 4, Nat.mod_lt _ (by decide)⟩ rfl q]
    exact H.1 _ ⟨2048 + 128 * (t.val % 4) + q.val, by omega⟩
  · obtain ⟨r, q, rfl⟩ : ∃ (r : Fin 16) (q : Fin 512), x = ix2 r q := ⟨_, _, eq_ix2 x⟩
    rw [iblk4_at m c t ⟨16 * (t.val / 4) + r.val, by omega⟩ r rfl ⟨t.val % 4, Nat.mod_lt _ (by decide)⟩ rfl q]
    exact H.2 _

section
variable (t : Fin cfg0.N) (n : Fin 128) (r : Fin 16) (hn : n.val = 16 * (t.val / 4) + r.val) (g : Fin 4) (hg : g.val = t.val % 4)
include hn hg

theorem st_blk (h : Fin 8) (p : Fin 64) (e : Fin 128) : stB (iblk m c 0 t) (iblk m c 1 t) (iblk m c 4 t) (iblk m c 5 t) (iblk m c 6 t) r h p e = stE (m ((c : Thread nD τ).loc main_arg0)) (m ((c : Thread nD τ).loc main_arg2)) (m ((c : Thread nD τ).loc main_arg3)) (m ((c : Thread nD τ).loc main_arg4)) n g h p e := by
  unfold stB stE
  rw [iblk5_at m c t n r hn g hg, iblk6_at m c t n r hn g hg, iblk0_at m c t n r hn g hg, iblk4_at m c t n r hn g hg, iblk1_at m c t n r hn g hg]
theorem y_blk (q : Fin 512) : yB (iblk m c 0 t) (iblk m c 1 t) (iblk m c 2 t) (iblk m c 3 t) (iblk m c 4 t) (iblk m c 5 t) (iblk m c 6 t) (iblk m c 7 t) r q = yE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n g q := by
  unfold yB yE
  rw [iblk7_at m c t g hg, iblk0_at m c t n r hn g hg, iblk3_at m c t n r hn g hg]
  have e1 : (fun e => (iblk m c 2 t : Vec Ideal S16x128 .f32) (ix2 r e)) = fun e => (m ((c : Thread nD τ).loc main_arg0) : FVec Ideal S128x3072 .f32) (ix2 n ⟨2560 + 128 * g.val + e.val, by omega⟩) := funext fun e => iblk2_at m c t n r hn g hg e
  rw [e1]
  exact congrArg (fun N => gat _ N _ _ _) (funext fun e => st_blk m c t n r hn g hg _ _ e)
theorem res_blk (q : Fin 512) : resB (iblk m c 0 t) (iblk m c 1 t) (iblk m c 2 t) (iblk m c 3 t) (iblk m c 4 t) (iblk m c 5 t) (iblk m c 6 t) (iblk m c 7 t) (iblk m c 8 t) r q = resE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n g q := by
  unfold resB resE
  rw [iblk8_at m c t g hg]
  exact congrArg (fun y => nrm y _ q) (funext fun k => y_blk m c t n r hn g hg k)
end

theorem final9_at (H : RealE (m ((c : Thread nD τ).loc main_arg0)) (m ((c : Thread nD τ).loc main_arg2))) (n : Fin 128) (Q : Fin 2048) : ((dats m 0 c).arrAt 9 cfg0.N : FVec Ideal S128x2048 .f32) (ix2 n Q) = resE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n ⟨Q.val / 512, by omega⟩ ⟨Q.val % 512, Nat.mod_lt _ (by decide)⟩ := by
  have hN : 4 * (n.val / 16) + Q.val / 512 < cfg0.N := lt_of_lt_of_eq (by omega) (show cfg0.N = 32 from N_0).symm
  have hi : ∀ t : Fin cfg0.N, win0_9.index t (0 : Fin 2) = t.val / 4 ∧ win0_9.index t (1 : Fin 2) = t.val % 4 ∧ (cfg0.win 9).flush t = true :=
    (by decide +kernel : ∀ t : Fin grid0.N, _)
  obtain ⟨h0, h1, hfl⟩ := hi ⟨4 * (n.val / 16) + Q.val / 512, hN⟩
  have hb := congrFun (Value.blocks9 m c ⟨4 * (n.val / 16) + Q.val / 512, hN⟩ hfl) (ix2 ⟨n.val % 16, Nat.mod_lt _ (by decide)⟩ ⟨Q.val % 512, Nat.mod_lt _ (by decide)⟩)
  rw [View.read_apply, Value.flushed9, Pipeline.Window.cut_apply] at hb
  refine Eq.trans (congrArg ((dats m 0 c).arrAt 9 cfg0.N) ?_) (hb.trans ?_)
  · funext a
    apply Fin.ext
    match a with
    | ⟨0, _⟩ => show n.val = win0_9.index ⟨4 * (n.val / 16) + Q.val / 512, hN⟩ (0 : Fin 2) * 16 + 1 * (n.val % 16); rw [h0]; dsimp only; omega
    | ⟨1, _⟩ => show Q.val = win0_9.index ⟨4 * (n.val / 16) + Q.val / 512, hN⟩ (1 : Fin 2) * 512 + 1 * (Q.val % 512); rw [h1]; dsimp only; omega
  · exact (out9_at _ _ _ _ _ _ _ _ _ (realB m c H _) ⟨n.val % 16, Nat.mod_lt _ (by decide)⟩ ⟨Q.val % 512, Nat.mod_lt _ (by decide)⟩).trans (res_blk m c ⟨4 * (n.val / 16) + Q.val / 512, hN⟩ n ⟨n.val % 16, Nat.mod_lt _ (by decide)⟩ (by dsimp only; omega) ⟨Q.val / 512, by omega⟩ (by dsimp only; omega) ⟨Q.val % 512, Nat.mod_lt _ (by decide)⟩)

theorem final10_at (H : RealE (m ((c : Thread nD τ).loc main_arg0)) (m ((c : Thread nD τ).loc main_arg2))) (n : Fin 128) (G : Fin 32) (p : Fin 64) (e : Fin 128) : ((dats m 0 c).arrAt 10 cfg0.N : FVec Ideal S128x32x64x128 .f32) (ix4 n G p e) = stE (m ((c : Thread nD τ).loc main_arg0)) (m ((c : Thread nD τ).loc main_arg2)) (m ((c : Thread nD τ).loc main_arg3)) (m ((c : Thread nD τ).loc main_arg4)) n ⟨G.val / 8, by omega⟩ ⟨G.val % 8, Nat.mod_lt _ (by decide)⟩ p e := by
  have hN : 4 * (n.val / 16) + G.val / 8 < cfg0.N := lt_of_lt_of_eq (by omega) (show cfg0.N = 32 from N_0).symm
  have hi : ∀ t : Fin cfg0.N, win0_10.index t (0 : Fin 4) = t.val / 4 ∧ win0_10.index t (1 : Fin 4) = t.val % 4 ∧ win0_10.index t (2 : Fin 4) = 0 ∧ win0_10.index t (3 : Fin 4) = 0 ∧ (cfg0.win 10).flush t = true :=
    (by decide +kernel : ∀ t : Fin grid0.N, _)
  obtain ⟨h0, h1, h2, h3, hfl⟩ := hi ⟨4 * (n.val / 16) + G.val / 8, hN⟩
  have hb := congrFun (Value.blocks10 m c ⟨4 * (n.val / 16) + G.val / 8, hN⟩ hfl) (ix4 ⟨n.val % 16, Nat.mod_lt _ (by decide)⟩ ⟨G.val % 8, Nat.mod_lt _ (by decide)⟩ p e)
  rw [View.read_apply, Value.flushed10, Pipeline.Window.cut_apply] at hb
  refine Eq.trans (congrArg ((dats m 0 c).arrAt 10 cfg0.N) ?_) (hb.trans ?_)
  · funext a
    apply Fin.ext
    match a with
    | ⟨0, _⟩ => show n.val = win0_10.index ⟨4 * (n.val / 16) + G.val / 8, hN⟩ (0 : Fin 4) * 16 + 1 * (n.val % 16); rw [h0]; dsimp only; omega
    | ⟨1, _⟩ => show G.val = win0_10.index ⟨4 * (n.val / 16) + G.val / 8, hN⟩ (1 : Fin 4) * 8 + 1 * (G.val % 8); rw [h1]; dsimp only; omega
    | ⟨2, _⟩ => show p.val = win0_10.index ⟨4 * (n.val / 16) + G.val / 8, hN⟩ (2 : Fin 4) * 64 + 1 * p.val; rw [h2]; omega
    | ⟨3, _⟩ => show e.val = win0_10.index ⟨4 * (n.val / 16) + G.val / 8, hN⟩ (3 : Fin 4) * 128 + 1 * e.val; rw [h3]; omega
  · exact (out10_at _ _ _ _ _ _ _ _ _ (realB m c H _) (ix4 ⟨n.val % 16, Nat.mod_lt _ (by decide)⟩ ⟨G.val % 8, Nat.mod_lt _ (by decide)⟩ p e)).trans (st_blk m c ⟨4 * (n.val / 16) + G.val / 8, hN⟩ n ⟨n.val % 16, Nat.mod_lt _ (by decide)⟩ (by dsimp only; omega) ⟨G.val / 8, by omega⟩ (by dsimp only; omega) ⟨G.val % 8, Nat.mod_lt _ (by decide)⟩ p e)

end Cert.SsdStep

end
-- ==== Proof.ClaimsSsdStep.lean ====
/- One step of the Mamba2 recurrence for each sample: the precondition read, the reference, and equal results over the extended reals. -/
module

public import proofs.«01_k».proof.Defs
public import proofs.«01_k».proof.Proof.Gen.Reference7Ideal.Run
public import proofs.«01_k».proof.Proof.SsdStep
public import proofs.«01_k».proof.Proof.ClaimsOdd
public import Idealize.ShloMosaic.Lib.Quiescent
public import Idealize.ShloMosaic.Lib.ReduceAll

@[expose] public section

set_option maxRecDepth 16384

noncomputable section

namespace Cert.SsdStep

open Idealize.ShloMosaic Idealize.ShloMosaic.TcCoe Idealize.ShloMosaic.Tactic Idealize.SL.Sem

instance preFacts : Cert.Pre_finite_steps.Facts where
  slices_S128x3072_S128x2560_0_0 := by decide
  bcast_S_S128x2560 := by decide
  reducesTo_S128x2560_S_d0_1 := by decide
  h_S_ := by decide
  bcast_S_S128x2048 := by decide
  reducesTo_S128x2048_S_d0_1 := by decide

instance : Subsingleton Cert.Pre_finite_steps.S_.Idx := ⟨fun _ _ => funext fun a => a.elim0⟩

/-- What the precondition says: the inputs, the input directions and the step sizes are real. -/
theorem real_of_pre [Cert.Pre_finite_steps.Facts] (x : FVec Ideal Cert.Kernel7Ideal.S128x3072 .f32) (z : FVec Ideal Cert.Kernel7Ideal.S128x5120 .f32) (d : FVec Ideal Cert.Kernel7Ideal.S128x2048 .f32)
    (a : FVec Ideal Cert.Kernel7Ideal.S32x128x128 .f32) (s : FVec Ideal Cert.Kernel7Ideal.S1x128x32x64x128 .f32) (k : FVec Ideal Cert.Kernel7Ideal.S1x32 .f32) (w : FVec Ideal Cert.Kernel7Ideal.S1x2048 .f32)
    (h : Cert.Pre_finite_steps.fn (F := Ideal) x z d a s k w = fun _ => 1#1) : RealE x d := by
  have h0 := congrFun h (Shape.Idx.first Cert.Pre_finite_steps.Facts.h_S_)
  dsimp only [Cert.Pre_finite_steps.fn] at h0
  obtain ⟨hx, hd⟩ := Cert.InOdd.and1 _ _ h0
  refine ⟨fun n j => ?_, fun i => Cert.InOdd.real_of_abs _ (Host.reduce_andi_all _ _ _ _ _ hd i)⟩
  obtain ⟨y, hy⟩ := Cert.InOdd.real_of_abs _ (Host.reduce_andi_all _ _ _ _ _ hx (ix2 n j))
  refine ⟨y, Eq.trans (congrArg x (funext fun a => Fin.ext ?_)) hy⟩
  match a with
  | ⟨0, _⟩ => exact (Nat.zero_add _).symm
  | ⟨1, _⟩ => exact (Nat.zero_add _).symm

section Reference
open Cert.Reference7Ideal Cert.Reference7Ideal.Gen

/-- The new state. -/
def S5 (x : FVec Ideal S128x3072 .f32) (d : FVec Ideal S128x2048 .f32) (a : FVec Ideal S32x128x128 .f32) (s : FVec Ideal S1x128x32x64x128 .f32) : FVec Ideal S128x4x8x64x128 .f32 :=
  addf (mulf (broadcastInDim S128x4x8x64x128 ![0, 1, 2, 3, 4] bcast_S128x4x8x1x128_S128x4x8x64x128_0_1_2_3_4 (shapeCast _ (transpose S128x32x128 [1, 0, 2] a transposes_S32x128x128_S128x32x128_1_0_2) shapeCasts_S128x32x128_S128x4x8x1x128)) (shapeCast _ (shapeCast S128x32x64x128 s shapeCasts_S1x128x32x64x128_S128x32x64x128) shapeCasts_S128x32x64x128_S128x4x8x64x128))
    (mulf (broadcastInDim S128x4x8x64x128 ![0, 1, 2, 3, 4] bcast_S128x4x8x64x1_S128x4x8x64x128_0_1_2_3_4 (broadcastInDim S128x4x8x64x1 ![0, 1, 2, 3] bcast_S128x4x8x64_S128x4x8x64x1_0_1_2_3 (shapeCast _ (mulf d (extractStridedSlice S128x2048 ![0, 0] x slices_S128x3072_S128x2048_0_0)) shapeCasts_S128x2048_S128x4x8x64))) (broadcastInDim S128x4x8x64x128 ![0, 1, 2, 3, 4] bcast_S128x4x1x1x128_S128x4x8x64x128_0_1_2_3_4 (shapeCast _ (extractStridedSlice S128x512 ![0, 2048] x slices_S128x3072_S128x512_0_2048) shapeCasts_S128x512_S128x4x1x1x128)))

/-- Its product with the output directions, and the skip. -/
def Y4 (x : FVec Ideal S128x3072 .f32) (k : FVec Ideal S1x32 .f32) (S : FVec Ideal S128x4x8x64x128 .f32) : FVec Ideal S128x4x8x64 .f32 :=
  addf (Host.reduceAdd (mulf (broadcastInDim S128x4x8x64x128 ![0, 1, 2, 3, 4] bcast_S128x4x1x1x128_S128x4x8x64x128_0_1_2_3_4 (shapeCast _ (extractStridedSlice S128x512 ![0, 2560] x slices_S128x3072_S128x512_0_2560) shapeCasts_S128x512_S128x4x1x1x128)) S) (constant (F := Ideal) S_ .f32 0x00000000#32) reducesTo_S128x4x8x64x128_S128x4x8x64_d4 h_S_)
    (mulf (broadcastInDim S128x4x8x64 ![0, 1, 2, 3] bcast_S1x4x8x1_S128x4x8x64_0_1_2_3 (broadcastInDim S1x4x8x1 ![1, 2, 3] bcast_S4x8x1_S1x4x8x1_1_2_3 (broadcastInDim S4x8x1 ![0, 1] bcast_S4x8_S4x8x1_0_1 (shapeCast _ (shapeCast S32 k shapeCasts_S1x32_S32) shapeCasts_S32_S4x8)))) (shapeCast _ (extractStridedSlice S128x2048 ![0, 0] x slices_S128x3072_S128x2048_0_0) shapeCasts_S128x2048_S128x4x8x64))

/-- The gate, and the norm. -/
def Gt (y : FVec Ideal S128x4x8x64 .f32) (z : FVec Ideal S128x5120 .f32) : FVec Ideal S128x4x512 .f32 :=
  shapeCast _ (mulf (shapeCast S128x2048 y shapeCasts_S128x4x8x64_S128x2048) (mulf (extractStridedSlice S128x2048 ![0, 0] z slices_S128x5120_S128x2048_0_0) (Host.divf (broadcastInDim S128x2048 ![] bcast_S_S128x2048 (constant (F := Ideal) S_ .f32 0x3F800000#32)) (addf (broadcastInDim S128x2048 ![] bcast_S_S128x2048 (constant (F := Ideal) S_ .f32 0x3F800000#32)) (Host.exp (Host.negf (extractStridedSlice S128x2048 ![0, 0] z slices_S128x5120_S128x2048_0_0))))))) shapeCasts_S128x2048_S128x4x512
def Nm (y : FVec Ideal S128x4x512 .f32) (w : FVec Ideal S1x2048 .f32) : FVec Ideal S128x2048 .f32 :=
  shapeCast _ (mulf (mulf y (broadcastInDim S128x4x512 ![0, 1, 2] bcast_S128x4x1_S128x4x512_0_1_2 (Host.rsqrt (addf (Host.divf (broadcastInDim S128x4x1 ![0, 1] bcast_S128x4_S128x4x1_0_1 (Host.reduceAdd (mulf y y) (constant (F := Ideal) S_ .f32 0x00000000#32) reducesTo_S128x4x512_S128x4_d2 h_S_)) (broadcastInDim S128x4x1 ![] bcast_S_S128x4x1 (constant (F := Ideal) S_ .f32 0x44000000#32))) (broadcastInDim S128x4x1 ![] bcast_S_S128x4x1 (constant (F := Ideal) S_ .f32 0x358637BD#32)))))) (broadcastInDim S128x4x512 ![0, 1, 2] bcast_S1x4x512_S128x4x512_0_1_2 (broadcastInDim S1x4x512 ![1, 2] bcast_S4x512_S1x4x512_1_2 (shapeCast _ (shapeCast S2048 w shapeCasts_S1x2048_S2048) shapeCasts_S2048_S4x512)))) shapeCasts_S128x4x512_S128x2048

theorem s5_at (x : FVec Ideal S128x3072 .f32) (d : FVec Ideal S128x2048 .f32) (a : FVec Ideal S32x128x128 .f32) (s : FVec Ideal S1x128x32x64x128 .f32) (n : Fin 128) (g : Fin 4) (h : Fin 8) (p : Fin 64) (e : Fin 128) : (S5 x d a s (ix5 n g h p e) : EReal) = stE x d a s n g h p e := by
  unfold S5 stE
  pointwise
  simp only [Nat.mul_comm g.val 8, Nat.mul_comm g.val 128, Nat.mul_comm g.val 512, Nat.mul_comm h.val 64, Nat.add_assoc]
  rw [mul_comm (d _)]

theorem y4_at (x : FVec Ideal S128x3072 .f32) (k : FVec Ideal S1x32 .f32) (S : FVec Ideal S128x4x8x64x128 .f32) (n : Fin 128) (g : Fin 4) (h : Fin 8) (p : Fin 64) :
    (Y4 x k S (ix4 n g h p) : EReal) = ∑ e : Fin 128, x (ix2 n ⟨2560 + 128 * g.val + e.val, by omega⟩) * S (ix5 n g h p e) + k (ix2 0 ⟨8 * g.val + h.val, by omega⟩) * x (ix2 n ⟨512 * g.val + (64 * h.val + p.val), by omega⟩) := by
  unfold Y4
  pointwise
  simp only [Nat.mul_comm g.val 8, Nat.mul_comm g.val 128, Nat.mul_comm g.val 512, Nat.mul_comm h.val 64, Nat.add_assoc]

theorem gt_at (y : FVec Ideal S128x4x8x64 .f32) (z : FVec Ideal S128x5120 .f32) (n : Fin 128) (g : Fin 4) (q : Fin 512) :
    (Gt y z (ix3 n g q) : EReal) = y (ix4 n g ⟨q.val / 64, by omega⟩ ⟨q.val % 64, Nat.mod_lt _ (by decide)⟩) * (z (ix2 n ⟨512 * g.val + q.val, by omega⟩) * Ideal.logistic (z (ix2 n ⟨512 * g.val + q.val, by omega⟩))) := by
  unfold Gt Ideal.logistic
  pointwise
  simp only [Nat.mul_comm g.val 512]
  have ea : (⟨(512 * g.val + q.val) / 64 % 8, Nat.mod_lt _ (by decide)⟩ : Fin 8) = ⟨q.val / 64, by omega⟩ := Fin.ext (by dsimp only; omega)
  have eb : (⟨(512 * g.val + q.val) % 64, Nat.mod_lt _ (by decide)⟩ : Fin 64) = ⟨q.val % 64, Nat.mod_lt _ (by decide)⟩ := Fin.ext (by dsimp only; omega)
  rw [ea, eb]

theorem nm_at (y : FVec Ideal S128x4x512 .f32) (w : FVec Ideal S1x2048 .f32) (n : Fin 128) (Q : Fin 2048) :
    (Nm y w (ix2 n Q) : EReal) = nrm (fun k => y (ix3 n ⟨Q.val / 512, by omega⟩ k)) (w (ix2 0 Q)) ⟨Q.val % 512, Nat.mod_lt _ (by decide)⟩ := by
  unfold Nm nrm
  pointwise

theorem o_at (x : FVec Ideal S128x3072 .f32) (z : FVec Ideal S128x5120 .f32) (d : FVec Ideal S128x2048 .f32) (a : FVec Ideal S32x128x128 .f32) (s : FVec Ideal S1x128x32x64x128 .f32) (k : FVec Ideal S1x32 .f32) (w : FVec Ideal S1x2048 .f32) (n : Fin 128) (Q : Fin 2048) :
    (Nm (Gt (Y4 x k (S5 x d a s)) z) w (ix2 n Q) : EReal) = resE x z d a s k w n ⟨Q.val / 512, by omega⟩ ⟨Q.val % 512, Nat.mod_lt _ (by decide)⟩ := by
  rw [nm_at]
  unfold resE
  have e1 : (⟨512 * (Q.val / 512) + Q.val % 512, by omega⟩ : Fin 2048) = Q := Fin.ext (by dsimp only; omega)
  dsimp only
  rw [e1]
  refine congrArg (fun y => nrm y _ _) (funext fun q => ?_)
  rw [gt_at, y4_at]
  unfold yE gat
  simp only [s5_at]
  have e2 : (⟨8 * (Q.val / 512) + q.val / 64, by omega⟩ : Fin 32) = ⟨(512 * (Q.val / 512) + q.val) / 64, by omega⟩ := Fin.ext (by dsimp only; omega)
  have e3 : (⟨512 * (Q.val / 512) + (64 * (q.val / 64) + q.val % 64), by omega⟩ : Fin 3072) = ⟨512 * (Q.val / 512) + q.val, by omega⟩ := Fin.ext (by dsimp only; omega)
  rw [e2, e3]

section
variable (m : (ℓ : Loc nD τ sig) → Buf (Elt Ideal) ℓ) (c : Dev nD)
variable (x : FVec Ideal S128x3072 .f32) (z : FVec Ideal S128x5120 .f32) (d : FVec Ideal S128x2048 .f32) (a : FVec Ideal S32x128x128 .f32) (s : FVec Ideal S1x128x32x64x128 .f32) (k : FVec Ideal S1x32 .f32) (w : FVec Ideal S1x2048 .f32)
  (e0 : m ((c : Thread nD τ).loc main_arg0) = x) (e1 : m ((c : Thread nD τ).loc main_arg1) = z) (e2 : m ((c : Thread nD τ).loc main_arg2) = d) (e3 : m ((c : Thread nD τ).loc main_arg3) = a)
  (e4 : m ((c : Thread nD τ).loc main_arg4) = s) (e5 : m ((c : Thread nD τ).loc main_arg5) = k) (e6 : m ((c : Thread nD τ).loc main_arg6) = w)
include e0 e1 e2 e3 e4 e5 e6

theorem o_eq : Value.res_main_v55 m c = Nm (Gt (Y4 x k (S5 x d a s)) z) w := by
  unfold Value.res_main_v55
  rw [e0, e1, e2, e3, e4, e5, e6]
  rfl
end
theorem st_at (x : FVec Ideal S128x3072 .f32) (d : FVec Ideal S128x2048 .f32) (a : FVec Ideal S32x128x128 .f32) (s : FVec Ideal S1x128x32x64x128 .f32) (n : Fin 128) (G : Fin 32) (p : Fin 64) (e : Fin 128) :
    (shapeCast S128x32x64x128 (S5 x d a s) shapeCasts_S128x4x8x64x128_S128x32x64x128 (ix4 n G p e) : EReal) = stE x d a s n ⟨G.val / 8, by omega⟩ ⟨G.val % 8, Nat.mod_lt _ (by decide)⟩ p e := by
  rw [← s5_at]
  pointwise
end Reference

theorem run_ref : Cert.quiescent_Reference7Ideal (hReference7Ideal := Cert.Reference7Ideal.Gen.facts) := fun m g _ =>
  (θ_run Cert.Reference7Ideal.defs _ _).mono (fun r h => ⟨fun c => (h c).2.2, sem_eq_zero_of_no_sems (by decide) r.2⟩) (Cert.Reference7Ideal.Value.run m g)

theorem algebraic : Cert.algebraic_Kernel7Ideal_Reference7Ideal_pre_finite_steps (hKernel7Ideal := Cert.Kernel7Ideal.Gen.facts) (hReference7Ideal := Cert.Reference7Ideal.Gen.facts)
    (hPre_finite_steps := preFacts) := by
  intro m g m' g' hpre hagree
  refine ⟨fun c => (Cert.Kernel7Ideal.Gen.dats m 0 c).arrAt 9 Cert.Kernel7Ideal.cfg0.N, fun c => (Cert.Kernel7Ideal.Gen.dats m 0 c).arrAt 10 Cert.Kernel7Ideal.cfg0.N,
    Cert.Kernel7Ideal.Value.run_blocks (F := Ideal) m g, ?_⟩
  refine (θ_run _ _ _).mono (fun r h c => ⟨(h c).1.trans ?_, (h c).2.1.trans ?_, (h c).2.2⟩) (Cert.Reference7Ideal.Value.run m' g')
  all_goals
    obtain ⟨e0, e1, e2, e3, e4, e5, e6⟩ := hagree c
    have H := real_of_pre _ _ _ _ _ _ _ (hpre c)
  · rw [o_eq m' c _ _ _ _ _ _ _ e0 e1 e2 e3 e4 e5 e6]
    funext y
    rw [eq_ix2 y]
    exact (o_at _ _ _ _ _ _ _ (y 0) (y 1)).trans (final9_at m c H (y 0) (y 1)).symm
  · rw [e0, e2, e3, e4]
    funext y
    rw [eq_ix4 y]
    exact (st_at _ _ _ _ (y 0) (y 1) (y 2) (y 3)).trans (final10_at m c H (y 0) (y 1) (y 2) (y 3)).symm

end Cert.SsdStep

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Claims
public import proofs.«01_k».proof.Proof.ClaimsPost
public import proofs.«01_k».proof.Proof.ClaimsEven
public import proofs.«01_k».proof.Proof.ClaimsOdd
public import proofs.«01_k».proof.Proof.ClaimsFinal
public import proofs.«01_k».proof.Proof.ClaimsConv
public import proofs.«01_k».proof.Proof.Cond
public import proofs.«01_k».proof.Proof.ClaimsEvenStep
public import proofs.«01_k».proof.Proof.ClaimsSsdStep

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Gla.preFacts, Cert.InOdd.preFacts, Cert.SsdStep.preFacts, Cert.EvenStep.preFacts,
  fun m ρ _ => Cert.Kernel.Gen.frame m ρ,
  fun m ρ _ => Cert.KernelIdeal.Gen.frame m ρ,
  fun m ρ _ => Cert.KernelIdeal.Gen.frame m ρ,
  fun m ρ _ => Cert.Gla.run_ref m ρ,
  fun m ρ _ => Cert.Gla.run_ref m ρ,
  fun m ρ _ => Cert.Kernel2.Gen.frame m ρ,
  fun m ρ _ => Cert.Kernel2Ideal.Gen.frame m ρ,
  Cert.Post.run_ref,
  fun m ρ _ => Cert.Kernel3.Gen.frame m ρ,
  fun m ρ _ => Cert.Kernel3Ideal.Gen.frame m ρ,
  Cert.InEven.run_ref,
  fun m ρ _ => Cert.Kernel4.Gen.frame m ρ,
  fun m ρ _ => Cert.Kernel4Ideal.Gen.frame m ρ,
  fun m ρ _ => Cert.Kernel4Ideal.Gen.frame m ρ,
  Cert.InOdd.run_ref,
  fun m ρ _ => Cert.InOdd.run_ref m ρ trivial,
  fun m ρ _ => Cert.Kernel5.Gen.frame m ρ,
  fun m ρ _ => Cert.Kernel5Ideal.Gen.frame m ρ,
  Cert.Fin.run_ref,
  fun m ρ _ => Cert.Kernel6.Gen.frame m ρ,
  fun m ρ _ => Cert.Kernel6Ideal.Gen.frame m ρ,
  Cert.Conv1.run_ref,
  fun m ρ _ => Cert.Kernel7.Gen.frame m ρ,
  fun m ρ _ => Cert.Kernel7Ideal.Gen.frame m ρ,
  fun m ρ _ => Cert.Kernel7Ideal.Gen.frame m ρ,
  Cert.SsdStep.run_ref,
  fun m ρ _ => Cert.SsdStep.run_ref m ρ trivial,
  fun m ρ _ => Cert.Kernel8.Gen.frame m ρ,
  fun m ρ _ => Cert.Kernel8Ideal.Gen.frame m ρ,
  fun m ρ _ => Cert.Kernel8Ideal.Gen.frame m ρ,
  Cert.EvenStep.run_ref,
  fun m ρ _ => Cert.EvenStep.run_ref m ρ trivial,
  fun m ρ _ => Cert.Kernel9.Gen.frame m ρ,
  fun m ρ _ => Cert.Kernel9Ideal.Gen.frame m ρ,
  Cert.Cond.run_ref,
  trivial,
  Cert.Gla.algebraic,
  trivial,
  Cert.Post.algebraic,
  trivial,
  Cert.InEven.algebraic,
  trivial,
  Cert.InOdd.algebraic,
  trivial,
  Cert.Fin.algebraic,
  trivial,
  Cert.Conv1.algebraic,
  trivial,
  Cert.SsdStep.algebraic,
  trivial,
  Cert.EvenStep.algebraic,
  trivial,
  Cert.Cond.algebraic⟩

end Cert.Proof

end
